-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionRefIdeal (m : (ℓ : Loc Cert.AttentionRefIdeal.nD Cert.AttentionRefIdeal.τ Cert.AttentionRefIdeal.sig) → Buf (Elt Ideal) ℓ) : Prop :=
  True

def Pre_DownDgrad (m : (ℓ : Loc Cert.DownDgrad.nD Cert.DownDgrad.τ Cert.DownDgrad.sig) → Buf (Elt Bits) ℓ) : Prop :=
  True

def Pre_DownDgradIdeal (m : (ℓ : Loc Cert.DownDgradIdeal.nD Cert.DownDgradIdeal.τ Cert.DownDgradIdeal.sig) → Buf (Elt Ideal) ℓ) : Prop :=
  True

def Pre_DownDgradRefIdeal (m : (ℓ : Loc Cert.DownDgradRefIdeal.nD Cert.DownDgradRefIdeal.τ Cert.DownDgradRefIdeal.sig) → Buf (Elt Ideal) ℓ) : Prop :=
  True

def Pre_DownWgrad (m : (ℓ : Loc Cert.DownWgrad.nD Cert.DownWgrad.τ Cert.DownWgrad.sig) → Buf (Elt Bits) ℓ) : Prop :=
  True

def Pre_DownWgradIdeal (m : (ℓ : Loc Cert.DownWgradIdeal.nD Cert.DownWgradIdeal.τ Cert.DownWgradIdeal.sig) → Buf (Elt Ideal) ℓ) : Prop :=
  True

def Pre_DownWgradRefIdeal (m : (ℓ : Loc Cert.DownWgradRefIdeal.nD Cert.DownWgradRefIdeal.τ Cert.DownWgradRefIdeal.sig) → Buf (Elt Ideal) ℓ) : Prop :=
  True

def Pre_UpDgrad (m : (ℓ : Loc Cert.UpDgrad.nD Cert.UpDgrad.τ Cert.UpDgrad.sig) → Buf (Elt Bits) ℓ) : Prop :=
  True

def Pre_UpDgradIdeal (m : (ℓ : Loc Cert.UpDgradIdeal.nD Cert.UpDgradIdeal.τ Cert.UpDgradIdeal.sig) → Buf (Elt Ideal) ℓ) : Prop :=
  True

def Pre_UpDgradRefIdeal (m : (ℓ : Loc Cert.UpDgradRefIdeal.nD Cert.UpDgradRefIdeal.τ Cert.UpDgradRefIdeal.sig) → Buf (Elt Ideal) ℓ) : Prop :=
  True

def Pre_UpWgrad (m : (ℓ : Loc Cert.UpWgrad.nD Cert.UpWgrad.τ Cert.UpWgrad.sig) → Buf (Elt Bits) ℓ) : Prop :=
  True

def Pre_UpWgradIdeal (m : (ℓ : Loc Cert.UpWgradIdeal.nD Cert.UpWgradIdeal.τ Cert.UpWgradIdeal.sig) → Buf (Elt Ideal) ℓ) : Prop :=
  True

def Pre_UpWgradRefIdeal (m : (ℓ : Loc Cert.UpWgradRefIdeal.nD Cert.UpWgradRefIdeal.τ Cert.UpWgradRefIdeal.sig) → Buf (Elt Ideal) ℓ) : Prop :=
  True

def Pre_OutDgrad (m : (ℓ : Loc Cert.OutDgrad.nD Cert.OutDgrad.τ Cert.OutDgrad.sig) → Buf (Elt Bits) ℓ) : Prop :=
  True

def Pre_OutDgradIdeal (m : (ℓ : Loc Cert.OutDgradIdeal.nD Cert.OutDgradIdeal.τ Cert.OutDgradIdeal.sig) → Buf (Elt Ideal) ℓ) : Prop :=
  True

def Pre_OutDgradRefIdeal (m : (ℓ : Loc Cert.OutDgradRefIdeal.nD Cert.OutDgradRefIdeal.τ Cert.OutDgradRefIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWgradRefIdeal (m : (ℓ : Loc Cert.OutWgradRefIdeal.nD Cert.OutWgradRefIdeal.τ Cert.OutWgradRefIdeal.sig) → Buf (Elt Ideal) ℓ) : Prop :=
  True

def Pre_InWgrad (m : (ℓ : Loc Cert.InWgrad.nD Cert.InWgrad.τ Cert.InWgrad.sig) → Buf (Elt Bits) ℓ) : Prop :=
  True

def Pre_InWgradIdeal (m : (ℓ : Loc Cert.InWgradIdeal.nD Cert.InWgradIdeal.τ Cert.InWgradIdeal.sig) → Buf (Elt Ideal) ℓ) : Prop :=
  True

def Pre_InWgradRefIdeal (m : (ℓ : Loc Cert.InWgradRefIdeal.nD Cert.InWgradRefIdeal.τ Cert.InWgradRefIdeal.sig) → Buf (Elt Ideal) ℓ) : Prop :=
  True

def Pre_InDgrad (m : (ℓ : Loc Cert.InDgrad.nD Cert.InDgrad.τ Cert.InDgrad.sig) → Buf (Elt Bits) ℓ) : Prop :=
  True

def Pre_InDgradIdeal (m : (ℓ : Loc Cert.InDgradIdeal.nD Cert.InDgradIdeal.τ Cert.InDgradIdeal.sig) → Buf (Elt Ideal) ℓ) : Prop :=
  True

def Pre_InDgradRefIdeal (m : (ℓ : Loc Cert.InDgradRefIdeal.nD Cert.InDgradRefIdeal.τ Cert.InDgradRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_InRkv (m : (ℓ : Loc Cert.InRkv.nD Cert.InRkv.τ Cert.InRkv.sig) → Buf (Elt Bits) ℓ) : Prop :=
  True

def Pre_InRkvIdeal (m : (ℓ : Loc Cert.InRkvIdeal.nD Cert.InRkvIdeal.τ Cert.InRkvIdeal.sig) → Buf (Elt Ideal) ℓ) : Prop :=
  True

def Pre_InRkvRefIdeal (m : (ℓ : Loc Cert.InRkvRefIdeal.nD Cert.InRkvRefIdeal.τ Cert.InRkvRefIdeal.sig) → Buf (Elt Ideal) ℓ) : Prop :=
  True

def Pre_InLora (m : (ℓ : Loc Cert.InLora.nD Cert.InLora.τ Cert.InLora.sig) → Buf (Elt Bits) ℓ) : Prop :=
  True

def Pre_InLoraIdeal (m : (ℓ : Loc Cert.InLoraIdeal.nD Cert.InLoraIdeal.τ Cert.InLoraIdeal.sig) → Buf (Elt Ideal) ℓ) : Prop :=
  True

def Pre_InLoraRefIdeal (m : (ℓ : Loc Cert.InLoraRefIdeal.nD Cert.InLoraRefIdeal.τ Cert.InLoraRefIdeal.sig) → Buf (Elt Ideal) ℓ) : Prop :=
  True

def Pre_InQ (m : (ℓ : Loc Cert.InQ.nD Cert.InQ.τ Cert.InQ.sig) → Buf (Elt Bits) ℓ) : Prop :=
  True

def Pre_InQIdeal (m : (ℓ : Loc Cert.InQIdeal.nD Cert.InQIdeal.τ Cert.InQIdeal.sig) → Buf (Elt Ideal) ℓ) : Prop :=
  True

def Pre_InQRefIdeal (m : (ℓ : Loc Cert.InQRefIdeal.nD Cert.InQRefIdeal.τ Cert.InQRefIdeal.sig) → Buf (Elt Ideal) ℓ) : Prop :=
  True

def Pre_InKv (m : (ℓ : Loc Cert.InKv.nD Cert.InKv.τ Cert.InKv.sig) → Buf (Elt Bits) ℓ) : Prop :=
  True

def Pre_InKvIdeal (m : (ℓ : Loc Cert.InKvIdeal.nD Cert.InKvIdeal.τ Cert.InKvIdeal.sig) → Buf (Elt Ideal) ℓ) : Prop :=
  True

def Pre_InKvRefIdeal (m : (ℓ : Loc Cert.InKvRefIdeal.nD Cert.InKvRefIdeal.τ Cert.InKvRefIdeal.sig) → Buf (Elt Ideal) ℓ) : Prop :=
  True

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedRefIdeal (m : (ℓ : Loc Cert.EmbedRefIdeal.nD Cert.EmbedRefIdeal.τ Cert.EmbedRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3)
      ∧ r.2.mem ((c.tc : Thread Cert.AttentionRefIdeal.nD Cert.AttentionRefIdeal.τ).loc Cert.AttentionRefIdeal.main_arg4) = m ((c.tc : Thread Cert.AttentionRefIdeal.nD Cert.AttentionRefIdeal.τ).loc Cert.AttentionRefIdeal.main_arg4))
      ∧ r.2.sem = fun _ => 0)

def quiescent_DownDgrad [hDownDgrad : Cert.DownDgrad.Facts] : Prop :=
  ∀ (m : (ℓ : Loc Cert.DownDgrad.nD Cert.DownDgrad.τ Cert.DownDgrad.sig) → Buf (Elt Bits) ℓ) (g : Dev Cert.DownDgrad.nD → PrngReg), Pre_DownDgrad m →
    θ_run (Cert.DownDgrad.defs (F := Bits)) (onTc (τ := Cert.DownDgrad.τ) (Cert.DownDgrad.main (F := Bits))) ⟨m, fun _ => 0, g⟩ (fun r => (∀ c : Dev Cert.DownDgrad.nD,
      r.2.mem ((c.tc : Thread Cert.DownDgrad.nD Cert.DownDgrad.τ).loc Cert.DownDgrad.main_arg0) = m ((c.tc : Thread Cert.DownDgrad.nD Cert.DownDgrad.τ).loc Cert.DownDgrad.main_arg0)
      ∧ r.2.mem ((c.tc : Thread Cert.DownDgrad.nD Cert.DownDgrad.τ).loc Cert.DownDgrad.main_arg1) = m ((c.tc : Thread Cert.DownDgrad.nD Cert.DownDgrad.τ).loc Cert.DownDgrad.main_arg1)
      ∧ r.2.mem ((c.tc : Thread Cert.DownDgrad.nD Cert.DownDgrad.τ).loc Cert.DownDgrad.main_arg2) = m ((c.tc : Thread Cert.DownDgrad.nD Cert.DownDgrad.τ).loc Cert.DownDgrad.main_arg2))
      ∧ r.2.sem = fun _ => 0)

def quiescent_DownDgradIdeal [hDownDgradIdeal : Cert.DownDgradIdeal.Facts] : Prop :=
  ∀ (m : (ℓ : Loc Cert.DownDgradIdeal.nD Cert.DownDgradIdeal.τ Cert.DownDgradIdeal.sig) → Buf (Elt Ideal) ℓ) (g : Dev Cert.DownDgradIdeal.nD → PrngReg), Pre_DownDgradIdeal m →
    θ_run (Cert.DownDgradIdeal.defs (F := Ideal)) (onTc (τ := Cert.DownDgradIdeal.τ) (Cert.DownDgradIdeal.main (F := Ideal))) ⟨m, fun _ => 0, g⟩ (fun r => (∀ c : Dev Cert.DownDgradIdeal.nD,
      r.2.mem ((c.tc : Thread Cert.DownDgradIdeal.nD Cert.DownDgradIdeal.τ).loc Cert.DownDgradIdeal.main_arg0) = m ((c.tc : Thread Cert.DownDgradIdeal.nD Cert.DownDgradIdeal.τ).loc Cert.DownDgradIdeal.main_arg0)
      ∧ r.2.mem ((c.tc : Thread Cert.DownDgradIdeal.nD Cert.DownDgradIdeal.τ).loc Cert.DownDgradIdeal.main_arg1) = m ((c.tc : Thread Cert.DownDgradIdeal.nD Cert.DownDgradIdeal.τ).loc Cert.DownDgradIdeal.main_arg1)
      ∧ r.2.mem ((c.tc : Thread Cert.DownDgradIdeal.nD Cert.DownDgradIdeal.τ).loc Cert.DownDgradIdeal.main_arg2) = m ((c.tc : Thread Cert.DownDgradIdeal.nD Cert.DownDgradIdeal.τ).loc Cert.DownDgradIdeal.main_arg2))
      ∧ r.2.sem = fun _ => 0)

def quiescent_DownDgradRefIdeal [hDownDgradRefIdeal : Cert.DownDgradRefIdeal.Facts] : Prop :=
  ∀ (m : (ℓ : Loc Cert.DownDgradRefIdeal.nD Cert.DownDgradRefIdeal.τ Cert.DownDgradRefIdeal.sig) → Buf (Elt Ideal) ℓ) (g : Dev Cert.DownDgradRefIdeal.nD → PrngReg), Pre_DownDgradRefIdeal m →
    θ_run (Cert.DownDgradRefIdeal.defs (F := Ideal)) (onTc (τ := Cert.DownDgradRefIdeal.τ) (Cert.DownDgradRefIdeal.main (F := Ideal))) ⟨m, fun _ => 0, g⟩ (fun r => (∀ c : Dev Cert.DownDgradRefIdeal.nD,
      r.2.mem ((c.tc : Thread Cert.DownDgradRefIdeal.nD Cert.DownDgradRefIdeal.τ).loc Cert.DownDgradRefIdeal.main_arg0) = m ((c.tc : Thread Cert.DownDgradRefIdeal.nD Cert.DownDgradRefIdeal.τ).loc Cert.DownDgradRefIdeal.main_arg0)
      ∧ r.2.mem ((c.tc : Thread Cert.DownDgradRefIdeal.nD Cert.DownDgradRefIdeal.τ).loc Cert.DownDgradRefIdeal.main_arg1) = m ((c.tc : Thread Cert.DownDgradRefIdeal.nD Cert.DownDgradRefIdeal.τ).loc Cert.DownDgradRefIdeal.main_arg1)
      ∧ r.2.mem ((c.tc : Thread Cert.DownDgradRefIdeal.nD Cert.DownDgradRefIdeal.τ).loc Cert.DownDgradRefIdeal.main_arg2) = m ((c.tc : Thread Cert.DownDgradRefIdeal.nD Cert.DownDgradRefIdeal.τ).loc Cert.DownDgradRefIdeal.main_arg2))
      ∧ r.2.sem = fun _ => 0)

def quiescent_DownWgrad [hDownWgrad : Cert.DownWgrad.Facts] : Prop :=
  ∀ (m : (ℓ : Loc Cert.DownWgrad.nD Cert.DownWgrad.τ Cert.DownWgrad.sig) → Buf (Elt Bits) ℓ) (g : Dev Cert.DownWgrad.nD → PrngReg), Pre_DownWgrad m →
    θ_run (Cert.DownWgrad.defs (F := Bits)) (onTc (τ := Cert.DownWgrad.τ) (Cert.DownWgrad.main (F := Bits))) ⟨m, fun _ => 0, g⟩ (fun r => (∀ c : Dev Cert.DownWgrad.nD,
      r.2.mem ((c.tc : Thread Cert.DownWgrad.nD Cert.DownWgrad.τ).loc Cert.DownWgrad.main_arg0) = m ((c.tc : Thread Cert.DownWgrad.nD Cert.DownWgrad.τ).loc Cert.DownWgrad.main_arg0)
      ∧ r.2.mem ((c.tc : Thread Cert.DownWgrad.nD Cert.DownWgrad.τ).loc Cert.DownWgrad.main_arg1) = m ((c.tc : Thread Cert.DownWgrad.nD Cert.DownWgrad.τ).loc Cert.DownWgrad.main_arg1))
      ∧ r.2.sem = fun _ => 0)

def quiescent_DownWgradIdeal [hDownWgradIdeal : Cert.DownWgradIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg), Pre_DownWgradIdeal m →
    θ_run (Cert.DownWgradIdeal.defs (F := Ideal)) (onTc (τ := Cert.DownWgradIdeal.τ) (Cert.DownWgradIdeal.main (F := Ideal))) ⟨m, fun _ => 0, g⟩ (fun r => (∀ c : Dev Cert.DownWgradIdeal.nD,
      r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
      ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ r.2.sem = fun _ => 0)

def quiescent_DownWgradRefIdeal [hDownWgradRefIdeal : Cert.DownWgradRefIdeal.Facts] : Prop :=
  ∀ (m : (ℓ : Loc Cert.DownWgradRefIdeal.nD Cert.DownWgradRefIdeal.τ Cert.DownWgradRefIdeal.sig) → Buf (Elt Ideal) ℓ) (g : Dev Cert.DownWgradRefIdeal.nD → PrngReg), Pre_DownWgradRefIdeal m →
    θ_run (Cert.DownWgradRefIdeal.defs (F := Ideal)) (onTc (τ := Cert.DownWgradRefIdeal.τ) (Cert.DownWgradRefIdeal.main (F := Ideal))) ⟨m, fun _ => 0, g⟩ (fun r => (∀ c : Dev Cert.DownWgradRefIdeal.nD,
      r.2.mem ((c.tc : Thread Cert.DownWgradRefIdeal.nD Cert.DownWgradRefIdeal.τ).loc Cert.DownWgradRefIdeal.main_arg0) = m ((c.tc : Thread Cert.DownWgradRefIdeal.nD Cert.DownWgradRefIdeal.τ).loc Cert.DownWgradRefIdeal.main_arg0)
      ∧ r.2.mem ((c.tc : Thread Cert.DownWgradRefIdeal.nD Cert.DownWgradRefIdeal.τ).loc Cert.DownWgradRefIdeal.main_arg1) = m ((c.tc : Thread Cert.DownWgradRefIdeal.nD Cert.DownWgradRefIdeal.τ).loc Cert.DownWgradRefIdeal.main_arg1))
      ∧ r.2.sem = fun _ => 0)

def quiescent_UpDgrad [hUpDgrad : Cert.UpDgrad.Facts] : Prop :=
  ∀ (m : (ℓ : Loc Cert.UpDgrad.nD Cert.UpDgrad.τ Cert.UpDgrad.sig) → Buf (Elt Bits) ℓ) (g : Dev Cert.UpDgrad.nD → PrngReg), Pre_UpDgrad m →
    θ_run (Cert.UpDgrad.defs (F := Bits)) (onTc (τ := Cert.UpDgrad.τ) (Cert.UpDgrad.main (F := Bits))) ⟨m, fun _ => 0, g⟩ (fun r => (∀ c : Dev Cert.UpDgrad.nD,
      r.2.mem ((c.tc : Thread Cert.UpDgrad.nD Cert.UpDgrad.τ).loc Cert.UpDgrad.main_arg0) = m ((c.tc : Thread Cert.UpDgrad.nD Cert.UpDgrad.τ).loc Cert.UpDgrad.main_arg0)
      ∧ r.2.mem ((c.tc : Thread Cert.UpDgrad.nD Cert.UpDgrad.τ).loc Cert.UpDgrad.main_arg1) = m ((c.tc : Thread Cert.UpDgrad.nD Cert.UpDgrad.τ).loc Cert.UpDgrad.main_arg1))
      ∧ r.2.sem = fun _ => 0)

def quiescent_UpDgradIdeal [hUpDgradIdeal : Cert.UpDgradIdeal.Facts] : Prop :=
  ∀ (m : (ℓ : Loc Cert.UpDgradIdeal.nD Cert.UpDgradIdeal.τ Cert.UpDgradIdeal.sig) → Buf (Elt Ideal) ℓ) (g : Dev Cert.UpDgradIdeal.nD → PrngReg), Pre_UpDgradIdeal m →
    θ_run (Cert.UpDgradIdeal.defs (F := Ideal)) (onTc (τ := Cert.UpDgradIdeal.τ) (Cert.UpDgradIdeal.main (F := Ideal))) ⟨m, fun _ => 0, g⟩ (fun r => (∀ c : Dev Cert.UpDgradIdeal.nD,
      r.2.mem ((c.tc : Thread Cert.UpDgradIdeal.nD Cert.UpDgradIdeal.τ).loc Cert.UpDgradIdeal.main_arg0) = m ((c.tc : Thread Cert.UpDgradIdeal.nD Cert.UpDgradIdeal.τ).loc Cert.UpDgradIdeal.main_arg0)
      ∧ r.2.mem ((c.tc : Thread Cert.UpDgradIdeal.nD Cert.UpDgradIdeal.τ).loc Cert.UpDgradIdeal.main_arg1) = m ((c.tc : Thread Cert.UpDgradIdeal.nD Cert.UpDgradIdeal.τ).loc Cert.UpDgradIdeal.main_arg1))
      ∧ r.2.sem = fun _ => 0)

def quiescent_UpDgradRefIdeal [hUpDgradRefIdeal : Cert.UpDgradRefIdeal.Facts] : Prop :=
  ∀ (m : (ℓ : Loc Cert.UpDgradRefIdeal.nD Cert.UpDgradRefIdeal.τ Cert.UpDgradRefIdeal.sig) → Buf (Elt Ideal) ℓ) (g : Dev Cert.UpDgradRefIdeal.nD → PrngReg), Pre_UpDgradRefIdeal m →
    θ_run (Cert.UpDgradRefIdeal.defs (F := Ideal)) (onTc (τ := Cert.UpDgradRefIdeal.τ) (Cert.UpDgradRefIdeal.main (F := Ideal))) ⟨m, fun _ => 0, g⟩ (fun r => (∀ c : Dev Cert.UpDgradRefIdeal.nD,
      r.2.mem ((c.tc : Thread Cert.UpDgradRefIdeal.nD Cert.UpDgradRefIdeal.τ).loc Cert.UpDgradRefIdeal.main_arg0) = m ((c.tc : Thread Cert.UpDgradRefIdeal.nD Cert.UpDgradRefIdeal.τ).loc Cert.UpDgradRefIdeal.main_arg0)
      ∧ r.2.mem ((c.tc : Thread Cert.UpDgradRefIdeal.nD Cert.UpDgradRefIdeal.τ).loc Cert.UpDgradRefIdeal.main_arg1) = m ((c.tc : Thread Cert.UpDgradRefIdeal.nD Cert.UpDgradRefIdeal.τ).loc Cert.UpDgradRefIdeal.main_arg1))
      ∧ r.2.sem = fun _ => 0)

def quiescent_UpWgrad [hUpWgrad : Cert.UpWgrad.Facts] : Prop :=
  ∀ (m : (ℓ : Loc Cert.UpWgrad.nD Cert.UpWgrad.τ Cert.UpWgrad.sig) → Buf (Elt Bits) ℓ) (g : Dev Cert.UpWgrad.nD → PrngReg), Pre_UpWgrad m →
    θ_run (Cert.UpWgrad.defs (F := Bits)) (onTc (τ := Cert.UpWgrad.τ) (Cert.UpWgrad.main (F := Bits))) ⟨m, fun _ => 0, g⟩ (fun r => (∀ c : Dev Cert.UpWgrad.nD,
      r.2.mem ((c.tc : Thread Cert.UpWgrad.nD Cert.UpWgrad.τ).loc Cert.UpWgrad.main_arg0) = m ((c.tc : Thread Cert.UpWgrad.nD Cert.UpWgrad.τ).loc Cert.UpWgrad.main_arg0)
      ∧ r.2.mem ((c.tc : Thread Cert.UpWgrad.nD Cert.UpWgrad.τ).loc Cert.UpWgrad.main_arg1) = m ((c.tc : Thread Cert.UpWgrad.nD Cert.UpWgrad.τ).loc Cert.UpWgrad.main_arg1))
      ∧ r.2.sem = fun _ => 0)

def quiescent_UpWgradIdeal [hUpWgradIdeal : Cert.UpWgradIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg), Pre_UpWgradIdeal m →
    θ_run (Cert.UpWgradIdeal.defs (F := Ideal)) (onTc (τ := Cert.UpWgradIdeal.τ) (Cert.UpWgradIdeal.main (F := Ideal))) ⟨m, fun _ => 0, g⟩ (fun r => (∀ c : Dev Cert.UpWgradIdeal.nD,
      r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
      ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1))
      ∧ r.2.sem = fun _ => 0)

def quiescent_UpWgradRefIdeal [hUpWgradRefIdeal : Cert.UpWgradRefIdeal.Facts] : Prop :=
  ∀ (m : (ℓ : Loc Cert.UpWgradRefIdeal.nD Cert.UpWgradRefIdeal.τ Cert.UpWgradRefIdeal.sig) → Buf (Elt Ideal) ℓ) (g : Dev Cert.UpWgradRefIdeal.nD → PrngReg), Pre_UpWgradRefIdeal m →
    θ_run (Cert.UpWgradRefIdeal.defs (F := Ideal)) (onTc (τ := Cert.UpWgradRefIdeal.τ) (Cert.UpWgradRefIdeal.main (F := Ideal))) ⟨m, fun _ => 0, g⟩ (fun r => (∀ c : Dev Cert.UpWgradRefIdeal.nD,
      r.2.mem ((c.tc : Thread Cert.UpWgradRefIdeal.nD Cert.UpWgradRefIdeal.τ).loc Cert.UpWgradRefIdeal.main_arg0) = m ((c.tc : Thread Cert.UpWgradRefIdeal.nD Cert.UpWgradRefIdeal.τ).loc Cert.UpWgradRefIdeal.main_arg0)
      ∧ r.2.mem ((c.tc : Thread Cert.UpWgradRefIdeal.nD Cert.UpWgradRefIdeal.τ).loc Cert.UpWgradRefIdeal.main_arg1) = m ((c.tc : Thread Cert.UpWgradRefIdeal.nD Cert.UpWgradRefIdeal.τ).loc Cert.UpWgradRefIdeal.main_arg1))
      ∧ r.2.sem = fun _ => 0)

def quiescent_OutDgrad [hOutDgrad : Cert.OutDgrad.Facts] : Prop :=
  ∀ (m : (ℓ : Loc Cert.OutDgrad.nD Cert.OutDgrad.τ Cert.OutDgrad.sig) → Buf (Elt Bits) ℓ) (g : Dev Cert.OutDgrad.nD → PrngReg), Pre_OutDgrad m →
    θ_run (Cert.OutDgrad.defs (F := Bits)) (onTc (τ := Cert.OutDgrad.τ) (Cert.OutDgrad.main (F := Bits))) ⟨m, fun _ => 0, g⟩ (fun r => (∀ c : Dev Cert.OutDgrad.nD,
      r.2.mem ((c.tc : Thread Cert.OutDgrad.nD Cert.OutDgrad.τ).loc Cert.OutDgrad.main_arg0) = m ((c.tc : Thread Cert.OutDgrad.nD Cert.OutDgrad.τ).loc Cert.OutDgrad.main_arg0)
      ∧ r.2.mem ((c.tc : Thread Cert.OutDgrad.nD Cert.OutDgrad.τ).loc Cert.OutDgrad.main_arg1) = m ((c.tc : Thread Cert.OutDgrad.nD Cert.OutDgrad.τ).loc Cert.OutDgrad.main_arg1))
      ∧ r.2.sem = fun _ => 0)

def quiescent_OutDgradIdeal [hOutDgradIdeal : Cert.OutDgradIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg), Pre_OutDgradIdeal m →
    θ_run (Cert.OutDgradIdeal.defs (F := Ideal)) (onTc (τ := Cert.OutDgradIdeal.τ) (Cert.OutDgradIdeal.main (F := Ideal))) ⟨m, fun _ => 0, g⟩ (fun r => (∀ c : Dev Cert.OutDgradIdeal.nD,
      r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
      ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1))
      ∧ r.2.sem = fun _ => 0)

def quiescent_OutDgradRefIdeal [hOutDgradRefIdeal : Cert.OutDgradRefIdeal.Facts] : Prop :=
  ∀ (m : (ℓ : Loc Cert.OutDgradRefIdeal.nD Cert.OutDgradRefIdeal.τ Cert.OutDgradRefIdeal.sig) → Buf (Elt Ideal) ℓ) (g : Dev Cert.OutDgradRefIdeal.nD → PrngReg), Pre_OutDgradRefIdeal m →
    θ_run (Cert.OutDgradRefIdeal.defs (F := Ideal)) (onTc (τ := Cert.OutDgradRefIdeal.τ) (Cert.OutDgradRefIdeal.main (F := Ideal))) ⟨m, fun _ => 0, g⟩ (fun r => (∀ c : Dev Cert.OutDgradRefIdeal.nD,
      r.2.mem ((c.tc : Thread Cert.OutDgradRefIdeal.nD Cert.OutDgradRefIdeal.τ).loc Cert.OutDgradRefIdeal.main_arg0) = m ((c.tc : Thread Cert.OutDgradRefIdeal.nD Cert.OutDgradRefIdeal.τ).loc Cert.OutDgradRefIdeal.main_arg0)
      ∧ r.2.mem ((c.tc : Thread Cert.OutDgradRefIdeal.nD Cert.OutDgradRefIdeal.τ).loc Cert.OutDgradRefIdeal.main_arg1) = m ((c.tc : Thread Cert.OutDgradRefIdeal.nD Cert.OutDgradRefIdeal.τ).loc Cert.OutDgradRefIdeal.main_arg1))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ r.2.sem = fun _ => 0)

def quiescent_OutWgradRefIdeal [hOutWgradRefIdeal : Cert.OutWgradRefIdeal.Facts] : Prop :=
  ∀ (m : (ℓ : Loc Cert.OutWgradRefIdeal.nD Cert.OutWgradRefIdeal.τ Cert.OutWgradRefIdeal.sig) → Buf (Elt Ideal) ℓ) (g : Dev Cert.OutWgradRefIdeal.nD → PrngReg), Pre_OutWgradRefIdeal m →
    θ_run (Cert.OutWgradRefIdeal.defs (F := Ideal)) (onTc (τ := Cert.OutWgradRefIdeal.τ) (Cert.OutWgradRefIdeal.main (F := Ideal))) ⟨m, fun _ => 0, g⟩ (fun r => (∀ c : Dev Cert.OutWgradRefIdeal.nD,
      r.2.mem ((c.tc : Thread Cert.OutWgradRefIdeal.nD Cert.OutWgradRefIdeal.τ).loc Cert.OutWgradRefIdeal.main_arg0) = m ((c.tc : Thread Cert.OutWgradRefIdeal.nD Cert.OutWgradRefIdeal.τ).loc Cert.OutWgradRefIdeal.main_arg0)
      ∧ r.2.mem ((c.tc : Thread Cert.OutWgradRefIdeal.nD Cert.OutWgradRefIdeal.τ).loc Cert.OutWgradRefIdeal.main_arg1) = m ((c.tc : Thread Cert.OutWgradRefIdeal.nD Cert.OutWgradRefIdeal.τ).loc Cert.OutWgradRefIdeal.main_arg1))
      ∧ r.2.sem = fun _ => 0)

def quiescent_InWgrad [hInWgrad : Cert.InWgrad.Facts] : Prop :=
  ∀ (m : (ℓ : Loc Cert.InWgrad.nD Cert.InWgrad.τ Cert.InWgrad.sig) → Buf (Elt Bits) ℓ) (g : Dev Cert.InWgrad.nD → PrngReg), Pre_InWgrad m →
    θ_run (Cert.InWgrad.defs (F := Bits)) (onTc (τ := Cert.InWgrad.τ) (Cert.InWgrad.main (F := Bits))) ⟨m, fun _ => 0, g⟩ (fun r => (∀ c : Dev Cert.InWgrad.nD,
      r.2.mem ((c.tc : Thread Cert.InWgrad.nD Cert.InWgrad.τ).loc Cert.InWgrad.main_arg0) = m ((c.tc : Thread Cert.InWgrad.nD Cert.InWgrad.τ).loc Cert.InWgrad.main_arg0)
      ∧ r.2.mem ((c.tc : Thread Cert.InWgrad.nD Cert.InWgrad.τ).loc Cert.InWgrad.main_arg1) = m ((c.tc : Thread Cert.InWgrad.nD Cert.InWgrad.τ).loc Cert.InWgrad.main_arg1))
      ∧ r.2.sem = fun _ => 0)

def quiescent_InWgradIdeal [hInWgradIdeal : Cert.InWgradIdeal.Facts] : Prop :=
  ∀ (m : (ℓ : Loc Cert.InWgradIdeal.nD Cert.InWgradIdeal.τ Cert.InWgradIdeal.sig) → Buf (Elt Ideal) ℓ) (g : Dev Cert.InWgradIdeal.nD → PrngReg), Pre_InWgradIdeal m →
    θ_run (Cert.InWgradIdeal.defs (F := Ideal)) (onTc (τ := Cert.InWgradIdeal.τ) (Cert.InWgradIdeal.main (F := Ideal))) ⟨m, fun _ => 0, g⟩ (fun r => (∀ c : Dev Cert.InWgradIdeal.nD,
      r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
      ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1))
      ∧ r.2.sem = fun _ => 0)

def quiescent_InWgradRefIdeal [hInWgradRefIdeal : Cert.InWgradRefIdeal.Facts] : Prop :=
  ∀ (m : (ℓ : Loc Cert.InWgradRefIdeal.nD Cert.InWgradRefIdeal.τ Cert.InWgradRefIdeal.sig) → Buf (Elt Ideal) ℓ) (g : Dev Cert.InWgradRefIdeal.nD → PrngReg), Pre_InWgradRefIdeal m →
    θ_run (Cert.InWgradRefIdeal.defs (F := Ideal)) (onTc (τ := Cert.InWgradRefIdeal.τ) (Cert.InWgradRefIdeal.main (F := Ideal))) ⟨m, fun _ => 0, g⟩ (fun r => (∀ c : Dev Cert.InWgradRefIdeal.nD,
      r.2.mem ((c.tc : Thread Cert.InWgradRefIdeal.nD Cert.InWgradRefIdeal.τ).loc Cert.InWgradRefIdeal.main_arg0) = m ((c.tc : Thread Cert.InWgradRefIdeal.nD Cert.InWgradRefIdeal.τ).loc Cert.InWgradRefIdeal.main_arg0)
      ∧ r.2.mem ((c.tc : Thread Cert.InWgradRefIdeal.nD Cert.InWgradRefIdeal.τ).loc Cert.InWgradRefIdeal.main_arg1) = m ((c.tc : Thread Cert.InWgradRefIdeal.nD Cert.InWgradRefIdeal.τ).loc Cert.InWgradRefIdeal.main_arg1))
      ∧ r.2.sem = fun _ => 0)

def quiescent_InDgrad [hInDgrad : Cert.InDgrad.Facts] : Prop :=
  ∀ (m : (ℓ : Loc Cert.InDgrad.nD Cert.InDgrad.τ Cert.InDgrad.sig) → Buf (Elt Bits) ℓ) (g : Dev Cert.InDgrad.nD → PrngReg), Pre_InDgrad m →
    θ_run (Cert.InDgrad.defs (F := Bits)) (onTc (τ := Cert.InDgrad.τ) (Cert.InDgrad.main (F := Bits))) ⟨m, fun _ => 0, g⟩ (fun r => (∀ c : Dev Cert.InDgrad.nD,
      r.2.mem ((c.tc : Thread Cert.InDgrad.nD Cert.InDgrad.τ).loc Cert.InDgrad.main_arg0) = m ((c.tc : Thread Cert.InDgrad.nD Cert.InDgrad.τ).loc Cert.InDgrad.main_arg0)
      ∧ r.2.mem ((c.tc : Thread Cert.InDgrad.nD Cert.InDgrad.τ).loc Cert.InDgrad.main_arg1) = m ((c.tc : Thread Cert.InDgrad.nD Cert.InDgrad.τ).loc Cert.InDgrad.main_arg1)
      ∧ r.2.mem ((c.tc : Thread Cert.InDgrad.nD Cert.InDgrad.τ).loc Cert.InDgrad.main_arg2) = m ((c.tc : Thread Cert.InDgrad.nD Cert.InDgrad.τ).loc Cert.InDgrad.main_arg2))
      ∧ r.2.sem = fun _ => 0)

def quiescent_InDgradIdeal [hInDgradIdeal : Cert.InDgradIdeal.Facts] : Prop :=
  ∀ (m : (ℓ : Loc Cert.InDgradIdeal.nD Cert.InDgradIdeal.τ Cert.InDgradIdeal.sig) → Buf (Elt Ideal) ℓ) (g : Dev Cert.InDgradIdeal.nD → PrngReg), Pre_InDgradIdeal m →
    θ_run (Cert.InDgradIdeal.defs (F := Ideal)) (onTc (τ := Cert.InDgradIdeal.τ) (Cert.InDgradIdeal.main (F := Ideal))) ⟨m, fun _ => 0, g⟩ (fun r => (∀ c : Dev Cert.InDgradIdeal.nD,
      r.2.mem ((c.tc : Thread Cert.InDgradIdeal.nD Cert.InDgradIdeal.τ).loc Cert.InDgradIdeal.main_arg0) = m ((c.tc : Thread Cert.InDgradIdeal.nD Cert.InDgradIdeal.τ).loc Cert.InDgradIdeal.main_arg0)
      ∧ r.2.mem ((c.tc : Thread Cert.InDgradIdeal.nD Cert.InDgradIdeal.τ).loc Cert.InDgradIdeal.main_arg1) = m ((c.tc : Thread Cert.InDgradIdeal.nD Cert.InDgradIdeal.τ).loc Cert.InDgradIdeal.main_arg1)
      ∧ r.2.mem ((c.tc : Thread Cert.InDgradIdeal.nD Cert.InDgradIdeal.τ).loc Cert.InDgradIdeal.main_arg2) = m ((c.tc : Thread Cert.InDgradIdeal.nD Cert.InDgradIdeal.τ).loc Cert.InDgradIdeal.main_arg2))
      ∧ r.2.sem = fun _ => 0)

def quiescent_InDgradRefIdeal [hInDgradRefIdeal : Cert.InDgradRefIdeal.Facts] : Prop :=
  ∀ (m : (ℓ : Loc Cert.InDgradRefIdeal.nD Cert.InDgradRefIdeal.τ Cert.InDgradRefIdeal.sig) → Buf (Elt Ideal) ℓ) (g : Dev Cert.InDgradRefIdeal.nD → PrngReg), Pre_InDgradRefIdeal m →
    θ_run (Cert.InDgradRefIdeal.defs (F := Ideal)) (onTc (τ := Cert.InDgradRefIdeal.τ) (Cert.InDgradRefIdeal.main (F := Ideal))) ⟨m, fun _ => 0, g⟩ (fun r => (∀ c : Dev Cert.InDgradRefIdeal.nD,
      r.2.mem ((c.tc : Thread Cert.InDgradRefIdeal.nD Cert.InDgradRefIdeal.τ).loc Cert.InDgradRefIdeal.main_arg0) = m ((c.tc : Thread Cert.InDgradRefIdeal.nD Cert.InDgradRefIdeal.τ).loc Cert.InDgradRefIdeal.main_arg0)
      ∧ r.2.mem ((c.tc : Thread Cert.InDgradRefIdeal.nD Cert.InDgradRefIdeal.τ).loc Cert.InDgradRefIdeal.main_arg1) = m ((c.tc : Thread Cert.InDgradRefIdeal.nD Cert.InDgradRefIdeal.τ).loc Cert.InDgradRefIdeal.main_arg1)
      ∧ r.2.mem ((c.tc : Thread Cert.InDgradRefIdeal.nD Cert.InDgradRefIdeal.τ).loc Cert.InDgradRefIdeal.main_arg2) = m ((c.tc : Thread Cert.InDgradRefIdeal.nD Cert.InDgradRefIdeal.τ).loc Cert.InDgradRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_InRkv [hInRkv : Cert.InRkv.Facts] : Prop :=
  ∀ (m : (ℓ : Loc Cert.InRkv.nD Cert.InRkv.τ Cert.InRkv.sig) → Buf (Elt Bits) ℓ) (g : Dev Cert.InRkv.nD → PrngReg), Pre_InRkv m →
    θ_run (Cert.InRkv.defs (F := Bits)) (onTc (τ := Cert.InRkv.τ) (Cert.InRkv.main (F := Bits))) ⟨m, fun _ => 0, g⟩ (fun r => (∀ c : Dev Cert.InRkv.nD,
      r.2.mem ((c.tc : Thread Cert.InRkv.nD Cert.InRkv.τ).loc Cert.InRkv.main_arg0) = m ((c.tc : Thread Cert.InRkv.nD Cert.InRkv.τ).loc Cert.InRkv.main_arg0)
      ∧ r.2.mem ((c.tc : Thread Cert.InRkv.nD Cert.InRkv.τ).loc Cert.InRkv.main_arg1) = m ((c.tc : Thread Cert.InRkv.nD Cert.InRkv.τ).loc Cert.InRkv.main_arg1))
      ∧ r.2.sem = fun _ => 0)

def quiescent_InRkvIdeal [hInRkvIdeal : Cert.InRkvIdeal.Facts] : Prop :=
  ∀ (m : (ℓ : Loc Cert.InRkvIdeal.nD Cert.InRkvIdeal.τ Cert.InRkvIdeal.sig) → Buf (Elt Ideal) ℓ) (g : Dev Cert.InRkvIdeal.nD → PrngReg), Pre_InRkvIdeal m →
    θ_run (Cert.InRkvIdeal.defs (F := Ideal)) (onTc (τ := Cert.InRkvIdeal.τ) (Cert.InRkvIdeal.main (F := Ideal))) ⟨m, fun _ => 0, g⟩ (fun r => (∀ c : Dev Cert.InRkvIdeal.nD,
      r.2.mem ((c.tc : Thread Cert.InRkvIdeal.nD Cert.InRkvIdeal.τ).loc Cert.InRkvIdeal.main_arg0) = m ((c.tc : Thread Cert.InRkvIdeal.nD Cert.InRkvIdeal.τ).loc Cert.InRkvIdeal.main_arg0)
      ∧ r.2.mem ((c.tc : Thread Cert.InRkvIdeal.nD Cert.InRkvIdeal.τ).loc Cert.InRkvIdeal.main_arg1) = m ((c.tc : Thread Cert.InRkvIdeal.nD Cert.InRkvIdeal.τ).loc Cert.InRkvIdeal.main_arg1))
      ∧ r.2.sem = fun _ => 0)

def quiescent_InRkvRefIdeal [hInRkvRefIdeal : Cert.InRkvRefIdeal.Facts] : Prop :=
  ∀ (m : (ℓ : Loc Cert.InRkvRefIdeal.nD Cert.InRkvRefIdeal.τ Cert.InRkvRefIdeal.sig) → Buf (Elt Ideal) ℓ) (g : Dev Cert.InRkvRefIdeal.nD → PrngReg), Pre_InRkvRefIdeal m →
    θ_run (Cert.InRkvRefIdeal.defs (F := Ideal)) (onTc (τ := Cert.InRkvRefIdeal.τ) (Cert.InRkvRefIdeal.main (F := Ideal))) ⟨m, fun _ => 0, g⟩ (fun r => (∀ c : Dev Cert.InRkvRefIdeal.nD,
      r.2.mem ((c.tc : Thread Cert.InRkvRefIdeal.nD Cert.InRkvRefIdeal.τ).loc Cert.InRkvRefIdeal.main_arg0) = m ((c.tc : Thread Cert.InRkvRefIdeal.nD Cert.InRkvRefIdeal.τ).loc Cert.InRkvRefIdeal.main_arg0)
      ∧ r.2.mem ((c.tc : Thread Cert.InRkvRefIdeal.nD Cert.InRkvRefIdeal.τ).loc Cert.InRkvRefIdeal.main_arg1) = m ((c.tc : Thread Cert.InRkvRefIdeal.nD Cert.InRkvRefIdeal.τ).loc Cert.InRkvRefIdeal.main_arg1))
      ∧ r.2.sem = fun _ => 0)

def quiescent_InLora [hInLora : Cert.InLora.Facts] : Prop :=
  ∀ (m : (ℓ : Loc Cert.InLora.nD Cert.InLora.τ Cert.InLora.sig) → Buf (Elt Bits) ℓ) (g : Dev Cert.InLora.nD → PrngReg), Pre_InLora m →
    θ_run (Cert.InLora.defs (F := Bits)) (onTc (τ := Cert.InLora.τ) (Cert.InLora.main (F := Bits))) ⟨m, fun _ => 0, g⟩ (fun r => (∀ c : Dev Cert.InLora.nD,
      r.2.mem ((c.tc : Thread Cert.InLora.nD Cert.InLora.τ).loc Cert.InLora.main_arg0) = m ((c.tc : Thread Cert.InLora.nD Cert.InLora.τ).loc Cert.InLora.main_arg0)
      ∧ r.2.mem ((c.tc : Thread Cert.InLora.nD Cert.InLora.τ).loc Cert.InLora.main_arg1) = m ((c.tc : Thread Cert.InLora.nD Cert.InLora.τ).loc Cert.InLora.main_arg1))
      ∧ r.2.sem = fun _ => 0)

def quiescent_InLoraIdeal [hInLoraIdeal : Cert.InLoraIdeal.Facts] : Prop :=
  ∀ (m : (ℓ : Loc Cert.InLoraIdeal.nD Cert.InLoraIdeal.τ Cert.InLoraIdeal.sig) → Buf (Elt Ideal) ℓ) (g : Dev Cert.InLoraIdeal.nD → PrngReg), Pre_InLoraIdeal m →
    θ_run (Cert.InLoraIdeal.defs (F := Ideal)) (onTc (τ := Cert.InLoraIdeal.τ) (Cert.InLoraIdeal.main (F := Ideal))) ⟨m, fun _ => 0, g⟩ (fun r => (∀ c : Dev Cert.InLoraIdeal.nD,
      r.2.mem ((c.tc : Thread Cert.InLoraIdeal.nD Cert.InLoraIdeal.τ).loc Cert.InLoraIdeal.main_arg0) = m ((c.tc : Thread Cert.InLoraIdeal.nD Cert.InLoraIdeal.τ).loc Cert.InLoraIdeal.main_arg0)
      ∧ r.2.mem ((c.tc : Thread Cert.InLoraIdeal.nD Cert.InLoraIdeal.τ).loc Cert.InLoraIdeal.main_arg1) = m ((c.tc : Thread Cert.InLoraIdeal.nD Cert.InLoraIdeal.τ).loc Cert.InLoraIdeal.main_arg1))
      ∧ r.2.sem = fun _ => 0)

def quiescent_InLoraRefIdeal [hInLoraRefIdeal : Cert.InLoraRefIdeal.Facts] : Prop :=
  ∀ (m : (ℓ : Loc Cert.InLoraRefIdeal.nD Cert.InLoraRefIdeal.τ Cert.InLoraRefIdeal.sig) → Buf (Elt Ideal) ℓ) (g : Dev Cert.InLoraRefIdeal.nD → PrngReg), Pre_InLoraRefIdeal m →
    θ_run (Cert.InLoraRefIdeal.defs (F := Ideal)) (onTc (τ := Cert.InLoraRefIdeal.τ) (Cert.InLoraRefIdeal.main (F := Ideal))) ⟨m, fun _ => 0, g⟩ (fun r => (∀ c : Dev Cert.InLoraRefIdeal.nD,
      r.2.mem ((c.tc : Thread Cert.InLoraRefIdeal.nD Cert.InLoraRefIdeal.τ).loc Cert.InLoraRefIdeal.main_arg0) = m ((c.tc : Thread Cert.InLoraRefIdeal.nD Cert.InLoraRefIdeal.τ).loc Cert.InLoraRefIdeal.main_arg0)
      ∧ r.2.mem ((c.tc : Thread Cert.InLoraRefIdeal.nD Cert.InLoraRefIdeal.τ).loc Cert.InLoraRefIdeal.main_arg1) = m ((c.tc : Thread Cert.InLoraRefIdeal.nD Cert.InLoraRefIdeal.τ).loc Cert.InLoraRefIdeal.main_arg1))
      ∧ r.2.sem = fun _ => 0)

def quiescent_InQ [hInQ : Cert.InQ.Facts] : Prop :=
  ∀ (m : (ℓ : Loc Cert.InQ.nD Cert.InQ.τ Cert.InQ.sig) → Buf (Elt Bits) ℓ) (g : Dev Cert.InQ.nD → PrngReg), Pre_InQ m →
    θ_run (Cert.InQ.defs (F := Bits)) (onTc (τ := Cert.InQ.τ) (Cert.InQ.main (F := Bits))) ⟨m, fun _ => 0, g⟩ (fun r => (∀ c : Dev Cert.InQ.nD,
      r.2.mem ((c.tc : Thread Cert.InQ.nD Cert.InQ.τ).loc Cert.InQ.main_arg0) = m ((c.tc : Thread Cert.InQ.nD Cert.InQ.τ).loc Cert.InQ.main_arg0)
      ∧ r.2.mem ((c.tc : Thread Cert.InQ.nD Cert.InQ.τ).loc Cert.InQ.main_arg1) = m ((c.tc : Thread Cert.InQ.nD Cert.InQ.τ).loc Cert.InQ.main_arg1))
      ∧ r.2.sem = fun _ => 0)

def quiescent_InQIdeal [hInQIdeal : Cert.InQIdeal.Facts] : Prop :=
  ∀ (m : (ℓ : Loc Cert.InQIdeal.nD Cert.InQIdeal.τ Cert.InQIdeal.sig) → Buf (Elt Ideal) ℓ) (g : Dev Cert.InQIdeal.nD → PrngReg), Pre_InQIdeal m →
    θ_run (Cert.InQIdeal.defs (F := Ideal)) (onTc (τ := Cert.InQIdeal.τ) (Cert.InQIdeal.main (F := Ideal))) ⟨m, fun _ => 0, g⟩ (fun r => (∀ c : Dev Cert.InQIdeal.nD,
      r.2.mem ((c.tc : Thread Cert.InQIdeal.nD Cert.InQIdeal.τ).loc Cert.InQIdeal.main_arg0) = m ((c.tc : Thread Cert.InQIdeal.nD Cert.InQIdeal.τ).loc Cert.InQIdeal.main_arg0)
      ∧ r.2.mem ((c.tc : Thread Cert.InQIdeal.nD Cert.InQIdeal.τ).loc Cert.InQIdeal.main_arg1) = m ((c.tc : Thread Cert.InQIdeal.nD Cert.InQIdeal.τ).loc Cert.InQIdeal.main_arg1))
      ∧ r.2.sem = fun _ => 0)

def quiescent_InQRefIdeal [hInQRefIdeal : Cert.InQRefIdeal.Facts] : Prop :=
  ∀ (m : (ℓ : Loc Cert.InQRefIdeal.nD Cert.InQRefIdeal.τ Cert.InQRefIdeal.sig) → Buf (Elt Ideal) ℓ) (g : Dev Cert.InQRefIdeal.nD → PrngReg), Pre_InQRefIdeal m →
    θ_run (Cert.InQRefIdeal.defs (F := Ideal)) (onTc (τ := Cert.InQRefIdeal.τ) (Cert.InQRefIdeal.main (F := Ideal))) ⟨m, fun _ => 0, g⟩ (fun r => (∀ c : Dev Cert.InQRefIdeal.nD,
      r.2.mem ((c.tc : Thread Cert.InQRefIdeal.nD Cert.InQRefIdeal.τ).loc Cert.InQRefIdeal.main_arg0) = m ((c.tc : Thread Cert.InQRefIdeal.nD Cert.InQRefIdeal.τ).loc Cert.InQRefIdeal.main_arg0)
      ∧ r.2.mem ((c.tc : Thread Cert.InQRefIdeal.nD Cert.InQRefIdeal.τ).loc Cert.InQRefIdeal.main_arg1) = m ((c.tc : Thread Cert.InQRefIdeal.nD Cert.InQRefIdeal.τ).loc Cert.InQRefIdeal.main_arg1))
      ∧ r.2.sem = fun _ => 0)

def quiescent_InKv [hInKv : Cert.InKv.Facts] : Prop :=
  ∀ (m : (ℓ : Loc Cert.InKv.nD Cert.InKv.τ Cert.InKv.sig) → Buf (Elt Bits) ℓ) (g : Dev Cert.InKv.nD → PrngReg), Pre_InKv m →
    θ_run (Cert.InKv.defs (F := Bits)) (onTc (τ := Cert.InKv.τ) (Cert.InKv.main (F := Bits))) ⟨m, fun _ => 0, g⟩ (fun r => (∀ c : Dev Cert.InKv.nD,
      r.2.mem ((c.tc : Thread Cert.InKv.nD Cert.InKv.τ).loc Cert.InKv.main_arg0) = m ((c.tc : Thread Cert.InKv.nD Cert.InKv.τ).loc Cert.InKv.main_arg0)
      ∧ r.2.mem ((c.tc : Thread Cert.InKv.nD Cert.InKv.τ).loc Cert.InKv.main_arg1) = m ((c.tc : Thread Cert.InKv.nD Cert.InKv.τ).loc Cert.InKv.main_arg1))
      ∧ r.2.sem = fun _ => 0)

def quiescent_InKvIdeal [hInKvIdeal : Cert.InKvIdeal.Facts] : Prop :=
  ∀ (m : (ℓ : Loc Cert.InKvIdeal.nD Cert.InKvIdeal.τ Cert.InKvIdeal.sig) → Buf (Elt Ideal) ℓ) (g : Dev Cert.InKvIdeal.nD → PrngReg), Pre_InKvIdeal m →
    θ_run (Cert.InKvIdeal.defs (F := Ideal)) (onTc (τ := Cert.InKvIdeal.τ) (Cert.InKvIdeal.main (F := Ideal))) ⟨m, fun _ => 0, g⟩ (fun r => (∀ c : Dev Cert.InKvIdeal.nD,
      r.2.mem ((c.tc : Thread Cert.InKvIdeal.nD Cert.InKvIdeal.τ).loc Cert.InKvIdeal.main_arg0) = m ((c.tc : Thread Cert.InKvIdeal.nD Cert.InKvIdeal.τ).loc Cert.InKvIdeal.main_arg0)
      ∧ r.2.mem ((c.tc : Thread Cert.InKvIdeal.nD Cert.InKvIdeal.τ).loc Cert.InKvIdeal.main_arg1) = m ((c.tc : Thread Cert.InKvIdeal.nD Cert.InKvIdeal.τ).loc Cert.InKvIdeal.main_arg1))
      ∧ r.2.sem = fun _ => 0)

def quiescent_InKvRefIdeal [hInKvRefIdeal : Cert.InKvRefIdeal.Facts] : Prop :=
  ∀ (m : (ℓ : Loc Cert.InKvRefIdeal.nD Cert.InKvRefIdeal.τ Cert.InKvRefIdeal.sig) → Buf (Elt Ideal) ℓ) (g : Dev Cert.InKvRefIdeal.nD → PrngReg), Pre_InKvRefIdeal m →
    θ_run (Cert.InKvRefIdeal.defs (F := Ideal)) (onTc (τ := Cert.InKvRefIdeal.τ) (Cert.InKvRefIdeal.main (F := Ideal))) ⟨m, fun _ => 0, g⟩ (fun r => (∀ c : Dev Cert.InKvRefIdeal.nD,
      r.2.mem ((c.tc : Thread Cert.InKvRefIdeal.nD Cert.InKvRefIdeal.τ).loc Cert.InKvRefIdeal.main_arg0) = m ((c.tc : Thread Cert.InKvRefIdeal.nD Cert.InKvRefIdeal.τ).loc Cert.InKvRefIdeal.main_arg0)
      ∧ r.2.mem ((c.tc : Thread Cert.InKvRefIdeal.nD Cert.InKvRefIdeal.τ).loc Cert.InKvRefIdeal.main_arg1) = m ((c.tc : Thread Cert.InKvRefIdeal.nD Cert.InKvRefIdeal.τ).loc Cert.InKvRefIdeal.main_arg1))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2)
      ∧ r.2.mem ((c.tc : Thread Cert.Embed.nD Cert.Embed.τ).loc Cert.Embed.main_arg3) = m ((c.tc : Thread Cert.Embed.nD Cert.Embed.τ).loc Cert.Embed.main_arg3)
      ∧ r.2.mem ((c.tc : Thread Cert.Embed.nD Cert.Embed.τ).loc Cert.Embed.main_arg4) = m ((c.tc : Thread Cert.Embed.nD Cert.Embed.τ).loc Cert.Embed.main_arg4))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
      ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
      ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4))
      ∧ r.2.sem = fun _ => 0)

def quiescent_EmbedRefIdeal [hEmbedRefIdeal : Cert.EmbedRefIdeal.Facts] : Prop :=
  ∀ (m : (ℓ : Loc Cert.EmbedRefIdeal.nD Cert.EmbedRefIdeal.τ Cert.EmbedRefIdeal.sig) → Buf (Elt Ideal) ℓ) (g : Dev Cert.EmbedRefIdeal.nD → PrngReg), Pre_EmbedRefIdeal m →
    θ_run (Cert.EmbedRefIdeal.defs (F := Ideal)) (onTc (τ := Cert.EmbedRefIdeal.τ) (Cert.EmbedRefIdeal.main (F := Ideal))) ⟨m, fun _ => 0, g⟩ (fun r => (∀ c : Dev Cert.EmbedRefIdeal.nD,
      r.2.mem ((c.tc : Thread Cert.EmbedRefIdeal.nD Cert.EmbedRefIdeal.τ).loc Cert.EmbedRefIdeal.main_arg0) = m ((c.tc : Thread Cert.EmbedRefIdeal.nD Cert.EmbedRefIdeal.τ).loc Cert.EmbedRefIdeal.main_arg0)
      ∧ r.2.mem ((c.tc : Thread Cert.EmbedRefIdeal.nD Cert.EmbedRefIdeal.τ).loc Cert.EmbedRefIdeal.main_arg1) = m ((c.tc : Thread Cert.EmbedRefIdeal.nD Cert.EmbedRefIdeal.τ).loc Cert.EmbedRefIdeal.main_arg1)
      ∧ r.2.mem ((c.tc : Thread Cert.EmbedRefIdeal.nD Cert.EmbedRefIdeal.τ).loc Cert.EmbedRefIdeal.main_arg2) = m ((c.tc : Thread Cert.EmbedRefIdeal.nD Cert.EmbedRefIdeal.τ).loc Cert.EmbedRefIdeal.main_arg2)
      ∧ r.2.mem ((c.tc : Thread Cert.EmbedRefIdeal.nD Cert.EmbedRefIdeal.τ).loc Cert.EmbedRefIdeal.main_arg3) = m ((c.tc : Thread Cert.EmbedRefIdeal.nD Cert.EmbedRefIdeal.τ).loc Cert.EmbedRefIdeal.main_arg3)
      ∧ r.2.mem ((c.tc : Thread Cert.EmbedRefIdeal.nD Cert.EmbedRefIdeal.τ).loc Cert.EmbedRefIdeal.main_arg4) = m ((c.tc : Thread Cert.EmbedRefIdeal.nD Cert.EmbedRefIdeal.τ).loc Cert.EmbedRefIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3)
      ∧ r.2.mem ((c.tc : Thread Cert.AdamMod.nD Cert.AdamMod.τ).loc Cert.AdamMod.main_arg4) = m ((c.tc : Thread Cert.AdamMod.nD Cert.AdamMod.τ).loc Cert.AdamMod.main_arg4))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3)
      ∧ r.2.mem ((c.tc : Thread Cert.AdamModIdeal.nD Cert.AdamModIdeal.τ).loc Cert.AdamModIdeal.main_arg4) = m ((c.tc : Thread Cert.AdamModIdeal.nD Cert.AdamModIdeal.τ).loc Cert.AdamModIdeal.main_arg4))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3)
      ∧ r.2.mem ((c.tc : Thread Cert.AdamModRefIdeal.nD Cert.AdamModRefIdeal.τ).loc Cert.AdamModRefIdeal.main_arg4) = m ((c.tc : Thread Cert.AdamModRefIdeal.nD Cert.AdamModRefIdeal.τ).loc Cert.AdamModRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)) (v3 : (c : Dev Cert.KernelIdeal.nD) → Buf (Elt Ideal) ((c.tc : Thread Cert.KernelIdeal.nD Cert.KernelIdeal.τ).loc Cert.KernelIdeal.main_v38_3)) (v4 : (c : Dev Cert.KernelIdeal.nD) → Buf (Elt Ideal) ((c.tc : Thread Cert.KernelIdeal.nD Cert.KernelIdeal.τ).loc Cert.KernelIdeal.main_v38_4)) (v5 : (c : Dev Cert.KernelIdeal.nD) → Buf (Elt Ideal) ((c.tc : Thread Cert.KernelIdeal.nD Cert.KernelIdeal.τ).loc Cert.KernelIdeal.main_v38_5)) (v6 : (c : Dev Cert.KernelIdeal.nD) → Buf (Elt Ideal) ((c.tc : Thread Cert.KernelIdeal.nD Cert.KernelIdeal.τ).loc Cert.KernelIdeal.main_v38_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_v38_3) = v3 c
          ∧ r.2.mem ((c.tc : Thread Cert.KernelIdeal.nD Cert.KernelIdeal.τ).loc Cert.KernelIdeal.main_v38_4) = v4 c
          ∧ r.2.mem ((c.tc : Thread Cert.KernelIdeal.nD Cert.KernelIdeal.τ).loc Cert.KernelIdeal.main_v38_5) = v5 c
          ∧ r.2.mem ((c.tc : Thread Cert.KernelIdeal.nD Cert.KernelIdeal.τ).loc Cert.KernelIdeal.main_v38_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_v191) = v1 c
          ∧ r.2.mem ((c.tc : Thread Cert.ReferenceIdeal.nD Cert.ReferenceIdeal.τ).loc Cert.ReferenceIdeal.main_v190) = v2 c
          ∧ r.2.mem ((c.tc : Thread Cert.ReferenceIdeal.nD Cert.ReferenceIdeal.τ).loc Cert.ReferenceIdeal.main_v187) = v3 c
          ∧ r.2.mem ((c.tc : Thread Cert.ReferenceIdeal.nD Cert.ReferenceIdeal.τ).loc Cert.ReferenceIdeal.main_v186) = v4 c
          ∧ r.2.mem ((c.tc : Thread Cert.ReferenceIdeal.nD Cert.ReferenceIdeal.τ).loc Cert.ReferenceIdeal.main_v194) = v5 c
          ∧ r.2.mem ((c.tc : Thread Cert.ReferenceIdeal.nD Cert.ReferenceIdeal.τ).loc Cert.ReferenceIdeal.main_v171) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Attention_AttentionIdeal : Prop :=
  IdealRules.named_const.Statement Cert.AttentionIdeal.κ "mask" .f32 0xF149F2CA#32 ⊥

def algebraic_AttentionIdeal_AttentionRefIdeal [hAttentionIdeal : Cert.AttentionIdeal.Facts] [hAttentionRefIdeal : Cert.AttentionRefIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)
      ∧ m' ((c.tc : Thread Cert.AttentionRefIdeal.nD Cert.AttentionRefIdeal.τ).loc Cert.AttentionRefIdeal.main_arg3) = m ((c.tc : Thread Cert.AttentionIdeal.nD Cert.AttentionIdeal.τ).loc Cert.AttentionIdeal.main_arg3)
      ∧ m' ((c.tc : Thread Cert.AttentionRefIdeal.nD Cert.AttentionRefIdeal.τ).loc Cert.AttentionRefIdeal.main_arg4) = m ((c.tc : Thread Cert.AttentionIdeal.nD Cert.AttentionIdeal.τ).loc Cert.AttentionIdeal.main_arg4)) →
    ∃ (v0 : (c : Dev Cert.AttentionIdeal.nD) → Buf (Elt Ideal) ((c.tc : Thread Cert.AttentionIdeal.nD Cert.AttentionIdeal.τ).loc Cert.AttentionIdeal.main_v38)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v38) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v106) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2)
          ∧ r.2.mem ((c.tc : Thread Cert.AttentionRefIdeal.nD Cert.AttentionRefIdeal.τ).loc Cert.AttentionRefIdeal.main_arg3) = m' ((c.tc : Thread Cert.AttentionRefIdeal.nD Cert.AttentionRefIdeal.τ).loc Cert.AttentionRefIdeal.main_arg3)
          ∧ r.2.mem ((c.tc : Thread Cert.AttentionRefIdeal.nD Cert.AttentionRefIdeal.τ).loc Cert.AttentionRefIdeal.main_arg4) = m' ((c.tc : Thread Cert.AttentionRefIdeal.nD Cert.AttentionRefIdeal.τ).loc Cert.AttentionRefIdeal.main_arg4))

def preserves_DownDgrad_DownDgradIdeal : Prop :=
  True

def algebraic_DownDgradIdeal_DownDgradRefIdeal [hDownDgradIdeal : Cert.DownDgradIdeal.Facts] [hDownDgradRefIdeal : Cert.DownDgradRefIdeal.Facts] : Prop :=
  ∀ (m : (ℓ : Loc Cert.DownDgradIdeal.nD Cert.DownDgradIdeal.τ Cert.DownDgradIdeal.sig) → Buf (Elt Ideal) ℓ) (g : Dev Cert.DownDgradIdeal.nD → PrngReg)
    (m' : (ℓ : Loc Cert.DownDgradRefIdeal.nD Cert.DownDgradRefIdeal.τ Cert.DownDgradRefIdeal.sig) → Buf (Elt Ideal) ℓ) (g' : Dev Cert.DownDgradRefIdeal.nD → PrngReg), Pre_DownDgradIdeal m →
    (∀ c : Dev Cert.DownDgradIdeal.nD,
      m' ((c.tc : Thread Cert.DownDgradRefIdeal.nD Cert.DownDgradRefIdeal.τ).loc Cert.DownDgradRefIdeal.main_arg0) = m ((c.tc : Thread Cert.DownDgradIdeal.nD Cert.DownDgradIdeal.τ).loc Cert.DownDgradIdeal.main_arg0)
      ∧ m' ((c.tc : Thread Cert.DownDgradRefIdeal.nD Cert.DownDgradRefIdeal.τ).loc Cert.DownDgradRefIdeal.main_arg1) = m ((c.tc : Thread Cert.DownDgradIdeal.nD Cert.DownDgradIdeal.τ).loc Cert.DownDgradIdeal.main_arg1)
      ∧ m' ((c.tc : Thread Cert.DownDgradRefIdeal.nD Cert.DownDgradRefIdeal.τ).loc Cert.DownDgradRefIdeal.main_arg2) = m ((c.tc : Thread Cert.DownDgradIdeal.nD Cert.DownDgradIdeal.τ).loc Cert.DownDgradIdeal.main_arg2)) →
    ∃ (v0 : (c : Dev Cert.DownDgradIdeal.nD) → Buf (Elt Ideal) ((c.tc : Thread Cert.DownDgradIdeal.nD Cert.DownDgradIdeal.τ).loc Cert.DownDgradIdeal.main_v0)),
      θ_run (Cert.DownDgradIdeal.defs (F := Ideal)) (onTc (τ := Cert.DownDgradIdeal.τ) (Cert.DownDgradIdeal.main (F := Ideal))) ⟨m, fun _ => 0, g⟩ (fun r => ∀ c : Dev Cert.DownDgradIdeal.nD,
          r.2.mem ((c.tc : Thread Cert.DownDgradIdeal.nD Cert.DownDgradIdeal.τ).loc Cert.DownDgradIdeal.main_v0) = v0 c
          ∧ r.2.mem ((c.tc : Thread Cert.DownDgradIdeal.nD Cert.DownDgradIdeal.τ).loc Cert.DownDgradIdeal.main_arg0) = m ((c.tc : Thread Cert.DownDgradIdeal.nD Cert.DownDgradIdeal.τ).loc Cert.DownDgradIdeal.main_arg0)
          ∧ r.2.mem ((c.tc : Thread Cert.DownDgradIdeal.nD Cert.DownDgradIdeal.τ).loc Cert.DownDgradIdeal.main_arg1) = m ((c.tc : Thread Cert.DownDgradIdeal.nD Cert.DownDgradIdeal.τ).loc Cert.DownDgradIdeal.main_arg1)
          ∧ r.2.mem ((c.tc : Thread Cert.DownDgradIdeal.nD Cert.DownDgradIdeal.τ).loc Cert.DownDgradIdeal.main_arg2) = m ((c.tc : Thread Cert.DownDgradIdeal.nD Cert.DownDgradIdeal.τ).loc Cert.DownDgradIdeal.main_arg2))
      ∧ θ_run (Cert.DownDgradRefIdeal.defs (F := Ideal)) (onTc (τ := Cert.DownDgradRefIdeal.τ) (Cert.DownDgradRefIdeal.main (F := Ideal))) ⟨m', fun _ => 0, g'⟩ (fun r => ∀ c : Dev Cert.DownDgradRefIdeal.nD,
          r.2.mem ((c.tc : Thread Cert.DownDgradRefIdeal.nD Cert.DownDgradRefIdeal.τ).loc Cert.DownDgradRefIdeal.main_v14) = v0 c
          ∧ r.2.mem ((c.tc : Thread Cert.DownDgradRefIdeal.nD Cert.DownDgradRefIdeal.τ).loc Cert.DownDgradRefIdeal.main_arg0) = m' ((c.tc : Thread Cert.DownDgradRefIdeal.nD Cert.DownDgradRefIdeal.τ).loc Cert.DownDgradRefIdeal.main_arg0)
          ∧ r.2.mem ((c.tc : Thread Cert.DownDgradRefIdeal.nD Cert.DownDgradRefIdeal.τ).loc Cert.DownDgradRefIdeal.main_arg1) = m' ((c.tc : Thread Cert.DownDgradRefIdeal.nD Cert.DownDgradRefIdeal.τ).loc Cert.DownDgradRefIdeal.main_arg1)
          ∧ r.2.mem ((c.tc : Thread Cert.DownDgradRefIdeal.nD Cert.DownDgradRefIdeal.τ).loc Cert.DownDgradRefIdeal.main_arg2) = m' ((c.tc : Thread Cert.DownDgradRefIdeal.nD Cert.DownDgradRefIdeal.τ).loc Cert.DownDgradRefIdeal.main_arg2))

def preserves_DownWgrad_DownWgradIdeal : Prop :=
  True

def algebraic_DownWgradIdeal_DownWgradRefIdeal [hDownWgradIdeal : Cert.DownWgradIdeal.Facts] [hDownWgradRefIdeal : Cert.DownWgradRefIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg)
    (m' : (ℓ : Loc Cert.DownWgradRefIdeal.nD Cert.DownWgradRefIdeal.τ Cert.DownWgradRefIdeal.sig) → Buf (Elt Ideal) ℓ) (g' : Dev Cert.DownWgradRefIdeal.nD → PrngReg), Pre_DownWgradIdeal m →
    (∀ c : Dev Cert.DownWgradIdeal.nD,
      m' ((c.tc : Thread Cert.DownWgradRefIdeal.nD Cert.DownWgradRefIdeal.τ).loc Cert.DownWgradRefIdeal.main_arg0) = m ((c.tc : Thread Cert.DownWgradIdeal.nD Cert.DownWgradIdeal.τ).loc Cert.DownWgradIdeal.main_arg0)
      ∧ m' ((c.tc : Thread Cert.DownWgradRefIdeal.nD Cert.DownWgradRefIdeal.τ).loc Cert.DownWgradRefIdeal.main_arg1) = m ((c.tc : Thread Cert.DownWgradIdeal.nD Cert.DownWgradIdeal.τ).loc Cert.DownWgradIdeal.main_arg1)) →
    ∃ (v0 : (c : Dev Cert.DownWgradIdeal.nD) → Buf (Elt Ideal) ((c.tc : Thread Cert.DownWgradIdeal.nD Cert.DownWgradIdeal.τ).loc Cert.DownWgradIdeal.main_v3)),
      θ_run (Cert.DownWgradIdeal.defs (F := Ideal)) (onTc (τ := Cert.DownWgradIdeal.τ) (Cert.DownWgradIdeal.main (F := Ideal))) ⟨m, fun _ => 0, g⟩ (fun r => ∀ c : Dev Cert.DownWgradIdeal.nD,
          r.2.mem ((c.tc : Thread Cert.DownWgradIdeal.nD Cert.DownWgradIdeal.τ).loc Cert.DownWgradIdeal.main_v3) = v0 c
          ∧ r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
          ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ θ_run (Cert.DownWgradRefIdeal.defs (F := Ideal)) (onTc (τ := Cert.DownWgradRefIdeal.τ) (Cert.DownWgradRefIdeal.main (F := Ideal))) ⟨m', fun _ => 0, g'⟩ (fun r => ∀ c : Dev Cert.DownWgradRefIdeal.nD,
          r.2.mem ((c.tc : Thread Cert.DownWgradRefIdeal.nD Cert.DownWgradRefIdeal.τ).loc Cert.DownWgradRefIdeal.main_v7) = v0 c
          ∧ r.2.mem ((c.tc : Thread Cert.DownWgradRefIdeal.nD Cert.DownWgradRefIdeal.τ).loc Cert.DownWgradRefIdeal.main_arg0) = m' ((c.tc : Thread Cert.DownWgradRefIdeal.nD Cert.DownWgradRefIdeal.τ).loc Cert.DownWgradRefIdeal.main_arg0)
          ∧ r.2.mem ((c.tc : Thread Cert.DownWgradRefIdeal.nD Cert.DownWgradRefIdeal.τ).loc Cert.DownWgradRefIdeal.main_arg1) = m' ((c.tc : Thread Cert.DownWgradRefIdeal.nD Cert.DownWgradRefIdeal.τ).loc Cert.DownWgradRefIdeal.main_arg1))

def preserves_UpDgrad_UpDgradIdeal : Prop :=
  True

def algebraic_UpDgradIdeal_UpDgradRefIdeal [hUpDgradIdeal : Cert.UpDgradIdeal.Facts] [hUpDgradRefIdeal : Cert.UpDgradRefIdeal.Facts] : Prop :=
  ∀ (m : (ℓ : Loc Cert.UpDgradIdeal.nD Cert.UpDgradIdeal.τ Cert.UpDgradIdeal.sig) → Buf (Elt Ideal) ℓ) (g : Dev Cert.UpDgradIdeal.nD → PrngReg)
    (m' : (ℓ : Loc Cert.UpDgradRefIdeal.nD Cert.UpDgradRefIdeal.τ Cert.UpDgradRefIdeal.sig) → Buf (Elt Ideal) ℓ) (g' : Dev Cert.UpDgradRefIdeal.nD → PrngReg), Pre_UpDgradIdeal m →
    (∀ c : Dev Cert.UpDgradIdeal.nD,
      m' ((c.tc : Thread Cert.UpDgradRefIdeal.nD Cert.UpDgradRefIdeal.τ).loc Cert.UpDgradRefIdeal.main_arg0) = m ((c.tc : Thread Cert.UpDgradIdeal.nD Cert.UpDgradIdeal.τ).loc Cert.UpDgradIdeal.main_arg0)
      ∧ m' ((c.tc : Thread Cert.UpDgradRefIdeal.nD Cert.UpDgradRefIdeal.τ).loc Cert.UpDgradRefIdeal.main_arg1) = m ((c.tc : Thread Cert.UpDgradIdeal.nD Cert.UpDgradIdeal.τ).loc Cert.UpDgradIdeal.main_arg1)) →
    ∃ (v0 : (c : Dev Cert.UpDgradIdeal.nD) → Buf (Elt Ideal) ((c.tc : Thread Cert.UpDgradIdeal.nD Cert.UpDgradIdeal.τ).loc Cert.UpDgradIdeal.main_v0)),
      θ_run (Cert.UpDgradIdeal.defs (F := Ideal)) (onTc (τ := Cert.UpDgradIdeal.τ) (Cert.UpDgradIdeal.main (F := Ideal))) ⟨m, fun _ => 0, g⟩ (fun r => ∀ c : Dev Cert.UpDgradIdeal.nD,
          r.2.mem ((c.tc : Thread Cert.UpDgradIdeal.nD Cert.UpDgradIdeal.τ).loc Cert.UpDgradIdeal.main_v0) = v0 c
          ∧ r.2.mem ((c.tc : Thread Cert.UpDgradIdeal.nD Cert.UpDgradIdeal.τ).loc Cert.UpDgradIdeal.main_arg0) = m ((c.tc : Thread Cert.UpDgradIdeal.nD Cert.UpDgradIdeal.τ).loc Cert.UpDgradIdeal.main_arg0)
          ∧ r.2.mem ((c.tc : Thread Cert.UpDgradIdeal.nD Cert.UpDgradIdeal.τ).loc Cert.UpDgradIdeal.main_arg1) = m ((c.tc : Thread Cert.UpDgradIdeal.nD Cert.UpDgradIdeal.τ).loc Cert.UpDgradIdeal.main_arg1))
      ∧ θ_run (Cert.UpDgradRefIdeal.defs (F := Ideal)) (onTc (τ := Cert.UpDgradRefIdeal.τ) (Cert.UpDgradRefIdeal.main (F := Ideal))) ⟨m', fun _ => 0, g'⟩ (fun r => ∀ c : Dev Cert.UpDgradRefIdeal.nD,
          r.2.mem ((c.tc : Thread Cert.UpDgradRefIdeal.nD Cert.UpDgradRefIdeal.τ).loc Cert.UpDgradRefIdeal.main_v4) = v0 c
          ∧ r.2.mem ((c.tc : Thread Cert.UpDgradRefIdeal.nD Cert.UpDgradRefIdeal.τ).loc Cert.UpDgradRefIdeal.main_arg0) = m' ((c.tc : Thread Cert.UpDgradRefIdeal.nD Cert.UpDgradRefIdeal.τ).loc Cert.UpDgradRefIdeal.main_arg0)
          ∧ r.2.mem ((c.tc : Thread Cert.UpDgradRefIdeal.nD Cert.UpDgradRefIdeal.τ).loc Cert.UpDgradRefIdeal.main_arg1) = m' ((c.tc : Thread Cert.UpDgradRefIdeal.nD Cert.UpDgradRefIdeal.τ).loc Cert.UpDgradRefIdeal.main_arg1))

def preserves_UpWgrad_UpWgradIdeal : Prop :=
  True

def algebraic_UpWgradIdeal_UpWgradRefIdeal [hUpWgradIdeal : Cert.UpWgradIdeal.Facts] [hUpWgradRefIdeal : Cert.UpWgradRefIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg)
    (m' : (ℓ : Loc Cert.UpWgradRefIdeal.nD Cert.UpWgradRefIdeal.τ Cert.UpWgradRefIdeal.sig) → Buf (Elt Ideal) ℓ) (g' : Dev Cert.UpWgradRefIdeal.nD → PrngReg), Pre_UpWgradIdeal m →
    (∀ c : Dev Cert.UpWgradIdeal.nD,
      m' ((c.tc : Thread Cert.UpWgradRefIdeal.nD Cert.UpWgradRefIdeal.τ).loc Cert.UpWgradRefIdeal.main_arg0) = m ((c.tc : Thread Cert.UpWgradIdeal.nD Cert.UpWgradIdeal.τ).loc Cert.UpWgradIdeal.main_arg0)
      ∧ m' ((c.tc : Thread Cert.UpWgradRefIdeal.nD Cert.UpWgradRefIdeal.τ).loc Cert.UpWgradRefIdeal.main_arg1) = m ((c.tc : Thread Cert.UpWgradIdeal.nD Cert.UpWgradIdeal.τ).loc Cert.UpWgradIdeal.main_arg1)) →
    ∃ (v0 : (c : Dev Cert.UpWgradIdeal.nD) → Buf (Elt Ideal) ((c.tc : Thread Cert.UpWgradIdeal.nD Cert.UpWgradIdeal.τ).loc Cert.UpWgradIdeal.main_v0)),
      θ_run (Cert.UpWgradIdeal.defs (F := Ideal)) (onTc (τ := Cert.UpWgradIdeal.τ) (Cert.UpWgradIdeal.main (F := Ideal))) ⟨m, fun _ => 0, g⟩ (fun r => ∀ c : Dev Cert.UpWgradIdeal.nD,
          r.2.mem ((c.tc : Thread Cert.UpWgradIdeal.nD Cert.UpWgradIdeal.τ).loc Cert.UpWgradIdeal.main_v0) = v0 c
          ∧ r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
          ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1))
      ∧ θ_run (Cert.UpWgradRefIdeal.defs (F := Ideal)) (onTc (τ := Cert.UpWgradRefIdeal.τ) (Cert.UpWgradRefIdeal.main (F := Ideal))) ⟨m', fun _ => 0, g'⟩ (fun r => ∀ c : Dev Cert.UpWgradRefIdeal.nD,
          r.2.mem ((c.tc : Thread Cert.UpWgradRefIdeal.nD Cert.UpWgradRefIdeal.τ).loc Cert.UpWgradRefIdeal.main_v6) = v0 c
          ∧ r.2.mem ((c.tc : Thread Cert.UpWgradRefIdeal.nD Cert.UpWgradRefIdeal.τ).loc Cert.UpWgradRefIdeal.main_arg0) = m' ((c.tc : Thread Cert.UpWgradRefIdeal.nD Cert.UpWgradRefIdeal.τ).loc Cert.UpWgradRefIdeal.main_arg0)
          ∧ r.2.mem ((c.tc : Thread Cert.UpWgradRefIdeal.nD Cert.UpWgradRefIdeal.τ).loc Cert.UpWgradRefIdeal.main_arg1) = m' ((c.tc : Thread Cert.UpWgradRefIdeal.nD Cert.UpWgradRefIdeal.τ).loc Cert.UpWgradRefIdeal.main_arg1))

def preserves_OutDgrad_OutDgradIdeal : Prop :=
  True

def algebraic_OutDgradIdeal_OutDgradRefIdeal [hOutDgradIdeal : Cert.OutDgradIdeal.Facts] [hOutDgradRefIdeal : Cert.OutDgradRefIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg)
    (m' : (ℓ : Loc Cert.OutDgradRefIdeal.nD Cert.OutDgradRefIdeal.τ Cert.OutDgradRefIdeal.sig) → Buf (Elt Ideal) ℓ) (g' : Dev Cert.OutDgradRefIdeal.nD → PrngReg), Pre_OutDgradIdeal m →
    (∀ c : Dev Cert.OutDgradIdeal.nD,
      m' ((c.tc : Thread Cert.OutDgradRefIdeal.nD Cert.OutDgradRefIdeal.τ).loc Cert.OutDgradRefIdeal.main_arg0) = m ((c.tc : Thread Cert.OutDgradIdeal.nD Cert.OutDgradIdeal.τ).loc Cert.OutDgradIdeal.main_arg0)
      ∧ m' ((c.tc : Thread Cert.OutDgradRefIdeal.nD Cert.OutDgradRefIdeal.τ).loc Cert.OutDgradRefIdeal.main_arg1) = m ((c.tc : Thread Cert.OutDgradIdeal.nD Cert.OutDgradIdeal.τ).loc Cert.OutDgradIdeal.main_arg1)) →
    ∃ (v0 : (c : Dev Cert.OutDgradIdeal.nD) → Buf (Elt Ideal) ((c.tc : Thread Cert.OutDgradIdeal.nD Cert.OutDgradIdeal.τ).loc Cert.OutDgradIdeal.main_v0)),
      θ_run (Cert.OutDgradIdeal.defs (F := Ideal)) (onTc (τ := Cert.OutDgradIdeal.τ) (Cert.OutDgradIdeal.main (F := Ideal))) ⟨m, fun _ => 0, g⟩ (fun r => ∀ c : Dev Cert.OutDgradIdeal.nD,
          r.2.mem ((c.tc : Thread Cert.OutDgradIdeal.nD Cert.OutDgradIdeal.τ).loc Cert.OutDgradIdeal.main_v0) = v0 c
          ∧ r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
          ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1))
      ∧ θ_run (Cert.OutDgradRefIdeal.defs (F := Ideal)) (onTc (τ := Cert.OutDgradRefIdeal.τ) (Cert.OutDgradRefIdeal.main (F := Ideal))) ⟨m', fun _ => 0, g'⟩ (fun r => ∀ c : Dev Cert.OutDgradRefIdeal.nD,
          r.2.mem ((c.tc : Thread Cert.OutDgradRefIdeal.nD Cert.OutDgradRefIdeal.τ).loc Cert.OutDgradRefIdeal.main_v4) = v0 c
          ∧ r.2.mem ((c.tc : Thread Cert.OutDgradRefIdeal.nD Cert.OutDgradRefIdeal.τ).loc Cert.OutDgradRefIdeal.main_arg0) = m' ((c.tc : Thread Cert.OutDgradRefIdeal.nD Cert.OutDgradRefIdeal.τ).loc Cert.OutDgradRefIdeal.main_arg0)
          ∧ r.2.mem ((c.tc : Thread Cert.OutDgradRefIdeal.nD Cert.OutDgradRefIdeal.τ).loc Cert.OutDgradRefIdeal.main_arg1) = m' ((c.tc : Thread Cert.OutDgradRefIdeal.nD Cert.OutDgradRefIdeal.τ).loc Cert.OutDgradRefIdeal.main_arg1))

def preserves_OutWgrad_OutWgradIdeal : Prop :=
  True

def algebraic_OutWgradIdeal_OutWgradRefIdeal [hOutWgradIdeal : Cert.OutWgradIdeal.Facts] [hOutWgradRefIdeal : Cert.OutWgradRefIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutWgradRefIdeal.nD Cert.OutWgradRefIdeal.τ Cert.OutWgradRefIdeal.sig) → Buf (Elt Ideal) ℓ) (g' : Dev Cert.OutWgradRefIdeal.nD → PrngReg), Pre_OutWgradIdeal m →
    (∀ c : Dev Cert.OutWgradIdeal.nD,
      m' ((c.tc : Thread Cert.OutWgradRefIdeal.nD Cert.OutWgradRefIdeal.τ).loc Cert.OutWgradRefIdeal.main_arg0) = m ((c.tc : Thread Cert.OutWgradIdeal.nD Cert.OutWgradIdeal.τ).loc Cert.OutWgradIdeal.main_arg0)
      ∧ m' ((c.tc : Thread Cert.OutWgradRefIdeal.nD Cert.OutWgradRefIdeal.τ).loc Cert.OutWgradRefIdeal.main_arg1) = m ((c.tc : Thread Cert.OutWgradIdeal.nD Cert.OutWgradIdeal.τ).loc Cert.OutWgradIdeal.main_arg1)) →
    ∃ (v0 : (c : Dev Cert.OutWgradIdeal.nD) → Buf (Elt Ideal) ((c.tc : Thread Cert.OutWgradIdeal.nD Cert.OutWgradIdeal.τ).loc Cert.OutWgradIdeal.main_v0)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v0) = v0 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ θ_run (Cert.OutWgradRefIdeal.defs (F := Ideal)) (onTc (τ := Cert.OutWgradRefIdeal.τ) (Cert.OutWgradRefIdeal.main (F := Ideal))) ⟨m', fun _ => 0, g'⟩ (fun r => ∀ c : Dev Cert.OutWgradRefIdeal.nD,
          r.2.mem ((c.tc : Thread Cert.OutWgradRefIdeal.nD Cert.OutWgradRefIdeal.τ).loc Cert.OutWgradRefIdeal.main_v6) = v0 c
          ∧ r.2.mem ((c.tc : Thread Cert.OutWgradRefIdeal.nD Cert.OutWgradRefIdeal.τ).loc Cert.OutWgradRefIdeal.main_arg0) = m' ((c.tc : Thread Cert.OutWgradRefIdeal.nD Cert.OutWgradRefIdeal.τ).loc Cert.OutWgradRefIdeal.main_arg0)
          ∧ r.2.mem ((c.tc : Thread Cert.OutWgradRefIdeal.nD Cert.OutWgradRefIdeal.τ).loc Cert.OutWgradRefIdeal.main_arg1) = m' ((c.tc : Thread Cert.OutWgradRefIdeal.nD Cert.OutWgradRefIdeal.τ).loc Cert.OutWgradRefIdeal.main_arg1))

def preserves_InWgrad_InWgradIdeal : Prop :=
  True

def algebraic_InWgradIdeal_InWgradRefIdeal [hInWgradIdeal : Cert.InWgradIdeal.Facts] [hInWgradRefIdeal : Cert.InWgradRefIdeal.Facts] : Prop :=
  ∀ (m : (ℓ : Loc Cert.InWgradIdeal.nD Cert.InWgradIdeal.τ Cert.InWgradIdeal.sig) → Buf (Elt Ideal) ℓ) (g : Dev Cert.InWgradIdeal.nD → PrngReg)
    (m' : (ℓ : Loc Cert.InWgradRefIdeal.nD Cert.InWgradRefIdeal.τ Cert.InWgradRefIdeal.sig) → Buf (Elt Ideal) ℓ) (g' : Dev Cert.InWgradRefIdeal.nD → PrngReg), Pre_InWgradIdeal m →
    (∀ c : Dev Cert.InWgradIdeal.nD,
      m' ((c.tc : Thread Cert.InWgradRefIdeal.nD Cert.InWgradRefIdeal.τ).loc Cert.InWgradRefIdeal.main_arg0) = m ((c.tc : Thread Cert.InWgradIdeal.nD Cert.InWgradIdeal.τ).loc Cert.InWgradIdeal.main_arg0)
      ∧ m' ((c.tc : Thread Cert.InWgradRefIdeal.nD Cert.InWgradRefIdeal.τ).loc Cert.InWgradRefIdeal.main_arg1) = m ((c.tc : Thread Cert.InWgradIdeal.nD Cert.InWgradIdeal.τ).loc Cert.InWgradIdeal.main_arg1)) →
    ∃ (v0 : (c : Dev Cert.InWgradIdeal.nD) → Buf (Elt Ideal) ((c.tc : Thread Cert.InWgradIdeal.nD Cert.InWgradIdeal.τ).loc Cert.InWgradIdeal.main_v0)),
      θ_run (Cert.InWgradIdeal.defs (F := Ideal)) (onTc (τ := Cert.InWgradIdeal.τ) (Cert.InWgradIdeal.main (F := Ideal))) ⟨m, fun _ => 0, g⟩ (fun r => ∀ c : Dev Cert.InWgradIdeal.nD,
          r.2.mem ((c.tc : Thread Cert.InWgradIdeal.nD Cert.InWgradIdeal.τ).loc Cert.InWgradIdeal.main_v0) = v0 c
          ∧ r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
          ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1))
      ∧ θ_run (Cert.InWgradRefIdeal.defs (F := Ideal)) (onTc (τ := Cert.InWgradRefIdeal.τ) (Cert.InWgradRefIdeal.main (F := Ideal))) ⟨m', fun _ => 0, g'⟩ (fun r => ∀ c : Dev Cert.InWgradRefIdeal.nD,
          r.2.mem ((c.tc : Thread Cert.InWgradRefIdeal.nD Cert.InWgradRefIdeal.τ).loc Cert.InWgradRefIdeal.main_v7) = v0 c
          ∧ r.2.mem ((c.tc : Thread Cert.InWgradRefIdeal.nD Cert.InWgradRefIdeal.τ).loc Cert.InWgradRefIdeal.main_arg0) = m' ((c.tc : Thread Cert.InWgradRefIdeal.nD Cert.InWgradRefIdeal.τ).loc Cert.InWgradRefIdeal.main_arg0)
          ∧ r.2.mem ((c.tc : Thread Cert.InWgradRefIdeal.nD Cert.InWgradRefIdeal.τ).loc Cert.InWgradRefIdeal.main_arg1) = m' ((c.tc : Thread Cert.InWgradRefIdeal.nD Cert.InWgradRefIdeal.τ).loc Cert.InWgradRefIdeal.main_arg1))

def preserves_InDgrad_InDgradIdeal : Prop :=
  True

def algebraic_InDgradIdeal_InDgradRefIdeal [hInDgradIdeal : Cert.InDgradIdeal.Facts] [hInDgradRefIdeal : Cert.InDgradRefIdeal.Facts] : Prop :=
  ∀ (m : (ℓ : Loc Cert.InDgradIdeal.nD Cert.InDgradIdeal.τ Cert.InDgradIdeal.sig) → Buf (Elt Ideal) ℓ) (g : Dev Cert.InDgradIdeal.nD → PrngReg)
    (m' : (ℓ : Loc Cert.InDgradRefIdeal.nD Cert.InDgradRefIdeal.τ Cert.InDgradRefIdeal.sig) → Buf (Elt Ideal) ℓ) (g' : Dev Cert.InDgradRefIdeal.nD → PrngReg), Pre_InDgradIdeal m →
    (∀ c : Dev Cert.InDgradIdeal.nD,
      m' ((c.tc : Thread Cert.InDgradRefIdeal.nD Cert.InDgradRefIdeal.τ).loc Cert.InDgradRefIdeal.main_arg0) = m ((c.tc : Thread Cert.InDgradIdeal.nD Cert.InDgradIdeal.τ).loc Cert.InDgradIdeal.main_arg0)
      ∧ m' ((c.tc : Thread Cert.InDgradRefIdeal.nD Cert.InDgradRefIdeal.τ).loc Cert.InDgradRefIdeal.main_arg1) = m ((c.tc : Thread Cert.InDgradIdeal.nD Cert.InDgradIdeal.τ).loc Cert.InDgradIdeal.main_arg1)
      ∧ m' ((c.tc : Thread Cert.InDgradRefIdeal.nD Cert.InDgradRefIdeal.τ).loc Cert.InDgradRefIdeal.main_arg2) = m ((c.tc : Thread Cert.InDgradIdeal.nD Cert.InDgradIdeal.τ).loc Cert.InDgradIdeal.main_arg2)) →
    ∃ (v0 : (c : Dev Cert.InDgradIdeal.nD) → Buf (Elt Ideal) ((c.tc : Thread Cert.InDgradIdeal.nD Cert.InDgradIdeal.τ).loc Cert.InDgradIdeal.main_v0)),
      θ_run (Cert.InDgradIdeal.defs (F := Ideal)) (onTc (τ := Cert.InDgradIdeal.τ) (Cert.InDgradIdeal.main (F := Ideal))) ⟨m, fun _ => 0, g⟩ (fun r => ∀ c : Dev Cert.InDgradIdeal.nD,
          r.2.mem ((c.tc : Thread Cert.InDgradIdeal.nD Cert.InDgradIdeal.τ).loc Cert.InDgradIdeal.main_v0) = v0 c
          ∧ r.2.mem ((c.tc : Thread Cert.InDgradIdeal.nD Cert.InDgradIdeal.τ).loc Cert.InDgradIdeal.main_arg0) = m ((c.tc : Thread Cert.InDgradIdeal.nD Cert.InDgradIdeal.τ).loc Cert.InDgradIdeal.main_arg0)
          ∧ r.2.mem ((c.tc : Thread Cert.InDgradIdeal.nD Cert.InDgradIdeal.τ).loc Cert.InDgradIdeal.main_arg1) = m ((c.tc : Thread Cert.InDgradIdeal.nD Cert.InDgradIdeal.τ).loc Cert.InDgradIdeal.main_arg1)
          ∧ r.2.mem ((c.tc : Thread Cert.InDgradIdeal.nD Cert.InDgradIdeal.τ).loc Cert.InDgradIdeal.main_arg2) = m ((c.tc : Thread Cert.InDgradIdeal.nD Cert.InDgradIdeal.τ).loc Cert.InDgradIdeal.main_arg2))
      ∧ θ_run (Cert.InDgradRefIdeal.defs (F := Ideal)) (onTc (τ := Cert.InDgradRefIdeal.τ) (Cert.InDgradRefIdeal.main (F := Ideal))) ⟨m', fun _ => 0, g'⟩ (fun r => ∀ c : Dev Cert.InDgradRefIdeal.nD,
          r.2.mem ((c.tc : Thread Cert.InDgradRefIdeal.nD Cert.InDgradRefIdeal.τ).loc Cert.InDgradRefIdeal.main_v5) = v0 c
          ∧ r.2.mem ((c.tc : Thread Cert.InDgradRefIdeal.nD Cert.InDgradRefIdeal.τ).loc Cert.InDgradRefIdeal.main_arg0) = m' ((c.tc : Thread Cert.InDgradRefIdeal.nD Cert.InDgradRefIdeal.τ).loc Cert.InDgradRefIdeal.main_arg0)
          ∧ r.2.mem ((c.tc : Thread Cert.InDgradRefIdeal.nD Cert.InDgradRefIdeal.τ).loc Cert.InDgradRefIdeal.main_arg1) = m' ((c.tc : Thread Cert.InDgradRefIdeal.nD Cert.InDgradRefIdeal.τ).loc Cert.InDgradRefIdeal.main_arg1)
          ∧ r.2.mem ((c.tc : Thread Cert.InDgradRefIdeal.nD Cert.InDgradRefIdeal.τ).loc Cert.InDgradRefIdeal.main_arg2) = m' ((c.tc : Thread Cert.InDgradRefIdeal.nD Cert.InDgradRefIdeal.τ).loc Cert.InDgradRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_v5) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_InRkv_InRkvIdeal : Prop :=
  True

def algebraic_InRkvIdeal_InRkvRefIdeal [hInRkvIdeal : Cert.InRkvIdeal.Facts] [hInRkvRefIdeal : Cert.InRkvRefIdeal.Facts] : Prop :=
  ∀ (m : (ℓ : Loc Cert.InRkvIdeal.nD Cert.InRkvIdeal.τ Cert.InRkvIdeal.sig) → Buf (Elt Ideal) ℓ) (g : Dev Cert.InRkvIdeal.nD → PrngReg)
    (m' : (ℓ : Loc Cert.InRkvRefIdeal.nD Cert.InRkvRefIdeal.τ Cert.InRkvRefIdeal.sig) → Buf (Elt Ideal) ℓ) (g' : Dev Cert.InRkvRefIdeal.nD → PrngReg), Pre_InRkvIdeal m →
    (∀ c : Dev Cert.InRkvIdeal.nD,
      m' ((c.tc : Thread Cert.InRkvRefIdeal.nD Cert.InRkvRefIdeal.τ).loc Cert.InRkvRefIdeal.main_arg0) = m ((c.tc : Thread Cert.InRkvIdeal.nD Cert.InRkvIdeal.τ).loc Cert.InRkvIdeal.main_arg0)
      ∧ m' ((c.tc : Thread Cert.InRkvRefIdeal.nD Cert.InRkvRefIdeal.τ).loc Cert.InRkvRefIdeal.main_arg1) = m ((c.tc : Thread Cert.InRkvIdeal.nD Cert.InRkvIdeal.τ).loc Cert.InRkvIdeal.main_arg1)) →
    ∃ (v0 : (c : Dev Cert.InRkvIdeal.nD) → Buf (Elt Ideal) ((c.tc : Thread Cert.InRkvIdeal.nD Cert.InRkvIdeal.τ).loc Cert.InRkvIdeal.main_v1)),
      θ_run (Cert.InRkvIdeal.defs (F := Ideal)) (onTc (τ := Cert.InRkvIdeal.τ) (Cert.InRkvIdeal.main (F := Ideal))) ⟨m, fun _ => 0, g⟩ (fun r => ∀ c : Dev Cert.InRkvIdeal.nD,
          r.2.mem ((c.tc : Thread Cert.InRkvIdeal.nD Cert.InRkvIdeal.τ).loc Cert.InRkvIdeal.main_v1) = v0 c
          ∧ r.2.mem ((c.tc : Thread Cert.InRkvIdeal.nD Cert.InRkvIdeal.τ).loc Cert.InRkvIdeal.main_arg0) = m ((c.tc : Thread Cert.InRkvIdeal.nD Cert.InRkvIdeal.τ).loc Cert.InRkvIdeal.main_arg0)
          ∧ r.2.mem ((c.tc : Thread Cert.InRkvIdeal.nD Cert.InRkvIdeal.τ).loc Cert.InRkvIdeal.main_arg1) = m ((c.tc : Thread Cert.InRkvIdeal.nD Cert.InRkvIdeal.τ).loc Cert.InRkvIdeal.main_arg1))
      ∧ θ_run (Cert.InRkvRefIdeal.defs (F := Ideal)) (onTc (τ := Cert.InRkvRefIdeal.τ) (Cert.InRkvRefIdeal.main (F := Ideal))) ⟨m', fun _ => 0, g'⟩ (fun r => ∀ c : Dev Cert.InRkvRefIdeal.nD,
          r.2.mem ((c.tc : Thread Cert.InRkvRefIdeal.nD Cert.InRkvRefIdeal.τ).loc Cert.InRkvRefIdeal.main_v4) = v0 c
          ∧ r.2.mem ((c.tc : Thread Cert.InRkvRefIdeal.nD Cert.InRkvRefIdeal.τ).loc Cert.InRkvRefIdeal.main_arg0) = m' ((c.tc : Thread Cert.InRkvRefIdeal.nD Cert.InRkvRefIdeal.τ).loc Cert.InRkvRefIdeal.main_arg0)
          ∧ r.2.mem ((c.tc : Thread Cert.InRkvRefIdeal.nD Cert.InRkvRefIdeal.τ).loc Cert.InRkvRefIdeal.main_arg1) = m' ((c.tc : Thread Cert.InRkvRefIdeal.nD Cert.InRkvRefIdeal.τ).loc Cert.InRkvRefIdeal.main_arg1))

def preserves_InLora_InLoraIdeal : Prop :=
  True

def algebraic_InLoraIdeal_InLoraRefIdeal [hInLoraIdeal : Cert.InLoraIdeal.Facts] [hInLoraRefIdeal : Cert.InLoraRefIdeal.Facts] : Prop :=
  ∀ (m : (ℓ : Loc Cert.InLoraIdeal.nD Cert.InLoraIdeal.τ Cert.InLoraIdeal.sig) → Buf (Elt Ideal) ℓ) (g : Dev Cert.InLoraIdeal.nD → PrngReg)
    (m' : (ℓ : Loc Cert.InLoraRefIdeal.nD Cert.InLoraRefIdeal.τ Cert.InLoraRefIdeal.sig) → Buf (Elt Ideal) ℓ) (g' : Dev Cert.InLoraRefIdeal.nD → PrngReg), Pre_InLoraIdeal m →
    (∀ c : Dev Cert.InLoraIdeal.nD,
      m' ((c.tc : Thread Cert.InLoraRefIdeal.nD Cert.InLoraRefIdeal.τ).loc Cert.InLoraRefIdeal.main_arg0) = m ((c.tc : Thread Cert.InLoraIdeal.nD Cert.InLoraIdeal.τ).loc Cert.InLoraIdeal.main_arg0)
      ∧ m' ((c.tc : Thread Cert.InLoraRefIdeal.nD Cert.InLoraRefIdeal.τ).loc Cert.InLoraRefIdeal.main_arg1) = m ((c.tc : Thread Cert.InLoraIdeal.nD Cert.InLoraIdeal.τ).loc Cert.InLoraIdeal.main_arg1)) →
    ∃ (v0 : (c : Dev Cert.InLoraIdeal.nD) → Buf (Elt Ideal) ((c.tc : Thread Cert.InLoraIdeal.nD Cert.InLoraIdeal.τ).loc Cert.InLoraIdeal.main_v1)),
      θ_run (Cert.InLoraIdeal.defs (F := Ideal)) (onTc (τ := Cert.InLoraIdeal.τ) (Cert.InLoraIdeal.main (F := Ideal))) ⟨m, fun _ => 0, g⟩ (fun r => ∀ c : Dev Cert.InLoraIdeal.nD,
          r.2.mem ((c.tc : Thread Cert.InLoraIdeal.nD Cert.InLoraIdeal.τ).loc Cert.InLoraIdeal.main_v1) = v0 c
          ∧ r.2.mem ((c.tc : Thread Cert.InLoraIdeal.nD Cert.InLoraIdeal.τ).loc Cert.InLoraIdeal.main_arg0) = m ((c.tc : Thread Cert.InLoraIdeal.nD Cert.InLoraIdeal.τ).loc Cert.InLoraIdeal.main_arg0)
          ∧ r.2.mem ((c.tc : Thread Cert.InLoraIdeal.nD Cert.InLoraIdeal.τ).loc Cert.InLoraIdeal.main_arg1) = m ((c.tc : Thread Cert.InLoraIdeal.nD Cert.InLoraIdeal.τ).loc Cert.InLoraIdeal.main_arg1))
      ∧ θ_run (Cert.InLoraRefIdeal.defs (F := Ideal)) (onTc (τ := Cert.InLoraRefIdeal.τ) (Cert.InLoraRefIdeal.main (F := Ideal))) ⟨m', fun _ => 0, g'⟩ (fun r => ∀ c : Dev Cert.InLoraRefIdeal.nD,
          r.2.mem ((c.tc : Thread Cert.InLoraRefIdeal.nD Cert.InLoraRefIdeal.τ).loc Cert.InLoraRefIdeal.main_v4) = v0 c
          ∧ r.2.mem ((c.tc : Thread Cert.InLoraRefIdeal.nD Cert.InLoraRefIdeal.τ).loc Cert.InLoraRefIdeal.main_arg0) = m' ((c.tc : Thread Cert.InLoraRefIdeal.nD Cert.InLoraRefIdeal.τ).loc Cert.InLoraRefIdeal.main_arg0)
          ∧ r.2.mem ((c.tc : Thread Cert.InLoraRefIdeal.nD Cert.InLoraRefIdeal.τ).loc Cert.InLoraRefIdeal.main_arg1) = m' ((c.tc : Thread Cert.InLoraRefIdeal.nD Cert.InLoraRefIdeal.τ).loc Cert.InLoraRefIdeal.main_arg1))

def preserves_InQ_InQIdeal : Prop :=
  True

def algebraic_InQIdeal_InQRefIdeal [hInQIdeal : Cert.InQIdeal.Facts] [hInQRefIdeal : Cert.InQRefIdeal.Facts] : Prop :=
  ∀ (m : (ℓ : Loc Cert.InQIdeal.nD Cert.InQIdeal.τ Cert.InQIdeal.sig) → Buf (Elt Ideal) ℓ) (g : Dev Cert.InQIdeal.nD → PrngReg)
    (m' : (ℓ : Loc Cert.InQRefIdeal.nD Cert.InQRefIdeal.τ Cert.InQRefIdeal.sig) → Buf (Elt Ideal) ℓ) (g' : Dev Cert.InQRefIdeal.nD → PrngReg), Pre_InQIdeal m →
    (∀ c : Dev Cert.InQIdeal.nD,
      m' ((c.tc : Thread Cert.InQRefIdeal.nD Cert.InQRefIdeal.τ).loc Cert.InQRefIdeal.main_arg0) = m ((c.tc : Thread Cert.InQIdeal.nD Cert.InQIdeal.τ).loc Cert.InQIdeal.main_arg0)
      ∧ m' ((c.tc : Thread Cert.InQRefIdeal.nD Cert.InQRefIdeal.τ).loc Cert.InQRefIdeal.main_arg1) = m ((c.tc : Thread Cert.InQIdeal.nD Cert.InQIdeal.τ).loc Cert.InQIdeal.main_arg1)) →
    ∃ (v0 : (c : Dev Cert.InQIdeal.nD) → Buf (Elt Ideal) ((c.tc : Thread Cert.InQIdeal.nD Cert.InQIdeal.τ).loc Cert.InQIdeal.main_v1)),
      θ_run (Cert.InQIdeal.defs (F := Ideal)) (onTc (τ := Cert.InQIdeal.τ) (Cert.InQIdeal.main (F := Ideal))) ⟨m, fun _ => 0, g⟩ (fun r => ∀ c : Dev Cert.InQIdeal.nD,
          r.2.mem ((c.tc : Thread Cert.InQIdeal.nD Cert.InQIdeal.τ).loc Cert.InQIdeal.main_v1) = v0 c
          ∧ r.2.mem ((c.tc : Thread Cert.InQIdeal.nD Cert.InQIdeal.τ).loc Cert.InQIdeal.main_arg0) = m ((c.tc : Thread Cert.InQIdeal.nD Cert.InQIdeal.τ).loc Cert.InQIdeal.main_arg0)
          ∧ r.2.mem ((c.tc : Thread Cert.InQIdeal.nD Cert.InQIdeal.τ).loc Cert.InQIdeal.main_arg1) = m ((c.tc : Thread Cert.InQIdeal.nD Cert.InQIdeal.τ).loc Cert.InQIdeal.main_arg1))
      ∧ θ_run (Cert.InQRefIdeal.defs (F := Ideal)) (onTc (τ := Cert.InQRefIdeal.τ) (Cert.InQRefIdeal.main (F := Ideal))) ⟨m', fun _ => 0, g'⟩ (fun r => ∀ c : Dev Cert.InQRefIdeal.nD,
          r.2.mem ((c.tc : Thread Cert.InQRefIdeal.nD Cert.InQRefIdeal.τ).loc Cert.InQRefIdeal.main_v4) = v0 c
          ∧ r.2.mem ((c.tc : Thread Cert.InQRefIdeal.nD Cert.InQRefIdeal.τ).loc Cert.InQRefIdeal.main_arg0) = m' ((c.tc : Thread Cert.InQRefIdeal.nD Cert.InQRefIdeal.τ).loc Cert.InQRefIdeal.main_arg0)
          ∧ r.2.mem ((c.tc : Thread Cert.InQRefIdeal.nD Cert.InQRefIdeal.τ).loc Cert.InQRefIdeal.main_arg1) = m' ((c.tc : Thread Cert.InQRefIdeal.nD Cert.InQRefIdeal.τ).loc Cert.InQRefIdeal.main_arg1))

def preserves_InKv_InKvIdeal : Prop :=
  True

def algebraic_InKvIdeal_InKvRefIdeal [hInKvIdeal : Cert.InKvIdeal.Facts] [hInKvRefIdeal : Cert.InKvRefIdeal.Facts] : Prop :=
  ∀ (m : (ℓ : Loc Cert.InKvIdeal.nD Cert.InKvIdeal.τ Cert.InKvIdeal.sig) → Buf (Elt Ideal) ℓ) (g : Dev Cert.InKvIdeal.nD → PrngReg)
    (m' : (ℓ : Loc Cert.InKvRefIdeal.nD Cert.InKvRefIdeal.τ Cert.InKvRefIdeal.sig) → Buf (Elt Ideal) ℓ) (g' : Dev Cert.InKvRefIdeal.nD → PrngReg), Pre_InKvIdeal m →
    (∀ c : Dev Cert.InKvIdeal.nD,
      m' ((c.tc : Thread Cert.InKvRefIdeal.nD Cert.InKvRefIdeal.τ).loc Cert.InKvRefIdeal.main_arg0) = m ((c.tc : Thread Cert.InKvIdeal.nD Cert.InKvIdeal.τ).loc Cert.InKvIdeal.main_arg0)
      ∧ m' ((c.tc : Thread Cert.InKvRefIdeal.nD Cert.InKvRefIdeal.τ).loc Cert.InKvRefIdeal.main_arg1) = m ((c.tc : Thread Cert.InKvIdeal.nD Cert.InKvIdeal.τ).loc Cert.InKvIdeal.main_arg1)) →
    ∃ (v0 : (c : Dev Cert.InKvIdeal.nD) → Buf (Elt Ideal) ((c.tc : Thread Cert.InKvIdeal.nD Cert.InKvIdeal.τ).loc Cert.InKvIdeal.main_v1)),
      θ_run (Cert.InKvIdeal.defs (F := Ideal)) (onTc (τ := Cert.InKvIdeal.τ) (Cert.InKvIdeal.main (F := Ideal))) ⟨m, fun _ => 0, g⟩ (fun r => ∀ c : Dev Cert.InKvIdeal.nD,
          r.2.mem ((c.tc : Thread Cert.InKvIdeal.nD Cert.InKvIdeal.τ).loc Cert.InKvIdeal.main_v1) = v0 c
          ∧ r.2.mem ((c.tc : Thread Cert.InKvIdeal.nD Cert.InKvIdeal.τ).loc Cert.InKvIdeal.main_arg0) = m ((c.tc : Thread Cert.InKvIdeal.nD Cert.InKvIdeal.τ).loc Cert.InKvIdeal.main_arg0)
          ∧ r.2.mem ((c.tc : Thread Cert.InKvIdeal.nD Cert.InKvIdeal.τ).loc Cert.InKvIdeal.main_arg1) = m ((c.tc : Thread Cert.InKvIdeal.nD Cert.InKvIdeal.τ).loc Cert.InKvIdeal.main_arg1))
      ∧ θ_run (Cert.InKvRefIdeal.defs (F := Ideal)) (onTc (τ := Cert.InKvRefIdeal.τ) (Cert.InKvRefIdeal.main (F := Ideal))) ⟨m', fun _ => 0, g'⟩ (fun r => ∀ c : Dev Cert.InKvRefIdeal.nD,
          r.2.mem ((c.tc : Thread Cert.InKvRefIdeal.nD Cert.InKvRefIdeal.τ).loc Cert.InKvRefIdeal.main_v4) = v0 c
          ∧ r.2.mem ((c.tc : Thread Cert.InKvRefIdeal.nD Cert.InKvRefIdeal.τ).loc Cert.InKvRefIdeal.main_arg0) = m' ((c.tc : Thread Cert.InKvRefIdeal.nD Cert.InKvRefIdeal.τ).loc Cert.InKvRefIdeal.main_arg0)
          ∧ r.2.mem ((c.tc : Thread Cert.InKvRefIdeal.nD Cert.InKvRefIdeal.τ).loc Cert.InKvRefIdeal.main_arg1) = m' ((c.tc : Thread Cert.InKvRefIdeal.nD Cert.InKvRefIdeal.τ).loc Cert.InKvRefIdeal.main_arg1))

def preserves_Embed_EmbedIdeal : Prop :=
  True

def algebraic_EmbedIdeal_EmbedRefIdeal [hEmbedIdeal : Cert.EmbedIdeal.Facts] [hEmbedRefIdeal : Cert.EmbedRefIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedRefIdeal.nD Cert.EmbedRefIdeal.τ Cert.EmbedRefIdeal.sig) → Buf (Elt Ideal) ℓ) (g' : Dev Cert.EmbedRefIdeal.nD → PrngReg), Pre_EmbedIdeal m →
    (∀ c : Dev Cert.EmbedIdeal.nD,
      m' ((c.tc : Thread Cert.EmbedRefIdeal.nD Cert.EmbedRefIdeal.τ).loc Cert.EmbedRefIdeal.main_arg0) = m ((c.tc : Thread Cert.EmbedIdeal.nD Cert.EmbedIdeal.τ).loc Cert.EmbedIdeal.main_arg0)
      ∧ m' ((c.tc : Thread Cert.EmbedRefIdeal.nD Cert.EmbedRefIdeal.τ).loc Cert.EmbedRefIdeal.main_arg1) = m ((c.tc : Thread Cert.EmbedIdeal.nD Cert.EmbedIdeal.τ).loc Cert.EmbedIdeal.main_arg1)
      ∧ m' ((c.tc : Thread Cert.EmbedRefIdeal.nD Cert.EmbedRefIdeal.τ).loc Cert.EmbedRefIdeal.main_arg2) = m ((c.tc : Thread Cert.EmbedIdeal.nD Cert.EmbedIdeal.τ).loc Cert.EmbedIdeal.main_arg2)
      ∧ m' ((c.tc : Thread Cert.EmbedRefIdeal.nD Cert.EmbedRefIdeal.τ).loc Cert.EmbedRefIdeal.main_arg3) = m ((c.tc : Thread Cert.EmbedIdeal.nD Cert.EmbedIdeal.τ).loc Cert.EmbedIdeal.main_arg3)
      ∧ m' ((c.tc : Thread Cert.EmbedRefIdeal.nD Cert.EmbedRefIdeal.τ).loc Cert.EmbedRefIdeal.main_arg4) = m ((c.tc : Thread Cert.EmbedIdeal.nD Cert.EmbedIdeal.τ).loc Cert.EmbedIdeal.main_arg4)) →
    ∃ (v0 : (c : Dev Cert.EmbedIdeal.nD) → Buf (Elt Ideal) ((c.tc : Thread Cert.EmbedIdeal.nD Cert.EmbedIdeal.τ).loc Cert.EmbedIdeal.main_v0_0)) (v1 : (c : Dev Cert.EmbedIdeal.nD) → Buf (Elt Ideal) ((c.tc : Thread Cert.EmbedIdeal.nD Cert.EmbedIdeal.τ).loc Cert.EmbedIdeal.main_v0_1)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v0_0) = v0 c
          ∧ r.2.mem ((c.tc : Thread Cert.EmbedIdeal.nD Cert.EmbedIdeal.τ).loc Cert.EmbedIdeal.main_v0_1) = v1 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
          ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
          ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4))
      ∧ θ_run (Cert.EmbedRefIdeal.defs (F := Ideal)) (onTc (τ := Cert.EmbedRefIdeal.τ) (Cert.EmbedRefIdeal.main (F := Ideal))) ⟨m', fun _ => 0, g'⟩ (fun r => ∀ c : Dev Cert.EmbedRefIdeal.nD,
          r.2.mem ((c.tc : Thread Cert.EmbedRefIdeal.nD Cert.EmbedRefIdeal.τ).loc Cert.EmbedRefIdeal.main_v21) = v0 c
          ∧ r.2.mem ((c.tc : Thread Cert.EmbedRefIdeal.nD Cert.EmbedRefIdeal.τ).loc Cert.EmbedRefIdeal.main_v28) = v1 c
          ∧ r.2.mem ((c.tc : Thread Cert.EmbedRefIdeal.nD Cert.EmbedRefIdeal.τ).loc Cert.EmbedRefIdeal.main_arg0) = m' ((c.tc : Thread Cert.EmbedRefIdeal.nD Cert.EmbedRefIdeal.τ).loc Cert.EmbedRefIdeal.main_arg0)
          ∧ r.2.mem ((c.tc : Thread Cert.EmbedRefIdeal.nD Cert.EmbedRefIdeal.τ).loc Cert.EmbedRefIdeal.main_arg1) = m' ((c.tc : Thread Cert.EmbedRefIdeal.nD Cert.EmbedRefIdeal.τ).loc Cert.EmbedRefIdeal.main_arg1)
          ∧ r.2.mem ((c.tc : Thread Cert.EmbedRefIdeal.nD Cert.EmbedRefIdeal.τ).loc Cert.EmbedRefIdeal.main_arg2) = m' ((c.tc : Thread Cert.EmbedRefIdeal.nD Cert.EmbedRefIdeal.τ).loc Cert.EmbedRefIdeal.main_arg2)
          ∧ r.2.mem ((c.tc : Thread Cert.EmbedRefIdeal.nD Cert.EmbedRefIdeal.τ).loc Cert.EmbedRefIdeal.main_arg3) = m' ((c.tc : Thread Cert.EmbedRefIdeal.nD Cert.EmbedRefIdeal.τ).loc Cert.EmbedRefIdeal.main_arg3)
          ∧ r.2.mem ((c.tc : Thread Cert.EmbedRefIdeal.nD Cert.EmbedRefIdeal.τ).loc Cert.EmbedRefIdeal.main_arg4) = m' ((c.tc : Thread Cert.EmbedRefIdeal.nD Cert.EmbedRefIdeal.τ).loc Cert.EmbedRefIdeal.main_arg4))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v28) = v0 c
          ∧ r.2.mem ((c.tc : Thread Cert.PostRefIdeal.nD Cert.PostRefIdeal.τ).loc Cert.PostRefIdeal.main_v35) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v12) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamMod_AdamModIdeal : Prop :=
  True

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)
      ∧ m' ((c.tc : Thread Cert.AdamModRefIdeal.nD Cert.AdamModRefIdeal.τ).loc Cert.AdamModRefIdeal.main_arg4) = m ((c.tc : Thread Cert.AdamModIdeal.nD Cert.AdamModIdeal.τ).loc Cert.AdamModIdeal.main_arg4)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)) (v3 : (c : Dev Cert.AdamModIdeal.nD) → Buf (Elt Ideal) ((c.tc : Thread Cert.AdamModIdeal.nD Cert.AdamModIdeal.τ).loc Cert.AdamModIdeal.main_v0_3)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_v0_3) = v3 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3)
          ∧ r.2.mem ((c.tc : Thread Cert.AdamModIdeal.nD Cert.AdamModIdeal.τ).loc Cert.AdamModIdeal.main_arg4) = m ((c.tc : Thread Cert.AdamModIdeal.nD Cert.AdamModIdeal.τ).loc Cert.AdamModIdeal.main_arg4))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_v4) = v0 c
          ∧ r.2.mem ((c.tc : Thread Cert.AdamModRefIdeal.nD Cert.AdamModRefIdeal.τ).loc Cert.AdamModRefIdeal.main_v28) = v1 c
          ∧ r.2.mem ((c.tc : Thread Cert.AdamModRefIdeal.nD Cert.AdamModRefIdeal.τ).loc Cert.AdamModRefIdeal.main_v9) = v2 c
          ∧ r.2.mem ((c.tc : Thread Cert.AdamModRefIdeal.nD Cert.AdamModRefIdeal.τ).loc Cert.AdamModRefIdeal.main_v15) = v3 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3)
          ∧ r.2.mem ((c.tc : Thread Cert.AdamModRefIdeal.nD Cert.AdamModRefIdeal.τ).loc Cert.AdamModRefIdeal.main_arg4) = m' ((c.tc : Thread Cert.AdamModRefIdeal.nD Cert.AdamModRefIdeal.τ).loc Cert.AdamModRefIdeal.main_arg4))

def Claim : Prop :=
  ∃ (hKernel : Cert.Kernel.Facts) (hKernelIdeal : Cert.KernelIdeal.Facts) (hReferenceIdeal : Cert.ReferenceIdeal.Facts) (hAttention : Cert.Attention.Facts) (hAttentionIdeal : Cert.AttentionIdeal.Facts) (hAttentionRefIdeal : Cert.AttentionRefIdeal.Facts) (hDownDgrad : Cert.DownDgrad.Facts) (hDownDgradIdeal : Cert.DownDgradIdeal.Facts) (hDownDgradRefIdeal : Cert.DownDgradRefIdeal.Facts) (hDownWgrad : Cert.DownWgrad.Facts) (hDownWgradIdeal : Cert.DownWgradIdeal.Facts) (hDownWgradRefIdeal : Cert.DownWgradRefIdeal.Facts) (hUpDgrad : Cert.UpDgrad.Facts) (hUpDgradIdeal : Cert.UpDgradIdeal.Facts) (hUpDgradRefIdeal : Cert.UpDgradRefIdeal.Facts) (hUpWgrad : Cert.UpWgrad.Facts) (hUpWgradIdeal : Cert.UpWgradIdeal.Facts) (hUpWgradRefIdeal : Cert.UpWgradRefIdeal.Facts) (hOutDgrad : Cert.OutDgrad.Facts) (hOutDgradIdeal : Cert.OutDgradIdeal.Facts) (hOutDgradRefIdeal : Cert.OutDgradRefIdeal.Facts) (hOutWgrad : Cert.OutWgrad.Facts) (hOutWgradIdeal : Cert.OutWgradIdeal.Facts) (hOutWgradRefIdeal : Cert.OutWgradRefIdeal.Facts) (hInWgrad : Cert.InWgrad.Facts) (hInWgradIdeal : Cert.InWgradIdeal.Facts) (hInWgradRefIdeal : Cert.InWgradRefIdeal.Facts) (hInDgrad : Cert.InDgrad.Facts) (hInDgradIdeal : Cert.InDgradIdeal.Facts) (hInDgradRefIdeal : Cert.InDgradRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hInRkv : Cert.InRkv.Facts) (hInRkvIdeal : Cert.InRkvIdeal.Facts) (hInRkvRefIdeal : Cert.InRkvRefIdeal.Facts) (hInLora : Cert.InLora.Facts) (hInLoraIdeal : Cert.InLoraIdeal.Facts) (hInLoraRefIdeal : Cert.InLoraRefIdeal.Facts) (hInQ : Cert.InQ.Facts) (hInQIdeal : Cert.InQIdeal.Facts) (hInQRefIdeal : Cert.InQRefIdeal.Facts) (hInKv : Cert.InKv.Facts) (hInKvIdeal : Cert.InKvIdeal.Facts) (hInKvRefIdeal : Cert.InKvRefIdeal.Facts) (hEmbed : Cert.Embed.Facts) (hEmbedIdeal : Cert.EmbedIdeal.Facts) (hEmbedRefIdeal : Cert.EmbedRefIdeal.Facts) (hPost : Cert.Post.Facts) (hPostIdeal : Cert.PostIdeal.Facts) (hPostRefIdeal : Cert.PostRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamMod : Cert.AdamMod.Facts) (hAdamModIdeal : Cert.AdamModIdeal.Facts) (hAdamModRefIdeal : Cert.AdamModRefIdeal.Facts),
    quiescent_Kernel (hKernel := hKernel)
    ∧ quiescent_KernelIdeal (hKernelIdeal := hKernelIdeal)
    ∧ quiescent_ReferenceIdeal (hReferenceIdeal := hReferenceIdeal)
    ∧ quiescent_Attention (hAttention := hAttention)
    ∧ quiescent_AttentionIdeal (hAttentionIdeal := hAttentionIdeal)
    ∧ quiescent_AttentionRefIdeal (hAttentionRefIdeal := hAttentionRefIdeal)
    ∧ quiescent_DownDgrad (hDownDgrad := hDownDgrad)
    ∧ quiescent_DownDgradIdeal (hDownDgradIdeal := hDownDgradIdeal)
    ∧ quiescent_DownDgradRefIdeal (hDownDgradRefIdeal := hDownDgradRefIdeal)
    ∧ quiescent_DownWgrad (hDownWgrad := hDownWgrad)
    ∧ quiescent_DownWgradIdeal (hDownWgradIdeal := hDownWgradIdeal)
    ∧ quiescent_DownWgradRefIdeal (hDownWgradRefIdeal := hDownWgradRefIdeal)
    ∧ quiescent_UpDgrad (hUpDgrad := hUpDgrad)
    ∧ quiescent_UpDgradIdeal (hUpDgradIdeal := hUpDgradIdeal)
    ∧ quiescent_UpDgradRefIdeal (hUpDgradRefIdeal := hUpDgradRefIdeal)
    ∧ quiescent_UpWgrad (hUpWgrad := hUpWgrad)
    ∧ quiescent_UpWgradIdeal (hUpWgradIdeal := hUpWgradIdeal)
    ∧ quiescent_UpWgradRefIdeal (hUpWgradRefIdeal := hUpWgradRefIdeal)
    ∧ quiescent_OutDgrad (hOutDgrad := hOutDgrad)
    ∧ quiescent_OutDgradIdeal (hOutDgradIdeal := hOutDgradIdeal)
    ∧ quiescent_OutDgradRefIdeal (hOutDgradRefIdeal := hOutDgradRefIdeal)
    ∧ quiescent_OutWgrad (hOutWgrad := hOutWgrad)
    ∧ quiescent_OutWgradIdeal (hOutWgradIdeal := hOutWgradIdeal)
    ∧ quiescent_OutWgradRefIdeal (hOutWgradRefIdeal := hOutWgradRefIdeal)
    ∧ quiescent_InWgrad (hInWgrad := hInWgrad)
    ∧ quiescent_InWgradIdeal (hInWgradIdeal := hInWgradIdeal)
    ∧ quiescent_InWgradRefIdeal (hInWgradRefIdeal := hInWgradRefIdeal)
    ∧ quiescent_InDgrad (hInDgrad := hInDgrad)
    ∧ quiescent_InDgradIdeal (hInDgradIdeal := hInDgradIdeal)
    ∧ quiescent_InDgradRefIdeal (hInDgradRefIdeal := hInDgradRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_InRkv (hInRkv := hInRkv)
    ∧ quiescent_InRkvIdeal (hInRkvIdeal := hInRkvIdeal)
    ∧ quiescent_InRkvRefIdeal (hInRkvRefIdeal := hInRkvRefIdeal)
    ∧ quiescent_InLora (hInLora := hInLora)
    ∧ quiescent_InLoraIdeal (hInLoraIdeal := hInLoraIdeal)
    ∧ quiescent_InLoraRefIdeal (hInLoraRefIdeal := hInLoraRefIdeal)
    ∧ quiescent_InQ (hInQ := hInQ)
    ∧ quiescent_InQIdeal (hInQIdeal := hInQIdeal)
    ∧ quiescent_InQRefIdeal (hInQRefIdeal := hInQRefIdeal)
    ∧ quiescent_InKv (hInKv := hInKv)
    ∧ quiescent_InKvIdeal (hInKvIdeal := hInKvIdeal)
    ∧ quiescent_InKvRefIdeal (hInKvRefIdeal := hInKvRefIdeal)
    ∧ quiescent_Embed (hEmbed := hEmbed)
    ∧ quiescent_EmbedIdeal (hEmbedIdeal := hEmbedIdeal)
    ∧ quiescent_EmbedRefIdeal (hEmbedRefIdeal := hEmbedRefIdeal)
    ∧ quiescent_Post (hPost := hPost)
    ∧ quiescent_PostIdeal (hPostIdeal := hPostIdeal)
    ∧ quiescent_PostRefIdeal (hPostRefIdeal := hPostRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ preserves_Kernel_KernelIdeal
    ∧ algebraic_KernelIdeal_ReferenceIdeal (hKernelIdeal := hKernelIdeal) (hReferenceIdeal := hReferenceIdeal)
    ∧ preserves_Attention_AttentionIdeal
    ∧ algebraic_AttentionIdeal_AttentionRefIdeal (hAttentionIdeal := hAttentionIdeal) (hAttentionRefIdeal := hAttentionRefIdeal)
    ∧ preserves_DownDgrad_DownDgradIdeal
    ∧ algebraic_DownDgradIdeal_DownDgradRefIdeal (hDownDgradIdeal := hDownDgradIdeal) (hDownDgradRefIdeal := hDownDgradRefIdeal)
    ∧ preserves_DownWgrad_DownWgradIdeal
    ∧ algebraic_DownWgradIdeal_DownWgradRefIdeal (hDownWgradIdeal := hDownWgradIdeal) (hDownWgradRefIdeal := hDownWgradRefIdeal)
    ∧ preserves_UpDgrad_UpDgradIdeal
    ∧ algebraic_UpDgradIdeal_UpDgradRefIdeal (hUpDgradIdeal := hUpDgradIdeal) (hUpDgradRefIdeal := hUpDgradRefIdeal)
    ∧ preserves_UpWgrad_UpWgradIdeal
    ∧ algebraic_UpWgradIdeal_UpWgradRefIdeal (hUpWgradIdeal := hUpWgradIdeal) (hUpWgradRefIdeal := hUpWgradRefIdeal)
    ∧ preserves_OutDgrad_OutDgradIdeal
    ∧ algebraic_OutDgradIdeal_OutDgradRefIdeal (hOutDgradIdeal := hOutDgradIdeal) (hOutDgradRefIdeal := hOutDgradRefIdeal)
    ∧ preserves_OutWgrad_OutWgradIdeal
    ∧ algebraic_OutWgradIdeal_OutWgradRefIdeal (hOutWgradIdeal := hOutWgradIdeal) (hOutWgradRefIdeal := hOutWgradRefIdeal)
    ∧ preserves_InWgrad_InWgradIdeal
    ∧ algebraic_InWgradIdeal_InWgradRefIdeal (hInWgradIdeal := hInWgradIdeal) (hInWgradRefIdeal := hInWgradRefIdeal)
    ∧ preserves_InDgrad_InDgradIdeal
    ∧ algebraic_InDgradIdeal_InDgradRefIdeal (hInDgradIdeal := hInDgradIdeal) (hInDgradRefIdeal := hInDgradRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_InRkv_InRkvIdeal
    ∧ algebraic_InRkvIdeal_InRkvRefIdeal (hInRkvIdeal := hInRkvIdeal) (hInRkvRefIdeal := hInRkvRefIdeal)
    ∧ preserves_InLora_InLoraIdeal
    ∧ algebraic_InLoraIdeal_InLoraRefIdeal (hInLoraIdeal := hInLoraIdeal) (hInLoraRefIdeal := hInLoraRefIdeal)
    ∧ preserves_InQ_InQIdeal
    ∧ algebraic_InQIdeal_InQRefIdeal (hInQIdeal := hInQIdeal) (hInQRefIdeal := hInQRefIdeal)
    ∧ preserves_InKv_InKvIdeal
    ∧ algebraic_InKvIdeal_InKvRefIdeal (hInKvIdeal := hInKvIdeal) (hInKvRefIdeal := hInKvRefIdeal)
    ∧ preserves_Embed_EmbedIdeal
    ∧ algebraic_EmbedIdeal_EmbedRefIdeal (hEmbedIdeal := hEmbedIdeal) (hEmbedRefIdeal := hEmbedRefIdeal)
    ∧ preserves_Post_PostIdeal
    ∧ algebraic_PostIdeal_PostRefIdeal (hPostIdeal := hPostIdeal) (hPostRefIdeal := hPostRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamMod_AdamModIdeal
    ∧ algebraic_AdamModIdeal_AdamModRefIdeal (hAdamModIdeal := hAdamModIdeal) (hAdamModRefIdeal := hAdamModRefIdeal)
-- ==== Kernel.lean ====
abbrev S4096x2048 : Shape := ⟨2, ![4096, 2048]⟩
abbrev S4096x256 : Shape := ⟨2, ![4096, 256]⟩
abbrev S32x32 : Shape := ⟨2, ![32, 32]⟩
abbrev S1x32 : Shape := ⟨2, ![1, 32]⟩
abbrev S4096x4096 : Shape := ⟨2, ![4096, 4096]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x32 : Shape := ⟨3, ![128, 256, 32]⟩
abbrev S32x128x256 : Shape := ⟨3, ![32, 128, 256]⟩
abbrev S32x256x128 : Shape := ⟨3, ![32, 256, 128]⟩
abbrev S128x2048 : Shape := ⟨2, ![128, 2048]⟩
abbrev S256x1024 : Shape := ⟨2, ![256, 1024]⟩
abbrev S128x128 : Shape := ⟨2, ![128, 128]⟩
abbrev S128x64 : Shape := ⟨2, ![128, 64]⟩
abbrev S256x64 : Shape := ⟨2, ![256, 64]⟩
abbrev S1024x64 : Shape := ⟨2, ![1024, 64]⟩
abbrev S1x256x128 : Shape := ⟨3, ![1, 256, 128]⟩
abbrev S256x128 : Shape := ⟨2, ![256, 128]⟩
abbrev S1x1 : Shape := ⟨2, ![1, 1]⟩
abbrev S1x128 : Shape := ⟨2, ![1, 128]⟩
abbrev S1x1024 : Shape := ⟨2, ![1, 1024]⟩
abbrev S1024 : Shape := ⟨1, ![1024]⟩
abbrev S64x128 : Shape := ⟨2, ![64, 128]⟩
abbrev S64x896 : Shape := ⟨2, ![64, 896]⟩
abbrev S64x1024 : Shape := ⟨2, ![64, 1024]⟩
abbrev S64x768 : Shape := ⟨2, ![64, 768]⟩
abbrev S64x640 : Shape := ⟨2, ![64, 640]⟩
abbrev S64x256 : Shape := ⟨2, ![64, 256]⟩
abbrev S64x512 : Shape := ⟨2, ![64, 512]⟩
abbrev S64x384 : Shape := ⟨2, ![64, 384]⟩
abbrev S1x1x128 : Shape := ⟨3, ![1, 1, 128]⟩
abbrev S1 : Shape := ⟨1, ![1]⟩
abbrev S1x1x1 : Shape := ⟨3, ![1, 1, 1]⟩
abbrev S1x31 : Shape := ⟨2, ![1, 31]⟩
abbrev S1x30 : Shape := ⟨2, ![1, 30]⟩
abbrev S1x29 : Shape := ⟨2, ![1, 29]⟩
abbrev S1x2 : Shape := ⟨2, ![1, 2]⟩
abbrev S1x28 : Shape := ⟨2, ![1, 28]⟩
abbrev S1x3 : Shape := ⟨2, ![1, 3]⟩
abbrev S1x27 : Shape := ⟨2, ![1, 27]⟩
abbrev S1x4 : Shape := ⟨2, ![1, 4]⟩
abbrev S1x26 : Shape := ⟨2, ![1, 26]⟩
abbrev S1x5 : Shape := ⟨2, ![1, 5]⟩
abbrev S1x25 : Shape := ⟨2, ![1, 25]⟩
abbrev S1x6 : Shape := ⟨2, ![1, 6]⟩
abbrev S1x24 : Shape := ⟨2, ![1, 24]⟩
abbrev S1x7 : Shape := ⟨2, ![1, 7]⟩
abbrev S31x256x128 : Shape := ⟨3, ![31, 256, 128]⟩
abbrev S30x256x128 : Shape := ⟨3, ![30, 256, 128]⟩
abbrev S29x256x128 : Shape := ⟨3, ![29, 256, 128]⟩
abbrev S2x256x128 : Shape := ⟨3, ![2, 256, 128]⟩
abbrev S28x256x128 : Shape := ⟨3, ![28, 256, 128]⟩
abbrev S3x256x128 : Shape := ⟨3, ![3, 256, 128]⟩
abbrev S27x256x128 : Shape := ⟨3, ![27, 256, 128]⟩
abbrev S4x256x128 : Shape := ⟨3, ![4, 256, 128]⟩
abbrev S26x256x128 : Shape := ⟨3, ![26, 256, 128]⟩
abbrev S5x256x128 : Shape := ⟨3, ![5, 256, 128]⟩
abbrev S25x256x128 : Shape := ⟨3, ![25, 256, 128]⟩
abbrev S6x256x128 : Shape := ⟨3, ![6, 256, 128]⟩
abbrev S24x256x128 : Shape := ⟨3, ![24, 256, 128]⟩
abbrev S7x256x128 : Shape := ⟨3, ![7, 256, 128]⟩
abbrev S128x1984 : Shape := ⟨2, ![128, 1984]⟩
abbrev S128x1920 : Shape := ⟨2, ![128, 1920]⟩
abbrev S128x1856 : Shape := ⟨2, ![128, 1856]⟩
abbrev S128x1792 : Shape := ⟨2, ![128, 1792]⟩
abbrev S128x192 : Shape := ⟨2, ![128, 192]⟩
abbrev S128x1728 : Shape := ⟨2, ![128, 1728]⟩
abbrev S128x1664 : Shape := ⟨2, ![128, 1664]⟩
abbrev S128x320 : Shape := ⟨2, ![128, 320]⟩
abbrev S128x1600 : Shape := ⟨2, ![128, 1600]⟩
abbrev S128x384 : Shape := ⟨2, ![128, 384]⟩
abbrev S128x1536 : Shape := ⟨2, ![128, 1536]⟩
abbrev S128x448 : Shape := ⟨2, ![128, 448]⟩
abbrev S1x23 : Shape := ⟨2, ![1, 23]⟩
abbrev S1x8 : Shape := ⟨2, ![1, 8]⟩
abbrev S1x22 : Shape := ⟨2, ![1, 22]⟩
abbrev S1x9 : Shape := ⟨2, ![1, 9]⟩
abbrev S1x21 : Shape := ⟨2, ![1, 21]⟩
abbrev S1x10 : Shape := ⟨2, ![1, 10]⟩
abbrev S1x20 : Shape := ⟨2, ![1, 20]⟩
abbrev S1x11 : Shape := ⟨2, ![1, 11]⟩
abbrev S1x19 : Shape := ⟨2, ![1, 19]⟩
abbrev S1x12 : Shape := ⟨2, ![1, 12]⟩
abbrev S1x18 : Shape := ⟨2, ![1, 18]⟩
abbrev S1x13 : Shape := ⟨2, ![1, 13]⟩
abbrev S1x17 : Shape := ⟨2, ![1, 17]⟩
abbrev S1x14 : Shape := ⟨2, ![1, 14]⟩
abbrev S1x16 : Shape := ⟨2, ![1, 16]⟩
abbrev S1x15 : Shape := ⟨2, ![1, 15]⟩
abbrev S23x256x128 : Shape := ⟨3, ![23, 256, 128]⟩
abbrev S8x256x128 : Shape := ⟨3, ![8, 256, 128]⟩
abbrev S22x256x128 : Shape := ⟨3, ![22, 256, 128]⟩
abbrev S9x256x128 : Shape := ⟨3, ![9, 256, 128]⟩
abbrev S21x256x128 : Shape := ⟨3, ![21, 256, 128]⟩
abbrev S10x256x128 : Shape := ⟨3, ![10, 256, 128]⟩
abbrev S20x256x128 : Shape := ⟨3, ![20, 256, 128]⟩
abbrev S11x256x128 : Shape := ⟨3, ![11, 256, 128]⟩
abbrev S19x256x128 : Shape := ⟨3, ![19, 256, 128]⟩
abbrev S12x256x128 : Shape := ⟨3, ![12, 256, 128]⟩
abbrev S18x256x128 : Shape := ⟨3, ![18, 256, 128]⟩
abbrev S13x256x128 : Shape := ⟨3, ![13, 256, 128]⟩
abbrev S17x256x128 : Shape := ⟨3, ![17, 256, 128]⟩
abbrev S14x256x128 : Shape := ⟨3, ![14, 256, 128]⟩
abbrev S16x256x128 : Shape := ⟨3, ![16, 256, 128]⟩
abbrev S15x256x128 : Shape := ⟨3, ![15, 256, 128]⟩
abbrev S128x1472 : Shape := ⟨2, ![128, 1472]⟩
abbrev S128x512 : Shape := ⟨2, ![128, 512]⟩
abbrev S128x1408 : Shape := ⟨2, ![128, 1408]⟩
abbrev S128x576 : Shape := ⟨2, ![128, 576]⟩
abbrev S128x1344 : Shape := ⟨2, ![128, 1344]⟩
abbrev S128x640 : Shape := ⟨2, ![128, 640]⟩
abbrev S128x1280 : Shape := ⟨2, ![128, 1280]⟩
abbrev S128x704 : Shape := ⟨2, ![128, 704]⟩
abbrev S128x1216 : Shape := ⟨2, ![128, 1216]⟩
abbrev S128x768 : Shape := ⟨2, ![128, 768]⟩
abbrev S128x1152 : Shape := ⟨2, ![128, 1152]⟩
abbrev S128x832 : Shape := ⟨2, ![128, 832]⟩
abbrev S128x1088 : Shape := ⟨2, ![128, 1088]⟩
abbrev S128x896 : Shape := ⟨2, ![128, 896]⟩
abbrev S128x1024 : Shape := ⟨2, ![128, 1024]⟩
abbrev S128x960 : Shape := ⟨2, ![128, 960]⟩

abbrev nBuf : Space → Nat
  | .hbm => 62
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S4096x256, .f32⟩
  | .hbm, ⟨3, _⟩ => ⟨S32x32, .f32⟩
  | .hbm, ⟨4, _⟩ => ⟨S1x32, .f32⟩
  | .hbm, ⟨5, _⟩ => ⟨S4096x4096, .f32⟩
  | .hbm, ⟨6, _⟩ => ⟨S128, .i32⟩
  | .hbm, ⟨7, _⟩ => ⟨S128x1, .i32⟩
  | .hbm, ⟨8, _⟩ => ⟨S256, .i32⟩
  | .hbm, ⟨9, _⟩ => ⟨S1x256, .i32⟩
  | .hbm, ⟨10, _⟩ => ⟨S_, .i32⟩
  | .hbm, ⟨11, _⟩ => ⟨S128x1, .i32⟩
  | .hbm, ⟨12, _⟩ => ⟨S128x1, .i32⟩
  | .hbm, ⟨13, _⟩ => ⟨S128x256, .i32⟩
  | .hbm, ⟨14, _⟩ => ⟨S128x256, .i32⟩
  | .hbm, ⟨15, _⟩ => ⟨S128x256, .i32⟩
  | .hbm, ⟨16, _⟩ => ⟨S_, .i32⟩
  | .hbm, ⟨17, _⟩ => ⟨S128x256, .i32⟩
  | .hbm, ⟨18, _⟩ => ⟨S128x256, .i32⟩
  | .hbm, ⟨19, _⟩ => ⟨S_, .i32⟩
  | .hbm, ⟨20, _⟩ => ⟨S128x256, .i32⟩
  | .hbm, ⟨21, _⟩ => ⟨S128x256, .i32⟩
  | .hbm, ⟨22, _⟩ => ⟨S128x256, .f32⟩
  | .hbm, ⟨23, _⟩ => ⟨S_, .f32⟩
  | .hbm, ⟨24, _⟩ => ⟨S128x256, .f32⟩
  | .hbm, ⟨25, _⟩ => ⟨S128x256, .f32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S128x256, .f32⟩
  | .hbm, ⟨30, _⟩ => ⟨S_, .f32⟩
  | .hbm, ⟨31, _⟩ => ⟨S128x256, .f32⟩
  | .hbm, ⟨32, _⟩ => ⟨S128x256, .f32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S128x256, .i32⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S_, .i32⟩
  | .hbm, ⟨48, _⟩ => ⟨S128x256, .i32⟩
  | .hbm, ⟨49, _⟩ => ⟨S128x256, .i32⟩
  | .hbm, ⟨50, _⟩ => ⟨S128x256, .i32⟩
  | .hbm, ⟨51, _⟩ => ⟨S128x256x1, .i32⟩
  | .hbm, ⟨52, _⟩ => ⟨S128x256x32, .f32⟩
  | .hbm, ⟨53, _⟩ => ⟨S32x128x256, .f32⟩
  | .hbm, ⟨54, _⟩ => ⟨S32x256x128, .f32⟩
  | .hbm, ⟨55, _⟩ => ⟨S4096x2048, .bf16⟩
  | .hbm, ⟨56, _⟩ => ⟨S4096x256, .f32⟩
  | .hbm, ⟨57, _⟩ => ⟨S4096x256, .f32⟩
  | .hbm, ⟨58, _⟩ => ⟨S4096x256, .f32⟩
  | .hbm, ⟨59, _⟩ => ⟨S4096x256, .f32⟩
  | .hbm, ⟨60, _⟩ => ⟨S32x256x128, .f32⟩
  | .hbm, ⟨61, _⟩ => ⟨S1x32, .f32⟩
  | .local _ .vmem, ⟨0, _⟩ => ⟨S128x2048, .f32⟩
  | .local _ .vmem, ⟨1, _⟩ => ⟨S128x2048, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S32x256x128, .f32⟩
  | .local _ .vmem, ⟨11, _⟩ => ⟨S1x32, .f32⟩
  | .local _ .vmem, ⟨12, _⟩ => ⟨S128x2048, .f32⟩
  | .local _ .vmem, ⟨13, _⟩ => ⟨S128x2048, .f32⟩
  | .local _ .vmem, ⟨14, _⟩ => ⟨S128x2048, .bf16⟩
  | .local _ .vmem, ⟨15, _⟩ => ⟨S128x2048, .bf16⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S32x256x128, .f32⟩
  | .local _ .vmem, ⟨25, _⟩ => ⟨S1x32, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38_0 : Ref sig .tc := ⟨.hbm, 55, rfl⟩
abbrev main_v38_1 : Ref sig .tc := ⟨.hbm, 56, rfl⟩
abbrev main_v38_2 : Ref sig .tc := ⟨.hbm, 57, rfl⟩
abbrev main_v38_3 : Ref sig .tc := ⟨.hbm, 58, rfl⟩
abbrev main_v38_4 : Ref sig .tc := ⟨.hbm, 59, rfl⟩
abbrev main_v38_5 : Ref sig .tc := ⟨.hbm, 60, rfl⟩
abbrev main_v38_6 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S32x256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x2048 : Shape := ⟨2, ![4096, 2048]⟩
abbrev S4096x256 : Shape := ⟨2, ![4096, 256]⟩
abbrev S32x32 : Shape := ⟨2, ![32, 32]⟩
abbrev S1x32 : Shape := ⟨2, ![1, 32]⟩
abbrev S4096x4096 : Shape := ⟨2, ![4096, 4096]⟩
abbrev S_ : Shape := ⟨0, ![]⟩
abbrev S4224x256 : Shape := ⟨2, ![4224, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x32 : Shape := ⟨3, ![128, 256, 32]⟩
abbrev S32x128x256 : Shape := ⟨3, ![32, 128, 256]⟩
abbrev S1x32x128x4x8x64 : Shape := ⟨6, ![1, 32, 128, 4, 8, 64]⟩
abbrev S1x32x128x4x64 : Shape := ⟨5, ![1, 32, 128, 4, 64]⟩
abbrev S1x32x256x4x64 : Shape := ⟨5, ![1, 32, 256, 4, 64]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S4x8x128x256 : Shape := ⟨4, ![4, 8, 128, 256]⟩
abbrev S1x32x4x256x128x8 : Shape := ⟨6, ![1, 32, 4, 256, 128, 8]⟩
abbrev S1x32x4x8x128x256 : Shape := ⟨6, ![1, 32, 4, 8, 128, 256]⟩
abbrev S1x1x4x8x128x256 : Shape := ⟨6, ![1, 1, 4, 8, 128, 256]⟩
abbrev S1x32x1x1x128x256 : Shape := ⟨6, ![1, 32, 1, 1, 128, 256]⟩
abbrev S4x8 : Shape := ⟨2, ![4, 8]⟩
abbrev S1x1x4x8x1x1 : Shape := ⟨6, ![1, 1, 4, 8, 1, 1]⟩
abbrev S1x32x4x8x128 : Shape := ⟨5, ![1, 32, 4, 8, 128]⟩
abbrev S1x32x4x8x128x1 : Shape := ⟨6, ![1, 32, 4, 8, 128, 1]⟩
abbrev S1x32x4x64x8x128 : Shape := ⟨6, ![1, 32, 4, 64, 8, 128]⟩
abbrev S1x32x4x64x256 : Shape := ⟨5, ![1, 32, 4, 64, 256]⟩
abbrev S1x4x8x1 : Shape := ⟨4, ![1, 4, 8, 1]⟩
abbrev S32x4x8x128 : Shape := ⟨4, ![32, 4, 8, 128]⟩
abbrev S1x4x8x128x256 : Shape := ⟨5, ![1, 4, 8, 128, 256]⟩
abbrev S1x32x4x128x8x64 : Shape := ⟨6, ![1, 32, 4, 128, 8, 64]⟩
abbrev S1x32x4x256x64 : Shape := ⟨5, ![1, 32, 4, 256, 64]⟩
abbrev S32x256x128 : Shape := ⟨3, ![32, 256, 128]⟩

abbrev nBuf : Space → Nat
  | .hbm => 250
  | .vmem => 0
  | .smem => 0
  | _ => 0

abbrev hbmTy0_0 (i : Nat) : BufTy := match i % 128 with
  | 0 => ⟨S4096x2048, .f32⟩
  | 1 => ⟨S4096x256, .f32⟩
  | 2 => ⟨S4096x256, .f32⟩
  | 3 => ⟨S32x32, .f32⟩
  | 4 => ⟨S1x32, .f32⟩
  | 5 => ⟨S4096x4096, .f32⟩
  | 6 => ⟨S_, .i32⟩
  | 7 => ⟨S_, .f32⟩
  | 8 => ⟨S4224x256, .f32⟩
  | 9 => ⟨S4096x256, .f32⟩
  | 10 => ⟨S_, .i32⟩
  | 11 => ⟨S_, .f32⟩
  | 12 => ⟨S4224x256, .f32⟩
  | 13 => ⟨S4096x256, .f32⟩
  | 14 => ⟨S128, .i32⟩
  | 15 => ⟨S128x1, .i32⟩
  | 16 => ⟨S256, .i32⟩
  | 17 => ⟨S1x256, .i32⟩
  | 18 => ⟨S_, .i32⟩
  | 19 => ⟨S128x1, .i32⟩
  | 20 => ⟨S128x1, .i32⟩
  | 21 => ⟨S128x256, .i32⟩
  | 22 => ⟨S128x256, .i32⟩
  | 23 => ⟨S128x256, .i32⟩
  | 24 => ⟨S_, .i32⟩
  | 25 => ⟨S128x256, .i32⟩
  | 26 => ⟨S128x256, .i32⟩
  | 27 => ⟨S_, .i32⟩
  | 28 => ⟨S128x256, .i32⟩
  | 29 => ⟨S128x256, .i32⟩
  | 30 => ⟨S128x256, .f32⟩
  | 31 => ⟨S_, .f32⟩
  | 32 => ⟨S128x256, .f32⟩
  | 33 => ⟨S128x256, .f32⟩
  | 34 => ⟨S128x256, .f32⟩
  | 35 => ⟨S_, .f32⟩
  | 36 => ⟨S128x256, .f32⟩
  | 37 => ⟨S128x256, .f32⟩
  | 38 => ⟨S_, .f32⟩
  | 39 => ⟨S128x256, .f32⟩
  | 40 => ⟨S128x256, .f32⟩
  | 41 => ⟨S128x256, .i32⟩
  | 42 => ⟨S_, .i32⟩
  | 43 => ⟨S128x256, .i32⟩
  | 44 => ⟨S128x256, .i32⟩
  | 45 => ⟨S_, .i32⟩
  | 46 => ⟨S128x256, .i32⟩
  | 47 => ⟨S128x256, .i32⟩
  | 48 => ⟨S_, .i32⟩
  | 49 => ⟨S128x256, .i32⟩
  | 50 => ⟨S128x256, .i1⟩
  | 51 => ⟨S128x256, .i32⟩
  | 52 => ⟨S_, .i32⟩
  | 53 => ⟨S128x256, .i32⟩
  | 54 => ⟨S128x256, .i1⟩
  | 55 => ⟨S_, .i32⟩
  | 56 => ⟨S128x256, .i32⟩
  | 57 => ⟨S128x256, .i32⟩
  | 58 => ⟨S128x256, .i32⟩
  | 59 => ⟨S128x256x1, .i32⟩
  | 60 => ⟨S128x256x32, .f32⟩
  | 61 => ⟨S32x128x256, .f32⟩
  | 62 => ⟨S1x32x128x4x8x64, .f32⟩
  | 63 => ⟨S1x32x128x4x64, .f32⟩
  | 64 => ⟨S1x32x128x4x64, .f32⟩
  | 65 => ⟨S1x32x256x4x64, .f32⟩
  | 66 => ⟨S1x32x128x4x64, .f32⟩
  | 67 => ⟨S1x32x128x4x64, .f32⟩
  | 68 => ⟨S1x32x256x4x64, .f32⟩
  | 69 => ⟨S128, .i32⟩
  | 70 => ⟨S128x1, .i32⟩
  | 71 => ⟨S256, .i32⟩
  | 72 => ⟨S1x256, .i32⟩
  | 73 => ⟨S_, .i32⟩
  | 74 => ⟨S128x1, .i32⟩
  | 75 => ⟨S128x1, .i32⟩
  | 76 => ⟨S128x256, .i32⟩
  | 77 => ⟨S128x256, .i32⟩
  | 78 => ⟨S128x256, .i32⟩
  | 79 => ⟨S32, .i32⟩
  | 80 => ⟨S32x1x1, .i32⟩
  | 81 => ⟨S_, .i32⟩
  | 82 => ⟨S128x256, .i32⟩
  | 83 => ⟨S128x256, .i1⟩
  | 84 => ⟨S_, .i32⟩
  | 85 => ⟨S128x256, .i32⟩
  | 86 => ⟨S128x256, .i1⟩
  | 87 => ⟨S128x256, .i1⟩
  | 88 => ⟨S_, .i32⟩
  | 89 => ⟨S32x1x1, .i32⟩
  | 90 => ⟨S32x1x1, .i1⟩
  | 91 => ⟨S_, .i32⟩
  | 92 => ⟨S1x256, .i32⟩
  | 93 => ⟨S1x256, .i1⟩
  | 94 => ⟨S1x1x256, .i1⟩
  | 95 => ⟨S32x1x256, .i1⟩
  | 96 => ⟨S32x1x256, .i1⟩
  | 97 => ⟨S32x1x256, .i1⟩
  | 98 => ⟨S1x128x256, .i1⟩
  | 99 => ⟨S32x128x256, .i1⟩
  | 100 => ⟨S32x128x256, .i1⟩
  | 101 => ⟨S32x128x256, .i1⟩
  | 102 => ⟨S4x8x128x256, .f32⟩
  | 103 => ⟨S1x32x4x256x128x8, .f32⟩
  | 104 => ⟨S1x32x4x8x128x256, .f32⟩
  | 105 => ⟨S_, .f32⟩
  | 106 => ⟨S1x32x4x8x128x256, .f32⟩
  | 107 => ⟨S1x32x4x8x128x256, .f32⟩
  | 108 => ⟨S1x1x4x8x128x256, .f32⟩
  | 109 => ⟨S1x32x4x8x128x256, .f32⟩
  | 110 => ⟨S1x32x4x8x128x256, .f32⟩
  | 111 => ⟨S1x32x1x1x128x256, .i1⟩
  | 112 => ⟨S_, .f32⟩
  | 113 => ⟨S_, .f32⟩
  | 114 => ⟨S1x32x4x8x128x256, .i1⟩
  | 115 => ⟨S1x32x4x8x128x256, .f32⟩
  | 116 => ⟨S1x32x4x8x128x256, .f32⟩
  | 117 => ⟨S_, .f32⟩
  | 118 => ⟨S1x32x4x8x128x256, .f32⟩
  | 119 => ⟨S4x8, .f32⟩
  | 120 => ⟨S1x1x4x8x1x1, .f32⟩
  | 121 => ⟨S_, .f32⟩
  | 122 => ⟨S1x32x4x8x128, .f32⟩
  | 123 => ⟨S1x32x4x8x128x1, .f32⟩
  | 124 => ⟨S1x32x4x8x128x256, .f32⟩
  | 125 => ⟨S1x32x4x8x128x256, .i1⟩
  | 126 => ⟨S1x32x4x8x128x256, .f32⟩
  | 127 => ⟨S_, .f32⟩
  | _ => ⟨S4096x2048, .f32⟩

abbrev hbmTy0_1 (i : Nat) : BufTy := match i % 128 with
  | 0 => ⟨S1x32x4x8x128, .f32⟩
  | 1 => ⟨S1x32x4x8x128x1, .f32⟩
  | 2 => ⟨S1x32x4x8x128x1, .f32⟩
  | 3 => ⟨S1x32x4x8x128x1, .f32⟩
  | 4 => ⟨S1x32x4x8x128x1, .f32⟩
  | 5 => ⟨S1x32x4x8x128x1, .i1⟩
  | 6 => ⟨S1x32x4x8x128x1, .f32⟩
  | 7 => ⟨S1x32x4x8x128x1, .i1⟩
  | 8 => ⟨S_, .f32⟩
  | 9 => ⟨S1x32x4x8x128x1, .f32⟩
  | 10 => ⟨S_, .f32⟩
  | 11 => ⟨S1x32x4x8x128x1, .f32⟩
  | 12 => ⟨S_, .f32⟩
  | 13 => ⟨S1x32x4x8x128x1, .f32⟩
  | 14 => ⟨S1x32x4x8x128x1, .f32⟩
  | 15 => ⟨S1x32x4x8x128x1, .f32⟩
  | 16 => ⟨S1x32x4x8x128x1, .f32⟩
  | 17 => ⟨S1x32x4x8x128x1, .i1⟩
  | 18 => ⟨S1x32x4x8x128x1, .f32⟩
  | 19 => ⟨S1x32x4x8x128x1, .i1⟩
  | 20 => ⟨S_, .f32⟩
  | 21 => ⟨S1x32x4x8x128x1, .f32⟩
  | 22 => ⟨S_, .f32⟩
  | 23 => ⟨S1x32x4x8x128x1, .f32⟩
  | 24 => ⟨S_, .f32⟩
  | 25 => ⟨S1x32x4x8x128x1, .f32⟩
  | 26 => ⟨S1x32x4x8x128x1, .f32⟩
  | 27 => ⟨S1x32x4x8x128x1, .f32⟩
  | 28 => ⟨S1x32x4x8x128x256, .f32⟩
  | 29 => ⟨S1x32x4x8x128x256, .f32⟩
  | 30 => ⟨S1x32x4x8x128x256, .f32⟩
  | 31 => ⟨S_, .f32⟩
  | 32 => ⟨S1x32x4x8x128, .f32⟩
  | 33 => ⟨S1x32x4x8x128x1, .f32⟩
  | 34 => ⟨S1x32x4x8x128x1, .f32⟩
  | 35 => ⟨S1x32x4x8x128x1, .f32⟩
  | 36 => ⟨S1x32x4x8x128x1, .f32⟩
  | 37 => ⟨S1x32x4x8x128x1, .f32⟩
  | 38 => ⟨S1x32x4x8x128x256, .f32⟩
  | 39 => ⟨S1x32x4x8x128x256, .f32⟩
  | 40 => ⟨S1x32x4x8x128x1, .f32⟩
  | 41 => ⟨S_, .f32⟩
  | 42 => ⟨S1x32x4x8x128x1, .f32⟩
  | 43 => ⟨S1x32x4x8x128x1, .f32⟩
  | 44 => ⟨S1x32x4x64x8x128, .f32⟩
  | 45 => ⟨S1x32x128x4x8x64, .f32⟩
  | 46 => ⟨S4096x2048, .f32⟩
  | 47 => ⟨S4096x2048, .f32⟩
  | 48 => ⟨S1x32x128x4x8x64, .f32⟩
  | 49 => ⟨S1x32x4x64x8x128, .f32⟩
  | 50 => ⟨S1x32x4x8x128x256, .f32⟩
  | 51 => ⟨S1x32x4x64x256, .f32⟩
  | 52 => ⟨S1x32x256x4x64, .f32⟩
  | 53 => ⟨S1x32x4x8x128x256, .f32⟩
  | 54 => ⟨S1x32x4x8x128x256, .f32⟩
  | 55 => ⟨S1x32x4x8x128x256, .f32⟩
  | 56 => ⟨S_, .f32⟩
  | 57 => ⟨S1x32x4x8x128, .f32⟩
  | 58 => ⟨S1x32x4x8x128x1, .f32⟩
  | 59 => ⟨S1x32x4x8x128x1, .f32⟩
  | 60 => ⟨S1x32x4x8x128x256, .f32⟩
  | 61 => ⟨S1x32x4x8x128x256, .f32⟩
  | 62 => ⟨S1x32x4x8x128x1, .f32⟩
  | 63 => ⟨S_, .f32⟩
  | 64 => ⟨S1x4x8x1, .f32⟩
  | 65 => ⟨S1x1x4x8x1x1, .f32⟩
  | 66 => ⟨S1x32x4x8x128x1, .f32⟩
  | 67 => ⟨S_, .f32⟩
  | 68 => ⟨S32x4x8x128, .f32⟩
  | 69 => ⟨S1x32x4x8x128, .f32⟩
  | 70 => ⟨S1x32x4x8x128x256, .f32⟩
  | 71 => ⟨S1x32x4x8x128x256, .f32⟩
  | 72 => ⟨S1x32x4x8x128x256, .f32⟩
  | 73 => ⟨S1x32x4x8x128x256, .f32⟩
  | 74 => ⟨S_, .f32⟩
  | 75 => ⟨S1x32x4x8x128, .f32⟩
  | 76 => ⟨S1x32x4x8x128x1, .f32⟩
  | 77 => ⟨S1x32x4x8x128x1, .f32⟩
  | 78 => ⟨S1x32x4x8x128x1, .f32⟩
  | 79 => ⟨S_, .f32⟩
  | 80 => ⟨S1x4x8x1, .f32⟩
  | 81 => ⟨S1x1x4x8x1x1, .f32⟩
  | 82 => ⟨S1x1x4x8x1x1, .f32⟩
  | 83 => ⟨S1x32x4x8x128x1, .f32⟩
  | 84 => ⟨S_, .f32⟩
  | 85 => ⟨S32x4x8x128, .f32⟩
  | 86 => ⟨S1x32x4x8x128, .f32⟩
  | 87 => ⟨S1x32x4x8x128, .f32⟩
  | 88 => ⟨S1x32x4x8x128x256, .f32⟩
  | 89 => ⟨S1x32x4x8x128x256, .f32⟩
  | 90 => ⟨S1x32x4x8x128x256, .f32⟩
  | 91 => ⟨S_, .f32⟩
  | 92 => ⟨S4x8, .f32⟩
  | 93 => ⟨S1x32, .f32⟩
  | 94 => ⟨S_, .f32⟩
  | 95 => ⟨S1x32x4x8x128x256, .f32⟩
  | 96 => ⟨S1x32x4x8x128x256, .f32⟩
  | 97 => ⟨S_, .f32⟩
  | 98 => ⟨S1x4x8x128x256, .f32⟩
  | 99 => ⟨S1x1x4x8x128x256, .f32⟩
  | 100 => ⟨S_, .f32⟩
  | 101 => ⟨S4x8x128x256, .f32⟩
  | 102 => ⟨S_, .f32⟩
  | 103 => ⟨S1x32x4x8x128x256, .f32⟩
  | 104 => ⟨S1x32x4x8x128x256, .f32⟩
  | 105 => ⟨S1x32x4x256x128x8, .f32⟩
  | 106 => ⟨S1x32x4x128x8x64, .f32⟩
  | 107 => ⟨S1x32x128x4x8x64, .f32⟩
  | 108 => ⟨S1x32x4x256x64, .f32⟩
  | 109 => ⟨S1x32x256x4x64, .f32⟩
  | 110 => ⟨S32x128x256, .f32⟩
  | 111 => ⟨S1x32x128x4x64, .f32⟩
  | 112 => ⟨S1x32x128x4x64, .f32⟩
  | 113 => ⟨S4096x256, .f32⟩
  | 114 => ⟨S4096x256, .f32⟩
  | 115 => ⟨S1x32x128x4x64, .f32⟩
  | 116 => ⟨S1x32x128x4x64, .f32⟩
  | 117 => ⟨S4096x256, .f32⟩
  | 118 => ⟨S4096x256, .f32⟩
  | 119 => ⟨S4096x2048, .f32⟩
  | 120 => ⟨S4096x2048, .bf16⟩
  | 121 => ⟨S32x256x128, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_c_15 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_17 : Ref sig .tc := ⟨.hbm, 112, rfl⟩
abbrev main_call3_v0 : Ref sig .tc := ⟨.hbm, 113, rfl⟩
abbrev main_v85_1 : Ref sig .tc := ⟨.hbm, 114, rfl⟩
abbrev main_call3_v2 : Ref sig .tc := ⟨.hbm, 115, rfl⟩
abbrev main_v85_0 : Ref sig .tc := ⟨.hbm, 116, rfl⟩
abbrev main_call3_cst : Ref sig .tc := ⟨.hbm, 117, rfl⟩
abbrev main_v85_2 : Ref sig .tc := ⟨.hbm, 118, rfl⟩
abbrev main_v86 : Ref sig .tc := ⟨.hbm, 119, rfl⟩
abbrev main_v87 : Ref sig .tc := ⟨.hbm, 120, rfl⟩
abbrev main_cst_18 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_20 : Ref sig .tc := ⟨.hbm, 136, rfl⟩
abbrev main_v101 : Ref sig .tc := ⟨.hbm, 137, rfl⟩
abbrev main_cst_21 : Ref sig .tc := ⟨.hbm, 138, rfl⟩
abbrev main_v102 : Ref sig .tc := ⟨.hbm, 139, rfl⟩
abbrev main_cst_22 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_23 : Ref sig .tc := ⟨.hbm, 148, rfl⟩
abbrev main_v110 : Ref sig .tc := ⟨.hbm, 149, rfl⟩
abbrev main_cst_24 : Ref sig .tc := ⟨.hbm, 150, rfl⟩
abbrev main_v111 : Ref sig .tc := ⟨.hbm, 151, rfl⟩
abbrev main_cst_25 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_26 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_27 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_cst_28 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_cst_29 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_30 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_cst_31 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_cst_32 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_cst_33 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_cst_34 : Ref sig .tc := ⟨.hbm, 219, rfl⟩
abbrev main_v170 : Ref sig .tc := ⟨.hbm, 220, rfl⟩
abbrev main_v171 : Ref sig .tc := ⟨.hbm, 221, rfl⟩
abbrev main_call4_cst : Ref sig .tc := ⟨.hbm, 222, rfl⟩
abbrev main_call4_v0 : Ref sig .tc := ⟨.hbm, 223, rfl⟩
abbrev main_v172 : Ref sig .tc := ⟨.hbm, 224, rfl⟩
abbrev main_cst_35 : Ref sig .tc := ⟨.hbm, 225, rfl⟩
abbrev main_v173 : Ref sig .tc := ⟨.hbm, 226, rfl⟩
abbrev main_v174 : Ref sig .tc := ⟨.hbm, 227, rfl⟩
abbrev main_cst_36 : Ref sig .tc := ⟨.hbm, 228, rfl⟩
abbrev main_v175 : Ref sig .tc := ⟨.hbm, 229, rfl⟩
abbrev main_cst_37 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩

abbrev nD : Nat := 1
abbrev τ : Topo := Topo.v7x

variable {F : FTy → Type} [FloatOps F]
-- ==== Attention.lean ====
abbrev S4096x2048 : Shape := ⟨2, ![4096, 2048]⟩
abbrev S4096x256 : Shape := ⟨2, ![4096, 256]⟩
abbrev S32x32 : Shape := ⟨2, ![32, 32]⟩
abbrev S1x32 : Shape := ⟨2, ![1, 32]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x32 : Shape := ⟨3, ![128, 256, 32]⟩
abbrev S32x128x256 : Shape := ⟨3, ![32, 128, 256]⟩
abbrev S32x256x128 : Shape := ⟨3, ![32, 256, 128]⟩
abbrev S128x2048 : Shape := ⟨2, ![128, 2048]⟩
abbrev S256x1024 : Shape := ⟨2, ![256, 1024]⟩
abbrev S128x128 : Shape := ⟨2, ![128, 128]⟩
abbrev S128x64 : Shape := ⟨2, ![128, 64]⟩
abbrev S256x64 : Shape := ⟨2, ![256, 64]⟩
abbrev S1024x64 : Shape := ⟨2, ![1024, 64]⟩
abbrev S1x256x128 : Shape := ⟨3, ![1, 256, 128]⟩
abbrev S256x128 : Shape := ⟨2, ![256, 128]⟩
abbrev S1x1 : Shape := ⟨2, ![1, 1]⟩
abbrev S1x128 : Shape := ⟨2, ![1, 128]⟩
abbrev S1x1024 : Shape := ⟨2, ![1, 1024]⟩
abbrev S1024 : Shape := ⟨1, ![1024]⟩
abbrev S64x1024 : Shape := ⟨2, ![64, 1024]⟩
abbrev S64x128 : Shape := ⟨2, ![64, 128]⟩

abbrev nBuf : Space → Nat
  | .hbm => 55
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S4096x256, .f32⟩
  | .hbm, ⟨3, _⟩ => ⟨S32x32, .f32⟩
  | .hbm, ⟨4, _⟩ => ⟨S1x32, .f32⟩
  | .hbm, ⟨5, _⟩ => ⟨S128, .i32⟩
  | .hbm, ⟨6, _⟩ => ⟨S128x1, .i32⟩
  | .hbm, ⟨7, _⟩ => ⟨S256, .i32⟩
  | .hbm, ⟨8, _⟩ => ⟨S1x256, .i32⟩
  | .hbm, ⟨9, _⟩ => ⟨S_, .i32⟩
  | .hbm, ⟨10, _⟩ => ⟨S128x1, .i32⟩
  | .hbm, ⟨11, _⟩ => ⟨S128x1, .i32⟩
  | .hbm, ⟨12, _⟩ => ⟨S128x256, .i32⟩
  | .hbm, ⟨13, _⟩ => ⟨S128x256, .i32⟩
  | .hbm, ⟨14, _⟩ => ⟨S128x256, .i32⟩
  | .hbm, ⟨15, _⟩ => ⟨S_, .i32⟩
  | .hbm, ⟨16, _⟩ => ⟨S128x256, .i32⟩
  | .hbm, ⟨17, _⟩ => ⟨S128x256, .i32⟩
  | .hbm, ⟨18, _⟩ => ⟨S_, .i32⟩
  | .hbm, ⟨19, _⟩ => ⟨S128x256, .i32⟩
  | .hbm, ⟨20, _⟩ => ⟨S128x256, .i32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S128x256, .i32⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S_, .i32⟩
  | .hbm, ⟨47, _⟩ => ⟨S128x256, .i32⟩
  | .hbm, ⟨48, _⟩ => ⟨S128x256, .i32⟩
  | .hbm, ⟨49, _⟩ => ⟨S128x256, .i32⟩
  | .hbm, ⟨50, _⟩ => ⟨S128x256x1, .i32⟩
  | .hbm, ⟨51, _⟩ => ⟨S128x256x32, .f32⟩
  | .hbm, ⟨52, _⟩ => ⟨S32x128x256, .f32⟩
  | .hbm, ⟨53, _⟩ => ⟨S32x256x128, .f32⟩
  | .hbm, ⟨54, _⟩ => ⟨S4096x2048, .bf16⟩
  | .local _ .vmem, ⟨0, _⟩ => ⟨S128x2048, .f32⟩
  | .local _ .vmem, ⟨1, _⟩ => ⟨S128x2048, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S32x256x128, .f32⟩
  | .local _ .vmem, ⟨11, _⟩ => ⟨S1x32, .f32⟩
  | .local _ .vmem, ⟨12, _⟩ => ⟨S128x2048, .bf16⟩
  | .local _ .vmem, ⟨13, _⟩ => ⟨S128x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttentionIdeal.lean ====
variable {F : FTy → Type} [FloatOps F] [Named F]
def κ : String → Option EReal := fun
  | "mask" => some ⊥
  | _ => none
-- ==== AttentionRefIdeal.lean ====
abbrev S4096x2048 : Shape := ⟨2, ![4096, 2048]⟩
abbrev S4096x256 : Shape := ⟨2, ![4096, 256]⟩
abbrev S32x32 : Shape := ⟨2, ![32, 32]⟩
abbrev S1x32 : Shape := ⟨2, ![1, 32]⟩
abbrev S_ : Shape := ⟨0, ![]⟩
abbrev S4224x256 : Shape := ⟨2, ![4224, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x32 : Shape := ⟨3, ![128, 256, 32]⟩
abbrev S32x128x256 : Shape := ⟨3, ![32, 128, 256]⟩
abbrev S1x32x128x4x8x64 : Shape := ⟨6, ![1, 32, 128, 4, 8, 64]⟩
abbrev S1x32x128x4x64 : Shape := ⟨5, ![1, 32, 128, 4, 64]⟩
abbrev S1x32x256x4x64 : Shape := ⟨5, ![1, 32, 256, 4, 64]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S4x8x128x256 : Shape := ⟨4, ![4, 8, 128, 256]⟩
abbrev S1x32x4x256x128x8 : Shape := ⟨6, ![1, 32, 4, 256, 128, 8]⟩
abbrev S1x32x4x8x128x256 : Shape := ⟨6, ![1, 32, 4, 8, 128, 256]⟩
abbrev S1x1x4x8x128x256 : Shape := ⟨6, ![1, 1, 4, 8, 128, 256]⟩
abbrev S1x32x1x1x128x256 : Shape := ⟨6, ![1, 32, 1, 1, 128, 256]⟩
abbrev S4x8 : Shape := ⟨2, ![4, 8]⟩
abbrev S1x1x4x8x1x1 : Shape := ⟨6, ![1, 1, 4, 8, 1, 1]⟩
abbrev S1x32x4x8x128 : Shape := ⟨5, ![1, 32, 4, 8, 128]⟩
abbrev S1x32x4x8x128x1 : Shape := ⟨6, ![1, 32, 4, 8, 128, 1]⟩
abbrev S1x32x4x64x8x128 : Shape := ⟨6, ![1, 32, 4, 64, 8, 128]⟩

abbrev nBuf : Space → Nat
  | .hbm => 139
  | .vmem => 0
  | .smem => 0
  | _ => 0

abbrev hbmTy0_0 (i : Nat) : BufTy := match i % 128 with
  | 0 => ⟨S4096x2048, .f32⟩
  | 1 => ⟨S4096x256, .f32⟩
  | 2 => ⟨S4096x256, .f32⟩
  | 3 => ⟨S32x32, .f32⟩
  | 4 => ⟨S1x32, .f32⟩
  | 5 => ⟨S_, .i32⟩
  | 6 => ⟨S_, .f32⟩
  | 7 => ⟨S4224x256, .f32⟩
  | 8 => ⟨S4096x256, .f32⟩
  | 9 => ⟨S_, .i32⟩
  | 10 => ⟨S_, .f32⟩
  | 11 => ⟨S4224x256, .f32⟩
  | 12 => ⟨S4096x256, .f32⟩
  | 13 => ⟨S128, .i32⟩
  | 14 => ⟨S128x1, .i32⟩
  | 15 => ⟨S256, .i32⟩
  | 16 => ⟨S1x256, .i32⟩
  | 17 => ⟨S_, .i32⟩
  | 18 => ⟨S128x1, .i32⟩
  | 19 => ⟨S128x1, .i32⟩
  | 20 => ⟨S128x256, .i32⟩
  | 21 => ⟨S128x256, .i32⟩
  | 22 => ⟨S128x256, .i32⟩
  | 23 => ⟨S_, .i32⟩
  | 24 => ⟨S128x256, .i32⟩
  | 25 => ⟨S128x256, .i32⟩
  | 26 => ⟨S_, .i32⟩
  | 27 => ⟨S128x256, .i32⟩
  | 28 => ⟨S128x256, .i32⟩
  | 29 => ⟨S128x256, .f32⟩
  | 30 => ⟨S_, .f32⟩
  | 31 => ⟨S128x256, .f32⟩
  | 32 => ⟨S128x256, .f32⟩
  | 33 => ⟨S128x256, .f32⟩
  | 34 => ⟨S_, .f32⟩
  | 35 => ⟨S128x256, .f32⟩
  | 36 => ⟨S128x256, .f32⟩
  | 37 => ⟨S_, .f32⟩
  | 38 => ⟨S128x256, .f32⟩
  | 39 => ⟨S128x256, .f32⟩
  | 40 => ⟨S128x256, .i32⟩
  | 41 => ⟨S_, .i32⟩
  | 42 => ⟨S128x256, .i32⟩
  | 43 => ⟨S128x256, .i32⟩
  | 44 => ⟨S_, .i32⟩
  | 45 => ⟨S128x256, .i32⟩
  | 46 => ⟨S128x256, .i32⟩
  | 47 => ⟨S_, .i32⟩
  | 48 => ⟨S128x256, .i32⟩
  | 49 => ⟨S128x256, .i1⟩
  | 50 => ⟨S128x256, .i32⟩
  | 51 => ⟨S_, .i32⟩
  | 52 => ⟨S128x256, .i32⟩
  | 53 => ⟨S128x256, .i1⟩
  | 54 => ⟨S_, .i32⟩
  | 55 => ⟨S128x256, .i32⟩
  | 56 => ⟨S128x256, .i32⟩
  | 57 => ⟨S128x256, .i32⟩
  | 58 => ⟨S128x256x1, .i32⟩
  | 59 => ⟨S128x256x32, .f32⟩
  | 60 => ⟨S32x128x256, .f32⟩
  | 61 => ⟨S1x32x128x4x8x64, .f32⟩
  | 62 => ⟨S1x32x128x4x64, .f32⟩
  | 63 => ⟨S1x32x128x4x64, .f32⟩
  | 64 => ⟨S1x32x256x4x64, .f32⟩
  | 65 => ⟨S1x32x128x4x64, .f32⟩
  | 66 => ⟨S1x32x128x4x64, .f32⟩
  | 67 => ⟨S1x32x256x4x64, .f32⟩
  | 68 => ⟨S128, .i32⟩
  | 69 => ⟨S128x1, .i32⟩
  | 70 => ⟨S256, .i32⟩
  | 71 => ⟨S1x256, .i32⟩
  | 72 => ⟨S_, .i32⟩
  | 73 => ⟨S128x1, .i32⟩
  | 74 => ⟨S128x1, .i32⟩
  | 75 => ⟨S128x256, .i32⟩
  | 76 => ⟨S128x256, .i32⟩
  | 77 => ⟨S128x256, .i32⟩
  | 78 => ⟨S32, .i32⟩
  | 79 => ⟨S32x1x1, .i32⟩
  | 80 => ⟨S_, .i32⟩
  | 81 => ⟨S128x256, .i32⟩
  | 82 => ⟨S128x256, .i1⟩
  | 83 => ⟨S_, .i32⟩
  | 84 => ⟨S128x256, .i32⟩
  | 85 => ⟨S128x256, .i1⟩
  | 86 => ⟨S128x256, .i1⟩
  | 87 => ⟨S_, .i32⟩
  | 88 => ⟨S32x1x1, .i32⟩
  | 89 => ⟨S32x1x1, .i1⟩
  | 90 => ⟨S_, .i32⟩
  | 91 => ⟨S1x256, .i32⟩
  | 92 => ⟨S1x256, .i1⟩
  | 93 => ⟨S1x1x256, .i1⟩
  | 94 => ⟨S32x1x256, .i1⟩
  | 95 => ⟨S32x1x256, .i1⟩
  | 96 => ⟨S32x1x256, .i1⟩
  | 97 => ⟨S1x128x256, .i1⟩
  | 98 => ⟨S32x128x256, .i1⟩
  | 99 => ⟨S32x128x256, .i1⟩
  | 100 => ⟨S32x128x256, .i1⟩
  | 101 => ⟨S4x8x128x256, .f32⟩
  | 102 => ⟨S1x32x4x256x128x8, .f32⟩
  | 103 => ⟨S1x32x4x8x128x256, .f32⟩
  | 104 => ⟨S_, .f32⟩
  | 105 => ⟨S1x32x4x8x128x256, .f32⟩
  | 106 => ⟨S1x32x4x8x128x256, .f32⟩
  | 107 => ⟨S1x1x4x8x128x256, .f32⟩
  | 108 => ⟨S1x32x4x8x128x256, .f32⟩
  | 109 => ⟨S1x32x4x8x128x256, .f32⟩
  | 110 => ⟨S1x32x1x1x128x256, .i1⟩
  | 111 => ⟨S_, .f32⟩
  | 112 => ⟨S_, .f32⟩
  | 113 => ⟨S1x32x4x8x128x256, .i1⟩
  | 114 => ⟨S1x32x4x8x128x256, .f32⟩
  | 115 => ⟨S1x32x4x8x128x256, .f32⟩
  | 116 => ⟨S4x8, .f32⟩
  | 117 => ⟨S1x1x4x8x1x1, .f32⟩
  | 118 => ⟨S_, .f32⟩
  | 119 => ⟨S1x32x4x8x128, .f32⟩
  | 120 => ⟨S1x32x4x8x128x1, .f32⟩
  | 121 => ⟨S1x32x4x8x128x1, .f32⟩
  | 122 => ⟨S1x32x4x8x128x1, .f32⟩
  | 123 => ⟨S1x32x4x8x128x256, .f32⟩
  | 124 => ⟨S1x32x4x8x128x256, .f32⟩
  | 125 => ⟨S1x32x4x8x128x256, .f32⟩
  | 126 => ⟨S_, .f32⟩
  | 127 => ⟨S1x32x4x8x128, .f32⟩
  | _ => ⟨S4096x2048, .f32⟩

abbrev hbmTy0_1 (i : Nat) : BufTy := match i % 128 with
  | 0 => ⟨S1x32x4x8x128x1, .f32⟩
  | 1 => ⟨S1x32x4x8x128x1, .f32⟩
  | 2 => ⟨S1x32x4x8x128x1, .f32⟩
  | 3 => ⟨S1x32x4x8x128x1, .f32⟩
  | 4 => ⟨S1x32x4x8x128x1, .f32⟩
  | 5 => ⟨S1x32x4x8x128x256, .f32⟩
  | 6 => ⟨S1x32x4x8x128x256, .f32⟩
  | 7 => ⟨S1x32x4x64x8x128, .f32⟩
  | 8 => ⟨S1x32x128x4x8x64, .f32⟩
  | 9 => ⟨S4096x2048, .f32⟩
  | 10 => ⟨S4096x2048, .bf16⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_9 : Ref sig .tc := ⟨.hbm, 51, rfl⟩
abbrev main_v33 : Ref sig .tc := ⟨.hbm, 52, rfl⟩
abbrev main_v34 : Ref sig .tc := ⟨.hbm, 53, rfl⟩
abbrev main_c_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_12 : Ref sig .tc := ⟨.hbm, 80, rfl⟩
abbrev main_v59 : Ref sig .tc := ⟨.hbm, 81, rfl⟩
abbrev main_v60 : Ref sig .tc := ⟨.hbm, 82, rfl⟩
abbrev main_c_13 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_14 : Ref sig .tc := ⟨.hbm, 87, rfl⟩
abbrev main_v64 : Ref sig .tc := ⟨.hbm, 88, rfl⟩
abbrev main_v65 : Ref sig .tc := ⟨.hbm, 89, rfl⟩
abbrev main_c_15 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_16 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_17 : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_18 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_19 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩

abbrev nD : Nat := 1
abbrev τ : Topo := Topo.v7x

variable {F : FTy → Type} [FloatOps F]
-- ==== DownDgrad.lean ====
abbrev S4096x4096 : Shape := ⟨2, ![4096, 4096]⟩
abbrev S16384x4096 : Shape := ⟨2, ![16384, 4096]⟩
abbrev S4096x16384 : Shape := ⟨2, ![4096, 16384]⟩
abbrev S1024x4096 : Shape := ⟨2, ![1024, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S16384x4096, .bf16⟩
  | .hbm, ⟨2, _⟩ => ⟨S4096x16384, .f32⟩
  | .hbm, ⟨3, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDgradRefIdeal.lean ====
abbrev S4096x4096 : Shape := ⟨2, ![4096, 4096]⟩
abbrev S16384x4096 : Shape := ⟨2, ![16384, 4096]⟩
abbrev S4096x16384 : Shape := ⟨2, ![4096, 16384]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S16384x4096, .bf16⟩
  | .hbm, ⟨2, _⟩ => ⟨S4096x16384, .f32⟩
  | .hbm, ⟨3, _⟩ => ⟨S16384x4096, .f32⟩
  | .hbm, ⟨4, _⟩ => ⟨S_, .f32⟩
  | .hbm, ⟨5, _⟩ => ⟨S4096x16384, .f32⟩
  | .hbm, ⟨6, _⟩ => ⟨S4096x16384, .f32⟩
  | .hbm, ⟨7, _⟩ => ⟨S_, .f32⟩
  | .hbm, ⟨8, _⟩ => ⟨S4096x16384, .f32⟩
  | .hbm, ⟨9, _⟩ => ⟨S4096x16384, .i1⟩
  | .hbm, ⟨10, _⟩ => ⟨S_, .f32⟩
  | .hbm, ⟨11, _⟩ => ⟨S4096x16384, .f32⟩
  | .hbm, ⟨12, _⟩ => ⟨S4096x16384, .f32⟩
  | .hbm, ⟨13, _⟩ => ⟨S_, .f32⟩
  | .hbm, ⟨14, _⟩ => ⟨S4096x16384, .f32⟩
  | .hbm, ⟨15, _⟩ => ⟨S4096x16384, .f32⟩
  | .hbm, ⟨16, _⟩ => ⟨S4096x4096, .f32⟩
  | .hbm, ⟨17, _⟩ => ⟨S4096x4096, .f32⟩
  | .hbm, ⟨18, _⟩ => ⟨S4096x16384, .f32⟩
  | .hbm, ⟨19, _⟩ => ⟨S4096x16384, .f32⟩
  | .hbm, ⟨20, _⟩ => ⟨S_, .f32⟩
  | .hbm, ⟨21, _⟩ => ⟨S4096x16384, .f32⟩
  | .hbm, ⟨22, _⟩ => ⟨S4096x16384, .f32⟩
  | .hbm, ⟨23, _⟩ => ⟨S4096x16384, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DownWgrad.lean ====
abbrev S4096x16384 : Shape := ⟨2, ![4096, 16384]⟩
abbrev S4096x4096 : Shape := ⟨2, ![4096, 4096]⟩
abbrev S_ : Shape := ⟨0, ![]⟩
abbrev S16384x4096 : Shape := ⟨2, ![16384, 4096]⟩
abbrev S4096x1024 : Shape := ⟨2, ![4096, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x16384, .f32⟩
  | .hbm, ⟨1, _⟩ => ⟨S4096x4096, .bf16⟩
  | .hbm, ⟨2, _⟩ => ⟨S_, .f32⟩
  | .hbm, ⟨3, _⟩ => ⟨S4096x16384, .f32⟩
  | .hbm, ⟨4, _⟩ => ⟨S4096x16384, .f32⟩
  | .hbm, ⟨5, _⟩ => ⟨S4096x16384, .f32⟩
  | .hbm, ⟨6, _⟩ => ⟨S4096x16384, .bf16⟩
  | .hbm, ⟨7, _⟩ => ⟨S16384x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWgradRefIdeal.lean ====
abbrev S4096x16384 : Shape := ⟨2, ![4096, 16384]⟩
abbrev S4096x4096 : Shape := ⟨2, ![4096, 4096]⟩
abbrev S_ : Shape := ⟨0, ![]⟩
abbrev S16384x4096 : Shape := ⟨2, ![16384, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x4096, .bf16⟩
  | .hbm, ⟨2, _⟩ => ⟨S_, .f32⟩
  | .hbm, ⟨3, _⟩ => ⟨S16384x4096, .f32⟩
  | .hbm, ⟨4, _⟩ => ⟨S_, .f32⟩
  | .hbm, ⟨5, _⟩ => ⟨S4096x16384, .f32⟩
  | .hbm, ⟨6, _⟩ => ⟨S4096x16384, .f32⟩
  | .hbm, ⟨7, _⟩ => ⟨S4096x16384, .f32⟩
  | .hbm, ⟨8, _⟩ => ⟨S4096x4096, .f32⟩
  | .hbm, ⟨9, _⟩ => ⟨S4096x4096, .f32⟩
  | .hbm, ⟨10, _⟩ => ⟨S4096x16384, .f32⟩
  | .hbm, ⟨11, _⟩ => ⟨S16384x4096, .f32⟩
  | .hbm, ⟨12, _⟩ => ⟨S16384x4096, .bf16⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== UpDgrad.lean ====
abbrev S4096x16384 : Shape := ⟨2, ![4096, 16384]⟩
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S4096x16384, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDgradRefIdeal.lean ====
abbrev S4096x16384 : Shape := ⟨2, ![4096, 16384]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S4096x16384, .bf16⟩
  | .hbm, ⟨2, _⟩ => ⟨S_, .f32⟩
  | .hbm, ⟨3, _⟩ => ⟨S4096x4096, .f32⟩
  | .hbm, ⟨4, _⟩ => ⟨S4096x16384, .f32⟩
  | .hbm, ⟨5, _⟩ => ⟨S4096x16384, .f32⟩
  | .hbm, ⟨6, _⟩ => ⟨S4096x16384, .f32⟩
  | .hbm, ⟨7, _⟩ => ⟨S4096x4096, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpWgrad.lean ====
abbrev S4096x4096 : Shape := ⟨2, ![4096, 4096]⟩
abbrev S4096x16384 : Shape := ⟨2, ![4096, 16384]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S4096x16384, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWgradRefIdeal.lean ====
abbrev S4096x4096 : Shape := ⟨2, ![4096, 4096]⟩
abbrev S4096x16384 : Shape := ⟨2, ![4096, 16384]⟩
abbrev S_ : Shape := ⟨0, ![]⟩
abbrev S16384x4096 : Shape := ⟨2, ![16384, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S4096x4096, .f32⟩
  | .hbm, ⟨3, _⟩ => ⟨S_, .f32⟩
  | .hbm, ⟨4, _⟩ => ⟨S4096x16384, .f32⟩
  | .hbm, ⟨5, _⟩ => ⟨S4096x16384, .f32⟩
  | .hbm, ⟨6, _⟩ => ⟨S4096x16384, .f32⟩
  | .hbm, ⟨7, _⟩ => ⟨S16384x4096, .f32⟩
  | .hbm, ⟨8, _⟩ => ⟨S4096x16384, .f32⟩
  | .hbm, ⟨9, _⟩ => ⟨S4096x16384, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDgrad.lean ====
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDgradRefIdeal.lean ====
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutWgrad.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWgradRefIdeal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InWgrad.lean ====
abbrev S4096x8960 : Shape := ⟨2, ![4096, 8960]⟩
abbrev S4096x4096 : Shape := ⟨2, ![4096, 4096]⟩
abbrev S8960x4096 : Shape := ⟨2, ![8960, 4096]⟩
abbrev S4096x896 : Shape := ⟨2, ![4096, 896]⟩
abbrev S4096x1024 : Shape := ⟨2, ![4096, 1024]⟩
abbrev S896x1024 : Shape := ⟨2, ![896, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8960, .bf16⟩
  | .hbm, ⟨1, _⟩ => ⟨S4096x4096, .bf16⟩
  | .hbm, ⟨2, _⟩ => ⟨S8960x4096, .bf16⟩
  | .local _ .vmem, ⟨0, _⟩ => ⟨S4096x896, .bf16⟩
  | .local _ .vmem, ⟨1, _⟩ => ⟨S4096x896, .bf16⟩
  | .local _ .vmem, ⟨2, _⟩ => ⟨S4096x1024, .bf16⟩
  | .local _ .vmem, ⟨3, _⟩ => ⟨S4096x1024, .bf16⟩
  | .local _ .vmem, ⟨4, _⟩ => ⟨S896x1024, .bf16⟩
  | .local _ .vmem, ⟨5, _⟩ => ⟨S896x1024, .bf16⟩
  | _, _ => ⟨S4096x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWgradRefIdeal.lean ====
abbrev S4096x8960 : Shape := ⟨2, ![4096, 8960]⟩
abbrev S4096x4096 : Shape := ⟨2, ![4096, 4096]⟩
abbrev S_ : Shape := ⟨0, ![]⟩
abbrev S8960x4096 : Shape := ⟨2, ![8960, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x8960, .bf16⟩
  | .hbm, ⟨1, _⟩ => ⟨S4096x4096, .bf16⟩
  | .hbm, ⟨2, _⟩ => ⟨S4096x4096, .f32⟩
  | .hbm, ⟨3, _⟩ => ⟨S_, .f32⟩
  | .hbm, ⟨4, _⟩ => ⟨S4096x8960, .f32⟩
  | .hbm, ⟨5, _⟩ => ⟨S4096x8960, .f32⟩
  | .hbm, ⟨6, _⟩ => ⟨S4096x8960, .f32⟩
  | .hbm, ⟨7, _⟩ => ⟨S8960x4096, .f32⟩
  | .hbm, ⟨8, _⟩ => ⟨S4096x8960, .f32⟩
  | .hbm, ⟨9, _⟩ => ⟨S8960x4096, .f32⟩
  | .hbm, ⟨10, _⟩ => ⟨S8960x4096, .bf16⟩
  | _, _ => ⟨S4096x8960, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InDgrad.lean ====
abbrev S4096x8960 : Shape := ⟨2, ![4096, 8960]⟩
abbrev S8960x4096 : Shape := ⟨2, ![8960, 4096]⟩
abbrev S8x128 : Shape := ⟨2, ![8, 128]⟩
abbrev S4096x4096 : Shape := ⟨2, ![4096, 4096]⟩
abbrev S1024x1792 : Shape := ⟨2, ![1024, 1792]⟩
abbrev S1792x1024 : Shape := ⟨2, ![1792, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x8960, .bf16⟩
  | .hbm, ⟨1, _⟩ => ⟨S8960x4096, .bf16⟩
  | .hbm, ⟨2, _⟩ => ⟨S8x128, .f32⟩
  | .hbm, ⟨3, _⟩ => ⟨S4096x4096, .f32⟩
  | .local _ .vmem, ⟨0, _⟩ => ⟨S1024x1792, .bf16⟩
  | .local _ .vmem, ⟨1, _⟩ => ⟨S1024x1792, .bf16⟩
  | .local _ .vmem, ⟨2, _⟩ => ⟨S1792x1024, .bf16⟩
  | .local _ .vmem, ⟨3, _⟩ => ⟨S1792x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 5], ![false, false, false]⟩

def k0_cond3 (i : grid0.Coords) : BitVec 1 :=
  let arg2 : BitVec 32 := BitVec.ofNat 32 (i 2).val
  let c4_i32_6 : BitVec 32 := 4#32
  let v11 : BitVec 1 := Scalar.cmpi .eq arg2 c4_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDgradRefIdeal.lean ====
abbrev S4096x8960 : Shape := ⟨2, ![4096, 8960]⟩
abbrev S8960x4096 : Shape := ⟨2, ![8960, 4096]⟩
abbrev S8x128 : Shape := ⟨2, ![8, 128]⟩
abbrev S_ : Shape := ⟨0, ![]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x8960, .bf16⟩
  | .hbm, ⟨1, _⟩ => ⟨S8960x4096, .bf16⟩
  | .hbm, ⟨2, _⟩ => ⟨S8x128, .f32⟩
  | .hbm, ⟨3, _⟩ => ⟨S_, .f32⟩
  | .hbm, ⟨4, _⟩ => ⟨S4096x4096, .f32⟩
  | .hbm, ⟨5, _⟩ => ⟨S4096x8960, .bf16⟩
  | .hbm, ⟨6, _⟩ => ⟨S4096x8960, .f32⟩
  | .hbm, ⟨7, _⟩ => ⟨S4096x8960, .f32⟩
  | .hbm, ⟨8, _⟩ => ⟨S4096x8960, .f32⟩
  | .hbm, ⟨9, _⟩ => ⟨S4096x4096, .f32⟩
  | _, _ => ⟨S4096x8960, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Up.lean ====
abbrev S4096x4096 : Shape := ⟨2, ![4096, 4096]⟩
abbrev S4096x16384 : Shape := ⟨2, ![4096, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S4096x16384, .f32⟩
  | .hbm, ⟨3, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S4096x4096 : Shape := ⟨2, ![4096, 4096]⟩
abbrev S4096x16384 : Shape := ⟨2, ![4096, 16384]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S4096x4096, .f32⟩
  | .hbm, ⟨3, _⟩ => ⟨S4096x16384, .f32⟩
  | .hbm, ⟨4, _⟩ => ⟨S4096x16384, .f32⟩
  | .hbm, ⟨5, _⟩ => ⟨S_, .f32⟩
  | .hbm, ⟨6, _⟩ => ⟨S4096x16384, .f32⟩
  | .hbm, ⟨7, _⟩ => ⟨S4096x16384, .f32⟩
  | .hbm, ⟨8, _⟩ => ⟨S4096x16384, .f32⟩
  | .hbm, ⟨9, _⟩ => ⟨S4096x16384, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Down.lean ====
abbrev S4096x16384 : Shape := ⟨2, ![4096, 16384]⟩
abbrev S16384x4096 : Shape := ⟨2, ![16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S16384x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x16384 : Shape := ⟨2, ![4096, 16384]⟩
abbrev S16384x4096 : Shape := ⟨2, ![16384, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S16384x4096, .bf16⟩
  | .hbm, ⟨2, _⟩ => ⟨S4096x16384, .f32⟩
  | .hbm, ⟨3, _⟩ => ⟨S16384x4096, .f32⟩
  | .hbm, ⟨4, _⟩ => ⟨S4096x4096, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InRkv.lean ====
abbrev S4096x4096 : Shape := ⟨2, ![4096, 4096]⟩
abbrev S8960x4096 : Shape := ⟨2, ![8960, 4096]⟩
abbrev S6144x4096 : Shape := ⟨2, ![6144, 4096]⟩
abbrev S4096x6144 : Shape := ⟨2, ![4096, 6144]⟩
abbrev S1024x4096 : Shape := ⟨2, ![1024, 4096]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S8960x4096, .bf16⟩
  | .hbm, ⟨2, _⟩ => ⟨S6144x4096, .bf16⟩
  | .hbm, ⟨3, _⟩ => ⟨S4096x6144, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRkvRefIdeal.lean ====
abbrev S4096x4096 : Shape := ⟨2, ![4096, 4096]⟩
abbrev S8960x4096 : Shape := ⟨2, ![8960, 4096]⟩
abbrev S4096x8960 : Shape := ⟨2, ![4096, 8960]⟩
abbrev S4096x6144 : Shape := ⟨2, ![4096, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8960x4096, .bf16⟩
  | .hbm, ⟨2, _⟩ => ⟨S4096x4096, .f32⟩
  | .hbm, ⟨3, _⟩ => ⟨S4096x8960, .bf16⟩
  | .hbm, ⟨4, _⟩ => ⟨S4096x8960, .f32⟩
  | .hbm, ⟨5, _⟩ => ⟨S4096x8960, .f32⟩
  | .hbm, ⟨6, _⟩ => ⟨S4096x6144, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InLora.lean ====
abbrev S4096x4096 : Shape := ⟨2, ![4096, 4096]⟩
abbrev S8960x4096 : Shape := ⟨2, ![8960, 4096]⟩
abbrev S256x4096 : Shape := ⟨2, ![256, 4096]⟩
abbrev S4096x256 : Shape := ⟨2, ![4096, 256]⟩
abbrev S1024x4096 : Shape := ⟨2, ![1024, 4096]⟩
abbrev S1024x256 : Shape := ⟨2, ![1024, 256]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S8960x4096, .bf16⟩
  | .hbm, ⟨2, _⟩ => ⟨S256x4096, .bf16⟩
  | .hbm, ⟨3, _⟩ => ⟨S4096x256, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S1024x256, .f32⟩
  | .local _ .vmem, ⟨4, _⟩ => ⟨S1024x256, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InLoraRefIdeal.lean ====
abbrev S4096x4096 : Shape := ⟨2, ![4096, 4096]⟩
abbrev S8960x4096 : Shape := ⟨2, ![8960, 4096]⟩
abbrev S4096x8960 : Shape := ⟨2, ![4096, 8960]⟩
abbrev S4096x256 : Shape := ⟨2, ![4096, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8960x4096, .bf16⟩
  | .hbm, ⟨2, _⟩ => ⟨S4096x4096, .f32⟩
  | .hbm, ⟨3, _⟩ => ⟨S4096x8960, .bf16⟩
  | .hbm, ⟨4, _⟩ => ⟨S4096x8960, .f32⟩
  | .hbm, ⟨5, _⟩ => ⟨S4096x8960, .f32⟩
  | .hbm, ⟨6, _⟩ => ⟨S4096x256, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InQ.lean ====
abbrev S4096x4096 : Shape := ⟨2, ![4096, 4096]⟩
abbrev S8960x4096 : Shape := ⟨2, ![8960, 4096]⟩
abbrev S2048x4096 : Shape := ⟨2, ![2048, 4096]⟩
abbrev S4096x2048 : Shape := ⟨2, ![4096, 2048]⟩
abbrev S1024x4096 : Shape := ⟨2, ![1024, 4096]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S8960x4096, .bf16⟩
  | .hbm, ⟨2, _⟩ => ⟨S2048x4096, .bf16⟩
  | .hbm, ⟨3, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InQRefIdeal.lean ====
abbrev S4096x4096 : Shape := ⟨2, ![4096, 4096]⟩
abbrev S8960x4096 : Shape := ⟨2, ![8960, 4096]⟩
abbrev S4096x8960 : Shape := ⟨2, ![4096, 8960]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8960x4096, .bf16⟩
  | .hbm, ⟨2, _⟩ => ⟨S4096x4096, .f32⟩
  | .hbm, ⟨3, _⟩ => ⟨S4096x8960, .bf16⟩
  | .hbm, ⟨4, _⟩ => ⟨S4096x8960, .f32⟩
  | .hbm, ⟨5, _⟩ => ⟨S4096x8960, .f32⟩
  | .hbm, ⟨6, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InKv.lean ====
abbrev S4096x4096 : Shape := ⟨2, ![4096, 4096]⟩
abbrev S8960x4096 : Shape := ⟨2, ![8960, 4096]⟩
abbrev S512x4096 : Shape := ⟨2, ![512, 4096]⟩
abbrev S4096x512 : Shape := ⟨2, ![4096, 512]⟩
abbrev S1024x4096 : Shape := ⟨2, ![1024, 4096]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S8960x4096, .bf16⟩
  | .hbm, ⟨2, _⟩ => ⟨S512x4096, .bf16⟩
  | .hbm, ⟨3, _⟩ => ⟨S4096x512, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S1024x512, .f32⟩
  | .local _ .vmem, ⟨4, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InKvRefIdeal.lean ====
abbrev S4096x4096 : Shape := ⟨2, ![4096, 4096]⟩
abbrev S8960x4096 : Shape := ⟨2, ![8960, 4096]⟩
abbrev S4096x8960 : Shape := ⟨2, ![4096, 8960]⟩
abbrev S4096x512 : Shape := ⟨2, ![4096, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8960x4096, .bf16⟩
  | .hbm, ⟨2, _⟩ => ⟨S4096x4096, .f32⟩
  | .hbm, ⟨3, _⟩ => ⟨S4096x8960, .bf16⟩
  | .hbm, ⟨4, _⟩ => ⟨S4096x8960, .f32⟩
  | .hbm, ⟨5, _⟩ => ⟨S4096x8960, .f32⟩
  | .hbm, ⟨6, _⟩ => ⟨S4096x512, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Embed.lean ====
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S4096x4096, .f32⟩
  | .hbm, ⟨6, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== EmbedRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S1x4096, .f32⟩
  | .hbm, ⟨34, _⟩ => ⟨S1x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Post.lean ====
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S4096x4096, .f32⟩
  | .hbm, ⟨8, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .bf16⟩
  | .local _ .vmem, ⟨12, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S1x4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S1x4096, .f32⟩
  | .hbm, ⟨45, _⟩ => ⟨S1x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== AdamOut.lean ====
abbrev S512x4096 : Shape := ⟨2, ![512, 4096]⟩
abbrev S8x512x4096 : Shape := ⟨3, ![8, 512, 4096]⟩
abbrev S64x4096 : Shape := ⟨2, ![64, 4096]⟩
abbrev S8x64x4096 : Shape := ⟨3, ![8, 64, 4096]⟩
abbrev S1x64x4096 : Shape := ⟨3, ![1, 64, 4096]⟩

abbrev nBuf : Space → Nat
  | .hbm => 8
  | .vmem => 16
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S8x512x4096, .bf16⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S8x64x4096, .bf16⟩
  | .local _ .vmem, ⟨7, _⟩ => ⟨S8x64x4096, .bf16⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S512x4096 : Shape := ⟨2, ![512, 4096]⟩
abbrev S8x512x4096 : Shape := ⟨3, ![8, 512, 4096]⟩
abbrev S64x4096 : Shape := ⟨2, ![64, 4096]⟩
abbrev S8x64x4096 : Shape := ⟨3, ![8, 64, 4096]⟩
abbrev S1x64x4096 : Shape := ⟨3, ![1, 64, 4096]⟩

abbrev nBuf : Space → Nat
  | .hbm => 8
  | .vmem => 16
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S8x512x4096, .bf16⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S8x64x4096, .bf16⟩
  | .local _ .vmem, ⟨7, _⟩ => ⟨S8x64x4096, .bf16⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S512x4096 : Shape := ⟨2, ![512, 4096]⟩
abbrev S8x512x4096 : Shape := ⟨3, ![8, 512, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S8x512x4096, .bf16⟩
  | .hbm, ⟨4, _⟩ => ⟨S8x512x4096, .f32⟩
  | .hbm, ⟨5, _⟩ => ⟨S_, .f32⟩
  | .hbm, ⟨6, _⟩ => ⟨S512x4096, .f32⟩
  | .hbm, ⟨7, _⟩ => ⟨S_, .f32⟩
  | .hbm, ⟨8, _⟩ => ⟨S512x4096, .f32⟩
  | .hbm, ⟨9, _⟩ => ⟨S512x4096, .f32⟩
  | .hbm, ⟨10, _⟩ => ⟨S_, .f32⟩
  | .hbm, ⟨11, _⟩ => ⟨S512x4096, .f32⟩
  | .hbm, ⟨12, _⟩ => ⟨S512x4096, .f32⟩
  | .hbm, ⟨13, _⟩ => ⟨S512x4096, .f32⟩
  | .hbm, ⟨14, _⟩ => ⟨S_, .f32⟩
  | .hbm, ⟨15, _⟩ => ⟨S512x4096, .f32⟩
  | .hbm, ⟨16, _⟩ => ⟨S512x4096, .f32⟩
  | .hbm, ⟨17, _⟩ => ⟨S512x4096, .f32⟩
  | .hbm, ⟨18, _⟩ => ⟨S_, .f32⟩
  | .hbm, ⟨19, _⟩ => ⟨S512x4096, .f32⟩
  | .hbm, ⟨20, _⟩ => ⟨S512x4096, .f32⟩
  | .hbm, ⟨21, _⟩ => ⟨S512x4096, .f32⟩
  | .hbm, ⟨22, _⟩ => ⟨S_, .f32⟩
  | .hbm, ⟨23, _⟩ => ⟨S512x4096, .f32⟩
  | .hbm, ⟨24, _⟩ => ⟨S512x4096, .f32⟩
  | .hbm, ⟨25, _⟩ => ⟨S_, .f32⟩
  | .hbm, ⟨26, _⟩ => ⟨S512x4096, .f32⟩
  | .hbm, ⟨27, _⟩ => ⟨S512x4096, .f32⟩
  | .hbm, ⟨28, _⟩ => ⟨S512x4096, .f32⟩
  | .hbm, ⟨29, _⟩ => ⟨S_, .f32⟩
  | .hbm, ⟨30, _⟩ => ⟨S512x4096, .f32⟩
  | .hbm, ⟨31, _⟩ => ⟨S512x4096, .f32⟩
  | .hbm, ⟨32, _⟩ => ⟨S512x4096, .f32⟩
  | .hbm, ⟨33, _⟩ => ⟨S_, .f32⟩
  | .hbm, ⟨34, _⟩ => ⟨S512x4096, .f32⟩
  | .hbm, ⟨35, _⟩ => ⟨S512x4096, .f32⟩
  | .hbm, ⟨36, _⟩ => ⟨S512x4096, .f32⟩
  | .hbm, ⟨37, _⟩ => ⟨S_, .f32⟩
  | .hbm, ⟨38, _⟩ => ⟨S512x4096, .f32⟩
  | .hbm, ⟨39, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUp.lean ====
abbrev S4096x2048 : Shape := ⟨2, ![4096, 2048]⟩
abbrev S8x4096x2048 : Shape := ⟨3, ![8, 4096, 2048]⟩
abbrev S128x2048 : Shape := ⟨2, ![128, 2048]⟩
abbrev S8x128x2048 : Shape := ⟨3, ![8, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8x4096x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S8x128x2048, .bf16⟩
  | .local _ .vmem, ⟨7, _⟩ => ⟨S8x128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
abbrev S4096x2048 : Shape := ⟨2, ![4096, 2048]⟩
abbrev S8x4096x2048 : Shape := ⟨3, ![8, 4096, 2048]⟩
abbrev S128x2048 : Shape := ⟨2, ![128, 2048]⟩
abbrev S8x128x2048 : Shape := ⟨3, ![8, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8x4096x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S8x128x2048, .bf16⟩
  | .local _ .vmem, ⟨7, _⟩ => ⟨S8x128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S4096x2048 : Shape := ⟨2, ![4096, 2048]⟩
abbrev S8x4096x2048 : Shape := ⟨3, ![8, 4096, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8x4096x2048, .bf16⟩
  | .hbm, ⟨4, _⟩ => ⟨S8x4096x2048, .f32⟩
  | .hbm, ⟨5, _⟩ => ⟨S_, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S2048x4096 : Shape := ⟨2, ![2048, 4096]⟩
abbrev S8x2048x4096 : Shape := ⟨3, ![8, 2048, 4096]⟩
abbrev S64x4096 : Shape := ⟨2, ![64, 4096]⟩
abbrev S8x64x4096 : Shape := ⟨3, ![8, 64, 4096]⟩
abbrev S1x64x4096 : Shape := ⟨3, ![1, 64, 4096]⟩

abbrev nBuf : Space → Nat
  | .hbm => 8
  | .vmem => 16
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S8x2048x4096, .bf16⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S8x64x4096, .bf16⟩
  | .local _ .vmem, ⟨7, _⟩ => ⟨S8x64x4096, .bf16⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S2048x4096 : Shape := ⟨2, ![2048, 4096]⟩
abbrev S8x2048x4096 : Shape := ⟨3, ![8, 2048, 4096]⟩
abbrev S64x4096 : Shape := ⟨2, ![64, 4096]⟩
abbrev S8x64x4096 : Shape := ⟨3, ![8, 64, 4096]⟩
abbrev S1x64x4096 : Shape := ⟨3, ![1, 64, 4096]⟩

abbrev nBuf : Space → Nat
  | .hbm => 8
  | .vmem => 16
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S8x2048x4096, .bf16⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S8x64x4096, .bf16⟩
  | .local _ .vmem, ⟨7, _⟩ => ⟨S8x64x4096, .bf16⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S2048x4096 : Shape := ⟨2, ![2048, 4096]⟩
abbrev S8x2048x4096 : Shape := ⟨3, ![8, 2048, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S8x2048x4096, .bf16⟩
  | .hbm, ⟨4, _⟩ => ⟨S8x2048x4096, .f32⟩
  | .hbm, ⟨5, _⟩ => ⟨S_, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S_, .f32⟩
  | .hbm, ⟨26, _⟩ => ⟨S2048x4096, .f32⟩
  | .hbm, ⟨27, _⟩ => ⟨S2048x4096, .f32⟩
  | .hbm, ⟨28, _⟩ => ⟨S2048x4096, .f32⟩
  | .hbm, ⟨29, _⟩ => ⟨S_, .f32⟩
  | .hbm, ⟨30, _⟩ => ⟨S2048x4096, .f32⟩
  | .hbm, ⟨31, _⟩ => ⟨S2048x4096, .f32⟩
  | .hbm, ⟨32, _⟩ => ⟨S2048x4096, .f32⟩
  | .hbm, ⟨33, _⟩ => ⟨S_, .f32⟩
  | .hbm, ⟨34, _⟩ => ⟨S2048x4096, .f32⟩
  | .hbm, ⟨35, _⟩ => ⟨S2048x4096, .f32⟩
  | .hbm, ⟨36, _⟩ => ⟨S2048x4096, .f32⟩
  | .hbm, ⟨37, _⟩ => ⟨S_, .f32⟩
  | .hbm, ⟨38, _⟩ => ⟨S2048x4096, .f32⟩
  | .hbm, ⟨39, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamIn.lean ====
abbrev S4096x1120 : Shape := ⟨2, ![4096, 1120]⟩
abbrev S4x4096x1120 : Shape := ⟨3, ![4, 4096, 1120]⟩
abbrev S128x1120 : Shape := ⟨2, ![128, 1120]⟩
abbrev S4x128x1120 : Shape := ⟨3, ![4, 128, 1120]⟩
abbrev S1x128x1120 : Shape := ⟨3, ![1, 128, 1120]⟩

abbrev nBuf : Space → Nat
  | .hbm => 8
  | .vmem => 16
  | .smem => 0
  | _ => 0

abbrev bufTy : (tb : Table) → Fin (tcTables nBuf tb) → BufTy
  | .hbm, ⟨0, _⟩ => ⟨S4096x1120, .f32⟩
  | .hbm, ⟨1, _⟩ => ⟨S4096x1120, .f32⟩
  | .hbm, ⟨2, _⟩ => ⟨S4096x1120, .f32⟩
  | .hbm, ⟨3, _⟩ => ⟨S4x4096x1120, .bf16⟩
  | .hbm, ⟨4, _⟩ => ⟨S4096x1120, .f32⟩
  | .hbm, ⟨5, _⟩ => ⟨S4096x1120, .f32⟩
  | .hbm, ⟨6, _⟩ => ⟨S4096x1120, .f32⟩
  | .hbm, ⟨7, _⟩ => ⟨S4096x1120, .f32⟩
  | .local _ .vmem, ⟨0, _⟩ => ⟨S128x1120, .f32⟩
  | .local _ .vmem, ⟨1, _⟩ => ⟨S128x1120, .f32⟩
  | .local _ .vmem, ⟨2, _⟩ => ⟨S128x1120, .f32⟩
  | .local _ .vmem, ⟨3, _⟩ => ⟨S128x1120, .f32⟩
  | .local _ .vmem, ⟨4, _⟩ => ⟨S128x1120, .f32⟩
  | .local _ .vmem, ⟨5, _⟩ => ⟨S128x1120, .f32⟩
  | .local _ .vmem, ⟨6, _⟩ => ⟨S4x128x1120, .bf16⟩
  | .local _ .vmem, ⟨7, _⟩ => ⟨S4x128x1120, .bf16⟩
  | .local _ .vmem, ⟨8, _⟩ => ⟨S128x1120, .f32⟩
  | .local _ .vmem, ⟨9, _⟩ => ⟨S128x1120, .f32⟩
  | .local _ .vmem, ⟨10, _⟩ => ⟨S128x1120, .f32⟩
  | .local _ .vmem, ⟨11, _⟩ => ⟨S128x1120, .f32⟩
  | .local _ .vmem, ⟨12, _⟩ => ⟨S128x1120, .f32⟩
  | .local _ .vmem, ⟨13, _⟩ => ⟨S128x1120, .f32⟩
  | .local _ .vmem, ⟨14, _⟩ => ⟨S128x1120, .f32⟩
  | .local _ .vmem, ⟨15, _⟩ => ⟨S128x1120, .f32⟩
  | _, _ => ⟨S4096x1120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x1120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1120 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S4096x1120 : Shape := ⟨2, ![4096, 1120]⟩
abbrev S4x4096x1120 : Shape := ⟨3, ![4, 4096, 1120]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x1120, .f32⟩
  | .hbm, ⟨1, _⟩ => ⟨S4096x1120, .f32⟩
  | .hbm, ⟨2, _⟩ => ⟨S4096x1120, .f32⟩
  | .hbm, ⟨3, _⟩ => ⟨S4x4096x1120, .bf16⟩
  | .hbm, ⟨4, _⟩ => ⟨S4x4096x1120, .f32⟩
  | .hbm, ⟨5, _⟩ => ⟨S_, .f32⟩
  | .hbm, ⟨6, _⟩ => ⟨S4096x1120, .f32⟩
  | .hbm, ⟨7, _⟩ => ⟨S_, .f32⟩
  | .hbm, ⟨8, _⟩ => ⟨S4096x1120, .f32⟩
  | .hbm, ⟨9, _⟩ => ⟨S4096x1120, .f32⟩
  | .hbm, ⟨10, _⟩ => ⟨S_, .f32⟩
  | .hbm, ⟨11, _⟩ => ⟨S4096x1120, .f32⟩
  | .hbm, ⟨12, _⟩ => ⟨S4096x1120, .f32⟩
  | .hbm, ⟨13, _⟩ => ⟨S4096x1120, .f32⟩
  | .hbm, ⟨14, _⟩ => ⟨S_, .f32⟩
  | .hbm, ⟨15, _⟩ => ⟨S4096x1120, .f32⟩
  | .hbm, ⟨16, _⟩ => ⟨S4096x1120, .f32⟩
  | .hbm, ⟨17, _⟩ => ⟨S4096x1120, .f32⟩
  | .hbm, ⟨18, _⟩ => ⟨S_, .f32⟩
  | .hbm, ⟨19, _⟩ => ⟨S4096x1120, .f32⟩
  | .hbm, ⟨20, _⟩ => ⟨S4096x1120, .f32⟩
  | .hbm, ⟨21, _⟩ => ⟨S4096x1120, .f32⟩
  | .hbm, ⟨22, _⟩ => ⟨S_, .f32⟩
  | .hbm, ⟨23, _⟩ => ⟨S4096x1120, .f32⟩
  | .hbm, ⟨24, _⟩ => ⟨S4096x1120, .f32⟩
  | .hbm, ⟨25, _⟩ => ⟨S_, .f32⟩
  | .hbm, ⟨26, _⟩ => ⟨S4096x1120, .f32⟩
  | .hbm, ⟨27, _⟩ => ⟨S4096x1120, .f32⟩
  | .hbm, ⟨28, _⟩ => ⟨S4096x1120, .f32⟩
  | .hbm, ⟨29, _⟩ => ⟨S_, .f32⟩
  | .hbm, ⟨30, _⟩ => ⟨S4096x1120, .f32⟩
  | .hbm, ⟨31, _⟩ => ⟨S4096x1120, .f32⟩
  | .hbm, ⟨32, _⟩ => ⟨S4096x1120, .f32⟩
  | .hbm, ⟨33, _⟩ => ⟨S_, .f32⟩
  | .hbm, ⟨34, _⟩ => ⟨S4096x1120, .f32⟩
  | .hbm, ⟨35, _⟩ => ⟨S4096x1120, .f32⟩
  | .hbm, ⟨36, _⟩ => ⟨S4096x1120, .f32⟩
  | .hbm, ⟨37, _⟩ => ⟨S_, .f32⟩
  | .hbm, ⟨38, _⟩ => ⟨S4096x1120, .f32⟩
  | .hbm, ⟨39, _⟩ => ⟨S4096x1120, .f32⟩
  | _, _ => ⟨S4096x1120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamMod.lean ====
abbrev S4096x3072 : Shape := ⟨2, ![4096, 3072]⟩
abbrev S4096x8 : Shape := ⟨2, ![4096, 8]⟩
abbrev S8x3072 : Shape := ⟨2, ![8, 3072]⟩
abbrev S512x1024 : Shape := ⟨2, ![512, 1024]⟩
abbrev S512x8 : Shape := ⟨2, ![512, 8]⟩
abbrev S8x1024 : Shape := ⟨2, ![8, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4096x8, .f32⟩
  | .hbm, ⟨4, _⟩ => ⟨S8x3072, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S4096x3072, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x8, .f32⟩
  | .local _ .vmem, ⟨7, _⟩ => ⟨S512x8, .f32⟩
  | .local _ .vmem, ⟨8, _⟩ => ⟨S8x1024, .f32⟩
  | .local _ .vmem, ⟨9, _⟩ => ⟨S8x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamModRefIdeal.lean ====
abbrev S4096x3072 : Shape := ⟨2, ![4096, 3072]⟩
abbrev S4096x8 : Shape := ⟨2, ![4096, 8]⟩
abbrev S8x3072 : Shape := ⟨2, ![8, 3072]⟩
abbrev S8x4096 : Shape := ⟨2, ![8, 4096]⟩
abbrev S_ : Shape := ⟨0, ![]⟩
abbrev S3072x4096 : Shape := ⟨2, ![3072, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4096x8, .f32⟩
  | .hbm, ⟨4, _⟩ => ⟨S8x3072, .f32⟩
  | .hbm, ⟨5, _⟩ => ⟨S8x4096, .f32⟩
  | .hbm, ⟨6, _⟩ => ⟨S_, .f32⟩
  | .hbm, ⟨7, _⟩ => ⟨S4096x3072, .f32⟩
  | .hbm, ⟨8, _⟩ => ⟨S8x3072, .f32⟩
  | .hbm, ⟨9, _⟩ => ⟨S3072x4096, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S_, .f32⟩
  | .hbm, ⟨15, _⟩ => ⟨S4096x3072, .f32⟩
  | .hbm, ⟨16, _⟩ => ⟨S4096x3072, .f32⟩
  | .hbm, ⟨17, _⟩ => ⟨S4096x3072, .f32⟩
  | .hbm, ⟨18, _⟩ => ⟨S_, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S_, .f32⟩
  | .hbm, ⟨23, _⟩ => ⟨S4096x3072, .f32⟩
  | .hbm, ⟨24, _⟩ => ⟨S4096x3072, .f32⟩
  | .hbm, ⟨25, _⟩ => ⟨S4096x3072, .f32⟩
  | .hbm, ⟨26, _⟩ => ⟨S_, .f32⟩
  | .hbm, ⟨27, _⟩ => ⟨S4096x3072, .f32⟩
  | .hbm, ⟨28, _⟩ => ⟨S4096x3072, .f32⟩
  | .hbm, ⟨29, _⟩ => ⟨S_, .f32⟩
  | .hbm, ⟨30, _⟩ => ⟨S4096x3072, .f32⟩
  | .hbm, ⟨31, _⟩ => ⟨S4096x3072, .f32⟩
  | .hbm, ⟨32, _⟩ => ⟨S4096x3072, .f32⟩
  | .hbm, ⟨33, _⟩ => ⟨S_, .f32⟩
  | .hbm, ⟨34, _⟩ => ⟨S4096x3072, .f32⟩
  | .hbm, ⟨35, _⟩ => ⟨S4096x3072, .f32⟩
  | .hbm, ⟨36, _⟩ => ⟨S4096x3072, .f32⟩
  | .hbm, ⟨37, _⟩ => ⟨S_, .f32⟩
  | .hbm, ⟨38, _⟩ => ⟨S4096x3072, .f32⟩
  | .hbm, ⟨39, _⟩ => ⟨S4096x3072, .f32⟩
  | .hbm, ⟨40, _⟩ => ⟨S4096x3072, .f32⟩
  | .hbm, ⟨41, _⟩ => ⟨S_, .f32⟩
  | .hbm, ⟨42, _⟩ => ⟨S4096x3072, .f32⟩
  | .hbm, ⟨43, _⟩ => ⟨S4096x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Proof.Core.lean ====
module

public import proofs.«01_k».proof.Proof.Gen.KernelIdeal.Skeleton
public import Idealize.ShloMosaic.Lib.Pointwise

@[expose] public section

set_option maxRecDepth 16384

noncomputable section

namespace Cert.KernelIdeal.Attn

open Cert.KernelIdeal Cert.KernelIdeal.Gen Idealize.ShloMosaic Idealize.SL.Sem

/-- What one key/value head of a block reads. -/
structure Side where
  /-- which keys a query may see -/
  mask : IVec S256x1024 1
  /-- the keys of the previous and this block -/
  kb : FVec Ideal S256x64 .f32
  /-- the values of the previous and this block -/
  vb : FVec Ideal S256x64 .f32
  /-- the queries of the group, one below the other -/
  qg : FVec Ideal S1024x64 .f32
  /-- the position bias -/
  bias : FVec Ideal S256x1024 .f32
  /-- the sinks, one per column -/
  sink : FVec Ideal S1x1024 .f32
  /-- the incoming gradient, transposed -/
  doT : FVec Ideal S64x1024 .f32

namespace Side

/-- The scores, keys on the rows and queries on the columns; an excluded key sits at the bottom. -/
def masked (X : Side) : FVec Ideal S256x1024 .f32 :=
  have v89 : FVec Ideal S256x64 .bf16 := truncf .bf16 X.kb bitsLt_bf16_f32
  have v90 : FVec Ideal S1024x64 .bf16 := truncf .bf16 X.qg bitsLt_bf16_f32
  have cst : FVec Ideal S256x1024 .f32 := constant S256x1024 .f32 0x00000000#32
  have v91 : FVec Ideal S256x1024 .f32 := matmul dot_S256x64_S1024x64_S256x1024_1_1_0_0_n_n none v89 v90 cst
  have cst_17 : Ideal .f32 := Scalar.ofBits .f32 0x3E000000#32
  have v92 : FVec Ideal S256x1024 .f32 := broadcast S256x1024 cst_17
  have v93 : FVec Ideal S256x1024 .f32 := mulf v91 v92
  have v94 : FVec Ideal S256x1024 .f32 := addf v93 X.bias
  have cst_18 : Ideal .f32 := Named.named κ "mask" 0xF149F2CA#32
  have v95 : FVec Ideal S256x1024 .f32 := broadcast S256x1024 cst_18
  select X.mask v94 v95

/-- The largest score of each column. -/
def top (X : Side) : FVec Ideal S1024 .f32 :=
  multiReduction .maximumf [0] S1024 X.masked 0xFF800000#32 reduces_S256x1024_S1024 (.inl rfl) rfl

/-- One where a score is its column's largest, zero elsewhere. -/
def hits (X : Side) : FVec Ideal S256x1024 .f32 :=
  have v98 : FVec Ideal S1x1024 .f32 := shapeCast S1x1024 X.top shapeCasts_S1024_S1x1024
  have v99 : FVec Ideal S256x1024 .f32 := broadcastTo S256x1024 v98 broadcasts_S1x1024_S256x1024
  have v100 : IVec S256x1024 1 := cmpf .oeq X.masked v99
  have v101 : IVec S256x1024 32 := extui 32 v100 natLt_1_32
  sitofp .f32 v101

/-- How many scores reach the largest of their column. -/
def count (X : Side) : FVec Ideal S1024 .f32 :=
  multiReduction .add [0] S1024 X.hits 0x00000000#32 reduces_S256x1024_S1024 (.inl rfl) rfl

/-- The largest of a column and its sink. -/
def big (X : Side) : FVec Ideal S1x1024 .f32 :=
  have v104 : FVec Ideal S1x1024 .f32 := shapeCast S1x1024 X.top shapeCasts_S1024_S1x1024
  maximumf v104 X.sink

/-- The share of the largest's gradient that goes to the scores. -/
def selM (X : Side) : FVec Ideal S1x1024 .f32 :=
  have v104 : FVec Ideal S1x1024 .f32 := shapeCast S1x1024 X.top shapeCasts_S1024_S1x1024
  have v106 : IVec S1x1024 1 := cmpf .ogt v104 X.sink
  have cst_21 : Ideal .f32 := Scalar.ofBits .f32 0x3F800000#32
  have v108 : FVec Ideal S1x1024 .f32 := broadcast S1x1024 cst_21
  have v107 : IVec S1x1024 1 := cmpf .oeq v104 X.sink
  have cst_23 : Ideal .f32 := Scalar.ofBits .f32 0x3F000000#32
  have v110 : FVec Ideal S1x1024 .f32 := broadcast S1x1024 cst_23
  have cst_22 : Ideal .f32 := Scalar.ofBits .f32 0x00000000#32
  have v109 : FVec Ideal S1x1024 .f32 := broadcast S1x1024 cst_22
  have v111 : FVec Ideal S1x1024 .f32 := select v107 v110 v109
  select v106 v108 v111

/-- The share of the largest's gradient that goes to the sink. -/
def selS (X : Side) : FVec Ideal S1x1024 .f32 :=
  have v104 : FVec Ideal S1x1024 .f32 := shapeCast S1x1024 X.top shapeCasts_S1024_S1x1024
  have v113 : IVec S1x1024 1 := cmpf .ogt X.sink v104
  have cst_24 : Ideal .f32 := Scalar.ofBits .f32 0x3F800000#32
  have v115 : FVec Ideal S1x1024 .f32 := broadcast S1x1024 cst_24
  have v114 : IVec S1x1024 1 := cmpf .oeq X.sink v104
  have cst_26 : Ideal .f32 := Scalar.ofBits .f32 0x3F000000#32
  have v117 : FVec Ideal S1x1024 .f32 := broadcast S1x1024 cst_26
  have cst_25 : Ideal .f32 := Scalar.ofBits .f32 0x00000000#32
  have v116 : FVec Ideal S1x1024 .f32 := broadcast S1x1024 cst_25
  have v118 : FVec Ideal S1x1024 .f32 := select v114 v117 v116
  select v113 v115 v118

/-- The exponentials of the scores. -/
def ex (X : Side) : FVec Ideal S256x1024 .f32 :=
  have v120 : FVec Ideal S256x1024 .f32 := broadcastTo S256x1024 X.big broadcasts_S1x1024_S256x1024
  have v121 : FVec Ideal S256x1024 .f32 := subf X.masked v120
  exp v121

/-- The exponential of the sink. -/
def exS (X : Side) : FVec Ideal S1x1024 .f32 :=
  have v125 : FVec Ideal S1x1024 .f32 := subf X.sink X.big
  exp v125

/-- The softmax's denominator. -/
def den (X : Side) : FVec Ideal S1x1024 .f32 :=
  have v123 : FVec Ideal S1024 .f32 := multiReduction .add [0] S1024 X.ex 0x00000000#32 reduces_S256x1024_S1024 (.inl rfl) rfl
  have v124 : FVec Ideal S1x1024 .f32 := shapeCast S1x1024 v123 shapeCasts_S1024_S1x1024
  addf v124 X.exS

/-- The probabilities. -/
def pr (X : Side) : FVec Ideal S256x1024 .f32 :=
  have v128 : FVec Ideal S256x1024 .f32 := broadcastTo S256x1024 X.den broadcasts_S1x1024_S256x1024
  divf X.ex v128

/-- One over the square of the denominator. -/
def inv (X : Side) : FVec Ideal S1x1024 .f32 :=
  have cst_28 : Ideal .f32 := Scalar.ofBits .f32 0x3F800000#32
  have v131 : FVec Ideal S1x1024 .f32 := broadcast S1x1024 cst_28
  have v130 : FVec Ideal S1x1024 .f32 := mulf X.den X.den
  divf v131 v130

/-- The gradient of the values. -/
def dv (X : Side) : FVec Ideal S256x64 .f32 :=
  have v1473 : FVec Ideal S256x1024 .bf16 := truncf .bf16 X.pr bitsLt_bf16_f32
  have v1474 : FVec Ideal S64x1024 .bf16 := truncf .bf16 X.doT bitsLt_bf16_f32
  have cst_281 : FVec Ideal S256x64 .f32 := constant S256x64 .f32 0x00000000#32
  matmul dot_S256x1024_S64x1024_S256x64_1_1_0_0_n_n none v1473 v1474 cst_281

/-- The gradient of the probabilities. -/
def dp (X : Side) : FVec Ideal S256x1024 .f32 :=
  have v1476 : FVec Ideal S256x64 .bf16 := truncf .bf16 X.vb bitsLt_bf16_f32
  have v1477 : FVec Ideal S64x1024 .bf16 := truncf .bf16 X.doT bitsLt_bf16_f32
  have cst_282 : FVec Ideal S256x1024 .f32 := constant S256x1024 .f32 0x00000000#32
  matmul dot_S256x64_S64x1024_S256x1024_1_0_0_1_n_n none v1476 v1477 cst_282

/-- The gradient of the denominator. -/
def c (X : Side) : FVec Ideal S1x1024 .f32 :=
  have cst_284 : Ideal .f32 := Scalar.ofBits .f32 0x00000000#32
  have v1484 : FVec Ideal S1x1024 .f32 := broadcast S1x1024 cst_284
  have v1479 : FVec Ideal S256x1024 .f32 := broadcastTo S256x1024 X.inv broadcasts_S1x1024_S256x1024
  have v1480 : FVec Ideal S256x1024 .f32 := mulf X.dp v1479
  have v1481 : FVec Ideal S256x1024 .f32 := mulf v1480 X.ex
  have v1482 : FVec Ideal S1024 .f32 := multiReduction .add [0] S1024 v1481 0x00000000#32 reduces_S256x1024_S1024 (.inl rfl) rfl
  have v1483 : FVec Ideal S1x1024 .f32 := shapeCast S1x1024 v1482 shapeCasts_S1024_S1x1024
  subf v1484 v1483

/-- The denominator's gradient times the sink's exponential. -/
def gS (X : Side) : FVec Ideal S1x1024 .f32 :=
  mulf X.c X.exS

/-- The gradient of the exponentials' arguments. -/
def dex (X : Side) : FVec Ideal S256x1024 .f32 :=
  have v1486 : FVec Ideal S256x1024 .f32 := broadcastTo S256x1024 X.den broadcasts_S1x1024_S256x1024
  have v1487 : FVec Ideal S256x1024 .f32 := divf X.dp v1486
  have v1491 : FVec Ideal S1024 .f32 := multiReduction .add [0] S1024 X.c 0x00000000#32 reduces_S1x1024_S1024 (.inl rfl) rfl
  have v1492 : FVec Ideal S1x1024 .f32 := shapeCast S1x1024 v1491 shapeCasts_S1024_S1x1024
  have v1493 : FVec Ideal S256x1024 .f32 := broadcastTo S256x1024 v1492 broadcasts_S1x1024_S256x1024
  have v1494 : FVec Ideal S256x1024 .f32 := addf v1487 v1493
  mulf v1494 X.ex

/-- The gradient of the subtracted maximum. -/
def dmax (X : Side) : FVec Ideal S1x1024 .f32 :=
  have cst_285 : Ideal .f32 := Scalar.ofBits .f32 0x00000000#32
  have v1489 : FVec Ideal S1x1024 .f32 := broadcast S1x1024 cst_285
  have v1490 : FVec Ideal S1x1024 .f32 := subf v1489 X.gS
  have cst_287 : Ideal .f32 := Scalar.ofBits .f32 0x00000000#32
  have v1496 : FVec Ideal S256x1024 .f32 := broadcast S256x1024 cst_287
  have v1497 : FVec Ideal S256x1024 .f32 := subf v1496 X.dex
  have v1498 : FVec Ideal S1024 .f32 := multiReduction .add [0] S1024 v1497 0x00000000#32 reduces_S256x1024_S1024 (.inl rfl) rfl
  have v1499 : FVec Ideal S1x1024 .f32 := shapeCast S1x1024 v1498 shapeCasts_S1024_S1x1024
  addf v1490 v1499

/-- The gradient of the sink, one number per query. -/
def dcol (X : Side) : FVec Ideal S1x1024 .f32 :=
  have v1501 : FVec Ideal S1x1024 .f32 := mulf X.dmax X.selS
  addf X.gS v1501

/-- What each largest score receives. -/
def share (X : Side) : FVec Ideal S1024 .f32 :=
  have v1503 : FVec Ideal S1x1024 .f32 := mulf X.dmax X.selM
  have v1504 : FVec Ideal S1024 .f32 := multiReduction .add [0] S1024 v1503 0x00000000#32 reduces_S1x1024_S1024 (.inl rfl) rfl
  divf v1504 X.count

/-- The gradient of the scores. -/
def ds (X : Side) : FVec Ideal S256x1024 .f32 :=
  have v1506 : FVec Ideal S1x1024 .f32 := shapeCast S1x1024 X.share shapeCasts_S1024_S1x1024
  have v1507 : FVec Ideal S256x1024 .f32 := broadcastTo S256x1024 v1506 broadcasts_S1x1024_S256x1024
  have v1508 : FVec Ideal S256x1024 .f32 := mulf v1507 X.hits
  have v1509 : FVec Ideal S256x1024 .f32 := addf X.dex v1508
  have cst_290 : Ideal .f32 := Scalar.ofBits .f32 0x00000000#32
  have v1510 : FVec Ideal S256x1024 .f32 := broadcast S256x1024 cst_290
  select X.mask v1509 v1510

/-- The gradient of the scores, scaled. -/
def dsc (X : Side) : FVec Ideal S256x1024 .f32 :=
  have cst_291 : Ideal .f32 := Scalar.ofBits .f32 0x3E000000#32
  have v1512 : FVec Ideal S256x1024 .f32 := broadcast S256x1024 cst_291
  mulf X.ds v1512

/-- The gradient of the keys. -/
def dk (X : Side) : FVec Ideal S256x64 .f32 :=
  have v1514 : FVec Ideal S256x1024 .bf16 := truncf .bf16 X.dsc bitsLt_bf16_f32
  have v1515 : FVec Ideal S1024x64 .bf16 := truncf .bf16 X.qg bitsLt_bf16_f32
  have cst_292 : FVec Ideal S256x64 .f32 := constant S256x64 .f32 0x00000000#32
  matmul dot_S256x1024_S1024x64_S256x64_1_0_0_1_n_n none v1514 v1515 cst_292

/-- The gradient of the queries. -/
def dqg (X : Side) : FVec Ideal S1024x64 .f32 :=
  have v1517 : FVec Ideal S256x1024 .bf16 := truncf .bf16 X.dsc bitsLt_bf16_f32
  have v1518 : FVec Ideal S256x64 .bf16 := truncf .bf16 X.kb bitsLt_bf16_f32
  have cst_293 : FVec Ideal S1024x64 .f32 := constant S1024x64 .f32 0x00000000#32
  matmul dot_S256x1024_S256x64_S1024x64_0_0_1_1_n_n none v1517 v1518 cst_293

end Side
end Cert.KernelIdeal.Attn
-- ==== Proof.Inputs.lean ====
module

public import proofs.«01_k».proof.Proof.Core

@[expose] public section

set_option maxRecDepth 16384

noncomputable section

namespace Cert.KernelIdeal.Attn

open Cert.KernelIdeal Cert.KernelIdeal.Gen Idealize.ShloMosaic Idealize.SL.Sem

/-- The identity matrix. -/
def eye : FVec Ideal S128x128 .f32 :=
  have v27 : IVec S128x128 32 := iota .tc S128x128 32 [0] iota_S128x128_d0_w32
  have v28 : IVec S128x128 32 := iota .tc S128x128 32 [1] iota_S128x128_d1_w32
  have v29 : IVec S128x128 1 := cmpi .eq v27 v28
  have v30 : IVec S128x128 32 := extui 32 v29 natLt_1_32
  sitofp .f32 v30

/-- Which keys a query of block `i` may see. -/
def see (i : grid0.Coords) : IVec S256x1024 1 :=
  have arg0 : BitVec 32 := BitVec.ofNat 32 (i 0).val
  have v10 : IVec S256x1024 32 := iota .tc S256x1024 32 [1] iota_S256x1024_d1_w32
  have v11 : IVec S256x1024 32 := broadcast S256x1024 127#32
  have v12 : IVec S256x1024 32 := andi v10 v11
  have v13 : IVec S256x1024 32 := broadcast S256x1024 128#32
  have v14 : IVec S256x1024 32 := addi v12 v13
  have v9 : IVec S256x1024 32 := iota .tc S256x1024 32 [0] iota_S256x1024_d0_w32
  have v15 : IVec S256x1024 32 := subi v14 v9
  have v16 : IVec S256x1024 32 := broadcast S256x1024 0#32
  have v17 : IVec S256x1024 1 := cmpi .sge v15 v16
  have v18 : IVec S256x1024 32 := broadcast S256x1024 128#32
  have v19 : IVec S256x1024 1 := cmpi .slt v15 v18
  have v20 : IVec S256x1024 1 := andi v17 v19
  have v0 : BitVec 1 := Scalar.cmpi .eq arg0 0#32
  have v21 : BitVec 1 := Scalar.xori v0 1#1
  have v24 : IVec S256x1024 1 := broadcast S256x1024 v21
  have v22 : IVec S256x1024 32 := broadcast S256x1024 128#32
  have v23 : IVec S256x1024 1 := cmpi .sge v9 v22
  have v25 : IVec S256x1024 1 := ori v24 v23
  andi v20 v25

/-- Head 0's keys. -/
def keys0 (a b : FVec Ideal S128x256 .f32) : FVec Ideal S256x64 .f32 :=
  have v32 : FVec Ideal S128x64 .f32 := extractStridedSlice S128x64 ![0, 0] a slices_S128x256_o0_0_S128x64
  have v33 : FVec Ideal S128x64 .f32 := extractStridedSlice S128x64 ![0, 0] b slices_S128x256_o0_0_S128x64
  concatenate S256x64 0 [⟨S128x64, v32⟩, ⟨S128x64, v33⟩] concatenates_S128x64_S128x64_S256x64_d0

/-- Head 0's queries. -/
def quer0 (a : FVec Ideal S128x2048 .f32) : FVec Ideal S1024x64 .f32 :=
  have v38 : FVec Ideal S128x64 .f32 := extractStridedSlice S128x64 ![0, 0] a slices_S128x2048_o0_0_S128x64
  have v39 : FVec Ideal S128x64 .f32 := extractStridedSlice S128x64 ![0, 64] a slices_S128x2048_o0_64_S128x64
  have v40 : FVec Ideal S128x64 .f32 := extractStridedSlice S128x64 ![0, 128] a slices_S128x2048_o0_128_S128x64
  have v41 : FVec Ideal S128x64 .f32 := extractStridedSlice S128x64 ![0, 192] a slices_S128x2048_o0_192_S128x64
  have v42 : FVec Ideal S128x64 .f32 := extractStridedSlice S128x64 ![0, 256] a slices_S128x2048_o0_256_S128x64
  have v43 : FVec Ideal S128x64 .f32 := extractStridedSlice S128x64 ![0, 320] a slices_S128x2048_o0_320_S128x64
  have v44 : FVec Ideal S128x64 .f32 := extractStridedSlice S128x64 ![0, 384] a slices_S128x2048_o0_384_S128x64
  have v45 : FVec Ideal S128x64 .f32 := extractStridedSlice S128x64 ![0, 448] a slices_S128x2048_o0_448_S128x64
  concatenate S1024x64 0 [⟨S128x64, v38⟩, ⟨S128x64, v39⟩, ⟨S128x64, v40⟩, ⟨S128x64, v41⟩, ⟨S128x64, v42⟩, ⟨S128x64, v43⟩, ⟨S128x64, v44⟩, ⟨S128x64, v45⟩] concatenates_S128x64_S128x64_S128x64_S128x64_S128x64_S128x64_S128x64_S128x64_S1024x64_d0

/-- Head 0's position bias. -/
def bias0 (a : FVec Ideal S32x256x128 .f32) : FVec Ideal S256x1024 .f32 :=
  have v7 : FVec Ideal S32x256x128 .f32 := shapeCast S32x256x128 a shapeCasts_S32x256x128_S32x256x128
  have v47 : FVec Ideal S1x256x128 .f32 := extractStridedSlice S1x256x128 ![0, 0, 0] v7 slices_S32x256x128_o0_0_0_S1x256x128
  have v48 : FVec Ideal S256x128 .f32 := shapeCast S256x128 v47 shapeCasts_S1x256x128_S256x128
  have v49 : FVec Ideal S1x256x128 .f32 := extractStridedSlice S1x256x128 ![1, 0, 0] v7 slices_S32x256x128_o1_0_0_S1x256x128
  have v50 : FVec Ideal S256x128 .f32 := shapeCast S256x128 v49 shapeCasts_S1x256x128_S256x128
  have v51 : FVec Ideal S1x256x128 .f32 := extractStridedSlice S1x256x128 ![2, 0, 0] v7 slices_S32x256x128_o2_0_0_S1x256x128
  have v52 : FVec Ideal S256x128 .f32 := shapeCast S256x128 v51 shapeCasts_S1x256x128_S256x128
  have v53 : FVec Ideal S1x256x128 .f32 := extractStridedSlice S1x256x128 ![3, 0, 0] v7 slices_S32x256x128_o3_0_0_S1x256x128
  have v54 : FVec Ideal S256x128 .f32 := shapeCast S256x128 v53 shapeCasts_S1x256x128_S256x128
  have v55 : FVec Ideal S1x256x128 .f32 := extractStridedSlice S1x256x128 ![4, 0, 0] v7 slices_S32x256x128_o4_0_0_S1x256x128
  have v56 : FVec Ideal S256x128 .f32 := shapeCast S256x128 v55 shapeCasts_S1x256x128_S256x128
  have v57 : FVec Ideal S1x256x128 .f32 := extractStridedSlice S1x256x128 ![5, 0, 0] v7 slices_S32x256x128_o5_0_0_S1x256x128
  have v58 : FVec Ideal S256x128 .f32 := shapeCast S256x128 v57 shapeCasts_S1x256x128_S256x128
  have v59 : FVec Ideal S1x256x128 .f32 := extractStridedSlice S1x256x128 ![6, 0, 0] v7 slices_S32x256x128_o6_0_0_S1x256x128
  have v60 : FVec Ideal S256x128 .f32 := shapeCast S256x128 v59 shapeCasts_S1x256x128_S256x128
  have v61 : FVec Ideal S1x256x128 .f32 := extractStridedSlice S1x256x128 ![7, 0, 0] v7 slices_S32x256x128_o7_0_0_S1x256x128
  have v62 : FVec Ideal S256x128 .f32 := shapeCast S256x128 v61 shapeCasts_S1x256x128_S256x128
  concatenate S256x1024 1 [⟨S256x128, v48⟩, ⟨S256x128, v50⟩, ⟨S256x128, v52⟩, ⟨S256x128, v54⟩, ⟨S256x128, v56⟩, ⟨S256x128, v58⟩, ⟨S256x128, v60⟩, ⟨S256x128, v62⟩] concatenates_S256x128_S256x128_S256x128_S256x128_S256x128_S256x128_S256x128_S256x128_S256x1024_d1

/-- Head 0's sinks. -/
def sink0 (a : FVec Ideal S1x32 .f32) : FVec Ideal S1x1024 .f32 :=
  have v64 : FVec Ideal S1x1 .f32 := extractStridedSlice S1x1 ![0, 0] a slices_S1x32_o0_0_S1x1
  have v65 : FVec Ideal S1x1 .f32 := shapeCast S1x1 v64 shapeCasts_S1x1_S1x1
  have v66 : FVec Ideal S1x128 .f32 := broadcastTo S1x128 v65 broadcasts_S1x1_S1x128
  have v67 : FVec Ideal S1x1 .f32 := extractStridedSlice S1x1 ![0, 1] a slices_S1x32_o0_1_S1x1
  have v68 : FVec Ideal S1x1 .f32 := shapeCast S1x1 v67 shapeCasts_S1x1_S1x1
  have v69 : FVec Ideal S1x128 .f32 := broadcastTo S1x128 v68 broadcasts_S1x1_S1x128
  have v70 : FVec Ideal S1x1 .f32 := extractStridedSlice S1x1 ![0, 2] a slices_S1x32_o0_2_S1x1
  have v71 : FVec Ideal S1x1 .f32 := shapeCast S1x1 v70 shapeCasts_S1x1_S1x1
  have v72 : FVec Ideal S1x128 .f32 := broadcastTo S1x128 v71 broadcasts_S1x1_S1x128
  have v73 : FVec Ideal S1x1 .f32 := extractStridedSlice S1x1 ![0, 3] a slices_S1x32_o0_3_S1x1
  have v74 : FVec Ideal S1x1 .f32 := shapeCast S1x1 v73 shapeCasts_S1x1_S1x1
  have v75 : FVec Ideal S1x128 .f32 := broadcastTo S1x128 v74 broadcasts_S1x1_S1x128
  have v76 : FVec Ideal S1x1 .f32 := extractStridedSlice S1x1 ![0, 4] a slices_S1x32_o0_4_S1x1
  have v77 : FVec Ideal S1x1 .f32 := shapeCast S1x1 v76 shapeCasts_S1x1_S1x1
  have v78 : FVec Ideal S1x128 .f32 := broadcastTo S1x128 v77 broadcasts_S1x1_S1x128
  have v79 : FVec Ideal S1x1 .f32 := extractStridedSlice S1x1 ![0, 5] a slices_S1x32_o0_5_S1x1
  have v80 : FVec Ideal S1x1 .f32 := shapeCast S1x1 v79 shapeCasts_S1x1_S1x1
  have v81 : FVec Ideal S1x128 .f32 := broadcastTo S1x128 v80 broadcasts_S1x1_S1x128
  have v82 : FVec Ideal S1x1 .f32 := extractStridedSlice S1x1 ![0, 6] a slices_S1x32_o0_6_S1x1
  have v83 : FVec Ideal S1x1 .f32 := shapeCast S1x1 v82 shapeCasts_S1x1_S1x1
  have v84 : FVec Ideal S1x128 .f32 := broadcastTo S1x128 v83 broadcasts_S1x1_S1x128
  have v85 : FVec Ideal S1x1 .f32 := extractStridedSlice S1x1 ![0, 7] a slices_S1x32_o0_7_S1x1
  have v86 : FVec Ideal S1x1 .f32 := shapeCast S1x1 v85 shapeCasts_S1x1_S1x1
  have v87 : FVec Ideal S1x128 .f32 := broadcastTo S1x128 v86 broadcasts_S1x1_S1x128
  concatenate S1x1024 1 [⟨S1x128, v66⟩, ⟨S1x128, v69⟩, ⟨S1x128, v72⟩, ⟨S1x128, v75⟩, ⟨S1x128, v78⟩, ⟨S1x128, v81⟩, ⟨S1x128, v84⟩, ⟨S1x128, v87⟩] concatenates_S1x128_S1x128_S1x128_S1x128_S1x128_S1x128_S1x128_S1x128_S1x1024_d1

/-- Head 0's incoming gradient, transposed. -/
def dout0 (a : FVec Ideal S128x2048 .f32) : FVec Ideal S64x1024 .f32 :=
  have cst_266 : Ideal .f32 := Scalar.ofBits .f32 0x00000000#32
  have v1417 : FVec Ideal S64x896 .f32 := broadcast S64x896 cst_266
  have v444 : FVec Ideal S128x64 .f32 := extractStridedSlice S128x64 ![0, 448] a slices_S128x2048_o0_448_S128x64
  have v1414 : FVec Ideal S128x64 .bf16 := truncf .bf16 v444 bitsLt_bf16_f32
  have v1415 : FVec Ideal S128x128 .bf16 := truncf .bf16 eye bitsLt_bf16_f32
  have cst_265 : FVec Ideal S64x128 .f32 := constant S64x128 .f32 0x00000000#32
  have v1416 : FVec Ideal S64x128 .f32 := matmul dot_S128x64_S128x128_S64x128_0_0_1_1_n_n none v1414 v1415 cst_265
  have v1418 : FVec Ideal S64x1024 .f32 := concatenate S64x1024 1 [⟨S64x896, v1417⟩, ⟨S64x128, v1416⟩] concatenates_S64x896_S64x128_S64x1024_d1
  have cst_268 : Ideal .f32 := Scalar.ofBits .f32 0x00000000#32
  have v1422 : FVec Ideal S64x768 .f32 := broadcast S64x768 cst_268
  have v443 : FVec Ideal S128x64 .f32 := extractStridedSlice S128x64 ![0, 384] a slices_S128x2048_o0_384_S128x64
  have v1419 : FVec Ideal S128x64 .bf16 := truncf .bf16 v443 bitsLt_bf16_f32
  have v1420 : FVec Ideal S128x128 .bf16 := truncf .bf16 eye bitsLt_bf16_f32
  have cst_267 : FVec Ideal S64x128 .f32 := constant S64x128 .f32 0x00000000#32
  have v1421 : FVec Ideal S64x128 .f32 := matmul dot_S128x64_S128x128_S64x128_0_0_1_1_n_n none v1419 v1420 cst_267
  have v1423 : FVec Ideal S64x896 .f32 := concatenate S64x896 1 [⟨S64x768, v1422⟩, ⟨S64x128, v1421⟩] concatenates_S64x768_S64x128_S64x896_d1
  have v1424 : FVec Ideal S64x128 .f32 := broadcast S64x128 cst_268
  have v1425 : FVec Ideal S64x1024 .f32 := concatenate S64x1024 1 [⟨S64x896, v1423⟩, ⟨S64x128, v1424⟩] concatenates_S64x896_S64x128_S64x1024_d1
  have v1426 : FVec Ideal S64x1024 .f32 := addf v1418 v1425
  have cst_270 : Ideal .f32 := Scalar.ofBits .f32 0x00000000#32
  have v1430 : FVec Ideal S64x640 .f32 := broadcast S64x640 cst_270
  have v442 : FVec Ideal S128x64 .f32 := extractStridedSlice S128x64 ![0, 320] a slices_S128x2048_o0_320_S128x64
  have v1427 : FVec Ideal S128x64 .bf16 := truncf .bf16 v442 bitsLt_bf16_f32
  have v1428 : FVec Ideal S128x128 .bf16 := truncf .bf16 eye bitsLt_bf16_f32
  have cst_269 : FVec Ideal S64x128 .f32 := constant S64x128 .f32 0x00000000#32
  have v1429 : FVec Ideal S64x128 .f32 := matmul dot_S128x64_S128x128_S64x128_0_0_1_1_n_n none v1427 v1428 cst_269
  have v1431 : FVec Ideal S64x768 .f32 := concatenate S64x768 1 [⟨S64x640, v1430⟩, ⟨S64x128, v1429⟩] concatenates_S64x640_S64x128_S64x768_d1
  have v1432 : FVec Ideal S64x256 .f32 := broadcast S64x256 cst_270
  have v1433 : FVec Ideal S64x1024 .f32 := concatenate S64x1024 1 [⟨S64x768, v1431⟩, ⟨S64x256, v1432⟩] concatenates_S64x768_S64x256_S64x1024_d1
  have v1434 : FVec Ideal S64x1024 .f32 := addf v1426 v1433
  have cst_272 : Ideal .f32 := Scalar.ofBits .f32 0x00000000#32
  have v1438 : FVec Ideal S64x512 .f32 := broadcast S64x512 cst_272
  have v441 : FVec Ideal S128x64 .f32 := extractStridedSlice S128x64 ![0, 256] a slices_S128x2048_o0_256_S128x64
  have v1435 : FVec Ideal S128x64 .bf16 := truncf .bf16 v441 bitsLt_bf16_f32
  have v1436 : FVec Ideal S128x128 .bf16 := truncf .bf16 eye bitsLt_bf16_f32
  have cst_271 : FVec Ideal S64x128 .f32 := constant S64x128 .f32 0x00000000#32
  have v1437 : FVec Ideal S64x128 .f32 := matmul dot_S128x64_S128x128_S64x128_0_0_1_1_n_n none v1435 v1436 cst_271
  have v1439 : FVec Ideal S64x640 .f32 := concatenate S64x640 1 [⟨S64x512, v1438⟩, ⟨S64x128, v1437⟩] concatenates_S64x512_S64x128_S64x640_d1
  have v1440 : FVec Ideal S64x384 .f32 := broadcast S64x384 cst_272
  have v1441 : FVec Ideal S64x1024 .f32 := concatenate S64x1024 1 [⟨S64x640, v1439⟩, ⟨S64x384, v1440⟩] concatenates_S64x640_S64x384_S64x1024_d1
  have v1442 : FVec Ideal S64x1024 .f32 := addf v1434 v1441
  have cst_274 : Ideal .f32 := Scalar.ofBits .f32 0x00000000#32
  have v1446 : FVec Ideal S64x384 .f32 := broadcast S64x384 cst_274
  have v440 : FVec Ideal S128x64 .f32 := extractStridedSlice S128x64 ![0, 192] a slices_S128x2048_o0_192_S128x64
  have v1443 : FVec Ideal S128x64 .bf16 := truncf .bf16 v440 bitsLt_bf16_f32
  have v1444 : FVec Ideal S128x128 .bf16 := truncf .bf16 eye bitsLt_bf16_f32
  have cst_273 : FVec Ideal S64x128 .f32 := constant S64x128 .f32 0x00000000#32
  have v1445 : FVec Ideal S64x128 .f32 := matmul dot_S128x64_S128x128_S64x128_0_0_1_1_n_n none v1443 v1444 cst_273
  have v1447 : FVec Ideal S64x512 .f32 := concatenate S64x512 1 [⟨S64x384, v1446⟩, ⟨S64x128, v1445⟩] concatenates_S64x384_S64x128_S64x512_d1
  have v1448 : FVec Ideal S64x512 .f32 := broadcast S64x512 cst_274
  have v1449 : FVec Ideal S64x1024 .f32 := concatenate S64x1024 1 [⟨S64x512, v1447⟩, ⟨S64x512, v1448⟩] concatenates_S64x512_S64x512_S64x1024_d1
  have v1450 : FVec Ideal S64x1024 .f32 := addf v1442 v1449
  have cst_276 : Ideal .f32 := Scalar.ofBits .f32 0x00000000#32
  have v1454 : FVec Ideal S64x256 .f32 := broadcast S64x256 cst_276
  have v439 : FVec Ideal S128x64 .f32 := extractStridedSlice S128x64 ![0, 128] a slices_S128x2048_o0_128_S128x64
  have v1451 : FVec Ideal S128x64 .bf16 := truncf .bf16 v439 bitsLt_bf16_f32
  have v1452 : FVec Ideal S128x128 .bf16 := truncf .bf16 eye bitsLt_bf16_f32
  have cst_275 : FVec Ideal S64x128 .f32 := constant S64x128 .f32 0x00000000#32
  have v1453 : FVec Ideal S64x128 .f32 := matmul dot_S128x64_S128x128_S64x128_0_0_1_1_n_n none v1451 v1452 cst_275
  have v1455 : FVec Ideal S64x384 .f32 := concatenate S64x384 1 [⟨S64x256, v1454⟩, ⟨S64x128, v1453⟩] concatenates_S64x256_S64x128_S64x384_d1
  have v1456 : FVec Ideal S64x640 .f32 := broadcast S64x640 cst_276
  have v1457 : FVec Ideal S64x1024 .f32 := concatenate S64x1024 1 [⟨S64x384, v1455⟩, ⟨S64x640, v1456⟩] concatenates_S64x384_S64x640_S64x1024_d1
  have v1458 : FVec Ideal S64x1024 .f32 := addf v1450 v1457
  have cst_278 : Ideal .f32 := Scalar.ofBits .f32 0x00000000#32
  have v1462 : FVec Ideal S64x128 .f32 := broadcast S64x128 cst_278
  have v438 : FVec Ideal S128x64 .f32 := extractStridedSlice S128x64 ![0, 64] a slices_S128x2048_o0_64_S128x64
  have v1459 : FVec Ideal S128x64 .bf16 := truncf .bf16 v438 bitsLt_bf16_f32
  have v1460 : FVec Ideal S128x128 .bf16 := truncf .bf16 eye bitsLt_bf16_f32
  have cst_277 : FVec Ideal S64x128 .f32 := constant S64x128 .f32 0x00000000#32
  have v1461 : FVec Ideal S64x128 .f32 := matmul dot_S128x64_S128x128_S64x128_0_0_1_1_n_n none v1459 v1460 cst_277
  have v1463 : FVec Ideal S64x256 .f32 := concatenate S64x256 1 [⟨S64x128, v1462⟩, ⟨S64x128, v1461⟩] concatenates_S64x128_S64x128_S64x256_d1
  have v1464 : FVec Ideal S64x768 .f32 := broadcast S64x768 cst_278
  have v1465 : FVec Ideal S64x1024 .f32 := concatenate S64x1024 1 [⟨S64x256, v1463⟩, ⟨S64x768, v1464⟩] concatenates_S64x256_S64x768_S64x1024_d1
  have v1466 : FVec Ideal S64x1024 .f32 := addf v1458 v1465
  have v437 : FVec Ideal S128x64 .f32 := extractStridedSlice S128x64 ![0, 0] a slices_S128x2048_o0_0_S128x64
  have v1467 : FVec Ideal S128x64 .bf16 := truncf .bf16 v437 bitsLt_bf16_f32
  have v1468 : FVec Ideal S128x128 .bf16 := truncf .bf16 eye bitsLt_bf16_f32
  have cst_279 : FVec Ideal S64x128 .f32 := constant S64x128 .f32 0x00000000#32
  have v1469 : FVec Ideal S64x128 .f32 := matmul dot_S128x64_S128x128_S64x128_0_0_1_1_n_n none v1467 v1468 cst_279
  have cst_280 : Ideal .f32 := Scalar.ofBits .f32 0x00000000#32
  have v1470 : FVec Ideal S64x896 .f32 := broadcast S64x896 cst_280
  have v1471 : FVec Ideal S64x1024 .f32 := concatenate S64x1024 1 [⟨S64x128, v1469⟩, ⟨S64x896, v1470⟩] concatenates_S64x128_S64x896_S64x1024_d1
  addf v1466 v1471

/-- Head 0 of a block. -/
def side0 (i : grid0.Coords) (q : FVec Ideal S128x2048 .f32) (kp kc vp vc : FVec Ideal S128x256 .f32) (b : FVec Ideal S32x256x128 .f32) (s : FVec Ideal S1x32 .f32) (d : FVec Ideal S128x2048 .f32) : Side :=
  ⟨see i, keys0 kp kc, keys0 vp vc, quer0 q, bias0 b, sink0 s, dout0 d⟩

/-- Head 1's keys. -/
def keys1 (a b : FVec Ideal S128x256 .f32) : FVec Ideal S256x64 .f32 :=
  have v133 : FVec Ideal S128x64 .f32 := extractStridedSlice S128x64 ![0, 64] a slices_S128x256_o0_64_S128x64
  have v134 : FVec Ideal S128x64 .f32 := extractStridedSlice S128x64 ![0, 64] b slices_S128x256_o0_64_S128x64
  concatenate S256x64 0 [⟨S128x64, v133⟩, ⟨S128x64, v134⟩] concatenates_S128x64_S128x64_S256x64_d0

/-- Head 1's queries. -/
def quer1 (a : FVec Ideal S128x2048 .f32) : FVec Ideal S1024x64 .f32 :=
  have v139 : FVec Ideal S128x64 .f32 := extractStridedSlice S128x64 ![0, 512] a slices_S128x2048_o0_512_S128x64
  have v140 : FVec Ideal S128x64 .f32 := extractStridedSlice S128x64 ![0, 576] a slices_S128x2048_o0_576_S128x64
  have v141 : FVec Ideal S128x64 .f32 := extractStridedSlice S128x64 ![0, 640] a slices_S128x2048_o0_640_S128x64
  have v142 : FVec Ideal S128x64 .f32 := extractStridedSlice S128x64 ![0, 704] a slices_S128x2048_o0_704_S128x64
  have v143 : FVec Ideal S128x64 .f32 := extractStridedSlice S128x64 ![0, 768] a slices_S128x2048_o0_768_S128x64
  have v144 : FVec Ideal S128x64 .f32 := extractStridedSlice S128x64 ![0, 832] a slices_S128x2048_o0_832_S128x64
  have v145 : FVec Ideal S128x64 .f32 := extractStridedSlice S128x64 ![0, 896] a slices_S128x2048_o0_896_S128x64
  have v146 : FVec Ideal S128x64 .f32 := extractStridedSlice S128x64 ![0, 960] a slices_S128x2048_o0_960_S128x64
  concatenate S1024x64 0 [⟨S128x64, v139⟩, ⟨S128x64, v140⟩, ⟨S128x64, v141⟩, ⟨S128x64, v142⟩, ⟨S128x64, v143⟩, ⟨S128x64, v144⟩, ⟨S128x64, v145⟩, ⟨S128x64, v146⟩] concatenates_S128x64_S128x64_S128x64_S128x64_S128x64_S128x64_S128x64_S128x64_S1024x64_d0

/-- Head 1's position bias. -/
def bias1 (a : FVec Ideal S32x256x128 .f32) : FVec Ideal S256x1024 .f32 :=
  have v7 : FVec Ideal S32x256x128 .f32 := shapeCast S32x256x128 a shapeCasts_S32x256x128_S32x256x128
  have v148 : FVec Ideal S1x256x128 .f32 := extractStridedSlice S1x256x128 ![8, 0, 0] v7 slices_S32x256x128_o8_0_0_S1x256x128
  have v149 : FVec Ideal S256x128 .f32 := shapeCast S256x128 v148 shapeCasts_S1x256x128_S256x128
  have v150 : FVec Ideal S1x256x128 .f32 := extractStridedSlice S1x256x128 ![9, 0, 0] v7 slices_S32x256x128_o9_0_0_S1x256x128
  have v151 : FVec Ideal S256x128 .f32 := shapeCast S256x128 v150 shapeCasts_S1x256x128_S256x128
  have v152 : FVec Ideal S1x256x128 .f32 := extractStridedSlice S1x256x128 ![10, 0, 0] v7 slices_S32x256x128_o10_0_0_S1x256x128
  have v153 : FVec Ideal S256x128 .f32 := shapeCast S256x128 v152 shapeCasts_S1x256x128_S256x128
  have v154 : FVec Ideal S1x256x128 .f32 := extractStridedSlice S1x256x128 ![11, 0, 0] v7 slices_S32x256x128_o11_0_0_S1x256x128
  have v155 : FVec Ideal S256x128 .f32 := shapeCast S256x128 v154 shapeCasts_S1x256x128_S256x128
  have v156 : FVec Ideal S1x256x128 .f32 := extractStridedSlice S1x256x128 ![12, 0, 0] v7 slices_S32x256x128_o12_0_0_S1x256x128
  have v157 : FVec Ideal S256x128 .f32 := shapeCast S256x128 v156 shapeCasts_S1x256x128_S256x128
  have v158 : FVec Ideal S1x256x128 .f32 := extractStridedSlice S1x256x128 ![13, 0, 0] v7 slices_S32x256x128_o13_0_0_S1x256x128
  have v159 : FVec Ideal S256x128 .f32 := shapeCast S256x128 v158 shapeCasts_S1x256x128_S256x128
  have v160 : FVec Ideal S1x256x128 .f32 := extractStridedSlice S1x256x128 ![14, 0, 0] v7 slices_S32x256x128_o14_0_0_S1x256x128
  have v161 : FVec Ideal S256x128 .f32 := shapeCast S256x128 v160 shapeCasts_S1x256x128_S256x128
  have v162 : FVec Ideal S1x256x128 .f32 := extractStridedSlice S1x256x128 ![15, 0, 0] v7 slices_S32x256x128_o15_0_0_S1x256x128
  have v163 : FVec Ideal S256x128 .f32 := shapeCast S256x128 v162 shapeCasts_S1x256x128_S256x128
  concatenate S256x1024 1 [⟨S256x128, v149⟩, ⟨S256x128, v151⟩, ⟨S256x128, v153⟩, ⟨S256x128, v155⟩, ⟨S256x128, v157⟩, ⟨S256x128, v159⟩, ⟨S256x128, v161⟩, ⟨S256x128, v163⟩] concatenates_S256x128_S256x128_S256x128_S256x128_S256x128_S256x128_S256x128_S256x128_S256x1024_d1

/-- Head 1's sinks. -/
def sink1 (a : FVec Ideal S1x32 .f32) : FVec Ideal S1x1024 .f32 :=
  have v165 : FVec Ideal S1x1 .f32 := extractStridedSlice S1x1 ![0, 8] a slices_S1x32_o0_8_S1x1
  have v166 : FVec Ideal S1x1 .f32 := shapeCast S1x1 v165 shapeCasts_S1x1_S1x1
  have v167 : FVec Ideal S1x128 .f32 := broadcastTo S1x128 v166 broadcasts_S1x1_S1x128
  have v168 : FVec Ideal S1x1 .f32 := extractStridedSlice S1x1 ![0, 9] a slices_S1x32_o0_9_S1x1
  have v169 : FVec Ideal S1x1 .f32 := shapeCast S1x1 v168 shapeCasts_S1x1_S1x1
  have v170 : FVec Ideal S1x128 .f32 := broadcastTo S1x128 v169 broadcasts_S1x1_S1x128
  have v171 : FVec Ideal S1x1 .f32 := extractStridedSlice S1x1 ![0, 10] a slices_S1x32_o0_10_S1x1
  have v172 : FVec Ideal S1x1 .f32 := shapeCast S1x1 v171 shapeCasts_S1x1_S1x1
  have v173 : FVec Ideal S1x128 .f32 := broadcastTo S1x128 v172 broadcasts_S1x1_S1x128
  have v174 : FVec Ideal S1x1 .f32 := extractStridedSlice S1x1 ![0, 11] a slices_S1x32_o0_11_S1x1
  have v175 : FVec Ideal S1x1 .f32 := shapeCast S1x1 v174 shapeCasts_S1x1_S1x1
  have v176 : FVec Ideal S1x128 .f32 := broadcastTo S1x128 v175 broadcasts_S1x1_S1x128
  have v177 : FVec Ideal S1x1 .f32 := extractStridedSlice S1x1 ![0, 12] a slices_S1x32_o0_12_S1x1
  have v178 : FVec Ideal S1x1 .f32 := shapeCast S1x1 v177 shapeCasts_S1x1_S1x1
  have v179 : FVec Ideal S1x128 .f32 := broadcastTo S1x128 v178 broadcasts_S1x1_S1x128
  have v180 : FVec Ideal S1x1 .f32 := extractStridedSlice S1x1 ![0, 13] a slices_S1x32_o0_13_S1x1
  have v181 : FVec Ideal S1x1 .f32 := shapeCast S1x1 v180 shapeCasts_S1x1_S1x1
  have v182 : FVec Ideal S1x128 .f32 := broadcastTo S1x128 v181 broadcasts_S1x1_S1x128
  have v183 : FVec Ideal S1x1 .f32 := extractStridedSlice S1x1 ![0, 14] a slices_S1x32_o0_14_S1x1
  have v184 : FVec Ideal S1x1 .f32 := shapeCast S1x1 v183 shapeCasts_S1x1_S1x1
  have v185 : FVec Ideal S1x128 .f32 := broadcastTo S1x128 v184 broadcasts_S1x1_S1x128
  have v186 : FVec Ideal S1x1 .f32 := extractStridedSlice S1x1 ![0, 15] a slices_S1x32_o0_15_S1x1
  have v187 : FVec Ideal S1x1 .f32 := shapeCast S1x1 v186 shapeCasts_S1x1_S1x1
  have v188 : FVec Ideal S1x128 .f32 := broadcastTo S1x128 v187 broadcasts_S1x1_S1x128
  concatenate S1x1024 1 [⟨S1x128, v167⟩, ⟨S1x128, v170⟩, ⟨S1x128, v173⟩, ⟨S1x128, v176⟩, ⟨S1x128, v179⟩, ⟨S1x128, v182⟩, ⟨S1x128, v185⟩, ⟨S1x128, v188⟩] concatenates_S1x128_S1x128_S1x128_S1x128_S1x128_S1x128_S1x128_S1x128_S1x1024_d1

/-- Head 1's incoming gradient, transposed. -/
def dout1 (a : FVec Ideal S128x2048 .f32) : FVec Ideal S64x1024 .f32 :=
  have cst_201 : Ideal .f32 := Scalar.ofBits .f32 0x00000000#32
  have v1095 : FVec Ideal S64x896 .f32 := broadcast S64x896 cst_201
  have v452 : FVec Ideal S128x64 .f32 := extractStridedSlice S128x64 ![0, 960] a slices_S128x2048_o0_960_S128x64
  have v1092 : FVec Ideal S128x64 .bf16 := truncf .bf16 v452 bitsLt_bf16_f32
  have v1093 : FVec Ideal S128x128 .bf16 := truncf .bf16 eye bitsLt_bf16_f32
  have cst_200 : FVec Ideal S64x128 .f32 := constant S64x128 .f32 0x00000000#32
  have v1094 : FVec Ideal S64x128 .f32 := matmul dot_S128x64_S128x128_S64x128_0_0_1_1_n_n none v1092 v1093 cst_200
  have v1096 : FVec Ideal S64x1024 .f32 := concatenate S64x1024 1 [⟨S64x896, v1095⟩, ⟨S64x128, v1094⟩] concatenates_S64x896_S64x128_S64x1024_d1
  have cst_203 : Ideal .f32 := Scalar.ofBits .f32 0x00000000#32
  have v1100 : FVec Ideal S64x768 .f32 := broadcast S64x768 cst_203
  have v451 : FVec Ideal S128x64 .f32 := extractStridedSlice S128x64 ![0, 896] a slices_S128x2048_o0_896_S128x64
  have v1097 : FVec Ideal S128x64 .bf16 := truncf .bf16 v451 bitsLt_bf16_f32
  have v1098 : FVec Ideal S128x128 .bf16 := truncf .bf16 eye bitsLt_bf16_f32
  have cst_202 : FVec Ideal S64x128 .f32 := constant S64x128 .f32 0x00000000#32
  have v1099 : FVec Ideal S64x128 .f32 := matmul dot_S128x64_S128x128_S64x128_0_0_1_1_n_n none v1097 v1098 cst_202
  have v1101 : FVec Ideal S64x896 .f32 := concatenate S64x896 1 [⟨S64x768, v1100⟩, ⟨S64x128, v1099⟩] concatenates_S64x768_S64x128_S64x896_d1
  have v1102 : FVec Ideal S64x128 .f32 := broadcast S64x128 cst_203
  have v1103 : FVec Ideal S64x1024 .f32 := concatenate S64x1024 1 [⟨S64x896, v1101⟩, ⟨S64x128, v1102⟩] concatenates_S64x896_S64x128_S64x1024_d1
  have v1104 : FVec Ideal S64x1024 .f32 := addf v1096 v1103
  have cst_205 : Ideal .f32 := Scalar.ofBits .f32 0x00000000#32
  have v1108 : FVec Ideal S64x640 .f32 := broadcast S64x640 cst_205
  have v450 : FVec Ideal S128x64 .f32 := extractStridedSlice S128x64 ![0, 832] a slices_S128x2048_o0_832_S128x64
  have v1105 : FVec Ideal S128x64 .bf16 := truncf .bf16 v450 bitsLt_bf16_f32
  have v1106 : FVec Ideal S128x128 .bf16 := truncf .bf16 eye bitsLt_bf16_f32
  have cst_204 : FVec Ideal S64x128 .f32 := constant S64x128 .f32 0x00000000#32
  have v1107 : FVec Ideal S64x128 .f32 := matmul dot_S128x64_S128x128_S64x128_0_0_1_1_n_n none v1105 v1106 cst_204
  have v1109 : FVec Ideal S64x768 .f32 := concatenate S64x768 1 [⟨S64x640, v1108⟩, ⟨S64x128, v1107⟩] concatenates_S64x640_S64x128_S64x768_d1
  have v1110 : FVec Ideal S64x256 .f32 := broadcast S64x256 cst_205
  have v1111 : FVec Ideal S64x1024 .f32 := concatenate S64x1024 1 [⟨S64x768, v1109⟩, ⟨S64x256, v1110⟩] concatenates_S64x768_S64x256_S64x1024_d1
  have v1112 : FVec Ideal S64x1024 .f32 := addf v1104 v1111
  have cst_207 : Ideal .f32 := Scalar.ofBits .f32 0x00000000#32
  have v1116 : FVec Ideal S64x512 .f32 := broadcast S64x512 cst_207
  have v449 : FVec Ideal S128x64 .f32 := extractStridedSlice S128x64 ![0, 768] a slices_S128x2048_o0_768_S128x64
  have v1113 : FVec Ideal S128x64 .bf16 := truncf .bf16 v449 bitsLt_bf16_f32
  have v1114 : FVec Ideal S128x128 .bf16 := truncf .bf16 eye bitsLt_bf16_f32
  have cst_206 : FVec Ideal S64x128 .f32 := constant S64x128 .f32 0x00000000#32
  have v1115 : FVec Ideal S64x128 .f32 := matmul dot_S128x64_S128x128_S64x128_0_0_1_1_n_n none v1113 v1114 cst_206
  have v1117 : FVec Ideal S64x640 .f32 := concatenate S64x640 1 [⟨S64x512, v1116⟩, ⟨S64x128, v1115⟩] concatenates_S64x512_S64x128_S64x640_d1
  have v1118 : FVec Ideal S64x384 .f32 := broadcast S64x384 cst_207
  have v1119 : FVec Ideal S64x1024 .f32 := concatenate S64x1024 1 [⟨S64x640, v1117⟩, ⟨S64x384, v1118⟩] concatenates_S64x640_S64x384_S64x1024_d1
  have v1120 : FVec Ideal S64x1024 .f32 := addf v1112 v1119
  have cst_209 : Ideal .f32 := Scalar.ofBits .f32 0x00000000#32
  have v1124 : FVec Ideal S64x384 .f32 := broadcast S64x384 cst_209
  have v448 : FVec Ideal S128x64 .f32 := extractStridedSlice S128x64 ![0, 704] a slices_S128x2048_o0_704_S128x64
  have v1121 : FVec Ideal S128x64 .bf16 := truncf .bf16 v448 bitsLt_bf16_f32
  have v1122 : FVec Ideal S128x128 .bf16 := truncf .bf16 eye bitsLt_bf16_f32
  have cst_208 : FVec Ideal S64x128 .f32 := constant S64x128 .f32 0x00000000#32
  have v1123 : FVec Ideal S64x128 .f32 := matmul dot_S128x64_S128x128_S64x128_0_0_1_1_n_n none v1121 v1122 cst_208
  have v1125 : FVec Ideal S64x512 .f32 := concatenate S64x512 1 [⟨S64x384, v1124⟩, ⟨S64x128, v1123⟩] concatenates_S64x384_S64x128_S64x512_d1
  have v1126 : FVec Ideal S64x512 .f32 := broadcast S64x512 cst_209
  have v1127 : FVec Ideal S64x1024 .f32 := concatenate S64x1024 1 [⟨S64x512, v1125⟩, ⟨S64x512, v1126⟩] concatenates_S64x512_S64x512_S64x1024_d1
  have v1128 : FVec Ideal S64x1024 .f32 := addf v1120 v1127
  have cst_211 : Ideal .f32 := Scalar.ofBits .f32 0x00000000#32
  have v1132 : FVec Ideal S64x256 .f32 := broadcast S64x256 cst_211
  have v447 : FVec Ideal S128x64 .f32 := extractStridedSlice S128x64 ![0, 640] a slices_S128x2048_o0_640_S128x64
  have v1129 : FVec Ideal S128x64 .bf16 := truncf .bf16 v447 bitsLt_bf16_f32
  have v1130 : FVec Ideal S128x128 .bf16 := truncf .bf16 eye bitsLt_bf16_f32
  have cst_210 : FVec Ideal S64x128 .f32 := constant S64x128 .f32 0x00000000#32
  have v1131 : FVec Ideal S64x128 .f32 := matmul dot_S128x64_S128x128_S64x128_0_0_1_1_n_n none v1129 v1130 cst_210
  have v1133 : FVec Ideal S64x384 .f32 := concatenate S64x384 1 [⟨S64x256, v1132⟩, ⟨S64x128, v1131⟩] concatenates_S64x256_S64x128_S64x384_d1
  have v1134 : FVec Ideal S64x640 .f32 := broadcast S64x640 cst_211
  have v1135 : FVec Ideal S64x1024 .f32 := concatenate S64x1024 1 [⟨S64x384, v1133⟩, ⟨S64x640, v1134⟩] concatenates_S64x384_S64x640_S64x1024_d1
  have v1136 : FVec Ideal S64x1024 .f32 := addf v1128 v1135
  have cst_213 : Ideal .f32 := Scalar.ofBits .f32 0x00000000#32
  have v1140 : FVec Ideal S64x128 .f32 := broadcast S64x128 cst_213
  have v446 : FVec Ideal S128x64 .f32 := extractStridedSlice S128x64 ![0, 576] a slices_S128x2048_o0_576_S128x64
  have v1137 : FVec Ideal S128x64 .bf16 := truncf .bf16 v446 bitsLt_bf16_f32
  have v1138 : FVec Ideal S128x128 .bf16 := truncf .bf16 eye bitsLt_bf16_f32
  have cst_212 : FVec Ideal S64x128 .f32 := constant S64x128 .f32 0x00000000#32
  have v1139 : FVec Ideal S64x128 .f32 := matmul dot_S128x64_S128x128_S64x128_0_0_1_1_n_n none v1137 v1138 cst_212
  have v1141 : FVec Ideal S64x256 .f32 := concatenate S64x256 1 [⟨S64x128, v1140⟩, ⟨S64x128, v1139⟩] concatenates_S64x128_S64x128_S64x256_d1
  have v1142 : FVec Ideal S64x768 .f32 := broadcast S64x768 cst_213
  have v1143 : FVec Ideal S64x1024 .f32 := concatenate S64x1024 1 [⟨S64x256, v1141⟩, ⟨S64x768, v1142⟩] concatenates_S64x256_S64x768_S64x1024_d1
  have v1144 : FVec Ideal S64x1024 .f32 := addf v1136 v1143
  have v445 : FVec Ideal S128x64 .f32 := extractStridedSlice S128x64 ![0, 512] a slices_S128x2048_o0_512_S128x64
  have v1145 : FVec Ideal S128x64 .bf16 := truncf .bf16 v445 bitsLt_bf16_f32
  have v1146 : FVec Ideal S128x128 .bf16 := truncf .bf16 eye bitsLt_bf16_f32
  have cst_214 : FVec Ideal S64x128 .f32 := constant S64x128 .f32 0x00000000#32
  have v1147 : FVec Ideal S64x128 .f32 := matmul dot_S128x64_S128x128_S64x128_0_0_1_1_n_n none v1145 v1146 cst_214
  have cst_215 : Ideal .f32 := Scalar.ofBits .f32 0x00000000#32
  have v1148 : FVec Ideal S64x896 .f32 := broadcast S64x896 cst_215
  have v1149 : FVec Ideal S64x1024 .f32 := concatenate S64x1024 1 [⟨S64x128, v1147⟩, ⟨S64x896, v1148⟩] concatenates_S64x128_S64x896_S64x1024_d1
  addf v1144 v1149

/-- Head 1 of a block. -/
def side1 (i : grid0.Coords) (q : FVec Ideal S128x2048 .f32) (kp kc vp vc : FVec Ideal S128x256 .f32) (b : FVec Ideal S32x256x128 .f32) (s : FVec Ideal S1x32 .f32) (d : FVec Ideal S128x2048 .f32) : Side :=
  ⟨see i, keys1 kp kc, keys1 vp vc, quer1 q, bias1 b, sink1 s, dout1 d⟩

/-- Head 2's keys. -/
def keys2 (a b : FVec Ideal S128x256 .f32) : FVec Ideal S256x64 .f32 :=
  have v234 : FVec Ideal S128x64 .f32 := extractStridedSlice S128x64 ![0, 128] a slices_S128x256_o0_128_S128x64
  have v235 : FVec Ideal S128x64 .f32 := extractStridedSlice S128x64 ![0, 128] b slices_S128x256_o0_128_S128x64
  concatenate S256x64 0 [⟨S128x64, v234⟩, ⟨S128x64, v235⟩] concatenates_S128x64_S128x64_S256x64_d0

/-- Head 2's queries. -/
def quer2 (a : FVec Ideal S128x2048 .f32) : FVec Ideal S1024x64 .f32 :=
  have v240 : FVec Ideal S128x64 .f32 := extractStridedSlice S128x64 ![0, 1024] a slices_S128x2048_o0_1024_S128x64
  have v241 : FVec Ideal S128x64 .f32 := extractStridedSlice S128x64 ![0, 1088] a slices_S128x2048_o0_1088_S128x64
  have v242 : FVec Ideal S128x64 .f32 := extractStridedSlice S128x64 ![0, 1152] a slices_S128x2048_o0_1152_S128x64
  have v243 : FVec Ideal S128x64 .f32 := extractStridedSlice S128x64 ![0, 1216] a slices_S128x2048_o0_1216_S128x64
  have v244 : FVec Ideal S128x64 .f32 := extractStridedSlice S128x64 ![0, 1280] a slices_S128x2048_o0_1280_S128x64
  have v245 : FVec Ideal S128x64 .f32 := extractStridedSlice S128x64 ![0, 1344] a slices_S128x2048_o0_1344_S128x64
  have v246 : FVec Ideal S128x64 .f32 := extractStridedSlice S128x64 ![0, 1408] a slices_S128x2048_o0_1408_S128x64
  have v247 : FVec Ideal S128x64 .f32 := extractStridedSlice S128x64 ![0, 1472] a slices_S128x2048_o0_1472_S128x64
  concatenate S1024x64 0 [⟨S128x64, v240⟩, ⟨S128x64, v241⟩, ⟨S128x64, v242⟩, ⟨S128x64, v243⟩, ⟨S128x64, v244⟩, ⟨S128x64, v245⟩, ⟨S128x64, v246⟩, ⟨S128x64, v247⟩] concatenates_S128x64_S128x64_S128x64_S128x64_S128x64_S128x64_S128x64_S128x64_S1024x64_d0

/-- Head 2's position bias. -/
def bias2 (a : FVec Ideal S32x256x128 .f32) : FVec Ideal S256x1024 .f32 :=
  have v7 : FVec Ideal S32x256x128 .f32 := shapeCast S32x256x128 a shapeCasts_S32x256x128_S32x256x128
  have v249 : FVec Ideal S1x256x128 .f32 := extractStridedSlice S1x256x128 ![16, 0, 0] v7 slices_S32x256x128_o16_0_0_S1x256x128
  have v250 : FVec Ideal S256x128 .f32 := shapeCast S256x128 v249 shapeCasts_S1x256x128_S256x128
  have v251 : FVec Ideal S1x256x128 .f32 := extractStridedSlice S1x256x128 ![17, 0, 0] v7 slices_S32x256x128_o17_0_0_S1x256x128
  have v252 : FVec Ideal S256x128 .f32 := shapeCast S256x128 v251 shapeCasts_S1x256x128_S256x128
  have v253 : FVec Ideal S1x256x128 .f32 := extractStridedSlice S1x256x128 ![18, 0, 0] v7 slices_S32x256x128_o18_0_0_S1x256x128
  have v254 : FVec Ideal S256x128 .f32 := shapeCast S256x128 v253 shapeCasts_S1x256x128_S256x128
  have v255 : FVec Ideal S1x256x128 .f32 := extractStridedSlice S1x256x128 ![19, 0, 0] v7 slices_S32x256x128_o19_0_0_S1x256x128
  have v256 : FVec Ideal S256x128 .f32 := shapeCast S256x128 v255 shapeCasts_S1x256x128_S256x128
  have v257 : FVec Ideal S1x256x128 .f32 := extractStridedSlice S1x256x128 ![20, 0, 0] v7 slices_S32x256x128_o20_0_0_S1x256x128
  have v258 : FVec Ideal S256x128 .f32 := shapeCast S256x128 v257 shapeCasts_S1x256x128_S256x128
  have v259 : FVec Ideal S1x256x128 .f32 := extractStridedSlice S1x256x128 ![21, 0, 0] v7 slices_S32x256x128_o21_0_0_S1x256x128
  have v260 : FVec Ideal S256x128 .f32 := shapeCast S256x128 v259 shapeCasts_S1x256x128_S256x128
  have v261 : FVec Ideal S1x256x128 .f32 := extractStridedSlice S1x256x128 ![22, 0, 0] v7 slices_S32x256x128_o22_0_0_S1x256x128
  have v262 : FVec Ideal S256x128 .f32 := shapeCast S256x128 v261 shapeCasts_S1x256x128_S256x128
  have v263 : FVec Ideal S1x256x128 .f32 := extractStridedSlice S1x256x128 ![23, 0, 0] v7 slices_S32x256x128_o23_0_0_S1x256x128
  have v264 : FVec Ideal S256x128 .f32 := shapeCast S256x128 v263 shapeCasts_S1x256x128_S256x128
  concatenate S256x1024 1 [⟨S256x128, v250⟩, ⟨S256x128, v252⟩, ⟨S256x128, v254⟩, ⟨S256x128, v256⟩, ⟨S256x128, v258⟩, ⟨S256x128, v260⟩, ⟨S256x128, v262⟩, ⟨S256x128, v264⟩] concatenates_S256x128_S256x128_S256x128_S256x128_S256x128_S256x128_S256x128_S256x128_S256x1024_d1

/-- Head 2's sinks. -/
def sink2 (a : FVec Ideal S1x32 .f32) : FVec Ideal S1x1024 .f32 :=
  have v266 : FVec Ideal S1x1 .f32 := extractStridedSlice S1x1 ![0, 16] a slices_S1x32_o0_16_S1x1
  have v267 : FVec Ideal S1x1 .f32 := shapeCast S1x1 v266 shapeCasts_S1x1_S1x1
  have v268 : FVec Ideal S1x128 .f32 := broadcastTo S1x128 v267 broadcasts_S1x1_S1x128
  have v269 : FVec Ideal S1x1 .f32 := extractStridedSlice S1x1 ![0, 17] a slices_S1x32_o0_17_S1x1
  have v270 : FVec Ideal S1x1 .f32 := shapeCast S1x1 v269 shapeCasts_S1x1_S1x1
  have v271 : FVec Ideal S1x128 .f32 := broadcastTo S1x128 v270 broadcasts_S1x1_S1x128
  have v272 : FVec Ideal S1x1 .f32 := extractStridedSlice S1x1 ![0, 18] a slices_S1x32_o0_18_S1x1
  have v273 : FVec Ideal S1x1 .f32 := shapeCast S1x1 v272 shapeCasts_S1x1_S1x1
  have v274 : FVec Ideal S1x128 .f32 := broadcastTo S1x128 v273 broadcasts_S1x1_S1x128
  have v275 : FVec Ideal S1x1 .f32 := extractStridedSlice S1x1 ![0, 19] a slices_S1x32_o0_19_S1x1
  have v276 : FVec Ideal S1x1 .f32 := shapeCast S1x1 v275 shapeCasts_S1x1_S1x1
  have v277 : FVec Ideal S1x128 .f32 := broadcastTo S1x128 v276 broadcasts_S1x1_S1x128
  have v278 : FVec Ideal S1x1 .f32 := extractStridedSlice S1x1 ![0, 20] a slices_S1x32_o0_20_S1x1
  have v279 : FVec Ideal S1x1 .f32 := shapeCast S1x1 v278 shapeCasts_S1x1_S1x1
  have v280 : FVec Ideal S1x128 .f32 := broadcastTo S1x128 v279 broadcasts_S1x1_S1x128
  have v281 : FVec Ideal S1x1 .f32 := extractStridedSlice S1x1 ![0, 21] a slices_S1x32_o0_21_S1x1
  have v282 : FVec Ideal S1x1 .f32 := shapeCast S1x1 v281 shapeCasts_S1x1_S1x1
  have v283 : FVec Ideal S1x128 .f32 := broadcastTo S1x128 v282 broadcasts_S1x1_S1x128
  have v284 : FVec Ideal S1x1 .f32 := extractStridedSlice S1x1 ![0, 22] a slices_S1x32_o0_22_S1x1
  have v285 : FVec Ideal S1x1 .f32 := shapeCast S1x1 v284 shapeCasts_S1x1_S1x1
  have v286 : FVec Ideal S1x128 .f32 := broadcastTo S1x128 v285 broadcasts_S1x1_S1x128
  have v287 : FVec Ideal S1x1 .f32 := extractStridedSlice S1x1 ![0, 23] a slices_S1x32_o0_23_S1x1
  have v288 : FVec Ideal S1x1 .f32 := shapeCast S1x1 v287 shapeCasts_S1x1_S1x1
  have v289 : FVec Ideal S1x128 .f32 := broadcastTo S1x128 v288 broadcasts_S1x1_S1x128
  concatenate S1x1024 1 [⟨S1x128, v268⟩, ⟨S1x128, v271⟩, ⟨S1x128, v274⟩, ⟨S1x128, v277⟩, ⟨S1x128, v280⟩, ⟨S1x128, v283⟩, ⟨S1x128, v286⟩, ⟨S1x128, v289⟩] concatenates_S1x128_S1x128_S1x128_S1x128_S1x128_S1x128_S1x128_S1x128_S1x1024_d1

/-- Head 2's incoming gradient, transposed. -/
def dout2 (a : FVec Ideal S128x2048 .f32) : FVec Ideal S64x1024 .f32 :=
  have cst_136 : Ideal .f32 := Scalar.ofBits .f32 0x00000000#32
  have v773 : FVec Ideal S64x896 .f32 := broadcast S64x896 cst_136
  have v460 : FVec Ideal S128x64 .f32 := extractStridedSlice S128x64 ![0, 1472] a slices_S128x2048_o0_1472_S128x64
  have v770 : FVec Ideal S128x64 .bf16 := truncf .bf16 v460 bitsLt_bf16_f32
  have v771 : FVec Ideal S128x128 .bf16 := truncf .bf16 eye bitsLt_bf16_f32
  have cst_135 : FVec Ideal S64x128 .f32 := constant S64x128 .f32 0x00000000#32
  have v772 : FVec Ideal S64x128 .f32 := matmul dot_S128x64_S128x128_S64x128_0_0_1_1_n_n none v770 v771 cst_135
  have v774 : FVec Ideal S64x1024 .f32 := concatenate S64x1024 1 [⟨S64x896, v773⟩, ⟨S64x128, v772⟩] concatenates_S64x896_S64x128_S64x1024_d1
  have cst_138 : Ideal .f32 := Scalar.ofBits .f32 0x00000000#32
  have v778 : FVec Ideal S64x768 .f32 := broadcast S64x768 cst_138
  have v459 : FVec Ideal S128x64 .f32 := extractStridedSlice S128x64 ![0, 1408] a slices_S128x2048_o0_1408_S128x64
  have v775 : FVec Ideal S128x64 .bf16 := truncf .bf16 v459 bitsLt_bf16_f32
  have v776 : FVec Ideal S128x128 .bf16 := truncf .bf16 eye bitsLt_bf16_f32
  have cst_137 : FVec Ideal S64x128 .f32 := constant S64x128 .f32 0x00000000#32
  have v777 : FVec Ideal S64x128 .f32 := matmul dot_S128x64_S128x128_S64x128_0_0_1_1_n_n none v775 v776 cst_137
  have v779 : FVec Ideal S64x896 .f32 := concatenate S64x896 1 [⟨S64x768, v778⟩, ⟨S64x128, v777⟩] concatenates_S64x768_S64x128_S64x896_d1
  have v780 : FVec Ideal S64x128 .f32 := broadcast S64x128 cst_138
  have v781 : FVec Ideal S64x1024 .f32 := concatenate S64x1024 1 [⟨S64x896, v779⟩, ⟨S64x128, v780⟩] concatenates_S64x896_S64x128_S64x1024_d1
  have v782 : FVec Ideal S64x1024 .f32 := addf v774 v781
  have cst_140 : Ideal .f32 := Scalar.ofBits .f32 0x00000000#32
  have v786 : FVec Ideal S64x640 .f32 := broadcast S64x640 cst_140
  have v458 : FVec Ideal S128x64 .f32 := extractStridedSlice S128x64 ![0, 1344] a slices_S128x2048_o0_1344_S128x64
  have v783 : FVec Ideal S128x64 .bf16 := truncf .bf16 v458 bitsLt_bf16_f32
  have v784 : FVec Ideal S128x128 .bf16 := truncf .bf16 eye bitsLt_bf16_f32
  have cst_139 : FVec Ideal S64x128 .f32 := constant S64x128 .f32 0x00000000#32
  have v785 : FVec Ideal S64x128 .f32 := matmul dot_S128x64_S128x128_S64x128_0_0_1_1_n_n none v783 v784 cst_139
  have v787 : FVec Ideal S64x768 .f32 := concatenate S64x768 1 [⟨S64x640, v786⟩, ⟨S64x128, v785⟩] concatenates_S64x640_S64x128_S64x768_d1
  have v788 : FVec Ideal S64x256 .f32 := broadcast S64x256 cst_140
  have v789 : FVec Ideal S64x1024 .f32 := concatenate S64x1024 1 [⟨S64x768, v787⟩, ⟨S64x256, v788⟩] concatenates_S64x768_S64x256_S64x1024_d1
  have v790 : FVec Ideal S64x1024 .f32 := addf v782 v789
  have cst_142 : Ideal .f32 := Scalar.ofBits .f32 0x00000000#32
  have v794 : FVec Ideal S64x512 .f32 := broadcast S64x512 cst_142
  have v457 : FVec Ideal S128x64 .f32 := extractStridedSlice S128x64 ![0, 1280] a slices_S128x2048_o0_1280_S128x64
  have v791 : FVec Ideal S128x64 .bf16 := truncf .bf16 v457 bitsLt_bf16_f32
  have v792 : FVec Ideal S128x128 .bf16 := truncf .bf16 eye bitsLt_bf16_f32
  have cst_141 : FVec Ideal S64x128 .f32 := constant S64x128 .f32 0x00000000#32
  have v793 : FVec Ideal S64x128 .f32 := matmul dot_S128x64_S128x128_S64x128_0_0_1_1_n_n none v791 v792 cst_141
  have v795 : FVec Ideal S64x640 .f32 := concatenate S64x640 1 [⟨S64x512, v794⟩, ⟨S64x128, v793⟩] concatenates_S64x512_S64x128_S64x640_d1
  have v796 : FVec Ideal S64x384 .f32 := broadcast S64x384 cst_142
  have v797 : FVec Ideal S64x1024 .f32 := concatenate S64x1024 1 [⟨S64x640, v795⟩, ⟨S64x384, v796⟩] concatenates_S64x640_S64x384_S64x1024_d1
  have v798 : FVec Ideal S64x1024 .f32 := addf v790 v797
  have cst_144 : Ideal .f32 := Scalar.ofBits .f32 0x00000000#32
  have v802 : FVec Ideal S64x384 .f32 := broadcast S64x384 cst_144
  have v456 : FVec Ideal S128x64 .f32 := extractStridedSlice S128x64 ![0, 1216] a slices_S128x2048_o0_1216_S128x64
  have v799 : FVec Ideal S128x64 .bf16 := truncf .bf16 v456 bitsLt_bf16_f32
  have v800 : FVec Ideal S128x128 .bf16 := truncf .bf16 eye bitsLt_bf16_f32
  have cst_143 : FVec Ideal S64x128 .f32 := constant S64x128 .f32 0x00000000#32
  have v801 : FVec Ideal S64x128 .f32 := matmul dot_S128x64_S128x128_S64x128_0_0_1_1_n_n none v799 v800 cst_143
  have v803 : FVec Ideal S64x512 .f32 := concatenate S64x512 1 [⟨S64x384, v802⟩, ⟨S64x128, v801⟩] concatenates_S64x384_S64x128_S64x512_d1
  have v804 : FVec Ideal S64x512 .f32 := broadcast S64x512 cst_144
  have v805 : FVec Ideal S64x1024 .f32 := concatenate S64x1024 1 [⟨S64x512, v803⟩, ⟨S64x512, v804⟩] concatenates_S64x512_S64x512_S64x1024_d1
  have v806 : FVec Ideal S64x1024 .f32 := addf v798 v805
  have cst_146 : Ideal .f32 := Scalar.ofBits .f32 0x00000000#32
  have v810 : FVec Ideal S64x256 .f32 := broadcast S64x256 cst_146
  have v455 : FVec Ideal S128x64 .f32 := extractStridedSlice S128x64 ![0, 1152] a slices_S128x2048_o0_1152_S128x64
  have v807 : FVec Ideal S128x64 .bf16 := truncf .bf16 v455 bitsLt_bf16_f32
  have v808 : FVec Ideal S128x128 .bf16 := truncf .bf16 eye bitsLt_bf16_f32
  have cst_145 : FVec Ideal S64x128 .f32 := constant S64x128 .f32 0x00000000#32
  have v809 : FVec Ideal S64x128 .f32 := matmul dot_S128x64_S128x128_S64x128_0_0_1_1_n_n none v807 v808 cst_145
  have v811 : FVec Ideal S64x384 .f32 := concatenate S64x384 1 [⟨S64x256, v810⟩, ⟨S64x128, v809⟩] concatenates_S64x256_S64x128_S64x384_d1
  have v812 : FVec Ideal S64x640 .f32 := broadcast S64x640 cst_146
  have v813 : FVec Ideal S64x1024 .f32 := concatenate S64x1024 1 [⟨S64x384, v811⟩, ⟨S64x640, v812⟩] concatenates_S64x384_S64x640_S64x1024_d1
  have v814 : FVec Ideal S64x1024 .f32 := addf v806 v813
  have cst_148 : Ideal .f32 := Scalar.ofBits .f32 0x00000000#32
  have v818 : FVec Ideal S64x128 .f32 := broadcast S64x128 cst_148
  have v454 : FVec Ideal S128x64 .f32 := extractStridedSlice S128x64 ![0, 1088] a slices_S128x2048_o0_1088_S128x64
  have v815 : FVec Ideal S128x64 .bf16 := truncf .bf16 v454 bitsLt_bf16_f32
  have v816 : FVec Ideal S128x128 .bf16 := truncf .bf16 eye bitsLt_bf16_f32
  have cst_147 : FVec Ideal S64x128 .f32 := constant S64x128 .f32 0x00000000#32
  have v817 : FVec Ideal S64x128 .f32 := matmul dot_S128x64_S128x128_S64x128_0_0_1_1_n_n none v815 v816 cst_147
  have v819 : FVec Ideal S64x256 .f32 := concatenate S64x256 1 [⟨S64x128, v818⟩, ⟨S64x128, v817⟩] concatenates_S64x128_S64x128_S64x256_d1
  have v820 : FVec Ideal S64x768 .f32 := broadcast S64x768 cst_148
  have v821 : FVec Ideal S64x1024 .f32 := concatenate S64x1024 1 [⟨S64x256, v819⟩, ⟨S64x768, v820⟩] concatenates_S64x256_S64x768_S64x1024_d1
  have v822 : FVec Ideal S64x1024 .f32 := addf v814 v821
  have v453 : FVec Ideal S128x64 .f32 := extractStridedSlice S128x64 ![0, 1024] a slices_S128x2048_o0_1024_S128x64
  have v823 : FVec Ideal S128x64 .bf16 := truncf .bf16 v453 bitsLt_bf16_f32
  have v824 : FVec Ideal S128x128 .bf16 := truncf .bf16 eye bitsLt_bf16_f32
  have cst_149 : FVec Ideal S64x128 .f32 := constant S64x128 .f32 0x00000000#32
  have v825 : FVec Ideal S64x128 .f32 := matmul dot_S128x64_S128x128_S64x128_0_0_1_1_n_n none v823 v824 cst_149
  have cst_150 : Ideal .f32 := Scalar.ofBits .f32 0x00000000#32
  have v826 : FVec Ideal S64x896 .f32 := broadcast S64x896 cst_150
  have v827 : FVec Ideal S64x1024 .f32 := concatenate S64x1024 1 [⟨S64x128, v825⟩, ⟨S64x896, v826⟩] concatenates_S64x128_S64x896_S64x1024_d1
  addf v822 v827

/-- Head 2 of a block. -/
def side2 (i : grid0.Coords) (q : FVec Ideal S128x2048 .f32) (kp kc vp vc : FVec Ideal S128x256 .f32) (b : FVec Ideal S32x256x128 .f32) (s : FVec Ideal S1x32 .f32) (d : FVec Ideal S128x2048 .f32) : Side :=
  ⟨see i, keys2 kp kc, keys2 vp vc, quer2 q, bias2 b, sink2 s, dout2 d⟩

/-- Head 3's keys. -/
def keys3 (a b : FVec Ideal S128x256 .f32) : FVec Ideal S256x64 .f32 :=
  have v335 : FVec Ideal S128x64 .f32 := extractStridedSlice S128x64 ![0, 192] a slices_S128x256_o0_192_S128x64
  have v336 : FVec Ideal S128x64 .f32 := extractStridedSlice S128x64 ![0, 192] b slices_S128x256_o0_192_S128x64
  concatenate S256x64 0 [⟨S128x64, v335⟩, ⟨S128x64, v336⟩] concatenates_S128x64_S128x64_S256x64_d0

/-- Head 3's queries. -/
def quer3 (a : FVec Ideal S128x2048 .f32) : FVec Ideal S1024x64 .f32 :=
  have v341 : FVec Ideal S128x64 .f32 := extractStridedSlice S128x64 ![0, 1536] a slices_S128x2048_o0_1536_S128x64
  have v342 : FVec Ideal S128x64 .f32 := extractStridedSlice S128x64 ![0, 1600] a slices_S128x2048_o0_1600_S128x64
  have v343 : FVec Ideal S128x64 .f32 := extractStridedSlice S128x64 ![0, 1664] a slices_S128x2048_o0_1664_S128x64
  have v344 : FVec Ideal S128x64 .f32 := extractStridedSlice S128x64 ![0, 1728] a slices_S128x2048_o0_1728_S128x64
  have v345 : FVec Ideal S128x64 .f32 := extractStridedSlice S128x64 ![0, 1792] a slices_S128x2048_o0_1792_S128x64
  have v346 : FVec Ideal S128x64 .f32 := extractStridedSlice S128x64 ![0, 1856] a slices_S128x2048_o0_1856_S128x64
  have v347 : FVec Ideal S128x64 .f32 := extractStridedSlice S128x64 ![0, 1920] a slices_S128x2048_o0_1920_S128x64
  have v348 : FVec Ideal S128x64 .f32 := extractStridedSlice S128x64 ![0, 1984] a slices_S128x2048_o0_1984_S128x64
  concatenate S1024x64 0 [⟨S128x64, v341⟩, ⟨S128x64, v342⟩, ⟨S128x64, v343⟩, ⟨S128x64, v344⟩, ⟨S128x64, v345⟩, ⟨S128x64, v346⟩, ⟨S128x64, v347⟩, ⟨S128x64, v348⟩] concatenates_S128x64_S128x64_S128x64_S128x64_S128x64_S128x64_S128x64_S128x64_S1024x64_d0

/-- Head 3's position bias. -/
def bias3 (a : FVec Ideal S32x256x128 .f32) : FVec Ideal S256x1024 .f32 :=
  have v7 : FVec Ideal S32x256x128 .f32 := shapeCast S32x256x128 a shapeCasts_S32x256x128_S32x256x128
  have v350 : FVec Ideal S1x256x128 .f32 := extractStridedSlice S1x256x128 ![24, 0, 0] v7 slices_S32x256x128_o24_0_0_S1x256x128
  have v351 : FVec Ideal S256x128 .f32 := shapeCast S256x128 v350 shapeCasts_S1x256x128_S256x128
  have v352 : FVec Ideal S1x256x128 .f32 := extractStridedSlice S1x256x128 ![25, 0, 0] v7 slices_S32x256x128_o25_0_0_S1x256x128
  have v353 : FVec Ideal S256x128 .f32 := shapeCast S256x128 v352 shapeCasts_S1x256x128_S256x128
  have v354 : FVec Ideal S1x256x128 .f32 := extractStridedSlice S1x256x128 ![26, 0, 0] v7 slices_S32x256x128_o26_0_0_S1x256x128
  have v355 : FVec Ideal S256x128 .f32 := shapeCast S256x128 v354 shapeCasts_S1x256x128_S256x128
  have v356 : FVec Ideal S1x256x128 .f32 := extractStridedSlice S1x256x128 ![27, 0, 0] v7 slices_S32x256x128_o27_0_0_S1x256x128
  have v357 : FVec Ideal S256x128 .f32 := shapeCast S256x128 v356 shapeCasts_S1x256x128_S256x128
  have v358 : FVec Ideal S1x256x128 .f32 := extractStridedSlice S1x256x128 ![28, 0, 0] v7 slices_S32x256x128_o28_0_0_S1x256x128
  have v359 : FVec Ideal S256x128 .f32 := shapeCast S256x128 v358 shapeCasts_S1x256x128_S256x128
  have v360 : FVec Ideal S1x256x128 .f32 := extractStridedSlice S1x256x128 ![29, 0, 0] v7 slices_S32x256x128_o29_0_0_S1x256x128
  have v361 : FVec Ideal S256x128 .f32 := shapeCast S256x128 v360 shapeCasts_S1x256x128_S256x128
  have v362 : FVec Ideal S1x256x128 .f32 := extractStridedSlice S1x256x128 ![30, 0, 0] v7 slices_S32x256x128_o30_0_0_S1x256x128
  have v363 : FVec Ideal S256x128 .f32 := shapeCast S256x128 v362 shapeCasts_S1x256x128_S256x128
  have v364 : FVec Ideal S1x256x128 .f32 := extractStridedSlice S1x256x128 ![31, 0, 0] v7 slices_S32x256x128_o31_0_0_S1x256x128
  have v365 : FVec Ideal S256x128 .f32 := shapeCast S256x128 v364 shapeCasts_S1x256x128_S256x128
  concatenate S256x1024 1 [⟨S256x128, v351⟩, ⟨S256x128, v353⟩, ⟨S256x128, v355⟩, ⟨S256x128, v357⟩, ⟨S256x128, v359⟩, ⟨S256x128, v361⟩, ⟨S256x128, v363⟩, ⟨S256x128, v365⟩] concatenates_S256x128_S256x128_S256x128_S256x128_S256x128_S256x128_S256x128_S256x128_S256x1024_d1

/-- Head 3's sinks. -/
def sink3 (a : FVec Ideal S1x32 .f32) : FVec Ideal S1x1024 .f32 :=
  have v367 : FVec Ideal S1x1 .f32 := extractStridedSlice S1x1 ![0, 24] a slices_S1x32_o0_24_S1x1
  have v368 : FVec Ideal S1x1 .f32 := shapeCast S1x1 v367 shapeCasts_S1x1_S1x1
  have v369 : FVec Ideal S1x128 .f32 := broadcastTo S1x128 v368 broadcasts_S1x1_S1x128
  have v370 : FVec Ideal S1x1 .f32 := extractStridedSlice S1x1 ![0, 25] a slices_S1x32_o0_25_S1x1
  have v371 : FVec Ideal S1x1 .f32 := shapeCast S1x1 v370 shapeCasts_S1x1_S1x1
  have v372 : FVec Ideal S1x128 .f32 := broadcastTo S1x128 v371 broadcasts_S1x1_S1x128
  have v373 : FVec Ideal S1x1 .f32 := extractStridedSlice S1x1 ![0, 26] a slices_S1x32_o0_26_S1x1
  have v374 : FVec Ideal S1x1 .f32 := shapeCast S1x1 v373 shapeCasts_S1x1_S1x1
  have v375 : FVec Ideal S1x128 .f32 := broadcastTo S1x128 v374 broadcasts_S1x1_S1x128
  have v376 : FVec Ideal S1x1 .f32 := extractStridedSlice S1x1 ![0, 27] a slices_S1x32_o0_27_S1x1
  have v377 : FVec Ideal S1x1 .f32 := shapeCast S1x1 v376 shapeCasts_S1x1_S1x1
  have v378 : FVec Ideal S1x128 .f32 := broadcastTo S1x128 v377 broadcasts_S1x1_S1x128
  have v379 : FVec Ideal S1x1 .f32 := extractStridedSlice S1x1 ![0, 28] a slices_S1x32_o0_28_S1x1
  have v380 : FVec Ideal S1x1 .f32 := shapeCast S1x1 v379 shapeCasts_S1x1_S1x1
  have v381 : FVec Ideal S1x128 .f32 := broadcastTo S1x128 v380 broadcasts_S1x1_S1x128
  have v382 : FVec Ideal S1x1 .f32 := extractStridedSlice S1x1 ![0, 29] a slices_S1x32_o0_29_S1x1
  have v383 : FVec Ideal S1x1 .f32 := shapeCast S1x1 v382 shapeCasts_S1x1_S1x1
  have v384 : FVec Ideal S1x128 .f32 := broadcastTo S1x128 v383 broadcasts_S1x1_S1x128
  have v385 : FVec Ideal S1x1 .f32 := extractStridedSlice S1x1 ![0, 30] a slices_S1x32_o0_30_S1x1
  have v386 : FVec Ideal S1x1 .f32 := shapeCast S1x1 v385 shapeCasts_S1x1_S1x1
  have v387 : FVec Ideal S1x128 .f32 := broadcastTo S1x128 v386 broadcasts_S1x1_S1x128
  have v388 : FVec Ideal S1x1 .f32 := extractStridedSlice S1x1 ![0, 31] a slices_S1x32_o0_31_S1x1
  have v389 : FVec Ideal S1x1 .f32 := shapeCast S1x1 v388 shapeCasts_S1x1_S1x1
  have v390 : FVec Ideal S1x128 .f32 := broadcastTo S1x128 v389 broadcasts_S1x1_S1x128
  concatenate S1x1024 1 [⟨S1x128, v369⟩, ⟨S1x128, v372⟩, ⟨S1x128, v375⟩, ⟨S1x128, v378⟩, ⟨S1x128, v381⟩, ⟨S1x128, v384⟩, ⟨S1x128, v387⟩, ⟨S1x128, v390⟩] concatenates_S1x128_S1x128_S1x128_S1x128_S1x128_S1x128_S1x128_S1x128_S1x1024_d1

/-- Head 3's incoming gradient, transposed. -/
def dout3 (a : FVec Ideal S128x2048 .f32) : FVec Ideal S64x1024 .f32 :=
  have cst_71 : Ideal .f32 := Scalar.ofBits .f32 0x00000000#32
  have v472 : FVec Ideal S64x896 .f32 := broadcast S64x896 cst_71
  have v468 : FVec Ideal S128x64 .f32 := extractStridedSlice S128x64 ![0, 1984] a slices_S128x2048_o0_1984_S128x64
  have v469 : FVec Ideal S128x64 .bf16 := truncf .bf16 v468 bitsLt_bf16_f32
  have v470 : FVec Ideal S128x128 .bf16 := truncf .bf16 eye bitsLt_bf16_f32
  have cst_70 : FVec Ideal S64x128 .f32 := constant S64x128 .f32 0x00000000#32
  have v471 : FVec Ideal S64x128 .f32 := matmul dot_S128x64_S128x128_S64x128_0_0_1_1_n_n none v469 v470 cst_70
  have v473 : FVec Ideal S64x1024 .f32 := concatenate S64x1024 1 [⟨S64x896, v472⟩, ⟨S64x128, v471⟩] concatenates_S64x896_S64x128_S64x1024_d1
  have cst_73 : Ideal .f32 := Scalar.ofBits .f32 0x00000000#32
  have v477 : FVec Ideal S64x768 .f32 := broadcast S64x768 cst_73
  have v467 : FVec Ideal S128x64 .f32 := extractStridedSlice S128x64 ![0, 1920] a slices_S128x2048_o0_1920_S128x64
  have v474 : FVec Ideal S128x64 .bf16 := truncf .bf16 v467 bitsLt_bf16_f32
  have v475 : FVec Ideal S128x128 .bf16 := truncf .bf16 eye bitsLt_bf16_f32
  have cst_72 : FVec Ideal S64x128 .f32 := constant S64x128 .f32 0x00000000#32
  have v476 : FVec Ideal S64x128 .f32 := matmul dot_S128x64_S128x128_S64x128_0_0_1_1_n_n none v474 v475 cst_72
  have v478 : FVec Ideal S64x896 .f32 := concatenate S64x896 1 [⟨S64x768, v477⟩, ⟨S64x128, v476⟩] concatenates_S64x768_S64x128_S64x896_d1
  have v479 : FVec Ideal S64x128 .f32 := broadcast S64x128 cst_73
  have v480 : FVec Ideal S64x1024 .f32 := concatenate S64x1024 1 [⟨S64x896, v478⟩, ⟨S64x128, v479⟩] concatenates_S64x896_S64x128_S64x1024_d1
  have v481 : FVec Ideal S64x1024 .f32 := addf v473 v480
  have cst_75 : Ideal .f32 := Scalar.ofBits .f32 0x00000000#32
  have v485 : FVec Ideal S64x640 .f32 := broadcast S64x640 cst_75
  have v466 : FVec Ideal S128x64 .f32 := extractStridedSlice S128x64 ![0, 1856] a slices_S128x2048_o0_1856_S128x64
  have v482 : FVec Ideal S128x64 .bf16 := truncf .bf16 v466 bitsLt_bf16_f32
  have v483 : FVec Ideal S128x128 .bf16 := truncf .bf16 eye bitsLt_bf16_f32
  have cst_74 : FVec Ideal S64x128 .f32 := constant S64x128 .f32 0x00000000#32
  have v484 : FVec Ideal S64x128 .f32 := matmul dot_S128x64_S128x128_S64x128_0_0_1_1_n_n none v482 v483 cst_74
  have v486 : FVec Ideal S64x768 .f32 := concatenate S64x768 1 [⟨S64x640, v485⟩, ⟨S64x128, v484⟩] concatenates_S64x640_S64x128_S64x768_d1
  have v487 : FVec Ideal S64x256 .f32 := broadcast S64x256 cst_75
  have v488 : FVec Ideal S64x1024 .f32 := concatenate S64x1024 1 [⟨S64x768, v486⟩, ⟨S64x256, v487⟩] concatenates_S64x768_S64x256_S64x1024_d1
  have v489 : FVec Ideal S64x1024 .f32 := addf v481 v488
  have cst_77 : Ideal .f32 := Scalar.ofBits .f32 0x00000000#32
  have v493 : FVec Ideal S64x512 .f32 := broadcast S64x512 cst_77
  have v465 : FVec Ideal S128x64 .f32 := extractStridedSlice S128x64 ![0, 1792] a slices_S128x2048_o0_1792_S128x64
  have v490 : FVec Ideal S128x64 .bf16 := truncf .bf16 v465 bitsLt_bf16_f32
  have v491 : FVec Ideal S128x128 .bf16 := truncf .bf16 eye bitsLt_bf16_f32
  have cst_76 : FVec Ideal S64x128 .f32 := constant S64x128 .f32 0x00000000#32
  have v492 : FVec Ideal S64x128 .f32 := matmul dot_S128x64_S128x128_S64x128_0_0_1_1_n_n none v490 v491 cst_76
  have v494 : FVec Ideal S64x640 .f32 := concatenate S64x640 1 [⟨S64x512, v493⟩, ⟨S64x128, v492⟩] concatenates_S64x512_S64x128_S64x640_d1
  have v495 : FVec Ideal S64x384 .f32 := broadcast S64x384 cst_77
  have v496 : FVec Ideal S64x1024 .f32 := concatenate S64x1024 1 [⟨S64x640, v494⟩, ⟨S64x384, v495⟩] concatenates_S64x640_S64x384_S64x1024_d1
  have v497 : FVec Ideal S64x1024 .f32 := addf v489 v496
  have cst_79 : Ideal .f32 := Scalar.ofBits .f32 0x00000000#32
  have v501 : FVec Ideal S64x384 .f32 := broadcast S64x384 cst_79
  have v464 : FVec Ideal S128x64 .f32 := extractStridedSlice S128x64 ![0, 1728] a slices_S128x2048_o0_1728_S128x64
  have v498 : FVec Ideal S128x64 .bf16 := truncf .bf16 v464 bitsLt_bf16_f32
  have v499 : FVec Ideal S128x128 .bf16 := truncf .bf16 eye bitsLt_bf16_f32
  have cst_78 : FVec Ideal S64x128 .f32 := constant S64x128 .f32 0x00000000#32
  have v500 : FVec Ideal S64x128 .f32 := matmul dot_S128x64_S128x128_S64x128_0_0_1_1_n_n none v498 v499 cst_78
  have v502 : FVec Ideal S64x512 .f32 := concatenate S64x512 1 [⟨S64x384, v501⟩, ⟨S64x128, v500⟩] concatenates_S64x384_S64x128_S64x512_d1
  have v503 : FVec Ideal S64x512 .f32 := broadcast S64x512 cst_79
  have v504 : FVec Ideal S64x1024 .f32 := concatenate S64x1024 1 [⟨S64x512, v502⟩, ⟨S64x512, v503⟩] concatenates_S64x512_S64x512_S64x1024_d1
  have v505 : FVec Ideal S64x1024 .f32 := addf v497 v504
  have cst_81 : Ideal .f32 := Scalar.ofBits .f32 0x00000000#32
  have v509 : FVec Ideal S64x256 .f32 := broadcast S64x256 cst_81
  have v463 : FVec Ideal S128x64 .f32 := extractStridedSlice S128x64 ![0, 1664] a slices_S128x2048_o0_1664_S128x64
  have v506 : FVec Ideal S128x64 .bf16 := truncf .bf16 v463 bitsLt_bf16_f32
  have v507 : FVec Ideal S128x128 .bf16 := truncf .bf16 eye bitsLt_bf16_f32
  have cst_80 : FVec Ideal S64x128 .f32 := constant S64x128 .f32 0x00000000#32
  have v508 : FVec Ideal S64x128 .f32 := matmul dot_S128x64_S128x128_S64x128_0_0_1_1_n_n none v506 v507 cst_80
  have v510 : FVec Ideal S64x384 .f32 := concatenate S64x384 1 [⟨S64x256, v509⟩, ⟨S64x128, v508⟩] concatenates_S64x256_S64x128_S64x384_d1
  have v511 : FVec Ideal S64x640 .f32 := broadcast S64x640 cst_81
  have v512 : FVec Ideal S64x1024 .f32 := concatenate S64x1024 1 [⟨S64x384, v510⟩, ⟨S64x640, v511⟩] concatenates_S64x384_S64x640_S64x1024_d1
  have v513 : FVec Ideal S64x1024 .f32 := addf v505 v512
  have cst_83 : Ideal .f32 := Scalar.ofBits .f32 0x00000000#32
  have v517 : FVec Ideal S64x128 .f32 := broadcast S64x128 cst_83
  have v462 : FVec Ideal S128x64 .f32 := extractStridedSlice S128x64 ![0, 1600] a slices_S128x2048_o0_1600_S128x64
  have v514 : FVec Ideal S128x64 .bf16 := truncf .bf16 v462 bitsLt_bf16_f32
  have v515 : FVec Ideal S128x128 .bf16 := truncf .bf16 eye bitsLt_bf16_f32
  have cst_82 : FVec Ideal S64x128 .f32 := constant S64x128 .f32 0x00000000#32
  have v516 : FVec Ideal S64x128 .f32 := matmul dot_S128x64_S128x128_S64x128_0_0_1_1_n_n none v514 v515 cst_82
  have v518 : FVec Ideal S64x256 .f32 := concatenate S64x256 1 [⟨S64x128, v517⟩, ⟨S64x128, v516⟩] concatenates_S64x128_S64x128_S64x256_d1
  have v519 : FVec Ideal S64x768 .f32 := broadcast S64x768 cst_83
  have v520 : FVec Ideal S64x1024 .f32 := concatenate S64x1024 1 [⟨S64x256, v518⟩, ⟨S64x768, v519⟩] concatenates_S64x256_S64x768_S64x1024_d1
  have v521 : FVec Ideal S64x1024 .f32 := addf v513 v520
  have v461 : FVec Ideal S128x64 .f32 := extractStridedSlice S128x64 ![0, 1536] a slices_S128x2048_o0_1536_S128x64
  have v522 : FVec Ideal S128x64 .bf16 := truncf .bf16 v461 bitsLt_bf16_f32
  have v523 : FVec Ideal S128x128 .bf16 := truncf .bf16 eye bitsLt_bf16_f32
  have cst_84 : FVec Ideal S64x128 .f32 := constant S64x128 .f32 0x00000000#32
  have v524 : FVec Ideal S64x128 .f32 := matmul dot_S128x64_S128x128_S64x128_0_0_1_1_n_n none v522 v523 cst_84
  have cst_85 : Ideal .f32 := Scalar.ofBits .f32 0x00000000#32
  have v525 : FVec Ideal S64x896 .f32 := broadcast S64x896 cst_85
  have v526 : FVec Ideal S64x1024 .f32 := concatenate S64x1024 1 [⟨S64x128, v524⟩, ⟨S64x896, v525⟩] concatenates_S64x128_S64x896_S64x1024_d1
  addf v521 v526

/-- Head 3 of a block. -/
def side3 (i : grid0.Coords) (q : FVec Ideal S128x2048 .f32) (kp kc vp vc : FVec Ideal S128x256 .f32) (b : FVec Ideal S32x256x128 .f32) (s : FVec Ideal S1x32 .f32) (d : FVec Ideal S128x2048 .f32) : Side :=
  ⟨see i, keys3 kp kc, keys3 vp vc, quer3 q, bias3 b, sink3 s, dout3 d⟩

end Cert.KernelIdeal.Attn
-- ==== Proof.Outputs.lean ====
module

public import proofs.«01_k».proof.Proof.Core

@[expose] public section

set_option maxRecDepth 16384

noncomputable section

namespace Cert.KernelIdeal.Attn

open Cert.KernelIdeal Cert.KernelIdeal.Gen Idealize.ShloMosaic Idealize.SL.Sem

/-- The queries' gradient in its place, head 3. -/
def toQ3 (d : FVec Ideal S1024x64 .f32) : FVec Ideal S128x2048 .f32 :=
  have cst_123 : Ideal .f32 := Scalar.ofBits .f32 0x00000000#32
  have v721 : FVec Ideal S128x1984 .f32 := broadcast S128x1984 cst_123
  have v720 : FVec Ideal S128x64 .f32 := extractStridedSlice S128x64 ![896, 0] d slices_S1024x64_o896_0_S128x64
  have v722 : FVec Ideal S128x2048 .f32 := concatenate S128x2048 1 [⟨S128x1984, v721⟩, ⟨S128x64, v720⟩] concatenates_S128x1984_S128x64_S128x2048_d1
  have cst_124 : Ideal .f32 := Scalar.ofBits .f32 0x00000000#32
  have v723 : FVec Ideal S128x1920 .f32 := broadcast S128x1920 cst_124
  have v719 : FVec Ideal S128x64 .f32 := extractStridedSlice S128x64 ![768, 0] d slices_S1024x64_o768_0_S128x64
  have v724 : FVec Ideal S128x1984 .f32 := concatenate S128x1984 1 [⟨S128x1920, v723⟩, ⟨S128x64, v719⟩] concatenates_S128x1920_S128x64_S128x1984_d1
  have v725 : FVec Ideal S128x64 .f32 := broadcast S128x64 cst_124
  have v726 : FVec Ideal S128x2048 .f32 := concatenate S128x2048 1 [⟨S128x1984, v724⟩, ⟨S128x64, v725⟩] concatenates_S128x1984_S128x64_S128x2048_d1
  have v727 : FVec Ideal S128x2048 .f32 := addf v722 v726
  have cst_125 : Ideal .f32 := Scalar.ofBits .f32 0x00000000#32
  have v728 : FVec Ideal S128x1856 .f32 := broadcast S128x1856 cst_125
  have v718 : FVec Ideal S128x64 .f32 := extractStridedSlice S128x64 ![640, 0] d slices_S1024x64_o640_0_S128x64
  have v729 : FVec Ideal S128x1920 .f32 := concatenate S128x1920 1 [⟨S128x1856, v728⟩, ⟨S128x64, v718⟩] concatenates_S128x1856_S128x64_S128x1920_d1
  have v730 : FVec Ideal S128x128 .f32 := broadcast S128x128 cst_125
  have v731 : FVec Ideal S128x2048 .f32 := concatenate S128x2048 1 [⟨S128x1920, v729⟩, ⟨S128x128, v730⟩] concatenates_S128x1920_S128x128_S128x2048_d1
  have v732 : FVec Ideal S128x2048 .f32 := addf v727 v731
  have cst_126 : Ideal .f32 := Scalar.ofBits .f32 0x00000000#32
  have v733 : FVec Ideal S128x1792 .f32 := broadcast S128x1792 cst_126
  have v717 : FVec Ideal S128x64 .f32 := extractStridedSlice S128x64 ![512, 0] d slices_S1024x64_o512_0_S128x64
  have v734 : FVec Ideal S128x1856 .f32 := concatenate S128x1856 1 [⟨S128x1792, v733⟩, ⟨S128x64, v717⟩] concatenates_S128x1792_S128x64_S128x1856_d1
  have v735 : FVec Ideal S128x192 .f32 := broadcast S128x192 cst_126
  have v736 : FVec Ideal S128x2048 .f32 := concatenate S128x2048 1 [⟨S128x1856, v734⟩, ⟨S128x192, v735⟩] concatenates_S128x1856_S128x192_S128x2048_d1
  have v737 : FVec Ideal S128x2048 .f32 := addf v732 v736
  have cst_127 : Ideal .f32 := Scalar.ofBits .f32 0x00000000#32
  have v738 : FVec Ideal S128x1728 .f32 := broadcast S128x1728 cst_127
  have v716 : FVec Ideal S128x64 .f32 := extractStridedSlice S128x64 ![384, 0] d slices_S1024x64_o384_0_S128x64
  have v739 : FVec Ideal S128x1792 .f32 := concatenate S128x1792 1 [⟨S128x1728, v738⟩, ⟨S128x64, v716⟩] concatenates_S128x1728_S128x64_S128x1792_d1
  have v740 : FVec Ideal S128x256 .f32 := broadcast S128x256 cst_127
  have v741 : FVec Ideal S128x2048 .f32 := concatenate S128x2048 1 [⟨S128x1792, v739⟩, ⟨S128x256, v740⟩] concatenates_S128x1792_S128x256_S128x2048_d1
  have v742 : FVec Ideal S128x2048 .f32 := addf v737 v741
  have cst_128 : Ideal .f32 := Scalar.ofBits .f32 0x00000000#32
  have v743 : FVec Ideal S128x1664 .f32 := broadcast S128x1664 cst_128
  have v715 : FVec Ideal S128x64 .f32 := extractStridedSlice S128x64 ![256, 0] d slices_S1024x64_o256_0_S128x64
  have v744 : FVec Ideal S128x1728 .f32 := concatenate S128x1728 1 [⟨S128x1664, v743⟩, ⟨S128x64, v715⟩] concatenates_S128x1664_S128x64_S128x1728_d1
  have v745 : FVec Ideal S128x320 .f32 := broadcast S128x320 cst_128
  have v746 : FVec Ideal S128x2048 .f32 := concatenate S128x2048 1 [⟨S128x1728, v744⟩, ⟨S128x320, v745⟩] concatenates_S128x1728_S128x320_S128x2048_d1
  have v747 : FVec Ideal S128x2048 .f32 := addf v742 v746
  have cst_129 : Ideal .f32 := Scalar.ofBits .f32 0x00000000#32
  have v748 : FVec Ideal S128x1600 .f32 := broadcast S128x1600 cst_129
  have v714 : FVec Ideal S128x64 .f32 := extractStridedSlice S128x64 ![128, 0] d slices_S1024x64_o128_0_S128x64
  have v749 : FVec Ideal S128x1664 .f32 := concatenate S128x1664 1 [⟨S128x1600, v748⟩, ⟨S128x64, v714⟩] concatenates_S128x1600_S128x64_S128x1664_d1
  have v750 : FVec Ideal S128x384 .f32 := broadcast S128x384 cst_129
  have v751 : FVec Ideal S128x2048 .f32 := concatenate S128x2048 1 [⟨S128x1664, v749⟩, ⟨S128x384, v750⟩] concatenates_S128x1664_S128x384_S128x2048_d1
  have v752 : FVec Ideal S128x2048 .f32 := addf v747 v751
  have cst_130 : Ideal .f32 := Scalar.ofBits .f32 0x00000000#32
  have v753 : FVec Ideal S128x1536 .f32 := broadcast S128x1536 cst_130
  have v713 : FVec Ideal S128x64 .f32 := extractStridedSlice S128x64 ![0, 0] d slices_S1024x64_o0_0_S128x64
  have v754 : FVec Ideal S128x1600 .f32 := concatenate S128x1600 1 [⟨S128x1536, v753⟩, ⟨S128x64, v713⟩] concatenates_S128x1536_S128x64_S128x1600_d1
  have v755 : FVec Ideal S128x448 .f32 := broadcast S128x448 cst_130
  have v756 : FVec Ideal S128x2048 .f32 := concatenate S128x2048 1 [⟨S128x1600, v754⟩, ⟨S128x448, v755⟩] concatenates_S128x1600_S128x448_S128x2048_d1
  addf v752 v756

/-- The queries' gradient in its place, head 2 added. -/
def toQ2 (a : FVec Ideal S128x2048 .f32) (d : FVec Ideal S1024x64 .f32) : FVec Ideal S128x2048 .f32 :=
  have cst_188 : Ideal .f32 := Scalar.ofBits .f32 0x00000000#32
  have v1028 : FVec Ideal S128x1472 .f32 := broadcast S128x1472 cst_188
  have v1027 : FVec Ideal S128x64 .f32 := extractStridedSlice S128x64 ![896, 0] d slices_S1024x64_o896_0_S128x64
  have v1029 : FVec Ideal S128x1536 .f32 := concatenate S128x1536 1 [⟨S128x1472, v1028⟩, ⟨S128x64, v1027⟩] concatenates_S128x1472_S128x64_S128x1536_d1
  have v1030 : FVec Ideal S128x512 .f32 := broadcast S128x512 cst_188
  have v1031 : FVec Ideal S128x2048 .f32 := concatenate S128x2048 1 [⟨S128x1536, v1029⟩, ⟨S128x512, v1030⟩] concatenates_S128x1536_S128x512_S128x2048_d1
  have v1032 : FVec Ideal S128x2048 .f32 := addf a v1031
  have cst_189 : Ideal .f32 := Scalar.ofBits .f32 0x00000000#32
  have v1033 : FVec Ideal S128x1408 .f32 := broadcast S128x1408 cst_189
  have v1026 : FVec Ideal S128x64 .f32 := extractStridedSlice S128x64 ![768, 0] d slices_S1024x64_o768_0_S128x64
  have v1034 : FVec Ideal S128x1472 .f32 := concatenate S128x1472 1 [⟨S128x1408, v1033⟩, ⟨S128x64, v1026⟩] concatenates_S128x1408_S128x64_S128x1472_d1
  have v1035 : FVec Ideal S128x576 .f32 := broadcast S128x576 cst_189
  have v1036 : FVec Ideal S128x2048 .f32 := concatenate S128x2048 1 [⟨S128x1472, v1034⟩, ⟨S128x576, v1035⟩] concatenates_S128x1472_S128x576_S128x2048_d1
  have v1037 : FVec Ideal S128x2048 .f32 := addf v1032 v1036
  have cst_190 : Ideal .f32 := Scalar.ofBits .f32 0x00000000#32
  have v1038 : FVec Ideal S128x1344 .f32 := broadcast S128x1344 cst_190
  have v1025 : FVec Ideal S128x64 .f32 := extractStridedSlice S128x64 ![640, 0] d slices_S1024x64_o640_0_S128x64
  have v1039 : FVec Ideal S128x1408 .f32 := concatenate S128x1408 1 [⟨S128x1344, v1038⟩, ⟨S128x64, v1025⟩] concatenates_S128x1344_S128x64_S128x1408_d1
  have v1040 : FVec Ideal S128x640 .f32 := broadcast S128x640 cst_190
  have v1041 : FVec Ideal S128x2048 .f32 := concatenate S128x2048 1 [⟨S128x1408, v1039⟩, ⟨S128x640, v1040⟩] concatenates_S128x1408_S128x640_S128x2048_d1
  have v1042 : FVec Ideal S128x2048 .f32 := addf v1037 v1041
  have cst_191 : Ideal .f32 := Scalar.ofBits .f32 0x00000000#32
  have v1043 : FVec Ideal S128x1280 .f32 := broadcast S128x1280 cst_191
  have v1024 : FVec Ideal S128x64 .f32 := extractStridedSlice S128x64 ![512, 0] d slices_S1024x64_o512_0_S128x64
  have v1044 : FVec Ideal S128x1344 .f32 := concatenate S128x1344 1 [⟨S128x1280, v1043⟩, ⟨S128x64, v1024⟩] concatenates_S128x1280_S128x64_S128x1344_d1
  have v1045 : FVec Ideal S128x704 .f32 := broadcast S128x704 cst_191
  have v1046 : FVec Ideal S128x2048 .f32 := concatenate S128x2048 1 [⟨S128x1344, v1044⟩, ⟨S128x704, v1045⟩] concatenates_S128x1344_S128x704_S128x2048_d1
  have v1047 : FVec Ideal S128x2048 .f32 := addf v1042 v1046
  have cst_192 : Ideal .f32 := Scalar.ofBits .f32 0x00000000#32
  have v1048 : FVec Ideal S128x1216 .f32 := broadcast S128x1216 cst_192
  have v1023 : FVec Ideal S128x64 .f32 := extractStridedSlice S128x64 ![384, 0] d slices_S1024x64_o384_0_S128x64
  have v1049 : FVec Ideal S128x1280 .f32 := concatenate S128x1280 1 [⟨S128x1216, v1048⟩, ⟨S128x64, v1023⟩] concatenates_S128x1216_S128x64_S128x1280_d1
  have v1050 : FVec Ideal S128x768 .f32 := broadcast S128x768 cst_192
  have v1051 : FVec Ideal S128x2048 .f32 := concatenate S128x2048 1 [⟨S128x1280, v1049⟩, ⟨S128x768, v1050⟩] concatenates_S128x1280_S128x768_S128x2048_d1
  have v1052 : FVec Ideal S128x2048 .f32 := addf v1047 v1051
  have cst_193 : Ideal .f32 := Scalar.ofBits .f32 0x00000000#32
  have v1053 : FVec Ideal S128x1152 .f32 := broadcast S128x1152 cst_193
  have v1022 : FVec Ideal S128x64 .f32 := extractStridedSlice S128x64 ![256, 0] d slices_S1024x64_o256_0_S128x64
  have v1054 : FVec Ideal S128x1216 .f32 := concatenate S128x1216 1 [⟨S128x1152, v1053⟩, ⟨S128x64, v1022⟩] concatenates_S128x1152_S128x64_S128x1216_d1
  have v1055 : FVec Ideal S128x832 .f32 := broadcast S128x832 cst_193
  have v1056 : FVec Ideal S128x2048 .f32 := concatenate S128x2048 1 [⟨S128x1216, v1054⟩, ⟨S128x832, v1055⟩] concatenates_S128x1216_S128x832_S128x2048_d1
  have v1057 : FVec Ideal S128x2048 .f32 := addf v1052 v1056
  have cst_194 : Ideal .f32 := Scalar.ofBits .f32 0x00000000#32
  have v1058 : FVec Ideal S128x1088 .f32 := broadcast S128x1088 cst_194
  have v1021 : FVec Ideal S128x64 .f32 := extractStridedSlice S128x64 ![128, 0] d slices_S1024x64_o128_0_S128x64
  have v1059 : FVec Ideal S128x1152 .f32 := concatenate S128x1152 1 [⟨S128x1088, v1058⟩, ⟨S128x64, v1021⟩] concatenates_S128x1088_S128x64_S128x1152_d1
  have v1060 : FVec Ideal S128x896 .f32 := broadcast S128x896 cst_194
  have v1061 : FVec Ideal S128x2048 .f32 := concatenate S128x2048 1 [⟨S128x1152, v1059⟩, ⟨S128x896, v1060⟩] concatenates_S128x1152_S128x896_S128x2048_d1
  have v1062 : FVec Ideal S128x2048 .f32 := addf v1057 v1061
  have cst_195 : Ideal .f32 := Scalar.ofBits .f32 0x00000000#32
  have v1063 : FVec Ideal S128x1024 .f32 := broadcast S128x1024 cst_195
  have v1020 : FVec Ideal S128x64 .f32 := extractStridedSlice S128x64 ![0, 0] d slices_S1024x64_o0_0_S128x64
  have v1064 : FVec Ideal S128x1088 .f32 := concatenate S128x1088 1 [⟨S128x1024, v1063⟩, ⟨S128x64, v1020⟩] concatenates_S128x1024_S128x64_S128x1088_d1
  have v1065 : FVec Ideal S128x960 .f32 := broadcast S128x960 cst_195
  have v1066 : FVec Ideal S128x2048 .f32 := concatenate S128x2048 1 [⟨S128x1088, v1064⟩, ⟨S128x960, v1065⟩] concatenates_S128x1088_S128x960_S128x2048_d1
  addf v1062 v1066

/-- The queries' gradient in its place, head 1 added. -/
def toQ1 (a : FVec Ideal S128x2048 .f32) (d : FVec Ideal S1024x64 .f32) : FVec Ideal S128x2048 .f32 :=
  have cst_253 : Ideal .f32 := Scalar.ofBits .f32 0x00000000#32
  have v1350 : FVec Ideal S128x960 .f32 := broadcast S128x960 cst_253
  have v1349 : FVec Ideal S128x64 .f32 := extractStridedSlice S128x64 ![896, 0] d slices_S1024x64_o896_0_S128x64
  have v1351 : FVec Ideal S128x1024 .f32 := concatenate S128x1024 1 [⟨S128x960, v1350⟩, ⟨S128x64, v1349⟩] concatenates_S128x960_S128x64_S128x1024_d1
  have v1352 : FVec Ideal S128x1024 .f32 := broadcast S128x1024 cst_253
  have v1353 : FVec Ideal S128x2048 .f32 := concatenate S128x2048 1 [⟨S128x1024, v1351⟩, ⟨S128x1024, v1352⟩] concatenates_S128x1024_S128x1024_S128x2048_d1
  have v1354 : FVec Ideal S128x2048 .f32 := addf a v1353
  have cst_254 : Ideal .f32 := Scalar.ofBits .f32 0x00000000#32
  have v1355 : FVec Ideal S128x896 .f32 := broadcast S128x896 cst_254
  have v1348 : FVec Ideal S128x64 .f32 := extractStridedSlice S128x64 ![768, 0] d slices_S1024x64_o768_0_S128x64
  have v1356 : FVec Ideal S128x960 .f32 := concatenate S128x960 1 [⟨S128x896, v1355⟩, ⟨S128x64, v1348⟩] concatenates_S128x896_S128x64_S128x960_d1
  have v1357 : FVec Ideal S128x1088 .f32 := broadcast S128x1088 cst_254
  have v1358 : FVec Ideal S128x2048 .f32 := concatenate S128x2048 1 [⟨S128x960, v1356⟩, ⟨S128x1088, v1357⟩] concatenates_S128x960_S128x1088_S128x2048_d1
  have v1359 : FVec Ideal S128x2048 .f32 := addf v1354 v1358
  have cst_255 : Ideal .f32 := Scalar.ofBits .f32 0x00000000#32
  have v1360 : FVec Ideal S128x832 .f32 := broadcast S128x832 cst_255
  have v1347 : FVec Ideal S128x64 .f32 := extractStridedSlice S128x64 ![640, 0] d slices_S1024x64_o640_0_S128x64
  have v1361 : FVec Ideal S128x896 .f32 := concatenate S128x896 1 [⟨S128x832, v1360⟩, ⟨S128x64, v1347⟩] concatenates_S128x832_S128x64_S128x896_d1
  have v1362 : FVec Ideal S128x1152 .f32 := broadcast S128x1152 cst_255
  have v1363 : FVec Ideal S128x2048 .f32 := concatenate S128x2048 1 [⟨S128x896, v1361⟩, ⟨S128x1152, v1362⟩] concatenates_S128x896_S128x1152_S128x2048_d1
  have v1364 : FVec Ideal S128x2048 .f32 := addf v1359 v1363
  have cst_256 : Ideal .f32 := Scalar.ofBits .f32 0x00000000#32
  have v1365 : FVec Ideal S128x768 .f32 := broadcast S128x768 cst_256
  have v1346 : FVec Ideal S128x64 .f32 := extractStridedSlice S128x64 ![512, 0] d slices_S1024x64_o512_0_S128x64
  have v1366 : FVec Ideal S128x832 .f32 := concatenate S128x832 1 [⟨S128x768, v1365⟩, ⟨S128x64, v1346⟩] concatenates_S128x768_S128x64_S128x832_d1
  have v1367 : FVec Ideal S128x1216 .f32 := broadcast S128x1216 cst_256
  have v1368 : FVec Ideal S128x2048 .f32 := concatenate S128x2048 1 [⟨S128x832, v1366⟩, ⟨S128x1216, v1367⟩] concatenates_S128x832_S128x1216_S128x2048_d1
  have v1369 : FVec Ideal S128x2048 .f32 := addf v1364 v1368
  have cst_257 : Ideal .f32 := Scalar.ofBits .f32 0x00000000#32
  have v1370 : FVec Ideal S128x704 .f32 := broadcast S128x704 cst_257
  have v1345 : FVec Ideal S128x64 .f32 := extractStridedSlice S128x64 ![384, 0] d slices_S1024x64_o384_0_S128x64
  have v1371 : FVec Ideal S128x768 .f32 := concatenate S128x768 1 [⟨S128x704, v1370⟩, ⟨S128x64, v1345⟩] concatenates_S128x704_S128x64_S128x768_d1
  have v1372 : FVec Ideal S128x1280 .f32 := broadcast S128x1280 cst_257
  have v1373 : FVec Ideal S128x2048 .f32 := concatenate S128x2048 1 [⟨S128x768, v1371⟩, ⟨S128x1280, v1372⟩] concatenates_S128x768_S128x1280_S128x2048_d1
  have v1374 : FVec Ideal S128x2048 .f32 := addf v1369 v1373
  have cst_258 : Ideal .f32 := Scalar.ofBits .f32 0x00000000#32
  have v1375 : FVec Ideal S128x640 .f32 := broadcast S128x640 cst_258
  have v1344 : FVec Ideal S128x64 .f32 := extractStridedSlice S128x64 ![256, 0] d slices_S1024x64_o256_0_S128x64
  have v1376 : FVec Ideal S128x704 .f32 := concatenate S128x704 1 [⟨S128x640, v1375⟩, ⟨S128x64, v1344⟩] concatenates_S128x640_S128x64_S128x704_d1
  have v1377 : FVec Ideal S128x1344 .f32 := broadcast S128x1344 cst_258
  have v1378 : FVec Ideal S128x2048 .f32 := concatenate S128x2048 1 [⟨S128x704, v1376⟩, ⟨S128x1344, v1377⟩] concatenates_S128x704_S128x1344_S128x2048_d1
  have v1379 : FVec Ideal S128x2048 .f32 := addf v1374 v1378
  have cst_259 : Ideal .f32 := Scalar.ofBits .f32 0x00000000#32
  have v1380 : FVec Ideal S128x576 .f32 := broadcast S128x576 cst_259
  have v1343 : FVec Ideal S128x64 .f32 := extractStridedSlice S128x64 ![128, 0] d slices_S1024x64_o128_0_S128x64
  have v1381 : FVec Ideal S128x640 .f32 := concatenate S128x640 1 [⟨S128x576, v1380⟩, ⟨S128x64, v1343⟩] concatenates_S128x576_S128x64_S128x640_d1
  have v1382 : FVec Ideal S128x1408 .f32 := broadcast S128x1408 cst_259
  have v1383 : FVec Ideal S128x2048 .f32 := concatenate S128x2048 1 [⟨S128x640, v1381⟩, ⟨S128x1408, v1382⟩] concatenates_S128x640_S128x1408_S128x2048_d1
  have v1384 : FVec Ideal S128x2048 .f32 := addf v1379 v1383
  have cst_260 : Ideal .f32 := Scalar.ofBits .f32 0x00000000#32
  have v1385 : FVec Ideal S128x512 .f32 := broadcast S128x512 cst_260
  have v1342 : FVec Ideal S128x64 .f32 := extractStridedSlice S128x64 ![0, 0] d slices_S1024x64_o0_0_S128x64
  have v1386 : FVec Ideal S128x576 .f32 := concatenate S128x576 1 [⟨S128x512, v1385⟩, ⟨S128x64, v1342⟩] concatenates_S128x512_S128x64_S128x576_d1
  have v1387 : FVec Ideal S128x1472 .f32 := broadcast S128x1472 cst_260
  have v1388 : FVec Ideal S128x2048 .f32 := concatenate S128x2048 1 [⟨S128x576, v1386⟩, ⟨S128x1472, v1387⟩] concatenates_S128x576_S128x1472_S128x2048_d1
  addf v1384 v1388

/-- The queries' gradient in its place, head 0 added. -/
def toQ0 (a : FVec Ideal S128x2048 .f32) (d : FVec Ideal S1024x64 .f32) : FVec Ideal S128x2048 .f32 :=
  have cst_318 : Ideal .f32 := Scalar.ofBits .f32 0x00000000#32
  have v1668 : FVec Ideal S128x448 .f32 := broadcast S128x448 cst_318
  have v1667 : FVec Ideal S128x64 .f32 := extractStridedSlice S128x64 ![896, 0] d slices_S1024x64_o896_0_S128x64
  have v1669 : FVec Ideal S128x512 .f32 := concatenate S128x512 1 [⟨S128x448, v1668⟩, ⟨S128x64, v1667⟩] concatenates_S128x448_S128x64_S128x512_d1
  have v1670 : FVec Ideal S128x1536 .f32 := broadcast S128x1536 cst_318
  have v1671 : FVec Ideal S128x2048 .f32 := concatenate S128x2048 1 [⟨S128x512, v1669⟩, ⟨S128x1536, v1670⟩] concatenates_S128x512_S128x1536_S128x2048_d1
  have v1672 : FVec Ideal S128x2048 .f32 := addf a v1671
  have cst_319 : Ideal .f32 := Scalar.ofBits .f32 0x00000000#32
  have v1673 : FVec Ideal S128x384 .f32 := broadcast S128x384 cst_319
  have v1666 : FVec Ideal S128x64 .f32 := extractStridedSlice S128x64 ![768, 0] d slices_S1024x64_o768_0_S128x64
  have v1674 : FVec Ideal S128x448 .f32 := concatenate S128x448 1 [⟨S128x384, v1673⟩, ⟨S128x64, v1666⟩] concatenates_S128x384_S128x64_S128x448_d1
  have v1675 : FVec Ideal S128x1600 .f32 := broadcast S128x1600 cst_319
  have v1676 : FVec Ideal S128x2048 .f32 := concatenate S128x2048 1 [⟨S128x448, v1674⟩, ⟨S128x1600, v1675⟩] concatenates_S128x448_S128x1600_S128x2048_d1
  have v1677 : FVec Ideal S128x2048 .f32 := addf v1672 v1676
  have cst_320 : Ideal .f32 := Scalar.ofBits .f32 0x00000000#32
  have v1678 : FVec Ideal S128x320 .f32 := broadcast S128x320 cst_320
  have v1665 : FVec Ideal S128x64 .f32 := extractStridedSlice S128x64 ![640, 0] d slices_S1024x64_o640_0_S128x64
  have v1679 : FVec Ideal S128x384 .f32 := concatenate S128x384 1 [⟨S128x320, v1678⟩, ⟨S128x64, v1665⟩] concatenates_S128x320_S128x64_S128x384_d1
  have v1680 : FVec Ideal S128x1664 .f32 := broadcast S128x1664 cst_320
  have v1681 : FVec Ideal S128x2048 .f32 := concatenate S128x2048 1 [⟨S128x384, v1679⟩, ⟨S128x1664, v1680⟩] concatenates_S128x384_S128x1664_S128x2048_d1
  have v1682 : FVec Ideal S128x2048 .f32 := addf v1677 v1681
  have cst_321 : Ideal .f32 := Scalar.ofBits .f32 0x00000000#32
  have v1683 : FVec Ideal S128x256 .f32 := broadcast S128x256 cst_321
  have v1664 : FVec Ideal S128x64 .f32 := extractStridedSlice S128x64 ![512, 0] d slices_S1024x64_o512_0_S128x64
  have v1684 : FVec Ideal S128x320 .f32 := concatenate S128x320 1 [⟨S128x256, v1683⟩, ⟨S128x64, v1664⟩] concatenates_S128x256_S128x64_S128x320_d1
  have v1685 : FVec Ideal S128x1728 .f32 := broadcast S128x1728 cst_321
  have v1686 : FVec Ideal S128x2048 .f32 := concatenate S128x2048 1 [⟨S128x320, v1684⟩, ⟨S128x1728, v1685⟩] concatenates_S128x320_S128x1728_S128x2048_d1
  have v1687 : FVec Ideal S128x2048 .f32 := addf v1682 v1686
  have cst_322 : Ideal .f32 := Scalar.ofBits .f32 0x00000000#32
  have v1688 : FVec Ideal S128x192 .f32 := broadcast S128x192 cst_322
  have v1663 : FVec Ideal S128x64 .f32 := extractStridedSlice S128x64 ![384, 0] d slices_S1024x64_o384_0_S128x64
  have v1689 : FVec Ideal S128x256 .f32 := concatenate S128x256 1 [⟨S128x192, v1688⟩, ⟨S128x64, v1663⟩] concatenates_S128x192_S128x64_S128x256_d1
  have v1690 : FVec Ideal S128x1792 .f32 := broadcast S128x1792 cst_322
  have v1691 : FVec Ideal S128x2048 .f32 := concatenate S128x2048 1 [⟨S128x256, v1689⟩, ⟨S128x1792, v1690⟩] concatenates_S128x256_S128x1792_S128x2048_d1
  have v1692 : FVec Ideal S128x2048 .f32 := addf v1687 v1691
  have cst_323 : Ideal .f32 := Scalar.ofBits .f32 0x00000000#32
  have v1693 : FVec Ideal S128x128 .f32 := broadcast S128x128 cst_323
  have v1662 : FVec Ideal S128x64 .f32 := extractStridedSlice S128x64 ![256, 0] d slices_S1024x64_o256_0_S128x64
  have v1694 : FVec Ideal S128x192 .f32 := concatenate S128x192 1 [⟨S128x128, v1693⟩, ⟨S128x64, v1662⟩] concatenates_S128x128_S128x64_S128x192_d1
  have v1695 : FVec Ideal S128x1856 .f32 := broadcast S128x1856 cst_323
  have v1696 : FVec Ideal S128x2048 .f32 := concatenate S128x2048 1 [⟨S128x192, v1694⟩, ⟨S128x1856, v1695⟩] concatenates_S128x192_S128x1856_S128x2048_d1
  have v1697 : FVec Ideal S128x2048 .f32 := addf v1692 v1696
  have cst_324 : Ideal .f32 := Scalar.ofBits .f32 0x00000000#32
  have v1698 : FVec Ideal S128x64 .f32 := broadcast S128x64 cst_324
  have v1661 : FVec Ideal S128x64 .f32 := extractStridedSlice S128x64 ![128, 0] d slices_S1024x64_o128_0_S128x64
  have v1699 : FVec Ideal S128x128 .f32 := concatenate S128x128 1 [⟨S128x64, v1698⟩, ⟨S128x64, v1661⟩] concatenates_S128x64_S128x64_S128x128_d1
  have v1700 : FVec Ideal S128x1920 .f32 := broadcast S128x1920 cst_324
  have v1701 : FVec Ideal S128x2048 .f32 := concatenate S128x2048 1 [⟨S128x128, v1699⟩, ⟨S128x1920, v1700⟩] concatenates_S128x128_S128x1920_S128x2048_d1
  have v1702 : FVec Ideal S128x2048 .f32 := addf v1697 v1701
  have v1660 : FVec Ideal S128x64 .f32 := extractStridedSlice S128x64 ![0, 0] d slices_S1024x64_o0_0_S128x64
  have cst_325 : Ideal .f32 := Scalar.ofBits .f32 0x00000000#32
  have v1703 : FVec Ideal S128x1984 .f32 := broadcast S128x1984 cst_325
  have v1704 : FVec Ideal S128x2048 .f32 := concatenate S128x2048 1 [⟨S128x64, v1660⟩, ⟨S128x1984, v1703⟩] concatenates_S128x64_S128x1984_S128x2048_d1
  addf v1702 v1704

/-- The sinks' gradient in its place, head 3. -/
def toS3 (d : FVec Ideal S1x1024 .f32) : FVec Ideal S1x32 .f32 :=
  have cst_100 : Ideal .f32 := Scalar.ofBits .f32 0x00000000#32
  have v588 : FVec Ideal S1x31 .f32 := broadcast S1x31 cst_100
  have v582 : FVec Ideal S1x128 .f32 := extractStridedSlice S1x128 ![0, 896] d slices_S1x1024_o0_896_S1x128
  have v583 : FVec Ideal S1x1x128 .f32 := shapeCast S1x1x128 v582 shapeCasts_S1x128_S1x1x128
  have v584 : FVec Ideal S1 .f32 := multiReduction .add [1, 2] S1 v583 0x00000000#32 reduces_S1x1x128_S1 (.inl rfl) rfl
  have v585 : FVec Ideal S1x1x1 .f32 := shapeCast S1x1x1 v584 shapeCasts_S1_S1x1x1
  have v586 : Ideal .f32 := extractAt ![0, 0, 0] v585 inpos_S1x1x1_p0_0_0
  have v587 : FVec Ideal S1x1 .f32 := broadcast S1x1 v586
  have v589 : FVec Ideal S1x32 .f32 := concatenate S1x32 1 [⟨S1x31, v588⟩, ⟨S1x1, v587⟩] concatenates_S1x31_S1x1_S1x32_d1
  have cst_102 : Ideal .f32 := Scalar.ofBits .f32 0x00000000#32
  have v595 : FVec Ideal S1x30 .f32 := broadcast S1x30 cst_102
  have v581 : FVec Ideal S1x128 .f32 := extractStridedSlice S1x128 ![0, 768] d slices_S1x1024_o0_768_S1x128
  have v590 : FVec Ideal S1x1x128 .f32 := shapeCast S1x1x128 v581 shapeCasts_S1x128_S1x1x128
  have v591 : FVec Ideal S1 .f32 := multiReduction .add [1, 2] S1 v590 0x00000000#32 reduces_S1x1x128_S1 (.inl rfl) rfl
  have v592 : FVec Ideal S1x1x1 .f32 := shapeCast S1x1x1 v591 shapeCasts_S1_S1x1x1
  have v593 : Ideal .f32 := extractAt ![0, 0, 0] v592 inpos_S1x1x1_p0_0_0
  have v594 : FVec Ideal S1x1 .f32 := broadcast S1x1 v593
  have v596 : FVec Ideal S1x31 .f32 := concatenate S1x31 1 [⟨S1x30, v595⟩, ⟨S1x1, v594⟩] concatenates_S1x30_S1x1_S1x31_d1
  have v597 : FVec Ideal S1x1 .f32 := broadcast S1x1 cst_102
  have v598 : FVec Ideal S1x32 .f32 := concatenate S1x32 1 [⟨S1x31, v596⟩, ⟨S1x1, v597⟩] concatenates_S1x31_S1x1_S1x32_d1
  have v599 : FVec Ideal S1x32 .f32 := addf v589 v598
  have cst_104 : Ideal .f32 := Scalar.ofBits .f32 0x00000000#32
  have v605 : FVec Ideal S1x29 .f32 := broadcast S1x29 cst_104
  have v580 : FVec Ideal S1x128 .f32 := extractStridedSlice S1x128 ![0, 640] d slices_S1x1024_o0_640_S1x128
  have v600 : FVec Ideal S1x1x128 .f32 := shapeCast S1x1x128 v580 shapeCasts_S1x128_S1x1x128
  have v601 : FVec Ideal S1 .f32 := multiReduction .add [1, 2] S1 v600 0x00000000#32 reduces_S1x1x128_S1 (.inl rfl) rfl
  have v602 : FVec Ideal S1x1x1 .f32 := shapeCast S1x1x1 v601 shapeCasts_S1_S1x1x1
  have v603 : Ideal .f32 := extractAt ![0, 0, 0] v602 inpos_S1x1x1_p0_0_0
  have v604 : FVec Ideal S1x1 .f32 := broadcast S1x1 v603
  have v606 : FVec Ideal S1x30 .f32 := concatenate S1x30 1 [⟨S1x29, v605⟩, ⟨S1x1, v604⟩] concatenates_S1x29_S1x1_S1x30_d1
  have v607 : FVec Ideal S1x2 .f32 := broadcast S1x2 cst_104
  have v608 : FVec Ideal S1x32 .f32 := concatenate S1x32 1 [⟨S1x30, v606⟩, ⟨S1x2, v607⟩] concatenates_S1x30_S1x2_S1x32_d1
  have v609 : FVec Ideal S1x32 .f32 := addf v599 v608
  have cst_106 : Ideal .f32 := Scalar.ofBits .f32 0x00000000#32
  have v615 : FVec Ideal S1x28 .f32 := broadcast S1x28 cst_106
  have v579 : FVec Ideal S1x128 .f32 := extractStridedSlice S1x128 ![0, 512] d slices_S1x1024_o0_512_S1x128
  have v610 : FVec Ideal S1x1x128 .f32 := shapeCast S1x1x128 v579 shapeCasts_S1x128_S1x1x128
  have v611 : FVec Ideal S1 .f32 := multiReduction .add [1, 2] S1 v610 0x00000000#32 reduces_S1x1x128_S1 (.inl rfl) rfl
  have v612 : FVec Ideal S1x1x1 .f32 := shapeCast S1x1x1 v611 shapeCasts_S1_S1x1x1
  have v613 : Ideal .f32 := extractAt ![0, 0, 0] v612 inpos_S1x1x1_p0_0_0
  have v614 : FVec Ideal S1x1 .f32 := broadcast S1x1 v613
  have v616 : FVec Ideal S1x29 .f32 := concatenate S1x29 1 [⟨S1x28, v615⟩, ⟨S1x1, v614⟩] concatenates_S1x28_S1x1_S1x29_d1
  have v617 : FVec Ideal S1x3 .f32 := broadcast S1x3 cst_106
  have v618 : FVec Ideal S1x32 .f32 := concatenate S1x32 1 [⟨S1x29, v616⟩, ⟨S1x3, v617⟩] concatenates_S1x29_S1x3_S1x32_d1
  have v619 : FVec Ideal S1x32 .f32 := addf v609 v618
  have cst_108 : Ideal .f32 := Scalar.ofBits .f32 0x00000000#32
  have v625 : FVec Ideal S1x27 .f32 := broadcast S1x27 cst_108
  have v578 : FVec Ideal S1x128 .f32 := extractStridedSlice S1x128 ![0, 384] d slices_S1x1024_o0_384_S1x128
  have v620 : FVec Ideal S1x1x128 .f32 := shapeCast S1x1x128 v578 shapeCasts_S1x128_S1x1x128
  have v621 : FVec Ideal S1 .f32 := multiReduction .add [1, 2] S1 v620 0x00000000#32 reduces_S1x1x128_S1 (.inl rfl) rfl
  have v622 : FVec Ideal S1x1x1 .f32 := shapeCast S1x1x1 v621 shapeCasts_S1_S1x1x1
  have v623 : Ideal .f32 := extractAt ![0, 0, 0] v622 inpos_S1x1x1_p0_0_0
  have v624 : FVec Ideal S1x1 .f32 := broadcast S1x1 v623
  have v626 : FVec Ideal S1x28 .f32 := concatenate S1x28 1 [⟨S1x27, v625⟩, ⟨S1x1, v624⟩] concatenates_S1x27_S1x1_S1x28_d1
  have v627 : FVec Ideal S1x4 .f32 := broadcast S1x4 cst_108
  have v628 : FVec Ideal S1x32 .f32 := concatenate S1x32 1 [⟨S1x28, v626⟩, ⟨S1x4, v627⟩] concatenates_S1x28_S1x4_S1x32_d1
  have v629 : FVec Ideal S1x32 .f32 := addf v619 v628
  have cst_110 : Ideal .f32 := Scalar.ofBits .f32 0x00000000#32
  have v635 : FVec Ideal S1x26 .f32 := broadcast S1x26 cst_110
  have v577 : FVec Ideal S1x128 .f32 := extractStridedSlice S1x128 ![0, 256] d slices_S1x1024_o0_256_S1x128
  have v630 : FVec Ideal S1x1x128 .f32 := shapeCast S1x1x128 v577 shapeCasts_S1x128_S1x1x128
  have v631 : FVec Ideal S1 .f32 := multiReduction .add [1, 2] S1 v630 0x00000000#32 reduces_S1x1x128_S1 (.inl rfl) rfl
  have v632 : FVec Ideal S1x1x1 .f32 := shapeCast S1x1x1 v631 shapeCasts_S1_S1x1x1
  have v633 : Ideal .f32 := extractAt ![0, 0, 0] v632 inpos_S1x1x1_p0_0_0
  have v634 : FVec Ideal S1x1 .f32 := broadcast S1x1 v633
  have v636 : FVec Ideal S1x27 .f32 := concatenate S1x27 1 [⟨S1x26, v635⟩, ⟨S1x1, v634⟩] concatenates_S1x26_S1x1_S1x27_d1
  have v637 : FVec Ideal S1x5 .f32 := broadcast S1x5 cst_110
  have v638 : FVec Ideal S1x32 .f32 := concatenate S1x32 1 [⟨S1x27, v636⟩, ⟨S1x5, v637⟩] concatenates_S1x27_S1x5_S1x32_d1
  have v639 : FVec Ideal S1x32 .f32 := addf v629 v638
  have cst_112 : Ideal .f32 := Scalar.ofBits .f32 0x00000000#32
  have v645 : FVec Ideal S1x25 .f32 := broadcast S1x25 cst_112
  have v576 : FVec Ideal S1x128 .f32 := extractStridedSlice S1x128 ![0, 128] d slices_S1x1024_o0_128_S1x128
  have v640 : FVec Ideal S1x1x128 .f32 := shapeCast S1x1x128 v576 shapeCasts_S1x128_S1x1x128
  have v641 : FVec Ideal S1 .f32 := multiReduction .add [1, 2] S1 v640 0x00000000#32 reduces_S1x1x128_S1 (.inl rfl) rfl
  have v642 : FVec Ideal S1x1x1 .f32 := shapeCast S1x1x1 v641 shapeCasts_S1_S1x1x1
  have v643 : Ideal .f32 := extractAt ![0, 0, 0] v642 inpos_S1x1x1_p0_0_0
  have v644 : FVec Ideal S1x1 .f32 := broadcast S1x1 v643
  have v646 : FVec Ideal S1x26 .f32 := concatenate S1x26 1 [⟨S1x25, v645⟩, ⟨S1x1, v644⟩] concatenates_S1x25_S1x1_S1x26_d1
  have v647 : FVec Ideal S1x6 .f32 := broadcast S1x6 cst_112
  have v648 : FVec Ideal S1x32 .f32 := concatenate S1x32 1 [⟨S1x26, v646⟩, ⟨S1x6, v647⟩] concatenates_S1x26_S1x6_S1x32_d1
  have v649 : FVec Ideal S1x32 .f32 := addf v639 v648
  have cst_114 : Ideal .f32 := Scalar.ofBits .f32 0x00000000#32
  have v655 : FVec Ideal S1x24 .f32 := broadcast S1x24 cst_114
  have v575 : FVec Ideal S1x128 .f32 := extractStridedSlice S1x128 ![0, 0] d slices_S1x1024_o0_0_S1x128
  have v650 : FVec Ideal S1x1x128 .f32 := shapeCast S1x1x128 v575 shapeCasts_S1x128_S1x1x128
  have v651 : FVec Ideal S1 .f32 := multiReduction .add [1, 2] S1 v650 0x00000000#32 reduces_S1x1x128_S1 (.inl rfl) rfl
  have v652 : FVec Ideal S1x1x1 .f32 := shapeCast S1x1x1 v651 shapeCasts_S1_S1x1x1
  have v653 : Ideal .f32 := extractAt ![0, 0, 0] v652 inpos_S1x1x1_p0_0_0
  have v654 : FVec Ideal S1x1 .f32 := broadcast S1x1 v653
  have v656 : FVec Ideal S1x25 .f32 := concatenate S1x25 1 [⟨S1x24, v655⟩, ⟨S1x1, v654⟩] concatenates_S1x24_S1x1_S1x25_d1
  have v657 : FVec Ideal S1x7 .f32 := broadcast S1x7 cst_114
  have v658 : FVec Ideal S1x32 .f32 := concatenate S1x32 1 [⟨S1x25, v656⟩, ⟨S1x7, v657⟩] concatenates_S1x25_S1x7_S1x32_d1
  addf v649 v658

/-- The sinks' gradient in its place, head 2 added. -/
def toS2 (a : FVec Ideal S1x32 .f32) (d : FVec Ideal S1x1024 .f32) : FVec Ideal S1x32 .f32 :=
  have cst_165 : Ideal .f32 := Scalar.ofBits .f32 0x00000000#32
  have v889 : FVec Ideal S1x23 .f32 := broadcast S1x23 cst_165
  have v883 : FVec Ideal S1x128 .f32 := extractStridedSlice S1x128 ![0, 896] d slices_S1x1024_o0_896_S1x128
  have v884 : FVec Ideal S1x1x128 .f32 := shapeCast S1x1x128 v883 shapeCasts_S1x128_S1x1x128
  have v885 : FVec Ideal S1 .f32 := multiReduction .add [1, 2] S1 v884 0x00000000#32 reduces_S1x1x128_S1 (.inl rfl) rfl
  have v886 : FVec Ideal S1x1x1 .f32 := shapeCast S1x1x1 v885 shapeCasts_S1_S1x1x1
  have v887 : Ideal .f32 := extractAt ![0, 0, 0] v886 inpos_S1x1x1_p0_0_0
  have v888 : FVec Ideal S1x1 .f32 := broadcast S1x1 v887
  have v890 : FVec Ideal S1x24 .f32 := concatenate S1x24 1 [⟨S1x23, v889⟩, ⟨S1x1, v888⟩] concatenates_S1x23_S1x1_S1x24_d1
  have v891 : FVec Ideal S1x8 .f32 := broadcast S1x8 cst_165
  have v892 : FVec Ideal S1x32 .f32 := concatenate S1x32 1 [⟨S1x24, v890⟩, ⟨S1x8, v891⟩] concatenates_S1x24_S1x8_S1x32_d1
  have v893 : FVec Ideal S1x32 .f32 := addf a v892
  have cst_167 : Ideal .f32 := Scalar.ofBits .f32 0x00000000#32
  have v899 : FVec Ideal S1x22 .f32 := broadcast S1x22 cst_167
  have v882 : FVec Ideal S1x128 .f32 := extractStridedSlice S1x128 ![0, 768] d slices_S1x1024_o0_768_S1x128
  have v894 : FVec Ideal S1x1x128 .f32 := shapeCast S1x1x128 v882 shapeCasts_S1x128_S1x1x128
  have v895 : FVec Ideal S1 .f32 := multiReduction .add [1, 2] S1 v894 0x00000000#32 reduces_S1x1x128_S1 (.inl rfl) rfl
  have v896 : FVec Ideal S1x1x1 .f32 := shapeCast S1x1x1 v895 shapeCasts_S1_S1x1x1
  have v897 : Ideal .f32 := extractAt ![0, 0, 0] v896 inpos_S1x1x1_p0_0_0
  have v898 : FVec Ideal S1x1 .f32 := broadcast S1x1 v897
  have v900 : FVec Ideal S1x23 .f32 := concatenate S1x23 1 [⟨S1x22, v899⟩, ⟨S1x1, v898⟩] concatenates_S1x22_S1x1_S1x23_d1
  have v901 : FVec Ideal S1x9 .f32 := broadcast S1x9 cst_167
  have v902 : FVec Ideal S1x32 .f32 := concatenate S1x32 1 [⟨S1x23, v900⟩, ⟨S1x9, v901⟩] concatenates_S1x23_S1x9_S1x32_d1
  have v903 : FVec Ideal S1x32 .f32 := addf v893 v902
  have cst_169 : Ideal .f32 := Scalar.ofBits .f32 0x00000000#32
  have v909 : FVec Ideal S1x21 .f32 := broadcast S1x21 cst_169
  have v881 : FVec Ideal S1x128 .f32 := extractStridedSlice S1x128 ![0, 640] d slices_S1x1024_o0_640_S1x128
  have v904 : FVec Ideal S1x1x128 .f32 := shapeCast S1x1x128 v881 shapeCasts_S1x128_S1x1x128
  have v905 : FVec Ideal S1 .f32 := multiReduction .add [1, 2] S1 v904 0x00000000#32 reduces_S1x1x128_S1 (.inl rfl) rfl
  have v906 : FVec Ideal S1x1x1 .f32 := shapeCast S1x1x1 v905 shapeCasts_S1_S1x1x1
  have v907 : Ideal .f32 := extractAt ![0, 0, 0] v906 inpos_S1x1x1_p0_0_0
  have v908 : FVec Ideal S1x1 .f32 := broadcast S1x1 v907
  have v910 : FVec Ideal S1x22 .f32 := concatenate S1x22 1 [⟨S1x21, v909⟩, ⟨S1x1, v908⟩] concatenates_S1x21_S1x1_S1x22_d1
  have v911 : FVec Ideal S1x10 .f32 := broadcast S1x10 cst_169
  have v912 : FVec Ideal S1x32 .f32 := concatenate S1x32 1 [⟨S1x22, v910⟩, ⟨S1x10, v911⟩] concatenates_S1x22_S1x10_S1x32_d1
  have v913 : FVec Ideal S1x32 .f32 := addf v903 v912
  have cst_171 : Ideal .f32 := Scalar.ofBits .f32 0x00000000#32
  have v919 : FVec Ideal S1x20 .f32 := broadcast S1x20 cst_171
  have v880 : FVec Ideal S1x128 .f32 := extractStridedSlice S1x128 ![0, 512] d slices_S1x1024_o0_512_S1x128
  have v914 : FVec Ideal S1x1x128 .f32 := shapeCast S1x1x128 v880 shapeCasts_S1x128_S1x1x128
  have v915 : FVec Ideal S1 .f32 := multiReduction .add [1, 2] S1 v914 0x00000000#32 reduces_S1x1x128_S1 (.inl rfl) rfl
  have v916 : FVec Ideal S1x1x1 .f32 := shapeCast S1x1x1 v915 shapeCasts_S1_S1x1x1
  have v917 : Ideal .f32 := extractAt ![0, 0, 0] v916 inpos_S1x1x1_p0_0_0
  have v918 : FVec Ideal S1x1 .f32 := broadcast S1x1 v917
  have v920 : FVec Ideal S1x21 .f32 := concatenate S1x21 1 [⟨S1x20, v919⟩, ⟨S1x1, v918⟩] concatenates_S1x20_S1x1_S1x21_d1
  have v921 : FVec Ideal S1x11 .f32 := broadcast S1x11 cst_171
  have v922 : FVec Ideal S1x32 .f32 := concatenate S1x32 1 [⟨S1x21, v920⟩, ⟨S1x11, v921⟩] concatenates_S1x21_S1x11_S1x32_d1
  have v923 : FVec Ideal S1x32 .f32 := addf v913 v922
  have cst_173 : Ideal .f32 := Scalar.ofBits .f32 0x00000000#32
  have v929 : FVec Ideal S1x19 .f32 := broadcast S1x19 cst_173
  have v879 : FVec Ideal S1x128 .f32 := extractStridedSlice S1x128 ![0, 384] d slices_S1x1024_o0_384_S1x128
  have v924 : FVec Ideal S1x1x128 .f32 := shapeCast S1x1x128 v879 shapeCasts_S1x128_S1x1x128
  have v925 : FVec Ideal S1 .f32 := multiReduction .add [1, 2] S1 v924 0x00000000#32 reduces_S1x1x128_S1 (.inl rfl) rfl
  have v926 : FVec Ideal S1x1x1 .f32 := shapeCast S1x1x1 v925 shapeCasts_S1_S1x1x1
  have v927 : Ideal .f32 := extractAt ![0, 0, 0] v926 inpos_S1x1x1_p0_0_0
  have v928 : FVec Ideal S1x1 .f32 := broadcast S1x1 v927
  have v930 : FVec Ideal S1x20 .f32 := concatenate S1x20 1 [⟨S1x19, v929⟩, ⟨S1x1, v928⟩] concatenates_S1x19_S1x1_S1x20_d1
  have v931 : FVec Ideal S1x12 .f32 := broadcast S1x12 cst_173
  have v932 : FVec Ideal S1x32 .f32 := concatenate S1x32 1 [⟨S1x20, v930⟩, ⟨S1x12, v931⟩] concatenates_S1x20_S1x12_S1x32_d1
  have v933 : FVec Ideal S1x32 .f32 := addf v923 v932
  have cst_175 : Ideal .f32 := Scalar.ofBits .f32 0x00000000#32
  have v939 : FVec Ideal S1x18 .f32 := broadcast S1x18 cst_175
  have v878 : FVec Ideal S1x128 .f32 := extractStridedSlice S1x128 ![0, 256] d slices_S1x1024_o0_256_S1x128
  have v934 : FVec Ideal S1x1x128 .f32 := shapeCast S1x1x128 v878 shapeCasts_S1x128_S1x1x128
  have v935 : FVec Ideal S1 .f32 := multiReduction .add [1, 2] S1 v934 0x00000000#32 reduces_S1x1x128_S1 (.inl rfl) rfl
  have v936 : FVec Ideal S1x1x1 .f32 := shapeCast S1x1x1 v935 shapeCasts_S1_S1x1x1
  have v937 : Ideal .f32 := extractAt ![0, 0, 0] v936 inpos_S1x1x1_p0_0_0
  have v938 : FVec Ideal S1x1 .f32 := broadcast S1x1 v937
  have v940 : FVec Ideal S1x19 .f32 := concatenate S1x19 1 [⟨S1x18, v939⟩, ⟨S1x1, v938⟩] concatenates_S1x18_S1x1_S1x19_d1
  have v941 : FVec Ideal S1x13 .f32 := broadcast S1x13 cst_175
  have v942 : FVec Ideal S1x32 .f32 := concatenate S1x32 1 [⟨S1x19, v940⟩, ⟨S1x13, v941⟩] concatenates_S1x19_S1x13_S1x32_d1
  have v943 : FVec Ideal S1x32 .f32 := addf v933 v942
  have cst_177 : Ideal .f32 := Scalar.ofBits .f32 0x00000000#32
  have v949 : FVec Ideal S1x17 .f32 := broadcast S1x17 cst_177
  have v877 : FVec Ideal S1x128 .f32 := extractStridedSlice S1x128 ![0, 128] d slices_S1x1024_o0_128_S1x128
  have v944 : FVec Ideal S1x1x128 .f32 := shapeCast S1x1x128 v877 shapeCasts_S1x128_S1x1x128
  have v945 : FVec Ideal S1 .f32 := multiReduction .add [1, 2] S1 v944 0x00000000#32 reduces_S1x1x128_S1 (.inl rfl) rfl
  have v946 : FVec Ideal S1x1x1 .f32 := shapeCast S1x1x1 v945 shapeCasts_S1_S1x1x1
  have v947 : Ideal .f32 := extractAt ![0, 0, 0] v946 inpos_S1x1x1_p0_0_0
  have v948 : FVec Ideal S1x1 .f32 := broadcast S1x1 v947
  have v950 : FVec Ideal S1x18 .f32 := concatenate S1x18 1 [⟨S1x17, v949⟩, ⟨S1x1, v948⟩] concatenates_S1x17_S1x1_S1x18_d1
  have v951 : FVec Ideal S1x14 .f32 := broadcast S1x14 cst_177
  have v952 : FVec Ideal S1x32 .f32 := concatenate S1x32 1 [⟨S1x18, v950⟩, ⟨S1x14, v951⟩] concatenates_S1x18_S1x14_S1x32_d1
  have v953 : FVec Ideal S1x32 .f32 := addf v943 v952
  have cst_179 : Ideal .f32 := Scalar.ofBits .f32 0x00000000#32
  have v959 : FVec Ideal S1x16 .f32 := broadcast S1x16 cst_179
  have v876 : FVec Ideal S1x128 .f32 := extractStridedSlice S1x128 ![0, 0] d slices_S1x1024_o0_0_S1x128
  have v954 : FVec Ideal S1x1x128 .f32 := shapeCast S1x1x128 v876 shapeCasts_S1x128_S1x1x128
  have v955 : FVec Ideal S1 .f32 := multiReduction .add [1, 2] S1 v954 0x00000000#32 reduces_S1x1x128_S1 (.inl rfl) rfl
  have v956 : FVec Ideal S1x1x1 .f32 := shapeCast S1x1x1 v955 shapeCasts_S1_S1x1x1
  have v957 : Ideal .f32 := extractAt ![0, 0, 0] v956 inpos_S1x1x1_p0_0_0
  have v958 : FVec Ideal S1x1 .f32 := broadcast S1x1 v957
  have v960 : FVec Ideal S1x17 .f32 := concatenate S1x17 1 [⟨S1x16, v959⟩, ⟨S1x1, v958⟩] concatenates_S1x16_S1x1_S1x17_d1
  have v961 : FVec Ideal S1x15 .f32 := broadcast S1x15 cst_179
  have v962 : FVec Ideal S1x32 .f32 := concatenate S1x32 1 [⟨S1x17, v960⟩, ⟨S1x15, v961⟩] concatenates_S1x17_S1x15_S1x32_d1
  addf v953 v962

/-- The sinks' gradient in its place, head 1 added. -/
def toS1 (a : FVec Ideal S1x32 .f32) (d : FVec Ideal S1x1024 .f32) : FVec Ideal S1x32 .f32 :=
  have cst_230 : Ideal .f32 := Scalar.ofBits .f32 0x00000000#32
  have v1211 : FVec Ideal S1x15 .f32 := broadcast S1x15 cst_230
  have v1205 : FVec Ideal S1x128 .f32 := extractStridedSlice S1x128 ![0, 896] d slices_S1x1024_o0_896_S1x128
  have v1206 : FVec Ideal S1x1x128 .f32 := shapeCast S1x1x128 v1205 shapeCasts_S1x128_S1x1x128
  have v1207 : FVec Ideal S1 .f32 := multiReduction .add [1, 2] S1 v1206 0x00000000#32 reduces_S1x1x128_S1 (.inl rfl) rfl
  have v1208 : FVec Ideal S1x1x1 .f32 := shapeCast S1x1x1 v1207 shapeCasts_S1_S1x1x1
  have v1209 : Ideal .f32 := extractAt ![0, 0, 0] v1208 inpos_S1x1x1_p0_0_0
  have v1210 : FVec Ideal S1x1 .f32 := broadcast S1x1 v1209
  have v1212 : FVec Ideal S1x16 .f32 := concatenate S1x16 1 [⟨S1x15, v1211⟩, ⟨S1x1, v1210⟩] concatenates_S1x15_S1x1_S1x16_d1
  have v1213 : FVec Ideal S1x16 .f32 := broadcast S1x16 cst_230
  have v1214 : FVec Ideal S1x32 .f32 := concatenate S1x32 1 [⟨S1x16, v1212⟩, ⟨S1x16, v1213⟩] concatenates_S1x16_S1x16_S1x32_d1
  have v1215 : FVec Ideal S1x32 .f32 := addf a v1214
  have cst_232 : Ideal .f32 := Scalar.ofBits .f32 0x00000000#32
  have v1221 : FVec Ideal S1x14 .f32 := broadcast S1x14 cst_232
  have v1204 : FVec Ideal S1x128 .f32 := extractStridedSlice S1x128 ![0, 768] d slices_S1x1024_o0_768_S1x128
  have v1216 : FVec Ideal S1x1x128 .f32 := shapeCast S1x1x128 v1204 shapeCasts_S1x128_S1x1x128
  have v1217 : FVec Ideal S1 .f32 := multiReduction .add [1, 2] S1 v1216 0x00000000#32 reduces_S1x1x128_S1 (.inl rfl) rfl
  have v1218 : FVec Ideal S1x1x1 .f32 := shapeCast S1x1x1 v1217 shapeCasts_S1_S1x1x1
  have v1219 : Ideal .f32 := extractAt ![0, 0, 0] v1218 inpos_S1x1x1_p0_0_0
  have v1220 : FVec Ideal S1x1 .f32 := broadcast S1x1 v1219
  have v1222 : FVec Ideal S1x15 .f32 := concatenate S1x15 1 [⟨S1x14, v1221⟩, ⟨S1x1, v1220⟩] concatenates_S1x14_S1x1_S1x15_d1
  have v1223 : FVec Ideal S1x17 .f32 := broadcast S1x17 cst_232
  have v1224 : FVec Ideal S1x32 .f32 := concatenate S1x32 1 [⟨S1x15, v1222⟩, ⟨S1x17, v1223⟩] concatenates_S1x15_S1x17_S1x32_d1
  have v1225 : FVec Ideal S1x32 .f32 := addf v1215 v1224
  have cst_234 : Ideal .f32 := Scalar.ofBits .f32 0x00000000#32
  have v1231 : FVec Ideal S1x13 .f32 := broadcast S1x13 cst_234
  have v1203 : FVec Ideal S1x128 .f32 := extractStridedSlice S1x128 ![0, 640] d slices_S1x1024_o0_640_S1x128
  have v1226 : FVec Ideal S1x1x128 .f32 := shapeCast S1x1x128 v1203 shapeCasts_S1x128_S1x1x128
  have v1227 : FVec Ideal S1 .f32 := multiReduction .add [1, 2] S1 v1226 0x00000000#32 reduces_S1x1x128_S1 (.inl rfl) rfl
  have v1228 : FVec Ideal S1x1x1 .f32 := shapeCast S1x1x1 v1227 shapeCasts_S1_S1x1x1
  have v1229 : Ideal .f32 := extractAt ![0, 0, 0] v1228 inpos_S1x1x1_p0_0_0
  have v1230 : FVec Ideal S1x1 .f32 := broadcast S1x1 v1229
  have v1232 : FVec Ideal S1x14 .f32 := concatenate S1x14 1 [⟨S1x13, v1231⟩, ⟨S1x1, v1230⟩] concatenates_S1x13_S1x1_S1x14_d1
  have v1233 : FVec Ideal S1x18 .f32 := broadcast S1x18 cst_234
  have v1234 : FVec Ideal S1x32 .f32 := concatenate S1x32 1 [⟨S1x14, v1232⟩, ⟨S1x18, v1233⟩] concatenates_S1x14_S1x18_S1x32_d1
  have v1235 : FVec Ideal S1x32 .f32 := addf v1225 v1234
  have cst_236 : Ideal .f32 := Scalar.ofBits .f32 0x00000000#32
  have v1241 : FVec Ideal S1x12 .f32 := broadcast S1x12 cst_236
  have v1202 : FVec Ideal S1x128 .f32 := extractStridedSlice S1x128 ![0, 512] d slices_S1x1024_o0_512_S1x128
  have v1236 : FVec Ideal S1x1x128 .f32 := shapeCast S1x1x128 v1202 shapeCasts_S1x128_S1x1x128
  have v1237 : FVec Ideal S1 .f32 := multiReduction .add [1, 2] S1 v1236 0x00000000#32 reduces_S1x1x128_S1 (.inl rfl) rfl
  have v1238 : FVec Ideal S1x1x1 .f32 := shapeCast S1x1x1 v1237 shapeCasts_S1_S1x1x1
  have v1239 : Ideal .f32 := extractAt ![0, 0, 0] v1238 inpos_S1x1x1_p0_0_0
  have v1240 : FVec Ideal S1x1 .f32 := broadcast S1x1 v1239
  have v1242 : FVec Ideal S1x13 .f32 := concatenate S1x13 1 [⟨S1x12, v1241⟩, ⟨S1x1, v1240⟩] concatenates_S1x12_S1x1_S1x13_d1
  have v1243 : FVec Ideal S1x19 .f32 := broadcast S1x19 cst_236
  have v1244 : FVec Ideal S1x32 .f32 := concatenate S1x32 1 [⟨S1x13, v1242⟩, ⟨S1x19, v1243⟩] concatenates_S1x13_S1x19_S1x32_d1
  have v1245 : FVec Ideal S1x32 .f32 := addf v1235 v1244
  have cst_238 : Ideal .f32 := Scalar.ofBits .f32 0x00000000#32
  have v1251 : FVec Ideal S1x11 .f32 := broadcast S1x11 cst_238
  have v1201 : FVec Ideal S1x128 .f32 := extractStridedSlice S1x128 ![0, 384] d slices_S1x1024_o0_384_S1x128
  have v1246 : FVec Ideal S1x1x128 .f32 := shapeCast S1x1x128 v1201 shapeCasts_S1x128_S1x1x128
  have v1247 : FVec Ideal S1 .f32 := multiReduction .add [1, 2] S1 v1246 0x00000000#32 reduces_S1x1x128_S1 (.inl rfl) rfl
  have v1248 : FVec Ideal S1x1x1 .f32 := shapeCast S1x1x1 v1247 shapeCasts_S1_S1x1x1
  have v1249 : Ideal .f32 := extractAt ![0, 0, 0] v1248 inpos_S1x1x1_p0_0_0
  have v1250 : FVec Ideal S1x1 .f32 := broadcast S1x1 v1249
  have v1252 : FVec Ideal S1x12 .f32 := concatenate S1x12 1 [⟨S1x11, v1251⟩, ⟨S1x1, v1250⟩] concatenates_S1x11_S1x1_S1x12_d1
  have v1253 : FVec Ideal S1x20 .f32 := broadcast S1x20 cst_238
  have v1254 : FVec Ideal S1x32 .f32 := concatenate S1x32 1 [⟨S1x12, v1252⟩, ⟨S1x20, v1253⟩] concatenates_S1x12_S1x20_S1x32_d1
  have v1255 : FVec Ideal S1x32 .f32 := addf v1245 v1254
  have cst_240 : Ideal .f32 := Scalar.ofBits .f32 0x00000000#32
  have v1261 : FVec Ideal S1x10 .f32 := broadcast S1x10 cst_240
  have v1200 : FVec Ideal S1x128 .f32 := extractStridedSlice S1x128 ![0, 256] d slices_S1x1024_o0_256_S1x128
  have v1256 : FVec Ideal S1x1x128 .f32 := shapeCast S1x1x128 v1200 shapeCasts_S1x128_S1x1x128
  have v1257 : FVec Ideal S1 .f32 := multiReduction .add [1, 2] S1 v1256 0x00000000#32 reduces_S1x1x128_S1 (.inl rfl) rfl
  have v1258 : FVec Ideal S1x1x1 .f32 := shapeCast S1x1x1 v1257 shapeCasts_S1_S1x1x1
  have v1259 : Ideal .f32 := extractAt ![0, 0, 0] v1258 inpos_S1x1x1_p0_0_0
  have v1260 : FVec Ideal S1x1 .f32 := broadcast S1x1 v1259
  have v1262 : FVec Ideal S1x11 .f32 := concatenate S1x11 1 [⟨S1x10, v1261⟩, ⟨S1x1, v1260⟩] concatenates_S1x10_S1x1_S1x11_d1
  have v1263 : FVec Ideal S1x21 .f32 := broadcast S1x21 cst_240
  have v1264 : FVec Ideal S1x32 .f32 := concatenate S1x32 1 [⟨S1x11, v1262⟩, ⟨S1x21, v1263⟩] concatenates_S1x11_S1x21_S1x32_d1
  have v1265 : FVec Ideal S1x32 .f32 := addf v1255 v1264
  have cst_242 : Ideal .f32 := Scalar.ofBits .f32 0x00000000#32
  have v1271 : FVec Ideal S1x9 .f32 := broadcast S1x9 cst_242
  have v1199 : FVec Ideal S1x128 .f32 := extractStridedSlice S1x128 ![0, 128] d slices_S1x1024_o0_128_S1x128
  have v1266 : FVec Ideal S1x1x128 .f32 := shapeCast S1x1x128 v1199 shapeCasts_S1x128_S1x1x128
  have v1267 : FVec Ideal S1 .f32 := multiReduction .add [1, 2] S1 v1266 0x00000000#32 reduces_S1x1x128_S1 (.inl rfl) rfl
  have v1268 : FVec Ideal S1x1x1 .f32 := shapeCast S1x1x1 v1267 shapeCasts_S1_S1x1x1
  have v1269 : Ideal .f32 := extractAt ![0, 0, 0] v1268 inpos_S1x1x1_p0_0_0
  have v1270 : FVec Ideal S1x1 .f32 := broadcast S1x1 v1269
  have v1272 : FVec Ideal S1x10 .f32 := concatenate S1x10 1 [⟨S1x9, v1271⟩, ⟨S1x1, v1270⟩] concatenates_S1x9_S1x1_S1x10_d1
  have v1273 : FVec Ideal S1x22 .f32 := broadcast S1x22 cst_242
  have v1274 : FVec Ideal S1x32 .f32 := concatenate S1x32 1 [⟨S1x10, v1272⟩, ⟨S1x22, v1273⟩] concatenates_S1x10_S1x22_S1x32_d1
  have v1275 : FVec Ideal S1x32 .f32 := addf v1265 v1274
  have cst_244 : Ideal .f32 := Scalar.ofBits .f32 0x00000000#32
  have v1281 : FVec Ideal S1x8 .f32 := broadcast S1x8 cst_244
  have v1198 : FVec Ideal S1x128 .f32 := extractStridedSlice S1x128 ![0, 0] d slices_S1x1024_o0_0_S1x128
  have v1276 : FVec Ideal S1x1x128 .f32 := shapeCast S1x1x128 v1198 shapeCasts_S1x128_S1x1x128
  have v1277 : FVec Ideal S1 .f32 := multiReduction .add [1, 2] S1 v1276 0x00000000#32 reduces_S1x1x128_S1 (.inl rfl) rfl
  have v1278 : FVec Ideal S1x1x1 .f32 := shapeCast S1x1x1 v1277 shapeCasts_S1_S1x1x1
  have v1279 : Ideal .f32 := extractAt ![0, 0, 0] v1278 inpos_S1x1x1_p0_0_0
  have v1280 : FVec Ideal S1x1 .f32 := broadcast S1x1 v1279
  have v1282 : FVec Ideal S1x9 .f32 := concatenate S1x9 1 [⟨S1x8, v1281⟩, ⟨S1x1, v1280⟩] concatenates_S1x8_S1x1_S1x9_d1
  have v1283 : FVec Ideal S1x23 .f32 := broadcast S1x23 cst_244
  have v1284 : FVec Ideal S1x32 .f32 := concatenate S1x32 1 [⟨S1x9, v1282⟩, ⟨S1x23, v1283⟩] concatenates_S1x9_S1x23_S1x32_d1
  addf v1275 v1284

/-- The sinks' gradient in its place, head 0 added. -/
def toS0 (a : FVec Ideal S1x32 .f32) (d : FVec Ideal S1x1024 .f32) : FVec Ideal S1x32 .f32 :=
  have cst_295 : Ideal .f32 := Scalar.ofBits .f32 0x00000000#32
  have v1533 : FVec Ideal S1x7 .f32 := broadcast S1x7 cst_295
  have v1527 : FVec Ideal S1x128 .f32 := extractStridedSlice S1x128 ![0, 896] d slices_S1x1024_o0_896_S1x128
  have v1528 : FVec Ideal S1x1x128 .f32 := shapeCast S1x1x128 v1527 shapeCasts_S1x128_S1x1x128
  have v1529 : FVec Ideal S1 .f32 := multiReduction .add [1, 2] S1 v1528 0x00000000#32 reduces_S1x1x128_S1 (.inl rfl) rfl
  have v1530 : FVec Ideal S1x1x1 .f32 := shapeCast S1x1x1 v1529 shapeCasts_S1_S1x1x1
  have v1531 : Ideal .f32 := extractAt ![0, 0, 0] v1530 inpos_S1x1x1_p0_0_0
  have v1532 : FVec Ideal S1x1 .f32 := broadcast S1x1 v1531
  have v1534 : FVec Ideal S1x8 .f32 := concatenate S1x8 1 [⟨S1x7, v1533⟩, ⟨S1x1, v1532⟩] concatenates_S1x7_S1x1_S1x8_d1
  have v1535 : FVec Ideal S1x24 .f32 := broadcast S1x24 cst_295
  have v1536 : FVec Ideal S1x32 .f32 := concatenate S1x32 1 [⟨S1x8, v1534⟩, ⟨S1x24, v1535⟩] concatenates_S1x8_S1x24_S1x32_d1
  have v1537 : FVec Ideal S1x32 .f32 := addf a v1536
  have cst_297 : Ideal .f32 := Scalar.ofBits .f32 0x00000000#32
  have v1543 : FVec Ideal S1x6 .f32 := broadcast S1x6 cst_297
  have v1526 : FVec Ideal S1x128 .f32 := extractStridedSlice S1x128 ![0, 768] d slices_S1x1024_o0_768_S1x128
  have v1538 : FVec Ideal S1x1x128 .f32 := shapeCast S1x1x128 v1526 shapeCasts_S1x128_S1x1x128
  have v1539 : FVec Ideal S1 .f32 := multiReduction .add [1, 2] S1 v1538 0x00000000#32 reduces_S1x1x128_S1 (.inl rfl) rfl
  have v1540 : FVec Ideal S1x1x1 .f32 := shapeCast S1x1x1 v1539 shapeCasts_S1_S1x1x1
  have v1541 : Ideal .f32 := extractAt ![0, 0, 0] v1540 inpos_S1x1x1_p0_0_0
  have v1542 : FVec Ideal S1x1 .f32 := broadcast S1x1 v1541
  have v1544 : FVec Ideal S1x7 .f32 := concatenate S1x7 1 [⟨S1x6, v1543⟩, ⟨S1x1, v1542⟩] concatenates_S1x6_S1x1_S1x7_d1
  have v1545 : FVec Ideal S1x25 .f32 := broadcast S1x25 cst_297
  have v1546 : FVec Ideal S1x32 .f32 := concatenate S1x32 1 [⟨S1x7, v1544⟩, ⟨S1x25, v1545⟩] concatenates_S1x7_S1x25_S1x32_d1
  have v1547 : FVec Ideal S1x32 .f32 := addf v1537 v1546
  have cst_299 : Ideal .f32 := Scalar.ofBits .f32 0x00000000#32
  have v1553 : FVec Ideal S1x5 .f32 := broadcast S1x5 cst_299
  have v1525 : FVec Ideal S1x128 .f32 := extractStridedSlice S1x128 ![0, 640] d slices_S1x1024_o0_640_S1x128
  have v1548 : FVec Ideal S1x1x128 .f32 := shapeCast S1x1x128 v1525 shapeCasts_S1x128_S1x1x128
  have v1549 : FVec Ideal S1 .f32 := multiReduction .add [1, 2] S1 v1548 0x00000000#32 reduces_S1x1x128_S1 (.inl rfl) rfl
  have v1550 : FVec Ideal S1x1x1 .f32 := shapeCast S1x1x1 v1549 shapeCasts_S1_S1x1x1
  have v1551 : Ideal .f32 := extractAt ![0, 0, 0] v1550 inpos_S1x1x1_p0_0_0
  have v1552 : FVec Ideal S1x1 .f32 := broadcast S1x1 v1551
  have v1554 : FVec Ideal S1x6 .f32 := concatenate S1x6 1 [⟨S1x5, v1553⟩, ⟨S1x1, v1552⟩] concatenates_S1x5_S1x1_S1x6_d1
  have v1555 : FVec Ideal S1x26 .f32 := broadcast S1x26 cst_299
  have v1556 : FVec Ideal S1x32 .f32 := concatenate S1x32 1 [⟨S1x6, v1554⟩, ⟨S1x26, v1555⟩] concatenates_S1x6_S1x26_S1x32_d1
  have v1557 : FVec Ideal S1x32 .f32 := addf v1547 v1556
  have cst_301 : Ideal .f32 := Scalar.ofBits .f32 0x00000000#32
  have v1563 : FVec Ideal S1x4 .f32 := broadcast S1x4 cst_301
  have v1524 : FVec Ideal S1x128 .f32 := extractStridedSlice S1x128 ![0, 512] d slices_S1x1024_o0_512_S1x128
  have v1558 : FVec Ideal S1x1x128 .f32 := shapeCast S1x1x128 v1524 shapeCasts_S1x128_S1x1x128
  have v1559 : FVec Ideal S1 .f32 := multiReduction .add [1, 2] S1 v1558 0x00000000#32 reduces_S1x1x128_S1 (.inl rfl) rfl
  have v1560 : FVec Ideal S1x1x1 .f32 := shapeCast S1x1x1 v1559 shapeCasts_S1_S1x1x1
  have v1561 : Ideal .f32 := extractAt ![0, 0, 0] v1560 inpos_S1x1x1_p0_0_0
  have v1562 : FVec Ideal S1x1 .f32 := broadcast S1x1 v1561
  have v1564 : FVec Ideal S1x5 .f32 := concatenate S1x5 1 [⟨S1x4, v1563⟩, ⟨S1x1, v1562⟩] concatenates_S1x4_S1x1_S1x5_d1
  have v1565 : FVec Ideal S1x27 .f32 := broadcast S1x27 cst_301
  have v1566 : FVec Ideal S1x32 .f32 := concatenate S1x32 1 [⟨S1x5, v1564⟩, ⟨S1x27, v1565⟩] concatenates_S1x5_S1x27_S1x32_d1
  have v1567 : FVec Ideal S1x32 .f32 := addf v1557 v1566
  have cst_303 : Ideal .f32 := Scalar.ofBits .f32 0x00000000#32
  have v1573 : FVec Ideal S1x3 .f32 := broadcast S1x3 cst_303
  have v1523 : FVec Ideal S1x128 .f32 := extractStridedSlice S1x128 ![0, 384] d slices_S1x1024_o0_384_S1x128
  have v1568 : FVec Ideal S1x1x128 .f32 := shapeCast S1x1x128 v1523 shapeCasts_S1x128_S1x1x128
  have v1569 : FVec Ideal S1 .f32 := multiReduction .add [1, 2] S1 v1568 0x00000000#32 reduces_S1x1x128_S1 (.inl rfl) rfl
  have v1570 : FVec Ideal S1x1x1 .f32 := shapeCast S1x1x1 v1569 shapeCasts_S1_S1x1x1
  have v1571 : Ideal .f32 := extractAt ![0, 0, 0] v1570 inpos_S1x1x1_p0_0_0
  have v1572 : FVec Ideal S1x1 .f32 := broadcast S1x1 v1571
  have v1574 : FVec Ideal S1x4 .f32 := concatenate S1x4 1 [⟨S1x3, v1573⟩, ⟨S1x1, v1572⟩] concatenates_S1x3_S1x1_S1x4_d1
  have v1575 : FVec Ideal S1x28 .f32 := broadcast S1x28 cst_303
  have v1576 : FVec Ideal S1x32 .f32 := concatenate S1x32 1 [⟨S1x4, v1574⟩, ⟨S1x28, v1575⟩] concatenates_S1x4_S1x28_S1x32_d1
  have v1577 : FVec Ideal S1x32 .f32 := addf v1567 v1576
  have cst_305 : Ideal .f32 := Scalar.ofBits .f32 0x00000000#32
  have v1583 : FVec Ideal S1x2 .f32 := broadcast S1x2 cst_305
  have v1522 : FVec Ideal S1x128 .f32 := extractStridedSlice S1x128 ![0, 256] d slices_S1x1024_o0_256_S1x128
  have v1578 : FVec Ideal S1x1x128 .f32 := shapeCast S1x1x128 v1522 shapeCasts_S1x128_S1x1x128
  have v1579 : FVec Ideal S1 .f32 := multiReduction .add [1, 2] S1 v1578 0x00000000#32 reduces_S1x1x128_S1 (.inl rfl) rfl
  have v1580 : FVec Ideal S1x1x1 .f32 := shapeCast S1x1x1 v1579 shapeCasts_S1_S1x1x1
  have v1581 : Ideal .f32 := extractAt ![0, 0, 0] v1580 inpos_S1x1x1_p0_0_0
  have v1582 : FVec Ideal S1x1 .f32 := broadcast S1x1 v1581
  have v1584 : FVec Ideal S1x3 .f32 := concatenate S1x3 1 [⟨S1x2, v1583⟩, ⟨S1x1, v1582⟩] concatenates_S1x2_S1x1_S1x3_d1
  have v1585 : FVec Ideal S1x29 .f32 := broadcast S1x29 cst_305
  have v1586 : FVec Ideal S1x32 .f32 := concatenate S1x32 1 [⟨S1x3, v1584⟩, ⟨S1x29, v1585⟩] concatenates_S1x3_S1x29_S1x32_d1
  have v1587 : FVec Ideal S1x32 .f32 := addf v1577 v1586
  have cst_307 : Ideal .f32 := Scalar.ofBits .f32 0x00000000#32
  have v1593 : FVec Ideal S1x1 .f32 := broadcast S1x1 cst_307
  have v1521 : FVec Ideal S1x128 .f32 := extractStridedSlice S1x128 ![0, 128] d slices_S1x1024_o0_128_S1x128
  have v1588 : FVec Ideal S1x1x128 .f32 := shapeCast S1x1x128 v1521 shapeCasts_S1x128_S1x1x128
  have v1589 : FVec Ideal S1 .f32 := multiReduction .add [1, 2] S1 v1588 0x00000000#32 reduces_S1x1x128_S1 (.inl rfl) rfl
  have v1590 : FVec Ideal S1x1x1 .f32 := shapeCast S1x1x1 v1589 shapeCasts_S1_S1x1x1
  have v1591 : Ideal .f32 := extractAt ![0, 0, 0] v1590 inpos_S1x1x1_p0_0_0
  have v1592 : FVec Ideal S1x1 .f32 := broadcast S1x1 v1591
  have v1594 : FVec Ideal S1x2 .f32 := concatenate S1x2 1 [⟨S1x1, v1593⟩, ⟨S1x1, v1592⟩] concatenates_S1x1_S1x1_S1x2_d1
  have v1595 : FVec Ideal S1x30 .f32 := broadcast S1x30 cst_307
  have v1596 : FVec Ideal S1x32 .f32 := concatenate S1x32 1 [⟨S1x2, v1594⟩, ⟨S1x30, v1595⟩] concatenates_S1x2_S1x30_S1x32_d1
  have v1597 : FVec Ideal S1x32 .f32 := addf v1587 v1596
  have v1520 : FVec Ideal S1x128 .f32 := extractStridedSlice S1x128 ![0, 0] d slices_S1x1024_o0_0_S1x128
  have v1598 : FVec Ideal S1x1x128 .f32 := shapeCast S1x1x128 v1520 shapeCasts_S1x128_S1x1x128
  have v1599 : FVec Ideal S1 .f32 := multiReduction .add [1, 2] S1 v1598 0x00000000#32 reduces_S1x1x128_S1 (.inl rfl) rfl
  have v1600 : FVec Ideal S1x1x1 .f32 := shapeCast S1x1x1 v1599 shapeCasts_S1_S1x1x1
  have v1601 : Ideal .f32 := extractAt ![0, 0, 0] v1600 inpos_S1x1x1_p0_0_0
  have v1602 : FVec Ideal S1x1 .f32 := broadcast S1x1 v1601
  have cst_309 : Ideal .f32 := Scalar.ofBits .f32 0x00000000#32
  have v1603 : FVec Ideal S1x31 .f32 := broadcast S1x31 cst_309
  have v1604 : FVec Ideal S1x32 .f32 := concatenate S1x32 1 [⟨S1x1, v1602⟩, ⟨S1x31, v1603⟩] concatenates_S1x1_S1x31_S1x32_d1
  addf v1597 v1604

/-- The bias' gradient in its place, head 3. -/
def toB3 (d : FVec Ideal S256x1024 .f32) : FVec Ideal S32x256x128 .f32 :=
  have cst_115 : Ideal .f32 := Scalar.ofBits .f32 0x00000000#32
  have v669 : FVec Ideal S31x256x128 .f32 := broadcast S31x256x128 cst_115
  have v667 : FVec Ideal S256x128 .f32 := extractStridedSlice S256x128 ![0, 896] d slices_S256x1024_o0_896_S256x128
  have v668 : FVec Ideal S1x256x128 .f32 := shapeCast S1x256x128 v667 shapeCasts_S256x128_S1x256x128
  have v670 : FVec Ideal S32x256x128 .f32 := concatenate S32x256x128 0 [⟨S31x256x128, v669⟩, ⟨S1x256x128, v668⟩] concatenates_S31x256x128_S1x256x128_S32x256x128_d0
  have cst_116 : Ideal .f32 := Scalar.ofBits .f32 0x00000000#32
  have v672 : FVec Ideal S30x256x128 .f32 := broadcast S30x256x128 cst_116
  have v666 : FVec Ideal S256x128 .f32 := extractStridedSlice S256x128 ![0, 768] d slices_S256x1024_o0_768_S256x128
  have v671 : FVec Ideal S1x256x128 .f32 := shapeCast S1x256x128 v666 shapeCasts_S256x128_S1x256x128
  have v673 : FVec Ideal S31x256x128 .f32 := concatenate S31x256x128 0 [⟨S30x256x128, v672⟩, ⟨S1x256x128, v671⟩] concatenates_S30x256x128_S1x256x128_S31x256x128_d0
  have v674 : FVec Ideal S1x256x128 .f32 := broadcast S1x256x128 cst_116
  have v675 : FVec Ideal S32x256x128 .f32 := concatenate S32x256x128 0 [⟨S31x256x128, v673⟩, ⟨S1x256x128, v674⟩] concatenates_S31x256x128_S1x256x128_S32x256x128_d0
  have v676 : FVec Ideal S32x256x128 .f32 := addf v670 v675
  have cst_117 : Ideal .f32 := Scalar.ofBits .f32 0x00000000#32
  have v678 : FVec Ideal S29x256x128 .f32 := broadcast S29x256x128 cst_117
  have v665 : FVec Ideal S256x128 .f32 := extractStridedSlice S256x128 ![0, 640] d slices_S256x1024_o0_640_S256x128
  have v677 : FVec Ideal S1x256x128 .f32 := shapeCast S1x256x128 v665 shapeCasts_S256x128_S1x256x128
  have v679 : FVec Ideal S30x256x128 .f32 := concatenate S30x256x128 0 [⟨S29x256x128, v678⟩, ⟨S1x256x128, v677⟩] concatenates_S29x256x128_S1x256x128_S30x256x128_d0
  have v680 : FVec Ideal S2x256x128 .f32 := broadcast S2x256x128 cst_117
  have v681 : FVec Ideal S32x256x128 .f32 := concatenate S32x256x128 0 [⟨S30x256x128, v679⟩, ⟨S2x256x128, v680⟩] concatenates_S30x256x128_S2x256x128_S32x256x128_d0
  have v682 : FVec Ideal S32x256x128 .f32 := addf v676 v681
  have cst_118 : Ideal .f32 := Scalar.ofBits .f32 0x00000000#32
  have v684 : FVec Ideal S28x256x128 .f32 := broadcast S28x256x128 cst_118
  have v664 : FVec Ideal S256x128 .f32 := extractStridedSlice S256x128 ![0, 512] d slices_S256x1024_o0_512_S256x128
  have v683 : FVec Ideal S1x256x128 .f32 := shapeCast S1x256x128 v664 shapeCasts_S256x128_S1x256x128
  have v685 : FVec Ideal S29x256x128 .f32 := concatenate S29x256x128 0 [⟨S28x256x128, v684⟩, ⟨S1x256x128, v683⟩] concatenates_S28x256x128_S1x256x128_S29x256x128_d0
  have v686 : FVec Ideal S3x256x128 .f32 := broadcast S3x256x128 cst_118
  have v687 : FVec Ideal S32x256x128 .f32 := concatenate S32x256x128 0 [⟨S29x256x128, v685⟩, ⟨S3x256x128, v686⟩] concatenates_S29x256x128_S3x256x128_S32x256x128_d0
  have v688 : FVec Ideal S32x256x128 .f32 := addf v682 v687
  have cst_119 : Ideal .f32 := Scalar.ofBits .f32 0x00000000#32
  have v690 : FVec Ideal S27x256x128 .f32 := broadcast S27x256x128 cst_119
  have v663 : FVec Ideal S256x128 .f32 := extractStridedSlice S256x128 ![0, 384] d slices_S256x1024_o0_384_S256x128
  have v689 : FVec Ideal S1x256x128 .f32 := shapeCast S1x256x128 v663 shapeCasts_S256x128_S1x256x128
  have v691 : FVec Ideal S28x256x128 .f32 := concatenate S28x256x128 0 [⟨S27x256x128, v690⟩, ⟨S1x256x128, v689⟩] concatenates_S27x256x128_S1x256x128_S28x256x128_d0
  have v692 : FVec Ideal S4x256x128 .f32 := broadcast S4x256x128 cst_119
  have v693 : FVec Ideal S32x256x128 .f32 := concatenate S32x256x128 0 [⟨S28x256x128, v691⟩, ⟨S4x256x128, v692⟩] concatenates_S28x256x128_S4x256x128_S32x256x128_d0
  have v694 : FVec Ideal S32x256x128 .f32 := addf v688 v693
  have cst_120 : Ideal .f32 := Scalar.ofBits .f32 0x00000000#32
  have v696 : FVec Ideal S26x256x128 .f32 := broadcast S26x256x128 cst_120
  have v662 : FVec Ideal S256x128 .f32 := extractStridedSlice S256x128 ![0, 256] d slices_S256x1024_o0_256_S256x128
  have v695 : FVec Ideal S1x256x128 .f32 := shapeCast S1x256x128 v662 shapeCasts_S256x128_S1x256x128
  have v697 : FVec Ideal S27x256x128 .f32 := concatenate S27x256x128 0 [⟨S26x256x128, v696⟩, ⟨S1x256x128, v695⟩] concatenates_S26x256x128_S1x256x128_S27x256x128_d0
  have v698 : FVec Ideal S5x256x128 .f32 := broadcast S5x256x128 cst_120
  have v699 : FVec Ideal S32x256x128 .f32 := concatenate S32x256x128 0 [⟨S27x256x128, v697⟩, ⟨S5x256x128, v698⟩] concatenates_S27x256x128_S5x256x128_S32x256x128_d0
  have v700 : FVec Ideal S32x256x128 .f32 := addf v694 v699
  have cst_121 : Ideal .f32 := Scalar.ofBits .f32 0x00000000#32
  have v702 : FVec Ideal S25x256x128 .f32 := broadcast S25x256x128 cst_121
  have v661 : FVec Ideal S256x128 .f32 := extractStridedSlice S256x128 ![0, 128] d slices_S256x1024_o0_128_S256x128
  have v701 : FVec Ideal S1x256x128 .f32 := shapeCast S1x256x128 v661 shapeCasts_S256x128_S1x256x128
  have v703 : FVec Ideal S26x256x128 .f32 := concatenate S26x256x128 0 [⟨S25x256x128, v702⟩, ⟨S1x256x128, v701⟩] concatenates_S25x256x128_S1x256x128_S26x256x128_d0
  have v704 : FVec Ideal S6x256x128 .f32 := broadcast S6x256x128 cst_121
  have v705 : FVec Ideal S32x256x128 .f32 := concatenate S32x256x128 0 [⟨S26x256x128, v703⟩, ⟨S6x256x128, v704⟩] concatenates_S26x256x128_S6x256x128_S32x256x128_d0
  have v706 : FVec Ideal S32x256x128 .f32 := addf v700 v705
  have cst_122 : Ideal .f32 := Scalar.ofBits .f32 0x00000000#32
  have v708 : FVec Ideal S24x256x128 .f32 := broadcast S24x256x128 cst_122
  have v660 : FVec Ideal S256x128 .f32 := extractStridedSlice S256x128 ![0, 0] d slices_S256x1024_o0_0_S256x128
  have v707 : FVec Ideal S1x256x128 .f32 := shapeCast S1x256x128 v660 shapeCasts_S256x128_S1x256x128
  have v709 : FVec Ideal S25x256x128 .f32 := concatenate S25x256x128 0 [⟨S24x256x128, v708⟩, ⟨S1x256x128, v707⟩] concatenates_S24x256x128_S1x256x128_S25x256x128_d0
  have v710 : FVec Ideal S7x256x128 .f32 := broadcast S7x256x128 cst_122
  have v711 : FVec Ideal S32x256x128 .f32 := concatenate S32x256x128 0 [⟨S25x256x128, v709⟩, ⟨S7x256x128, v710⟩] concatenates_S25x256x128_S7x256x128_S32x256x128_d0
  addf v706 v711

/-- The bias' gradient in its place, head 2 added. -/
def toB2 (a : FVec Ideal S32x256x128 .f32) (d : FVec Ideal S256x1024 .f32) : FVec Ideal S32x256x128 .f32 :=
  have cst_180 : Ideal .f32 := Scalar.ofBits .f32 0x00000000#32
  have v973 : FVec Ideal S23x256x128 .f32 := broadcast S23x256x128 cst_180
  have v971 : FVec Ideal S256x128 .f32 := extractStridedSlice S256x128 ![0, 896] d slices_S256x1024_o0_896_S256x128
  have v972 : FVec Ideal S1x256x128 .f32 := shapeCast S1x256x128 v971 shapeCasts_S256x128_S1x256x128
  have v974 : FVec Ideal S24x256x128 .f32 := concatenate S24x256x128 0 [⟨S23x256x128, v973⟩, ⟨S1x256x128, v972⟩] concatenates_S23x256x128_S1x256x128_S24x256x128_d0
  have v975 : FVec Ideal S8x256x128 .f32 := broadcast S8x256x128 cst_180
  have v976 : FVec Ideal S32x256x128 .f32 := concatenate S32x256x128 0 [⟨S24x256x128, v974⟩, ⟨S8x256x128, v975⟩] concatenates_S24x256x128_S8x256x128_S32x256x128_d0
  have v977 : FVec Ideal S32x256x128 .f32 := addf a v976
  have cst_181 : Ideal .f32 := Scalar.ofBits .f32 0x00000000#32
  have v979 : FVec Ideal S22x256x128 .f32 := broadcast S22x256x128 cst_181
  have v970 : FVec Ideal S256x128 .f32 := extractStridedSlice S256x128 ![0, 768] d slices_S256x1024_o0_768_S256x128
  have v978 : FVec Ideal S1x256x128 .f32 := shapeCast S1x256x128 v970 shapeCasts_S256x128_S1x256x128
  have v980 : FVec Ideal S23x256x128 .f32 := concatenate S23x256x128 0 [⟨S22x256x128, v979⟩, ⟨S1x256x128, v978⟩] concatenates_S22x256x128_S1x256x128_S23x256x128_d0
  have v981 : FVec Ideal S9x256x128 .f32 := broadcast S9x256x128 cst_181
  have v982 : FVec Ideal S32x256x128 .f32 := concatenate S32x256x128 0 [⟨S23x256x128, v980⟩, ⟨S9x256x128, v981⟩] concatenates_S23x256x128_S9x256x128_S32x256x128_d0
  have v983 : FVec Ideal S32x256x128 .f32 := addf v977 v982
  have cst_182 : Ideal .f32 := Scalar.ofBits .f32 0x00000000#32
  have v985 : FVec Ideal S21x256x128 .f32 := broadcast S21x256x128 cst_182
  have v969 : FVec Ideal S256x128 .f32 := extractStridedSlice S256x128 ![0, 640] d slices_S256x1024_o0_640_S256x128
  have v984 : FVec Ideal S1x256x128 .f32 := shapeCast S1x256x128 v969 shapeCasts_S256x128_S1x256x128
  have v986 : FVec Ideal S22x256x128 .f32 := concatenate S22x256x128 0 [⟨S21x256x128, v985⟩, ⟨S1x256x128, v984⟩] concatenates_S21x256x128_S1x256x128_S22x256x128_d0
  have v987 : FVec Ideal S10x256x128 .f32 := broadcast S10x256x128 cst_182
  have v988 : FVec Ideal S32x256x128 .f32 := concatenate S32x256x128 0 [⟨S22x256x128, v986⟩, ⟨S10x256x128, v987⟩] concatenates_S22x256x128_S10x256x128_S32x256x128_d0
  have v989 : FVec Ideal S32x256x128 .f32 := addf v983 v988
  have cst_183 : Ideal .f32 := Scalar.ofBits .f32 0x00000000#32
  have v991 : FVec Ideal S20x256x128 .f32 := broadcast S20x256x128 cst_183
  have v968 : FVec Ideal S256x128 .f32 := extractStridedSlice S256x128 ![0, 512] d slices_S256x1024_o0_512_S256x128
  have v990 : FVec Ideal S1x256x128 .f32 := shapeCast S1x256x128 v968 shapeCasts_S256x128_S1x256x128
  have v992 : FVec Ideal S21x256x128 .f32 := concatenate S21x256x128 0 [⟨S20x256x128, v991⟩, ⟨S1x256x128, v990⟩] concatenates_S20x256x128_S1x256x128_S21x256x128_d0
  have v993 : FVec Ideal S11x256x128 .f32 := broadcast S11x256x128 cst_183
  have v994 : FVec Ideal S32x256x128 .f32 := concatenate S32x256x128 0 [⟨S21x256x128, v992⟩, ⟨S11x256x128, v993⟩] concatenates_S21x256x128_S11x256x128_S32x256x128_d0
  have v995 : FVec Ideal S32x256x128 .f32 := addf v989 v994
  have cst_184 : Ideal .f32 := Scalar.ofBits .f32 0x00000000#32
  have v997 : FVec Ideal S19x256x128 .f32 := broadcast S19x256x128 cst_184
  have v967 : FVec Ideal S256x128 .f32 := extractStridedSlice S256x128 ![0, 384] d slices_S256x1024_o0_384_S256x128
  have v996 : FVec Ideal S1x256x128 .f32 := shapeCast S1x256x128 v967 shapeCasts_S256x128_S1x256x128
  have v998 : FVec Ideal S20x256x128 .f32 := concatenate S20x256x128 0 [⟨S19x256x128, v997⟩, ⟨S1x256x128, v996⟩] concatenates_S19x256x128_S1x256x128_S20x256x128_d0
  have v999 : FVec Ideal S12x256x128 .f32 := broadcast S12x256x128 cst_184
  have v1000 : FVec Ideal S32x256x128 .f32 := concatenate S32x256x128 0 [⟨S20x256x128, v998⟩, ⟨S12x256x128, v999⟩] concatenates_S20x256x128_S12x256x128_S32x256x128_d0
  have v1001 : FVec Ideal S32x256x128 .f32 := addf v995 v1000
  have cst_185 : Ideal .f32 := Scalar.ofBits .f32 0x00000000#32
  have v1003 : FVec Ideal S18x256x128 .f32 := broadcast S18x256x128 cst_185
  have v966 : FVec Ideal S256x128 .f32 := extractStridedSlice S256x128 ![0, 256] d slices_S256x1024_o0_256_S256x128
  have v1002 : FVec Ideal S1x256x128 .f32 := shapeCast S1x256x128 v966 shapeCasts_S256x128_S1x256x128
  have v1004 : FVec Ideal S19x256x128 .f32 := concatenate S19x256x128 0 [⟨S18x256x128, v1003⟩, ⟨S1x256x128, v1002⟩] concatenates_S18x256x128_S1x256x128_S19x256x128_d0
  have v1005 : FVec Ideal S13x256x128 .f32 := broadcast S13x256x128 cst_185
  have v1006 : FVec Ideal S32x256x128 .f32 := concatenate S32x256x128 0 [⟨S19x256x128, v1004⟩, ⟨S13x256x128, v1005⟩] concatenates_S19x256x128_S13x256x128_S32x256x128_d0
  have v1007 : FVec Ideal S32x256x128 .f32 := addf v1001 v1006
  have cst_186 : Ideal .f32 := Scalar.ofBits .f32 0x00000000#32
  have v1009 : FVec Ideal S17x256x128 .f32 := broadcast S17x256x128 cst_186
  have v965 : FVec Ideal S256x128 .f32 := extractStridedSlice S256x128 ![0, 128] d slices_S256x1024_o0_128_S256x128
  have v1008 : FVec Ideal S1x256x128 .f32 := shapeCast S1x256x128 v965 shapeCasts_S256x128_S1x256x128
  have v1010 : FVec Ideal S18x256x128 .f32 := concatenate S18x256x128 0 [⟨S17x256x128, v1009⟩, ⟨S1x256x128, v1008⟩] concatenates_S17x256x128_S1x256x128_S18x256x128_d0
  have v1011 : FVec Ideal S14x256x128 .f32 := broadcast S14x256x128 cst_186
  have v1012 : FVec Ideal S32x256x128 .f32 := concatenate S32x256x128 0 [⟨S18x256x128, v1010⟩, ⟨S14x256x128, v1011⟩] concatenates_S18x256x128_S14x256x128_S32x256x128_d0
  have v1013 : FVec Ideal S32x256x128 .f32 := addf v1007 v1012
  have cst_187 : Ideal .f32 := Scalar.ofBits .f32 0x00000000#32
  have v1015 : FVec Ideal S16x256x128 .f32 := broadcast S16x256x128 cst_187
  have v964 : FVec Ideal S256x128 .f32 := extractStridedSlice S256x128 ![0, 0] d slices_S256x1024_o0_0_S256x128
  have v1014 : FVec Ideal S1x256x128 .f32 := shapeCast S1x256x128 v964 shapeCasts_S256x128_S1x256x128
  have v1016 : FVec Ideal S17x256x128 .f32 := concatenate S17x256x128 0 [⟨S16x256x128, v1015⟩, ⟨S1x256x128, v1014⟩] concatenates_S16x256x128_S1x256x128_S17x256x128_d0
  have v1017 : FVec Ideal S15x256x128 .f32 := broadcast S15x256x128 cst_187
  have v1018 : FVec Ideal S32x256x128 .f32 := concatenate S32x256x128 0 [⟨S17x256x128, v1016⟩, ⟨S15x256x128, v1017⟩] concatenates_S17x256x128_S15x256x128_S32x256x128_d0
  addf v1013 v1018

/-- The bias' gradient in its place, head 1 added. -/
def toB1 (a : FVec Ideal S32x256x128 .f32) (d : FVec Ideal S256x1024 .f32) : FVec Ideal S32x256x128 .f32 :=
  have cst_245 : Ideal .f32 := Scalar.ofBits .f32 0x00000000#32
  have v1295 : FVec Ideal S15x256x128 .f32 := broadcast S15x256x128 cst_245
  have v1293 : FVec Ideal S256x128 .f32 := extractStridedSlice S256x128 ![0, 896] d slices_S256x1024_o0_896_S256x128
  have v1294 : FVec Ideal S1x256x128 .f32 := shapeCast S1x256x128 v1293 shapeCasts_S256x128_S1x256x128
  have v1296 : FVec Ideal S16x256x128 .f32 := concatenate S16x256x128 0 [⟨S15x256x128, v1295⟩, ⟨S1x256x128, v1294⟩] concatenates_S15x256x128_S1x256x128_S16x256x128_d0
  have v1297 : FVec Ideal S16x256x128 .f32 := broadcast S16x256x128 cst_245
  have v1298 : FVec Ideal S32x256x128 .f32 := concatenate S32x256x128 0 [⟨S16x256x128, v1296⟩, ⟨S16x256x128, v1297⟩] concatenates_S16x256x128_S16x256x128_S32x256x128_d0
  have v1299 : FVec Ideal S32x256x128 .f32 := addf a v1298
  have cst_246 : Ideal .f32 := Scalar.ofBits .f32 0x00000000#32
  have v1301 : FVec Ideal S14x256x128 .f32 := broadcast S14x256x128 cst_246
  have v1292 : FVec Ideal S256x128 .f32 := extractStridedSlice S256x128 ![0, 768] d slices_S256x1024_o0_768_S256x128
  have v1300 : FVec Ideal S1x256x128 .f32 := shapeCast S1x256x128 v1292 shapeCasts_S256x128_S1x256x128
  have v1302 : FVec Ideal S15x256x128 .f32 := concatenate S15x256x128 0 [⟨S14x256x128, v1301⟩, ⟨S1x256x128, v1300⟩] concatenates_S14x256x128_S1x256x128_S15x256x128_d0
  have v1303 : FVec Ideal S17x256x128 .f32 := broadcast S17x256x128 cst_246
  have v1304 : FVec Ideal S32x256x128 .f32 := concatenate S32x256x128 0 [⟨S15x256x128, v1302⟩, ⟨S17x256x128, v1303⟩] concatenates_S15x256x128_S17x256x128_S32x256x128_d0
  have v1305 : FVec Ideal S32x256x128 .f32 := addf v1299 v1304
  have cst_247 : Ideal .f32 := Scalar.ofBits .f32 0x00000000#32
  have v1307 : FVec Ideal S13x256x128 .f32 := broadcast S13x256x128 cst_247
  have v1291 : FVec Ideal S256x128 .f32 := extractStridedSlice S256x128 ![0, 640] d slices_S256x1024_o0_640_S256x128
  have v1306 : FVec Ideal S1x256x128 .f32 := shapeCast S1x256x128 v1291 shapeCasts_S256x128_S1x256x128
  have v1308 : FVec Ideal S14x256x128 .f32 := concatenate S14x256x128 0 [⟨S13x256x128, v1307⟩, ⟨S1x256x128, v1306⟩] concatenates_S13x256x128_S1x256x128_S14x256x128_d0
  have v1309 : FVec Ideal S18x256x128 .f32 := broadcast S18x256x128 cst_247
  have v1310 : FVec Ideal S32x256x128 .f32 := concatenate S32x256x128 0 [⟨S14x256x128, v1308⟩, ⟨S18x256x128, v1309⟩] concatenates_S14x256x128_S18x256x128_S32x256x128_d0
  have v1311 : FVec Ideal S32x256x128 .f32 := addf v1305 v1310
  have cst_248 : Ideal .f32 := Scalar.ofBits .f32 0x00000000#32
  have v1313 : FVec Ideal S12x256x128 .f32 := broadcast S12x256x128 cst_248
  have v1290 : FVec Ideal S256x128 .f32 := extractStridedSlice S256x128 ![0, 512] d slices_S256x1024_o0_512_S256x128
  have v1312 : FVec Ideal S1x256x128 .f32 := shapeCast S1x256x128 v1290 shapeCasts_S256x128_S1x256x128
  have v1314 : FVec Ideal S13x256x128 .f32 := concatenate S13x256x128 0 [⟨S12x256x128, v1313⟩, ⟨S1x256x128, v1312⟩] concatenates_S12x256x128_S1x256x128_S13x256x128_d0
  have v1315 : FVec Ideal S19x256x128 .f32 := broadcast S19x256x128 cst_248
  have v1316 : FVec Ideal S32x256x128 .f32 := concatenate S32x256x128 0 [⟨S13x256x128, v1314⟩, ⟨S19x256x128, v1315⟩] concatenates_S13x256x128_S19x256x128_S32x256x128_d0
  have v1317 : FVec Ideal S32x256x128 .f32 := addf v1311 v1316
  have cst_249 : Ideal .f32 := Scalar.ofBits .f32 0x00000000#32
  have v1319 : FVec Ideal S11x256x128 .f32 := broadcast S11x256x128 cst_249
  have v1289 : FVec Ideal S256x128 .f32 := extractStridedSlice S256x128 ![0, 384] d slices_S256x1024_o0_384_S256x128
  have v1318 : FVec Ideal S1x256x128 .f32 := shapeCast S1x256x128 v1289 shapeCasts_S256x128_S1x256x128
  have v1320 : FVec Ideal S12x256x128 .f32 := concatenate S12x256x128 0 [⟨S11x256x128, v1319⟩, ⟨S1x256x128, v1318⟩] concatenates_S11x256x128_S1x256x128_S12x256x128_d0
  have v1321 : FVec Ideal S20x256x128 .f32 := broadcast S20x256x128 cst_249
  have v1322 : FVec Ideal S32x256x128 .f32 := concatenate S32x256x128 0 [⟨S12x256x128, v1320⟩, ⟨S20x256x128, v1321⟩] concatenates_S12x256x128_S20x256x128_S32x256x128_d0
  have v1323 : FVec Ideal S32x256x128 .f32 := addf v1317 v1322
  have cst_250 : Ideal .f32 := Scalar.ofBits .f32 0x00000000#32
  have v1325 : FVec Ideal S10x256x128 .f32 := broadcast S10x256x128 cst_250
  have v1288 : FVec Ideal S256x128 .f32 := extractStridedSlice S256x128 ![0, 256] d slices_S256x1024_o0_256_S256x128
  have v1324 : FVec Ideal S1x256x128 .f32 := shapeCast S1x256x128 v1288 shapeCasts_S256x128_S1x256x128
  have v1326 : FVec Ideal S11x256x128 .f32 := concatenate S11x256x128 0 [⟨S10x256x128, v1325⟩, ⟨S1x256x128, v1324⟩] concatenates_S10x256x128_S1x256x128_S11x256x128_d0
  have v1327 : FVec Ideal S21x256x128 .f32 := broadcast S21x256x128 cst_250
  have v1328 : FVec Ideal S32x256x128 .f32 := concatenate S32x256x128 0 [⟨S11x256x128, v1326⟩, ⟨S21x256x128, v1327⟩] concatenates_S11x256x128_S21x256x128_S32x256x128_d0
  have v1329 : FVec Ideal S32x256x128 .f32 := addf v1323 v1328
  have cst_251 : Ideal .f32 := Scalar.ofBits .f32 0x00000000#32
  have v1331 : FVec Ideal S9x256x128 .f32 := broadcast S9x256x128 cst_251
  have v1287 : FVec Ideal S256x128 .f32 := extractStridedSlice S256x128 ![0, 128] d slices_S256x1024_o0_128_S256x128
  have v1330 : FVec Ideal S1x256x128 .f32 := shapeCast S1x256x128 v1287 shapeCasts_S256x128_S1x256x128
  have v1332 : FVec Ideal S10x256x128 .f32 := concatenate S10x256x128 0 [⟨S9x256x128, v1331⟩, ⟨S1x256x128, v1330⟩] concatenates_S9x256x128_S1x256x128_S10x256x128_d0
  have v1333 : FVec Ideal S22x256x128 .f32 := broadcast S22x256x128 cst_251
  have v1334 : FVec Ideal S32x256x128 .f32 := concatenate S32x256x128 0 [⟨S10x256x128, v1332⟩, ⟨S22x256x128, v1333⟩] concatenates_S10x256x128_S22x256x128_S32x256x128_d0
  have v1335 : FVec Ideal S32x256x128 .f32 := addf v1329 v1334
  have cst_252 : Ideal .f32 := Scalar.ofBits .f32 0x00000000#32
  have v1337 : FVec Ideal S8x256x128 .f32 := broadcast S8x256x128 cst_252
  have v1286 : FVec Ideal S256x128 .f32 := extractStridedSlice S256x128 ![0, 0] d slices_S256x1024_o0_0_S256x128
  have v1336 : FVec Ideal S1x256x128 .f32 := shapeCast S1x256x128 v1286 shapeCasts_S256x128_S1x256x128
  have v1338 : FVec Ideal S9x256x128 .f32 := concatenate S9x256x128 0 [⟨S8x256x128, v1337⟩, ⟨S1x256x128, v1336⟩] concatenates_S8x256x128_S1x256x128_S9x256x128_d0
  have v1339 : FVec Ideal S23x256x128 .f32 := broadcast S23x256x128 cst_252
  have v1340 : FVec Ideal S32x256x128 .f32 := concatenate S32x256x128 0 [⟨S9x256x128, v1338⟩, ⟨S23x256x128, v1339⟩] concatenates_S9x256x128_S23x256x128_S32x256x128_d0
  addf v1335 v1340

/-- The bias' gradient in its place, head 0 added. -/
def toB0 (a : FVec Ideal S32x256x128 .f32) (d : FVec Ideal S256x1024 .f32) : FVec Ideal S32x256x128 .f32 :=
  have cst_310 : Ideal .f32 := Scalar.ofBits .f32 0x00000000#32
  have v1615 : FVec Ideal S7x256x128 .f32 := broadcast S7x256x128 cst_310
  have v1613 : FVec Ideal S256x128 .f32 := extractStridedSlice S256x128 ![0, 896] d slices_S256x1024_o0_896_S256x128
  have v1614 : FVec Ideal S1x256x128 .f32 := shapeCast S1x256x128 v1613 shapeCasts_S256x128_S1x256x128
  have v1616 : FVec Ideal S8x256x128 .f32 := concatenate S8x256x128 0 [⟨S7x256x128, v1615⟩, ⟨S1x256x128, v1614⟩] concatenates_S7x256x128_S1x256x128_S8x256x128_d0
  have v1617 : FVec Ideal S24x256x128 .f32 := broadcast S24x256x128 cst_310
  have v1618 : FVec Ideal S32x256x128 .f32 := concatenate S32x256x128 0 [⟨S8x256x128, v1616⟩, ⟨S24x256x128, v1617⟩] concatenates_S8x256x128_S24x256x128_S32x256x128_d0
  have v1619 : FVec Ideal S32x256x128 .f32 := addf a v1618
  have cst_311 : Ideal .f32 := Scalar.ofBits .f32 0x00000000#32
  have v1621 : FVec Ideal S6x256x128 .f32 := broadcast S6x256x128 cst_311
  have v1612 : FVec Ideal S256x128 .f32 := extractStridedSlice S256x128 ![0, 768] d slices_S256x1024_o0_768_S256x128
  have v1620 : FVec Ideal S1x256x128 .f32 := shapeCast S1x256x128 v1612 shapeCasts_S256x128_S1x256x128
  have v1622 : FVec Ideal S7x256x128 .f32 := concatenate S7x256x128 0 [⟨S6x256x128, v1621⟩, ⟨S1x256x128, v1620⟩] concatenates_S6x256x128_S1x256x128_S7x256x128_d0
  have v1623 : FVec Ideal S25x256x128 .f32 := broadcast S25x256x128 cst_311
  have v1624 : FVec Ideal S32x256x128 .f32 := concatenate S32x256x128 0 [⟨S7x256x128, v1622⟩, ⟨S25x256x128, v1623⟩] concatenates_S7x256x128_S25x256x128_S32x256x128_d0
  have v1625 : FVec Ideal S32x256x128 .f32 := addf v1619 v1624
  have cst_312 : Ideal .f32 := Scalar.ofBits .f32 0x00000000#32
  have v1627 : FVec Ideal S5x256x128 .f32 := broadcast S5x256x128 cst_312
  have v1611 : FVec Ideal S256x128 .f32 := extractStridedSlice S256x128 ![0, 640] d slices_S256x1024_o0_640_S256x128
  have v1626 : FVec Ideal S1x256x128 .f32 := shapeCast S1x256x128 v1611 shapeCasts_S256x128_S1x256x128
  have v1628 : FVec Ideal S6x256x128 .f32 := concatenate S6x256x128 0 [⟨S5x256x128, v1627⟩, ⟨S1x256x128, v1626⟩] concatenates_S5x256x128_S1x256x128_S6x256x128_d0
  have v1629 : FVec Ideal S26x256x128 .f32 := broadcast S26x256x128 cst_312
  have v1630 : FVec Ideal S32x256x128 .f32 := concatenate S32x256x128 0 [⟨S6x256x128, v1628⟩, ⟨S26x256x128, v1629⟩] concatenates_S6x256x128_S26x256x128_S32x256x128_d0
  have v1631 : FVec Ideal S32x256x128 .f32 := addf v1625 v1630
  have cst_313 : Ideal .f32 := Scalar.ofBits .f32 0x00000000#32
  have v1633 : FVec Ideal S4x256x128 .f32 := broadcast S4x256x128 cst_313
  have v1610 : FVec Ideal S256x128 .f32 := extractStridedSlice S256x128 ![0, 512] d slices_S256x1024_o0_512_S256x128
  have v1632 : FVec Ideal S1x256x128 .f32 := shapeCast S1x256x128 v1610 shapeCasts_S256x128_S1x256x128
  have v1634 : FVec Ideal S5x256x128 .f32 := concatenate S5x256x128 0 [⟨S4x256x128, v1633⟩, ⟨S1x256x128, v1632⟩] concatenates_S4x256x128_S1x256x128_S5x256x128_d0
  have v1635 : FVec Ideal S27x256x128 .f32 := broadcast S27x256x128 cst_313
  have v1636 : FVec Ideal S32x256x128 .f32 := concatenate S32x256x128 0 [⟨S5x256x128, v1634⟩, ⟨S27x256x128, v1635⟩] concatenates_S5x256x128_S27x256x128_S32x256x128_d0
  have v1637 : FVec Ideal S32x256x128 .f32 := addf v1631 v1636
  have cst_314 : Ideal .f32 := Scalar.ofBits .f32 0x00000000#32
  have v1639 : FVec Ideal S3x256x128 .f32 := broadcast S3x256x128 cst_314
  have v1609 : FVec Ideal S256x128 .f32 := extractStridedSlice S256x128 ![0, 384] d slices_S256x1024_o0_384_S256x128
  have v1638 : FVec Ideal S1x256x128 .f32 := shapeCast S1x256x128 v1609 shapeCasts_S256x128_S1x256x128
  have v1640 : FVec Ideal S4x256x128 .f32 := concatenate S4x256x128 0 [⟨S3x256x128, v1639⟩, ⟨S1x256x128, v1638⟩] concatenates_S3x256x128_S1x256x128_S4x256x128_d0
  have v1641 : FVec Ideal S28x256x128 .f32 := broadcast S28x256x128 cst_314
  have v1642 : FVec Ideal S32x256x128 .f32 := concatenate S32x256x128 0 [⟨S4x256x128, v1640⟩, ⟨S28x256x128, v1641⟩] concatenates_S4x256x128_S28x256x128_S32x256x128_d0
  have v1643 : FVec Ideal S32x256x128 .f32 := addf v1637 v1642
  have cst_315 : Ideal .f32 := Scalar.ofBits .f32 0x00000000#32
  have v1645 : FVec Ideal S2x256x128 .f32 := broadcast S2x256x128 cst_315
  have v1608 : FVec Ideal S256x128 .f32 := extractStridedSlice S256x128 ![0, 256] d slices_S256x1024_o0_256_S256x128
  have v1644 : FVec Ideal S1x256x128 .f32 := shapeCast S1x256x128 v1608 shapeCasts_S256x128_S1x256x128
  have v1646 : FVec Ideal S3x256x128 .f32 := concatenate S3x256x128 0 [⟨S2x256x128, v1645⟩, ⟨S1x256x128, v1644⟩] concatenates_S2x256x128_S1x256x128_S3x256x128_d0
  have v1647 : FVec Ideal S29x256x128 .f32 := broadcast S29x256x128 cst_315
  have v1648 : FVec Ideal S32x256x128 .f32 := concatenate S32x256x128 0 [⟨S3x256x128, v1646⟩, ⟨S29x256x128, v1647⟩] concatenates_S3x256x128_S29x256x128_S32x256x128_d0
  have v1649 : FVec Ideal S32x256x128 .f32 := addf v1643 v1648
  have cst_316 : Ideal .f32 := Scalar.ofBits .f32 0x00000000#32
  have v1651 : FVec Ideal S1x256x128 .f32 := broadcast S1x256x128 cst_316
  have v1607 : FVec Ideal S256x128 .f32 := extractStridedSlice S256x128 ![0, 128] d slices_S256x1024_o0_128_S256x128
  have v1650 : FVec Ideal S1x256x128 .f32 := shapeCast S1x256x128 v1607 shapeCasts_S256x128_S1x256x128
  have v1652 : FVec Ideal S2x256x128 .f32 := concatenate S2x256x128 0 [⟨S1x256x128, v1651⟩, ⟨S1x256x128, v1650⟩] concatenates_S1x256x128_S1x256x128_S2x256x128_d0
  have v1653 : FVec Ideal S30x256x128 .f32 := broadcast S30x256x128 cst_316
  have v1654 : FVec Ideal S32x256x128 .f32 := concatenate S32x256x128 0 [⟨S2x256x128, v1652⟩, ⟨S30x256x128, v1653⟩] concatenates_S2x256x128_S30x256x128_S32x256x128_d0
  have v1655 : FVec Ideal S32x256x128 .f32 := addf v1649 v1654
  have v1606 : FVec Ideal S256x128 .f32 := extractStridedSlice S256x128 ![0, 0] d slices_S256x1024_o0_0_S256x128
  have v1656 : FVec Ideal S1x256x128 .f32 := shapeCast S1x256x128 v1606 shapeCasts_S256x128_S1x256x128
  have cst_317 : Ideal .f32 := Scalar.ofBits .f32 0x00000000#32
  have v1657 : FVec Ideal S31x256x128 .f32 := broadcast S31x256x128 cst_317
  have v1658 : FVec Ideal S32x256x128 .f32 := concatenate S32x256x128 0 [⟨S1x256x128, v1656⟩, ⟨S31x256x128, v1657⟩] concatenates_S1x256x128_S31x256x128_S32x256x128_d0
  addf v1655 v1658

/-- The gradient of the values of this block, each head in its place. -/
def toVC (d0 d1 d2 d3 : FVec Ideal S256x64 .f32) : FVec Ideal S128x256 .f32 :=
  have cst_131 : Ideal .f32 := Scalar.ofBits .f32 0x00000000#32
  have v760 : FVec Ideal S128x192 .f32 := broadcast S128x192 cst_131
  have v759 : FVec Ideal S128x64 .f32 := extractStridedSlice S128x64 ![128, 0] d3 slices_S256x64_o128_0_S128x64
  have v761 : FVec Ideal S128x256 .f32 := concatenate S128x256 1 [⟨S128x192, v760⟩, ⟨S128x64, v759⟩] concatenates_S128x192_S128x64_S128x256_d1
  have cst_196 : Ideal .f32 := Scalar.ofBits .f32 0x00000000#32
  have v1070 : FVec Ideal S128x128 .f32 := broadcast S128x128 cst_196
  have v1069 : FVec Ideal S128x64 .f32 := extractStridedSlice S128x64 ![128, 0] d2 slices_S256x64_o128_0_S128x64
  have v1071 : FVec Ideal S128x192 .f32 := concatenate S128x192 1 [⟨S128x128, v1070⟩, ⟨S128x64, v1069⟩] concatenates_S128x128_S128x64_S128x192_d1
  have v1072 : FVec Ideal S128x64 .f32 := broadcast S128x64 cst_196
  have v1073 : FVec Ideal S128x256 .f32 := concatenate S128x256 1 [⟨S128x192, v1071⟩, ⟨S128x64, v1072⟩] concatenates_S128x192_S128x64_S128x256_d1
  have v1074 : FVec Ideal S128x256 .f32 := addf v761 v1073
  have cst_261 : Ideal .f32 := Scalar.ofBits .f32 0x00000000#32
  have v1392 : FVec Ideal S128x64 .f32 := broadcast S128x64 cst_261
  have v1391 : FVec Ideal S128x64 .f32 := extractStridedSlice S128x64 ![128, 0] d1 slices_S256x64_o128_0_S128x64
  have v1393 : FVec Ideal S128x128 .f32 := concatenate S128x128 1 [⟨S128x64, v1392⟩, ⟨S128x64, v1391⟩] concatenates_S128x64_S128x64_S128x128_d1
  have v1394 : FVec Ideal S128x128 .f32 := broadcast S128x128 cst_261
  have v1395 : FVec Ideal S128x256 .f32 := concatenate S128x256 1 [⟨S128x128, v1393⟩, ⟨S128x128, v1394⟩] concatenates_S128x128_S128x128_S128x256_d1
  have v1396 : FVec Ideal S128x256 .f32 := addf v1074 v1395
  have v1707 : FVec Ideal S128x64 .f32 := extractStridedSlice S128x64 ![128, 0] d0 slices_S256x64_o128_0_S128x64
  have cst_326 : Ideal .f32 := Scalar.ofBits .f32 0x00000000#32
  have v1708 : FVec Ideal S128x192 .f32 := broadcast S128x192 cst_326
  have v1709 : FVec Ideal S128x256 .f32 := concatenate S128x256 1 [⟨S128x64, v1707⟩, ⟨S128x192, v1708⟩] concatenates_S128x64_S128x192_S128x256_d1
  addf v1396 v1709

/-- The gradient of the values of the previous block, each head in its place. -/
def toVP (d0 d1 d2 d3 : FVec Ideal S256x64 .f32) : FVec Ideal S128x256 .f32 :=
  have cst_132 : Ideal .f32 := Scalar.ofBits .f32 0x00000000#32
  have v762 : FVec Ideal S128x192 .f32 := broadcast S128x192 cst_132
  have v758 : FVec Ideal S128x64 .f32 := extractStridedSlice S128x64 ![0, 0] d3 slices_S256x64_o0_0_S128x64
  have v763 : FVec Ideal S128x256 .f32 := concatenate S128x256 1 [⟨S128x192, v762⟩, ⟨S128x64, v758⟩] concatenates_S128x192_S128x64_S128x256_d1
  have cst_197 : Ideal .f32 := Scalar.ofBits .f32 0x00000000#32
  have v1075 : FVec Ideal S128x128 .f32 := broadcast S128x128 cst_197
  have v1068 : FVec Ideal S128x64 .f32 := extractStridedSlice S128x64 ![0, 0] d2 slices_S256x64_o0_0_S128x64
  have v1076 : FVec Ideal S128x192 .f32 := concatenate S128x192 1 [⟨S128x128, v1075⟩, ⟨S128x64, v1068⟩] concatenates_S128x128_S128x64_S128x192_d1
  have v1077 : FVec Ideal S128x64 .f32 := broadcast S128x64 cst_197
  have v1078 : FVec Ideal S128x256 .f32 := concatenate S128x256 1 [⟨S128x192, v1076⟩, ⟨S128x64, v1077⟩] concatenates_S128x192_S128x64_S128x256_d1
  have v1079 : FVec Ideal S128x256 .f32 := addf v763 v1078
  have cst_262 : Ideal .f32 := Scalar.ofBits .f32 0x00000000#32
  have v1397 : FVec Ideal S128x64 .f32 := broadcast S128x64 cst_262
  have v1390 : FVec Ideal S128x64 .f32 := extractStridedSlice S128x64 ![0, 0] d1 slices_S256x64_o0_0_S128x64
  have v1398 : FVec Ideal S128x128 .f32 := concatenate S128x128 1 [⟨S128x64, v1397⟩, ⟨S128x64, v1390⟩] concatenates_S128x64_S128x64_S128x128_d1
  have v1399 : FVec Ideal S128x128 .f32 := broadcast S128x128 cst_262
  have v1400 : FVec Ideal S128x256 .f32 := concatenate S128x256 1 [⟨S128x128, v1398⟩, ⟨S128x128, v1399⟩] concatenates_S128x128_S128x128_S128x256_d1
  have v1401 : FVec Ideal S128x256 .f32 := addf v1079 v1400
  have v1706 : FVec Ideal S128x64 .f32 := extractStridedSlice S128x64 ![0, 0] d0 slices_S256x64_o0_0_S128x64
  have cst_327 : Ideal .f32 := Scalar.ofBits .f32 0x00000000#32
  have v1711 : FVec Ideal S128x192 .f32 := broadcast S128x192 cst_327
  have v1712 : FVec Ideal S128x256 .f32 := concatenate S128x256 1 [⟨S128x64, v1706⟩, ⟨S128x192, v1711⟩] concatenates_S128x64_S128x192_S128x256_d1
  addf v1401 v1712

/-- The gradient of the keys of this block, each head in its place. -/
def toKC (d0 d1 d2 d3 : FVec Ideal S256x64 .f32) : FVec Ideal S128x256 .f32 :=
  have cst_133 : Ideal .f32 := Scalar.ofBits .f32 0x00000000#32
  have v766 : FVec Ideal S128x192 .f32 := broadcast S128x192 cst_133
  have v765 : FVec Ideal S128x64 .f32 := extractStridedSlice S128x64 ![128, 0] d3 slices_S256x64_o128_0_S128x64
  have v767 : FVec Ideal S128x256 .f32 := concatenate S128x256 1 [⟨S128x192, v766⟩, ⟨S128x64, v765⟩] concatenates_S128x192_S128x64_S128x256_d1
  have cst_198 : Ideal .f32 := Scalar.ofBits .f32 0x00000000#32
  have v1082 : FVec Ideal S128x128 .f32 := broadcast S128x128 cst_198
  have v1081 : FVec Ideal S128x64 .f32 := extractStridedSlice S128x64 ![128, 0] d2 slices_S256x64_o128_0_S128x64
  have v1083 : FVec Ideal S128x192 .f32 := concatenate S128x192 1 [⟨S128x128, v1082⟩, ⟨S128x64, v1081⟩] concatenates_S128x128_S128x64_S128x192_d1
  have v1084 : FVec Ideal S128x64 .f32 := broadcast S128x64 cst_198
  have v1085 : FVec Ideal S128x256 .f32 := concatenate S128x256 1 [⟨S128x192, v1083⟩, ⟨S128x64, v1084⟩] concatenates_S128x192_S128x64_S128x256_d1
  have v1086 : FVec Ideal S128x256 .f32 := addf v767 v1085
  have cst_263 : Ideal .f32 := Scalar.ofBits .f32 0x00000000#32
  have v1404 : FVec Ideal S128x64 .f32 := broadcast S128x64 cst_263
  have v1403 : FVec Ideal S128x64 .f32 := extractStridedSlice S128x64 ![128, 0] d1 slices_S256x64_o128_0_S128x64
  have v1405 : FVec Ideal S128x128 .f32 := concatenate S128x128 1 [⟨S128x64, v1404⟩, ⟨S128x64, v1403⟩] concatenates_S128x64_S128x64_S128x128_d1
  have v1406 : FVec Ideal S128x128 .f32 := broadcast S128x128 cst_263
  have v1407 : FVec Ideal S128x256 .f32 := concatenate S128x256 1 [⟨S128x128, v1405⟩, ⟨S128x128, v1406⟩] concatenates_S128x128_S128x128_S128x256_d1
  have v1408 : FVec Ideal S128x256 .f32 := addf v1086 v1407
  have v1715 : FVec Ideal S128x64 .f32 := extractStridedSlice S128x64 ![128, 0] d0 slices_S256x64_o128_0_S128x64
  have cst_328 : Ideal .f32 := Scalar.ofBits .f32 0x00000000#32
  have v1716 : FVec Ideal S128x192 .f32 := broadcast S128x192 cst_328
  have v1717 : FVec Ideal S128x256 .f32 := concatenate S128x256 1 [⟨S128x64, v1715⟩, ⟨S128x192, v1716⟩] concatenates_S128x64_S128x192_S128x256_d1
  addf v1408 v1717

/-- The gradient of the keys of the previous block, each head in its place. -/
def toKP (d0 d1 d2 d3 : FVec Ideal S256x64 .f32) : FVec Ideal S128x256 .f32 :=
  have cst_134 : Ideal .f32 := Scalar.ofBits .f32 0x00000000#32
  have v768 : FVec Ideal S128x192 .f32 := broadcast S128x192 cst_134
  have v764 : FVec Ideal S128x64 .f32 := extractStridedSlice S128x64 ![0, 0] d3 slices_S256x64_o0_0_S128x64
  have v769 : FVec Ideal S128x256 .f32 := concatenate S128x256 1 [⟨S128x192, v768⟩, ⟨S128x64, v764⟩] concatenates_S128x192_S128x64_S128x256_d1
  have cst_199 : Ideal .f32 := Scalar.ofBits .f32 0x00000000#32
  have v1087 : FVec Ideal S128x128 .f32 := broadcast S128x128 cst_199
  have v1080 : FVec Ideal S128x64 .f32 := extractStridedSlice S128x64 ![0, 0] d2 slices_S256x64_o0_0_S128x64
  have v1088 : FVec Ideal S128x192 .f32 := concatenate S128x192 1 [⟨S128x128, v1087⟩, ⟨S128x64, v1080⟩] concatenates_S128x128_S128x64_S128x192_d1
  have v1089 : FVec Ideal S128x64 .f32 := broadcast S128x64 cst_199
  have v1090 : FVec Ideal S128x256 .f32 := concatenate S128x256 1 [⟨S128x192, v1088⟩, ⟨S128x64, v1089⟩] concatenates_S128x192_S128x64_S128x256_d1
  have v1091 : FVec Ideal S128x256 .f32 := addf v769 v1090
  have cst_264 : Ideal .f32 := Scalar.ofBits .f32 0x00000000#32
  have v1409 : FVec Ideal S128x64 .f32 := broadcast S128x64 cst_264
  have v1402 : FVec Ideal S128x64 .f32 := extractStridedSlice S128x64 ![0, 0] d1 slices_S256x64_o0_0_S128x64
  have v1410 : FVec Ideal S128x128 .f32 := concatenate S128x128 1 [⟨S128x64, v1409⟩, ⟨S128x64, v1402⟩] concatenates_S128x64_S128x64_S128x128_d1
  have v1411 : FVec Ideal S128x128 .f32 := broadcast S128x128 cst_264
  have v1412 : FVec Ideal S128x256 .f32 := concatenate S128x256 1 [⟨S128x128, v1410⟩, ⟨S128x128, v1411⟩] concatenates_S128x128_S128x128_S128x256_d1
  have v1413 : FVec Ideal S128x256 .f32 := addf v1091 v1412
  have v1714 : FVec Ideal S128x64 .f32 := extractStridedSlice S128x64 ![0, 0] d0 slices_S256x64_o0_0_S128x64
  have cst_329 : Ideal .f32 := Scalar.ofBits .f32 0x00000000#32
  have v1719 : FVec Ideal S128x192 .f32 := broadcast S128x192 cst_329
  have v1720 : FVec Ideal S128x256 .f32 := concatenate S128x256 1 [⟨S128x64, v1714⟩, ⟨S128x192, v1719⟩] concatenates_S128x64_S128x192_S128x256_d1
  addf v1413 v1720

end Cert.KernelIdeal.Attn
-- ==== Proof.Terms.lean ====
module

public import proofs.«01_k».proof.Proof.Gen.KernelIdeal.Value
public import proofs.«01_k».proof.Proof.Inputs
public import proofs.«01_k».proof.Proof.Outputs
public import Idealize.ShloMosaic.Lib.Pipeline.ValueKit

@[expose] public section

set_option maxRecDepth 16384
set_option maxHeartbeats 4000000
set_option pp.maxSteps 200

noncomputable section

namespace Cert.KernelIdeal.Attn

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- Head 0 of block `t`. -/
def sd0 : Side := side0 (grid0.coords t) (iblk m c 0 t) (iblk m c 1 t) (iblk m c 2 t) (iblk m c 3 t) (iblk m c 4 t) (iblk m c 5 t) (iblk m c 6 t) (iblk m c 7 t)

/-- Head 1 of block `t`. -/
def sd1 : Side := side1 (grid0.coords t) (iblk m c 0 t) (iblk m c 1 t) (iblk m c 2 t) (iblk m c 3 t) (iblk m c 4 t) (iblk m c 5 t) (iblk m c 6 t) (iblk m c 7 t)

/-- Head 2 of block `t`. -/
def sd2 : Side := side2 (grid0.coords t) (iblk m c 0 t) (iblk m c 1 t) (iblk m c 2 t) (iblk m c 3 t) (iblk m c 4 t) (iblk m c 5 t) (iblk m c 6 t) (iblk m c 7 t)

/-- Head 3 of block `t`. -/
def sd3 : Side := side3 (grid0.coords t) (iblk m c 0 t) (iblk m c 1 t) (iblk m c 2 t) (iblk m c 3 t) (iblk m c 4 t) (iblk m c 5 t) (iblk m c 6 t) (iblk m c 7 t)

/-- The queries' gradient of block `t`. -/
def blkQ : FVec Ideal S128x2048 .f32 := (toQ0 (toQ1 (toQ2 (toQ3 (sd3 m c t).dqg) (sd2 m c t).dqg) (sd1 m c t).dqg) (sd0 m c t).dqg)

/-- The bias' gradient of block `t`. -/
def blkB : FVec Ideal S32x256x128 .f32 := (toB0 (toB1 (toB2 (toB3 (sd3 m c t).ds) (sd2 m c t).ds) (sd1 m c t).ds) (sd0 m c t).ds)

/-- The sinks' gradient of block `t`. -/
def blkS : FVec Ideal S1x32 .f32 := (toS0 (toS1 (toS2 (toS3 (sd3 m c t).dcol) (sd2 m c t).dcol) (sd1 m c t).dcol) (sd0 m c t).dcol)

theorem out8_A (h : t.val % 32 = 0) : (outsAt0 m c t.1 t.2).1 = (truncf .bf16 (blkQ m c t) bitsLt_bf16_f32 : FVec Ideal S128x2048 .bf16) := by
  rw [outsAt0_A m c t h]; frame_out; rfl

theorem out9_A (h : t.val % 32 = 0) : (outsAt0 m c t.1 t.2).2.1 = toKP (sd0 m c t).dk (sd1 m c t).dk (sd2 m c t).dk (sd3 m c t).dk := by
  rw [outsAt0_A m c t h]; frame_out; rfl

theorem out10_A (h : t.val % 32 = 0) : (outsAt0 m c t.1 t.2).2.2.1 = toKC (sd0 m c t).dk (sd1 m c t).dk (sd2 m c t).dk (sd3 m c t).dk := by
  rw [outsAt0_A m c t h]; frame_out; rfl

theorem out11_A (h : t.val % 32 = 0) : (outsAt0 m c t.1 t.2).2.2.2.1 = toVP (sd0 m c t).dv (sd1 m c t).dv (sd2 m c t).dv (sd3 m c t).dv := by
  rw [outsAt0_A m c t h]; frame_out; rfl

theorem out12_A (h : t.val % 32 = 0) : (outsAt0 m c t.1 t.2).2.2.2.2.1 = toVC (sd0 m c t).dv (sd1 m c t).dv (sd2 m c t).dv (sd3 m c t).dv := by
  rw [outsAt0_A m c t h]; frame_out; rfl

theorem out8_B (h : ¬ t.val % 32 = 0) : (outsAt0 m c t.1 t.2).1 = (truncf .bf16 (blkQ m c t) bitsLt_bf16_f32 : FVec Ideal S128x2048 .bf16) := by
  rw [outsAt0_B m c t h]; frame_out; rfl

theorem out9_B (h : ¬ t.val % 32 = 0) : (outsAt0 m c t.1 t.2).2.1 = toKP (sd0 m c t).dk (sd1 m c t).dk (sd2 m c t).dk (sd3 m c t).dk := by
  rw [outsAt0_B m c t h]; frame_out; rfl

theorem out10_B (h : ¬ t.val % 32 = 0) : (outsAt0 m c t.1 t.2).2.2.1 = toKC (sd0 m c t).dk (sd1 m c t).dk (sd2 m c t).dk (sd3 m c t).dk := by
  rw [outsAt0_B m c t h]; frame_out; rfl

theorem out11_B (h : ¬ t.val % 32 = 0) : (outsAt0 m c t.1 t.2).2.2.2.1 = toVP (sd0 m c t).dv (sd1 m c t).dv (sd2 m c t).dv (sd3 m c t).dv := by
  rw [outsAt0_B m c t h]; frame_out; rfl

theorem out12_B (h : ¬ t.val % 32 = 0) : (outsAt0 m c t.1 t.2).2.2.2.2.1 = toVC (sd0 m c t).dv (sd1 m c t).dv (sd2 m c t).dv (sd3 m c t).dv := by
  rw [outsAt0_B m c t h]; frame_out; rfl

theorem out13_A (h : t.val % 32 = 0) :
    (outsAt0 m c t.1 t.2).2.2.2.2.2.1 = (addf (broadcast S32x256x128 (Scalar.ofBits .f32 0x00000000#32 : Ideal .f32)) (blkB m c t) : FVec Ideal S32x256x128 .f32) := by
  rw [outsAt0_A m c t h]; frame_out; rfl

theorem out13_B (h : ¬ t.val % 32 = 0) :
    (outsAt0 m c t.1 t.2).2.2.2.2.2.1 = (addf (shapeCast S32x256x128 ((outsAt0 m c (t.val - 1) (Nat.lt_of_le_of_lt (Nat.sub_le _ _) t.2)).2.2.2.2.2.1) shapeCasts_S32x256x128_S32x256x128) (blkB m c t) : FVec Ideal S32x256x128 .f32) := by
  rw [outsAt0_B m c t h]; frame_out; rfl

theorem out14_A (h : t.val % 32 = 0) :
    (outsAt0 m c t.1 t.2).2.2.2.2.2.2 = (addf (broadcast S1x32 (Scalar.ofBits .f32 0x00000000#32 : Ideal .f32)) (blkS m c t) : FVec Ideal S1x32 .f32) := by
  rw [outsAt0_A m c t h]; frame_out; rfl

theorem out14_B (h : ¬ t.val % 32 = 0) :
    (outsAt0 m c t.1 t.2).2.2.2.2.2.2 = (addf (shapeCast S1x32 ((outsAt0 m c (t.val - 1) (Nat.lt_of_le_of_lt (Nat.sub_le _ _) t.2)).2.2.2.2.2.2) shapeCasts_S1x32_S1x32) (blkS m c t) : FVec Ideal S1x32 .f32) := by
  rw [outsAt0_B m c t h]; frame_out; rfl

end Cert.KernelIdeal.Attn
-- ==== Proof.Eye.lean ====
module

public import proofs.«01_k».proof.Proof.Inputs
public import Idealize.ShloMosaic.Lib.Pointwise

@[expose] public section

noncomputable section

namespace Cert.KernelIdeal.Attn

open Cert.KernelIdeal Cert.KernelIdeal.Gen Idealize.ShloMosaic Idealize.SL.Sem

theorem eye_float (b : Bool) : FloatOps.sitofp (F := Ideal) FTy.f32 (BitVec.setWidth 32 (BitVec.ofBool b)) = (if b then 1 else 0 : EReal) := by
  cases b
  · show (((0#32 : BitVec 32).toInt : ℝ) : EReal) = 0
    norm_num
  · show (((1#32 : BitVec 32).toInt : ℝ) : EReal) = 1
    norm_num

theorem eye_at (a b : Fin 128) : eye (ix2 a b) = if a = b then 1 else 0 := by
  pointwise [eye]
  have h : IntOp.cmpi CmpIPredicate.eq (BitVec.ofNat 32 a.1) (BitVec.ofNat 32 b.1) = BitVec.ofBool (decide (a = b)) := by
    show BitVec.ofBool (BitVec.ofNat 32 a.1 == BitVec.ofNat 32 b.1) = _
    refine congrArg BitVec.ofBool ?_
    rw [Bool.eq_iff_iff, beq_iff_eq, decide_eq_true_iff, ← BitVec.toNat_inj, BitVec.toNat_ofNat, BitVec.toNat_ofNat, Fin.ext_iff]
    omega
  rw [h, eye_float]
  simp

end Cert.KernelIdeal.Attn
-- ==== Proof.InputsRead.lean ====
module

public import proofs.«01_k».proof.Proof.Eye
public import Idealize.ShloMosaic.Lib.Pointwise

@[expose] public section

set_option maxRecDepth 16384
set_option maxHeartbeats 2000000

noncomputable section

namespace Cert.KernelIdeal.Attn

open Cert.KernelIdeal Cert.KernelIdeal.Gen Idealize.ShloMosaic Idealize.SL.Sem

/-- Column `r` of query head `g` of a group. -/
def at8 (g : Fin 8) (r : Fin 128) : Fin 1024 := ⟨g.1 * 128 + r.1, by omega⟩
/-- Query head `g` of group `j`. -/
def hd (j : Fin 4) (g : Fin 8) : Fin 32 := ⟨j.1 * 8 + g.1, by omega⟩
/-- Column `e` of query head `g` of group `j`. -/
def col (j : Fin 4) (g : Fin 8) (e : Fin 64) : Fin 2048 := ⟨j.1 * 512 + g.1 * 64 + e.1, by omega⟩
/-- Column `e` of key head `j`. -/
def kcol (j : Fin 4) (e : Fin 64) : Fin 256 := ⟨j.1 * 64 + e.1, by omega⟩

theorem sum_eye (f : Fin 128 → EReal) (b : Fin 128) : ∑ x, f x * eye (ix2 x b) = f b := by
  rw [Finset.sum_eq_single b (fun x _ h => by rw [eye_at, if_neg h, mul_zero]) (fun h => absurd (Finset.mem_univ b) h),
    eye_at, if_pos rfl, mul_one]

theorem keys0_at (a b : FVec Ideal S128x256 .f32) (k : Fin 256) (d : Fin 64) : keys0 a b (ix2 k d)
    = if h : k.1 < 128 then a (ix2 ⟨k.1, h⟩ (kcol 0 d)) else b (ix2 ⟨k.1 - 128, by omega⟩ (kcol 0 d)) := by
  pointwise [keys0, kcol]
theorem quer0_at (a : FVec Ideal S128x2048 .f32) (g : Fin 8) (r : Fin 128) (d : Fin 64) :
    quer0 a (ix2 (at8 g r) d) = a (ix2 r (col 0 g d)) := by
  pointwise [quer0, at8]
  repeat' (first | (exfalso; omega) | split)
  all_goals exact congrArg a ((ix2_inj ..).2 ⟨Fin.ext (by simp only []; omega), Fin.ext (by simp [col]; omega)⟩)
theorem bias0_at (a : FVec Ideal S32x256x128 .f32) (g : Fin 8) (r : Fin 128) (k : Fin 256) :
    bias0 a (ix2 k (at8 g r)) = a (ix3 (hd 0 g) k r) := by
  pointwise [bias0, at8]
  repeat' (first | (exfalso; omega) | split)
  all_goals exact congrArg a ((ix3_inj ..).2 ⟨Fin.ext (by simp [hd]; omega), rfl, Fin.ext (by simp only []; omega)⟩)
theorem sink0_at (a : FVec Ideal S1x32 .f32) (g : Fin 8) (r : Fin 128) :
    sink0 a (ix2 0 (at8 g r)) = a (ix2 0 (hd 0 g)) := by
  pointwise [sink0, at8]
  repeat' (first | (exfalso; omega) | split)
  all_goals exact congrArg a ((ix2_inj ..).2 ⟨rfl, Fin.ext (by simp [hd]; omega)⟩)
theorem dout0_at (a : FVec Ideal S128x2048 .f32) (g : Fin 8) (r : Fin 128) (d : Fin 64) :
    dout0 a (ix2 d (at8 g r)) = a (ix2 r (col 0 g d)) := by
  pointwise [dout0, at8]
  repeat' (first | (exfalso; omega) | split)
  all_goals simp only [add_zero, zero_add]
  all_goals rw [sum_eye (fun x => a (ix2 x _))]
  all_goals exact congrArg a ((ix2_inj ..).2 ⟨Fin.ext (by simp only []; omega), Fin.ext (by simp [col]; omega)⟩)
theorem keys1_at (a b : FVec Ideal S128x256 .f32) (k : Fin 256) (d : Fin 64) : keys1 a b (ix2 k d)
    = if h : k.1 < 128 then a (ix2 ⟨k.1, h⟩ (kcol 1 d)) else b (ix2 ⟨k.1 - 128, by omega⟩ (kcol 1 d)) := by
  pointwise [keys1, kcol]
theorem quer1_at (a : FVec Ideal S128x2048 .f32) (g : Fin 8) (r : Fin 128) (d : Fin 64) :
    quer1 a (ix2 (at8 g r) d) = a (ix2 r (col 1 g d)) := by
  pointwise [quer1, at8]
  repeat' (first | (exfalso; omega) | split)
  all_goals exact congrArg a ((ix2_inj ..).2 ⟨Fin.ext (by simp only []; omega), Fin.ext (by simp [col]; omega)⟩)
theorem bias1_at (a : FVec Ideal S32x256x128 .f32) (g : Fin 8) (r : Fin 128) (k : Fin 256) :
    bias1 a (ix2 k (at8 g r)) = a (ix3 (hd 1 g) k r) := by
  pointwise [bias1, at8]
  repeat' (first | (exfalso; omega) | split)
  all_goals exact congrArg a ((ix3_inj ..).2 ⟨Fin.ext (by simp [hd]; omega), rfl, Fin.ext (by simp only []; omega)⟩)
theorem sink1_at (a : FVec Ideal S1x32 .f32) (g : Fin 8) (r : Fin 128) :
    sink1 a (ix2 0 (at8 g r)) = a (ix2 0 (hd 1 g)) := by
  pointwise [sink1, at8]
  repeat' (first | (exfalso; omega) | split)
  all_goals exact congrArg a ((ix2_inj ..).2 ⟨rfl, Fin.ext (by simp [hd]; omega)⟩)
theorem dout1_at (a : FVec Ideal S128x2048 .f32) (g : Fin 8) (r : Fin 128) (d : Fin 64) :
    dout1 a (ix2 d (at8 g r)) = a (ix2 r (col 1 g d)) := by
  pointwise [dout1, at8]
  repeat' (first | (exfalso; omega) | split)
  all_goals simp only [add_zero, zero_add]
  all_goals rw [sum_eye (fun x => a (ix2 x _))]
  all_goals exact congrArg a ((ix2_inj ..).2 ⟨Fin.ext (by simp only []; omega), Fin.ext (by simp [col]; omega)⟩)
theorem keys2_at (a b : FVec Ideal S128x256 .f32) (k : Fin 256) (d : Fin 64) : keys2 a b (ix2 k d)
    = if h : k.1 < 128 then a (ix2 ⟨k.1, h⟩ (kcol 2 d)) else b (ix2 ⟨k.1 - 128, by omega⟩ (kcol 2 d)) := by
  pointwise [keys2, kcol]
theorem quer2_at (a : FVec Ideal S128x2048 .f32) (g : Fin 8) (r : Fin 128) (d : Fin 64) :
    quer2 a (ix2 (at8 g r) d) = a (ix2 r (col 2 g d)) := by
  pointwise [quer2, at8]
  repeat' (first | (exfalso; omega) | split)
  all_goals exact congrArg a ((ix2_inj ..).2 ⟨Fin.ext (by simp only []; omega), Fin.ext (by simp [col]; omega)⟩)
theorem bias2_at (a : FVec Ideal S32x256x128 .f32) (g : Fin 8) (r : Fin 128) (k : Fin 256) :
    bias2 a (ix2 k (at8 g r)) = a (ix3 (hd 2 g) k r) := by
  pointwise [bias2, at8]
  repeat' (first | (exfalso; omega) | split)
  all_goals exact congrArg a ((ix3_inj ..).2 ⟨Fin.ext (by simp [hd]; omega), rfl, Fin.ext (by simp only []; omega)⟩)
theorem sink2_at (a : FVec Ideal S1x32 .f32) (g : Fin 8) (r : Fin 128) :
    sink2 a (ix2 0 (at8 g r)) = a (ix2 0 (hd 2 g)) := by
  pointwise [sink2, at8]
  repeat' (first | (exfalso; omega) | split)
  all_goals exact congrArg a ((ix2_inj ..).2 ⟨rfl, Fin.ext (by simp [hd]; omega)⟩)
theorem dout2_at (a : FVec Ideal S128x2048 .f32) (g : Fin 8) (r : Fin 128) (d : Fin 64) :
    dout2 a (ix2 d (at8 g r)) = a (ix2 r (col 2 g d)) := by
  pointwise [dout2, at8]
  repeat' (first | (exfalso; omega) | split)
  all_goals simp only [add_zero, zero_add]
  all_goals rw [sum_eye (fun x => a (ix2 x _))]
  all_goals exact congrArg a ((ix2_inj ..).2 ⟨Fin.ext (by simp only []; omega), Fin.ext (by simp [col]; omega)⟩)
theorem keys3_at (a b : FVec Ideal S128x256 .f32) (k : Fin 256) (d : Fin 64) : keys3 a b (ix2 k d)
    = if h : k.1 < 128 then a (ix2 ⟨k.1, h⟩ (kcol 3 d)) else b (ix2 ⟨k.1 - 128, by omega⟩ (kcol 3 d)) := by
  pointwise [keys3, kcol]
theorem quer3_at (a : FVec Ideal S128x2048 .f32) (g : Fin 8) (r : Fin 128) (d : Fin 64) :
    quer3 a (ix2 (at8 g r) d) = a (ix2 r (col 3 g d)) := by
  pointwise [quer3, at8]
  repeat' (first | (exfalso; omega) | split)
  all_goals exact congrArg a ((ix2_inj ..).2 ⟨Fin.ext (by simp only []; omega), Fin.ext (by simp [col]; omega)⟩)
theorem bias3_at (a : FVec Ideal S32x256x128 .f32) (g : Fin 8) (r : Fin 128) (k : Fin 256) :
    bias3 a (ix2 k (at8 g r)) = a (ix3 (hd 3 g) k r) := by
  pointwise [bias3, at8]
  repeat' (first | (exfalso; omega) | split)
  all_goals exact congrArg a ((ix3_inj ..).2 ⟨Fin.ext (by simp [hd]; omega), rfl, Fin.ext (by simp only []; omega)⟩)
theorem sink3_at (a : FVec Ideal S1x32 .f32) (g : Fin 8) (r : Fin 128) :
    sink3 a (ix2 0 (at8 g r)) = a (ix2 0 (hd 3 g)) := by
  pointwise [sink3, at8]
  repeat' (first | (exfalso; omega) | split)
  all_goals exact congrArg a ((ix2_inj ..).2 ⟨rfl, Fin.ext (by simp [hd]; omega)⟩)
theorem dout3_at (a : FVec Ideal S128x2048 .f32) (g : Fin 8) (r : Fin 128) (d : Fin 64) :
    dout3 a (ix2 d (at8 g r)) = a (ix2 r (col 3 g d)) := by
  pointwise [dout3, at8]
  repeat' (first | (exfalso; omega) | split)
  all_goals simp only [add_zero, zero_add]
  all_goals rw [sum_eye (fun x => a (ix2 x _))]
  all_goals exact congrArg a ((ix2_inj ..).2 ⟨Fin.ext (by simp only []; omega), Fin.ext (by simp [col]; omega)⟩)

end Cert.KernelIdeal.Attn
-- ==== Proof.WinRead.lean ====
module

public import proofs.«01_k».proof.Proof.InputsRead
public import proofs.«01_k».proof.Proof.Gen.KernelIdeal.Value
public import Idealize.ShloMosaic.Lib.Pipeline.ValueKit

@[expose] public section

set_option maxRecDepth 16384
set_option maxHeartbeats 2000000

noncomputable section

/-! The kernel's input blocks, read at an index. -/

namespace Cert.KernelIdeal.Attn

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- Row `q` of block `n`. -/
def row (n : Fin 32) (q : Fin 128) : Fin 4096 := ⟨n.1 * 128 + q.1, by omega⟩
/-- Row `q` of the block before block `n`, or of the first. -/
def rowP (n : Fin 32) (q : Fin 128) : Fin 4096 := ⟨(n.1 - 1) * 128 + q.1, by omega⟩
/-- The grid point's block. -/
def pt (t : Fin cfg0.N) : Fin 32 := ⟨t.1, lt_of_lt_of_eq t.2 (by decide)⟩

theorem idx : ∀ t : Fin cfg0.N, win0_0.index t = ![t.val, 0] ∧ win0_1.index t = ![t.val - 1, 0] ∧ win0_2.index t = ![t.val, 0]
    ∧ win0_3.index t = ![t.val - 1, 0] ∧ win0_4.index t = ![t.val, 0] ∧ win0_5.index t = ![0, 0, 0] ∧ win0_6.index t = ![0, 0]
    ∧ win0_7.index t = ![t.val, 1] :=
  (by decide +kernel : ∀ t : Fin grid0.N, _)

theorem coords_at : ∀ t : Fin cfg0.N, (grid0.coords t 0).val = t.val := (by decide +kernel : ∀ t : Fin grid0.N, _)

theorem blk0 (r : Fin 128) (x : Fin 2048) : @Eq EReal (iblk m c 0 t (ix2 r x)) (m ((c : Thread nD τ).loc main_arg0) (ix2 (row (pt t) r) x)) := by
  blk_ext [iblk, V, idx t, row, pt]
theorem blk1 (r : Fin 128) (x : Fin 256) : @Eq EReal (iblk m c 1 t (ix2 r x)) (m ((c : Thread nD τ).loc main_arg1) (ix2 (rowP (pt t) r) x)) := by
  blk_ext [iblk, V, idx t, rowP, pt]
theorem blk2 (r : Fin 128) (x : Fin 256) : @Eq EReal (iblk m c 2 t (ix2 r x)) (m ((c : Thread nD τ).loc main_arg1) (ix2 (row (pt t) r) x)) := by
  blk_ext [iblk, V, idx t, row, pt]
theorem blk3 (r : Fin 128) (x : Fin 256) : @Eq EReal (iblk m c 3 t (ix2 r x)) (m ((c : Thread nD τ).loc main_arg2) (ix2 (rowP (pt t) r) x)) := by
  blk_ext [iblk, V, idx t, rowP, pt]
theorem blk4 (r : Fin 128) (x : Fin 256) : @Eq EReal (iblk m c 4 t (ix2 r x)) (m ((c : Thread nD τ).loc main_arg2) (ix2 (row (pt t) r) x)) := by
  blk_ext [iblk, V, idx t, row, pt]
theorem blk5 (h : Fin 32) (k : Fin 256) (r : Fin 128) : @Eq EReal (iblk m c 5 t (ix3 h k r)) (V m c main_v37 (ix3 h k r)) := by
  blk_ext [iblk, idx t]
theorem blk6 (h : Fin 32) : @Eq EReal (iblk m c 6 t (ix2 0 h)) (m ((c : Thread nD τ).loc main_arg4) (ix2 0 h)) := by
  blk_ext [iblk, V, idx t]
theorem blk7 (r : Fin 128) (x : Fin 2048) : @Eq EReal (iblk m c 7 t (ix2 r x)) (m ((c : Thread nD τ).loc main_arg5) (ix2 (row (pt t) r) ⟨2048 + x.1, by omega⟩)) := by
  blk_ext [iblk, V, idx t, row, pt]

end Cert.KernelIdeal.Attn
-- ==== Proof.Column.lean ====
module

public import Idealize.ShloMosaic.Lib.Pointwise

@[expose] public section

noncomputable section

/-! The gradient of one query's softmax with a sink, over 256 keys, on extended reals: `s` the masked scores, `k` the
sink's score, `p` the gradient of the probabilities, `w` which keys are seen. -/

namespace SoftCol

open Idealize.ShloMosaic

variable (w : Fin 256 → BitVec 1) (s : Fin 256 → EReal) (k : EReal) (p : Fin 256 → EReal)

/-- The largest score. -/
def top : EReal := Finset.univ.fold max ⊥ s
/-- One at a largest score. -/
def hit (x : Fin 256) : EReal := if s x = top s then 1 else 0
/-- What is subtracted before the exponential. -/
def big : EReal := max (top s) k
/-- Who gets the gradient of `max a b`: the part that goes to `a`. -/
def part (a b : EReal) : EReal := if b < a then 1 else if a = b then Ideal.ofBits .f32 0x3F000000#32 else 0
/-- The exponentials. -/
def ex (x : Fin 256) : EReal := Ideal.exp (s x - big s k)
/-- The sink's exponential. -/
def exS : EReal := Ideal.exp (k - big s k)
/-- The denominator. -/
def den : EReal := (∑ x, ex s k x) + exS s k
/-- The probabilities. -/
def pr (x : Fin 256) : EReal := Ideal.div (ex s k x) (den s k)
/-- The denominator's gradient. -/
def c : EReal := -(∑ x, p x * Ideal.div 1 (den s k * den s k) * ex s k x)
/-- The sink's part of it. -/
def gS : EReal := c s k p * exS s k
/-- The gradient of the exponents. -/
def dex (x : Fin 256) : EReal := (Ideal.div (p x) (den s k) + c s k p) * ex s k x
/-- The gradient of what was subtracted. -/
def dmax : EReal := -(gS s k p) + ∑ x, -(dex s k p x)
/-- The sink's gradient. -/
def toSink : EReal := dmax s k p * part k (top s)
/-- What each largest score gets. -/
def share : EReal := Ideal.div (dmax s k p * part (top s) k) (∑ x, hit s x)
/-- The scores' gradient. -/
def ds (x : Fin 256) : EReal := Scalar.select (w x) (dex s k p x + share s k p * hit s x) 0

variable {w s k p} {p' : Fin 256 → EReal}

theorem bot_sub' (a : EReal) : (⊥ : EReal) - a = ⊥ := by rw [sub_eq_add_neg]; exact EReal.bot_add _

theorem ex_bot {x : Fin 256} (h : s x = ⊥) : ex s k x = 0 := by
  rw [ex, h, bot_sub']; exact Ideal.exp_bot

/-- A key that is not seen takes no part, so its probability's gradient does not matter. -/
theorem c_congr (h : ∀ x, s x = ⊥ ∨ p x = p' x) : c s k p = c s k p' := by
  refine congrArg Neg.neg (Finset.sum_congr rfl fun x _ => ?_)
  rcases h x with h | h
  · rw [ex_bot h, mul_zero, mul_zero]
  · rw [h]

theorem dex_congr (h : ∀ x, s x = ⊥ ∨ p x = p' x) (x : Fin 256) : dex s k p x = dex s k p' x := by
  rcases h x with h' | h'
  · rw [dex, dex, ex_bot h', mul_zero, mul_zero]
  · rw [dex, dex, h', c_congr h]

theorem gS_congr (h : ∀ x, s x = ⊥ ∨ p x = p' x) : gS s k p = gS s k p' := by rw [gS, gS, c_congr h]

theorem dmax_congr (h : ∀ x, s x = ⊥ ∨ p x = p' x) : dmax s k p = dmax s k p' := by
  rw [dmax, dmax, gS_congr h]
  exact congrArg _ (Finset.sum_congr rfl fun x _ => by rw [dex_congr h])

theorem toSink_congr (h : ∀ x, s x = ⊥ ∨ p x = p' x) : toSink s k p = toSink s k p' := by
  rw [toSink, toSink, dmax_congr h]

theorem ds_congr (h : ∀ x, s x = ⊥ ∨ p x = p' x) (x : Fin 256) : ds w s k p x = ds w s k p' x := by
  rw [ds, ds, dex_congr h, share, share, dmax_congr h]

end SoftCol
-- ==== Proof.RefReduce.lean ====
module

public import proofs.«01_k».proof.Proof.Column
public import proofs.«01_k».proof.Proof.Gen.ReferenceIdeal.Run
public import Idealize.ShloMosaic.Lib.Pointwise

@[expose] public section

set_option maxRecDepth 8192

noncomputable section

/-! The reference's reductions, read at an index. -/

namespace Cert.ReferenceIdeal.Attn

open Cert.ReferenceIdeal Idealize.ShloMosaic Idealize.SL.Sem

theorem scores_fiber (h : S1x32x4x8x128x256.ReducesTo [5] S1x32x4x8x128) (a : Fin 1) (b : Fin 32) (c : Fin 4) (d : Fin 8) (e : Fin 128) (i : S1x32x4x8x128x256.Idx) :
    h.drop i = ix5 a b c d e ↔ ∃ k : Fin 256, ix6 a b c d e k = i := by
  constructor
  · intro e
    refine ⟨i 5, ?_⟩
    funext x; apply Fin.ext
    match x with
    | ⟨0, _⟩ => exact (congrArg Fin.val (congrFun e ⟨0, by decide⟩)).symm
    | ⟨1, _⟩ => exact (congrArg Fin.val (congrFun e ⟨1, by decide⟩)).symm
    | ⟨2, _⟩ => exact (congrArg Fin.val (congrFun e ⟨2, by decide⟩)).symm
    | ⟨3, _⟩ => exact (congrArg Fin.val (congrFun e ⟨3, by decide⟩)).symm
    | ⟨4, _⟩ => exact (congrArg Fin.val (congrFun e ⟨4, by decide⟩)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

theorem scores_sum (h : S1x32x4x8x128x256.ReducesTo [5] S1x32x4x8x128) (v : S1x32x4x8x128x256.Idx → EReal) (z : EReal) (a : Fin 1) (b : Fin 32) (c : Fin 4) (d : Fin 8) (e : Fin 128) :
    Ideal.hostReduceAdd h v z (ix5 a b c d e) = z + ∑ k, v (ix6 a b c d e k) :=
  congrArg (z + ·) ((Finset.sum_filter_eq_sum_of_fiber _ (fun k : Fin 256 => ((ix6 a b c d e k) : S1x32x4x8x128x256.Idx)) (fun _ _ e => congrFun e 5) (scores_fiber h a b c d e) v))

theorem scores_max (h : S1x32x4x8x128x256.ReducesTo [5] S1x32x4x8x128) (v : S1x32x4x8x128x256.Idx → EReal) (z : EReal) (a : Fin 1) (b : Fin 32) (c : Fin 4) (d : Fin 8) (e : Fin 128) :
    (Finset.univ.filter fun i => h.drop i = ix5 a b c d e).fold max z v = Finset.univ.fold max z fun k => v (ix6 a b c d e k) :=
  Finset.fold_filter_eq_fold_of_fiber _ _ (fun k : Fin 256 => ((ix6 a b c d e k) : S1x32x4x8x128x256.Idx)) (fun _ _ e => congrFun e 5) (scores_fiber h a b c d e) z v

theorem lone_fiber (h : S1x32x4x8x128x1.ReducesTo [0, 5] S32x4x8x128) (b : Fin 32) (c : Fin 4) (d : Fin 8) (e : Fin 128) (i : S1x32x4x8x128x1.Idx) :
    h.drop i = ix4 b c d e ↔ ∃ k : Fin 1, ix6 0 b c d e 0 = i := by
  constructor
  · intro e
    refine ⟨0, ?_⟩
    funext x; apply Fin.ext
    match x with
    | ⟨0, _⟩ => exact (Nat.lt_one_iff.mp (i 0).isLt).symm
    | ⟨1, _⟩ => exact (congrArg Fin.val (congrFun e ⟨0, by decide⟩)).symm
    | ⟨2, _⟩ => exact (congrArg Fin.val (congrFun e ⟨1, by decide⟩)).symm
    | ⟨3, _⟩ => exact (congrArg Fin.val (congrFun e ⟨2, by decide⟩)).symm
    | ⟨4, _⟩ => exact (congrArg Fin.val (congrFun e ⟨3, by decide⟩)).symm
    | ⟨5, _⟩ => exact (Nat.lt_one_iff.mp (i 5).isLt).symm
  · rintro ⟨k, rfl⟩
    funext x
    apply Fin.ext
    match x with
    | ⟨0, _⟩ => rfl
    | ⟨1, _⟩ => rfl
    | ⟨2, _⟩ => rfl
    | ⟨3, _⟩ => rfl

theorem lone_sum (h : S1x32x4x8x128x1.ReducesTo [0, 5] S32x4x8x128) (v : S1x32x4x8x128x1.Idx → EReal) (z : EReal) (b : Fin 32) (c : Fin 4) (d : Fin 8) (e : Fin 128) :
    Ideal.hostReduceAdd h v z (ix4 b c d e) = z + v (ix6 0 b c d e 0) :=
  congrArg (z + ·) ((Finset.sum_filter_eq_sum_of_fiber _ (fun k : Fin 1 => ((ix6 0 b c d e 0) : S1x32x4x8x128x1.Idx)) (fun _ _ _ => Subsingleton.elim _ _) (lone_fiber h b c d e) v).trans (Fin.sum_univ_one _))

theorem blocks_fiber (h : S1x32x4x8x128x256.ReducesTo [1] S1x4x8x128x256) (a : Fin 1) (c : Fin 4) (d : Fin 8) (e : Fin 128) (f : Fin 256) (i : S1x32x4x8x128x256.Idx) :
    h.drop i = ix5 a c d e f ↔ ∃ k : Fin 32, ix6 a k c d e f = i := by
  constructor
  · intro e
    refine ⟨i 1, ?_⟩
    funext x; apply Fin.ext
    match x with
    | ⟨0, _⟩ => exact (congrArg Fin.val (congrFun e ⟨0, by decide⟩)).symm
    | ⟨1, _⟩ => rfl
    | ⟨2, _⟩ => exact (congrArg Fin.val (congrFun e ⟨1, by decide⟩)).symm
    | ⟨3, _⟩ => exact (congrArg Fin.val (congrFun e ⟨2, by decide⟩)).symm
    | ⟨4, _⟩ => exact (congrArg Fin.val (congrFun e ⟨3, by decide⟩)).symm
    | ⟨5, _⟩ => exact (congrArg Fin.val (congrFun e ⟨4, by decide⟩)).symm
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

theorem blocks_sum (h : S1x32x4x8x128x256.ReducesTo [1] S1x4x8x128x256) (v : S1x32x4x8x128x256.Idx → EReal) (z : EReal) (a : Fin 1) (c : Fin 4) (d : Fin 8) (e : Fin 128) (f : Fin 256) :
    Ideal.hostReduceAdd h v z (ix5 a c d e f) = z + ∑ k, v (ix6 a k c d e f) :=
  congrArg (z + ·) ((Finset.sum_filter_eq_sum_of_fiber _ (fun k : Fin 32 => ((ix6 a k c d e f) : S1x32x4x8x128x256.Idx)) (fun _ _ e => congrFun e 1) (blocks_fiber h a c d e f) v))

theorem keep_fiber (h : S1x1x4x8x128x256.ReducesTo [0, 1] S4x8x128x256) (c : Fin 4) (d : Fin 8) (e : Fin 128) (f : Fin 256) (i : S1x1x4x8x128x256.Idx) :
    h.drop i = ix4 c d e f ↔ ∃ k : Fin 1, ix6 0 0 c d e f = i := by
  constructor
  · intro e
    refine ⟨0, ?_⟩
    funext x; apply Fin.ext
    match x with
    | ⟨0, _⟩ => exact (Nat.lt_one_iff.mp (i 0).isLt).symm
    | ⟨1, _⟩ => exact (Nat.lt_one_iff.mp (i 1).isLt).symm
    | ⟨2, _⟩ => exact (congrArg Fin.val (congrFun e ⟨0, by decide⟩)).symm
    | ⟨3, _⟩ => exact (congrArg Fin.val (congrFun e ⟨1, by decide⟩)).symm
    | ⟨4, _⟩ => exact (congrArg Fin.val (congrFun e ⟨2, by decide⟩)).symm
    | ⟨5, _⟩ => exact (congrArg Fin.val (congrFun e ⟨3, by decide⟩)).symm
  · rintro ⟨k, rfl⟩
    funext x
    apply Fin.ext
    match x with
    | ⟨0, _⟩ => rfl
    | ⟨1, _⟩ => rfl
    | ⟨2, _⟩ => rfl
    | ⟨3, _⟩ => rfl

theorem keep_sum (h : S1x1x4x8x128x256.ReducesTo [0, 1] S4x8x128x256) (v : S1x1x4x8x128x256.Idx → EReal) (z : EReal) (c : Fin 4) (d : Fin 8) (e : Fin 128) (f : Fin 256) :
    Ideal.hostReduceAdd h v z (ix4 c d e f) = z + v (ix6 0 0 c d e f) :=
  congrArg (z + ·) ((Finset.sum_filter_eq_sum_of_fiber _ (fun k : Fin 1 => ((ix6 0 0 c d e f) : S1x1x4x8x128x256.Idx)) (fun _ _ _ => Subsingleton.elim _ _) (keep_fiber h c d e f) v).trans (Fin.sum_univ_one _))

theorem rows_fiber (h : S1x32x4x8x128x1.ReducesTo [1, 4] S1x4x8x1) (a : Fin 1) (c : Fin 4) (d : Fin 8) (f : Fin 1) (i : S1x32x4x8x128x1.Idx) :
    h.drop i = ix4 a c d f ↔ ∃ k : Fin 32 × Fin 128, ix6 a k.1 c d k.2 f = i := by
  constructor
  · intro e
    refine ⟨(i 1, i 4), ?_⟩
    funext x; apply Fin.ext
    match x with
    | ⟨0, _⟩ => exact (congrArg Fin.val (congrFun e ⟨0, by decide⟩)).symm
    | ⟨1, _⟩ => rfl
    | ⟨2, _⟩ => exact (congrArg Fin.val (congrFun e ⟨1, by decide⟩)).symm
    | ⟨3, _⟩ => exact (congrArg Fin.val (congrFun e ⟨2, by decide⟩)).symm
    | ⟨4, _⟩ => rfl
    | ⟨5, _⟩ => exact (congrArg Fin.val (congrFun e ⟨3, by decide⟩)).symm
  · rintro ⟨k, rfl⟩
    funext x
    apply Fin.ext
    match x with
    | ⟨0, _⟩ => rfl
    | ⟨1, _⟩ => rfl
    | ⟨2, _⟩ => rfl
    | ⟨3, _⟩ => rfl

theorem rows_sum (h : S1x32x4x8x128x1.ReducesTo [1, 4] S1x4x8x1) (v : S1x32x4x8x128x1.Idx → EReal) (z : EReal) (a : Fin 1) (c : Fin 4) (d : Fin 8) (f : Fin 1) :
    Ideal.hostReduceAdd h v z (ix4 a c d f) = z + ∑ k : Fin 32 × Fin 128, v (ix6 a k.1 c d k.2 f) :=
  congrArg (z + ·) ((Finset.sum_filter_eq_sum_of_fiber _ (fun k : Fin 32 × Fin 128 => ((ix6 a k.1 c d k.2 f) : S1x32x4x8x128x1.Idx)) (fun _ _ e => Prod.ext (congrFun e 1) (congrFun e 4)) (rows_fiber h a c d f) v))

theorem heads_fiber (h : S1x1x4x8x1x1.ReducesTo [0, 1, 4, 5] S4x8) (c : Fin 4) (d : Fin 8) (i : S1x1x4x8x1x1.Idx) :
    h.drop i = ix2 c d ↔ ∃ k : Fin 1, ix6 0 0 c d 0 0 = i := by
  constructor
  · intro e
    refine ⟨0, ?_⟩
    funext x; apply Fin.ext
    match x with
    | ⟨0, _⟩ => exact (Nat.lt_one_iff.mp (i 0).isLt).symm
    | ⟨1, _⟩ => exact (Nat.lt_one_iff.mp (i 1).isLt).symm
    | ⟨2, _⟩ => exact (congrArg Fin.val (congrFun e ⟨0, by decide⟩)).symm
    | ⟨3, _⟩ => exact (congrArg Fin.val (congrFun e ⟨1, by decide⟩)).symm
    | ⟨4, _⟩ => exact (Nat.lt_one_iff.mp (i 4).isLt).symm
    | ⟨5, _⟩ => exact (Nat.lt_one_iff.mp (i 5).isLt).symm
  · rintro ⟨k, rfl⟩
    funext x
    apply Fin.ext
    match x with
    | ⟨0, _⟩ => rfl
    | ⟨1, _⟩ => rfl

theorem heads_sum (h : S1x1x4x8x1x1.ReducesTo [0, 1, 4, 5] S4x8) (v : S1x1x4x8x1x1.Idx → EReal) (z : EReal) (c : Fin 4) (d : Fin 8) :
    Ideal.hostReduceAdd h v z (ix2 c d) = z + v (ix6 0 0 c d 0 0) :=
  congrArg (z + ·) ((Finset.sum_filter_eq_sum_of_fiber _ (fun k : Fin 1 => ((ix6 0 0 c d 0 0) : S1x1x4x8x1x1.Idx)) (fun _ _ _ => Subsingleton.elim _ _) (heads_fiber h c d) v).trans (Fin.sum_univ_one _))

end Cert.ReferenceIdeal.Attn
-- ==== Proof.RefRead.lean ====
module

public import proofs.«01_k».proof.Proof.RefReduce
public import Idealize.ShloMosaic.Lib.Tactic.CleanTypes

@[expose] public section

set_option maxRecDepth 16384
set_option maxHeartbeats 2000000

noncomputable section

/-! The reference's terms, read at an index: one query's softmax gradient. -/

namespace Cert.ReferenceIdeal.Attn

open Cert.ReferenceIdeal Cert.ReferenceIdeal.Value Idealize.ShloMosaic Idealize.SL.Sem

variable (V : Valuation τ sig (Elt Ideal)) (n : Fin 32) (j : Fin 4) (g : Fin 8) (q : Fin 128) (k : Fin 256)

/-- The masked scores. -/
def sc (k : Fin 256) : EReal := res_main_v85_0 V (ix6 0 n j g q k)
/-- The sink's score. -/
def sk : EReal := res_main_v87 V (ix6 0 0 j g 0 0)
/-- The probabilities' gradient. -/
def dp (k : Fin 256) : EReal := res_main_v135 V (ix6 0 n j g q k)
/-- Which keys are seen. -/
def see (k : Fin 256) : BitVec 1 := res_main_v85_1 V (ix6 0 n j g q k)

theorem low : Ideal.ofBits .f32 0xFF800000#32 = ⊥ := by simp [Ideal.ofBits, Ideal.ieee]

theorem bit_float (b : Bool) : @Eq EReal (FloatOps.uitofp (F := Ideal) FTy.f32 (BitVec.ofBool b)) (if b then 1 else 0) := by
  cases b
  · show (((0#1 : BitVec 1).toNat : ℝ) : EReal) = 0
    norm_num
  · show (((1#1 : BitVec 1).toNat : ℝ) : EReal) = 1
    norm_num

theorem v88_at : @Eq EReal (res_main_v88 V (ix5 0 n j g q)) (SoftCol.top (sc V n j g q)) := by
  unfold res_main_v88; clean_types; pointwise
  rw [scores_max, low]
  rfl

theorem v92_at : @Eq EReal (res_main_v92 V (ix6 0 n j g q k)) (SoftCol.hit (sc V n j g q) k) := by
  unfold res_main_v92; clean_types; pointwise
  rw [v88_at, bit_float, SoftCol.hit]
  simp only [decide_eq_true_eq]
  rfl

theorem v94_at : @Eq EReal (res_main_v94 V (ix6 0 n j g q 0)) (SoftCol.top (sc V n j g q)) := by
  unfold res_main_v94; clean_types; pointwise
  exact v88_at V n j g q

theorem max_at (a b : FVec Ideal S1x32x4x8x128x1 .f32) (i : S1x32x4x8x128x1.Idx) :
    @Eq EReal (maximumf a b i) (max (a i) (b i)) := by pointwise

theorem toRow_at (a : FVec Ideal S1x1x4x8x1x1 .f32) : @Eq EReal (broadcastInDim S1x32x4x8x128x1 ![0, 1, 2, 3, 4, 5]
    Gen.bcast_S1x1x4x8x1x1_S1x32x4x8x128x1_0_1_2_3_4_5 a (ix6 0 n j g q 0)) (a (ix6 0 0 j g 0 0)) := by pointwise

theorem v96_max : @Eq EReal (res_main_v96 V (ix6 0 n j g q 0))
    (max (res_main_v94 V (ix6 0 n j g q 0)) (res_main_v87 V (ix6 0 0 j g 0 0))) :=
  (max_at _ _ _).trans (congrArg (max _) (toRow_at n j g q _))

theorem v96_at : @Eq EReal (res_main_v96 V (ix6 0 n j g q 0)) (SoftCol.big (sc V n j g q) (sk V j g)) := by
  rw [v96_max, v94_at, SoftCol.big, sk]

theorem v117_at : @Eq EReal (res_main_v117 V (ix6 0 n j g q k)) (SoftCol.ex (sc V n j g q) (sk V j g) k) := by
  unfold res_main_v117; clean_types; pointwise
  rw [v96_at]
  rfl

theorem v122_at : @Eq EReal (res_main_v122 V (ix6 0 n j g q 0)) (SoftCol.exS (sc V n j g q) (sk V j g)) := by
  unfold res_main_v122; clean_types; pointwise
  rw [v96_at]
  rfl

theorem v123_at : @Eq EReal (res_main_v123 V (ix6 0 n j g q 0)) (SoftCol.den (sc V n j g q) (sk V j g)) := by
  unfold res_main_v123; clean_types; pointwise
  rw [scores_sum, zero_add, v122_at]
  simp only [v117_at]
  rfl

theorem v125_at : @Eq EReal (res_main_v125 V (ix6 0 n j g q k)) (SoftCol.pr (sc V n j g q) (sk V j g) k) := by
  unfold res_main_v125; clean_types; pointwise
  rw [v117_at, v123_at]
  rfl

theorem v143_at : @Eq EReal (res_main_v143 V (ix6 0 n j g q 0)) (SoftCol.c (sc V n j g q) (sk V j g) (dp V n j g q)) := by
  unfold res_main_v143; clean_types; pointwise
  rw [scores_sum, zero_add]
  pointwise
  simp only [v117_at, v123_at]
  rfl

theorem v146_at : @Eq EReal (res_main_v146 V (ix6 0 n j g q 0)) (SoftCol.gS (sc V n j g q) (sk V j g) (dp V n j g q)) := by
  unfold res_main_v146; clean_types; pointwise
  rw [v143_at, v122_at]
  rfl

theorem v154_at : @Eq EReal (res_main_v154 V (ix6 0 n j g q k)) (SoftCol.dex (sc V n j g q) (sk V j g) (dp V n j g q) k) := by
  unfold res_main_v154; clean_types; pointwise
  rw [lone_sum, v143_at, v117_at, v123_at]
  simp only [zero_add]
  rfl

theorem v158_at : @Eq EReal (res_main_v158 V (ix6 0 n j g q 0)) (SoftCol.dmax (sc V n j g q) (sk V j g) (dp V n j g q)) := by
  unfold res_main_v158; clean_types; pointwise
  rw [scores_sum, zero_add, v146_at]
  pointwise
  simp only [v154_at]
  rfl

theorem scores_at (v85_1 : IVec S1x32x4x8x128x256 1) (v154 v92 : FVec Ideal S1x32x4x8x128x256 .f32)
    (v158 v94 : FVec Ideal S1x32x4x8x128x1 .f32) (v87 : FVec Ideal S1x1x4x8x1x1 .f32) :
    @Eq EReal ((select v85_1 (addf v154 (mulf (broadcastInDim S1x32x4x8x128x256 ![0, 1, 2, 3, 4] Gen.bcast_S1x32x4x8x128_S1x32x4x8x128x256_0_1_2_3_4 (Host.divf (broadcastInDim S1x32x4x8x128 ![1, 2, 3, 4] Gen.bcast_S32x4x8x128_S1x32x4x8x128_1_2_3_4 (Host.reduceAdd (mulf v158 (select (cmpf .ogt v94 (broadcastInDim S1x32x4x8x128x1 ![0, 1, 2, 3, 4, 5] Gen.bcast_S1x1x4x8x1x1_S1x32x4x8x128x1_0_1_2_3_4_5 v87)) (broadcastInDim S1x32x4x8x128x1 ![] Gen.bcast_S_S1x32x4x8x128x1 (constant S_ .f32 0x3F800000#32)) (select (cmpf .oeq v94 (broadcastInDim S1x32x4x8x128x1 ![0, 1, 2, 3, 4, 5] Gen.bcast_S1x1x4x8x1x1_S1x32x4x8x128x1_0_1_2_3_4_5 v87)) (broadcastInDim S1x32x4x8x128x1 ![] Gen.bcast_S_S1x32x4x8x128x1 (constant S_ .f32 0x3F000000#32)) (broadcastInDim S1x32x4x8x128x1 ![] Gen.bcast_S_S1x32x4x8x128x1 (constant S_ .f32 0x00000000#32))))) (constant S_ .f32 0x00000000#32) Gen.reducesTo_S1x32x4x8x128x1_S32x4x8x128_d0_5 Gen.h_S_)) (Host.reduceAdd v92 (constant S_ .f32 0x00000000#32) Gen.reducesTo_S1x32x4x8x128x256_S1x32x4x8x128_d5 Gen.h_S_))) v92)) (broadcastInDim S1x32x4x8x128x256 ![] Gen.bcast_S_S1x32x4x8x128x256 (constant S_ .f32 0x00000000#32)) : FVec Ideal S1x32x4x8x128x256 .f32) (ix6 0 n j g q k))
      (Scalar.select (v85_1 (ix6 0 n j g q k)) (v154 (ix6 0 n j g q k) + Ideal.div (v158 (ix6 0 n j g q 0)
        * SoftCol.part (v94 (ix6 0 n j g q 0)) (v87 (ix6 0 0 j g 0 0))) (∑ x, v92 (ix6 0 n j g q x)) * v92 (ix6 0 n j g q k)) 0) := by
  pointwise [SoftCol.part]
  rw [lone_sum, zero_add, scores_sum, zero_add]
  pointwise

theorem v172_at : @Eq EReal (res_main_v172 V (ix6 0 n j g q k)) (SoftCol.ds (see V n j g q) (sc V n j g q) (sk V j g) (dp V n j g q) k) := by
  refine (scores_at n j g q k _ _ _ _ _ _).trans ?_
  rw [v154_at, v92_at, v158_at, v94_at]
  simp only [v92_at]
  rfl

end Cert.ReferenceIdeal.Attn
-- ==== Proof.RefOut.lean ====
module

public import proofs.«01_k».proof.Proof.RefRead

@[expose] public section

set_option maxRecDepth 16384
set_option maxHeartbeats 2000000

noncomputable section

/-! The reference's results, read at an index. -/

namespace Cert.ReferenceIdeal.Attn

open Cert.ReferenceIdeal Cert.ReferenceIdeal.Value Idealize.ShloMosaic Idealize.SL.Sem

variable (V0 V : Valuation τ sig (Elt Ideal)) (n : Fin 32) (j : Fin 4) (g : Fin 8) (q : Fin 128) (k : Fin 256) (e : Fin 64)

/-- Row `q` of block `n`. -/
def row (n : Fin 32) (q : Fin 128) : Fin 4096 := ⟨n.1 * 128 + q.1, by omega⟩
/-- Query head `g` of group `j`. -/
def hd (j : Fin 4) (g : Fin 8) : Fin 32 := ⟨j.1 * 8 + g.1, by omega⟩
/-- Column `e` of query head `g` of group `j`. -/
def col (j : Fin 4) (g : Fin 8) (e : Fin 64) : Fin 2048 := ⟨j.1 * 512 + g.1 * 64 + e.1, by omega⟩
/-- Column `e` of key head `j`. -/
def kcol (j : Fin 4) (e : Fin 64) : Fin 256 := ⟨j.1 * 64 + e.1, by omega⟩

/-- The reference's result. -/
def refQ : FVec Ideal S4096x2048 .bf16 :=
  truncf .bf16 (shapeCast _ (transpose S1x32x128x4x8x64 [0, 1, 3, 2, 4, 5] (Host.dotGeneral (φ₁ := .f32) (φ₂ := .f32) dot_S1x32x4x256x128x8_S1x32x256x4x64_S1x32x4x128x8x64_3_2_45_4_012_013 none (res_main_v178 V0) (res_main_v44 V0)) Gen.transposes_S1x32x4x128x8x64_S1x32x128x4x8x64_0_1_3_2_4_5) Gen.shapeCasts_S1x32x128x4x8x64_S4096x2048) Gen.bitsLt_bf16_f32
/-- The reference's result. -/
def refKP : FVec Ideal S4096x256 .f32 :=
  shapeCast _ (extractStridedSlice S1x32x128x4x64 ![0, 0, 0, 0, 0] (res_main_v182 V0) Gen.slices_S1x32x256x4x64_S1x32x128x4x64_0_0_0_0_0) Gen.shapeCasts_S1x32x128x4x64_S4096x256
/-- The reference's result. -/
def refKC : FVec Ideal S4096x256 .f32 :=
  shapeCast _ (extractStridedSlice S1x32x128x4x64 ![0, 0, 128, 0, 0] (res_main_v182 V0) Gen.slices_S1x32x256x4x64_S1x32x128x4x64_0_0_128_0_0) Gen.shapeCasts_S1x32x128x4x64_S4096x256
/-- The reference's result. -/
def refVP : FVec Ideal S4096x256 .f32 :=
  shapeCast _ (extractStridedSlice S1x32x128x4x64 ![0, 0, 0, 0, 0] (res_main_v137 V0) Gen.slices_S1x32x256x4x64_S1x32x128x4x64_0_0_0_0_0) Gen.shapeCasts_S1x32x128x4x64_S4096x256
/-- The reference's result. -/
def refVC : FVec Ideal S4096x256 .f32 :=
  shapeCast _ (extractStridedSlice S1x32x128x4x64 ![0, 0, 128, 0, 0] (res_main_v137 V0) Gen.slices_S1x32x256x4x64_S1x32x128x4x64_0_0_128_0_0) Gen.shapeCasts_S1x32x128x4x64_S4096x256
/-- The reference's result. -/
def refB : FVec Ideal S32x256x128 .f32 :=
  transpose S32x256x128 [0, 2, 1] (shapeCast _ (Host.reduceAdd (shapeCast _ (Host.reduceAdd (res_main_v172 V0) (constant S_ .f32 0x00000000#32) Gen.reducesTo_S1x32x4x8x128x256_S1x4x8x128x256_d1 Gen.h_S_) Gen.shapeCasts_S1x4x8x128x256_S1x1x4x8x128x256) (constant S_ .f32 0x00000000#32) Gen.reducesTo_S1x1x4x8x128x256_S4x8x128x256_d0_1 Gen.h_S_) Gen.shapeCasts_S4x8x128x256_S32x128x256) Gen.transposes_S32x128x256_S32x256x128_0_2_1
/-- The reference's result. -/
def refS : FVec Ideal S1x32 .f32 :=
  shapeCast _ (Host.reduceAdd (addf (shapeCast _ (Host.reduceAdd (res_main_v146 V0) (constant S_ .f32 0x00000000#32) Gen.reducesTo_S1x32x4x8x128x1_S1x4x8x1_d1_4 Gen.h_S_) Gen.shapeCasts_S1x4x8x1_S1x1x4x8x1x1) (shapeCast _ (Host.reduceAdd (mulf (res_main_v158 V0) (select (cmpf .ogt (broadcastInDim S1x32x4x8x128x1 ![0, 1, 2, 3, 4, 5] Gen.bcast_S1x1x4x8x1x1_S1x32x4x8x128x1_0_1_2_3_4_5 (res_main_v87 V0)) (res_main_v94 V0)) (broadcastInDim S1x32x4x8x128x1 ![] Gen.bcast_S_S1x32x4x8x128x1 (constant S_ .f32 0x3F800000#32)) (select (cmpf .oeq (broadcastInDim S1x32x4x8x128x1 ![0, 1, 2, 3, 4, 5] Gen.bcast_S1x1x4x8x1x1_S1x32x4x8x128x1_0_1_2_3_4_5 (res_main_v87 V0)) (res_main_v94 V0)) (broadcastInDim S1x32x4x8x128x1 ![] Gen.bcast_S_S1x32x4x8x128x1 (constant S_ .f32 0x3F000000#32)) (broadcastInDim S1x32x4x8x128x1 ![] Gen.bcast_S_S1x32x4x8x128x1 (constant S_ .f32 0x00000000#32))))) (constant S_ .f32 0x00000000#32) Gen.reducesTo_S1x32x4x8x128x1_S1x4x8x1_d1_4 Gen.h_S_) Gen.shapeCasts_S1x4x8x1_S1x1x4x8x1x1)) (constant S_ .f32 0x00000000#32) Gen.reducesTo_S1x1x4x8x1x1_S4x8_d0_1_4_5 Gen.h_S_) Gen.shapeCasts_S4x8_S1x32

/-- The queries. -/
abbrev in0 : FVec Ideal S4096x2048 .f32 := V (Proc.devRef .tc main_arg0)
/-- The keys. -/
abbrev in1 : FVec Ideal S4096x256 .f32 := V (Proc.devRef .tc main_arg1)
/-- The values. -/
abbrev in2 : FVec Ideal S4096x256 .f32 := V (Proc.devRef .tc main_arg2)
/-- The bias' table. -/
abbrev in3 : FVec Ideal S32x32 .f32 := V (Proc.devRef .tc main_arg3)
/-- The sinks. -/
abbrev in4 : FVec Ideal S1x32 .f32 := V (Proc.devRef .tc main_arg4)
/-- The gradient of the mixers' output. -/
abbrev in5 : FVec Ideal S4096x4096 .f32 := V (Proc.devRef .tc main_arg5)

/-- The keys of block `n`: the block before, then the block. -/
def cat (a : FVec Ideal S4096x256 .f32) (n : Fin 32) (j : Fin 4) (k : Fin 256) (e : Fin 64) : EReal :=
  if h : 128 ≤ n.1 * 128 + k.1 then a (ix2 ⟨n.1 * 128 + k.1 - 128, by omega⟩ (kcol j e)) else 0

theorem zero_word : @Eq EReal (FloatOps.sitofp (F := Ideal) FTy.f32 0#32) 0 := by
  show (((0#32 : BitVec 32).toInt : ℝ) : EReal) = 0
  norm_num

theorem v44_at : @Eq EReal (res_main_v44 V (ix5 0 n k j e)) (cat (in1 V) n j k e) := by
  unfold res_main_v44; clean_types; pointwise [cat, kcol]
  repeat' (first | (exfalso; omega) | split)
  all_goals first
    | rfl
    | exact zero_word
    | exact congrArg (in1 V) ((ix2_inj ..).2 ⟨Fin.ext (by simp only []; omega), rfl⟩)

theorem v47_at : @Eq EReal (res_main_v47 V (ix5 0 n k j e)) (cat (in2 V) n j k e) := by
  unfold res_main_v47; clean_types; pointwise [cat, kcol]
  repeat' (first | (exfalso; omega) | split)
  all_goals first
    | rfl
    | exact zero_word
    | exact congrArg (in2 V) ((ix2_inj ..).2 ⟨Fin.ext (by simp only []; omega), rfl⟩)

theorem v41_at : @Eq EReal (res_main_v41 V (ix6 0 n q j g e)) (in0 V (ix2 (row n q) (col j g e))) := by
  unfold res_main_v41; clean_types; pointwise [row, col]

theorem sk_at : @Eq EReal (sk V j g) (in4 V (ix2 0 (hd j g))) := by
  unfold sk res_main_v87; clean_types; pointwise [hd]

theorem v134_at : @Eq EReal (res_main_v134 V (ix6 0 n j e g q)) (in5 V (ix2 (row n q) ⟨2048 + (col j g e).1, by have := (col j g e).2; omega⟩)) := by
  unfold res_main_v134; clean_types; pointwise [row, col]

theorem dp_at : @Eq EReal (dp V n j g q k) (∑ e, in5 V (ix2 (row n q) ⟨2048 + (col j g e).1, by have := (col j g e).2; omega⟩)
    * cat (in2 V) n j k e) := by
  unfold dp res_main_v135; clean_types; pointwise
  simp only [v134_at, v47_at]

theorem products_at (a : FVec Ideal S1x32x4x256x128x8 .f32) (b : FVec Ideal S1x32x256x4x64 .f32) : @Eq EReal ((truncf .bf16 (shapeCast _ (transpose S1x32x128x4x8x64 [0, 1, 3, 2, 4, 5] (Host.dotGeneral dot_S1x32x4x256x128x8_S1x32x256x4x64_S1x32x4x128x8x64_3_2_45_4_012_013 none a b : FVec Ideal _ .f32) Gen.transposes_S1x32x4x128x8x64_S1x32x128x4x8x64_0_1_3_2_4_5) Gen.shapeCasts_S1x32x128x4x8x64_S4096x2048) Gen.bitsLt_bf16_f32 : FVec Ideal S4096x2048 .bf16) (ix2 (row n q) (col j g e)))
    (∑ x, a (ix6 0 n j x q g) * b (ix5 0 n x j e)) := by
  pointwise [row, col]

theorem v178_at : @Eq EReal (res_main_v178 V (ix6 0 n j k q g))
    (SoftCol.ds (see V n j g q) (sc V n j g q) (sk V j g) (dp V n j g q) k * Ideal.ofBits .f32 0x3E000000#32) := by
  unfold res_main_v178; clean_types; pointwise
  rw [v172_at]

theorem refQ_at : @Eq EReal (refQ V (ix2 (row n q) (col j g e)))
    (∑ k, SoftCol.ds (see V n j g q) (sc V n j g q) (sk V j g) (dp V n j g q) k * Ideal.ofBits .f32 0x3E000000#32
      * cat (in1 V) n j k e) := by
  refine (products_at n j g q e (res_main_v178 V) (res_main_v44 V)).trans ?_
  simp only [v178_at, v44_at]

theorem v182_at : @Eq EReal (res_main_v182 V (ix5 0 n k j e))
    (∑ q, ∑ g, SoftCol.ds (see V n j g q) (sc V n j g q) (sk V j g) (dp V n j g q) k * Ideal.ofBits .f32 0x3E000000#32
      * in0 V (ix2 (row n q) (col j g e))) := by
  unfold res_main_v182; clean_types; pointwise
  simp only [v178_at, v41_at]

theorem v137_at : @Eq EReal (res_main_v137 V (ix5 0 n k j e))
    (∑ g, ∑ q, in5 V (ix2 (row n q) ⟨2048 + (col j g e).1, by have := (col j g e).2; omega⟩)
      * SoftCol.pr (sc V n j g q) (sk V j g) k) := by
  unfold res_main_v137; clean_types; pointwise
  simp only [v134_at, v125_at]

theorem before_at (b : FVec Ideal S1x32x256x4x64 .f32) : @Eq EReal ((shapeCast _ (extractStridedSlice S1x32x128x4x64 ![0, 0, 0, 0, 0] b Gen.slices_S1x32x256x4x64_S1x32x128x4x64_0_0_0_0_0) Gen.shapeCasts_S1x32x128x4x64_S4096x256 : FVec Ideal S4096x256 .f32) (ix2 (row n q) (kcol j e)))
    (b (ix5 0 n ⟨q.1, by omega⟩ j e)) := by
  pointwise [row, kcol]

theorem here_at (b : FVec Ideal S1x32x256x4x64 .f32) : @Eq EReal ((shapeCast _ (extractStridedSlice S1x32x128x4x64 ![0, 0, 128, 0, 0] b Gen.slices_S1x32x256x4x64_S1x32x128x4x64_0_0_128_0_0) Gen.shapeCasts_S1x32x128x4x64_S4096x256 : FVec Ideal S4096x256 .f32) (ix2 (row n q) (kcol j e)))
    (b (ix5 0 n ⟨128 + q.1, by omega⟩ j e)) := by
  pointwise [row, kcol]

theorem blocks_at (v : FVec Ideal S1x32x4x8x128x256 .f32) : @Eq EReal ((transpose S32x256x128 [0, 2, 1] (shapeCast _ (Host.reduceAdd (shapeCast _ (Host.reduceAdd v (constant S_ .f32 0x00000000#32) Gen.reducesTo_S1x32x4x8x128x256_S1x4x8x128x256_d1 Gen.h_S_) Gen.shapeCasts_S1x4x8x128x256_S1x1x4x8x128x256) (constant S_ .f32 0x00000000#32) Gen.reducesTo_S1x1x4x8x128x256_S4x8x128x256_d0_1 Gen.h_S_) Gen.shapeCasts_S4x8x128x256_S32x128x256) Gen.transposes_S32x128x256_S32x256x128_0_2_1 : FVec Ideal S32x256x128 .f32) (ix3 (hd j g) k q))
    (∑ n, v (ix6 0 n j g q k)) := by
  pointwise [hd]
  rw [keep_sum, zero_add]
  pointwise
  rw [blocks_sum, zero_add]

theorem refB_at : @Eq EReal (refB V (ix3 (hd j g) k q))
    (∑ n, SoftCol.ds (see V n j g q) (sc V n j g q) (sk V j g) (dp V n j g q) k) := by
  refine (blocks_at j g q k _).trans ?_
  simp only [v172_at]

theorem sinks_at (v87 : FVec Ideal S1x1x4x8x1x1 .f32) (v94 v158 v146 : FVec Ideal S1x32x4x8x128x1 .f32) : @Eq EReal ((shapeCast _ (Host.reduceAdd (addf (shapeCast _ (Host.reduceAdd v146 (constant S_ .f32 0x00000000#32) Gen.reducesTo_S1x32x4x8x128x1_S1x4x8x1_d1_4 Gen.h_S_) Gen.shapeCasts_S1x4x8x1_S1x1x4x8x1x1) (shapeCast _ (Host.reduceAdd (mulf v158 (select (cmpf .ogt (broadcastInDim S1x32x4x8x128x1 ![0, 1, 2, 3, 4, 5] Gen.bcast_S1x1x4x8x1x1_S1x32x4x8x128x1_0_1_2_3_4_5 v87) v94) (broadcastInDim S1x32x4x8x128x1 ![] Gen.bcast_S_S1x32x4x8x128x1 (constant S_ .f32 0x3F800000#32)) (select (cmpf .oeq (broadcastInDim S1x32x4x8x128x1 ![0, 1, 2, 3, 4, 5] Gen.bcast_S1x1x4x8x1x1_S1x32x4x8x128x1_0_1_2_3_4_5 v87) v94) (broadcastInDim S1x32x4x8x128x1 ![] Gen.bcast_S_S1x32x4x8x128x1 (constant S_ .f32 0x3F000000#32)) (broadcastInDim S1x32x4x8x128x1 ![] Gen.bcast_S_S1x32x4x8x128x1 (constant S_ .f32 0x00000000#32))))) (constant S_ .f32 0x00000000#32) Gen.reducesTo_S1x32x4x8x128x1_S1x4x8x1_d1_4 Gen.h_S_) Gen.shapeCasts_S1x4x8x1_S1x1x4x8x1x1)) (constant S_ .f32 0x00000000#32) Gen.reducesTo_S1x1x4x8x1x1_S4x8_d0_1_4_5 Gen.h_S_) Gen.shapeCasts_S4x8_S1x32 : FVec Ideal S1x32 .f32) (ix2 0 (hd j g)))
    (∑ n, ∑ q, (v146 (ix6 0 n j g q 0) + v158 (ix6 0 n j g q 0) * SoftCol.part (v87 (ix6 0 0 j g 0 0)) (v94 (ix6 0 n j g q 0)))) := by
  pointwise [hd]
  rw [heads_sum, zero_add]
  pointwise
  rw [rows_sum, rows_sum, zero_add, zero_add]
  pointwise [SoftCol.part]
  rw [Fintype.sum_prod_type, Fintype.sum_prod_type, ← Finset.sum_add_distrib]
  simp only [← Finset.sum_add_distrib]

theorem refS_at : @Eq EReal (refS V (ix2 0 (hd j g)))
    (∑ n, ∑ q, (SoftCol.gS (sc V n j g q) (sk V j g) (dp V n j g q) + SoftCol.toSink (sc V n j g q) (sk V j g) (dp V n j g q))) := by
  refine (sinks_at j g _ _ _ _).trans ?_
  simp only [v146_at, v158_at, v94_at]
  rfl

theorem refKP_at : @Eq EReal (refKP V (ix2 (row n q) (kcol j e))) (res_main_v182 V (ix5 0 n ⟨q.1, by omega⟩ j e)) :=
  before_at n j q e _
theorem refKC_at : @Eq EReal (refKC V (ix2 (row n q) (kcol j e))) (res_main_v182 V (ix5 0 n ⟨128 + q.1, by omega⟩ j e)) :=
  here_at n j q e _
theorem refVP_at : @Eq EReal (refVP V (ix2 (row n q) (kcol j e))) (res_main_v137 V (ix5 0 n ⟨q.1, by omega⟩ j e)) :=
  before_at n j q e _
theorem refVC_at : @Eq EReal (refVC V (ix2 (row n q) (kcol j e))) (res_main_v137 V (ix5 0 n ⟨128 + q.1, by omega⟩ j e)) :=
  here_at n j q e _

end Cert.ReferenceIdeal.Attn
-- ==== Proof.Seen.lean ====
module

public import Idealize.ShloMosaic.Lib.Pointwise

@[expose] public section

noncomputable section

/-! Which keys of its block a query sees. -/

namespace SoftCol

open Idealize.ShloMosaic

/-- Query `q` of block `n` sees key `k`: one of the 128 up to its own position, none before the sequence's start. -/
def seen (n : Fin 32) (q : Fin 128) (k : Fin 256) : BitVec 1 :=
  Scalar.andi (Scalar.andi
      (Scalar.cmpi .sge (Scalar.subi (Scalar.addi (BitVec.ofNat 32 q.1) 128#32) (BitVec.ofNat 32 k.1)) 0#32)
      (Scalar.cmpi .slt (Scalar.subi (Scalar.addi (BitVec.ofNat 32 q.1) 128#32) (BitVec.ofNat 32 k.1)) 128#32))
    (Scalar.ori (Scalar.cmpi .sgt (BitVec.ofNat 32 n.1) 0#32) (Scalar.cmpi .sge (BitVec.ofNat 32 k.1) 128#32))

theorem first_block : ∀ n : Fin 32, Scalar.xori (Scalar.cmpi .eq (BitVec.ofNat 32 n.1) 0#32) 1#1 = Scalar.cmpi .sgt (BitVec.ofNat 32 n.1) 0#32 := by
  decide +kernel

theorem low_query : ∀ (g : Fin 8) (q : Fin 128), Scalar.andi (BitVec.ofNat 32 (g.1 * 128 + q.1)) 127#32 = BitVec.ofNat 32 q.1 := by
  decide +kernel

theorem before_start : ∀ k : Fin 256, k.1 < 128 → Scalar.ori (Scalar.cmpi .sgt (BitVec.ofNat 32 0) 0#32) (Scalar.cmpi .sge (BitVec.ofNat 32 k.1) 128#32) = 0#1 := by
  decide +kernel

theorem unseen (n : Fin 32) (q : Fin 128) (k : Fin 256) (h : ¬ 128 ≤ n.1 * 128 + k.1) : seen n q k = 0#1 := by
  have h0 : n.1 = 0 := by omega
  rw [seen, h0, before_start k (by omega)]
  exact BitVec.and_zero

end SoftCol
-- ==== Proof.RefScore.lean ====
module

public import proofs.«01_k».proof.Proof.RefOut
public import proofs.«01_k».proof.Proof.Seen

@[expose] public section

set_option maxRecDepth 16384
set_option maxHeartbeats 2000000

noncomputable section

/-! The reference's masked scores, read at an index. -/

namespace Cert.ReferenceIdeal.Attn

open Cert.ReferenceIdeal Cert.ReferenceIdeal.Value Idealize.ShloMosaic Idealize.SL.Sem

variable (V : Valuation τ sig (Elt Ideal)) (n : Fin 32) (j : Fin 4) (g : Fin 8) (q : Fin 128) (k : Fin 256)

/-- The position bias of a query and a key, for every head. -/
def tab : FVec Ideal S128x256x32 .f32 :=
  Host.gather gather_S32x32_S128x256x1_S128x256x32_2_0_n_n_0_2_132 (in3 V) (broadcastInDim S128x256x1 ![0, 1] Gen.bcast_S128x256_S128x256x1_0_1
    (select (cmpi .slt (res_main_v32 V) (broadcastInDim S128x256 ![] Gen.bcast_S_S128x256 (constantI S_ 32 0#32)))
      (addi (res_main_v32 V) (broadcastInDim S128x256 ![] Gen.bcast_S_S128x256 (constantI S_ 32 32#32))) (res_main_v32 V)))

theorem see_at : see V n j g q k = SoftCol.seen n q k := by
  unfold see res_main_v85_1 res_main_v56 res_main_v51; clean_types; pointwise
  rfl

theorem sc_at : sc V n j g q k = Scalar.select (SoftCol.seen n q k)
    ((∑ e, cat (in1 V) n j k e * in0 V (ix2 (row n q) (col j g e))) * Ideal.ofBits .f32 0x3E000000#32 + tab V (ix3 q k (hd j g))) ⊥ := by
  have h : sc V n j g q k = Scalar.select (see V n j g q k)
    ((∑ e, @HMul.hMul EReal EReal EReal instHMul (res_main_v44 V (ix5 0 n k j e)) (res_main_v41 V (ix6 0 n q j g e))) * Ideal.ofBits .f32 0x3E000000#32 + tab V (ix3 q k (hd j g))) ⊥ := by
    unfold sc res_main_v85_0; clean_types; pointwise
    rw [← low]
    rfl
  rw [h, see_at]
  simp only [v44_at, v41_at]

end Cert.ReferenceIdeal.Attn
-- ==== Proof.BiasRead.lean ====
module

public import proofs.«01_k».proof.Proof.WinRead
public import proofs.«01_k».proof.Proof.RefScore
public import Idealize.ShloMosaic.Lib.Claim

@[expose] public section

set_option maxRecDepth 16384
set_option maxHeartbeats 400000

noncomputable section

/-! The bias the kernel is given: the reference's, transposed. -/

namespace Cert.KernelIdeal.Attn

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

theorem gather_congr (a : FVec Ideal S32x32 .f32) (v w : IVec S128x256x1 32) (h : v = w) (i : S128x256x32.Idx) :
    @Eq EReal (Host.gather gather_S32x32_S128x256x1_S128x256x32_2_0_n_n_0_2_132 a v i)
      (Host.gather Cert.ReferenceIdeal.gather_S32x32_S128x256x1_S128x256x32_2_0_n_n_0_2_132 a w i) := by
  subst h; rfl

theorem bias_at (V0 : Valuation Cert.ReferenceIdeal.τ Cert.ReferenceIdeal.sig (Elt Ideal))
    (h3 : Cert.ReferenceIdeal.Attn.in3 V0 = m ((c : Thread nD τ).loc main_arg3)) (h : Fin 32) (k : Fin 256) (r : Fin 128) :
    @Eq EReal (V m c main_v37 (ix3 h k r)) (Cert.ReferenceIdeal.Attn.tab V0 (ix3 r k h)) := by
  show @Eq EReal (after [hostOps0, hostOps0_1, hostOps0_2].flatten (fun b => m (c, b)) (Proc.tc.devRef main_v37) (ix3 h k r)) _
  simp only [List.flatten_cons, List.flatten_nil, List.append_nil, hostOps0, hostOps0_1, hostOps0_2, List.cons_append, List.nil_append, TRef.nullary, TRef.ternary, TRef.unary, TRef.toBuf, TRef.ofBuf, cast_eq]
  after_results_simp
  pointwise
  refine (gather_congr _ _ _ ?_ _).trans (congrArg (fun a => Host.gather Cert.ReferenceIdeal.gather_S32x32_S128x256x1_S128x256x32_2_0_n_n_0_2_132 a _ _) h3.symm)
  unfold Cert.ReferenceIdeal.Value.res_main_v32 Cert.ReferenceIdeal.Value.res_main_v14
  rfl

end Cert.KernelIdeal.Attn
-- ==== Proof.CoreRead.lean ====
module

public import proofs.«01_k».proof.Proof.Core
public import proofs.«01_k».proof.Proof.Column

@[expose] public section

set_option maxRecDepth 16384

noncomputable section

/-! The head's vectors read at an index, as the column functions of `SoftCol`. -/

namespace Cert.KernelIdeal.Attn.Side

open Cert.KernelIdeal Cert.KernelIdeal.Gen Idealize.ShloMosaic Idealize.SL.Sem

variable (X : Side)

/-- Column `c` of the scores. -/
def sc (c : Fin 1024) (k : Fin 256) : EReal := X.masked (ix2 k c)
/-- The sink of column `c`. -/
def sk (c : Fin 1024) : EReal := X.sink (ix2 0 c)
/-- Column `c` of the probabilities' gradient. -/
def dpc (c : Fin 1024) (k : Fin 256) : EReal := X.dp (ix2 k c)

theorem bottom : Named.named (F := Ideal) κ "mask" (φ := .f32) 0xF149F2CA#32 = (⊥ : EReal) :=
  IdealRules.named_const.ideal_named_scalar _ _ _ _ rfl

theorem masked_at (k : Fin 256) (c : Fin 1024) : X.masked (ix2 k c)
    = Scalar.select (X.mask (ix2 k c)) ((∑ d : Fin 64, X.kb (ix2 k d) * X.qg (ix2 c d)) * Ideal.ofBits .f32 0x3E000000#32 + X.bias (ix2 k c)) ⊥ := by
  pointwise [masked]
  rw [bottom]
theorem dp_at (k : Fin 256) (c : Fin 1024) : X.dp (ix2 k c) = ∑ d : Fin 64, X.vb (ix2 k d) * X.doT (ix2 d c) := by
  pointwise [dp]
theorem low : Ideal.ofBits .f32 0xFF800000#32 = (⊥ : EReal) := by simp [Ideal.ofBits, Ideal.ieee]
theorem top_at (c : Fin 1024) : X.top (ix1 c) = SoftCol.top (X.sc c) := by
  pointwise [top]
  rw [low]; rfl
theorem bit_float (b : Bool) : (FloatOps.sitofp (F := Ideal) FTy.f32 (BitVec.setWidth 32 (BitVec.ofBool b))) = (if b then 1 else 0 : EReal) := by
  cases b
  · show (((0#32 : BitVec 32).toInt : ℝ) : EReal) = 0
    norm_num
  · show (((1#32 : BitVec 32).toInt : ℝ) : EReal) = 1
    norm_num
theorem hits_at (k : Fin 256) (c : Fin 1024) : X.hits (ix2 k c) = SoftCol.hit (X.sc c) k := by
  pointwise [hits]
  rw [bit_float, top_at]
  simp only [decide_eq_true_eq]; rfl
theorem count_at (c : Fin 1024) : X.count (ix1 c) = ∑ k, SoftCol.hit (X.sc c) k := by
  pointwise [count]
  exact Finset.sum_congr rfl fun k _ => hits_at X k c
theorem big_at (c : Fin 1024) : X.big (ix2 0 c) = SoftCol.big (X.sc c) (X.sk c) := by
  pointwise [big]
  rw [top_at]; rfl
theorem selM_at (c : Fin 1024) : X.selM (ix2 0 c) = SoftCol.part (SoftCol.top (X.sc c)) (X.sk c) := by
  pointwise [selM]
  rw [top_at]; rfl
theorem selS_at (c : Fin 1024) : X.selS (ix2 0 c) = SoftCol.part (X.sk c) (SoftCol.top (X.sc c)) := by
  pointwise [selS]
  rw [top_at]; rfl
theorem ex_at (k : Fin 256) (c : Fin 1024) : X.ex (ix2 k c) = SoftCol.ex (X.sc c) (X.sk c) k := by
  pointwise [ex]
  rw [big_at]; rfl
theorem exS_at (c : Fin 1024) : X.exS (ix2 0 c) = SoftCol.exS (X.sc c) (X.sk c) := by
  pointwise [exS]
  rw [big_at]; rfl
theorem den_at (c : Fin 1024) : X.den (ix2 0 c) = SoftCol.den (X.sc c) (X.sk c) := by
  pointwise [den]
  rw [exS_at]
  exact congrArg (· + _) (Finset.sum_congr rfl fun k _ => ex_at X k c)
theorem pr_at (k : Fin 256) (c : Fin 1024) : X.pr (ix2 k c) = SoftCol.pr (X.sc c) (X.sk c) k := by
  pointwise [pr]
  rw [ex_at, den_at]; rfl
theorem inv_at (c : Fin 1024) : X.inv (ix2 0 c) = Ideal.div 1 (SoftCol.den (X.sc c) (X.sk c) * SoftCol.den (X.sc c) (X.sk c)) := by
  pointwise [inv]
  rw [den_at]
theorem c_at (c : Fin 1024) : X.c (ix2 0 c) = SoftCol.c (X.sc c) (X.sk c) (X.dpc c) := by
  pointwise [Side.c]
  rw [zero_sub]
  exact congrArg Neg.neg (Finset.sum_congr rfl fun k _ => by rw [ex_at, inv_at]; rfl)
theorem gS_at (c : Fin 1024) : X.gS (ix2 0 c) = SoftCol.gS (X.sc c) (X.sk c) (X.dpc c) := by
  pointwise [gS]
  rw [c_at, exS_at]; rfl
theorem dex_at (k : Fin 256) (c : Fin 1024) : X.dex (ix2 k c) = SoftCol.dex (X.sc c) (X.sk c) (X.dpc c) k := by
  pointwise [dex]
  rw [Fin.sum_univ_one, c_at, ex_at, den_at]; rfl
theorem dmax_at (c : Fin 1024) : X.dmax (ix2 0 c) = SoftCol.dmax (X.sc c) (X.sk c) (X.dpc c) := by
  pointwise [dmax]
  rw [gS_at, zero_sub]
  exact congrArg (_ + ·) (Finset.sum_congr rfl fun k _ => by rw [dex_at, zero_sub])
theorem dcol_at (c : Fin 1024) : X.dcol (ix2 0 c)
    = SoftCol.gS (X.sc c) (X.sk c) (X.dpc c) + SoftCol.toSink (X.sc c) (X.sk c) (X.dpc c) := by
  pointwise [dcol]
  rw [gS_at, dmax_at, selS_at]; rfl
theorem share_at (c : Fin 1024) : X.share (ix1 c) = SoftCol.share (X.sc c) (X.sk c) (X.dpc c) := by
  pointwise [share]
  rw [Fin.sum_univ_one, dmax_at, selM_at, count_at]; rfl
theorem ds_at (k : Fin 256) (c : Fin 1024) : X.ds (ix2 k c) = SoftCol.ds (fun k => X.mask (ix2 k c)) (X.sc c) (X.sk c) (X.dpc c) k := by
  pointwise [ds]
  rw [dex_at, share_at, hits_at]; rfl
theorem dk_at (k : Fin 256) (d : Fin 64) : X.dk (ix2 k d)
    = ∑ c, SoftCol.ds (fun k => X.mask (ix2 k c)) (X.sc c) (X.sk c) (X.dpc c) k * Ideal.ofBits .f32 0x3E000000#32 * X.qg (ix2 c d) := by
  pointwise [dk, dsc]
  exact Finset.sum_congr rfl fun c _ => by rw [ds_at]
theorem dv_at (k : Fin 256) (d : Fin 64) : X.dv (ix2 k d) = ∑ c, SoftCol.pr (X.sc c) (X.sk c) k * X.doT (ix2 d c) := by
  pointwise [dv]
  exact Finset.sum_congr rfl fun c _ => by rw [pr_at]
theorem dqg_at (c : Fin 1024) (d : Fin 64) : X.dqg (ix2 c d)
    = ∑ k, SoftCol.ds (fun k => X.mask (ix2 k c)) (X.sc c) (X.sk c) (X.dpc c) k * Ideal.ofBits .f32 0x3E000000#32 * X.kb (ix2 k d) := by
  pointwise [dqg, dsc]
  exact Finset.sum_congr rfl fun c _ => by rw [ds_at]
end Cert.KernelIdeal.Attn.Side
-- ==== Proof.SideRead.lean ====
module

public import proofs.«01_k».proof.Proof.CoreRead
public import proofs.«01_k».proof.Proof.InputsRead
public import proofs.«01_k».proof.Proof.RefScore

@[expose] public section

set_option maxRecDepth 16384
set_option maxHeartbeats 2000000

noncomputable section

/-! One key head of a block: what the kernel computes is what the reference computes, when both read the same. -/

namespace Cert.KernelIdeal.Attn

open Idealize.ShloMosaic Idealize.SL.Sem

/-- The side reads block `n`, key head `j` of the reference's arguments. A key before the sequence's start is free. -/
structure Reads (X : Side) (V : Valuation Cert.ReferenceIdeal.τ Cert.ReferenceIdeal.sig (Elt Ideal)) (n : Fin 32) (j : Fin 4) : Prop where
  mask : ∀ (g : Fin 8) (q : Fin 128) (k : Fin 256), X.mask (ix2 k (at8 g q)) = SoftCol.seen n q k
  kb : ∀ (k : Fin 256) (e : Fin 64), 128 ≤ n.1 * 128 + k.1 → @Eq EReal (X.kb (ix2 k e)) (ReferenceIdeal.Attn.cat (ReferenceIdeal.Attn.in1 V) n j k e)
  vb : ∀ (k : Fin 256) (e : Fin 64), 128 ≤ n.1 * 128 + k.1 → @Eq EReal (X.vb (ix2 k e)) (ReferenceIdeal.Attn.cat (ReferenceIdeal.Attn.in2 V) n j k e)
  qg : ∀ (g : Fin 8) (q : Fin 128) (e : Fin 64), @Eq EReal (X.qg (ix2 (at8 g q) e)) (ReferenceIdeal.Attn.in0 V (ix2 (ReferenceIdeal.Attn.row n q) (ReferenceIdeal.Attn.col j g e)))
  bias : ∀ (g : Fin 8) (q : Fin 128) (k : Fin 256), @Eq EReal (X.bias (ix2 k (at8 g q))) (ReferenceIdeal.Attn.tab V (ix3 q k (ReferenceIdeal.Attn.hd j g)))
  sink : ∀ (g : Fin 8) (q : Fin 128), @Eq EReal (X.sink (ix2 0 (at8 g q))) (ReferenceIdeal.Attn.in4 V (ix2 0 (ReferenceIdeal.Attn.hd j g)))
  doT : ∀ (g : Fin 8) (q : Fin 128) (e : Fin 64), @Eq EReal (X.doT (ix2 e (at8 g q)))
    (ReferenceIdeal.Attn.in5 V (ix2 (ReferenceIdeal.Attn.row n q) ⟨2048 + (ReferenceIdeal.Attn.col j g e).1, by have := (ReferenceIdeal.Attn.col j g e).2; omega⟩))

namespace Reads

variable {X : Side} {V : Valuation Cert.ReferenceIdeal.τ Cert.ReferenceIdeal.sig (Elt Ideal)} {n : Fin 32} {j : Fin 4}
  (R : Reads X V n j) (g : Fin 8) (q : Fin 128)

theorem select_none (a b : EReal) : Scalar.select (0#1 : BitVec 1) a b = b := rfl

theorem low_score (k : Fin 256) (h : ¬ 128 ≤ n.1 * 128 + k.1) : ReferenceIdeal.Attn.sc V n j g q k = ⊥ := by
  rw [ReferenceIdeal.Attn.sc_at, SoftCol.unseen n q k h, select_none]

include R

theorem sc_eq : X.sc (at8 g q) = ReferenceIdeal.Attn.sc V n j g q := by
  funext k
  rw [Side.sc, Side.masked_at, R.mask, R.bias]
  by_cases h : 128 ≤ n.1 * 128 + k.1
  · simp only [R.kb k _ h, R.qg]
    exact (ReferenceIdeal.Attn.sc_at V n j g q k).symm
  · rw [SoftCol.unseen n q k h, select_none, low_score g q k h]

theorem sk_eq : X.sk (at8 g q) = ReferenceIdeal.Attn.sk V j g := by
  rw [Side.sk, R.sink, ReferenceIdeal.Attn.sk_at]

theorem dp_eq (k : Fin 256) : ReferenceIdeal.Attn.sc V n j g q k = ⊥ ∨ X.dpc (at8 g q) k = ReferenceIdeal.Attn.dp V n j g q k := by
  by_cases h : 128 ≤ n.1 * 128 + k.1
  · right
    rw [Side.dpc, Side.dp_at, ReferenceIdeal.Attn.dp_at]
    refine Finset.sum_congr rfl fun e _ => ?_
    rw [R.vb k e h, R.doT]
    exact mul_comm _ _
  · exact .inl (low_score g q k h)

theorem see_eq : (fun k => X.mask (ix2 k (at8 g q))) = ReferenceIdeal.Attn.see V n j g q := by
  funext k
  rw [R.mask, ReferenceIdeal.Attn.see_at]

theorem ds_eq (k : Fin 256) : @Eq EReal (X.ds (ix2 k (at8 g q))) (SoftCol.ds (ReferenceIdeal.Attn.see V n j g q) (ReferenceIdeal.Attn.sc V n j g q) (ReferenceIdeal.Attn.sk V j g) (ReferenceIdeal.Attn.dp V n j g q) k) := by
  rw [Side.ds_at, R.see_eq, R.sc_eq, R.sk_eq]
  exact SoftCol.ds_congr (R.dp_eq g q) k

theorem dcol_eq : @Eq EReal (X.dcol (ix2 0 (at8 g q))) (SoftCol.gS (ReferenceIdeal.Attn.sc V n j g q) (ReferenceIdeal.Attn.sk V j g) (ReferenceIdeal.Attn.dp V n j g q)
    + SoftCol.toSink (ReferenceIdeal.Attn.sc V n j g q) (ReferenceIdeal.Attn.sk V j g) (ReferenceIdeal.Attn.dp V n j g q)) := by
  rw [Side.dcol_at, R.sc_eq, R.sk_eq, SoftCol.gS_congr (R.dp_eq g q), SoftCol.toSink_congr (R.dp_eq g q)]

theorem dqg_eq (e : Fin 64) : @Eq EReal (X.dqg (ix2 (at8 g q) e)) (∑ k, SoftCol.ds (ReferenceIdeal.Attn.see V n j g q) (ReferenceIdeal.Attn.sc V n j g q) (ReferenceIdeal.Attn.sk V j g) (ReferenceIdeal.Attn.dp V n j g q) k
    * Ideal.ofBits .f32 0x3E000000#32 * ReferenceIdeal.Attn.cat (ReferenceIdeal.Attn.in1 V) n j k e) := by
  rw [Side.dqg_at]
  refine Finset.sum_congr rfl fun k _ => ?_
  rw [← Side.ds_at, R.ds_eq]
  by_cases h : 128 ≤ n.1 * 128 + k.1
  · rw [R.kb k e h]
  · rw [SoftCol.ds, ReferenceIdeal.Attn.see_at, SoftCol.unseen n q k h, select_none, zero_mul, zero_mul, zero_mul]

theorem dk_eq (k : Fin 256) (e : Fin 64) : @Eq EReal (X.dk (ix2 k e)) (∑ q, ∑ g, SoftCol.ds (ReferenceIdeal.Attn.see V n j g q) (ReferenceIdeal.Attn.sc V n j g q) (ReferenceIdeal.Attn.sk V j g) (ReferenceIdeal.Attn.dp V n j g q) k
    * Ideal.ofBits .f32 0x3E000000#32 * ReferenceIdeal.Attn.in0 V (ix2 (ReferenceIdeal.Attn.row n q) (ReferenceIdeal.Attn.col j g e))) := by
  rw [Side.dk_at, Finset.sum_comm]
  refine (Fin.sum_univ_tiles 8 128 rfl _).trans (Finset.sum_congr rfl fun g _ => Finset.sum_congr rfl fun q _ => ?_)
  refine (congrArg₂ (fun a b : EReal => a * Ideal.ofBits .f32 0x3E000000#32 * b) ((Side.ds_at X k (at8 g q)).symm.trans (R.ds_eq g q k)) (R.qg g q e))

theorem dv_eq (k : Fin 256) (e : Fin 64) : @Eq EReal (X.dv (ix2 k e)) (∑ g, ∑ q,
    ReferenceIdeal.Attn.in5 V (ix2 (ReferenceIdeal.Attn.row n q) ⟨2048 + (ReferenceIdeal.Attn.col j g e).1, by have := (ReferenceIdeal.Attn.col j g e).2; omega⟩)
    * SoftCol.pr (ReferenceIdeal.Attn.sc V n j g q) (ReferenceIdeal.Attn.sk V j g) k) := by
  rw [Side.dv_at]
  refine (Fin.sum_univ_tiles 8 128 rfl _).trans (Finset.sum_congr rfl fun g _ => Finset.sum_congr rfl fun q _ => ?_)
  refine (mul_comm _ _).trans (congrArg₂ (fun a b : EReal => a * b) (R.doT g q e) ?_)
  exact congrArg₂ (fun s t => SoftCol.pr s t k) (R.sc_eq g q) (R.sk_eq g q)

end Reads

end Cert.KernelIdeal.Attn
-- ==== Proof.BlockRead.lean ====
module

public import proofs.«01_k».proof.Proof.Terms
public import proofs.«01_k».proof.Proof.BiasRead
public import proofs.«01_k».proof.Proof.SideRead

@[expose] public section

set_option maxRecDepth 16384
set_option maxHeartbeats 2000000

noncomputable section

/-! Every key head of a grid point reads its block of the arguments. -/

namespace Cert.KernelIdeal.Attn

open Cert.KernelIdeal Cert.KernelIdeal.Gen Idealize.ShloMosaic Idealize.ShloMosaic.TcCoe Idealize.SL.Sem Idealize.ShloMosaic.StableHlo

/-- The two programs are given the same arguments. -/
structure Same (m : (ℓ : Loc nD τ sig) → Buf (Elt Ideal) ℓ) (c : Dev nD) (V0 : Valuation Cert.ReferenceIdeal.τ Cert.ReferenceIdeal.sig (Elt Ideal)) : Prop where
  a0 : ReferenceIdeal.Attn.in0 V0 = m ((c : Thread nD τ).loc main_arg0)
  a1 : ReferenceIdeal.Attn.in1 V0 = m ((c : Thread nD τ).loc main_arg1)
  a2 : ReferenceIdeal.Attn.in2 V0 = m ((c : Thread nD τ).loc main_arg2)
  a3 : ReferenceIdeal.Attn.in3 V0 = m ((c : Thread nD τ).loc main_arg3)
  a4 : ReferenceIdeal.Attn.in4 V0 = m ((c : Thread nD τ).loc main_arg4)
  a5 : ReferenceIdeal.Attn.in5 V0 = m ((c : Thread nD τ).loc main_arg5)

variable {m : (ℓ : Loc nD τ sig) → Buf (Elt Ideal) ℓ} {c : Dev nD} {V0 : Valuation Cert.ReferenceIdeal.τ Cert.ReferenceIdeal.sig (Elt Ideal)}
  (S : Same m c V0) (t : Fin cfg0.N)

theorem see_seen (g : Fin 8) (q : Fin 128) (k : Fin 256) : see (grid0.coords t) (ix2 k (at8 g q)) = SoftCol.seen (pt t) q k := by
  pointwise [see, at8]
  rw [coords_at, SoftCol.seen, ← SoftCol.first_block (pt t), ← SoftCol.low_query g q]
  rfl

theorem keys_cat (arr : FVec Ideal ReferenceIdeal.S4096x256 .f32) (a b : FVec Ideal S128x256 .f32)
    (ha : ∀ (r : Fin 128) (x : Fin 256), @Eq EReal (a (ix2 r x)) (arr (ix2 (rowP (pt t) r) x)))
    (hb : ∀ (r : Fin 128) (x : Fin 256), @Eq EReal (b (ix2 r x)) (arr (ix2 (row (pt t) r) x)))
    (j : Fin 4) (k : Fin 256) (e : Fin 64) (h : 128 ≤ (pt t).1 * 128 + k.1) :
    @Eq EReal (if h : k.1 < 128 then a (ix2 ⟨k.1, h⟩ (kcol j e)) else b (ix2 ⟨k.1 - 128, by omega⟩ (kcol j e)))
      (ReferenceIdeal.Attn.cat arr (pt t) j k e) := by
  rw [ReferenceIdeal.Attn.cat, dif_pos h]
  split
  · refine (ha _ _).trans (congrArg arr ((ix2_inj ..).2 ⟨Fin.ext ?_, rfl⟩))
    simp only [rowP]; omega
  · refine (hb _ _).trans (congrArg arr ((ix2_inj ..).2 ⟨Fin.ext ?_, rfl⟩))
    simp only [row]; omega

include S

/-- A side that takes head `j`'s columns of the grid point's blocks reads block `pt t`. -/
theorem reads (X : Side) (j : Fin 4) (hm : X.mask = see (grid0.coords t))
    (hk : ∀ (k : Fin 256) (d : Fin 64), @Eq EReal (X.kb (ix2 k d)) (if h : k.1 < 128 then iblk m c 1 t (ix2 ⟨k.1, h⟩ (kcol j d)) else iblk m c 2 t (ix2 ⟨k.1 - 128, by omega⟩ (kcol j d))))
    (hv : ∀ (k : Fin 256) (d : Fin 64), @Eq EReal (X.vb (ix2 k d)) (if h : k.1 < 128 then iblk m c 3 t (ix2 ⟨k.1, h⟩ (kcol j d)) else iblk m c 4 t (ix2 ⟨k.1 - 128, by omega⟩ (kcol j d))))
    (hq : ∀ (g : Fin 8) (r : Fin 128) (d : Fin 64), @Eq EReal (X.qg (ix2 (at8 g r) d)) (iblk m c 0 t (ix2 r (col j g d))))
    (hb : ∀ (g : Fin 8) (r : Fin 128) (k : Fin 256), @Eq EReal (X.bias (ix2 k (at8 g r))) (iblk m c 5 t (ix3 (hd j g) k r)))
    (hs : ∀ (g : Fin 8) (r : Fin 128), @Eq EReal (X.sink (ix2 0 (at8 g r))) (iblk m c 6 t (ix2 0 (hd j g))))
    (hd' : ∀ (g : Fin 8) (r : Fin 128) (d : Fin 64), @Eq EReal (X.doT (ix2 d (at8 g r))) (iblk m c 7 t (ix2 r (col j g d)))) :
    Reads X V0 (pt t) j where
  mask g q k := by rw [hm, see_seen]
  kb k e h := (hk k e).trans (keys_cat t (ReferenceIdeal.Attn.in1 V0) _ _ (fun r x => by rw [blk1, S.a1]) (fun r x => by rw [blk2, S.a1]) j k e h)
  vb k e h := (hv k e).trans (keys_cat t (ReferenceIdeal.Attn.in2 V0) _ _ (fun r x => by rw [blk3, S.a2]) (fun r x => by rw [blk4, S.a2]) j k e h)
  qg g q e := by rw [hq, blk0, S.a0]; rfl
  bias g q k := by rw [hb, blk5]; exact bias_at m c V0 S.a3 (hd j g) k q
  sink g q := by rw [hs, blk6, S.a4]; rfl
  doT g q e := by rw [hd', blk7, S.a5]; rfl

theorem reads0 : Reads (sd0 m c t) V0 (pt t) 0 :=
  reads S t _ 0 rfl (keys0_at _ _) (keys0_at _ _) (fun g r d => quer0_at _ g r d) (fun g r k => bias0_at _ g r k) (fun g r => sink0_at _ g r) (fun g r d => dout0_at _ g r d)
theorem reads1 : Reads (sd1 m c t) V0 (pt t) 1 :=
  reads S t _ 1 rfl (keys1_at _ _) (keys1_at _ _) (fun g r d => quer1_at _ g r d) (fun g r k => bias1_at _ g r k) (fun g r => sink1_at _ g r) (fun g r d => dout1_at _ g r d)
theorem reads2 : Reads (sd2 m c t) V0 (pt t) 2 :=
  reads S t _ 2 rfl (keys2_at _ _) (keys2_at _ _) (fun g r d => quer2_at _ g r d) (fun g r k => bias2_at _ g r k) (fun g r => sink2_at _ g r) (fun g r d => dout2_at _ g r d)
theorem reads3 : Reads (sd3 m c t) V0 (pt t) 3 :=
  reads S t _ 3 rfl (keys3_at _ _) (keys3_at _ _) (fun g r d => quer3_at _ g r d) (fun g r k => bias3_at _ g r k) (fun g r => sink3_at _ g r) (fun g r d => dout3_at _ g r d)

end Cert.KernelIdeal.Attn
-- ==== Proof.OutputsRead.lean ====
module

public import proofs.«01_k».proof.Proof.Outputs
public import proofs.«01_k».proof.Proof.InputsRead
public import Idealize.ShloMosaic.Lib.Pointwise

@[expose] public section

set_option maxRecDepth 16384
set_option maxHeartbeats 2000000

noncomputable section

namespace Cert.KernelIdeal.Attn

open Cert.KernelIdeal Cert.KernelIdeal.Gen Idealize.ShloMosaic Idealize.SL.Sem

/-- Group `j`'s part of the queries' gradient. -/
def qPart (j : Nat) (d : FVec Ideal S1024x64 .f32) (r : Fin 128) (x : Fin 2048) : EReal :=
  if h : j * 512 ≤ x.1 ∧ x.1 < j * 512 + 512 then
    d (ix2 (at8 ⟨(x.1 - j * 512) / 64, by omega⟩ r) ⟨x.1 % 64, by omega⟩) else 0
/-- Group `j`'s part of the sinks' gradient. -/
def sPart (j : Nat) (d : FVec Ideal S1x1024 .f32) (x : Fin 32) : EReal :=
  if h : j * 8 ≤ x.1 ∧ x.1 < j * 8 + 8 then
    ∑ r : Fin 128, d (ix2 0 (at8 ⟨x.1 - j * 8, by omega⟩ r)) else 0
/-- Group `j`'s part of the bias' gradient. -/
def bPart (j : Nat) (d : FVec Ideal S256x1024 .f32) (x : Fin 32) (k : Fin 256) (r : Fin 128) : EReal :=
  if h : j * 8 ≤ x.1 ∧ x.1 < j * 8 + 8 then
    d (ix2 k (at8 ⟨x.1 - j * 8, by omega⟩ r)) else 0

theorem toQ3_at (d : FVec Ideal S1024x64 .f32) (r : Fin 128) (x : Fin 2048) :
    toQ3 d (ix2 r x) = qPart 3 d r x := by
  pointwise [toQ3, qPart]
  repeat' (first | (exfalso; omega) | split)
  all_goals simp only [add_zero, zero_add]
  all_goals (exact congrArg d ((ix2_inj ..).2 ⟨Fin.ext (by simp [at8]; omega), Fin.ext (by simp; omega)⟩))
theorem toS3_at (d : FVec Ideal S1x1024 .f32) (x : Fin 32) :
    toS3 d (ix2 0 x) = sPart 3 d x := by
  pointwise [toS3, sPart]
  repeat' (first | (exfalso; omega) | split)
  all_goals simp only [add_zero, zero_add, Fin.sum_univ_one]
  all_goals (exact Finset.sum_congr rfl fun r _ => congrArg d ((ix2_inj ..).2 ⟨rfl, Fin.ext (by simp [at8]; omega)⟩))
theorem toB3_at (d : FVec Ideal S256x1024 .f32) (x : Fin 32) (k : Fin 256) (r : Fin 128) :
    toB3 d (ix3 x k r) = bPart 3 d x k r := by
  pointwise [toB3, bPart]
  repeat' (first | (exfalso; omega) | split)
  all_goals simp only [add_zero, zero_add]
  all_goals (exact congrArg d ((ix2_inj ..).2 ⟨rfl, Fin.ext (by simp [at8]; omega)⟩))
theorem toQ2_at (a : FVec Ideal S128x2048 .f32) (d : FVec Ideal S1024x64 .f32) (r : Fin 128) (x : Fin 2048) :
    toQ2 a d (ix2 r x) = a (ix2 r x) + qPart 2 d r x := by
  pointwise [toQ2, qPart]
  repeat' (first | (exfalso; omega) | split)
  all_goals simp only [add_zero, zero_add]
  all_goals (refine congrArg (_ + ·) ?_; exact congrArg d ((ix2_inj ..).2 ⟨Fin.ext (by simp [at8]; omega), Fin.ext (by simp; omega)⟩))
theorem toS2_at (a : FVec Ideal S1x32 .f32) (d : FVec Ideal S1x1024 .f32) (x : Fin 32) :
    toS2 a d (ix2 0 x) = a (ix2 0 x) + sPart 2 d x := by
  pointwise [toS2, sPart]
  repeat' (first | (exfalso; omega) | split)
  all_goals simp only [add_zero, zero_add, Fin.sum_univ_one]
  all_goals (refine congrArg (_ + ·) ?_; exact Finset.sum_congr rfl fun r _ => congrArg d ((ix2_inj ..).2 ⟨rfl, Fin.ext (by simp [at8]; omega)⟩))
theorem toB2_at (a : FVec Ideal S32x256x128 .f32) (d : FVec Ideal S256x1024 .f32) (x : Fin 32) (k : Fin 256) (r : Fin 128) :
    toB2 a d (ix3 x k r) = a (ix3 x k r) + bPart 2 d x k r := by
  pointwise [toB2, bPart]
  repeat' (first | (exfalso; omega) | split)
  all_goals simp only [add_zero, zero_add]
  all_goals (refine congrArg (_ + ·) ?_; exact congrArg d ((ix2_inj ..).2 ⟨rfl, Fin.ext (by simp [at8]; omega)⟩))
theorem toQ1_at (a : FVec Ideal S128x2048 .f32) (d : FVec Ideal S1024x64 .f32) (r : Fin 128) (x : Fin 2048) :
    toQ1 a d (ix2 r x) = a (ix2 r x) + qPart 1 d r x := by
  pointwise [toQ1, qPart]
  repeat' (first | (exfalso; omega) | split)
  all_goals simp only [add_zero, zero_add]
  all_goals (refine congrArg (_ + ·) ?_; exact congrArg d ((ix2_inj ..).2 ⟨Fin.ext (by simp [at8]; omega), Fin.ext (by simp; omega)⟩))
theorem toS1_at (a : FVec Ideal S1x32 .f32) (d : FVec Ideal S1x1024 .f32) (x : Fin 32) :
    toS1 a d (ix2 0 x) = a (ix2 0 x) + sPart 1 d x := by
  pointwise [toS1, sPart]
  repeat' (first | (exfalso; omega) | split)
  all_goals simp only [add_zero, zero_add, Fin.sum_univ_one]
  all_goals (refine congrArg (_ + ·) ?_; exact Finset.sum_congr rfl fun r _ => congrArg d ((ix2_inj ..).2 ⟨rfl, Fin.ext (by simp [at8]; omega)⟩))
theorem toB1_at (a : FVec Ideal S32x256x128 .f32) (d : FVec Ideal S256x1024 .f32) (x : Fin 32) (k : Fin 256) (r : Fin 128) :
    toB1 a d (ix3 x k r) = a (ix3 x k r) + bPart 1 d x k r := by
  pointwise [toB1, bPart]
  repeat' (first | (exfalso; omega) | split)
  all_goals simp only [add_zero, zero_add]
  all_goals (refine congrArg (_ + ·) ?_; exact congrArg d ((ix2_inj ..).2 ⟨rfl, Fin.ext (by simp [at8]; omega)⟩))
theorem toQ0_at (a : FVec Ideal S128x2048 .f32) (d : FVec Ideal S1024x64 .f32) (r : Fin 128) (x : Fin 2048) :
    toQ0 a d (ix2 r x) = a (ix2 r x) + qPart 0 d r x := by
  pointwise [toQ0, qPart]
  repeat' (first | (exfalso; omega) | split)
  all_goals simp only [add_zero, zero_add]
  all_goals (refine congrArg (_ + ·) ?_; exact congrArg d ((ix2_inj ..).2 ⟨Fin.ext (by simp [at8]; omega), Fin.ext (by simp; omega)⟩))
theorem toS0_at (a : FVec Ideal S1x32 .f32) (d : FVec Ideal S1x1024 .f32) (x : Fin 32) :
    toS0 a d (ix2 0 x) = a (ix2 0 x) + sPart 0 d x := by
  pointwise [toS0, sPart]
  repeat' (first | (exfalso; omega) | split)
  all_goals simp only [add_zero, zero_add, Fin.sum_univ_one]
  all_goals (refine congrArg (_ + ·) ?_; exact Finset.sum_congr rfl fun r _ => congrArg d ((ix2_inj ..).2 ⟨rfl, Fin.ext (by simp [at8]; omega)⟩))
theorem toB0_at (a : FVec Ideal S32x256x128 .f32) (d : FVec Ideal S256x1024 .f32) (x : Fin 32) (k : Fin 256) (r : Fin 128) :
    toB0 a d (ix3 x k r) = a (ix3 x k r) + bPart 0 d x k r := by
  pointwise [toB0, bPart]
  repeat' (first | (exfalso; omega) | split)
  all_goals simp only [add_zero, zero_add]
  all_goals (refine congrArg (_ + ·) ?_; exact congrArg d ((ix2_inj ..).2 ⟨rfl, Fin.ext (by simp [at8]; omega)⟩))

/-- One of four. -/
def pick {α : Type} (a b c d : α) : Fin 4 → α := fun j => if j.1 = 0 then a else if j.1 = 1 then b else if j.1 = 2 then c else d

theorem toVP_at (a b c d : FVec Ideal S256x64 .f32) (r : Fin 128) (j : Fin 4) (e : Fin 64) :
    toVP a b c d (ix2 r (kcol j e)) = pick a b c d j (ix2 ⟨r.1, by omega⟩ e) := by
  pointwise [toVP, kcol, pick]
  repeat' (first | (exfalso; omega) | split)
  all_goals simp only [add_zero, zero_add]
  all_goals exact congrArg _ ((ix2_inj ..).2 ⟨rfl, Fin.ext (by simp only []; omega)⟩)
theorem toVC_at (a b c d : FVec Ideal S256x64 .f32) (r : Fin 128) (j : Fin 4) (e : Fin 64) :
    toVC a b c d (ix2 r (kcol j e)) = pick a b c d j (ix2 ⟨128 + r.1, by omega⟩ e) := by
  pointwise [toVC, kcol, pick]
  repeat' (first | (exfalso; omega) | split)
  all_goals simp only [add_zero, zero_add]
  all_goals exact congrArg _ ((ix2_inj ..).2 ⟨rfl, Fin.ext (by simp only []; omega)⟩)
theorem toKP_at (a b c d : FVec Ideal S256x64 .f32) (r : Fin 128) (j : Fin 4) (e : Fin 64) :
    toKP a b c d (ix2 r (kcol j e)) = pick a b c d j (ix2 ⟨r.1, by omega⟩ e) := by
  pointwise [toKP, kcol, pick]
  repeat' (first | (exfalso; omega) | split)
  all_goals simp only [add_zero, zero_add]
  all_goals exact congrArg _ ((ix2_inj ..).2 ⟨rfl, Fin.ext (by simp only []; omega)⟩)
theorem toKC_at (a b c d : FVec Ideal S256x64 .f32) (r : Fin 128) (j : Fin 4) (e : Fin 64) :
    toKC a b c d (ix2 r (kcol j e)) = pick a b c d j (ix2 ⟨128 + r.1, by omega⟩ e) := by
  pointwise [toKC, kcol, pick]
  repeat' (first | (exfalso; omega) | split)
  all_goals simp only [add_zero, zero_add]
  all_goals exact congrArg _ ((ix2_inj ..).2 ⟨rfl, Fin.ext (by simp only []; omega)⟩)

end Cert.KernelIdeal.Attn
-- ==== Proof.BlockValue.lean ====
module

public import proofs.«01_k».proof.Proof.BlockRead
public import proofs.«01_k».proof.Proof.OutputsRead

@[expose] public section

set_option maxRecDepth 16384
set_option maxHeartbeats 2000000

noncomputable section

/-! What a grid point computes, against the reference. -/

namespace Cert.KernelIdeal.Attn

open Cert.KernelIdeal Cert.KernelIdeal.Gen Idealize.ShloMosaic Idealize.ShloMosaic.TcCoe Idealize.SL.Sem Idealize.ShloMosaic.StableHlo

theorem pick_map {α β : Type} (f : α → β) (a b c d : α) (j : Fin 4) : pick (f a) (f b) (f c) (f d) j = f (pick a b c d j) := by
  unfold pick
  split
  · rfl
  · split
    · rfl
    · split <;> rfl

theorem qPart_at (J : Nat) (d : FVec Ideal S1024x64 .f32) (r : Fin 128) (j : Fin 4) (g : Fin 8) (e : Fin 64) :
    qPart J d r (col j g e) = if j.1 = J then d (ix2 (at8 g r) e) else 0 := by
  have hx : (col j g e).1 = j.1 * 512 + g.1 * 64 + e.1 := rfl
  unfold qPart
  by_cases h : j.1 = J
  · subst h
    rw [if_pos rfl, dif_pos (by omega)]
    exact congrArg d ((ix2_inj ..).2 ⟨congrArg (at8 · r) (Fin.ext (by simp only [hx]; omega)), Fin.ext (by simp only [hx]; omega)⟩)
  · rw [if_neg h, dif_neg (by omega)]

theorem sPart_at (J : Nat) (d : FVec Ideal S1x1024 .f32) (j : Fin 4) (g : Fin 8) :
    sPart J d (hd j g) = if j.1 = J then ∑ r, d (ix2 0 (at8 g r)) else 0 := by
  have hx : (hd j g).1 = j.1 * 8 + g.1 := rfl
  unfold sPart
  by_cases h : j.1 = J
  · subst h
    rw [if_pos rfl, dif_pos (by omega)]
    exact Finset.sum_congr rfl fun r _ => congrArg d ((ix2_inj ..).2 ⟨rfl, congrArg (at8 · r) (Fin.ext (by simp only [hx]; omega))⟩)
  · rw [if_neg h, dif_neg (by omega)]

theorem bPart_at (J : Nat) (d : FVec Ideal S256x1024 .f32) (j : Fin 4) (g : Fin 8) (k : Fin 256) (r : Fin 128) :
    bPart J d (hd j g) k r = if j.1 = J then d (ix2 k (at8 g r)) else 0 := by
  have hx : (hd j g).1 = j.1 * 8 + g.1 := rfl
  unfold bPart
  by_cases h : j.1 = J
  · subst h
    rw [if_pos rfl, dif_pos (by omega)]
    exact congrArg d ((ix2_inj ..).2 ⟨rfl, congrArg (at8 · r) (Fin.ext (by simp only [hx]; omega))⟩)
  · rw [if_neg h, dif_neg (by omega)]

theorem parts (j : Fin 4) (a b c d : EReal) : (((if j.1 = 3 then d else 0) + (if j.1 = 2 then c else 0)) + (if j.1 = 1 then b else 0))
    + (if j.1 = 0 then a else 0) = pick a b c d j := by
  have h : j.1 = 0 ∨ j.1 = 1 ∨ j.1 = 2 ∨ j.1 = 3 := by omega
  unfold pick
  rcases h with h | h | h | h <;> rw [h] <;> simp

variable (m : (ℓ : Loc nD τ sig) → Buf (Elt Ideal) ℓ) (c : Dev nD) (t : Fin cfg0.N)
  (j : Fin 4) (g : Fin 8) (r : Fin 128) (k : Fin 256) (e : Fin 64)

/-- The four key heads of a block. -/
def sd : Fin 4 → Side := pick (sd0 m c t) (sd1 m c t) (sd2 m c t) (sd3 m c t)

theorem blkQ_at : @Eq EReal (blkQ m c t (ix2 r (col j g e))) ((sd m c t j).dqg (ix2 (at8 g r) e)) := by
  rw [blkQ, toQ0_at, toQ1_at, toQ2_at, toQ3_at, qPart_at, qPart_at, qPart_at, qPart_at, parts]
  exact pick_map (fun X : Side => (X.dqg (ix2 (at8 g r) e) : EReal)) _ _ _ _ j

theorem blkB_at : @Eq EReal (blkB m c t (ix3 (hd j g) k r)) ((sd m c t j).ds (ix2 k (at8 g r))) := by
  rw [blkB, toB0_at, toB1_at, toB2_at, toB3_at, bPart_at, bPart_at, bPart_at, bPart_at, parts]
  exact pick_map (fun X : Side => (X.ds (ix2 k (at8 g r)) : EReal)) _ _ _ _ j

theorem blkS_at : @Eq EReal (blkS m c t (ix2 0 (hd j g))) (∑ r, (sd m c t j).dcol (ix2 0 (at8 g r))) := by
  rw [blkS, toS0_at, toS1_at, toS2_at, toS3_at, sPart_at, sPart_at, sPart_at, sPart_at, parts]
  exact pick_map (fun X : Side => (∑ r, X.dcol (ix2 0 (at8 g r)) : EReal)) _ _ _ _ j

variable {m c} {V0 : Valuation Cert.ReferenceIdeal.τ Cert.ReferenceIdeal.sig (Elt Ideal)} (S : Same m c V0)

include S

theorem sd_reads : Reads (sd m c t j) V0 (pt t) j := by
  have h : j = 0 ∨ j = 1 ∨ j = 2 ∨ j = 3 := by omega
  rcases h with h | h | h | h <;> subst h
  · exact reads0 S t
  · exact reads1 S t
  · exact reads2 S t
  · exact reads3 S t

theorem valQ : @Eq EReal (blkQ m c t (ix2 r (col j g e))) (ReferenceIdeal.Attn.refQ V0 (ix2 (ReferenceIdeal.Attn.row (pt t) r) (ReferenceIdeal.Attn.col j g e))) := by
  rw [blkQ_at, (sd_reads t j S).dqg_eq, ReferenceIdeal.Attn.refQ_at]

theorem valB : @Eq EReal (blkB m c t (ix3 (hd j g) k r)) (SoftCol.ds (ReferenceIdeal.Attn.see V0 (pt t) j g r) (ReferenceIdeal.Attn.sc V0 (pt t) j g r)
    (ReferenceIdeal.Attn.sk V0 j g) (ReferenceIdeal.Attn.dp V0 (pt t) j g r) k) := by
  rw [blkB_at, (sd_reads t j S).ds_eq]

theorem valS : @Eq EReal (blkS m c t (ix2 0 (hd j g))) (∑ r, (SoftCol.gS (ReferenceIdeal.Attn.sc V0 (pt t) j g r) (ReferenceIdeal.Attn.sk V0 j g) (ReferenceIdeal.Attn.dp V0 (pt t) j g r)
    + SoftCol.toSink (ReferenceIdeal.Attn.sc V0 (pt t) j g r) (ReferenceIdeal.Attn.sk V0 j g) (ReferenceIdeal.Attn.dp V0 (pt t) j g r))) := by
  rw [blkS_at]
  exact Finset.sum_congr rfl fun r _ => (sd_reads t j S).dcol_eq g r

theorem valKP : @Eq EReal (toKP (sd0 m c t).dk (sd1 m c t).dk (sd2 m c t).dk (sd3 m c t).dk (ix2 r (kcol j e)))
    (ReferenceIdeal.Attn.refKP V0 (ix2 (ReferenceIdeal.Attn.row (pt t) r) (ReferenceIdeal.Attn.kcol j e))) := by
  rw [toKP_at, pick_map Side.dk, ReferenceIdeal.Attn.refKP_at, ReferenceIdeal.Attn.v182_at]
  exact (sd_reads t j S).dk_eq _ e

theorem valKC : @Eq EReal (toKC (sd0 m c t).dk (sd1 m c t).dk (sd2 m c t).dk (sd3 m c t).dk (ix2 r (kcol j e)))
    (ReferenceIdeal.Attn.refKC V0 (ix2 (ReferenceIdeal.Attn.row (pt t) r) (ReferenceIdeal.Attn.kcol j e))) := by
  rw [toKC_at, pick_map Side.dk, ReferenceIdeal.Attn.refKC_at, ReferenceIdeal.Attn.v182_at]
  exact (sd_reads t j S).dk_eq _ e

theorem valVP : @Eq EReal (toVP (sd0 m c t).dv (sd1 m c t).dv (sd2 m c t).dv (sd3 m c t).dv (ix2 r (kcol j e)))
    (ReferenceIdeal.Attn.refVP V0 (ix2 (ReferenceIdeal.Attn.row (pt t) r) (ReferenceIdeal.Attn.kcol j e))) := by
  rw [toVP_at, pick_map Side.dv, ReferenceIdeal.Attn.refVP_at, ReferenceIdeal.Attn.v137_at]
  exact (sd_reads t j S).dv_eq _ e

theorem valVC : @Eq EReal (toVC (sd0 m c t).dv (sd1 m c t).dv (sd2 m c t).dv (sd3 m c t).dv (ix2 r (kcol j e)))
    (ReferenceIdeal.Attn.refVC V0 (ix2 (ReferenceIdeal.Attn.row (pt t) r) (ReferenceIdeal.Attn.kcol j e))) := by
  rw [toVC_at, pick_map Side.dv, ReferenceIdeal.Attn.refVC_at, ReferenceIdeal.Attn.v137_at]
  exact (sd_reads t j S).dv_eq _ e

end Cert.KernelIdeal.Attn
-- ==== Proof.Final.lean ====
module

public import proofs.«01_k».proof.Proof.BlockValue

@[expose] public section

set_option maxRecDepth 16384
set_option maxHeartbeats 4000000

noncomputable section

/-! The kernel's results are the reference's. -/

namespace Cert.KernelIdeal.Attn

open Cert.KernelIdeal Cert.KernelIdeal.Gen Idealize.ShloMosaic Idealize.ShloMosaic.TcCoe Idealize.SL.Sem Idealize.ShloMosaic.StableHlo

theorem idxO : ∀ t : Fin cfg0.N, win0_8.index t = ![t.val, 0] ∧ win0_9.index t = ![t.val, 0] ∧ win0_10.index t = ![t.val, 0]
    ∧ win0_11.index t = ![t.val, 0] ∧ win0_12.index t = ![t.val, 0] ∧ win0_13.index t = ![0, 0, 0] ∧ win0_14.index t = ![0, 0] :=
  (by decide +kernel : ∀ t : Fin grid0.N, _)

theorem col_of (x : Fin 2048) : ∃ (j : Fin 4) (g : Fin 8) (e : Fin 64), x = col j g e :=
  ⟨⟨x.1 / 512, by omega⟩, ⟨x.1 % 512 / 64, by omega⟩, ⟨x.1 % 64, by omega⟩, Fin.ext (by simp only [col]; omega)⟩
theorem kcol_of (x : Fin 256) : ∃ (j : Fin 4) (e : Fin 64), x = kcol j e :=
  ⟨⟨x.1 / 64, by omega⟩, ⟨x.1 % 64, by omega⟩, Fin.ext (by simp only [kcol]; omega)⟩
theorem hd_of (x : Fin 32) : ∃ (j : Fin 4) (g : Fin 8), x = hd j g :=
  ⟨⟨x.1 / 8, by omega⟩, ⟨x.1 % 8, by omega⟩, Fin.ext (by simp only [hd]; omega)⟩

variable {m : (ℓ : Loc nD τ sig) → Buf (Elt Ideal) ℓ} {c : Dev nD} (t : Fin cfg0.N)

theorem out8 : (outsAt0 m c t.1 t.2).1 = (truncf .bf16 (blkQ m c t) bitsLt_bf16_f32 : FVec Ideal S128x2048 .bf16) := by
  by_cases h : t.val % 32 = 0
  · exact out8_A m c t h
  · exact out8_B m c t h
theorem out9 : (outsAt0 m c t.1 t.2).2.1 = toKP (sd0 m c t).dk (sd1 m c t).dk (sd2 m c t).dk (sd3 m c t).dk := by
  by_cases h : t.val % 32 = 0
  · exact out9_A m c t h
  · exact out9_B m c t h
theorem out10 : (outsAt0 m c t.1 t.2).2.2.1 = toKC (sd0 m c t).dk (sd1 m c t).dk (sd2 m c t).dk (sd3 m c t).dk := by
  by_cases h : t.val % 32 = 0
  · exact out10_A m c t h
  · exact out10_B m c t h
theorem out11 : (outsAt0 m c t.1 t.2).2.2.2.1 = toVP (sd0 m c t).dv (sd1 m c t).dv (sd2 m c t).dv (sd3 m c t).dv := by
  by_cases h : t.val % 32 = 0
  · exact out11_A m c t h
  · exact out11_B m c t h
theorem out12 : (outsAt0 m c t.1 t.2).2.2.2.2.1 = toVC (sd0 m c t).dv (sd1 m c t).dv (sd2 m c t).dv (sd3 m c t).dv := by
  by_cases h : t.val % 32 = 0
  · exact out12_A m c t h
  · exact out12_B m c t h

variable {V0 : Valuation Cert.ReferenceIdeal.τ Cert.ReferenceIdeal.sig (Elt Ideal)} (S : Same m c V0)

include S

theorem final8 : (dats m 0 c).arrAt 8 cfg0.N = ReferenceIdeal.Attn.refQ V0 := by
  refine (dats m 0 c).arrAt_eq_of_covers 8 _ (by decide +kernel) fun t hf y => ?_
  blk_simp
  rw [after0_8, out8]
  obtain ⟨r, x, rfl⟩ : ∃ (r : Fin 128) (x : Fin 2048), y = ix2 r x := ⟨y 0, y 1, eq_ix2 y⟩
  obtain ⟨j, g, e, rfl⟩ := col_of x
  refine (valQ t j g r e S).trans ?_
  blk_ext [idxO t]
  all_goals rfl

theorem final9 : (dats m 0 c).arrAt 9 cfg0.N = ReferenceIdeal.Attn.refKP V0 := by
  refine (dats m 0 c).arrAt_eq_of_covers 9 _ (by decide +kernel) fun t hf y => ?_
  blk_simp
  rw [after0_9, out9]
  obtain ⟨r, x, rfl⟩ : ∃ (r : Fin 128) (x : Fin 256), y = ix2 r x := ⟨y 0, y 1, eq_ix2 y⟩
  obtain ⟨j, e, rfl⟩ := kcol_of x
  refine (valKP t j r e S).trans ?_
  blk_ext [idxO t]
  all_goals rfl

theorem final10 : (dats m 0 c).arrAt 10 cfg0.N = ReferenceIdeal.Attn.refKC V0 := by
  refine (dats m 0 c).arrAt_eq_of_covers 10 _ (by decide +kernel) fun t hf y => ?_
  blk_simp
  rw [after0_10, out10]
  obtain ⟨r, x, rfl⟩ : ∃ (r : Fin 128) (x : Fin 256), y = ix2 r x := ⟨y 0, y 1, eq_ix2 y⟩
  obtain ⟨j, e, rfl⟩ := kcol_of x
  refine (valKC t j r e S).trans ?_
  blk_ext [idxO t]
  all_goals rfl

theorem final11 : (dats m 0 c).arrAt 11 cfg0.N = ReferenceIdeal.Attn.refVP V0 := by
  refine (dats m 0 c).arrAt_eq_of_covers 11 _ (by decide +kernel) fun t hf y => ?_
  blk_simp
  rw [after0_11, out11]
  obtain ⟨r, x, rfl⟩ : ∃ (r : Fin 128) (x : Fin 256), y = ix2 r x := ⟨y 0, y 1, eq_ix2 y⟩
  obtain ⟨j, e, rfl⟩ := kcol_of x
  refine (valVP t j r e S).trans ?_
  blk_ext [idxO t]
  all_goals rfl

theorem final12 : (dats m 0 c).arrAt 12 cfg0.N = ReferenceIdeal.Attn.refVC V0 := by
  refine (dats m 0 c).arrAt_eq_of_covers 12 _ (by decide +kernel) fun t hf y => ?_
  blk_simp
  rw [after0_12, out12]
  obtain ⟨r, x, rfl⟩ : ∃ (r : Fin 128) (x : Fin 256), y = ix2 r x := ⟨y 0, y 1, eq_ix2 y⟩
  obtain ⟨j, e, rfl⟩ := kcol_of x
  refine (valVC t j r e S).trans ?_
  blk_ext [idxO t]
  all_goals rfl

omit S in
theorem run_pt (t : Fin cfg0.N) (s : Fin 32) (h : 32 * (t.val / 32) + s.val < cfg0.N) : pt ⟨32 * (t.val / 32) + s.val, h⟩ = s := by
  have ht : t.val < 32 := (pt t).2
  exact Fin.ext (by simp only [pt]; omega)

theorem final13 : (dats m 0 c).arrAt 13 cfg0.N = ReferenceIdeal.Attn.refB V0 := by
  refine (dats m 0 c).arrAt_eq_of_covers 13 _ (by decide +kernel) fun t hf y => ?_
  blk_simp
  rw [after0_13, Pipeline.eq_sum_fin_of_reset_step_apply_of_flush (fun n h => (outsAt0 m c n h).2.2.2.2.2.1) 32 (fun _ => 0)
    (fun t y => (show FVec Ideal S32x256x128 .f32 from blkB m c t) y)
    (fun t h j => by rw [out13_A m c t h]; pointwise)
    (fun t h j => by rw [out13_B m c t h]; pointwise)
    t ((flush0_13 t).mp hf) _, zero_add]
  obtain ⟨x, k, r, rfl⟩ : ∃ (x : Fin 32) (k : Fin 256) (r : Fin 128), y = ix3 x k r := ⟨y 0, y 1, y 2, eq_ix3 y⟩
  obtain ⟨j, g, rfl⟩ := hd_of x
  refine Eq.trans (b := ReferenceIdeal.Attn.refB V0 (ix3 (ReferenceIdeal.Attn.hd j g) k r)) ?_ ?_
  · refine Eq.trans ?_ (ReferenceIdeal.Attn.refB_at V0 j g r k).symm
    refine Fin.sum_fin_congr fun s => ?_
    refine (valB _ j g r k S).trans ?_
    rw [run_pt]
  · blk_ext [idxO t]
    all_goals rfl

theorem final14 : (dats m 0 c).arrAt 14 cfg0.N = ReferenceIdeal.Attn.refS V0 := by
  refine (dats m 0 c).arrAt_eq_of_covers 14 _ (by decide +kernel) fun t hf y => ?_
  blk_simp
  rw [after0_14, Pipeline.eq_sum_fin_of_reset_step_apply_of_flush (fun n h => (outsAt0 m c n h).2.2.2.2.2.2) 32 (fun _ => 0)
    (fun t y => (show FVec Ideal S1x32 .f32 from blkS m c t) y)
    (fun t h j => by rw [out14_A m c t h]; pointwise)
    (fun t h j => by rw [out14_B m c t h]; pointwise)
    t ((flush0_14 t).mp hf) _, zero_add]
  obtain ⟨z, x, rfl⟩ : ∃ (z : Fin 1) (x : Fin 32), y = ix2 z x := ⟨y 0, y 1, eq_ix2 y⟩
  obtain rfl : z = 0 := Subsingleton.elim _ _
  obtain ⟨j, g, rfl⟩ := hd_of x
  refine Eq.trans (b := ReferenceIdeal.Attn.refS V0 (ix2 0 (ReferenceIdeal.Attn.hd j g))) ?_ ?_
  · refine Eq.trans ?_ (ReferenceIdeal.Attn.refS_at V0 j g).symm
    refine Fin.sum_fin_congr fun s => ?_
    refine (valS _ j g S).trans ?_
    rw [run_pt]
  · blk_ext [idxO t]
    all_goals rfl

end Cert.KernelIdeal.Attn
-- ==== Proof.SoftSum.lean ====
module

public import proofs.«01_k».proof.Proof.Column

@[expose] public section

noncomputable section

/-! A column's probabilities times the values: the keys before the sequence's start take no part. -/

namespace SoftCol

open Idealize.ShloMosaic

variable {s : Fin 256 → EReal} {k : EReal}

theorem exp_nonneg (x : EReal) : 0 ≤ Ideal.exp x := by
  induction x with
  | bot => exact le_of_eq Ideal.exp_bot.symm
  | top => rw [Ideal.exp_top]; exact le_top
  | coe r => rw [Ideal.exp_coe]; exact EReal.coe_nonneg.2 (Real.exp_pos r).le

/-- A denominator of zero has nothing but zeros above it. -/
theorem pr_of_den (h : den s k = 0) (x : Fin 256) : pr s k x = ⊥ := by
  have h1 : ∑ x, ex s k x = 0 := ((add_eq_zero_iff_of_nonneg (Finset.sum_nonneg fun x _ => exp_nonneg _) (exp_nonneg _)).1 h).1
  have h2 : ex s k x = 0 := (Finset.sum_eq_zero_iff_of_nonneg fun x _ => exp_nonneg _).1 h1 x (Finset.mem_univ x)
  rw [pr, h, h2, Ideal.div, if_pos rfl, if_neg (lt_irrefl _)]

theorem pr_unseen (h : den s k ≠ 0) {x : Fin 256} (hx : s x = ⊥) : pr s k x = 0 := by
  rw [pr, ex_bot hx, Ideal.div, if_neg h, zero_mul]

theorem bot_twice (v : EReal) : (⊥ * v) + (⊥ * v) = (⊥ * v : EReal) := by
  rcases lt_trichotomy v 0 with h | h | h
  · rw [EReal.bot_mul_of_neg h, EReal.top_add_top]
  · rw [h, mul_zero, add_zero]
  · rw [EReal.bot_mul_of_pos h, EReal.bot_add]

/-- When no key of the first half is seen, that half's values do not matter, so long as they repeat the second half's. -/
theorem sum_unseen {v v' : Fin 256 → EReal} (h : ∀ x : Fin 128, s (Fin.castAdd 128 x) = ⊥)
    (h0 : ∀ x : Fin 128, v' (Fin.castAdd 128 x) = 0) (h1 : ∀ x : Fin 128, v (Fin.natAdd 128 x) = v' (Fin.natAdd 128 x))
    (h2 : ∀ x : Fin 128, v (Fin.castAdd 128 x) = v (Fin.natAdd 128 x)) :
    ∑ x, v x * pr s k x = ∑ x, v' x * pr s k x := by
  rw [Fin.sum_univ_add (a := 128) (b := 128) (f := fun x => v x * pr s k x), Fin.sum_univ_add (a := 128) (b := 128) (f := fun x => v' x * pr s k x)]
  simp only [h0, zero_mul, Finset.sum_const_zero, zero_add, h2, h1]
  by_cases hd : den s k = 0
  · simp only [pr_of_den hd]
    rw [← Finset.sum_add_distrib]
    exact Finset.sum_congr rfl fun x _ => by rw [mul_comm]; exact bot_twice _
  · simp only [pr_unseen hd (h _), mul_zero, Finset.sum_const_zero, zero_add]

end SoftCol
-- ==== Proof.AttnHeads.lean ====
module

public import proofs.«01_k».proof.Defs
public import proofs.«01_k».proof.Proof.BlockValue
public import proofs.«01_k».proof.Proof.SoftSum
public import proofs.«01_k».proof.Proof.Gen.AttentionIdeal.Value
public import proofs.«01_k».proof.Proof.Gen.AttentionRefIdeal.Run
public import Idealize.ShloMosaic.Lib.UnfoldOut

@[expose] public section

set_option maxRecDepth 16384
set_option maxHeartbeats 4000000

noncomputable section

/-! The attention's output, block by block. -/

namespace Cert.AttentionIdeal.Proof

open Cert.AttentionIdeal Cert.AttentionIdeal.Gen Idealize.ShloMosaic Idealize.ShloMosaic.TcCoe Idealize.SL.Sem Idealize.ShloMosaic.StableHlo
open Cert.KernelIdeal.Attn (Side side0 side1 side2 side3 eye at8 hd col kcol row rowP Reads)

/-- A key head's output, transposed: the values weighed by the probabilities. -/
def oT (X : Side) : FVec Ideal S64x1024 .f32 :=
  matmul dot_S256x64_S256x1024_S64x1024_0_0_1_1_n_n none (truncf .bf16 X.vb bitsLt_bf16_f32) (truncf .bf16 X.pr bitsLt_bf16_f32)
    (constant S64x1024 .f32 0x00000000#32)

theorem slices (g : Fin 8) : S64x1024.Slices ![0, g.1 * 128] S64x128 := by
  fin_cases g <;> decide

/-- One query head's output, turned by a product with the identity. -/
def head (X : Side) (g : Fin 8) : FVec Ideal S128x64 .f32 :=
  matmul dot_S128x128_S64x128_S128x64_1_1_0_0_n_n none (truncf .bf16 eye bitsLt_bf16_f32)
    (truncf .bf16 (extractStridedSlice S64x128 ![0, g.1 * 128] (oT X) (slices g)) bitsLt_bf16_f32) (constant S128x64 .f32 0x00000000#32)

/-- The query heads side by side. -/
def out (X0 X1 X2 X3 : Side) : FVec Ideal S128x2048 .f32 :=
  concatenate S128x2048 1 [⟨S128x64, head X0 0⟩, ⟨S128x64, head X0 1⟩, ⟨S128x64, head X0 2⟩, ⟨S128x64, head X0 3⟩, ⟨S128x64, head X0 4⟩, ⟨S128x64, head X0 5⟩, ⟨S128x64, head X0 6⟩, ⟨S128x64, head X0 7⟩,
    ⟨S128x64, head X1 0⟩, ⟨S128x64, head X1 1⟩, ⟨S128x64, head X1 2⟩, ⟨S128x64, head X1 3⟩, ⟨S128x64, head X1 4⟩, ⟨S128x64, head X1 5⟩, ⟨S128x64, head X1 6⟩, ⟨S128x64, head X1 7⟩,
    ⟨S128x64, head X2 0⟩, ⟨S128x64, head X2 1⟩, ⟨S128x64, head X2 2⟩, ⟨S128x64, head X2 3⟩, ⟨S128x64, head X2 4⟩, ⟨S128x64, head X2 5⟩, ⟨S128x64, head X2 6⟩, ⟨S128x64, head X2 7⟩,
    ⟨S128x64, head X3 0⟩, ⟨S128x64, head X3 1⟩, ⟨S128x64, head X3 2⟩, ⟨S128x64, head X3 3⟩, ⟨S128x64, head X3 4⟩, ⟨S128x64, head X3 5⟩, ⟨S128x64, head X3 6⟩, ⟨S128x64, head X3 7⟩] concatenates_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x2048_d1

theorem oT_at (X : Side) (e : Fin 64) (c : Fin 1024) : oT X (ix2 e c) = ∑ k, X.vb (ix2 k e) * X.pr (ix2 k c) := by
  pointwise [oT]

theorem eye_sum (f : Fin 128 → EReal) (r : Fin 128) : ∑ x, eye (ix2 r x) * f x = f r := by
  rw [Finset.sum_eq_single r (fun x _ h => by rw [Cert.KernelIdeal.Attn.eye_at, if_neg (Ne.symm h), zero_mul]) (fun h => absurd (Finset.mem_univ r) h),
    Cert.KernelIdeal.Attn.eye_at, if_pos rfl, one_mul]

theorem head_at (X : Side) (g : Fin 8) (r : Fin 128) (e : Fin 64) : head X g (ix2 r e) = oT X (ix2 e (at8 g r)) := by
  pointwise [head]
  refine (eye_sum (fun x => oT X (ix2 e ⟨g.1 * 128 + x.1, _⟩)) r).trans rfl

/-- The query heads in a row. -/
def nth (X0 X1 X2 X3 : Side) (n : Fin 32) : FVec Ideal S128x64 .f32 :=
  head (Cert.KernelIdeal.Attn.pick X0 X1 X2 X3 ⟨n.1 / 8, by omega⟩) ⟨n.1 % 8, by omega⟩

theorem out_list (X0 X1 X2 X3 : Side) : out X0 X1 X2 X3
    = concatenate S128x2048 1 (List.ofFn fun n : Fin 32 => ⟨S128x64, nth X0 X1 X2 X3 n⟩) concatenates_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x2048_d1 := rfl

theorem out_at (X0 X1 X2 X3 : Side) (r : Fin 128) (j : Fin 4) (g : Fin 8) (e : Fin 64) :
    out X0 X1 X2 X3 (ix2 r (col j g e)) = oT (Cert.KernelIdeal.Attn.pick X0 X1 X2 X3 j) (ix2 e (at8 g r)) := by
  rw [← head_at, out_list]
  have hx : (col j g e).1 = j.1 * 512 + g.1 * 64 + e.1 := rfl
  refine (concatenate_ofFn_apply (t := S128x2048) 1 (nth X0 X1 X2 X3) _ rfl 64 rfl (ix2 r (col j g e)) (hd j g) ?_ (ix2 r e) ?_ ?_).trans ?_
  · show (col j g e).1 / 64 = j.1 * 8 + g.1
    omega
  · show e.1 = (col j g e).1 % 64
    omega
  · intro b hb
    match b, hb with
    | ⟨0, _⟩, _ => rfl
    | ⟨1, _⟩, hb => exact absurd rfl hb
  · have hj : (⟨(hd j g).1 / 8, by omega⟩ : Fin 4) = j := Fin.ext (by simp only [hd]; omega)
    have hg : (⟨(hd j g).1 % 8, by omega⟩ : Fin 8) = g := Fin.ext (by simp only [hd]; omega)
    rw [nth, hj, hg]

end Cert.AttentionIdeal.Proof

end
-- ==== Proof.AttnPay.lean ====
module

public import proofs.«01_k».proof.Proof.AttnHeads
public import proofs.«01_k».proof.Proof.BlockValue
public import proofs.«01_k».proof.Proof.SoftSum
public import proofs.«01_k».proof.Proof.Gen.AttentionIdeal.Value
public import proofs.«01_k».proof.Proof.Gen.AttentionRefIdeal.Run
public import Idealize.ShloMosaic.Lib.UnfoldOut

@[expose] public section

set_option maxRecDepth 16384
set_option maxHeartbeats 4000000

noncomputable section

/-! The attention's output, against its blocks. -/

namespace Cert.AttentionIdeal.Proof

open Cert.AttentionIdeal Cert.AttentionIdeal.Gen Idealize.ShloMosaic Idealize.ShloMosaic.TcCoe Idealize.SL.Sem Idealize.ShloMosaic.StableHlo
open Cert.KernelIdeal.Attn (Side side0 side1 side2 side3 eye at8 hd col kcol row rowP Reads)

variable (i : grid0.Coords) (x0 : FVec Ideal S128x2048 .f32) (x1 x2 x3 x4 : FVec Ideal S128x256 .f32) (x5 : FVec Ideal S32x256x128 .f32) (x6 : FVec Ideal S1x32 .f32) (d : FVec Ideal S128x2048 .f32)

theorem s_eye : (k0_pay9 (F := Ideal)) = eye := rfl
theorem o0 : k0_pay16 (F := Ideal) (k0_pay8 i) (k0_pay13 (k0_pay11 x3) (k0_pay12 x4)) (k0_pay14 x6) (k0_pay15 x0 (k0_pay7 x5) (k0_pay10 x1 x2)) = oT (side0 i x0 x1 x2 x3 x4 x5 x6 d) := rfl
theorem o1 : k0_pay32 (F := Ideal) (k0_pay8 i) (k0_pay27 x3 x4) (k0_pay28 x0) (k0_pay29 (k0_pay7 x5)) (k0_pay30 x6) (k0_pay31 x1 x2) = oT (side1 i x0 x1 x2 x3 x4 x5 x6 d) := rfl
theorem o2 : k0_pay53 (F := Ideal) x6 (k0_pay8 i) (k0_pay42 x1 x2) (k0_pay43 x3 x4) (k0_pay44 x0) (k0_pay45 (k0_pay7 x5)) (k0_pay46 x6) (k0_pay47 x6) (k0_pay48 x6) (k0_pay49 x6) (k0_pay50 x6) (k0_pay51 x6) (k0_pay52 x6) = oT (side2 i x0 x1 x2 x3 x4 x5 x6 d) := rfl
theorem o3 : k0_pay72 (F := Ideal) x6 (k0_pay8 i) (k0_pay64 x1 x2) (k0_pay65 x3 x4) (k0_pay66 x0) (k0_pay67 (k0_pay7 x5)) (k0_pay68 x6) (k0_pay69 x6) (k0_pay70 x6) (k0_pay71 x6) = oT (side3 i x0 x1 x2 x3 x4 x5 x6 d) := rfl

theorem payload : out0_7 (F := Ideal) i x0 x1 x2 x3 x4 x5 x6 = (truncf .bf16 (out (side0 i x0 x1 x2 x3 x4 x5 x6 d) (side1 i x0 x1 x2 x3 x4 x5 x6 d) (side2 i x0 x1 x2 x3 x4 x5 x6 d) (side3 i x0 x1 x2 x3 x4 x5 x6 d)) bitsLt_bf16_f32 : FVec Ideal S128x2048 .bf16) := by
  have hz : (![0, 0] : Fin 2 → Nat) = fun _ => 0 := funext fun a => by fin_cases a <;> rfl
  have hz3 : (![0, 0, 0] : Fin 3 → Nat) = fun _ => 0 := funext fun a => by fin_cases a <;> rfl
  unfold_out out0_7
  rw [View.canon_unit_zero hz, View.ld_unit_zero hz, View.ld_unit_zero hz, View.ld_unit_zero hz, View.ld_unit_zero hz, View.ld_unit_zero hz3, View.ld_unit_zero hz, View.ld_unit_zero hz]
  unfold k0_pay1 k0_pay2 k0_pay3 k0_pay4 k0_pay5 k0_pay6 k0_pay17 k0_pay18 k0_pay19 k0_pay20 k0_pay21 k0_pay22 k0_pay23 k0_pay24 k0_pay25 k0_pay26 k0_pay33 k0_pay34 k0_pay35 k0_pay36 k0_pay37 k0_pay38 k0_pay39 k0_pay40 k0_pay41 k0_pay54 k0_pay55 k0_pay56 k0_pay57 k0_pay58 k0_pay59 k0_pay60 k0_pay61 k0_pay62 k0_pay63 k0_pay73 k0_pay74 k0_pay75 k0_pay76 k0_pay77
  rw [s_eye, o0 (d := d), o1 (d := d), o2 (d := d), o3 (d := d)]
  unfold out head
  clear hz hz3
  generalize oT (side0 i x0 x1 x2 x3 x4 x5 x6 d) = A0
  generalize oT (side1 i x0 x1 x2 x3 x4 x5 x6 d) = A1
  generalize oT (side2 i x0 x1 x2 x3 x4 x5 x6 d) = A2
  generalize oT (side3 i x0 x1 x2 x3 x4 x5 x6 d) = A3
  refine congrArg (fun x => truncf (F := Ideal) .bf16 x bitsLt_bf16_f32) ?_
  rfl

end Cert.AttentionIdeal.Proof

end
-- ==== Proof.AttnRead.lean ====
module

public import proofs.«01_k».proof.Proof.BlockRead
public import proofs.«01_k».proof.Proof.Gen.AttentionIdeal.Value
public import Idealize.ShloMosaic.Lib.Claim
public import Idealize.ShloMosaic.Lib.Pipeline.ValueKit

@[expose] public section

set_option maxRecDepth 16384
set_option maxHeartbeats 2000000

noncomputable section

/-! The attention's input blocks, read at an index, and the key heads of a grid point. -/

namespace Cert.AttentionIdeal.Proof

open Cert.AttentionIdeal Cert.AttentionIdeal.Gen Idealize.ShloMosaic Idealize.ShloMosaic.TcCoe Idealize.SL.Sem Idealize.ShloMosaic.StableHlo
open Cert.KernelIdeal.Attn (Side side0 side1 side2 side3 at8 hd col kcol row rowP pt Reads)

variable (m : (ℓ : Loc nD τ sig) → Buf (Elt Ideal) ℓ) (c : Dev nD) (t : Fin cfg0.N)

theorem idx : ∀ t : Fin cfg0.N, win0_0.index t = ![t.val, 0] ∧ win0_1.index t = ![t.val - 1, 0] ∧ win0_2.index t = ![t.val, 0]
    ∧ win0_3.index t = ![t.val - 1, 0] ∧ win0_4.index t = ![t.val, 0] ∧ win0_5.index t = ![0, 0, 0] ∧ win0_6.index t = ![0, 0]
    ∧ win0_7.index t = ![t.val, 0] :=
  (by decide +kernel : ∀ t : Fin grid0.N, _)

theorem blk0 (r : Fin 128) (x : Fin 2048) : @Eq EReal (iblk m c 0 t (ix2 r x)) (m ((c : Thread nD τ).loc main_arg0) (ix2 (row (pt t) r) x)) := by
  blk_ext [iblk, V, idx t, row, pt]
theorem blk1 (r : Fin 128) (x : Fin 256) : @Eq EReal (iblk m c 1 t (ix2 r x)) (m ((c : Thread nD τ).loc main_arg1) (ix2 (rowP (pt t) r) x)) := by
  blk_ext [iblk, V, idx t, rowP, pt]
theorem blk2 (r : Fin 128) (x : Fin 256) : @Eq EReal (iblk m c 2 t (ix2 r x)) (m ((c : Thread nD τ).loc main_arg1) (ix2 (row (pt t) r) x)) := by
  blk_ext [iblk, V, idx t, row, pt]
theorem blk3 (r : Fin 128) (x : Fin 256) : @Eq EReal (iblk m c 3 t (ix2 r x)) (m ((c : Thread nD τ).loc main_arg2) (ix2 (rowP (pt t) r) x)) := by
  blk_ext [iblk, V, idx t, rowP, pt]
theorem blk4 (r : Fin 128) (x : Fin 256) : @Eq EReal (iblk m c 4 t (ix2 r x)) (m ((c : Thread nD τ).loc main_arg2) (ix2 (row (pt t) r) x)) := by
  blk_ext [iblk, V, idx t, row, pt]
theorem blk5 (h : Fin 32) (k : Fin 256) (r : Fin 128) : @Eq EReal (iblk m c 5 t (ix3 h k r)) (V m c main_v37 (ix3 h k r)) := by
  blk_ext [iblk, idx t]
theorem blk6 (h : Fin 32) : @Eq EReal (iblk m c 6 t (ix2 0 h)) (m ((c : Thread nD τ).loc main_arg4) (ix2 0 h)) := by
  blk_ext [iblk, V, idx t]

/-- A run of the gradient's reference on the same arguments, whatever its incoming gradient is. -/
structure Same (V0 : Valuation Cert.ReferenceIdeal.τ Cert.ReferenceIdeal.sig (Elt Ideal)) : Prop where
  a0 : ReferenceIdeal.Attn.in0 V0 = m ((c : Thread nD τ).loc main_arg0)
  a1 : ReferenceIdeal.Attn.in1 V0 = m ((c : Thread nD τ).loc main_arg1)
  a2 : ReferenceIdeal.Attn.in2 V0 = m ((c : Thread nD τ).loc main_arg2)
  a3 : ReferenceIdeal.Attn.in3 V0 = m ((c : Thread nD τ).loc main_arg3)
  a4 : ReferenceIdeal.Attn.in4 V0 = m ((c : Thread nD τ).loc main_arg4)

theorem exists_same : ∃ V0, Same m c V0 := by
  let V1 : Valuation Cert.ReferenceIdeal.τ Cert.ReferenceIdeal.sig (Elt Ideal) := fun b _ => default
  let V2 := Function.update V1 (Proc.tc.devRef Cert.ReferenceIdeal.main_arg0) (m ((c : Thread nD τ).loc main_arg0))
  let V3 := Function.update V2 (Proc.tc.devRef Cert.ReferenceIdeal.main_arg1) (m ((c : Thread nD τ).loc main_arg1))
  let V4 := Function.update V3 (Proc.tc.devRef Cert.ReferenceIdeal.main_arg2) (m ((c : Thread nD τ).loc main_arg2))
  let V5 := Function.update V4 (Proc.tc.devRef Cert.ReferenceIdeal.main_arg3) (m ((c : Thread nD τ).loc main_arg3))
  let V6 := Function.update V5 (Proc.tc.devRef Cert.ReferenceIdeal.main_arg4) (m ((c : Thread nD τ).loc main_arg4))
  refine ⟨V6, ⟨?_, ?_, ?_, ?_, ?_⟩⟩
  · exact (Function.update_of_ne (by decide) _ _).trans ((Function.update_of_ne (by decide) _ _).trans
      ((Function.update_of_ne (by decide) _ _).trans ((Function.update_of_ne (by decide) _ _).trans (Function.update_self _ _ _))))
  · exact (Function.update_of_ne (by decide) _ _).trans ((Function.update_of_ne (by decide) _ _).trans
      ((Function.update_of_ne (by decide) _ _).trans (Function.update_self _ _ _)))
  · exact (Function.update_of_ne (by decide) _ _).trans ((Function.update_of_ne (by decide) _ _).trans (Function.update_self _ _ _))
  · exact (Function.update_of_ne (by decide) _ _).trans (Function.update_self _ _ _)
  · exact Function.update_self _ _ _

theorem gather_congr (a : FVec Ideal S32x32 .f32) (v w : IVec S128x256x1 32) (h : v = w) (i : S128x256x32.Idx) :
    @Eq EReal (Host.gather gather_S32x32_S128x256x1_S128x256x32_2_0_n_n_0_2_132 a v i)
      (Host.gather Cert.ReferenceIdeal.gather_S32x32_S128x256x1_S128x256x32_2_0_n_n_0_2_132 a w i) := by
  subst h; rfl

variable {m c} {V0 : Valuation Cert.ReferenceIdeal.τ Cert.ReferenceIdeal.sig (Elt Ideal)} (S : Same m c V0)

include S

theorem bias_at (h : Fin 32) (k : Fin 256) (r : Fin 128) :
    @Eq EReal (V m c main_v37 (ix3 h k r)) (Cert.ReferenceIdeal.Attn.tab V0 (ix3 r k h)) := by
  show @Eq EReal (after [hostOps0, hostOps0_1, hostOps0_2].flatten (fun b => m (c, b)) (Proc.tc.devRef main_v37) (ix3 h k r)) _
  simp only [List.flatten_cons, List.flatten_nil, List.append_nil, hostOps0, hostOps0_1, hostOps0_2, List.cons_append, List.nil_append, TRef.nullary, TRef.ternary, TRef.unary, TRef.toBuf, TRef.ofBuf, cast_eq]
  after_results_simp
  pointwise
  refine (gather_congr _ _ _ ?_ _).trans (congrArg (fun a => Host.gather Cert.ReferenceIdeal.gather_S32x32_S128x256x1_S128x256x32_2_0_n_n_0_2_132 a _ _) S.a3.symm)
  unfold Cert.ReferenceIdeal.Value.res_main_v32 Cert.ReferenceIdeal.Value.res_main_v14
  rfl

/-- The block of the gradient's reference that its incoming gradient would give this grid point. -/
def grad (V0 : Valuation Cert.ReferenceIdeal.τ Cert.ReferenceIdeal.sig (Elt Ideal)) (t : Fin cfg0.N) : FVec Ideal S128x2048 .f32 :=
  fun y => ReferenceIdeal.Attn.in5 V0 (ix2 (row (pt t) (y 0)) ⟨2048 + (y 1).1, by have : (y 1).1 < 2048 := (y 1).2; omega⟩)

/-- A side that takes head `j`'s columns of the grid point's blocks reads block `pt t`. -/
theorem reads (X : Side) (j : Fin 4) (hm : X.mask = Cert.KernelIdeal.Attn.see (grid0.coords t))
    (hk : ∀ (k : Fin 256) (d : Fin 64), @Eq EReal (X.kb (ix2 k d)) (if h : k.1 < 128 then iblk m c 1 t (ix2 ⟨k.1, h⟩ (kcol j d)) else iblk m c 2 t (ix2 ⟨k.1 - 128, by omega⟩ (kcol j d))))
    (hv : ∀ (k : Fin 256) (d : Fin 64), @Eq EReal (X.vb (ix2 k d)) (if h : k.1 < 128 then iblk m c 3 t (ix2 ⟨k.1, h⟩ (kcol j d)) else iblk m c 4 t (ix2 ⟨k.1 - 128, by omega⟩ (kcol j d))))
    (hq : ∀ (g : Fin 8) (r : Fin 128) (d : Fin 64), @Eq EReal (X.qg (ix2 (at8 g r) d)) (iblk m c 0 t (ix2 r (col j g d))))
    (hb : ∀ (g : Fin 8) (r : Fin 128) (k : Fin 256), @Eq EReal (X.bias (ix2 k (at8 g r))) (iblk m c 5 t (ix3 (hd j g) k r)))
    (hs : ∀ (g : Fin 8) (r : Fin 128), @Eq EReal (X.sink (ix2 0 (at8 g r))) (iblk m c 6 t (ix2 0 (hd j g))))
    (hd' : ∀ (g : Fin 8) (r : Fin 128) (d : Fin 64), @Eq EReal (X.doT (ix2 d (at8 g r))) (grad V0 t (ix2 r (col j g d)))) :
    Reads X V0 (pt t) j where
  mask g q k := by rw [hm]; exact Cert.KernelIdeal.Attn.see_seen t g q k
  kb k e h := (hk k e).trans (Cert.KernelIdeal.Attn.keys_cat t (ReferenceIdeal.Attn.in1 V0) _ _ (fun r x => by rw [blk1, S.a1]) (fun r x => by rw [blk2, S.a1]) j k e h)
  vb k e h := (hv k e).trans (Cert.KernelIdeal.Attn.keys_cat t (ReferenceIdeal.Attn.in2 V0) _ _ (fun r x => by rw [blk3, S.a2]) (fun r x => by rw [blk4, S.a2]) j k e h)
  qg g q e := by rw [hq, blk0, S.a0]; rfl
  bias g q k := by rw [hb, blk5]; exact bias_at S (hd j g) k q
  sink g q := by rw [hs, blk6, S.a4]; rfl
  doT g q e := by rw [hd']; rfl

end Cert.AttentionIdeal.Proof

end
-- ==== Proof.AttnRef.lean ====
module

public import proofs.«01_k».proof.Proof.RefScore
public import proofs.«01_k».proof.Proof.Gen.AttentionRefIdeal.Run

@[expose] public section

set_option maxRecDepth 16384
set_option maxHeartbeats 4000000

noncomputable section

/-! The attention's reference, by the terms of its gradient's reference. -/

namespace Cert.AttentionRefIdeal.Proof

open Cert.AttentionRefIdeal Cert.AttentionRefIdeal.Gen Idealize.ShloMosaic Idealize.ShloMosaic.TcCoe Idealize.SL.Sem Idealize.ShloMosaic.StableHlo
open Cert.ReferenceIdeal.Attn (in0 in1 in2 in3 in4 row col cat sc sk)

variable (V0 : Valuation Cert.ReferenceIdeal.τ Cert.ReferenceIdeal.sig (Elt Ideal))

/-- The reference's output, from its values and probabilities. -/
def weigh (v : FVec Ideal S1x32x256x4x64 .f32) (p : FVec Ideal S1x32x4x8x128x256 .f32) : FVec Ideal S4096x2048 .bf16 :=
  truncf .bf16 (shapeCast _ (transpose S1x32x128x4x8x64 [0, 1, 5, 2, 4, 3] (Host.dotGeneral (φ₁ := .f32) (φ₂ := .f32) dot_S1x32x256x4x64_S1x32x4x8x128x256_S1x32x4x64x8x128_2_5_4_34_013_012 none v p : FVec Ideal S1x32x4x64x8x128 .f32)
    transposes_S1x32x4x64x8x128_S1x32x128x4x8x64_0_1_5_2_4_3) shapeCasts_S1x32x128x4x8x64_S4096x2048 : FVec Ideal S4096x2048 .f32) bitsLt_bf16_f32

theorem weigh_at (v : FVec Ideal S1x32x256x4x64 .f32) (p : FVec Ideal S1x32x4x8x128x256 .f32) (n : Fin 32) (q : Fin 128) (j : Fin 4) (g : Fin 8) (e : Fin 64) :
    @Eq EReal (weigh v p (ix2 (row n q) (col j g e))) (∑ k, v (ix5 0 n k j e) * p (ix6 0 n j g q k)) := by
  pointwise [weigh, row, col]

/-- The reference's output. -/
def refO : FVec Ideal S4096x2048 .bf16 := weigh (Cert.ReferenceIdeal.Value.res_main_v47 V0) (Cert.ReferenceIdeal.Value.res_main_v125 V0)

theorem refO_at (n : Fin 32) (q : Fin 128) (j : Fin 4) (g : Fin 8) (e : Fin 64) :
    @Eq EReal (refO V0 (ix2 (row n q) (col j g e))) (∑ k, cat (in2 V0) n j k e * SoftCol.pr (sc V0 n j g q) (sk V0 j g) k) := by
  refine (weigh_at _ _ n q j g e).trans (Finset.sum_congr rfl fun k _ => ?_)
  rw [Cert.ReferenceIdeal.Attn.v47_at, Cert.ReferenceIdeal.Attn.v125_at]

theorem ref_eq (m : (ℓ : Loc nD τ sig) → Buf (Elt Ideal) ℓ) (c : Dev nD)
    (h0 : in0 V0 = m ((c.tc : Thread nD τ).loc main_arg0)) (h1 : in1 V0 = m ((c.tc : Thread nD τ).loc main_arg1))
    (h2 : in2 V0 = m ((c.tc : Thread nD τ).loc main_arg2)) (h3 : in3 V0 = m ((c.tc : Thread nD τ).loc main_arg3))
    (h4 : in4 V0 = m ((c.tc : Thread nD τ).loc main_arg4)) : Cert.AttentionRefIdeal.Value.res_main_v106 m c = refO V0 := by
  unfold Cert.AttentionRefIdeal.Value.res_main_v106
  rw [← h0, ← h1, ← h2, ← h3, ← h4]
  rfl

end Cert.AttentionRefIdeal.Proof

end
-- ==== Proof.AttnFinal.lean ====
module

public import proofs.«01_k».proof.Defs
public import proofs.«01_k».proof.Proof.AttnPay
public import proofs.«01_k».proof.Proof.AttnRead
public import proofs.«01_k».proof.Proof.AttnRef
public import proofs.«01_k».proof.Proof.Final

@[expose] public section

set_option maxRecDepth 16384
set_option maxHeartbeats 4000000

noncomputable section

/-! The attention's output is its reference's. -/

namespace Cert.AttentionIdeal.Proof

open Cert.AttentionIdeal Cert.AttentionIdeal.Gen Idealize.ShloMosaic Idealize.ShloMosaic.TcCoe Idealize.SL.Sem Idealize.ShloMosaic.StableHlo
open Cert.KernelIdeal.Attn (Side side0 side1 side2 side3 at8 hd col kcol row rowP pt Reads)

variable {m : (ℓ : Loc nD τ sig) → Buf (Elt Ideal) ℓ} {c : Dev nD} {V0 : Valuation Cert.ReferenceIdeal.τ Cert.ReferenceIdeal.sig (Elt Ideal)}
  (S : Same m c V0) (t : Fin cfg0.N)

/-- In the first block the two halves of the values are the same rows. -/
theorem twice (X : Side) (j : Fin 4) (h : (pt t).1 = 0)
    (hv : ∀ (k : Fin 256) (d : Fin 64), @Eq EReal (X.vb (ix2 k d)) (if h : k.1 < 128 then iblk m c 3 t (ix2 ⟨k.1, h⟩ (kcol j d)) else iblk m c 4 t (ix2 ⟨k.1 - 128, by omega⟩ (kcol j d))))
    (x : Fin 128) (e : Fin 64) : @Eq EReal (X.vb (ix2 (Fin.castAdd 128 x) e)) (X.vb (ix2 (Fin.natAdd 128 x) e)) := by
  rw [hv, hv, dif_pos (show (Fin.castAdd 128 x).1 < 128 from x.2), dif_neg (show ¬ (Fin.natAdd 128 x).1 < 128 by simp), blk3, blk4]
  refine congrArg (m ((c : Thread nD τ).loc main_arg2)) ((ix2_inj ..).2 ⟨Fin.ext ?_, rfl⟩)
  simp only [rowP, row, h, Fin.val_castAdd, Fin.val_natAdd]
  omega

/-- A key head's output, against the reference's. -/
theorem val (X : Side) (j : Fin 4) (R : Reads X V0 (pt t) j)
    (hv : ∀ (k : Fin 256) (d : Fin 64), @Eq EReal (X.vb (ix2 k d)) (if h : k.1 < 128 then iblk m c 3 t (ix2 ⟨k.1, h⟩ (kcol j d)) else iblk m c 4 t (ix2 ⟨k.1 - 128, by omega⟩ (kcol j d))))
    (g : Fin 8) (r : Fin 128) (e : Fin 64) :
    @Eq EReal (oT X (ix2 e (at8 g r))) (AttentionRefIdeal.Proof.refO V0 (ix2 (row (pt t) r) (col j g e))) := by
  refine (oT_at X e (at8 g r)).trans (Eq.trans ?_ (AttentionRefIdeal.Proof.refO_at V0 (pt t) r j g e).symm)
  simp only [Side.pr_at, R.sc_eq, R.sk_eq]
  by_cases h : (pt t).1 = 0
  · have low (x : Fin 128) : (Fin.castAdd 128 x).1 < 128 := x.2
    have high (x : Fin 128) : (Fin.natAdd 128 x).1 = 128 + x.1 := rfl
    refine SoftCol.sum_unseen (v := fun k => X.vb (ix2 k e)) (v' := fun k => ReferenceIdeal.Attn.cat (ReferenceIdeal.Attn.in2 V0) (pt t) j k e)
      (fun x => Reads.low_score g r _ (by have := low x; omega)) (fun x => dif_neg (by have := low x; omega))
      (fun x => R.vb _ e (by have := high x; omega)) (fun x => twice t X j h hv x e)
  · exact Finset.sum_congr rfl fun k _ => by rw [R.vb k e (by omega)]

include S

theorem val_pick (j : Fin 4) (g : Fin 8) (r : Fin 128) (e : Fin 64) :
    @Eq EReal (oT (Cert.KernelIdeal.Attn.pick
      (side0 (grid0.coords t) (iblk m c 0 t) (iblk m c 1 t) (iblk m c 2 t) (iblk m c 3 t) (iblk m c 4 t) (iblk m c 5 t) (iblk m c 6 t) (grad V0 t))
      (side1 (grid0.coords t) (iblk m c 0 t) (iblk m c 1 t) (iblk m c 2 t) (iblk m c 3 t) (iblk m c 4 t) (iblk m c 5 t) (iblk m c 6 t) (grad V0 t))
      (side2 (grid0.coords t) (iblk m c 0 t) (iblk m c 1 t) (iblk m c 2 t) (iblk m c 3 t) (iblk m c 4 t) (iblk m c 5 t) (iblk m c 6 t) (grad V0 t))
      (side3 (grid0.coords t) (iblk m c 0 t) (iblk m c 1 t) (iblk m c 2 t) (iblk m c 3 t) (iblk m c 4 t) (iblk m c 5 t) (iblk m c 6 t) (grad V0 t)) j) (ix2 e (at8 g r)))
      (AttentionRefIdeal.Proof.refO V0 (ix2 (row (pt t) r) (col j g e))) := by
  fin_cases j
  · exact val t _ 0 (reads t S _ 0 rfl (Cert.KernelIdeal.Attn.keys0_at _ _) (Cert.KernelIdeal.Attn.keys0_at _ _) (fun g r d => Cert.KernelIdeal.Attn.quer0_at _ g r d)
      (fun g r k => Cert.KernelIdeal.Attn.bias0_at _ g r k) (fun g r => Cert.KernelIdeal.Attn.sink0_at _ g r) (fun g r d => Cert.KernelIdeal.Attn.dout0_at _ g r d))
      (Cert.KernelIdeal.Attn.keys0_at _ _) g r e
  · exact val t _ 1 (reads t S _ 1 rfl (Cert.KernelIdeal.Attn.keys1_at _ _) (Cert.KernelIdeal.Attn.keys1_at _ _) (fun g r d => Cert.KernelIdeal.Attn.quer1_at _ g r d)
      (fun g r k => Cert.KernelIdeal.Attn.bias1_at _ g r k) (fun g r => Cert.KernelIdeal.Attn.sink1_at _ g r) (fun g r d => Cert.KernelIdeal.Attn.dout1_at _ g r d))
      (Cert.KernelIdeal.Attn.keys1_at _ _) g r e
  · exact val t _ 2 (reads t S _ 2 rfl (Cert.KernelIdeal.Attn.keys2_at _ _) (Cert.KernelIdeal.Attn.keys2_at _ _) (fun g r d => Cert.KernelIdeal.Attn.quer2_at _ g r d)
      (fun g r k => Cert.KernelIdeal.Attn.bias2_at _ g r k) (fun g r => Cert.KernelIdeal.Attn.sink2_at _ g r) (fun g r d => Cert.KernelIdeal.Attn.dout2_at _ g r d))
      (Cert.KernelIdeal.Attn.keys2_at _ _) g r e
  · exact val t _ 3 (reads t S _ 3 rfl (Cert.KernelIdeal.Attn.keys3_at _ _) (Cert.KernelIdeal.Attn.keys3_at _ _) (fun g r d => Cert.KernelIdeal.Attn.quer3_at _ g r d)
      (fun g r k => Cert.KernelIdeal.Attn.bias3_at _ g r k) (fun g r => Cert.KernelIdeal.Attn.sink3_at _ g r) (fun g r d => Cert.KernelIdeal.Attn.dout3_at _ g r d))
      (Cert.KernelIdeal.Attn.keys3_at _ _) g r e

theorem final : (dats m 0 c).arrAt 7 cfg0.N = AttentionRefIdeal.Proof.refO V0 := by
  refine (dats m 0 c).arrAt_eq_of_covers 7 _ (by decide +kernel) fun t hf y => ?_
  blk_simp
  rw [after0_7]
  obtain ⟨r, x, rfl⟩ : ∃ (r : Fin 128) (x : Fin 2048), y = ix2 r x := ⟨y 0, y 1, eq_ix2 y⟩
  obtain ⟨j, g, e, rfl⟩ := Cert.KernelIdeal.Attn.col_of x
  refine (congrFun (payload _ _ _ _ _ _ _ _ (grad V0 t)) (ix2 r (col j g e))).trans ?_
  refine (out_at _ _ _ _ r j g e).trans ?_
  refine (val_pick S t j g r e).trans ?_
  blk_ext [idx t]
  all_goals rfl

omit S

theorem ref_frame : quiescent_AttentionRefIdeal (hAttentionRefIdeal := Cert.AttentionRefIdeal.Gen.facts) := by
  intro m g _
  refine (θ_run _ _ _).mono (fun r h => ⟨fun c => ?_, sem_eq_zero_of_no_sems (by decide) r.2⟩) (Cert.AttentionRefIdeal.Value.run m g)
  exact (h c).2

theorem preserves : preserves_Attention_AttentionIdeal :=
  IdealRules.named_const.statement Cert.AttentionIdeal.κ "mask" .f32 0xF149F2CA#32 ⊥ rfl

theorem algebraic : algebraic_AttentionIdeal_AttentionRefIdeal (hAttentionIdeal := Cert.AttentionIdeal.Gen.facts) (hAttentionRefIdeal := Cert.AttentionRefIdeal.Gen.facts) := by
  pair_intro
  · run_from Cert.AttentionIdeal.Value.run_blocks m g
  · run_from Cert.AttentionRefIdeal.Value.run m' g'
    · obtain ⟨V0, S⟩ := exists_same m c
      obtain ⟨h0, h1, h2, h3, h4⟩ := hagree c
      exact (AttentionRefIdeal.Proof.ref_eq V0 m' c (S.a0.trans h0.symm) (S.a1.trans h1.symm) (S.a2.trans h2.symm) (S.a3.trans h3.symm) (S.a4.trans h4.symm)).trans (final S).symm

end Cert.AttentionIdeal.Proof

end
-- ==== Proof.Products.lean ====
module

public import Idealize.ShloMosaic.Lib.Pipeline.ValueKit
public import Idealize.ShloMosaic.Lib.Pointwise

@[expose] public section

noncomputable section

/-! What the products of the step's layers have in common. -/

namespace Cert.Products

/-- Row `r` of block `n`, of `K` blocks of `J` rows. -/
def rowOf {N : ℕ} (K J : ℕ) (h : K * J = N) (n : ℕ) (hn : n < K) (r : Fin J) : Fin N :=
  ⟨n * J + r.1, by
    subst h
    calc n * J + r.1 < n * J + J := Nat.add_lt_add_left r.2 _
      _ = (n + 1) * J := (Nat.succ_mul n J).symm
      _ ≤ K * J := Nat.mul_le_mul_right _ hn⟩

/-- Place `x` of the part that begins at `o`. -/
def fromAt {N n : ℕ} (o : ℕ) (h : o + n ≤ N) (x : Fin n) : Fin N := ⟨o + x.1, lt_of_lt_of_le (Nat.add_lt_add_left x.2 o) h⟩

/-- A sum over all rows is the sum over the blocks of the sums over their rows. -/
theorem sum_rowOf {N : ℕ} (K J : ℕ) (h : K * J = N) (f : Fin N → EReal) :
    ∑ d, f d = ∑ k : Fin K, ∑ e : Fin J, f (rowOf K J h k.1 k.2 e) := by
  subst h
  rw [← finProdFinEquiv.sum_comp, Fintype.sum_prod_type]
  refine Finset.sum_congr rfl fun k _ => Finset.sum_congr rfl fun e _ => congrArg f (Fin.ext ?_)
  show e.1 + J * k.1 = k.1 * J + e.1
  rw [Nat.mul_comm, Nat.add_comm]

/-- The derivative of the squared positive part, as the step's layers multiply by it: with or without a choice on the sign. -/
theorem relu_mul (a k h : EReal) : a * k * max h 0 = if 0 < h then a * (k * max h 0) else 0 := by
  split
  · exact mul_assoc _ _ _
  · rename_i hh
    rw [max_eq_right (not_lt.mp hh), mul_zero]

end Cert.Products

end
-- ==== Proof.DownDgrad.lean ====
module

public import proofs.«01_k».proof.Defs
public import proofs.«01_k».proof.Proof.Products
public import proofs.«01_k».proof.Proof.Gen.DownDgrad.Frame
public import proofs.«01_k».proof.Proof.Gen.DownDgradIdeal.Value
public import proofs.«01_k».proof.Proof.Gen.DownDgradRefIdeal.Run
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384
set_option maxHeartbeats 4000000

noncomputable section

/-! The second MLP layer's gradient with respect to the first layer's output. -/

namespace Cert.DownDgradIdeal.Proof

open Cert.Products Cert.DownDgradIdeal Cert.DownDgradIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The launch's first argument. -/
abbrev A : FVec Ideal S4096x4096 .bf16 := m ((c : Thread nD τ).loc main_arg0)
/-- The launch's second argument. -/
abbrev B : FVec Ideal S16384x4096 .bf16 := m ((c : Thread nD τ).loc main_arg1)
/-- The launch's third argument. -/
abbrev H : FVec Ideal S4096x16384 .f32 := m ((c : Thread nD τ).loc main_arg2)

theorem lt_i : t.val / 16 < 4 := by have := lt_of_lt_of_eq t.2 (show cfg0.N = 4 * 16 by decide); omega
theorem lt_j : t.val % 16 < 16 := Nat.mod_lt _ (by decide)
/-- The tile's row `r` in the result. -/
abbrev ri (r : Fin 1024) : Fin 4096 := rowOf 4 1024 rfl (t.val / 16) (lt_i t) r
/-- The tile's column `x` in the result. -/
abbrev cj (x : Fin 1024) : Fin 16384 := rowOf 16 1024 rfl (t.val % 16) (lt_j t) x

theorem idx : ∀ t : Fin cfg0.N, win0_0.index t = ![t.val / 16, 0] ∧ win0_1.index t = ![t.val % 16, 0] ∧ win0_2.index t = ![t.val / 16, t.val % 16] ∧ win0_3.index t = ![t.val / 16, t.val % 16] :=
  (by decide +kernel : ∀ t : Fin grid0.N, _)

theorem blk0 (r : Fin 1024) (d : Fin 4096) : @Eq EReal (iblk m c 0 t (ix2 r d)) (A m c (ix2 (ri t r) d)) := by
  blk_ext [iblk, V, idx t, rowOf]
theorem blk1 (x : Fin 1024) (d : Fin 4096) : @Eq EReal (iblk m c 1 t (ix2 x d)) (B m c (ix2 (cj t x) d)) := by
  blk_ext [iblk, V, idx t, rowOf]

theorem blk2 (r : Fin 1024) (x : Fin 1024) : @Eq EReal (iblk m c 2 t (ix2 r x)) (H m c (ix2 (ri t r) (cj t x))) := by
  blk_ext [iblk, V, idx t, rowOf]

/-- The factor of the derivative of a square. -/
abbrev two : EReal := Ideal.ofBits .f32 0x40000000#32

/-- A tile is the product of its blocks, times the derivative of the squared positive part. -/
theorem tile (x0 x1 : FVec Ideal S1024x4096 .bf16) (x2 : FVec Ideal S1024x1024 .f32) (r : Fin 1024) (x : Fin 1024) :
    @Eq EReal (out0_3 (F := Ideal) x0 x1 x2 (ix2 r x))
      ((∑ d : Fin 4096, @HMul.hMul EReal EReal EReal instHMul (x0 (ix2 r d)) (x1 (ix2 x d))) * two * max (x2 (ix2 r x) : EReal) 0) := by
  have hz : (![0, 0] : Fin 2 → Nat) = fun _ => 0 := funext fun a => by fin_cases a <;> rfl
  unfold out0_3
  rw [View.canon_unit_zero hz, View.ld_unit_zero hz, View.ld_unit_zero hz, View.ld_unit_zero hz]
  unfold k0_pay1
  pointwise

/-- The reference's result. -/
def ref (a : FVec Ideal S4096x4096 .bf16) (b : FVec Ideal S16384x4096 .bf16) (h : FVec Ideal S4096x16384 .f32) : FVec Ideal S4096x16384 .bf16 :=
  truncf .bf16 (select (cmpf .ogt h (broadcastInDim S4096x16384 ![] Cert.DownDgradRefIdeal.Gen.bcast_S_S4096x16384 (constant Cert.DownDgradRefIdeal.S_ .f32 0x00000000#32))) (mulf (Host.dotGeneral Cert.DownDgradRefIdeal.dot_S4096x4096_S16384x4096_S4096x16384_1_1_0_0_n_n none (extf .f32 a Cert.DownDgradRefIdeal.Gen.bitsLt_bf16_f32) (extf .f32 b Cert.DownDgradRefIdeal.Gen.bitsLt_bf16_f32)) (mulf (broadcastInDim S4096x16384 ![] Cert.DownDgradRefIdeal.Gen.bcast_S_S4096x16384 (constant Cert.DownDgradRefIdeal.S_ .f32 0x40000000#32)) (maximumf h (broadcastInDim S4096x16384 ![] Cert.DownDgradRefIdeal.Gen.bcast_S_S4096x16384 (constant Cert.DownDgradRefIdeal.S_ .f32 0x00000000#32))))) (broadcastInDim S4096x16384 ![] Cert.DownDgradRefIdeal.Gen.bcast_S_S4096x16384 (constant Cert.DownDgradRefIdeal.S_ .f32 0x00000000#32))) Cert.DownDgradRefIdeal.Gen.bitsLt_bf16_f32

theorem ref_at (a : FVec Ideal S4096x4096 .bf16) (b : FVec Ideal S16384x4096 .bf16) (h : FVec Ideal S4096x16384 .f32) (r : Fin 4096) (x : Fin 16384) :
    @Eq EReal (ref a b h (ix2 r x))
      ((∑ d : Fin 4096, @HMul.hMul EReal EReal EReal instHMul (a (ix2 r d)) (b (ix2 x d))) * two * max (h (ix2 r x) : EReal) 0) := by
  rw [relu_mul]
  unfold ref
  pointwise

/-- The launch's result is the reference's. -/
theorem final : (dats m 0 c).arrAt 3 cfg0.N = ref (A m c) (B m c) (H m c) := by
  refine (dats m 0 c).arrAt_eq_of_covers 3 _ (by decide +kernel) fun t hf y => ?_
  blk_simp
  rw [after0_3]
  obtain ⟨r, x, rfl⟩ : ∃ (r : Fin 1024) (x : Fin 1024), y = ix2 r x := ⟨y 0, y 1, eq_ix2 y⟩
  refine (tile _ _ _ r x).trans ?_
  rw [blk2]
  refine Eq.trans (congrArg (fun a : EReal => a * two * max (H m c (ix2 (ri t r) (cj t x)) : EReal) 0) (Finset.sum_congr rfl fun d _ => by rw [blk0, blk1])) ?_
  refine (ref_at (A m c) (B m c) (H m c) (ri t r) (cj t x)).symm.trans ?_
  blk_ext [idx t]
  all_goals rfl

theorem ref_frame : quiescent_DownDgradRefIdeal (hDownDgradRefIdeal := Cert.DownDgradRefIdeal.Gen.facts) := by
  intro m g _
  refine (θ_run _ _ _).mono (fun r h => ⟨fun c => ?_, sem_eq_zero_of_no_sems (by decide) r.2⟩) (Cert.DownDgradRefIdeal.Value.run m g)
  exact (h c).2

theorem algebraic : algebraic_DownDgradIdeal_DownDgradRefIdeal (hDownDgradIdeal := Cert.DownDgradIdeal.Gen.facts) (hDownDgradRefIdeal := Cert.DownDgradRefIdeal.Gen.facts) := by
  pair_intro
  · run_from Cert.DownDgradIdeal.Value.run_blocks m g
  · run_from Cert.DownDgradRefIdeal.Value.run m' g'
    · exact (final m c).symm

end Cert.DownDgradIdeal.Proof

end
-- ==== Proof.DownWgrad.lean ====
module

public import proofs.«01_k».proof.Defs
public import proofs.«01_k».proof.Proof.Products
public import proofs.«01_k».proof.Proof.Gen.DownWgrad.Frame
public import proofs.«01_k».proof.Proof.Gen.DownWgradIdeal.Value
public import proofs.«01_k».proof.Proof.Gen.DownWgradRefIdeal.Run
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384
set_option maxHeartbeats 4000000

noncomputable section

/-! The second MLP layer's gradient with respect to its weights. -/

namespace Cert.DownWgradIdeal.Proof

open Cert.Products Cert.DownWgradIdeal Cert.DownWgradIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The launch's first argument. -/
abbrev A : FVec Ideal S4096x16384 .f32 := m ((c : Thread nD τ).loc main_arg0)
/-- The launch's second argument. -/
abbrev B : FVec Ideal S4096x4096 .bf16 := m ((c : Thread nD τ).loc main_arg1)

/-- The squared positive part. -/
def act (h : FVec Ideal S4096x16384 .f32) : S4096x16384.Idx → EReal := fun i => max (h i : EReal) 0 * max (h i : EReal) 0

theorem lt_i : t.val / 4 < 16 := by have := lt_of_lt_of_eq t.2 (show cfg0.N = 16 * 4 by decide); omega
theorem lt_j : t.val % 4 < 4 := Nat.mod_lt _ (by decide)
/-- The tile's row `r` in the result. -/
abbrev ri (r : Fin 1024) : Fin 16384 := rowOf 16 1024 rfl (t.val / 4) (lt_i t) r
/-- The tile's column `x` in the result. -/
abbrev cj (x : Fin 1024) : Fin 4096 := rowOf 4 1024 rfl (t.val % 4) (lt_j t) x

theorem idx : ∀ t : Fin cfg0.N, win0_0.index t = ![0, t.val / 4] ∧ win0_1.index t = ![0, t.val % 4] ∧ win0_2.index t = ![t.val / 4, t.val % 4] :=
  (by decide +kernel : ∀ t : Fin grid0.N, _)

/-- The hidden layer's values, as the host computes them before the launch. -/
theorem act_at (i : S4096x16384.Idx) : @Eq EReal (V m c main_v2 i) (act (A m c) i) := by
  show @Eq EReal (after [hostOps0, hostOps0_1].flatten (fun b => m (c, b)) (Proc.tc.devRef main_v2) i) _
  simp only [List.flatten_cons, List.flatten_nil, List.append_nil, hostOps0, hostOps0_1, List.cons_append, List.nil_append, TRef.nullary, TRef.binary, TRef.unary, TRef.toBuf, TRef.ofBuf, cast_eq]
  after_results_simp
  unfold act
  pointwise

theorem blk0 (r : Fin 1024) (d : Fin 4096) : @Eq EReal (iblk m c 0 t (ix2 d r)) (act (A m c) (ix2 d (ri t r))) := by
  refine Eq.trans (b := (V m c main_v2 (ix2 d (ri t r)) : EReal)) ?_ (act_at m c _)
  blk_ext [iblk, idx t, rowOf]
theorem blk1 (x : Fin 1024) (d : Fin 4096) : @Eq EReal (iblk m c 1 t (ix2 d x)) (B m c (ix2 d (cj t x))) := by
  refine Eq.trans (b := (V m c main_arg1 (ix2 d (cj t x)) : EReal)) ?_ (congrFun (V_main_arg1 m c) _)
  blk_ext [iblk, idx t, rowOf]

/-- A tile is the product of its blocks. -/
theorem tile (x0 : FVec Ideal S4096x1024 .bf16) (x1 : FVec Ideal S4096x1024 .bf16) (r : Fin 1024) (x : Fin 1024) :
    @Eq EReal (out0_2 (F := Ideal) x0 x1 (ix2 r x)) (∑ d : Fin 4096, @HMul.hMul EReal EReal EReal instHMul (x0 (ix2 d r)) (x1 (ix2 d x))) := by
  have hz : (![0, 0] : Fin 2 → Nat) = fun _ => 0 := funext fun a => by fin_cases a <;> rfl
  unfold out0_2
  rw [View.canon_unit_zero hz, View.ld_unit_zero hz, View.ld_unit_zero hz]
  unfold k0_pay1
  pointwise

/-- The reference's result. -/
def ref (a : FVec Ideal S4096x16384 .f32) (b : FVec Ideal S4096x4096 .bf16) : FVec Ideal S16384x4096 .bf16 :=
  truncf .bf16 (transpose S16384x4096 [1, 0] (Host.dotGeneral Cert.DownWgradRefIdeal.dot_S4096x4096_S4096x16384_S4096x16384_0_0_1_1_n_n none (extf .f32 b Cert.DownWgradRefIdeal.Gen.bitsLt_bf16_f32) (mulf (maximumf a (broadcastInDim S4096x16384 ![] Cert.DownWgradRefIdeal.Gen.bcast_S_S4096x16384 (constant Cert.DownWgradRefIdeal.S_ .f32 0x00000000#32))) (maximumf a (broadcastInDim S4096x16384 ![] Cert.DownWgradRefIdeal.Gen.bcast_S_S4096x16384 (constant Cert.DownWgradRefIdeal.S_ .f32 0x00000000#32))))) Cert.DownWgradRefIdeal.Gen.transposes_S4096x16384_S16384x4096_1_0) Cert.DownWgradRefIdeal.Gen.bitsLt_bf16_f32

theorem ref_at (a : FVec Ideal S4096x16384 .f32) (b : FVec Ideal S4096x4096 .bf16) (r : Fin 16384) (x : Fin 4096) :
    @Eq EReal (ref a b (ix2 r x)) (∑ d : Fin 4096, @HMul.hMul EReal EReal EReal instHMul (act a (ix2 d r)) (b (ix2 d x))) := by
  unfold ref act
  pointwise
  exact Finset.sum_congr rfl fun d _ => mul_comm _ _

/-- The launch's result is the reference's. -/
theorem final : (dats m 0 c).arrAt 2 cfg0.N = ref (A m c) (B m c) := by
  refine (dats m 0 c).arrAt_eq_of_covers 2 _ (by decide +kernel) fun t hf y => ?_
  blk_simp
  rw [after0_2]
  obtain ⟨r, x, rfl⟩ : ∃ (r : Fin 1024) (x : Fin 1024), y = ix2 r x := ⟨y 0, y 1, eq_ix2 y⟩
  refine (tile _ _ r x).trans ?_
  refine Eq.trans (Finset.sum_congr rfl fun d _ => by rw [blk0, blk1]) ?_
  refine (ref_at (A m c) (B m c) (ri t r) (cj t x)).symm.trans ?_
  blk_ext [idx t]
  all_goals rfl

theorem ref_frame : quiescent_DownWgradRefIdeal (hDownWgradRefIdeal := Cert.DownWgradRefIdeal.Gen.facts) := by
  intro m g _
  refine (θ_run _ _ _).mono (fun r h => ⟨fun c => ?_, sem_eq_zero_of_no_sems (by decide) r.2⟩) (Cert.DownWgradRefIdeal.Value.run m g)
  exact (h c).2

theorem algebraic : algebraic_DownWgradIdeal_DownWgradRefIdeal (hDownWgradIdeal := Cert.DownWgradIdeal.Gen.facts) (hDownWgradRefIdeal := Cert.DownWgradRefIdeal.Gen.facts) := by
  pair_intro
  · run_from Cert.DownWgradIdeal.Value.run_blocks m g
  · run_from Cert.DownWgradRefIdeal.Value.run m' g'
    · exact (final m c).symm

end Cert.DownWgradIdeal.Proof

end
-- ==== Proof.UpDgrad.lean ====
module

public import proofs.«01_k».proof.Defs
public import proofs.«01_k».proof.Proof.Products
public import proofs.«01_k».proof.Proof.Gen.UpDgrad.Frame
public import proofs.«01_k».proof.Proof.Gen.UpDgradIdeal.Value
public import proofs.«01_k».proof.Proof.Gen.UpDgradRefIdeal.Run
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 65536
set_option maxHeartbeats 4000000

noncomputable section

/-! The first MLP layer's gradient with respect to its input, summed over the hidden dimension in four steps. -/

namespace Cert.UpDgradIdeal.Proof

open Cert.Products Cert.UpDgradIdeal Cert.UpDgradIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The launch's first argument. -/
abbrev A : FVec Ideal S4096x16384 .bf16 := m ((c : Thread nD τ).loc main_arg0)
/-- The launch's second argument. -/
abbrev B : FVec Ideal S4096x16384 .bf16 := m ((c : Thread nD τ).loc main_arg1)

theorem lt_i : t.val / 4 / 4 < 4 := by have := lt_of_lt_of_eq t.2 (show cfg0.N = 16 * 4 by decide); omega
theorem lt_j : t.val / 4 % 4 < 4 := Nat.mod_lt _ (by decide)
theorem lt_k : t.val % 4 < 4 := Nat.mod_lt _ (by decide)
/-- The tile's row `r` in the result. -/
abbrev ri (r : Fin 1024) : Fin 4096 := rowOf 4 1024 rfl (t.val / 4 / 4) (lt_i t) r
/-- The tile's column `x` in the result. -/
abbrev cj (x : Fin 1024) : Fin 4096 := rowOf 4 1024 rfl (t.val / 4 % 4) (lt_j t) x
/-- The step's place `d` in the sum. -/
abbrev kd (d : Fin 4096) : Fin 16384 := rowOf 4 4096 rfl (t.val % 4) (lt_k t) d

theorem idx : ∀ t : Fin cfg0.N, win0_0.index t = ![t.val / 4 / 4, t.val % 4] ∧ win0_1.index t = ![t.val / 4 % 4, t.val % 4] ∧ win0_2.index t = ![t.val / 4 / 4, t.val / 4 % 4] :=
  (by decide +kernel : ∀ t : Fin grid0.N, _)

theorem blk0 (r : Fin 1024) (d : Fin 4096) : @Eq EReal (iblk m c 0 t (ix2 r d)) (A m c (ix2 (ri t r) (kd t d))) := by
  blk_ext [iblk, V, idx t, rowOf]
theorem blk1 (x : Fin 1024) (d : Fin 4096) : @Eq EReal (iblk m c 1 t (ix2 x d)) (B m c (ix2 (cj t x) (kd t d))) := by
  blk_ext [iblk, V, idx t, rowOf]

/-- What a step adds to its tile. -/
abbrev part : FVec Ideal S1024x1024 .f32 := k0_pay1 (F := Ideal) (iblk m c 0 t) (iblk m c 1 t)

/-- What a step adds is the product of its blocks. -/
theorem part_at (r x : Fin 1024) : @Eq EReal (part m c t (ix2 r x)) (∑ d : Fin 4096, @HMul.hMul EReal EReal EReal instHMul (A m c (ix2 (ri t r) (kd t d))) (B m c (ix2 (cj t x) (kd t d)))) := by
  refine Eq.trans (b := ∑ d : Fin 4096, @HMul.hMul EReal EReal EReal instHMul (iblk m c 0 t (ix2 r d)) (iblk m c 1 t (ix2 x d))) ?_
    (Finset.sum_congr rfl fun d _ => by rw [blk0, blk1])
  unfold part k0_pay1
  pointwise

/-- A tile's running sum after point `n`: in the result's block at the last step, in the scratch before it. -/
def acc (n : ℕ) (h : n < cfg0.N) : S1024x1024.Idx → EReal :=
  if n % 4 = 3 then (outsAt0 m c n h).1 else (outsAt0 m c n h).2

theorem acc_first (h : t.val % 4 = 0) (y : S1024x1024.Idx) : acc m c t.val t.isLt y = 0 + (part m c t y : EReal) := by
  have h1 : ¬(1 ≤ t.val % 4 ∧ t.val % 4 ≤ 2) := by omega
  have h2 : ¬t.val % 4 = 3 := by omega
  have e : (outsAt0 m c t.val t.isLt).2 = shapeCast S1024x1024 (part m c t) shapeCasts_S1024x1024_S1024x1024 := by
    rw [outsAt0_A m c t h h1 h2]; frame_out; rfl
  unfold acc
  rw [if_neg h2, e, zero_add]
  pointwise

theorem acc_step (h : ¬t.val % 4 = 0) (y : S1024x1024.Idx) :
    acc m c t.val t.isLt y = acc m c (t.val - 1) (Nat.lt_of_le_of_lt (Nat.sub_le _ _) t.isLt) y + (part m c t y : EReal) := by
  have hp : ¬(t.val - 1) % 4 = 3 := by omega
  by_cases h2 : t.val % 4 = 3
  · have h1 : ¬(1 ≤ t.val % 4 ∧ t.val % 4 ≤ 2) := by omega
    have e : (outsAt0 m c t.val t.isLt).1 = (addf (outsAt0 m c (t.val - 1) (Nat.lt_of_le_of_lt (Nat.sub_le _ _) t.isLt)).2 (part m c t) : FVec Ideal S1024x1024 .f32) := by
      rw [outsAt0_C m c t h h1 h2]; frame_out
      exact congrArg (k0_pay4 (F := Ideal) (iblk m c 0 t) (iblk m c 1 t)) ((Memref.isWhole_whole _).read_unread _)
    unfold acc
    rw [if_pos h2, if_neg hp, e]
    pointwise
  · have h1 : 1 ≤ t.val % 4 ∧ t.val % 4 ≤ 2 := by omega
    have e : (outsAt0 m c t.val t.isLt).2 = (shapeCast S1024x1024 (addf (outsAt0 m c (t.val - 1) (Nat.lt_of_le_of_lt (Nat.sub_le _ _) t.isLt)).2 (part m c t) : FVec Ideal S1024x1024 .f32) shapeCasts_S1024x1024_S1024x1024) := by
      rw [outsAt0_B m c t h h1 h2]; frame_out
      exact congrArg (k0_pay3 (F := Ideal) (iblk m c 0 t) (iblk m c 1 t)) ((Memref.isWhole_whole _).read_unread _)
    unfold acc
    rw [if_neg h2, if_neg hp, e]
    pointwise

/-- At its last step a tile holds the whole product. -/
theorem tile (h : t.val % 4 = 3) (r x : Fin 1024) :
    @Eq EReal ((outsAt0 m c t.val t.isLt).1 (ix2 r x)) (∑ d : Fin 16384, @HMul.hMul EReal EReal EReal instHMul (A m c (ix2 (ri t r) d)) (B m c (ix2 (cj t x) d))) := by
  have e := Pipeline.eq_sum_fin_of_reset_step_apply_of_flush (acc m c) 4 (fun _ => 0) (fun t y => (part m c t y : EReal))
    (acc_first m c) (acc_step m c) t h (ix2 r x)
  unfold acc at e
  rw [if_pos h, zero_add] at e
  refine e.trans ?_
  rw [sum_rowOf 4 4096 rfl]
  refine Finset.sum_congr rfl fun s _ => (part_at m c _ r x).trans (Finset.sum_congr rfl fun d _ => ?_)
  have a1 : (4 * (t.val / 4) + s.val) / 4 = t.val / 4 := by omega
  have a2 : (4 * (t.val / 4) + s.val) % 4 = s.val := by omega
  unfold ri cj kd
  simp only [a1, a2]

/-- The reference's result. -/
def ref (a : FVec Ideal S4096x16384 .bf16) (b : FVec Ideal S4096x16384 .bf16) : FVec Ideal S4096x4096 .f32 :=
  Host.dotGeneral Cert.UpDgradRefIdeal.dot_S4096x16384_S4096x16384_S4096x4096_1_1_0_0_n_n none (extf .f32 a Cert.UpDgradRefIdeal.Gen.bitsLt_bf16_f32) (extf .f32 b Cert.UpDgradRefIdeal.Gen.bitsLt_bf16_f32)

theorem ref_at (a : FVec Ideal S4096x16384 .bf16) (b : FVec Ideal S4096x16384 .bf16) (r x : Fin 4096) :
    @Eq EReal (ref a b (ix2 r x)) (∑ d : Fin 16384, @HMul.hMul EReal EReal EReal instHMul (a (ix2 r d)) (b (ix2 x d))) := by
  unfold ref
  pointwise

/-- The launch's result is the reference's. -/
theorem final : (dats m 0 c).arrAt 2 cfg0.N = ref (A m c) (B m c) := by
  refine (dats m 0 c).arrAt_eq_of_covers 2 _ (by decide +kernel) fun t hf y => ?_
  blk_simp
  rw [after0_2]
  obtain ⟨r, x, rfl⟩ : ∃ (r x : Fin 1024), y = ix2 r x := ⟨y 0, y 1, eq_ix2 y⟩
  refine (tile m c t ((flush0_2 t).mp hf) r x).trans ?_
  refine (ref_at (A m c) (B m c) (ri t r) (cj t x)).symm.trans ?_
  blk_ext [idx t]
  all_goals rfl

theorem ref_frame : quiescent_UpDgradRefIdeal (hUpDgradRefIdeal := Cert.UpDgradRefIdeal.Gen.facts) := by
  intro m g _
  refine (θ_run _ _ _).mono (fun r h => ⟨fun c => ?_, sem_eq_zero_of_no_sems (by decide) r.2⟩) (Cert.UpDgradRefIdeal.Value.run m g)
  exact (h c).2

theorem algebraic : algebraic_UpDgradIdeal_UpDgradRefIdeal (hUpDgradIdeal := Cert.UpDgradIdeal.Gen.facts) (hUpDgradRefIdeal := Cert.UpDgradRefIdeal.Gen.facts) := by
  pair_intro
  · run_from Cert.UpDgradIdeal.Value.run_blocks m g
  · run_from Cert.UpDgradRefIdeal.Value.run m' g'
    · exact (final m c).symm

end Cert.UpDgradIdeal.Proof

end
-- ==== Proof.UpWgrad.lean ====
module

public import proofs.«01_k».proof.Defs
public import proofs.«01_k».proof.Proof.Products
public import proofs.«01_k».proof.Proof.Gen.UpWgrad.Frame
public import proofs.«01_k».proof.Proof.Gen.UpWgradIdeal.Value
public import proofs.«01_k».proof.Proof.Gen.UpWgradRefIdeal.Run
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384
set_option maxHeartbeats 4000000

noncomputable section

/-! The first MLP layer's gradient with respect to its weights. -/

namespace Cert.UpWgradIdeal.Proof

open Cert.Products Cert.UpWgradIdeal Cert.UpWgradIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The launch's first argument. -/
abbrev A : FVec Ideal S4096x4096 .bf16 := m ((c : Thread nD τ).loc main_arg0)
/-- The launch's second argument. -/
abbrev B : FVec Ideal S4096x16384 .bf16 := m ((c : Thread nD τ).loc main_arg1)

theorem lt_i : t.val / 16 < 4 := by have := lt_of_lt_of_eq t.2 (show cfg0.N = 4 * 16 by decide); omega
theorem lt_j : t.val % 16 < 16 := Nat.mod_lt _ (by decide)
/-- The tile's row `r` in the result. -/
abbrev ri (r : Fin 1024) : Fin 4096 := rowOf 4 1024 rfl (t.val / 16) (lt_i t) r
/-- The tile's column `x` in the result. -/
abbrev cj (x : Fin 1024) : Fin 16384 := rowOf 16 1024 rfl (t.val % 16) (lt_j t) x

theorem idx : ∀ t : Fin cfg0.N, win0_0.index t = ![0, t.val / 16] ∧ win0_1.index t = ![0, t.val % 16] ∧ win0_2.index t = ![t.val / 16, t.val % 16] :=
  (by decide +kernel : ∀ t : Fin grid0.N, _)

theorem blk0 (r : Fin 1024) (d : Fin 4096) : @Eq EReal (iblk m c 0 t (ix2 d r)) (A m c (ix2 d (ri t r))) := by
  blk_ext [iblk, V, idx t, rowOf]
theorem blk1 (x : Fin 1024) (d : Fin 4096) : @Eq EReal (iblk m c 1 t (ix2 d x)) (B m c (ix2 d (cj t x))) := by
  blk_ext [iblk, V, idx t, rowOf]

/-- A tile is the product of its blocks. -/
theorem tile (x0 : FVec Ideal S4096x1024 .bf16) (x1 : FVec Ideal S4096x1024 .bf16) (r : Fin 1024) (x : Fin 1024) :
    @Eq EReal (out0_2 (F := Ideal) x0 x1 (ix2 r x)) (∑ d : Fin 4096, @HMul.hMul EReal EReal EReal instHMul (x0 (ix2 d r)) (x1 (ix2 d x))) := by
  have hz : (![0, 0] : Fin 2 → Nat) = fun _ => 0 := funext fun a => by fin_cases a <;> rfl
  unfold out0_2
  rw [View.canon_unit_zero hz, View.ld_unit_zero hz, View.ld_unit_zero hz]
  unfold k0_pay1
  pointwise

/-- The reference's result. -/
def ref (a : FVec Ideal S4096x4096 .bf16) (b : FVec Ideal S4096x16384 .bf16) : FVec Ideal S4096x16384 .bf16 :=
  truncf .bf16 (transpose S4096x16384 [1, 0] (Host.dotGeneral Cert.UpWgradRefIdeal.dot_S4096x16384_S4096x4096_S16384x4096_0_0_1_1_n_n none (extf .f32 b Cert.UpWgradRefIdeal.Gen.bitsLt_bf16_f32) (extf .f32 a Cert.UpWgradRefIdeal.Gen.bitsLt_bf16_f32)) Cert.UpWgradRefIdeal.Gen.transposes_S16384x4096_S4096x16384_1_0) Cert.UpWgradRefIdeal.Gen.bitsLt_bf16_f32

theorem ref_at (a : FVec Ideal S4096x4096 .bf16) (b : FVec Ideal S4096x16384 .bf16) (r : Fin 4096) (x : Fin 16384) :
    @Eq EReal (ref a b (ix2 r x)) (∑ d : Fin 4096, @HMul.hMul EReal EReal EReal instHMul (a (ix2 d r)) (b (ix2 d x))) := by
  unfold ref
  pointwise
  exact Finset.sum_congr rfl fun d _ => mul_comm _ _

/-- The launch's result is the reference's. -/
theorem final : (dats m 0 c).arrAt 2 cfg0.N = ref (A m c) (B m c) := by
  refine (dats m 0 c).arrAt_eq_of_covers 2 _ (by decide +kernel) fun t hf y => ?_
  blk_simp
  rw [after0_2]
  obtain ⟨r, x, rfl⟩ : ∃ (r : Fin 1024) (x : Fin 1024), y = ix2 r x := ⟨y 0, y 1, eq_ix2 y⟩
  refine (tile _ _ r x).trans ?_
  refine Eq.trans (Finset.sum_congr rfl fun d _ => by rw [blk0, blk1]) ?_
  refine (ref_at (A m c) (B m c) (ri t r) (cj t x)).symm.trans ?_
  blk_ext [idx t]
  all_goals rfl

theorem ref_frame : quiescent_UpWgradRefIdeal (hUpWgradRefIdeal := Cert.UpWgradRefIdeal.Gen.facts) := by
  intro m g _
  refine (θ_run _ _ _).mono (fun r h => ⟨fun c => ?_, sem_eq_zero_of_no_sems (by decide) r.2⟩) (Cert.UpWgradRefIdeal.Value.run m g)
  exact (h c).2

theorem algebraic : algebraic_UpWgradIdeal_UpWgradRefIdeal (hUpWgradIdeal := Cert.UpWgradIdeal.Gen.facts) (hUpWgradRefIdeal := Cert.UpWgradRefIdeal.Gen.facts) := by
  pair_intro
  · run_from Cert.UpWgradIdeal.Value.run_blocks m g
  · run_from Cert.UpWgradRefIdeal.Value.run m' g'
    · exact (final m c).symm

end Cert.UpWgradIdeal.Proof

end
-- ==== Proof.OutDgrad.lean ====
module

public import proofs.«01_k».proof.Defs
public import proofs.«01_k».proof.Proof.Products
public import proofs.«01_k».proof.Proof.Gen.OutDgrad.Frame
public import proofs.«01_k».proof.Proof.Gen.OutDgradIdeal.Value
public import proofs.«01_k».proof.Proof.Gen.OutDgradRefIdeal.Run
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384
set_option maxHeartbeats 4000000

noncomputable section

/-! The output projection's gradient with respect to its input. -/

namespace Cert.OutDgradIdeal.Proof

open Cert.Products Cert.OutDgradIdeal Cert.OutDgradIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The launch's first argument. -/
abbrev A : FVec Ideal S4096x4096 .bf16 := m ((c : Thread nD τ).loc main_arg0)
/-- The launch's second argument. -/
abbrev B : FVec Ideal S4096x4096 .bf16 := m ((c : Thread nD τ).loc main_arg1)

theorem lt_i : t.val / 4 < 4 := by have := lt_of_lt_of_eq t.2 (show cfg0.N = 4 * 4 by decide); omega
theorem lt_j : t.val % 4 < 4 := Nat.mod_lt _ (by decide)
/-- The tile's row `r` in the result. -/
abbrev ri (r : Fin 1024) : Fin 4096 := rowOf 4 1024 rfl (t.val / 4) (lt_i t) r
/-- The tile's column `x` in the result. -/
abbrev cj (x : Fin 1024) : Fin 4096 := rowOf 4 1024 rfl (t.val % 4) (lt_j t) x

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem blk0 (r : Fin 1024) (d : Fin 4096) : @Eq EReal (iblk m c 0 t (ix2 r d)) (A m c (ix2 (ri t r) d)) := by
  blk_ext [iblk, V, idx t, rowOf]
theorem blk1 (x : Fin 1024) (d : Fin 4096) : @Eq EReal (iblk m c 1 t (ix2 x d)) (B m c (ix2 (cj t x) d)) := by
  blk_ext [iblk, V, idx t, rowOf]

/-- A tile is the product of its blocks. -/
theorem tile (x0 : FVec Ideal S1024x4096 .bf16) (x1 : FVec Ideal S1024x4096 .bf16) (r : Fin 1024) (x : Fin 1024) :
    @Eq EReal (out0_2 (F := Ideal) x0 x1 (ix2 r x)) (∑ d : Fin 4096, @HMul.hMul EReal EReal EReal instHMul (x0 (ix2 r d)) (x1 (ix2 x d))) := by
  have hz : (![0, 0] : Fin 2 → Nat) = fun _ => 0 := funext fun a => by fin_cases a <;> rfl
  unfold out0_2
  rw [View.canon_unit_zero hz, View.ld_unit_zero hz, View.ld_unit_zero hz]
  unfold k0_pay1
  pointwise

/-- The reference's result. -/
def ref (a : FVec Ideal S4096x4096 .bf16) (b : FVec Ideal S4096x4096 .bf16) : FVec Ideal S4096x4096 .f32 :=
  Host.dotGeneral Cert.OutDgradRefIdeal.dot_S4096x4096_S4096x4096_S4096x4096_1_1_0_0_n_n none (extf .f32 a Cert.OutDgradRefIdeal.Gen.bitsLt_bf16_f32) (extf .f32 b Cert.OutDgradRefIdeal.Gen.bitsLt_bf16_f32)

theorem ref_at (a : FVec Ideal S4096x4096 .bf16) (b : FVec Ideal S4096x4096 .bf16) (r : Fin 4096) (x : Fin 4096) :
    @Eq EReal (ref a b (ix2 r x)) (∑ d : Fin 4096, @HMul.hMul EReal EReal EReal instHMul (a (ix2 r d)) (b (ix2 x d))) := by
  unfold ref
  pointwise

/-- The launch's result is the reference's. -/
theorem final : (dats m 0 c).arrAt 2 cfg0.N = ref (A m c) (B m c) := by
  refine (dats m 0 c).arrAt_eq_of_covers 2 _ (by decide +kernel) fun t hf y => ?_
  blk_simp
  rw [after0_2]
  obtain ⟨r, x, rfl⟩ : ∃ (r : Fin 1024) (x : Fin 1024), y = ix2 r x := ⟨y 0, y 1, eq_ix2 y⟩
  refine (tile _ _ r x).trans ?_
  refine Eq.trans (Finset.sum_congr rfl fun d _ => by rw [blk0, blk1]) ?_
  refine (ref_at (A m c) (B m c) (ri t r) (cj t x)).symm.trans ?_
  blk_ext [idx t]
  all_goals rfl

theorem ref_frame : quiescent_OutDgradRefIdeal (hOutDgradRefIdeal := Cert.OutDgradRefIdeal.Gen.facts) := by
  intro m g _
  refine (θ_run _ _ _).mono (fun r h => ⟨fun c => ?_, sem_eq_zero_of_no_sems (by decide) r.2⟩) (Cert.OutDgradRefIdeal.Value.run m g)
  exact (h c).2

theorem algebraic : algebraic_OutDgradIdeal_OutDgradRefIdeal (hOutDgradIdeal := Cert.OutDgradIdeal.Gen.facts) (hOutDgradRefIdeal := Cert.OutDgradRefIdeal.Gen.facts) := by
  pair_intro
  · run_from Cert.OutDgradIdeal.Value.run_blocks m g
  · run_from Cert.OutDgradRefIdeal.Value.run m' g'
    · exact (final m c).symm

end Cert.OutDgradIdeal.Proof

end
-- ==== Proof.OutWgrad.lean ====
module

public import proofs.«01_k».proof.Defs
public import proofs.«01_k».proof.Proof.Products
public import proofs.«01_k».proof.Proof.Gen.OutWgrad.Frame
public import proofs.«01_k».proof.Proof.Gen.OutWgradIdeal.Value
public import proofs.«01_k».proof.Proof.Gen.OutWgradRefIdeal.Run
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384
set_option maxHeartbeats 4000000

noncomputable section

/-! The output projection's gradient with respect to its weights. -/

namespace Cert.OutWgradIdeal.Proof

open Cert.Products Cert.OutWgradIdeal Cert.OutWgradIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The launch's first argument. -/
abbrev A : FVec Ideal S4096x4096 .bf16 := m ((c : Thread nD τ).loc main_arg0)
/-- The launch's second argument. -/
abbrev B : FVec Ideal S4096x4096 .bf16 := m ((c : Thread nD τ).loc main_arg1)

theorem lt_i : t.val / 4 < 4 := by have := lt_of_lt_of_eq t.2 (show cfg0.N = 4 * 4 by decide); omega
theorem lt_j : t.val % 4 < 4 := Nat.mod_lt _ (by decide)
/-- The tile's row `r` in the result. -/
abbrev ri (r : Fin 1024) : Fin 4096 := rowOf 4 1024 rfl (t.val / 4) (lt_i t) r
/-- The tile's column `x` in the result. -/
abbrev cj (x : Fin 1024) : Fin 4096 := rowOf 4 1024 rfl (t.val % 4) (lt_j t) x

theorem idx : ∀ t : Fin cfg0.N, win0_0.index t = ![0, t.val / 4] ∧ win0_1.index t = ![0, t.val % 4] ∧ win0_2.index t = ![t.val / 4, t.val % 4] :=
  (by decide +kernel : ∀ t : Fin grid0.N, _)

theorem blk0 (r : Fin 1024) (d : Fin 4096) : @Eq EReal (iblk m c 0 t (ix2 d r)) (A m c (ix2 d (ri t r))) := by
  blk_ext [iblk, V, idx t, rowOf]
theorem blk1 (x : Fin 1024) (d : Fin 4096) : @Eq EReal (iblk m c 1 t (ix2 d x)) (B m c (ix2 d (cj t x))) := by
  blk_ext [iblk, V, idx t, rowOf]

/-- A tile is the product of its blocks. -/
theorem tile (x0 : FVec Ideal S4096x1024 .bf16) (x1 : FVec Ideal S4096x1024 .bf16) (r : Fin 1024) (x : Fin 1024) :
    @Eq EReal (out0_2 (F := Ideal) x0 x1 (ix2 r x)) (∑ d : Fin 4096, @HMul.hMul EReal EReal EReal instHMul (x0 (ix2 d r)) (x1 (ix2 d x))) := by
  have hz : (![0, 0] : Fin 2 → Nat) = fun _ => 0 := funext fun a => by fin_cases a <;> rfl
  unfold out0_2
  rw [View.canon_unit_zero hz, View.ld_unit_zero hz, View.ld_unit_zero hz]
  unfold k0_pay1
  pointwise

/-- The reference's result. -/
def ref (a : FVec Ideal S4096x4096 .bf16) (b : FVec Ideal S4096x4096 .bf16) : FVec Ideal S4096x4096 .bf16 :=
  truncf .bf16 (transpose S4096x4096 [1, 0] (Host.dotGeneral Cert.OutWgradRefIdeal.dot_S4096x4096_S4096x4096_S4096x4096_0_0_1_1_n_n none (extf .f32 b Cert.OutWgradRefIdeal.Gen.bitsLt_bf16_f32) (extf .f32 a Cert.OutWgradRefIdeal.Gen.bitsLt_bf16_f32)) Cert.OutWgradRefIdeal.Gen.transposes_S4096x4096_S4096x4096_1_0) Cert.OutWgradRefIdeal.Gen.bitsLt_bf16_f32

theorem ref_at (a : FVec Ideal S4096x4096 .bf16) (b : FVec Ideal S4096x4096 .bf16) (r : Fin 4096) (x : Fin 4096) :
    @Eq EReal (ref a b (ix2 r x)) (∑ d : Fin 4096, @HMul.hMul EReal EReal EReal instHMul (a (ix2 d r)) (b (ix2 d x))) := by
  unfold ref
  pointwise
  exact Finset.sum_congr rfl fun d _ => mul_comm _ _

/-- The launch's result is the reference's. -/
theorem final : (dats m 0 c).arrAt 2 cfg0.N = ref (A m c) (B m c) := by
  refine (dats m 0 c).arrAt_eq_of_covers 2 _ (by decide +kernel) fun t hf y => ?_
  blk_simp
  rw [after0_2]
  obtain ⟨r, x, rfl⟩ : ∃ (r : Fin 1024) (x : Fin 1024), y = ix2 r x := ⟨y 0, y 1, eq_ix2 y⟩
  refine (tile _ _ r x).trans ?_
  refine Eq.trans (Finset.sum_congr rfl fun d _ => by rw [blk0, blk1]) ?_
  refine (ref_at (A m c) (B m c) (ri t r) (cj t x)).symm.trans ?_
  blk_ext [idx t]
  all_goals rfl

theorem ref_frame : quiescent_OutWgradRefIdeal (hOutWgradRefIdeal := Cert.OutWgradRefIdeal.Gen.facts) := by
  intro m g _
  refine (θ_run _ _ _).mono (fun r h => ⟨fun c => ?_, sem_eq_zero_of_no_sems (by decide) r.2⟩) (Cert.OutWgradRefIdeal.Value.run m g)
  exact (h c).2

theorem algebraic : algebraic_OutWgradIdeal_OutWgradRefIdeal (hOutWgradIdeal := Cert.OutWgradIdeal.Gen.facts) (hOutWgradRefIdeal := Cert.OutWgradRefIdeal.Gen.facts) := by
  pair_intro
  · run_from Cert.OutWgradIdeal.Value.run_blocks m g
  · run_from Cert.OutWgradRefIdeal.Value.run m' g'
    · exact (final m c).symm

end Cert.OutWgradIdeal.Proof

end
-- ==== Proof.InWgrad.lean ====
module

public import proofs.«01_k».proof.Defs
public import proofs.«01_k».proof.Proof.Products
public import proofs.«01_k».proof.Proof.Gen.InWgrad.Frame
public import proofs.«01_k».proof.Proof.Gen.InWgradIdeal.Value
public import proofs.«01_k».proof.Proof.Gen.InWgradRefIdeal.Run
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384
set_option maxHeartbeats 4000000

noncomputable section

/-! The input projection's gradient with respect to its weights. -/

namespace Cert.InWgradIdeal.Proof

open Cert.Products Cert.InWgradIdeal Cert.InWgradIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The launch's first argument. -/
abbrev A : FVec Ideal S4096x8960 .bf16 := m ((c : Thread nD τ).loc main_arg0)
/-- The launch's second argument. -/
abbrev B : FVec Ideal S4096x4096 .bf16 := m ((c : Thread nD τ).loc main_arg1)

theorem lt_i : t.val / 4 < 10 := by have := lt_of_lt_of_eq t.2 (show cfg0.N = 10 * 4 by decide); omega
theorem lt_j : t.val % 4 < 4 := Nat.mod_lt _ (by decide)
/-- The tile's row `r` in the result. -/
abbrev ri (r : Fin 896) : Fin 8960 := rowOf 10 896 rfl (t.val / 4) (lt_i t) r
/-- The tile's column `x` in the result. -/
abbrev cj (x : Fin 1024) : Fin 4096 := rowOf 4 1024 rfl (t.val % 4) (lt_j t) x

theorem idx : ∀ t : Fin cfg0.N, win0_0.index t = ![0, t.val / 4] ∧ win0_1.index t = ![0, t.val % 4] ∧ win0_2.index t = ![t.val / 4, t.val % 4] :=
  (by decide +kernel : ∀ t : Fin grid0.N, _)

theorem blk0 (r : Fin 896) (d : Fin 4096) : @Eq EReal (iblk m c 0 t (ix2 d r)) (A m c (ix2 d (ri t r))) := by
  blk_ext [iblk, V, idx t, rowOf]
theorem blk1 (x : Fin 1024) (d : Fin 4096) : @Eq EReal (iblk m c 1 t (ix2 d x)) (B m c (ix2 d (cj t x))) := by
  blk_ext [iblk, V, idx t, rowOf]

/-- A tile is the product of its blocks. -/
theorem tile (x0 : FVec Ideal S4096x896 .bf16) (x1 : FVec Ideal S4096x1024 .bf16) (r : Fin 896) (x : Fin 1024) :
    @Eq EReal (out0_2 (F := Ideal) x0 x1 (ix2 r x)) (∑ d : Fin 4096, @HMul.hMul EReal EReal EReal instHMul (x0 (ix2 d r)) (x1 (ix2 d x))) := by
  have hz : (![0, 0] : Fin 2 → Nat) = fun _ => 0 := funext fun a => by fin_cases a <;> rfl
  unfold out0_2
  rw [View.canon_unit_zero hz, View.ld_unit_zero hz, View.ld_unit_zero hz]
  unfold k0_pay1
  pointwise

/-- The reference's result. -/
def ref (a : FVec Ideal S4096x8960 .bf16) (b : FVec Ideal S4096x4096 .bf16) : FVec Ideal S8960x4096 .bf16 :=
  truncf .bf16 (transpose S8960x4096 [1, 0] (transpose Cert.InWgradRefIdeal.S4096x8960 [1, 0] (Host.dotGeneral Cert.InWgradRefIdeal.dot_S4096x8960_S4096x4096_S8960x4096_0_0_1_1_n_n none (extf .f32 a Cert.InWgradRefIdeal.Gen.bitsLt_bf16_f32) (extf .f32 b Cert.InWgradRefIdeal.Gen.bitsLt_bf16_f32)) Cert.InWgradRefIdeal.Gen.transposes_S8960x4096_S4096x8960_1_0) Cert.InWgradRefIdeal.Gen.transposes_S4096x8960_S8960x4096_1_0) Cert.InWgradRefIdeal.Gen.bitsLt_bf16_f32

theorem ref_at (a : FVec Ideal S4096x8960 .bf16) (b : FVec Ideal S4096x4096 .bf16) (r : Fin 8960) (x : Fin 4096) :
    @Eq EReal (ref a b (ix2 r x)) (∑ d : Fin 4096, @HMul.hMul EReal EReal EReal instHMul (a (ix2 d r)) (b (ix2 d x))) := by
  unfold ref
  pointwise

/-- The launch's result is the reference's. -/
theorem final : (dats m 0 c).arrAt 2 cfg0.N = ref (A m c) (B m c) := by
  refine (dats m 0 c).arrAt_eq_of_covers 2 _ (by decide +kernel) fun t hf y => ?_
  blk_simp
  rw [after0_2]
  obtain ⟨r, x, rfl⟩ : ∃ (r : Fin 896) (x : Fin 1024), y = ix2 r x := ⟨y 0, y 1, eq_ix2 y⟩
  refine (tile _ _ r x).trans ?_
  refine Eq.trans (Finset.sum_congr rfl fun d _ => by rw [blk0, blk1]) ?_
  refine (ref_at (A m c) (B m c) (ri t r) (cj t x)).symm.trans ?_
  blk_ext [idx t]
  all_goals rfl

theorem ref_frame : quiescent_InWgradRefIdeal (hInWgradRefIdeal := Cert.InWgradRefIdeal.Gen.facts) := by
  intro m g _
  refine (θ_run _ _ _).mono (fun r h => ⟨fun c => ?_, sem_eq_zero_of_no_sems (by decide) r.2⟩) (Cert.InWgradRefIdeal.Value.run m g)
  exact (h c).2

theorem algebraic : algebraic_InWgradIdeal_InWgradRefIdeal (hInWgradIdeal := Cert.InWgradIdeal.Gen.facts) (hInWgradRefIdeal := Cert.InWgradRefIdeal.Gen.facts) := by
  pair_intro
  · run_from Cert.InWgradIdeal.Value.run_blocks m g
  · run_from Cert.InWgradRefIdeal.Value.run m' g'
    · exact (final m c).symm

end Cert.InWgradIdeal.Proof

end
-- ==== Proof.InDgrad.lean ====
module

public import proofs.«01_k».proof.Defs
public import proofs.«01_k».proof.Proof.Products
public import proofs.«01_k».proof.Proof.Gen.InDgrad.Frame
public import proofs.«01_k».proof.Proof.Gen.InDgradIdeal.Value
public import proofs.«01_k».proof.Proof.Gen.InDgradRefIdeal.Run
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384
set_option maxHeartbeats 4000000

noncomputable section

/-! The input projection's gradient with respect to its input, summed over the projected dimension in five steps. -/

namespace Cert.InDgradIdeal.Proof

open Cert.Products Cert.InDgradIdeal Cert.InDgradIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The launch's first argument. -/
abbrev A : FVec Ideal S4096x8960 .bf16 := m ((c : Thread nD τ).loc main_arg0)
/-- The launch's second argument. -/
abbrev B : FVec Ideal S8960x4096 .bf16 := m ((c : Thread nD τ).loc main_arg1)

theorem lt_i : t.val / 5 / 4 < 4 := by have := lt_of_lt_of_eq t.2 (show cfg0.N = 16 * 5 by decide); omega
theorem lt_j : t.val / 5 % 4 < 4 := Nat.mod_lt _ (by decide)
theorem lt_k : t.val % 5 < 5 := Nat.mod_lt _ (by decide)
/-- The tile's row `r` in the result. -/
abbrev ri (r : Fin 1024) : Fin 4096 := rowOf 4 1024 rfl (t.val / 5 / 4) (lt_i t) r
/-- The tile's column `x` in the result. -/
abbrev cj (x : Fin 1024) : Fin 4096 := rowOf 4 1024 rfl (t.val / 5 % 4) (lt_j t) x
/-- The step's place `d` in the sum. -/
abbrev kd (d : Fin 1792) : Fin 8960 := rowOf 5 1792 rfl (t.val % 5) (lt_k t) d

theorem idx : ∀ t : Fin cfg0.N, win0_0.index t = ![t.val / 5 / 4, t.val % 5] ∧ win0_1.index t = ![t.val % 5, t.val / 5 % 4] ∧ win0_2.index t = ![t.val / 5 / 4, t.val / 5 % 4] :=
  (by decide +kernel : ∀ t : Fin grid0.N, _)

theorem blk0 (r : Fin 1024) (d : Fin 1792) : @Eq EReal (iblk m c 0 t (ix2 r d)) (A m c (ix2 (ri t r) (kd t d))) := by
  blk_ext [iblk, V, idx t, rowOf]
theorem blk1 (x : Fin 1024) (d : Fin 1792) : @Eq EReal (iblk m c 1 t (ix2 d x)) (B m c (ix2 (kd t d) (cj t x))) := by
  blk_ext [iblk, V, idx t, rowOf]

/-- What a step adds to its tile. -/
abbrev part : FVec Ideal S1024x1024 .f32 := k0_pay1 (F := Ideal) (iblk m c 0 t) (iblk m c 1 t)

/-- What a step adds is the product of its blocks. -/
theorem part_at (r x : Fin 1024) : @Eq EReal (part m c t (ix2 r x)) (∑ d : Fin 1792, @HMul.hMul EReal EReal EReal instHMul (A m c (ix2 (ri t r) (kd t d))) (B m c (ix2 (kd t d) (cj t x)))) := by
  refine Eq.trans (b := ∑ d : Fin 1792, @HMul.hMul EReal EReal EReal instHMul (iblk m c 0 t (ix2 r d)) (iblk m c 1 t (ix2 d x))) ?_
    (Finset.sum_congr rfl fun d _ => by rw [blk0, blk1])
  unfold part k0_pay1
  pointwise

/-- A tile's running sum after point `n`: in the result's block at the last step, in the scratch before it. -/
def acc (n : ℕ) (h : n < cfg0.N) : S1024x1024.Idx → EReal :=
  if n % 5 = 4 then (outsAt0 m c n h).1 else (outsAt0 m c n h).2

theorem acc_first (h : t.val % 5 = 0) (y : S1024x1024.Idx) : acc m c t.val t.isLt y = 0 + (part m c t y : EReal) := by
  have h1 : ¬(1 ≤ t.val % 5 ∧ t.val % 5 ≤ 3) := by omega
  have h2 : ¬t.val % 5 = 4 := by omega
  have e : (outsAt0 m c t.val t.isLt).2 = shapeCast S1024x1024 (part m c t) shapeCasts_S1024x1024_S1024x1024 := by
    rw [outsAt0_A m c t h h1 h2]; frame_out; rfl
  unfold acc
  rw [if_neg h2, e, zero_add]
  pointwise

theorem acc_step (h : ¬t.val % 5 = 0) (y : S1024x1024.Idx) :
    acc m c t.val t.isLt y = acc m c (t.val - 1) (Nat.lt_of_le_of_lt (Nat.sub_le _ _) t.isLt) y + (part m c t y : EReal) := by
  have hp : ¬(t.val - 1) % 5 = 4 := by omega
  by_cases h2 : t.val % 5 = 4
  · have h1 : ¬(1 ≤ t.val % 5 ∧ t.val % 5 ≤ 3) := by omega
    have e : (outsAt0 m c t.val t.isLt).1 = (addf (outsAt0 m c (t.val - 1) (Nat.lt_of_le_of_lt (Nat.sub_le _ _) t.isLt)).2 (part m c t) : FVec Ideal S1024x1024 .f32) := by
      rw [outsAt0_C m c t h h1 h2]; frame_out
      exact congrArg (k0_pay4 (F := Ideal) (iblk m c 0 t) (iblk m c 1 t)) ((Memref.isWhole_whole _).read_unread _)
    unfold acc
    rw [if_pos h2, if_neg hp, e]
    pointwise
  · have h1 : 1 ≤ t.val % 5 ∧ t.val % 5 ≤ 3 := by omega
    have e : (outsAt0 m c t.val t.isLt).2 = (shapeCast S1024x1024 (addf (outsAt0 m c (t.val - 1) (Nat.lt_of_le_of_lt (Nat.sub_le _ _) t.isLt)).2 (part m c t) : FVec Ideal S1024x1024 .f32) shapeCasts_S1024x1024_S1024x1024) := by
      rw [outsAt0_B m c t h h1 h2]; frame_out
      exact congrArg (k0_pay3 (F := Ideal) (iblk m c 0 t) (iblk m c 1 t)) ((Memref.isWhole_whole _).read_unread _)
    unfold acc
    rw [if_neg h2, if_neg hp, e]
    pointwise

/-- At its last step a tile holds the whole product. -/
theorem tile (h : t.val % 5 = 4) (r x : Fin 1024) :
    @Eq EReal ((outsAt0 m c t.val t.isLt).1 (ix2 r x)) (∑ d : Fin 8960, @HMul.hMul EReal EReal EReal instHMul (A m c (ix2 (ri t r) d)) (B m c (ix2 d (cj t x)))) := by
  have e := Pipeline.eq_sum_fin_of_reset_step_apply_of_flush (acc m c) 5 (fun _ => 0) (fun t y => (part m c t y : EReal))
    (acc_first m c) (acc_step m c) t h (ix2 r x)
  unfold acc at e
  rw [if_pos h, zero_add] at e
  refine e.trans ?_
  rw [sum_rowOf 5 1792 rfl]
  refine Finset.sum_congr rfl fun s _ => (part_at m c _ r x).trans (Finset.sum_congr rfl fun d _ => ?_)
  have a1 : (5 * (t.val / 5) + s.val) / 5 = t.val / 5 := by omega
  have a2 : (5 * (t.val / 5) + s.val) % 5 = s.val := by omega
  unfold ri cj kd
  simp only [a1, a2]

/-- The reference's result. -/
def ref (a : FVec Ideal S4096x8960 .bf16) (b : FVec Ideal S8960x4096 .bf16) : FVec Ideal S4096x4096 .f32 :=
  Host.dotGeneral Cert.InDgradRefIdeal.dot_S4096x8960_S4096x8960_S4096x4096_1_1_0_0_n_n none (extf .f32 a Cert.InDgradRefIdeal.Gen.bitsLt_bf16_f32) (extf .f32 (transpose S4096x8960 [1, 0] b Cert.InDgradRefIdeal.Gen.transposes_S8960x4096_S4096x8960_1_0) Cert.InDgradRefIdeal.Gen.bitsLt_bf16_f32)

theorem ref_at (a : FVec Ideal S4096x8960 .bf16) (b : FVec Ideal S8960x4096 .bf16) (r x : Fin 4096) :
    @Eq EReal (ref a b (ix2 r x)) (∑ d : Fin 8960, @HMul.hMul EReal EReal EReal instHMul (a (ix2 r d)) (b (ix2 d x))) := by
  unfold ref
  pointwise

/-- The launch's result is the reference's. -/
theorem final : (dats m 0 c).arrAt 2 cfg0.N = ref (A m c) (B m c) := by
  refine (dats m 0 c).arrAt_eq_of_covers 2 _ (by decide +kernel) fun t hf y => ?_
  blk_simp
  rw [after0_2]
  obtain ⟨r, x, rfl⟩ : ∃ (r x : Fin 1024), y = ix2 r x := ⟨y 0, y 1, eq_ix2 y⟩
  refine (tile m c t ((flush0_2 t).mp hf) r x).trans ?_
  refine (ref_at (A m c) (B m c) (ri t r) (cj t x)).symm.trans ?_
  blk_ext [idx t]
  all_goals rfl

theorem ref_frame : quiescent_InDgradRefIdeal (hInDgradRefIdeal := Cert.InDgradRefIdeal.Gen.facts) := by
  intro m g _
  refine (θ_run _ _ _).mono (fun r h => ⟨fun c => ?_, sem_eq_zero_of_no_sems (by decide) r.2⟩) (Cert.InDgradRefIdeal.Value.run m g)
  exact (h c).2

theorem algebraic : algebraic_InDgradIdeal_InDgradRefIdeal (hInDgradIdeal := Cert.InDgradIdeal.Gen.facts) (hInDgradRefIdeal := Cert.InDgradRefIdeal.Gen.facts) := by
  pair_intro
  · run_from Cert.InDgradIdeal.Value.run_blocks m g
  · run_from Cert.InDgradRefIdeal.Value.run m' g'
    · exact (final m c).symm

end Cert.InDgradIdeal.Proof

end
-- ==== Proof.Up.lean ====
module

public import proofs.«01_k».proof.Defs
public import proofs.«01_k».proof.Proof.Products
public import proofs.«01_k».proof.Proof.Gen.Up.Frame
public import proofs.«01_k».proof.Proof.Gen.UpIdeal.Value
public import proofs.«01_k».proof.Proof.Gen.UpRefIdeal.Run
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384
set_option maxHeartbeats 4000000

noncomputable section

/-! The first MLP layer and its squared positive part. -/

namespace Cert.UpIdeal.Proof

open Cert.Products Cert.UpIdeal Cert.UpIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The launch's first argument. -/
abbrev A : FVec Ideal S4096x4096 .bf16 := m ((c : Thread nD τ).loc main_arg0)
/-- The launch's second argument. -/
abbrev B : FVec Ideal S4096x16384 .bf16 := m ((c : Thread nD τ).loc main_arg1)

theorem lt_i : t.val / 16 < 4 := by have := lt_of_lt_of_eq t.2 (show cfg0.N = 4 * 16 by decide); omega
theorem lt_j : t.val % 16 < 16 := Nat.mod_lt _ (by decide)
/-- The tile's row `r` in the result. -/
abbrev ri (r : Fin 1024) : Fin 4096 := rowOf 4 1024 rfl (t.val / 16) (lt_i t) r
/-- The tile's column `x` in the result. -/
abbrev cj (x : Fin 1024) : Fin 16384 := rowOf 16 1024 rfl (t.val % 16) (lt_j t) x

theorem idx : ∀ t : Fin cfg0.N, win0_0.index t = ![t.val / 16, 0] ∧ win0_1.index t = ![0, t.val % 16] ∧ win0_2.index t = ![t.val / 16, t.val % 16] ∧ win0_3.index t = ![t.val / 16, t.val % 16] :=
  (by decide +kernel : ∀ t : Fin grid0.N, _)

theorem blk0 (r : Fin 1024) (d : Fin 4096) : @Eq EReal (iblk m c 0 t (ix2 r d)) (A m c (ix2 (ri t r) d)) := by
  blk_ext [iblk, V, idx t, rowOf]
theorem blk1 (x : Fin 1024) (d : Fin 4096) : @Eq EReal (iblk m c 1 t (ix2 d x)) (B m c (ix2 d (cj t x))) := by
  blk_ext [iblk, V, idx t, rowOf]

/-- A tile of the first result is the product of its blocks. -/
theorem tile (x0 : FVec Ideal S1024x4096 .bf16) (x1 : FVec Ideal S4096x1024 .bf16) (r x : Fin 1024) :
    @Eq EReal (out0_2 (F := Ideal) x0 x1 (ix2 r x)) (∑ d : Fin 4096, @HMul.hMul EReal EReal EReal instHMul (x0 (ix2 r d)) (x1 (ix2 d x))) := by
  have hz : (![0, 0] : Fin 2 → Nat) = fun _ => 0 := funext fun a => by fin_cases a <;> rfl
  unfold out0_2
  rw [View.canon_unit_zero hz, View.ld_unit_zero hz, View.ld_unit_zero hz]
  unfold k0_pay1
  pointwise

/-- The squared positive part. -/
abbrev act (h : EReal) : EReal := max h 0 * max h 0

/-- A tile of the second result is the squared positive part of the product of its blocks. -/
theorem tile_act (x0 : FVec Ideal S1024x4096 .bf16) (x1 : FVec Ideal S4096x1024 .bf16) (r x : Fin 1024) :
    @Eq EReal (out0_3 (F := Ideal) x0 x1 (ix2 r x)) (act (∑ d : Fin 4096, @HMul.hMul EReal EReal EReal instHMul (x0 (ix2 r d)) (x1 (ix2 d x)))) := by
  have hz : (![0, 0] : Fin 2 → Nat) = fun _ => 0 := funext fun a => by fin_cases a <;> rfl
  unfold out0_3
  rw [View.canon_unit_zero hz, View.ld_unit_zero hz, View.ld_unit_zero hz]
  unfold k0_pay2 k0_pay1
  pointwise

/-- The reference's first result. -/
def ref (a : FVec Ideal S4096x4096 .bf16) (b : FVec Ideal S4096x16384 .bf16) : FVec Ideal S4096x16384 .f32 :=
  Host.dotGeneral Cert.UpRefIdeal.dot_S4096x4096_S4096x16384_S4096x16384_1_0_0_1_n_n none (extf .f32 a Cert.UpRefIdeal.Gen.bitsLt_bf16_f32) (extf .f32 b Cert.UpRefIdeal.Gen.bitsLt_bf16_f32)

/-- The reference's positive part of its first result. -/
def pos (a : FVec Ideal S4096x4096 .bf16) (b : FVec Ideal S4096x16384 .bf16) : FVec Ideal S4096x16384 .f32 :=
  maximumf (ref a b) (broadcastInDim S4096x16384 ![] Cert.UpRefIdeal.Gen.bcast_S_S4096x16384 (constant Cert.UpRefIdeal.S_ .f32 0x00000000#32))

/-- The reference's second result. -/
def ref_act (a : FVec Ideal S4096x4096 .bf16) (b : FVec Ideal S4096x16384 .bf16) : FVec Ideal S4096x16384 .bf16 :=
  truncf .bf16 (mulf (pos a b) (pos a b)) Cert.UpRefIdeal.Gen.bitsLt_bf16_f32

theorem ref_at (a : FVec Ideal S4096x4096 .bf16) (b : FVec Ideal S4096x16384 .bf16) (r : Fin 4096) (x : Fin 16384) :
    @Eq EReal (ref a b (ix2 r x)) (∑ d : Fin 4096, @HMul.hMul EReal EReal EReal instHMul (a (ix2 r d)) (b (ix2 d x))) := by
  unfold ref
  pointwise

theorem ref_act_at (a : FVec Ideal S4096x4096 .bf16) (b : FVec Ideal S4096x16384 .bf16) (r : Fin 4096) (x : Fin 16384) :
    @Eq EReal (ref_act a b (ix2 r x)) (act (∑ d : Fin 4096, @HMul.hMul EReal EReal EReal instHMul (a (ix2 r d)) (b (ix2 d x)))) := by
  rw [← ref_at]
  unfold ref_act pos
  pointwise

/-- The product of a tile's blocks is the product's tile. -/
theorem blocks (r x : Fin 1024) :
    (∑ d : Fin 4096, @HMul.hMul EReal EReal EReal instHMul (iblk m c 0 t (ix2 r d)) (iblk m c 1 t (ix2 d x))) =
      ∑ d : Fin 4096, @HMul.hMul EReal EReal EReal instHMul (A m c (ix2 (ri t r) d)) (B m c (ix2 d (cj t x))) :=
  Finset.sum_congr rfl fun d _ => by rw [blk0, blk1]

/-- The launch's first result is the reference's. -/
theorem final : (dats m 0 c).arrAt 2 cfg0.N = ref (A m c) (B m c) := by
  refine (dats m 0 c).arrAt_eq_of_covers 2 _ (by decide +kernel) fun t hf y => ?_
  blk_simp
  rw [after0_2]
  obtain ⟨r, x, rfl⟩ : ∃ (r x : Fin 1024), y = ix2 r x := ⟨y 0, y 1, eq_ix2 y⟩
  refine ((tile _ _ r x).trans (blocks m c t r x)).trans ?_
  refine (ref_at (A m c) (B m c) (ri t r) (cj t x)).symm.trans ?_
  blk_ext [idx t]
  all_goals rfl

/-- The launch's second result is the reference's. -/
theorem final_act : (dats m 0 c).arrAt 3 cfg0.N = ref_act (A m c) (B m c) := by
  refine (dats m 0 c).arrAt_eq_of_covers 3 _ (by decide +kernel) fun t hf y => ?_
  blk_simp
  rw [after0_3]
  obtain ⟨r, x, rfl⟩ : ∃ (r x : Fin 1024), y = ix2 r x := ⟨y 0, y 1, eq_ix2 y⟩
  refine ((tile_act _ _ r x).trans (congrArg act (blocks m c t r x))).trans ?_
  refine (ref_act_at (A m c) (B m c) (ri t r) (cj t x)).symm.trans ?_
  blk_ext [idx t]
  all_goals rfl

theorem ref_frame : quiescent_UpRefIdeal (hUpRefIdeal := Cert.UpRefIdeal.Gen.facts) := by
  intro m g _
  refine (θ_run _ _ _).mono (fun r h => ⟨fun c => ?_, sem_eq_zero_of_no_sems (by decide) r.2⟩) (Cert.UpRefIdeal.Value.run m g)
  exact (h c).2.2

theorem algebraic : algebraic_UpIdeal_UpRefIdeal (hUpIdeal := Cert.UpIdeal.Gen.facts) (hUpRefIdeal := Cert.UpRefIdeal.Gen.facts) := by
  pair_intro
  · run_from Cert.UpIdeal.Value.run_blocks m g
  · run_from Cert.UpRefIdeal.Value.run m' g'
    · exact (final m c).symm
    · exact (final_act m c).symm

end Cert.UpIdeal.Proof

end
-- ==== Proof.Down.lean ====
module

public import proofs.«01_k».proof.Defs
public import proofs.«01_k».proof.Proof.Products
public import proofs.«01_k».proof.Proof.Gen.Down.Frame
public import proofs.«01_k».proof.Proof.Gen.DownIdeal.Value
public import proofs.«01_k».proof.Proof.Gen.DownRefIdeal.Run
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 65536
set_option maxHeartbeats 4000000

noncomputable section

/-! The second MLP layer, summed over the hidden dimension in four steps. -/

namespace Cert.DownIdeal.Proof

open Cert.Products Cert.DownIdeal Cert.DownIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The launch's first argument. -/
abbrev A : FVec Ideal S4096x16384 .bf16 := m ((c : Thread nD τ).loc main_arg0)
/-- The launch's second argument. -/
abbrev B : FVec Ideal S16384x4096 .bf16 := m ((c : Thread nD τ).loc main_arg1)

theorem lt_i : t.val / 4 / 4 < 4 := by have := lt_of_lt_of_eq t.2 (show cfg0.N = 16 * 4 by decide); omega
theorem lt_j : t.val / 4 % 4 < 4 := Nat.mod_lt _ (by decide)
theorem lt_k : t.val % 4 < 4 := Nat.mod_lt _ (by decide)
/-- The tile's row `r` in the result. -/
abbrev ri (r : Fin 1024) : Fin 4096 := rowOf 4 1024 rfl (t.val / 4 / 4) (lt_i t) r
/-- The tile's column `x` in the result. -/
abbrev cj (x : Fin 1024) : Fin 4096 := rowOf 4 1024 rfl (t.val / 4 % 4) (lt_j t) x
/-- The step's place `d` in the sum. -/
abbrev kd (d : Fin 4096) : Fin 16384 := rowOf 4 4096 rfl (t.val % 4) (lt_k t) d

theorem idx : ∀ t : Fin cfg0.N, win0_0.index t = ![t.val / 4 / 4, t.val % 4] ∧ win0_1.index t = ![t.val % 4, t.val / 4 % 4] ∧ win0_2.index t = ![t.val / 4 / 4, t.val / 4 % 4] :=
  (by decide +kernel : ∀ t : Fin grid0.N, _)

theorem blk0 (r : Fin 1024) (d : Fin 4096) : @Eq EReal (iblk m c 0 t (ix2 r d)) (A m c (ix2 (ri t r) (kd t d))) := by
  blk_ext [iblk, V, idx t, rowOf]
theorem blk1 (x : Fin 1024) (d : Fin 4096) : @Eq EReal (iblk m c 1 t (ix2 d x)) (B m c (ix2 (kd t d) (cj t x))) := by
  blk_ext [iblk, V, idx t, rowOf]

/-- What a step adds to its tile. -/
abbrev part : FVec Ideal S1024x1024 .f32 := k0_pay1 (F := Ideal) (iblk m c 0 t) (iblk m c 1 t)

/-- What a step adds is the product of its blocks. -/
theorem part_at (r x : Fin 1024) : @Eq EReal (part m c t (ix2 r x)) (∑ d : Fin 4096, @HMul.hMul EReal EReal EReal instHMul (A m c (ix2 (ri t r) (kd t d))) (B m c (ix2 (kd t d) (cj t x)))) := by
  refine Eq.trans (b := ∑ d : Fin 4096, @HMul.hMul EReal EReal EReal instHMul (iblk m c 0 t (ix2 r d)) (iblk m c 1 t (ix2 d x))) ?_
    (Finset.sum_congr rfl fun d _ => by rw [blk0, blk1])
  unfold part k0_pay1
  pointwise

/-- A tile's running sum after point `n`: in the result's block at the last step, in the scratch before it. -/
def acc (n : ℕ) (h : n < cfg0.N) : S1024x1024.Idx → EReal :=
  if n % 4 = 3 then (outsAt0 m c n h).1 else (outsAt0 m c n h).2

theorem acc_first (h : t.val % 4 = 0) (y : S1024x1024.Idx) : acc m c t.val t.isLt y = 0 + (part m c t y : EReal) := by
  have h1 : ¬(1 ≤ t.val % 4 ∧ t.val % 4 ≤ 2) := by omega
  have h2 : ¬t.val % 4 = 3 := by omega
  have e : (outsAt0 m c t.val t.isLt).2 = shapeCast S1024x1024 (part m c t) shapeCasts_S1024x1024_S1024x1024 := by
    rw [outsAt0_A m c t h h1 h2]; frame_out; rfl
  unfold acc
  rw [if_neg h2, e, zero_add]
  pointwise

theorem acc_step (h : ¬t.val % 4 = 0) (y : S1024x1024.Idx) :
    acc m c t.val t.isLt y = acc m c (t.val - 1) (Nat.lt_of_le_of_lt (Nat.sub_le _ _) t.isLt) y + (part m c t y : EReal) := by
  have hp : ¬(t.val - 1) % 4 = 3 := by omega
  by_cases h2 : t.val % 4 = 3
  · have h1 : ¬(1 ≤ t.val % 4 ∧ t.val % 4 ≤ 2) := by omega
    have e : (outsAt0 m c t.val t.isLt).1 = (addf (outsAt0 m c (t.val - 1) (Nat.lt_of_le_of_lt (Nat.sub_le _ _) t.isLt)).2 (part m c t) : FVec Ideal S1024x1024 .f32) := by
      rw [outsAt0_C m c t h h1 h2]; frame_out
      exact congrArg (k0_pay4 (F := Ideal) (iblk m c 0 t) (iblk m c 1 t)) ((Memref.isWhole_whole _).read_unread _)
    unfold acc
    rw [if_pos h2, if_neg hp, e]
    pointwise
  · have h1 : 1 ≤ t.val % 4 ∧ t.val % 4 ≤ 2 := by omega
    have e : (outsAt0 m c t.val t.isLt).2 = (shapeCast S1024x1024 (addf (outsAt0 m c (t.val - 1) (Nat.lt_of_le_of_lt (Nat.sub_le _ _) t.isLt)).2 (part m c t) : FVec Ideal S1024x1024 .f32) shapeCasts_S1024x1024_S1024x1024) := by
      rw [outsAt0_B m c t h h1 h2]; frame_out
      exact congrArg (k0_pay3 (F := Ideal) (iblk m c 0 t) (iblk m c 1 t)) ((Memref.isWhole_whole _).read_unread _)
    unfold acc
    rw [if_neg h2, if_neg hp, e]
    pointwise

/-- At its last step a tile holds the whole product. -/
theorem tile (h : t.val % 4 = 3) (r x : Fin 1024) :
    @Eq EReal ((outsAt0 m c t.val t.isLt).1 (ix2 r x)) (∑ d : Fin 16384, @HMul.hMul EReal EReal EReal instHMul (A m c (ix2 (ri t r) d)) (B m c (ix2 d (cj t x)))) := by
  have e := Pipeline.eq_sum_fin_of_reset_step_apply_of_flush (acc m c) 4 (fun _ => 0) (fun t y => (part m c t y : EReal))
    (acc_first m c) (acc_step m c) t h (ix2 r x)
  unfold acc at e
  rw [if_pos h, zero_add] at e
  refine e.trans ?_
  rw [sum_rowOf 4 4096 rfl]
  refine Finset.sum_congr rfl fun s _ => (part_at m c _ r x).trans (Finset.sum_congr rfl fun d _ => ?_)
  have a1 : (4 * (t.val / 4) + s.val) / 4 = t.val / 4 := by omega
  have a2 : (4 * (t.val / 4) + s.val) % 4 = s.val := by omega
  unfold ri cj kd
  simp only [a1, a2]

/-- The reference's result. -/
def ref (a : FVec Ideal S4096x16384 .bf16) (b : FVec Ideal S16384x4096 .bf16) : FVec Ideal S4096x4096 .f32 :=
  Host.dotGeneral Cert.DownRefIdeal.dot_S4096x16384_S16384x4096_S4096x4096_1_0_0_1_n_n none (extf .f32 a Cert.DownRefIdeal.Gen.bitsLt_bf16_f32) (extf .f32 b Cert.DownRefIdeal.Gen.bitsLt_bf16_f32)

theorem ref_at (a : FVec Ideal S4096x16384 .bf16) (b : FVec Ideal S16384x4096 .bf16) (r x : Fin 4096) :
    @Eq EReal (ref a b (ix2 r x)) (∑ d : Fin 16384, @HMul.hMul EReal EReal EReal instHMul (a (ix2 r d)) (b (ix2 d x))) := by
  unfold ref
  pointwise

/-- The launch's result is the reference's. -/
theorem final : (dats m 0 c).arrAt 2 cfg0.N = ref (A m c) (B m c) := by
  refine (dats m 0 c).arrAt_eq_of_covers 2 _ (by decide +kernel) fun t hf y => ?_
  blk_simp
  rw [after0_2]
  obtain ⟨r, x, rfl⟩ : ∃ (r x : Fin 1024), y = ix2 r x := ⟨y 0, y 1, eq_ix2 y⟩
  refine (tile m c t ((flush0_2 t).mp hf) r x).trans ?_
  refine (ref_at (A m c) (B m c) (ri t r) (cj t x)).symm.trans ?_
  blk_ext [idx t]
  all_goals rfl

theorem ref_frame : quiescent_DownRefIdeal (hDownRefIdeal := Cert.DownRefIdeal.Gen.facts) := by
  intro m g _
  refine (θ_run _ _ _).mono (fun r h => ⟨fun c => ?_, sem_eq_zero_of_no_sems (by decide) r.2⟩) (Cert.DownRefIdeal.Value.run m g)
  exact (h c).2

theorem algebraic : algebraic_DownIdeal_DownRefIdeal (hDownIdeal := Cert.DownIdeal.Gen.facts) (hDownRefIdeal := Cert.DownRefIdeal.Gen.facts) := by
  pair_intro
  · run_from Cert.DownIdeal.Value.run_blocks m g
  · run_from Cert.DownRefIdeal.Value.run m' g'
    · exact (final m c).symm

end Cert.DownIdeal.Proof

end
-- ==== Proof.Out.lean ====
module

public import proofs.«01_k».proof.Defs
public import proofs.«01_k».proof.Proof.Products
public import proofs.«01_k».proof.Proof.Gen.Out.Frame
public import proofs.«01_k».proof.Proof.Gen.OutIdeal.Value
public import proofs.«01_k».proof.Proof.Gen.OutRefIdeal.Run
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384
set_option maxHeartbeats 4000000

noncomputable section

/-! The output projection. -/

namespace Cert.OutIdeal.Proof

open Cert.Products Cert.OutIdeal Cert.OutIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The launch's first argument. -/
abbrev A : FVec Ideal S4096x4096 .bf16 := m ((c : Thread nD τ).loc main_arg0)
/-- The launch's second argument. -/
abbrev B : FVec Ideal S4096x4096 .bf16 := m ((c : Thread nD τ).loc main_arg1)

theorem lt_i : t.val / 4 < 4 := by have := lt_of_lt_of_eq t.2 (show cfg0.N = 4 * 4 by decide); omega
theorem lt_j : t.val % 4 < 4 := Nat.mod_lt _ (by decide)
/-- The tile's row `r` in the result. -/
abbrev ri (r : Fin 1024) : Fin 4096 := rowOf 4 1024 rfl (t.val / 4) (lt_i t) r
/-- The tile's column `x` in the result. -/
abbrev cj (x : Fin 1024) : Fin 4096 := rowOf 4 1024 rfl (t.val % 4) (lt_j t) x

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

theorem blk0 (r : Fin 1024) (d : Fin 4096) : @Eq EReal (iblk m c 0 t (ix2 r d)) (A m c (ix2 (ri t r) d)) := by
  blk_ext [iblk, V, idx t, rowOf]
theorem blk1 (x : Fin 1024) (d : Fin 4096) : @Eq EReal (iblk m c 1 t (ix2 d x)) (B m c (ix2 d (cj t x))) := by
  blk_ext [iblk, V, idx t, rowOf]

/-- A tile is the product of its blocks. -/
theorem tile (x0 : FVec Ideal S1024x4096 .bf16) (x1 : FVec Ideal S4096x1024 .bf16) (r : Fin 1024) (x : Fin 1024) :
    @Eq EReal (out0_2 (F := Ideal) x0 x1 (ix2 r x)) (∑ d : Fin 4096, @HMul.hMul EReal EReal EReal instHMul (x0 (ix2 r d)) (x1 (ix2 d x))) := by
  have hz : (![0, 0] : Fin 2 → Nat) = fun _ => 0 := funext fun a => by fin_cases a <;> rfl
  unfold out0_2
  rw [View.canon_unit_zero hz, View.ld_unit_zero hz, View.ld_unit_zero hz]
  unfold k0_pay1
  pointwise

/-- The reference's result. -/
def ref (a : FVec Ideal S4096x4096 .bf16) (b : FVec Ideal S4096x4096 .bf16) : FVec Ideal S4096x4096 .f32 :=
  Host.dotGeneral Cert.OutRefIdeal.dot_S4096x4096_S4096x4096_S4096x4096_1_0_0_1_n_n none (extf .f32 a Cert.OutRefIdeal.Gen.bitsLt_bf16_f32) (extf .f32 b Cert.OutRefIdeal.Gen.bitsLt_bf16_f32)

theorem ref_at (a : FVec Ideal S4096x4096 .bf16) (b : FVec Ideal S4096x4096 .bf16) (r : Fin 4096) (x : Fin 4096) :
    @Eq EReal (ref a b (ix2 r x)) (∑ d : Fin 4096, @HMul.hMul EReal EReal EReal instHMul (a (ix2 r d)) (b (ix2 d x))) := by
  unfold ref
  pointwise

/-- The launch's result is the reference's. -/
theorem final : (dats m 0 c).arrAt 2 cfg0.N = ref (A m c) (B m c) := by
  refine (dats m 0 c).arrAt_eq_of_covers 2 _ (by decide +kernel) fun t hf y => ?_
  blk_simp
  rw [after0_2]
  obtain ⟨r, x, rfl⟩ : ∃ (r : Fin 1024) (x : Fin 1024), y = ix2 r x := ⟨y 0, y 1, eq_ix2 y⟩
  refine (tile _ _ r x).trans ?_
  refine Eq.trans (Finset.sum_congr rfl fun d _ => by rw [blk0, blk1]) ?_
  refine (ref_at (A m c) (B m c) (ri t r) (cj t x)).symm.trans ?_
  blk_ext [idx t]
  all_goals rfl

theorem ref_frame : quiescent_OutRefIdeal (hOutRefIdeal := Cert.OutRefIdeal.Gen.facts) := by
  intro m g _
  refine (θ_run _ _ _).mono (fun r h => ⟨fun c => ?_, sem_eq_zero_of_no_sems (by decide) r.2⟩) (Cert.OutRefIdeal.Value.run m g)
  exact (h c).2

theorem algebraic : algebraic_OutIdeal_OutRefIdeal (hOutIdeal := Cert.OutIdeal.Gen.facts) (hOutRefIdeal := Cert.OutRefIdeal.Gen.facts) := by
  pair_intro
  · run_from Cert.OutIdeal.Value.run_blocks m g
  · run_from Cert.OutRefIdeal.Value.run m' g'
    · exact (final m c).symm

end Cert.OutIdeal.Proof

end
-- ==== Proof.InRkv.lean ====
module

public import proofs.«01_k».proof.Defs
public import proofs.«01_k».proof.Proof.Products
public import proofs.«01_k».proof.Proof.Gen.InRkv.Frame
public import proofs.«01_k».proof.Proof.Gen.InRkvIdeal.Value
public import proofs.«01_k».proof.Proof.Gen.InRkvRefIdeal.Run
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384
set_option maxHeartbeats 4000000

noncomputable section

/-! The input projection's columns for the receptance, the key and the value. -/

namespace Cert.InRkvIdeal.Proof

open Cert.Products Cert.InRkvIdeal Cert.InRkvIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The launch's first argument. -/
abbrev A : FVec Ideal S4096x4096 .bf16 := m ((c : Thread nD τ).loc main_arg0)
/-- The launch's second argument. -/
abbrev B : FVec Ideal S8960x4096 .bf16 := m ((c : Thread nD τ).loc main_arg1)

theorem lt_i : t.val / 6 < 4 := by have := lt_of_lt_of_eq t.2 (show cfg0.N = 4 * 6 by decide); omega
theorem lt_j : t.val % 6 < 6 := Nat.mod_lt _ (by decide)
/-- The tile's row `r` in the result. -/
abbrev ri (r : Fin 1024) : Fin 4096 := rowOf 4 1024 rfl (t.val / 6) (lt_i t) r
/-- The tile's column `x` in the result. -/
abbrev cj (x : Fin 1024) : Fin 6144 := rowOf 6 1024 rfl (t.val % 6) (lt_j t) x

theorem idx : ∀ t : Fin cfg0.N, win0_0.index t = ![t.val / 6, 0] ∧ win0_1.index t = ![t.val % 6, 0] ∧ win0_2.index t = ![t.val / 6, t.val % 6] :=
  (by decide +kernel : ∀ t : Fin grid0.N, _)

/-- The weights of the part, as the host cuts them out before the launch. -/
theorem cut_at (x : Fin 6144) (d : Fin 4096) : @Eq EReal (V m c main_v0 (ix2 x d)) (B m c (ix2 (Fin.castLE (by decide) x) d)) := by
  show @Eq EReal (after hostOps0 (fun b => m (c, b)) (Proc.tc.devRef main_v0) (ix2 x d)) _
  simp only [hostOps0]
  after_results_simp
  pointwise
  rfl

theorem blk0 (r : Fin 1024) (d : Fin 4096) : @Eq EReal (iblk m c 0 t (ix2 r d)) (A m c (ix2 (ri t r) d)) := by
  refine Eq.trans (b := (V m c main_arg0 (ix2 (ri t r) d) : EReal)) ?_ (congrFun (V_main_arg0 m c) _)
  blk_ext [iblk, idx t, rowOf]
theorem blk1 (x : Fin 1024) (d : Fin 4096) : @Eq EReal (iblk m c 1 t (ix2 x d)) (B m c (ix2 (Fin.castLE (by decide) (cj t x)) d)) := by
  refine Eq.trans (b := (V m c main_v0 (ix2 (cj t x) d) : EReal)) ?_ (cut_at m c _ _)
  blk_ext [iblk, idx t, rowOf]

/-- A tile is the product of its blocks. -/
theorem tile (x0 : FVec Ideal S1024x4096 .bf16) (x1 : FVec Ideal S1024x4096 .bf16) (r : Fin 1024) (x : Fin 1024) :
    @Eq EReal (out0_2 (F := Ideal) x0 x1 (ix2 r x)) (∑ d : Fin 4096, @HMul.hMul EReal EReal EReal instHMul (x0 (ix2 r d)) (x1 (ix2 x d))) := by
  have hz : (![0, 0] : Fin 2 → Nat) = fun _ => 0 := funext fun a => by fin_cases a <;> rfl
  unfold out0_2
  rw [View.canon_unit_zero hz, View.ld_unit_zero hz, View.ld_unit_zero hz]
  unfold k0_pay1
  pointwise

/-- The reference's result. -/
def ref (a : FVec Ideal S4096x4096 .bf16) (b : FVec Ideal S8960x4096 .bf16) : FVec Ideal S4096x6144 .f32 :=
  extractStridedSlice S4096x6144 ![0, 0] (Host.dotGeneral Cert.InRkvRefIdeal.dot_S4096x4096_S4096x8960_S4096x8960_1_0_0_1_n_n none (extf .f32 a Cert.InRkvRefIdeal.Gen.bitsLt_bf16_f32) (extf .f32 (transpose Cert.InRkvRefIdeal.S4096x8960 [1, 0] b Cert.InRkvRefIdeal.Gen.transposes_S8960x4096_S4096x8960_1_0) Cert.InRkvRefIdeal.Gen.bitsLt_bf16_f32)) Cert.InRkvRefIdeal.Gen.slices_S4096x8960_S4096x6144_0_0

theorem ref_at (a : FVec Ideal S4096x4096 .bf16) (b : FVec Ideal S8960x4096 .bf16) (r : Fin 4096) (x : Fin 6144) :
    @Eq EReal (ref a b (ix2 r x)) (∑ d : Fin 4096, @HMul.hMul EReal EReal EReal instHMul (a (ix2 r d)) (b (ix2 (Fin.castLE (by decide) x) d))) := by
  unfold ref
  pointwise
  rfl

/-- The launch's result is the reference's. -/
theorem final : (dats m 0 c).arrAt 2 cfg0.N = ref (A m c) (B m c) := by
  refine (dats m 0 c).arrAt_eq_of_covers 2 _ (by decide +kernel) fun t hf y => ?_
  blk_simp
  rw [after0_2]
  obtain ⟨r, x, rfl⟩ : ∃ (r : Fin 1024) (x : Fin 1024), y = ix2 r x := ⟨y 0, y 1, eq_ix2 y⟩
  refine (tile _ _ r x).trans ?_
  refine Eq.trans (Finset.sum_congr rfl fun d _ => by rw [blk0, blk1]) ?_
  refine (ref_at (A m c) (B m c) (ri t r) (cj t x)).symm.trans ?_
  blk_ext [idx t]
  all_goals rfl

theorem ref_frame : quiescent_InRkvRefIdeal (hInRkvRefIdeal := Cert.InRkvRefIdeal.Gen.facts) := by
  intro m g _
  refine (θ_run _ _ _).mono (fun r h => ⟨fun c => ?_, sem_eq_zero_of_no_sems (by decide) r.2⟩) (Cert.InRkvRefIdeal.Value.run m g)
  exact (h c).2

theorem algebraic : algebraic_InRkvIdeal_InRkvRefIdeal (hInRkvIdeal := Cert.InRkvIdeal.Gen.facts) (hInRkvRefIdeal := Cert.InRkvRefIdeal.Gen.facts) := by
  pair_intro
  · run_from Cert.InRkvIdeal.Value.run_blocks m g
  · run_from Cert.InRkvRefIdeal.Value.run m' g'
    · exact (final m c).symm

end Cert.InRkvIdeal.Proof

end
-- ==== Proof.InLora.lean ====
module

public import proofs.«01_k».proof.Defs
public import proofs.«01_k».proof.Proof.Products
public import proofs.«01_k».proof.Proof.Gen.InLora.Frame
public import proofs.«01_k».proof.Proof.Gen.InLoraIdeal.Value
public import proofs.«01_k».proof.Proof.Gen.InLoraRefIdeal.Run
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384
set_option maxHeartbeats 4000000

noncomputable section

/-! The input projection's columns for the low-rank maps. -/

namespace Cert.InLoraIdeal.Proof

open Cert.Products Cert.InLoraIdeal Cert.InLoraIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The launch's first argument. -/
abbrev A : FVec Ideal S4096x4096 .bf16 := m ((c : Thread nD τ).loc main_arg0)
/-- The launch's second argument. -/
abbrev B : FVec Ideal S8960x4096 .bf16 := m ((c : Thread nD τ).loc main_arg1)

theorem lt_i : t.val / 1 < 4 := by have := lt_of_lt_of_eq t.2 (show cfg0.N = 4 * 1 by decide); omega
theorem lt_j : t.val % 1 < 1 := Nat.mod_lt _ (by decide)
/-- The tile's row `r` in the result. -/
abbrev ri (r : Fin 1024) : Fin 4096 := rowOf 4 1024 rfl (t.val / 1) (lt_i t) r
/-- The tile's column `x` in the result. -/
abbrev cj (x : Fin 256) : Fin 256 := rowOf 1 256 rfl (t.val % 1) (lt_j t) x

theorem idx : ∀ t : Fin cfg0.N, win0_0.index t = ![t.val / 1, 0] ∧ win0_1.index t = ![t.val % 1, 0] ∧ win0_2.index t = ![t.val / 1, t.val % 1] :=
  (by decide +kernel : ∀ t : Fin grid0.N, _)

/-- The weights of the part, as the host cuts them out before the launch. -/
theorem cut_at (x : Fin 256) (d : Fin 4096) : @Eq EReal (V m c main_v0 (ix2 x d)) (B m c (ix2 (fromAt 6144 (by decide) x) d)) := by
  show @Eq EReal (after hostOps0 (fun b => m (c, b)) (Proc.tc.devRef main_v0) (ix2 x d)) _
  simp only [hostOps0]
  after_results_simp
  pointwise
  rfl

theorem blk0 (r : Fin 1024) (d : Fin 4096) : @Eq EReal (iblk m c 0 t (ix2 r d)) (A m c (ix2 (ri t r) d)) := by
  refine Eq.trans (b := (V m c main_arg0 (ix2 (ri t r) d) : EReal)) ?_ (congrFun (V_main_arg0 m c) _)
  blk_ext [iblk, idx t, rowOf]
theorem blk1 (x : Fin 256) (d : Fin 4096) : @Eq EReal (iblk m c 1 t (ix2 x d)) (B m c (ix2 (fromAt 6144 (by decide) (cj t x)) d)) := by
  refine Eq.trans (b := (V m c main_v0 (ix2 (cj t x) d) : EReal)) ?_ (cut_at m c _ _)
  blk_ext [iblk, idx t, rowOf]

/-- A tile is the product of its blocks. -/
theorem tile (x0 : FVec Ideal S1024x4096 .bf16) (x1 : FVec Ideal S256x4096 .bf16) (r : Fin 1024) (x : Fin 256) :
    @Eq EReal (out0_2 (F := Ideal) x0 x1 (ix2 r x)) (∑ d : Fin 4096, @HMul.hMul EReal EReal EReal instHMul (x0 (ix2 r d)) (x1 (ix2 x d))) := by
  have hz : (![0, 0] : Fin 2 → Nat) = fun _ => 0 := funext fun a => by fin_cases a <;> rfl
  unfold out0_2
  rw [View.canon_unit_zero hz, View.ld_unit_zero hz, View.ld_unit_zero hz]
  unfold k0_pay1
  pointwise

/-- The reference's result. -/
def ref (a : FVec Ideal S4096x4096 .bf16) (b : FVec Ideal S8960x4096 .bf16) : FVec Ideal S4096x256 .f32 :=
  extractStridedSlice S4096x256 ![0, 6144] (Host.dotGeneral Cert.InLoraRefIdeal.dot_S4096x4096_S4096x8960_S4096x8960_1_0_0_1_n_n none (extf .f32 a Cert.InLoraRefIdeal.Gen.bitsLt_bf16_f32) (extf .f32 (transpose Cert.InLoraRefIdeal.S4096x8960 [1, 0] b Cert.InLoraRefIdeal.Gen.transposes_S8960x4096_S4096x8960_1_0) Cert.InLoraRefIdeal.Gen.bitsLt_bf16_f32)) Cert.InLoraRefIdeal.Gen.slices_S4096x8960_S4096x256_0_6144

theorem ref_at (a : FVec Ideal S4096x4096 .bf16) (b : FVec Ideal S8960x4096 .bf16) (r : Fin 4096) (x : Fin 256) :
    @Eq EReal (ref a b (ix2 r x)) (∑ d : Fin 4096, @HMul.hMul EReal EReal EReal instHMul (a (ix2 r d)) (b (ix2 (fromAt 6144 (by decide) x) d))) := by
  unfold ref
  pointwise
  rfl

/-- The launch's result is the reference's. -/
theorem final : (dats m 0 c).arrAt 2 cfg0.N = ref (A m c) (B m c) := by
  refine (dats m 0 c).arrAt_eq_of_covers 2 _ (by decide +kernel) fun t hf y => ?_
  blk_simp
  rw [after0_2]
  obtain ⟨r, x, rfl⟩ : ∃ (r : Fin 1024) (x : Fin 256), y = ix2 r x := ⟨y 0, y 1, eq_ix2 y⟩
  refine (tile _ _ r x).trans ?_
  refine Eq.trans (Finset.sum_congr rfl fun d _ => by rw [blk0, blk1]) ?_
  refine (ref_at (A m c) (B m c) (ri t r) (cj t x)).symm.trans ?_
  blk_ext [idx t]
  all_goals rfl

theorem ref_frame : quiescent_InLoraRefIdeal (hInLoraRefIdeal := Cert.InLoraRefIdeal.Gen.facts) := by
  intro m g _
  refine (θ_run _ _ _).mono (fun r h => ⟨fun c => ?_, sem_eq_zero_of_no_sems (by decide) r.2⟩) (Cert.InLoraRefIdeal.Value.run m g)
  exact (h c).2

theorem algebraic : algebraic_InLoraIdeal_InLoraRefIdeal (hInLoraIdeal := Cert.InLoraIdeal.Gen.facts) (hInLoraRefIdeal := Cert.InLoraRefIdeal.Gen.facts) := by
  pair_intro
  · run_from Cert.InLoraIdeal.Value.run_blocks m g
  · run_from Cert.InLoraRefIdeal.Value.run m' g'
    · exact (final m c).symm

end Cert.InLoraIdeal.Proof

end
-- ==== Proof.InQ.lean ====
module

public import proofs.«01_k».proof.Defs
public import proofs.«01_k».proof.Proof.Products
public import proofs.«01_k».proof.Proof.Gen.InQ.Frame
public import proofs.«01_k».proof.Proof.Gen.InQIdeal.Value
public import proofs.«01_k».proof.Proof.Gen.InQRefIdeal.Run
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384
set_option maxHeartbeats 4000000

noncomputable section

/-! The input projection's columns for the attention's queries. -/

namespace Cert.InQIdeal.Proof

open Cert.Products Cert.InQIdeal Cert.InQIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The launch's first argument. -/
abbrev A : FVec Ideal S4096x4096 .bf16 := m ((c : Thread nD τ).loc main_arg0)
/-- The launch's second argument. -/
abbrev B : FVec Ideal S8960x4096 .bf16 := m ((c : Thread nD τ).loc main_arg1)

theorem lt_i : t.val / 2 < 4 := by have := lt_of_lt_of_eq t.2 (show cfg0.N = 4 * 2 by decide); omega
theorem lt_j : t.val % 2 < 2 := Nat.mod_lt _ (by decide)
/-- The tile's row `r` in the result. -/
abbrev ri (r : Fin 1024) : Fin 4096 := rowOf 4 1024 rfl (t.val / 2) (lt_i t) r
/-- The tile's column `x` in the result. -/
abbrev cj (x : Fin 1024) : Fin 2048 := rowOf 2 1024 rfl (t.val % 2) (lt_j t) x

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The weights of the part, as the host cuts them out before the launch. -/
theorem cut_at (x : Fin 2048) (d : Fin 4096) : @Eq EReal (V m c main_v0 (ix2 x d)) (B m c (ix2 (fromAt 6400 (by decide) x) d)) := by
  show @Eq EReal (after hostOps0 (fun b => m (c, b)) (Proc.tc.devRef main_v0) (ix2 x d)) _
  simp only [hostOps0]
  after_results_simp
  pointwise
  rfl

theorem blk0 (r : Fin 1024) (d : Fin 4096) : @Eq EReal (iblk m c 0 t (ix2 r d)) (A m c (ix2 (ri t r) d)) := by
  refine Eq.trans (b := (V m c main_arg0 (ix2 (ri t r) d) : EReal)) ?_ (congrFun (V_main_arg0 m c) _)
  blk_ext [iblk, idx t, rowOf]
theorem blk1 (x : Fin 1024) (d : Fin 4096) : @Eq EReal (iblk m c 1 t (ix2 x d)) (B m c (ix2 (fromAt 6400 (by decide) (cj t x)) d)) := by
  refine Eq.trans (b := (V m c main_v0 (ix2 (cj t x) d) : EReal)) ?_ (cut_at m c _ _)
  blk_ext [iblk, idx t, rowOf]

/-- A tile is the product of its blocks. -/
theorem tile (x0 : FVec Ideal S1024x4096 .bf16) (x1 : FVec Ideal S1024x4096 .bf16) (r : Fin 1024) (x : Fin 1024) :
    @Eq EReal (out0_2 (F := Ideal) x0 x1 (ix2 r x)) (∑ d : Fin 4096, @HMul.hMul EReal EReal EReal instHMul (x0 (ix2 r d)) (x1 (ix2 x d))) := by
  have hz : (![0, 0] : Fin 2 → Nat) = fun _ => 0 := funext fun a => by fin_cases a <;> rfl
  unfold out0_2
  rw [View.canon_unit_zero hz, View.ld_unit_zero hz, View.ld_unit_zero hz]
  unfold k0_pay1
  pointwise

/-- The reference's result. -/
def ref (a : FVec Ideal S4096x4096 .bf16) (b : FVec Ideal S8960x4096 .bf16) : FVec Ideal S4096x2048 .f32 :=
  extractStridedSlice S4096x2048 ![0, 6400] (Host.dotGeneral Cert.InQRefIdeal.dot_S4096x4096_S4096x8960_S4096x8960_1_0_0_1_n_n none (extf .f32 a Cert.InQRefIdeal.Gen.bitsLt_bf16_f32) (extf .f32 (transpose Cert.InQRefIdeal.S4096x8960 [1, 0] b Cert.InQRefIdeal.Gen.transposes_S8960x4096_S4096x8960_1_0) Cert.InQRefIdeal.Gen.bitsLt_bf16_f32)) Cert.InQRefIdeal.Gen.slices_S4096x8960_S4096x2048_0_6400

theorem ref_at (a : FVec Ideal S4096x4096 .bf16) (b : FVec Ideal S8960x4096 .bf16) (r : Fin 4096) (x : Fin 2048) :
    @Eq EReal (ref a b (ix2 r x)) (∑ d : Fin 4096, @HMul.hMul EReal EReal EReal instHMul (a (ix2 r d)) (b (ix2 (fromAt 6400 (by decide) x) d))) := by
  unfold ref
  pointwise
  rfl

/-- The launch's result is the reference's. -/
theorem final : (dats m 0 c).arrAt 2 cfg0.N = ref (A m c) (B m c) := by
  refine (dats m 0 c).arrAt_eq_of_covers 2 _ (by decide +kernel) fun t hf y => ?_
  blk_simp
  rw [after0_2]
  obtain ⟨r, x, rfl⟩ : ∃ (r : Fin 1024) (x : Fin 1024), y = ix2 r x := ⟨y 0, y 1, eq_ix2 y⟩
  refine (tile _ _ r x).trans ?_
  refine Eq.trans (Finset.sum_congr rfl fun d _ => by rw [blk0, blk1]) ?_
  refine (ref_at (A m c) (B m c) (ri t r) (cj t x)).symm.trans ?_
  blk_ext [idx t]
  all_goals rfl

theorem ref_frame : quiescent_InQRefIdeal (hInQRefIdeal := Cert.InQRefIdeal.Gen.facts) := by
  intro m g _
  refine (θ_run _ _ _).mono (fun r h => ⟨fun c => ?_, sem_eq_zero_of_no_sems (by decide) r.2⟩) (Cert.InQRefIdeal.Value.run m g)
  exact (h c).2

theorem algebraic : algebraic_InQIdeal_InQRefIdeal (hInQIdeal := Cert.InQIdeal.Gen.facts) (hInQRefIdeal := Cert.InQRefIdeal.Gen.facts) := by
  pair_intro
  · run_from Cert.InQIdeal.Value.run_blocks m g
  · run_from Cert.InQRefIdeal.Value.run m' g'
    · exact (final m c).symm

end Cert.InQIdeal.Proof

end
-- ==== Proof.InKv.lean ====
module

public import proofs.«01_k».proof.Defs
public import proofs.«01_k».proof.Proof.Products
public import proofs.«01_k».proof.Proof.Gen.InKv.Frame
public import proofs.«01_k».proof.Proof.Gen.InKvIdeal.Value
public import proofs.«01_k».proof.Proof.Gen.InKvRefIdeal.Run
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384
set_option maxHeartbeats 4000000

noncomputable section

/-! The input projection's columns for the attention's keys and values. -/

namespace Cert.InKvIdeal.Proof

open Cert.Products Cert.InKvIdeal Cert.InKvIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The launch's first argument. -/
abbrev A : FVec Ideal S4096x4096 .bf16 := m ((c : Thread nD τ).loc main_arg0)
/-- The launch's second argument. -/
abbrev B : FVec Ideal S8960x4096 .bf16 := m ((c : Thread nD τ).loc main_arg1)

theorem lt_i : t.val / 1 < 4 := by have := lt_of_lt_of_eq t.2 (show cfg0.N = 4 * 1 by decide); omega
theorem lt_j : t.val % 1 < 1 := Nat.mod_lt _ (by decide)
/-- The tile's row `r` in the result. -/
abbrev ri (r : Fin 1024) : Fin 4096 := rowOf 4 1024 rfl (t.val / 1) (lt_i t) r
/-- The tile's column `x` in the result. -/
abbrev cj (x : Fin 512) : Fin 512 := rowOf 1 512 rfl (t.val % 1) (lt_j t) x

theorem idx : ∀ t : Fin cfg0.N, win0_0.index t = ![t.val / 1, 0] ∧ win0_1.index t = ![t.val % 1, 0] ∧ win0_2.index t = ![t.val / 1, t.val % 1] :=
  (by decide +kernel : ∀ t : Fin grid0.N, _)

/-- The weights of the part, as the host cuts them out before the launch. -/
theorem cut_at (x : Fin 512) (d : Fin 4096) : @Eq EReal (V m c main_v0 (ix2 x d)) (B m c (ix2 (fromAt 8448 (by decide) x) d)) := by
  show @Eq EReal (after hostOps0 (fun b => m (c, b)) (Proc.tc.devRef main_v0) (ix2 x d)) _
  simp only [hostOps0]
  after_results_simp
  pointwise
  rfl

theorem blk0 (r : Fin 1024) (d : Fin 4096) : @Eq EReal (iblk m c 0 t (ix2 r d)) (A m c (ix2 (ri t r) d)) := by
  refine Eq.trans (b := (V m c main_arg0 (ix2 (ri t r) d) : EReal)) ?_ (congrFun (V_main_arg0 m c) _)
  blk_ext [iblk, idx t, rowOf]
theorem blk1 (x : Fin 512) (d : Fin 4096) : @Eq EReal (iblk m c 1 t (ix2 x d)) (B m c (ix2 (fromAt 8448 (by decide) (cj t x)) d)) := by
  refine Eq.trans (b := (V m c main_v0 (ix2 (cj t x) d) : EReal)) ?_ (cut_at m c _ _)
  blk_ext [iblk, idx t, rowOf]

/-- A tile is the product of its blocks. -/
theorem tile (x0 : FVec Ideal S1024x4096 .bf16) (x1 : FVec Ideal S512x4096 .bf16) (r : Fin 1024) (x : Fin 512) :
    @Eq EReal (out0_2 (F := Ideal) x0 x1 (ix2 r x)) (∑ d : Fin 4096, @HMul.hMul EReal EReal EReal instHMul (x0 (ix2 r d)) (x1 (ix2 x d))) := by
  have hz : (![0, 0] : Fin 2 → Nat) = fun _ => 0 := funext fun a => by fin_cases a <;> rfl
  unfold out0_2
  rw [View.canon_unit_zero hz, View.ld_unit_zero hz, View.ld_unit_zero hz]
  unfold k0_pay1
  pointwise

/-- The reference's result. -/
def ref (a : FVec Ideal S4096x4096 .bf16) (b : FVec Ideal S8960x4096 .bf16) : FVec Ideal S4096x512 .f32 :=
  extractStridedSlice S4096x512 ![0, 8448] (Host.dotGeneral Cert.InKvRefIdeal.dot_S4096x4096_S4096x8960_S4096x8960_1_0_0_1_n_n none (extf .f32 a Cert.InKvRefIdeal.Gen.bitsLt_bf16_f32) (extf .f32 (transpose Cert.InKvRefIdeal.S4096x8960 [1, 0] b Cert.InKvRefIdeal.Gen.transposes_S8960x4096_S4096x8960_1_0) Cert.InKvRefIdeal.Gen.bitsLt_bf16_f32)) Cert.InKvRefIdeal.Gen.slices_S4096x8960_S4096x512_0_8448

theorem ref_at (a : FVec Ideal S4096x4096 .bf16) (b : FVec Ideal S8960x4096 .bf16) (r : Fin 4096) (x : Fin 512) :
    @Eq EReal (ref a b (ix2 r x)) (∑ d : Fin 4096, @HMul.hMul EReal EReal EReal instHMul (a (ix2 r d)) (b (ix2 (fromAt 8448 (by decide) x) d))) := by
  unfold ref
  pointwise
  rfl

/-- The launch's result is the reference's. -/
theorem final : (dats m 0 c).arrAt 2 cfg0.N = ref (A m c) (B m c) := by
  refine (dats m 0 c).arrAt_eq_of_covers 2 _ (by decide +kernel) fun t hf y => ?_
  blk_simp
  rw [after0_2]
  obtain ⟨r, x, rfl⟩ : ∃ (r : Fin 1024) (x : Fin 512), y = ix2 r x := ⟨y 0, y 1, eq_ix2 y⟩
  refine (tile _ _ r x).trans ?_
  refine Eq.trans (Finset.sum_congr rfl fun d _ => by rw [blk0, blk1]) ?_
  refine (ref_at (A m c) (B m c) (ri t r) (cj t x)).symm.trans ?_
  blk_ext [idx t]
  all_goals rfl

theorem ref_frame : quiescent_InKvRefIdeal (hInKvRefIdeal := Cert.InKvRefIdeal.Gen.facts) := by
  intro m g _
  refine (θ_run _ _ _).mono (fun r h => ⟨fun c => ?_, sem_eq_zero_of_no_sems (by decide) r.2⟩) (Cert.InKvRefIdeal.Value.run m g)
  exact (h c).2

theorem algebraic : algebraic_InKvIdeal_InKvRefIdeal (hInKvIdeal := Cert.InKvIdeal.Gen.facts) (hInKvRefIdeal := Cert.InKvRefIdeal.Gen.facts) := by
  pair_intro
  · run_from Cert.InKvIdeal.Value.run_blocks m g
  · run_from Cert.InKvRefIdeal.Value.run m' g'
    · exact (final m c).symm

end Cert.InKvIdeal.Proof

end
-- ==== Proof.Norm.lean ====
module

public import proofs.«01_k».proof.Proof.Gen.EmbedIdeal.Value
public import proofs.«01_k».proof.Proof.Gen.EmbedRefIdeal.Run
public import proofs.«01_k».proof.Proof.Gen.PostRefIdeal.Run
public import proofs.«01_k».proof.Proof.Products
public import Idealize.ShloMosaic.Lib.Pipeline.ValueKit
public import Idealize.ShloMosaic.Lib.Pointwise

@[expose] public section

set_option maxRecDepth 16384
set_option maxHeartbeats 1000000

noncomputable section

/-! One entry of a layer norm, in a block of rows and in the reference. -/

namespace Cert.Norm

open Cert.Products Idealize.ShloMosaic Cert.EmbedIdeal Cert.EmbedIdeal.Gen

/-- The mean of a row. -/
def mean (f : Fin 4096 → EReal) : EReal := Ideal.div (∑ k, f k) (Ideal.ofBits .f32 0x45800000#32)

/-- One entry of a row, less the mean, over the standard deviation. -/
def unit (f : Fin 4096 → EReal) (x : Fin 4096) : EReal :=
  (f x - mean f) * Ideal.rsqrt (mean (fun k => (f k - mean f) * (f k - mean f)) + Ideal.ofBits .f32 0x3727C5AC#32)

/-- Scaled and moved. -/
def norm (f : Fin 4096 → EReal) (g b : EReal) (x : Fin 4096) : EReal := unit f x * g + b

/-- A block is loaded and stored whole. -/
theorem zero2 : (![0, 0] : Fin 2 → Nat) = fun _ => 0 := funext fun a => by fin_cases a <;> rfl

variable (r : Fin 256) (y x : Fin 4096)

/-- Scaled and moved by one more row each. -/
def cond (u sc sh : EReal) : EReal := u * (1 + sc) + sh

theorem norm_at (X : FVec Ideal S256x4096 .f32) (g b : FVec Ideal S1x4096 .f32) :
    @Eq EReal (k0_pay1 (F := Ideal) X g b (ix2 r x)) (norm (fun k => X (ix2 r k)) (g (ix2 0 x)) (b (ix2 0 x)) x) := by
  unfold k0_pay1
  pointwise
  rfl

/-- Each row's mean, in the reference. -/
def refMean (X : FVec Ideal S4096x4096 .f32) : FVec Ideal Cert.EmbedRefIdeal.S4096x1 .f32 :=
  Host.divf (broadcastInDim Cert.EmbedRefIdeal.S4096x1 ![0] Cert.EmbedRefIdeal.Gen.bcast_S4096_S4096x1_0
      (Host.reduceAdd X (constant Cert.EmbedRefIdeal.S_ .f32 0x00000000#32) Cert.EmbedRefIdeal.Gen.reducesTo_S4096x4096_S4096_d1 Cert.EmbedRefIdeal.Gen.h_S_))
    (broadcastInDim Cert.EmbedRefIdeal.S4096x1 ![] Cert.EmbedRefIdeal.Gen.bcast_S_S4096x1 (constant Cert.EmbedRefIdeal.S_ .f32 0x45800000#32))

/-- The rows less their means. -/
def refCentre (X : FVec Ideal S4096x4096 .f32) : FVec Ideal S4096x4096 .f32 :=
  subf X (broadcastInDim S4096x4096 ![0, 1] Cert.EmbedRefIdeal.Gen.bcast_S4096x1_S4096x4096_0_1 (refMean X))

/-- One row for every row. -/
abbrev rows (g : FVec Ideal S1x4096 .f32) : FVec Ideal S4096x4096 .f32 :=
  broadcastInDim S4096x4096 ![0, 1] Cert.EmbedRefIdeal.Gen.bcast_S1x4096_S4096x4096_0_1 g

/-- The reference's layer norm. -/
def refNorm (X : FVec Ideal S4096x4096 .f32) (g b : FVec Ideal S1x4096 .f32) : FVec Ideal S4096x4096 .f32 :=
  addf (mulf (mulf (refCentre X) (broadcastInDim S4096x4096 ![0, 1] Cert.EmbedRefIdeal.Gen.bcast_S4096x1_S4096x4096_0_1
      (Host.rsqrt (addf (refMean (mulf (refCentre X) (refCentre X))) (broadcastInDim Cert.EmbedRefIdeal.S4096x1 ![] Cert.EmbedRefIdeal.Gen.bcast_S_S4096x1 (constant Cert.EmbedRefIdeal.S_ .f32 0x3727C5AC#32))))))
    (rows g)) (rows b)

theorem refNorm_at (X : FVec Ideal S4096x4096 .f32) (g b : FVec Ideal S1x4096 .f32) :
    @Eq EReal (refNorm X g b (ix2 y x)) (norm (fun k => X (ix2 y k)) (g (ix2 0 x)) (b (ix2 0 x)) x) := by
  unfold refNorm refCentre refMean
  pointwise
  rfl

/-- The reference's conditioned rows. -/
def refCond (U : FVec Ideal S4096x4096 .f32) (sc sh : FVec Ideal S1x4096 .f32) : FVec Ideal S4096x4096 .bf16 :=
  truncf .bf16 (addf (mulf U (rows (addf (broadcastInDim S1x4096 ![] Cert.EmbedRefIdeal.Gen.bcast_S_S1x4096 (constant Cert.EmbedRefIdeal.S_ .f32 0x3F800000#32)) sc))) (rows sh))
    Cert.EmbedRefIdeal.Gen.bitsLt_bf16_f32

theorem refCond_at (U : FVec Ideal S4096x4096 .f32) (sc sh : FVec Ideal S1x4096 .f32) :
    @Eq EReal (refCond U sc sh (ix2 y x)) (cond (U (ix2 y x)) (sc (ix2 0 x)) (sh (ix2 0 x))) := by
  unfold refCond
  pointwise
  rfl

/-- One entry of a branch's end: the stream `x`, scaled by the network's constant, and the branch `a` under its gate `g`. -/
def merge (x a g : EReal) : EReal := Ideal.ofBits .f32 0x3F9837F0#32 * x + (1 + g) * a

/-- The reference's merged rows. -/
def refMerge (X A : FVec Ideal S4096x4096 .f32) (g : FVec Ideal S1x4096 .f32) : FVec Ideal S4096x4096 .f32 :=
  addf (mulf (broadcastInDim S4096x4096 ![] Cert.PostRefIdeal.Gen.bcast_S_S4096x4096 (constant Cert.PostRefIdeal.S_ .f32 0x3F9837F0#32)) X)
    (mulf (rows (addf (broadcastInDim S1x4096 ![] Cert.EmbedRefIdeal.Gen.bcast_S_S1x4096 (constant Cert.EmbedRefIdeal.S_ .f32 0x3F800000#32)) g)) A)

theorem refMerge_at (X A : FVec Ideal S4096x4096 .f32) (g : FVec Ideal S1x4096 .f32) :
    @Eq EReal (refMerge X A g (ix2 y x)) (merge (X (ix2 y x)) (A (ix2 y x)) (g (ix2 0 x))) := by
  unfold refMerge
  pointwise
  rfl

end Cert.Norm

end
-- ==== Proof.Embed.lean ====
module

public import proofs.«01_k».proof.Defs
public import proofs.«01_k».proof.Proof.Norm
public import proofs.«01_k».proof.Proof.Products
public import proofs.«01_k».proof.Proof.Gen.Embed.Frame
public import proofs.«01_k».proof.Proof.Gen.EmbedIdeal.Value
public import proofs.«01_k».proof.Proof.Gen.EmbedRefIdeal.Run
public import Idealize.ShloMosaic.Lib.Tactic.CleanTypes
public import Idealize.ShloMosaic.Lib.UnfoldOut
public import Idealize.ShloMosaic.Lib.Claim

@[expose] public section

set_option maxRecDepth 16384
set_option maxHeartbeats 4000000

noncomputable section

/-! The embedding's layer norm, and the first conditioned input. -/

namespace Cert.EmbedIdeal.Proof

open Cert.Norm Cert.Products Cert.EmbedIdeal Cert.EmbedIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The rows. -/
abbrev X : FVec Ideal S4096x4096 .f32 := m ((c : Thread nD τ).loc main_arg0)
/-- The norm's scale. -/
abbrev G : FVec Ideal S1x4096 .f32 := m ((c : Thread nD τ).loc main_arg1)
/-- The norm's shift. -/
abbrev B : FVec Ideal S1x4096 .f32 := m ((c : Thread nD τ).loc main_arg2)
/-- The condition's scale. -/
abbrev Sc : FVec Ideal S1x4096 .f32 := m ((c : Thread nD τ).loc main_arg3)
/-- The condition's shift. -/
abbrev Sh : FVec Ideal S1x4096 .f32 := m ((c : Thread nD τ).loc main_arg4)

theorem lt_i : t.val < 16 := lt_of_lt_of_eq t.2 (show cfg0.N = 16 by decide)
/-- The block's row `r` in the whole. -/
abbrev ri (r : Fin 256) : Fin 4096 := rowOf 16 256 rfl t.val (lt_i t) r

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] :=
  (by decide +kernel : ∀ t : Fin grid0.N, _)

variable (r : Fin 256) (x : Fin 4096)

theorem blk0 : @Eq EReal (iblk m c 0 t (ix2 r x)) (X m c (ix2 (ri t r) x)) := by
  blk_ext [iblk, V, idx t, rowOf]
theorem blk1 : @Eq EReal (iblk m c 1 t (ix2 0 x)) (G m c (ix2 0 x)) := by
  blk_ext [iblk, V, idx t]
theorem blk2 : @Eq EReal (iblk m c 2 t (ix2 0 x)) (B m c (ix2 0 x)) := by
  blk_ext [iblk, V, idx t]
theorem blk3 : @Eq EReal (iblk m c 3 t (ix2 0 x)) (Sc m c (ix2 0 x)) := by
  blk_ext [iblk, V, idx t]
theorem blk4 : @Eq EReal (iblk m c 4 t (ix2 0 x)) (Sh m c (ix2 0 x)) := by
  blk_ext [iblk, V, idx t]

/-- A block of the layer norm. -/
theorem block : @Eq EReal (k0_pay1 (F := Ideal) (iblk m c 0 t) (iblk m c 1 t) (iblk m c 2 t) (ix2 r x)) (refNorm (X m c) (G m c) (B m c) (ix2 (ri t r) x)) := by
  rw [norm_at, refNorm_at, blk1, blk2]
  exact congrArg (fun f => norm f _ _ x) (funext fun k => blk0 m c t r k)

theorem pay2_at (v : FVec Ideal S256x4096 .f32) (g b sc sh : FVec Ideal S1x4096 .f32) :
    @Eq EReal (k0_pay2 (F := Ideal) v g b sc sh (ix2 r x)) (cond (k0_pay1 (F := Ideal) v g b (ix2 r x)) (sc (ix2 0 x)) (sh (ix2 0 x))) := by
  unfold k0_pay2
  generalize k0_pay1 (F := Ideal) v g b = U
  pointwise
  rfl

omit r x

theorem final5 : (dats m 0 c).arrAt 5 cfg0.N = refNorm (X m c) (G m c) (B m c) := by
  refine (dats m 0 c).arrAt_eq_of_covers 5 _ (by decide +kernel) fun t hf y => ?_
  blk_simp
  rw [after0_5]
  obtain ⟨r, x, rfl⟩ : ∃ (r : Fin 256) (x : Fin 4096), y = ix2 r x := ⟨y 0, y 1, eq_ix2 y⟩
  unfold out0_5
  rw [View.canon_unit_zero zero2, View.ld_unit_zero zero2, View.ld_unit_zero zero2, View.ld_unit_zero zero2]
  refine (block m c t r x).trans ?_
  generalize refNorm (X m c) (G m c) (B m c) = R
  blk_ext [idx t]
  all_goals rfl

theorem final6 : (dats m 0 c).arrAt 6 cfg0.N = refCond (refNorm (X m c) (G m c) (B m c)) (Sc m c) (Sh m c) := by
  refine (dats m 0 c).arrAt_eq_of_covers 6 _ (by decide +kernel) fun t hf y => ?_
  blk_simp
  rw [after0_6]
  obtain ⟨r, x, rfl⟩ : ∃ (r : Fin 256) (x : Fin 4096), y = ix2 r x := ⟨y 0, y 1, eq_ix2 y⟩
  unfold out0_6
  rw [View.canon_unit_zero zero2, View.ld_unit_zero zero2, View.ld_unit_zero zero2, View.ld_unit_zero zero2, View.ld_unit_zero zero2, View.ld_unit_zero zero2]
  refine (pay2_at r x _ _ _ _ _).trans ?_
  rw [block, blk3, blk4]
  refine (refCond_at (ri t r) x (refNorm (X m c) (G m c) (B m c)) (Sc m c) (Sh m c)).symm.trans ?_
  generalize refCond (refNorm (X m c) (G m c) (B m c)) (Sc m c) (Sh m c) = R
  blk_ext [idx t]
  all_goals rfl

theorem ref_frame : quiescent_EmbedRefIdeal (hEmbedRefIdeal := Cert.EmbedRefIdeal.Gen.facts) := by
  intro m g _
  refine (θ_run _ _ _).mono (fun r h => ⟨fun c => ?_, sem_eq_zero_of_no_sems (by decide) r.2⟩) (Cert.EmbedRefIdeal.Value.run m g)
  exact (h c).2.2

theorem algebraic : algebraic_EmbedIdeal_EmbedRefIdeal (hEmbedIdeal := Cert.EmbedIdeal.Gen.facts) (hEmbedRefIdeal := Cert.EmbedRefIdeal.Gen.facts) := by
  intro m g m' g' _ same
  refine ⟨fun c => refNorm (X m c) (G m c) (B m c), fun c => refCond (refNorm (X m c) (G m c) (B m c)) (Sc m c) (Sh m c), ?_, ?_⟩
  · refine (θ_run _ _ _).mono (fun r h c => ?_) (Cert.EmbedIdeal.Value.run_blocks m g)
    obtain ⟨h5, h6, kept⟩ := h c
    exact ⟨h5.trans (final5 m c), h6.trans (final6 m c), kept⟩
  · refine (θ_run _ _ _).mono (fun r h c => ?_) (Cert.EmbedRefIdeal.Value.run m' g')
    obtain ⟨h5, h6, kept⟩ := h c
    obtain ⟨e0, e1, e2, e3, e4⟩ := same c
    rw [e0, e1, e2] at h5
    rw [e0, e1, e2, e3, e4] at h6
    exact ⟨h5, h6, kept⟩

end Cert.EmbedIdeal.Proof

end
-- ==== Proof.Post.lean ====
module

public import proofs.«01_k».proof.Defs
public import proofs.«01_k».proof.Proof.Norm
public import proofs.«01_k».proof.Proof.Products
public import proofs.«01_k».proof.Proof.Gen.Post.Frame
public import proofs.«01_k».proof.Proof.Gen.PostIdeal.Value
public import proofs.«01_k».proof.Proof.Gen.PostRefIdeal.Run
public import Idealize.ShloMosaic.Lib.Tactic.CleanTypes
public import Idealize.ShloMosaic.Lib.UnfoldOut
public import Idealize.ShloMosaic.Lib.Claim

@[expose] public section

set_option maxRecDepth 16384
set_option maxHeartbeats 4000000

noncomputable section

/-! The first branch's end: merged with the stream, normed, and conditioned for the second branch. -/

namespace Cert.PostIdeal.Proof

open Cert.Norm Cert.Products Cert.PostIdeal Cert.PostIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The stream. -/
abbrev X : FVec Ideal S4096x4096 .f32 := m ((c : Thread nD τ).loc main_arg0)
/-- The branch's result. -/
abbrev A : FVec Ideal S4096x4096 .f32 := m ((c : Thread nD τ).loc main_arg1)
/-- The branch's gate. -/
abbrev Ga : FVec Ideal S1x4096 .f32 := m ((c : Thread nD τ).loc main_arg2)
/-- The norm's scale. -/
abbrev G : FVec Ideal S1x4096 .f32 := m ((c : Thread nD τ).loc main_arg3)
/-- The norm's shift. -/
abbrev B : FVec Ideal S1x4096 .f32 := m ((c : Thread nD τ).loc main_arg4)
/-- The condition's scale. -/
abbrev Sc : FVec Ideal S1x4096 .f32 := m ((c : Thread nD τ).loc main_arg5)
/-- The condition's shift. -/
abbrev Sh : FVec Ideal S1x4096 .f32 := m ((c : Thread nD τ).loc main_arg6)

theorem lt_i : t.val < 16 := lt_of_lt_of_eq t.2 (show cfg0.N = 16 by decide)
/-- The block's row `r` in the whole. -/
abbrev ri (r : Fin 256) : Fin 4096 := rowOf 16 256 rfl t.val (lt_i t) r

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)

variable (r : Fin 256) (x : Fin 4096)

theorem blk0 : @Eq EReal (iblk m c 0 t (ix2 r x)) (X m c (ix2 (ri t r) x)) := by
  blk_ext [iblk, V, idx t, rowOf]
theorem blk1 : @Eq EReal (iblk m c 1 t (ix2 r x)) (A m c (ix2 (ri t r) x)) := by
  blk_ext [iblk, V, idx t, rowOf]
theorem blk2 : @Eq EReal (iblk m c 2 t (ix2 0 x)) (Ga m c (ix2 0 x)) := by
  blk_ext [iblk, V, idx t]
theorem blk3 : @Eq EReal (iblk m c 3 t (ix2 0 x)) (G m c (ix2 0 x)) := by
  blk_ext [iblk, V, idx t]
theorem blk4 : @Eq EReal (iblk m c 4 t (ix2 0 x)) (B m c (ix2 0 x)) := by
  blk_ext [iblk, V, idx t]
theorem blk5 : @Eq EReal (iblk m c 5 t (ix2 0 x)) (Sc m c (ix2 0 x)) := by
  blk_ext [iblk, V, idx t]
theorem blk6 : @Eq EReal (iblk m c 6 t (ix2 0 x)) (Sh m c (ix2 0 x)) := by
  blk_ext [iblk, V, idx t]

/-- The reference's normed rows. -/
abbrev N : FVec Ideal S4096x4096 .f32 := refNorm (refMerge (X m c) (A m c) (Ga m c)) (G m c) (B m c)

/-- A block of merged rows. -/
def blkMerge (v a : FVec Ideal S256x4096 .f32) (g : FVec Ideal S1x4096 .f32) : FVec Ideal S256x4096 .f32 :=
  addf (mulf (broadcast S256x4096 (Scalar.ofBits .f32 0x3F9837F0#32)) v)
    (mulf (broadcastTo S256x4096 (addf (broadcast S1x4096 (Scalar.ofBits .f32 0x3F800000#32)) g) broadcasts_S1x4096_S256x4096) a)

theorem blkMerge_at (v a : FVec Ideal S256x4096 .f32) (g : FVec Ideal S1x4096 .f32) :
    @Eq EReal (blkMerge v a g (ix2 r x)) (merge (v (ix2 r x)) (a (ix2 r x)) (g (ix2 0 x))) := by
  unfold blkMerge
  pointwise
  rfl

/-- The block's norm is the embedding's, of the merged rows. -/
theorem pay2_eq (v a : FVec Ideal S256x4096 .f32) (ga g b : FVec Ideal S1x4096 .f32) :
    k0_pay2 (F := Ideal) v a ga g b = Cert.EmbedIdeal.Gen.k0_pay1 (F := Ideal) (blkMerge v a ga) g b := rfl

/-- A block of the layer norm. -/
theorem block : @Eq EReal (k0_pay2 (F := Ideal) (iblk m c 0 t) (iblk m c 1 t) (iblk m c 2 t) (iblk m c 3 t) (iblk m c 4 t) (ix2 r x)) (N m c (ix2 (ri t r) x)) := by
  rw [pay2_eq, norm_at, N, refNorm_at, blk3, blk4]
  refine congrArg (fun f => norm f _ _ x) (funext fun k => ?_)
  rw [blkMerge_at, refMerge_at, blk0, blk1, blk2]

theorem pay1_at (U : FVec Ideal S256x4096 .f32) (sc sh : FVec Ideal S1x4096 .f32) :
    @Eq EReal (k0_pay1 (F := Ideal) sh U (k0_pay3 sc) (ix2 r x)) (cond (U (ix2 r x)) (sc (ix2 0 x)) (sh (ix2 0 x))) := by
  unfold k0_pay1 k0_pay3
  pointwise
  rfl

omit r x

theorem final7 : (dats m 0 c).arrAt 7 cfg0.N = N m c := by
  refine (dats m 0 c).arrAt_eq_of_covers 7 _ (by decide +kernel) fun t hf y => ?_
  blk_simp
  rw [after0_7]
  obtain ⟨r, x, rfl⟩ : ∃ (r : Fin 256) (x : Fin 4096), y = ix2 r x := ⟨y 0, y 1, eq_ix2 y⟩
  unfold out0_7 k0_pay4
  rw [View.canon_unit_zero zero2, View.ld_unit_zero zero2, View.ld_unit_zero zero2, View.ld_unit_zero zero2, View.ld_unit_zero zero2, View.ld_unit_zero zero2]
  refine (block m c t r x).trans ?_
  generalize N m c = R
  blk_ext [idx t]
  all_goals rfl

theorem final8 : (dats m 0 c).arrAt 8 cfg0.N = refCond (N m c) (Sc m c) (Sh m c) := by
  refine (dats m 0 c).arrAt_eq_of_covers 8 _ (by decide +kernel) fun t hf y => ?_
  blk_simp
  rw [after0_8]
  obtain ⟨r, x, rfl⟩ : ∃ (r : Fin 256) (x : Fin 4096), y = ix2 r x := ⟨y 0, y 1, eq_ix2 y⟩
  unfold out0_8 k0_pay4
  rw [View.canon_unit_zero zero2, View.ld_unit_zero zero2, View.ld_unit_zero zero2, View.ld_unit_zero zero2, View.ld_unit_zero zero2, View.ld_unit_zero zero2,
    View.ld_unit_zero zero2, View.ld_unit_zero zero2]
  refine (pay1_at r x _ _ _).trans ?_
  rw [block, blk5, blk6]
  refine (refCond_at (ri t r) x (N m c) (Sc m c) (Sh m c)).symm.trans ?_
  generalize refCond (N m c) (Sc m c) (Sh m c) = R
  blk_ext [idx t]
  all_goals rfl

theorem ref_frame : quiescent_PostRefIdeal (hPostRefIdeal := Cert.PostRefIdeal.Gen.facts) := by
  intro m g _
  refine (θ_run _ _ _).mono (fun r h => ⟨fun c => ?_, sem_eq_zero_of_no_sems (by decide) r.2⟩) (Cert.PostRefIdeal.Value.run m g)
  exact (h c).2.2

theorem algebraic : algebraic_PostIdeal_PostRefIdeal (hPostIdeal := Cert.PostIdeal.Gen.facts) (hPostRefIdeal := Cert.PostRefIdeal.Gen.facts) := by
  intro m g m' g' _ same
  refine ⟨fun c => N m c, fun c => refCond (N m c) (Sc m c) (Sh m c), ?_, ?_⟩
  · refine (θ_run _ _ _).mono (fun r h c => ?_) (Cert.PostIdeal.Value.run_blocks m g)
    obtain ⟨h7, h8, kept⟩ := h c
    exact ⟨h7.trans (final7 m c), h8.trans (final8 m c), kept⟩
  · refine (θ_run _ _ _).mono (fun r h c => ?_) (Cert.PostRefIdeal.Value.run m' g')
    obtain ⟨h7, h8, kept⟩ := h c
    obtain ⟨e0, e1, e2, e3, e4, e5, e6⟩ := same c
    unfold Cert.PostRefIdeal.Value.res_main_v35 at h8
    rw [e0, e1, e2, e3, e4] at h7
    rw [e0, e1, e2, e3, e4, e5, e6] at h8
    exact ⟨h7, h8, kept⟩

end Cert.PostIdeal.Proof

end
-- ==== Proof.Adam.lean ====
module

public import Idealize.ShloMosaic.Lib.Pipeline.ValueKit
public import Idealize.ShloMosaic.Lib.Pointwise

@[expose] public section

noncomputable section

/-! One entry of the optimiser's step. -/

namespace Cert.Adam

open Idealize.ShloMosaic

/-- The mean of the gradients, from the one before and the gradient. -/
def newM (m g : EReal) : EReal := Ideal.ofBits .f32 0x3F666666#32 * m + Ideal.ofBits .f32 0x3DCCCCCD#32 * g

/-- The mean of the squared gradients, from the one before and the gradient. -/
def newV (v g : EReal) : EReal := Ideal.ofBits .f32 0x3F7FBE77#32 * v + Ideal.ofBits .f32 0x3A83126F#32 * (g * g)

/-- The weight's change, from the weight, the two means before and the gradient. -/
def change (w m v g : EReal) : EReal :=
  Ideal.ofBits .f32 0xBA83126F#32 *
    (Ideal.div (Ideal.div (newM m g) (Ideal.ofBits .f32 0x3F26BD02#32))
      (Ideal.sqrt (Ideal.div (newV v g) (Ideal.ofBits .f32 0x3C231ACC#32)) + Ideal.ofBits .f32 0x322BCC77#32) +
      Ideal.ofBits .f32 0x3C23D70A#32 * w)

/-- A block is loaded and stored whole. -/
theorem zero2 : (![0, 0] : Fin 2 → Nat) = fun _ => 0 := funext fun a => by fin_cases a <;> rfl

/-! The same entries in the reference, whose constants are arrays of one number. -/

variable {S : Shape} (h : (⟨0, ![]⟩ : Shape).BroadcastsInDim S (![] : Fin 0 → Fin S.rank))

/-- An array of one number. -/
abbrev all (b : BitVec 32) : FVec Ideal S .f32 := broadcastInDim S ![] h (constant (⟨0, ![]⟩ : Shape) .f32 b)

/-- The mean of the gradients, the whole array. -/
def refM (m g : FVec Ideal S .f32) : FVec Ideal S .f32 := addf (mulf (all h 0x3F666666#32) m) (mulf (all h 0x3DCCCCCD#32) g)

/-- The mean of the squared gradients, the whole array. -/
def refV (v g : FVec Ideal S .f32) : FVec Ideal S .f32 := addf (mulf (all h 0x3F7FBE77#32) v) (mulf (all h 0x3A83126F#32) (mulf g g))

/-- The weights' change, the whole array. -/
def refChange (w m v g : FVec Ideal S .f32) : FVec Ideal S .f32 :=
  mulf (all h 0xBA83126F#32)
    (addf (Host.divf (Host.divf (refM h m g) (all h 0x3F26BD02#32)) (addf (Host.sqrt (Host.divf (refV h v g) (all h 0x3C231ACC#32))) (all h 0x322BCC77#32)))
      (mulf (all h 0x3C23D70A#32) w))

theorem refM_at (m g : FVec Ideal S .f32) (y : S.Idx) : @Eq EReal (refM h m g y) (newM (m y) (g y)) := rfl
theorem refV_at (v g : FVec Ideal S .f32) (y : S.Idx) : @Eq EReal (refV h v g y) (newV (v y) (g y)) := rfl
theorem refChange_at (w m v g : FVec Ideal S .f32) (y : S.Idx) : @Eq EReal (refChange h w m v g y) (change (w y) (m y) (v y) (g y)) := rfl

end Cert.Adam

end
-- ==== Proof.AdamOut.lean ====
module

public import proofs.«01_k».proof.Defs
public import proofs.«01_k».proof.Proof.Adam
public import proofs.«01_k».proof.Proof.Products
public import proofs.«01_k».proof.Proof.Gen.AdamOut.Frame
public import proofs.«01_k».proof.Proof.Gen.AdamOutIdeal.Value
public import proofs.«01_k».proof.Proof.Gen.AdamOutRefIdeal.Run
public import Idealize.ShloMosaic.Lib.Tactic.CleanTypes
public import Idealize.ShloMosaic.Lib.UnfoldOut
public import Idealize.ShloMosaic.Lib.Claim

@[expose] public section

set_option maxRecDepth 16384
set_option maxHeartbeats 4000000

noncomputable section

/-! The optimiser's step on the output projection's weights. -/

namespace Cert.AdamOutIdeal.Proof

open Cert.Adam Cert.Products Cert.AdamOutIdeal Cert.AdamOutIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The weights. -/
abbrev W : FVec Ideal S512x4096 .f32 := m ((c : Thread nD τ).loc main_arg0)
/-- The mean of the gradients. -/
abbrev M : FVec Ideal S512x4096 .f32 := m ((c : Thread nD τ).loc main_arg1)
/-- The mean of the squared gradients. -/
abbrev Q : FVec Ideal S512x4096 .f32 := m ((c : Thread nD τ).loc main_arg2)
/-- The gradient's parts. -/
abbrev P : FVec Ideal S8x512x4096 .bf16 := m ((c : Thread nD τ).loc main_arg3)

theorem lt_i : t.val < 8 := lt_of_lt_of_eq t.2 (show cfg0.N = 8 by decide)
/-- The block's row `r` in the whole. -/
abbrev ri (r : Fin 64) : Fin 512 := rowOf 8 64 rfl t.val (lt_i t) r

theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable (r : Fin 64) (x : Fin 4096)

theorem blk0 : @Eq EReal (iblk m c 0 t (ix2 r x)) (W m c (ix2 (ri t r) x)) := by
  blk_ext [iblk, V, idx t, rowOf]
theorem blk1 : @Eq EReal (iblk m c 1 t (ix2 r x)) (M m c (ix2 (ri t r) x)) := by
  blk_ext [iblk, V, idx t, rowOf]
theorem blk2 : @Eq EReal (iblk m c 2 t (ix2 r x)) (Q m c (ix2 (ri t r) x)) := by
  blk_ext [iblk, V, idx t, rowOf]
theorem blk3 (s : Fin 8) : @Eq EReal (iblk m c 3 t (ix3 s r x)) (P m c (ix3 s (ri t r) x)) := by
  blk_ext [iblk, V, idx t, rowOf]

/-- The reference's gradient. -/
def refG (p : FVec Ideal S8x512x4096 .bf16) : FVec Ideal S512x4096 .f32 :=
  Host.reduceAdd (extf .f32 p Cert.AdamOutRefIdeal.Gen.bitsLt_bf16_f32) (constant Cert.AdamOutRefIdeal.S_ .f32 0x00000000#32) Cert.AdamOutRefIdeal.Gen.reducesTo_S8x512x4096_S512x4096_d0 Cert.AdamOutRefIdeal.Gen.h_S_

theorem refG_at (p : FVec Ideal S8x512x4096 .bf16) (y : Fin 512) : @Eq EReal (refG p (ix2 y x)) (∑ s : Fin 8, @id EReal (p (ix3 s y x))) := by
  unfold refG
  pointwise
  rfl

/-- A block of the gradient is the sum of the parts' blocks. -/
theorem sum_at (x0 x1 x2 : FVec Ideal S64x4096 .f32) (x3 : FVec Ideal S8x64x4096 .bf16) :
    @Eq EReal (k0_pay5 (F := Ideal) x0 x1 x2 x3 (ix2 r x)) (∑ s : Fin 8, @id EReal (x3 (ix3 s r x))) := by
  unfold k0_pay5 k0_pay4
  pointwise
  simp only [Fin.sum_univ_eight, id]

/-- A block of the gradient, from the parts. -/
theorem grad : @Eq EReal (k0_pay5 (F := Ideal) (iblk m c 0 t) (iblk m c 1 t) (iblk m c 2 t) (iblk m c 3 t) (ix2 r x)) (refG (P m c) (ix2 (ri t r) x)) := by
  rw [sum_at, refG_at]
  exact Finset.sum_congr rfl fun s _ => blk3 m c t r x s

theorem pay1_at (g a : FVec Ideal S64x4096 .f32) : @Eq EReal (k0_pay1 (F := Ideal) g a (ix2 r x)) (newM (a (ix2 r x)) (g (ix2 r x))) := rfl
theorem pay2_at (g a : FVec Ideal S64x4096 .f32) : @Eq EReal (k0_pay2 (F := Ideal) g a (ix2 r x)) (newV (a (ix2 r x)) (g (ix2 r x))) := rfl
theorem pay3_at (g w a b : FVec Ideal S64x4096 .f32) :
    @Eq EReal (k0_pay3 (F := Ideal) g w a b (ix2 r x)) (change (w (ix2 r x)) (a (ix2 r x)) (b (ix2 r x)) (g (ix2 r x))) := rfl

/-- The reference's constants are broadcast so. -/
abbrev hb := Cert.AdamOutRefIdeal.Gen.bcast_S_S512x4096

omit r x

theorem final4 : (dats m 0 c).arrAt 4 cfg0.N = refG (P m c) := by
  refine (dats m 0 c).arrAt_eq_of_covers 4 _ (by decide +kernel) fun t hf y => ?_
  blk_simp
  rw [after0_4]
  obtain ⟨r, x, rfl⟩ : ∃ (r : Fin 64) (x : Fin 4096), y = ix2 r x := ⟨y 0, y 1, eq_ix2 y⟩
  unfold out0_4
  rw [View.canon_unit_zero zero2]
  refine (grad m c t r x).trans ?_
  generalize refG (P m c) = R
  blk_ext [idx t]
  all_goals rfl

theorem final5 : (dats m 0 c).arrAt 5 cfg0.N = refChange hb (W m c) (M m c) (Q m c) (refG (P m c)) := by
  refine (dats m 0 c).arrAt_eq_of_covers 5 _ (by decide +kernel) fun t hf y => ?_
  blk_simp
  rw [after0_5]
  obtain ⟨r, x, rfl⟩ : ∃ (r : Fin 64) (x : Fin 4096), y = ix2 r x := ⟨y 0, y 1, eq_ix2 y⟩
  unfold out0_5
  rw [View.canon_unit_zero zero2, View.ld_unit_zero zero2, View.ld_unit_zero zero2, View.ld_unit_zero zero2]
  refine (pay3_at r x _ _ _ _).trans ?_
  rw [grad, blk0, blk1, blk2]
  refine (refChange_at hb (W m c) (M m c) (Q m c) (refG (P m c)) (ix2 (ri t r) x)).symm.trans ?_
  generalize refChange hb (W m c) (M m c) (Q m c) (refG (P m c)) = R
  blk_ext [idx t]
  all_goals rfl

theorem final6 : (dats m 0 c).arrAt 6 cfg0.N = refM hb (M m c) (refG (P m c)) := by
  refine (dats m 0 c).arrAt_eq_of_covers 6 _ (by decide +kernel) fun t hf y => ?_
  blk_simp
  rw [after0_6]
  obtain ⟨r, x, rfl⟩ : ∃ (r : Fin 64) (x : Fin 4096), y = ix2 r x := ⟨y 0, y 1, eq_ix2 y⟩
  unfold out0_6
  rw [View.canon_unit_zero zero2, View.ld_unit_zero zero2]
  refine (pay1_at r x _ _).trans ?_
  rw [grad, blk1]
  refine (refM_at hb (M m c) (refG (P m c)) (ix2 (ri t r) x)).symm.trans ?_
  generalize refM hb (M m c) (refG (P m c)) = R
  blk_ext [idx t]
  all_goals rfl

theorem final7 : (dats m 0 c).arrAt 7 cfg0.N = refV hb (Q m c) (refG (P m c)) := by
  refine (dats m 0 c).arrAt_eq_of_covers 7 _ (by decide +kernel) fun t hf y => ?_
  blk_simp
  rw [after0_7]
  obtain ⟨r, x, rfl⟩ : ∃ (r : Fin 64) (x : Fin 4096), y = ix2 r x := ⟨y 0, y 1, eq_ix2 y⟩
  unfold out0_7
  rw [View.canon_unit_zero zero2, View.ld_unit_zero zero2]
  refine (pay2_at r x _ _).trans ?_
  rw [grad, blk2]
  refine (refV_at hb (Q m c) (refG (P m c)) (ix2 (ri t r) x)).symm.trans ?_
  generalize refV hb (Q m c) (refG (P m c)) = R
  blk_ext [idx t]
  all_goals rfl

theorem ref_frame : quiescent_AdamOutRefIdeal (hAdamOutRefIdeal := Cert.AdamOutRefIdeal.Gen.facts) := by
  intro m g _
  refine (θ_run _ _ _).mono (fun r h => ⟨fun c => ?_, sem_eq_zero_of_no_sems (by decide) r.2⟩) (Cert.AdamOutRefIdeal.Value.run m g)
  exact (h c).2.2.2.2

theorem algebraic : algebraic_AdamOutIdeal_AdamOutRefIdeal (hAdamOutIdeal := Cert.AdamOutIdeal.Gen.facts) (hAdamOutRefIdeal := Cert.AdamOutRefIdeal.Gen.facts) := by
  intro m g m' g' _ same
  refine ⟨fun c => refG (P m c), fun c => refChange hb (W m c) (M m c) (Q m c) (refG (P m c)), fun c => refM hb (M m c) (refG (P m c)),
    fun c => refV hb (Q m c) (refG (P m c)), ?_, ?_⟩
  · refine (θ_run _ _ _).mono (fun r h c => ?_) (Cert.AdamOutIdeal.Value.run_blocks m g)
    obtain ⟨h4, h5, h6, h7, kept⟩ := h c
    exact ⟨h4.trans (final4 m c), h5.trans (final5 m c), h6.trans (final6 m c), h7.trans (final7 m c), kept⟩
  · refine (θ_run _ _ _).mono (fun r h c => ?_) (Cert.AdamOutRefIdeal.Value.run m' g')
    obtain ⟨h1, h25, h6, h12, kept⟩ := h c
    obtain ⟨e0, e1, e2, e3⟩ := same c
    rw [e3] at h1 h25 h6 h12
    rw [e0, e1, e2] at h25
    rw [e1] at h6
    rw [e2] at h12
    exact ⟨h1, h25, h6, h12, kept⟩

end Cert.AdamOutIdeal.Proof

end
-- ==== Proof.AdamUp.lean ====
module

public import proofs.«01_k».proof.Defs
public import proofs.«01_k».proof.Proof.Adam
public import proofs.«01_k».proof.Proof.Products
public import proofs.«01_k».proof.Proof.Gen.AdamUp.Frame
public import proofs.«01_k».proof.Proof.Gen.AdamUpIdeal.Value
public import proofs.«01_k».proof.Proof.Gen.AdamUpRefIdeal.Run
public import Idealize.ShloMosaic.Lib.Tactic.CleanTypes
public import Idealize.ShloMosaic.Lib.UnfoldOut
public import Idealize.ShloMosaic.Lib.Claim

@[expose] public section

set_option maxRecDepth 16384
set_option maxHeartbeats 4000000

noncomputable section

/-! The optimiser's step on the up projection's weights. -/

namespace Cert.AdamUpIdeal.Proof

open Cert.Adam Cert.Products Cert.AdamUpIdeal Cert.AdamUpIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The weights. -/
abbrev W : FVec Ideal S4096x2048 .f32 := m ((c : Thread nD τ).loc main_arg0)
/-- The mean of the gradients. -/
abbrev M : FVec Ideal S4096x2048 .f32 := m ((c : Thread nD τ).loc main_arg1)
/-- The mean of the squared gradients. -/
abbrev Q : FVec Ideal S4096x2048 .f32 := m ((c : Thread nD τ).loc main_arg2)
/-- The gradient's parts. -/
abbrev P : FVec Ideal S8x4096x2048 .bf16 := m ((c : Thread nD τ).loc main_arg3)

theorem lt_i : t.val < 32 := lt_of_lt_of_eq t.2 (show cfg0.N = 32 by decide)
/-- The block's row `r` in the whole. -/
abbrev ri (r : Fin 128) : Fin 4096 := rowOf 32 128 rfl t.val (lt_i t) r

theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable (r : Fin 128) (x : Fin 2048)

theorem blk0 : @Eq EReal (iblk m c 0 t (ix2 r x)) (W m c (ix2 (ri t r) x)) := by
  blk_ext [iblk, V, idx t, rowOf]
theorem blk1 : @Eq EReal (iblk m c 1 t (ix2 r x)) (M m c (ix2 (ri t r) x)) := by
  blk_ext [iblk, V, idx t, rowOf]
theorem blk2 : @Eq EReal (iblk m c 2 t (ix2 r x)) (Q m c (ix2 (ri t r) x)) := by
  blk_ext [iblk, V, idx t, rowOf]
theorem blk3 (s : Fin 8) : @Eq EReal (iblk m c 3 t (ix3 s r x)) (P m c (ix3 s (ri t r) x)) := by
  blk_ext [iblk, V, idx t, rowOf]

/-- The reference's gradient. -/
def refG (p : FVec Ideal S8x4096x2048 .bf16) : FVec Ideal S4096x2048 .f32 :=
  Host.reduceAdd (extf .f32 p Cert.AdamUpRefIdeal.Gen.bitsLt_bf16_f32) (constant Cert.AdamUpRefIdeal.S_ .f32 0x00000000#32) Cert.AdamUpRefIdeal.Gen.reducesTo_S8x4096x2048_S4096x2048_d0 Cert.AdamUpRefIdeal.Gen.h_S_

theorem refG_at (p : FVec Ideal S8x4096x2048 .bf16) (y : Fin 4096) : @Eq EReal (refG p (ix2 y x)) (∑ s : Fin 8, @id EReal (p (ix3 s y x))) := by
  unfold refG
  pointwise
  rfl

/-- A block of the gradient is the sum of the parts' blocks. -/
theorem sum_at (x0 x1 x2 : FVec Ideal S128x2048 .f32) (x3 : FVec Ideal S8x128x2048 .bf16) :
    @Eq EReal (k0_pay5 (F := Ideal) x0 x1 x2 x3 (ix2 r x)) (∑ s : Fin 8, @id EReal (x3 (ix3 s r x))) := by
  unfold k0_pay5 k0_pay4
  pointwise
  simp only [Fin.sum_univ_eight, id]

/-- A block of the gradient, from the parts. -/
theorem grad : @Eq EReal (k0_pay5 (F := Ideal) (iblk m c 0 t) (iblk m c 1 t) (iblk m c 2 t) (iblk m c 3 t) (ix2 r x)) (refG (P m c) (ix2 (ri t r) x)) := by
  rw [sum_at, refG_at]
  exact Finset.sum_congr rfl fun s _ => blk3 m c t r x s

theorem pay1_at (g a : FVec Ideal S128x2048 .f32) : @Eq EReal (k0_pay1 (F := Ideal) g a (ix2 r x)) (newM (a (ix2 r x)) (g (ix2 r x))) := rfl
theorem pay2_at (g a : FVec Ideal S128x2048 .f32) : @Eq EReal (k0_pay2 (F := Ideal) g a (ix2 r x)) (newV (a (ix2 r x)) (g (ix2 r x))) := rfl
theorem pay3_at (g w a b : FVec Ideal S128x2048 .f32) :
    @Eq EReal (k0_pay3 (F := Ideal) g w a b (ix2 r x)) (change (w (ix2 r x)) (a (ix2 r x)) (b (ix2 r x)) (g (ix2 r x))) := rfl

/-- The reference's constants are broadcast so. -/
abbrev hb := Cert.AdamUpRefIdeal.Gen.bcast_S_S4096x2048

omit r x

theorem final4 : (dats m 0 c).arrAt 4 cfg0.N = refG (P m c) := by
  refine (dats m 0 c).arrAt_eq_of_covers 4 _ (by decide +kernel) fun t hf y => ?_
  blk_simp
  rw [after0_4]
  obtain ⟨r, x, rfl⟩ : ∃ (r : Fin 128) (x : Fin 2048), y = ix2 r x := ⟨y 0, y 1, eq_ix2 y⟩
  unfold out0_4
  rw [View.canon_unit_zero zero2]
  refine (grad m c t r x).trans ?_
  generalize refG (P m c) = R
  blk_ext [idx t]
  all_goals rfl

theorem final5 : (dats m 0 c).arrAt 5 cfg0.N = refChange hb (W m c) (M m c) (Q m c) (refG (P m c)) := by
  refine (dats m 0 c).arrAt_eq_of_covers 5 _ (by decide +kernel) fun t hf y => ?_
  blk_simp
  rw [after0_5]
  obtain ⟨r, x, rfl⟩ : ∃ (r : Fin 128) (x : Fin 2048), y = ix2 r x := ⟨y 0, y 1, eq_ix2 y⟩
  unfold out0_5
  rw [View.canon_unit_zero zero2, View.ld_unit_zero zero2, View.ld_unit_zero zero2, View.ld_unit_zero zero2]
  refine (pay3_at r x _ _ _ _).trans ?_
  rw [grad, blk0, blk1, blk2]
  refine (refChange_at hb (W m c) (M m c) (Q m c) (refG (P m c)) (ix2 (ri t r) x)).symm.trans ?_
  generalize refChange hb (W m c) (M m c) (Q m c) (refG (P m c)) = R
  blk_ext [idx t]
  all_goals rfl

theorem final6 : (dats m 0 c).arrAt 6 cfg0.N = refM hb (M m c) (refG (P m c)) := by
  refine (dats m 0 c).arrAt_eq_of_covers 6 _ (by decide +kernel) fun t hf y => ?_
  blk_simp
  rw [after0_6]
  obtain ⟨r, x, rfl⟩ : ∃ (r : Fin 128) (x : Fin 2048), y = ix2 r x := ⟨y 0, y 1, eq_ix2 y⟩
  unfold out0_6
  rw [View.canon_unit_zero zero2, View.ld_unit_zero zero2]
  refine (pay1_at r x _ _).trans ?_
  rw [grad, blk1]
  refine (refM_at hb (M m c) (refG (P m c)) (ix2 (ri t r) x)).symm.trans ?_
  generalize refM hb (M m c) (refG (P m c)) = R
  blk_ext [idx t]
  all_goals rfl

theorem final7 : (dats m 0 c).arrAt 7 cfg0.N = refV hb (Q m c) (refG (P m c)) := by
  refine (dats m 0 c).arrAt_eq_of_covers 7 _ (by decide +kernel) fun t hf y => ?_
  blk_simp
  rw [after0_7]
  obtain ⟨r, x, rfl⟩ : ∃ (r : Fin 128) (x : Fin 2048), y = ix2 r x := ⟨y 0, y 1, eq_ix2 y⟩
  unfold out0_7
  rw [View.canon_unit_zero zero2, View.ld_unit_zero zero2]
  refine (pay2_at r x _ _).trans ?_
  rw [grad, blk2]
  refine (refV_at hb (Q m c) (refG (P m c)) (ix2 (ri t r) x)).symm.trans ?_
  generalize refV hb (Q m c) (refG (P m c)) = R
  blk_ext [idx t]
  all_goals rfl

theorem ref_frame : quiescent_AdamUpRefIdeal (hAdamUpRefIdeal := Cert.AdamUpRefIdeal.Gen.facts) := by
  intro m g _
  refine (θ_run _ _ _).mono (fun r h => ⟨fun c => ?_, sem_eq_zero_of_no_sems (by decide) r.2⟩) (Cert.AdamUpRefIdeal.Value.run m g)
  exact (h c).2.2.2.2

theorem algebraic : algebraic_AdamUpIdeal_AdamUpRefIdeal (hAdamUpIdeal := Cert.AdamUpIdeal.Gen.facts) (hAdamUpRefIdeal := Cert.AdamUpRefIdeal.Gen.facts) := by
  intro m g m' g' _ same
  refine ⟨fun c => refG (P m c), fun c => refChange hb (W m c) (M m c) (Q m c) (refG (P m c)), fun c => refM hb (M m c) (refG (P m c)),
    fun c => refV hb (Q m c) (refG (P m c)), ?_, ?_⟩
  · refine (θ_run _ _ _).mono (fun r h c => ?_) (Cert.AdamUpIdeal.Value.run_blocks m g)
    obtain ⟨h4, h5, h6, h7, kept⟩ := h c
    exact ⟨h4.trans (final4 m c), h5.trans (final5 m c), h6.trans (final6 m c), h7.trans (final7 m c), kept⟩
  · refine (θ_run _ _ _).mono (fun r h c => ?_) (Cert.AdamUpRefIdeal.Value.run m' g')
    obtain ⟨h1, h25, h6, h12, kept⟩ := h c
    obtain ⟨e0, e1, e2, e3⟩ := same c
    rw [e3] at h1 h25 h6 h12
    rw [e0, e1, e2] at h25
    rw [e1] at h6
    rw [e2] at h12
    exact ⟨h1, h25, h6, h12, kept⟩

end Cert.AdamUpIdeal.Proof

end
-- ==== Proof.AdamDown.lean ====
module

public import proofs.«01_k».proof.Defs
public import proofs.«01_k».proof.Proof.Adam
public import proofs.«01_k».proof.Proof.Products
public import proofs.«01_k».proof.Proof.Gen.AdamDown.Frame
public import proofs.«01_k».proof.Proof.Gen.AdamDownIdeal.Value
public import proofs.«01_k».proof.Proof.Gen.AdamDownRefIdeal.Run
public import Idealize.ShloMosaic.Lib.Tactic.CleanTypes
public import Idealize.ShloMosaic.Lib.UnfoldOut
public import Idealize.ShloMosaic.Lib.Claim

@[expose] public section

set_option maxRecDepth 16384
set_option maxHeartbeats 4000000

noncomputable section

/-! The optimiser's step on the down projection's weights. -/

namespace Cert.AdamDownIdeal.Proof

open Cert.Adam Cert.Products Cert.AdamDownIdeal Cert.AdamDownIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The weights. -/
abbrev W : FVec Ideal S2048x4096 .f32 := m ((c : Thread nD τ).loc main_arg0)
/-- The mean of the gradients. -/
abbrev M : FVec Ideal S2048x4096 .f32 := m ((c : Thread nD τ).loc main_arg1)
/-- The mean of the squared gradients. -/
abbrev Q : FVec Ideal S2048x4096 .f32 := m ((c : Thread nD τ).loc main_arg2)
/-- The gradient's parts. -/
abbrev P : FVec Ideal S8x2048x4096 .bf16 := m ((c : Thread nD τ).loc main_arg3)

theorem lt_i : t.val < 32 := lt_of_lt_of_eq t.2 (show cfg0.N = 32 by decide)
/-- The block's row `r` in the whole. -/
abbrev ri (r : Fin 64) : Fin 2048 := rowOf 32 64 rfl t.val (lt_i t) r

theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable (r : Fin 64) (x : Fin 4096)

theorem blk0 : @Eq EReal (iblk m c 0 t (ix2 r x)) (W m c (ix2 (ri t r) x)) := by
  blk_ext [iblk, V, idx t, rowOf]
theorem blk1 : @Eq EReal (iblk m c 1 t (ix2 r x)) (M m c (ix2 (ri t r) x)) := by
  blk_ext [iblk, V, idx t, rowOf]
theorem blk2 : @Eq EReal (iblk m c 2 t (ix2 r x)) (Q m c (ix2 (ri t r) x)) := by
  blk_ext [iblk, V, idx t, rowOf]
theorem blk3 (s : Fin 8) : @Eq EReal (iblk m c 3 t (ix3 s r x)) (P m c (ix3 s (ri t r) x)) := by
  blk_ext [iblk, V, idx t, rowOf]

/-- The reference's gradient. -/
def refG (p : FVec Ideal S8x2048x4096 .bf16) : FVec Ideal S2048x4096 .f32 :=
  Host.reduceAdd (extf .f32 p Cert.AdamDownRefIdeal.Gen.bitsLt_bf16_f32) (constant Cert.AdamDownRefIdeal.S_ .f32 0x00000000#32) Cert.AdamDownRefIdeal.Gen.reducesTo_S8x2048x4096_S2048x4096_d0 Cert.AdamDownRefIdeal.Gen.h_S_

theorem refG_at (p : FVec Ideal S8x2048x4096 .bf16) (y : Fin 2048) : @Eq EReal (refG p (ix2 y x)) (∑ s : Fin 8, @id EReal (p (ix3 s y x))) := by
  unfold refG
  pointwise
  rfl

/-- A block of the gradient is the sum of the parts' blocks. -/
theorem sum_at (x0 x1 x2 : FVec Ideal S64x4096 .f32) (x3 : FVec Ideal S8x64x4096 .bf16) :
    @Eq EReal (k0_pay5 (F := Ideal) x0 x1 x2 x3 (ix2 r x)) (∑ s : Fin 8, @id EReal (x3 (ix3 s r x))) := by
  unfold k0_pay5 k0_pay4
  pointwise
  simp only [Fin.sum_univ_eight, id]

/-- A block of the gradient, from the parts. -/
theorem grad : @Eq EReal (k0_pay5 (F := Ideal) (iblk m c 0 t) (iblk m c 1 t) (iblk m c 2 t) (iblk m c 3 t) (ix2 r x)) (refG (P m c) (ix2 (ri t r) x)) := by
  rw [sum_at, refG_at]
  exact Finset.sum_congr rfl fun s _ => blk3 m c t r x s

theorem pay1_at (g a : FVec Ideal S64x4096 .f32) : @Eq EReal (k0_pay1 (F := Ideal) g a (ix2 r x)) (newM (a (ix2 r x)) (g (ix2 r x))) := rfl
theorem pay2_at (g a : FVec Ideal S64x4096 .f32) : @Eq EReal (k0_pay2 (F := Ideal) g a (ix2 r x)) (newV (a (ix2 r x)) (g (ix2 r x))) := rfl
theorem pay3_at (g w a b : FVec Ideal S64x4096 .f32) :
    @Eq EReal (k0_pay3 (F := Ideal) g w a b (ix2 r x)) (change (w (ix2 r x)) (a (ix2 r x)) (b (ix2 r x)) (g (ix2 r x))) := rfl

/-- The reference's constants are broadcast so. -/
abbrev hb := Cert.AdamDownRefIdeal.Gen.bcast_S_S2048x4096

omit r x

theorem final4 : (dats m 0 c).arrAt 4 cfg0.N = refG (P m c) := by
  refine (dats m 0 c).arrAt_eq_of_covers 4 _ (by decide +kernel) fun t hf y => ?_
  blk_simp
  rw [after0_4]
  obtain ⟨r, x, rfl⟩ : ∃ (r : Fin 64) (x : Fin 4096), y = ix2 r x := ⟨y 0, y 1, eq_ix2 y⟩
  unfold out0_4
  rw [View.canon_unit_zero zero2]
  refine (grad m c t r x).trans ?_
  generalize refG (P m c) = R
  blk_ext [idx t]
  all_goals rfl

theorem final5 : (dats m 0 c).arrAt 5 cfg0.N = refChange hb (W m c) (M m c) (Q m c) (refG (P m c)) := by
  refine (dats m 0 c).arrAt_eq_of_covers 5 _ (by decide +kernel) fun t hf y => ?_
  blk_simp
  rw [after0_5]
  obtain ⟨r, x, rfl⟩ : ∃ (r : Fin 64) (x : Fin 4096), y = ix2 r x := ⟨y 0, y 1, eq_ix2 y⟩
  unfold out0_5
  rw [View.canon_unit_zero zero2, View.ld_unit_zero zero2, View.ld_unit_zero zero2, View.ld_unit_zero zero2]
  refine (pay3_at r x _ _ _ _).trans ?_
  rw [grad, blk0, blk1, blk2]
  refine (refChange_at hb (W m c) (M m c) (Q m c) (refG (P m c)) (ix2 (ri t r) x)).symm.trans ?_
  generalize refChange hb (W m c) (M m c) (Q m c) (refG (P m c)) = R
  blk_ext [idx t]
  all_goals rfl

theorem final6 : (dats m 0 c).arrAt 6 cfg0.N = refM hb (M m c) (refG (P m c)) := by
  refine (dats m 0 c).arrAt_eq_of_covers 6 _ (by decide +kernel) fun t hf y => ?_
  blk_simp
  rw [after0_6]
  obtain ⟨r, x, rfl⟩ : ∃ (r : Fin 64) (x : Fin 4096), y = ix2 r x := ⟨y 0, y 1, eq_ix2 y⟩
  unfold out0_6
  rw [View.canon_unit_zero zero2, View.ld_unit_zero zero2]
  refine (pay1_at r x _ _).trans ?_
  rw [grad, blk1]
  refine (refM_at hb (M m c) (refG (P m c)) (ix2 (ri t r) x)).symm.trans ?_
  generalize refM hb (M m c) (refG (P m c)) = R
  blk_ext [idx t]
  all_goals rfl

theorem final7 : (dats m 0 c).arrAt 7 cfg0.N = refV hb (Q m c) (refG (P m c)) := by
  refine (dats m 0 c).arrAt_eq_of_covers 7 _ (by decide +kernel) fun t hf y => ?_
  blk_simp
  rw [after0_7]
  obtain ⟨r, x, rfl⟩ : ∃ (r : Fin 64) (x : Fin 4096), y = ix2 r x := ⟨y 0, y 1, eq_ix2 y⟩
  unfold out0_7
  rw [View.canon_unit_zero zero2, View.ld_unit_zero zero2]
  refine (pay2_at r x _ _).trans ?_
  rw [grad, blk2]
  refine (refV_at hb (Q m c) (refG (P m c)) (ix2 (ri t r) x)).symm.trans ?_
  generalize refV hb (Q m c) (refG (P m c)) = R
  blk_ext [idx t]
  all_goals rfl

theorem ref_frame : quiescent_AdamDownRefIdeal (hAdamDownRefIdeal := Cert.AdamDownRefIdeal.Gen.facts) := by
  intro m g _
  refine (θ_run _ _ _).mono (fun r h => ⟨fun c => ?_, sem_eq_zero_of_no_sems (by decide) r.2⟩) (Cert.AdamDownRefIdeal.Value.run m g)
  exact (h c).2.2.2.2

theorem algebraic : algebraic_AdamDownIdeal_AdamDownRefIdeal (hAdamDownIdeal := Cert.AdamDownIdeal.Gen.facts) (hAdamDownRefIdeal := Cert.AdamDownRefIdeal.Gen.facts) := by
  intro m g m' g' _ same
  refine ⟨fun c => refG (P m c), fun c => refChange hb (W m c) (M m c) (Q m c) (refG (P m c)), fun c => refM hb (M m c) (refG (P m c)),
    fun c => refV hb (Q m c) (refG (P m c)), ?_, ?_⟩
  · refine (θ_run _ _ _).mono (fun r h c => ?_) (Cert.AdamDownIdeal.Value.run_blocks m g)
    obtain ⟨h4, h5, h6, h7, kept⟩ := h c
    exact ⟨h4.trans (final4 m c), h5.trans (final5 m c), h6.trans (final6 m c), h7.trans (final7 m c), kept⟩
  · refine (θ_run _ _ _).mono (fun r h c => ?_) (Cert.AdamDownRefIdeal.Value.run m' g')
    obtain ⟨h1, h25, h6, h12, kept⟩ := h c
    obtain ⟨e0, e1, e2, e3⟩ := same c
    rw [e3] at h1 h25 h6 h12
    rw [e0, e1, e2] at h25
    rw [e1] at h6
    rw [e2] at h12
    exact ⟨h1, h25, h6, h12, kept⟩

end Cert.AdamDownIdeal.Proof

end
-- ==== Proof.AdamIn.lean ====
module

public import proofs.«01_k».proof.Defs
public import proofs.«01_k».proof.Proof.Adam
public import proofs.«01_k».proof.Proof.Products
public import proofs.«01_k».proof.Proof.Gen.AdamIn.Frame
public import proofs.«01_k».proof.Proof.Gen.AdamInIdeal.Value
public import proofs.«01_k».proof.Proof.Gen.AdamInRefIdeal.Run
public import Idealize.ShloMosaic.Lib.Tactic.CleanTypes
public import Idealize.ShloMosaic.Lib.UnfoldOut
public import Idealize.ShloMosaic.Lib.Claim

@[expose] public section

set_option maxRecDepth 16384
set_option maxHeartbeats 4000000

noncomputable section

/-! The optimiser's step on the input projections' weights. -/

namespace Cert.AdamInIdeal.Proof

open Cert.Adam Cert.Products Cert.AdamInIdeal Cert.AdamInIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The weights. -/
abbrev W : FVec Ideal S4096x1120 .f32 := m ((c : Thread nD τ).loc main_arg0)
/-- The mean of the gradients. -/
abbrev M : FVec Ideal S4096x1120 .f32 := m ((c : Thread nD τ).loc main_arg1)
/-- The mean of the squared gradients. -/
abbrev Q : FVec Ideal S4096x1120 .f32 := m ((c : Thread nD τ).loc main_arg2)
/-- The gradient's parts. -/
abbrev P : FVec Ideal S4x4096x1120 .bf16 := m ((c : Thread nD τ).loc main_arg3)

theorem lt_i : t.val < 32 := lt_of_lt_of_eq t.2 (show cfg0.N = 32 by decide)
/-- The block's row `r` in the whole. -/
abbrev ri (r : Fin 128) : Fin 4096 := rowOf 32 128 rfl t.val (lt_i t) r

theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable (r : Fin 128) (x : Fin 1120)

theorem blk0 : @Eq EReal (iblk m c 0 t (ix2 r x)) (W m c (ix2 (ri t r) x)) := by
  blk_ext [iblk, V, idx t, rowOf]
theorem blk1 : @Eq EReal (iblk m c 1 t (ix2 r x)) (M m c (ix2 (ri t r) x)) := by
  blk_ext [iblk, V, idx t, rowOf]
theorem blk2 : @Eq EReal (iblk m c 2 t (ix2 r x)) (Q m c (ix2 (ri t r) x)) := by
  blk_ext [iblk, V, idx t, rowOf]
theorem blk3 (s : Fin 4) : @Eq EReal (iblk m c 3 t (ix3 s r x)) (P m c (ix3 s (ri t r) x)) := by
  blk_ext [iblk, V, idx t, rowOf]

/-- The reference's gradient. -/
def refG (p : FVec Ideal S4x4096x1120 .bf16) : FVec Ideal S4096x1120 .f32 :=
  Host.reduceAdd (extf .f32 p Cert.AdamInRefIdeal.Gen.bitsLt_bf16_f32) (constant Cert.AdamInRefIdeal.S_ .f32 0x00000000#32) Cert.AdamInRefIdeal.Gen.reducesTo_S4x4096x1120_S4096x1120_d0 Cert.AdamInRefIdeal.Gen.h_S_

theorem refG_at (p : FVec Ideal S4x4096x1120 .bf16) (y : Fin 4096) : @Eq EReal (refG p (ix2 y x)) (∑ s : Fin 4, @id EReal (p (ix3 s y x))) := by
  unfold refG
  pointwise
  rfl

/-- The sum of the parts' blocks. -/
def total (p : FVec Ideal S4x128x1120 .bf16) : FVec Ideal S128x1120 .f32 :=
  k0_pay2 (F := Ideal) (View.ld p r0_0) (View.ld p r0_1) (View.ld p r0_2) (View.ld p r0_3)

theorem total_at (p : FVec Ideal S4x128x1120 .bf16) : @Eq EReal (total p (ix2 r x)) (∑ s : Fin 4, @id EReal (p (ix3 s r x))) := by
  unfold total k0_pay2
  pointwise
  simp only [Fin.sum_univ_four, id]

/-- A block of the gradient, from the parts. -/
theorem grad : @Eq EReal (total (iblk m c 3 t) (ix2 r x)) (refG (P m c) (ix2 (ri t r) x)) := by
  rw [total_at, refG_at]
  exact Finset.sum_congr rfl fun s _ => blk3 m c t r x s

theorem pay3_at (p : FVec Ideal S4x128x1120 .bf16) (a : FVec Ideal S128x1120 .f32) :
    @Eq EReal (k0_pay3 (F := Ideal) (View.ld p r0_0) (View.ld p r0_1) (View.ld p r0_2) (View.ld p r0_3) a (ix2 r x)) (newM (a (ix2 r x)) (total p (ix2 r x))) := rfl
theorem pay4_at (p : FVec Ideal S4x128x1120 .bf16) (b : FVec Ideal S128x1120 .f32) :
    @Eq EReal (k0_pay4 (F := Ideal) (View.ld p r0_0) (View.ld p r0_1) (View.ld p r0_2) (View.ld p r0_3) b (ix2 r x)) (newV (b (ix2 r x)) (total p (ix2 r x))) := rfl
theorem pay1_at (p : FVec Ideal S4x128x1120 .bf16) (w a b : FVec Ideal S128x1120 .f32) :
    @Eq EReal (k0_pay1 (F := Ideal) w (k0_pay5 (View.ld p r0_0) (View.ld p r0_1) (View.ld p r0_2) (View.ld p r0_3) a)
        (k0_pay6 (View.ld p r0_0) (View.ld p r0_1) (View.ld p r0_2) (View.ld p r0_3) b) (Scalar.ofBits .f32 0x322BCC77#32) (ix2 r x))
      (change (w (ix2 r x)) (a (ix2 r x)) (b (ix2 r x)) (total p (ix2 r x))) := rfl

/-- The reference's constants are broadcast so. -/
abbrev hb := Cert.AdamInRefIdeal.Gen.bcast_S_S4096x1120

omit r x

theorem final4 : (dats m 0 c).arrAt 4 cfg0.N = refG (P m c) := by
  refine (dats m 0 c).arrAt_eq_of_covers 4 _ (by decide +kernel) fun t hf y => ?_
  blk_simp
  rw [after0_4]
  obtain ⟨r, x, rfl⟩ : ∃ (r : Fin 128) (x : Fin 1120), y = ix2 r x := ⟨y 0, y 1, eq_ix2 y⟩
  unfold out0_4
  rw [View.canon_unit_zero zero2]
  refine (grad m c t r x).trans ?_
  generalize refG (P m c) = R
  blk_ext [idx t]
  all_goals rfl

theorem final5 : (dats m 0 c).arrAt 5 cfg0.N = refChange hb (W m c) (M m c) (Q m c) (refG (P m c)) := by
  refine (dats m 0 c).arrAt_eq_of_covers 5 _ (by decide +kernel) fun t hf y => ?_
  blk_simp
  rw [after0_5]
  obtain ⟨r, x, rfl⟩ : ∃ (r : Fin 128) (x : Fin 1120), y = ix2 r x := ⟨y 0, y 1, eq_ix2 y⟩
  unfold out0_5
  rw [View.canon_unit_zero zero2, View.ld_unit_zero zero2, View.ld_unit_zero zero2, View.ld_unit_zero zero2]
  refine (pay1_at r x _ _ _ _).trans ?_
  rw [grad, blk0, blk1, blk2]
  refine (refChange_at hb (W m c) (M m c) (Q m c) (refG (P m c)) (ix2 (ri t r) x)).symm.trans ?_
  generalize refChange hb (W m c) (M m c) (Q m c) (refG (P m c)) = R
  blk_ext [idx t]
  all_goals rfl

theorem final6 : (dats m 0 c).arrAt 6 cfg0.N = refM hb (M m c) (refG (P m c)) := by
  refine (dats m 0 c).arrAt_eq_of_covers 6 _ (by decide +kernel) fun t hf y => ?_
  blk_simp
  rw [after0_6]
  obtain ⟨r, x, rfl⟩ : ∃ (r : Fin 128) (x : Fin 1120), y = ix2 r x := ⟨y 0, y 1, eq_ix2 y⟩
  unfold out0_6
  rw [View.canon_unit_zero zero2, View.ld_unit_zero zero2]
  refine (pay3_at r x _ _).trans ?_
  rw [grad, blk1]
  refine (refM_at hb (M m c) (refG (P m c)) (ix2 (ri t r) x)).symm.trans ?_
  generalize refM hb (M m c) (refG (P m c)) = R
  blk_ext [idx t]
  all_goals rfl

theorem final7 : (dats m 0 c).arrAt 7 cfg0.N = refV hb (Q m c) (refG (P m c)) := by
  refine (dats m 0 c).arrAt_eq_of_covers 7 _ (by decide +kernel) fun t hf y => ?_
  blk_simp
  rw [after0_7]
  obtain ⟨r, x, rfl⟩ : ∃ (r : Fin 128) (x : Fin 1120), y = ix2 r x := ⟨y 0, y 1, eq_ix2 y⟩
  unfold out0_7
  rw [View.canon_unit_zero zero2, View.ld_unit_zero zero2]
  refine (pay4_at r x _ _).trans ?_
  rw [grad, blk2]
  refine (refV_at hb (Q m c) (refG (P m c)) (ix2 (ri t r) x)).symm.trans ?_
  generalize refV hb (Q m c) (refG (P m c)) = R
  blk_ext [idx t]
  all_goals rfl

theorem ref_frame : quiescent_AdamInRefIdeal (hAdamInRefIdeal := Cert.AdamInRefIdeal.Gen.facts) := by
  intro m g _
  refine (θ_run _ _ _).mono (fun r h => ⟨fun c => ?_, sem_eq_zero_of_no_sems (by decide) r.2⟩) (Cert.AdamInRefIdeal.Value.run m g)
  exact (h c).2.2.2.2

theorem algebraic : algebraic_AdamInIdeal_AdamInRefIdeal (hAdamInIdeal := Cert.AdamInIdeal.Gen.facts) (hAdamInRefIdeal := Cert.AdamInRefIdeal.Gen.facts) := by
  intro m g m' g' _ same
  refine ⟨fun c => refG (P m c), fun c => refChange hb (W m c) (M m c) (Q m c) (refG (P m c)), fun c => refM hb (M m c) (refG (P m c)),
    fun c => refV hb (Q m c) (refG (P m c)), ?_, ?_⟩
  · refine (θ_run _ _ _).mono (fun r h c => ?_) (Cert.AdamInIdeal.Value.run_blocks m g)
    obtain ⟨h4, h5, h6, h7, kept⟩ := h c
    exact ⟨h4.trans (final4 m c), h5.trans (final5 m c), h6.trans (final6 m c), h7.trans (final7 m c), kept⟩
  · refine (θ_run _ _ _).mono (fun r h c => ?_) (Cert.AdamInRefIdeal.Value.run m' g')
    obtain ⟨h1, h25, h6, h12, kept⟩ := h c
    obtain ⟨e0, e1, e2, e3⟩ := same c
    rw [e3] at h1 h25 h6 h12
    rw [e0, e1, e2] at h25
    rw [e1] at h6
    rw [e2] at h12
    exact ⟨h1, h25, h6, h12, kept⟩

end Cert.AdamInIdeal.Proof

end
-- ==== Proof.AdamMod.lean ====
module

public import proofs.«01_k».proof.Defs
public import proofs.«01_k».proof.Proof.Adam
public import proofs.«01_k».proof.Proof.Products
public import proofs.«01_k».proof.Proof.Gen.AdamMod.Frame
public import proofs.«01_k».proof.Proof.Gen.AdamModIdeal.Value
public import proofs.«01_k».proof.Proof.Gen.AdamModRefIdeal.Run
public import Idealize.ShloMosaic.Lib.Tactic.CleanTypes
public import Idealize.ShloMosaic.Lib.UnfoldOut
public import Idealize.ShloMosaic.Lib.Claim

@[expose] public section

set_option maxRecDepth 16384
set_option maxHeartbeats 4000000

noncomputable section

/-! The optimiser's step on the modulation's weights, with their gradient. -/

namespace Cert.AdamModIdeal.Proof

open Cert.Adam Cert.Products Cert.AdamModIdeal Cert.AdamModIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The weights. -/
abbrev W : FVec Ideal S4096x3072 .f32 := m ((c : Thread nD τ).loc main_arg0)
/-- The mean of the gradients. -/
abbrev M : FVec Ideal S4096x3072 .f32 := m ((c : Thread nD τ).loc main_arg1)
/-- The mean of the squared gradients. -/
abbrev Q : FVec Ideal S4096x3072 .f32 := m ((c : Thread nD τ).loc main_arg2)
/-- The conditions, one column for each sequence. -/
abbrev C : FVec Ideal S4096x8 .f32 := m ((c : Thread nD τ).loc main_arg3)
/-- The modulation's cotangents, one row for each sequence. -/
abbrev D : FVec Ideal S8x3072 .f32 := m ((c : Thread nD τ).loc main_arg4)

theorem lt_t : t.val < 24 := lt_of_lt_of_eq t.2 (show cfg0.N = 24 by decide)
theorem lt_i : t.val / 3 < 8 := by have := lt_t t; omega
theorem lt_j : t.val % 3 < 3 := Nat.mod_lt _ (by decide)
/-- The tile's row `r` in the whole. -/
abbrev ri (r : Fin 512) : Fin 4096 := rowOf 8 512 rfl (t.val / 3) (lt_i t) r
/-- The tile's column `x` in the whole. -/
abbrev cj (x : Fin 1024) : Fin 3072 := rowOf 3 1024 rfl (t.val % 3) (lt_j t) x

theorem idx : ∀ t : Fin cfg0.N, win0_0.index t = ![t.val / 3, t.val % 3] ∧ win0_1.index t = ![t.val / 3, t.val % 3] ∧ win0_2.index t = ![t.val / 3, t.val % 3]
    ∧ win0_3.index t = ![t.val / 3, 0] ∧ win0_4.index t = ![0, t.val % 3] ∧ win0_5.index t = ![t.val / 3, t.val % 3] ∧ win0_6.index t = ![t.val / 3, t.val % 3]
    ∧ win0_7.index t = ![t.val / 3, t.val % 3] ∧ win0_8.index t = ![t.val / 3, t.val % 3] :=
  (by decide +kernel : ∀ t : Fin grid0.N, _)

variable (r : Fin 512) (x : Fin 1024)

theorem blk0 : @Eq EReal (iblk m c 0 t (ix2 r x)) (W m c (ix2 (ri t r) (cj t x))) := by
  blk_ext [iblk, V, idx t, rowOf]
theorem blk1 : @Eq EReal (iblk m c 1 t (ix2 r x)) (M m c (ix2 (ri t r) (cj t x))) := by
  blk_ext [iblk, V, idx t, rowOf]
theorem blk2 : @Eq EReal (iblk m c 2 t (ix2 r x)) (Q m c (ix2 (ri t r) (cj t x))) := by
  blk_ext [iblk, V, idx t, rowOf]
theorem blk3 (s : Fin 8) : @Eq EReal (iblk m c 3 t (ix2 r s)) (C m c (ix2 (ri t r) s)) := by
  blk_ext [iblk, V, idx t, rowOf]
theorem blk4 (s : Fin 8) : @Eq EReal (iblk m c 4 t (ix2 s x)) (D m c (ix2 s (cj t x))) := by
  blk_ext [iblk, V, idx t, rowOf]

/-- The reference's gradient. -/
def refG (a : FVec Ideal S4096x8 .f32) (d : FVec Ideal S8x3072 .f32) : FVec Ideal S4096x3072 .f32 :=
  transpose S4096x3072 [1, 0] (Host.dotGeneral Cert.AdamModRefIdeal.dot_S8x3072_S8x4096_S3072x4096_0_0_1_1_n_n none d
    (transpose Cert.AdamModRefIdeal.S8x4096 [1, 0] a Cert.AdamModRefIdeal.Gen.transposes_S4096x8_S8x4096_1_0)) Cert.AdamModRefIdeal.Gen.transposes_S3072x4096_S4096x3072_1_0

theorem refG_at (a : FVec Ideal S4096x8 .f32) (d : FVec Ideal S8x3072 .f32) (y : Fin 4096) (z : Fin 3072) :
    @Eq EReal (refG a d (ix2 y z)) (∑ s : Fin 8, @HMul.hMul EReal EReal EReal instHMul (a (ix2 y s)) (d (ix2 s z))) := by
  unfold refG
  pointwise
  exact Finset.sum_congr rfl fun s _ => mul_comm _ _

theorem pay1_at (a : FVec Ideal S512x8 .f32) (d : FVec Ideal S8x1024 .f32) :
    @Eq EReal (k0_pay1 (F := Ideal) a d (ix2 r x)) (∑ s : Fin 8, @HMul.hMul EReal EReal EReal instHMul (a (ix2 r s)) (d (ix2 s x))) := by
  unfold k0_pay1
  pointwise

/-- A tile of the gradient, from the conditions and the cotangents. -/
theorem grad : @Eq EReal (k0_pay1 (F := Ideal) (iblk m c 3 t) (iblk m c 4 t) (ix2 r x)) (refG (C m c) (D m c) (ix2 (ri t r) (cj t x))) := by
  rw [pay1_at, refG_at]
  exact Finset.sum_congr rfl fun s _ => by rw [blk3, blk4]

theorem pay2_at (a : FVec Ideal S512x8 .f32) (d : FVec Ideal S8x1024 .f32) (n : FVec Ideal S512x1024 .f32) :
    @Eq EReal (k0_pay2 (F := Ideal) a d n (ix2 r x)) (newM (n (ix2 r x)) (k0_pay1 (F := Ideal) a d (ix2 r x))) := rfl
theorem pay3_at (a : FVec Ideal S512x8 .f32) (d : FVec Ideal S8x1024 .f32) (v : FVec Ideal S512x1024 .f32) :
    @Eq EReal (k0_pay3 (F := Ideal) a d v (ix2 r x)) (newV (v (ix2 r x)) (k0_pay1 (F := Ideal) a d (ix2 r x))) := rfl
theorem pay4_at (a : FVec Ideal S512x8 .f32) (d : FVec Ideal S8x1024 .f32) (w n v : FVec Ideal S512x1024 .f32) :
    @Eq EReal (k0_pay4 (F := Ideal) a d w n v (ix2 r x)) (change (w (ix2 r x)) (n (ix2 r x)) (v (ix2 r x)) (k0_pay1 (F := Ideal) a d (ix2 r x))) := rfl

/-- The reference's constants are broadcast so. -/
abbrev hb := Cert.AdamModRefIdeal.Gen.bcast_S_S4096x3072

omit r x

theorem final5 : (dats m 0 c).arrAt 5 cfg0.N = refG (C m c) (D m c) := by
  refine (dats m 0 c).arrAt_eq_of_covers 5 _ (by decide +kernel) fun t hf y => ?_
  blk_simp
  rw [after0_5]
  obtain ⟨r, x, rfl⟩ : ∃ (r : Fin 512) (x : Fin 1024), y = ix2 r x := ⟨y 0, y 1, eq_ix2 y⟩
  unfold out0_5
  rw [View.canon_unit_zero zero2, View.ld_unit_zero zero2, View.ld_unit_zero zero2]
  refine (grad m c t r x).trans ?_
  generalize refG (C m c) (D m c) = R
  blk_ext [idx t]
  all_goals rfl

theorem final6 : (dats m 0 c).arrAt 6 cfg0.N = refChange hb (W m c) (M m c) (Q m c) (refG (C m c) (D m c)) := by
  refine (dats m 0 c).arrAt_eq_of_covers 6 _ (by decide +kernel) fun t hf y => ?_
  blk_simp
  rw [after0_6]
  obtain ⟨r, x, rfl⟩ : ∃ (r : Fin 512) (x : Fin 1024), y = ix2 r x := ⟨y 0, y 1, eq_ix2 y⟩
  unfold out0_6
  rw [View.canon_unit_zero zero2, View.ld_unit_zero zero2, View.ld_unit_zero zero2, View.ld_unit_zero zero2, View.ld_unit_zero zero2, View.ld_unit_zero zero2]
  refine (pay4_at r x _ _ _ _ _).trans ?_
  rw [grad, blk0, blk1, blk2]
  refine (refChange_at hb (W m c) (M m c) (Q m c) (refG (C m c) (D m c)) (ix2 (ri t r) (cj t x))).symm.trans ?_
  generalize refChange hb (W m c) (M m c) (Q m c) (refG (C m c) (D m c)) = R
  blk_ext [idx t]
  all_goals rfl

theorem final7 : (dats m 0 c).arrAt 7 cfg0.N = refM hb (M m c) (refG (C m c) (D m c)) := by
  refine (dats m 0 c).arrAt_eq_of_covers 7 _ (by decide +kernel) fun t hf y => ?_
  blk_simp
  rw [after0_7]
  obtain ⟨r, x, rfl⟩ : ∃ (r : Fin 512) (x : Fin 1024), y = ix2 r x := ⟨y 0, y 1, eq_ix2 y⟩
  unfold out0_7
  rw [View.canon_unit_zero zero2, View.ld_unit_zero zero2, View.ld_unit_zero zero2, View.ld_unit_zero zero2]
  refine (pay2_at r x _ _ _).trans ?_
  rw [grad, blk1]
  refine (refM_at hb (M m c) (refG (C m c) (D m c)) (ix2 (ri t r) (cj t x))).symm.trans ?_
  generalize refM hb (M m c) (refG (C m c) (D m c)) = R
  blk_ext [idx t]
  all_goals rfl

theorem final8 : (dats m 0 c).arrAt 8 cfg0.N = refV hb (Q m c) (refG (C m c) (D m c)) := by
  refine (dats m 0 c).arrAt_eq_of_covers 8 _ (by decide +kernel) fun t hf y => ?_
  blk_simp
  rw [after0_8]
  obtain ⟨r, x, rfl⟩ : ∃ (r : Fin 512) (x : Fin 1024), y = ix2 r x := ⟨y 0, y 1, eq_ix2 y⟩
  unfold out0_8
  rw [View.canon_unit_zero zero2, View.ld_unit_zero zero2, View.ld_unit_zero zero2, View.ld_unit_zero zero2]
  refine (pay3_at r x _ _ _).trans ?_
  rw [grad, blk2]
  refine (refV_at hb (Q m c) (refG (C m c) (D m c)) (ix2 (ri t r) (cj t x))).symm.trans ?_
  generalize refV hb (Q m c) (refG (C m c) (D m c)) = R
  blk_ext [idx t]
  all_goals rfl

theorem ref_frame : quiescent_AdamModRefIdeal (hAdamModRefIdeal := Cert.AdamModRefIdeal.Gen.facts) := by
  intro m g _
  refine (θ_run _ _ _).mono (fun r h => ⟨fun c => ?_, sem_eq_zero_of_no_sems (by decide) r.2⟩) (Cert.AdamModRefIdeal.Value.run m g)
  exact (h c).2.2.2.2

theorem algebraic : algebraic_AdamModIdeal_AdamModRefIdeal (hAdamModIdeal := Cert.AdamModIdeal.Gen.facts) (hAdamModRefIdeal := Cert.AdamModRefIdeal.Gen.facts) := by
  intro m g m' g' _ same
  refine ⟨fun c => refG (C m c) (D m c), fun c => refChange hb (W m c) (M m c) (Q m c) (refG (C m c) (D m c)), fun c => refM hb (M m c) (refG (C m c) (D m c)),
    fun c => refV hb (Q m c) (refG (C m c) (D m c)), ?_, ?_⟩
  · refine (θ_run _ _ _).mono (fun r h c => ?_) (Cert.AdamModIdeal.Value.run_blocks m g)
    obtain ⟨h5, h6, h7, h8, kept⟩ := h c
    exact ⟨h5.trans (final5 m c), h6.trans (final6 m c), h7.trans (final7 m c), h8.trans (final8 m c), kept⟩
  · refine (θ_run _ _ _).mono (fun r h c => ?_) (Cert.AdamModRefIdeal.Value.run m' g')
    obtain ⟨h5, h6, h7, h8, kept⟩ := h c
    obtain ⟨e0, e1, e2, e3, e4⟩ := same c
    rw [e3, e4] at h5 h6 h7 h8
    rw [e0, e1, e2] at h6
    rw [e1] at h7
    rw [e2] at h8
    exact ⟨h5, h6, h7, h8, kept⟩

end Cert.AdamModIdeal.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Final
public import proofs.«01_k».proof.Proof.Gen.Attention.Frame
public import proofs.«01_k».proof.Proof.Gen.AttentionIdeal.Value
public import proofs.«01_k».proof.Proof.Gen.AttentionRefIdeal.Run
public import proofs.«01_k».proof.Proof.AttnFinal
public import proofs.«01_k».proof.Proof.DownDgrad
public import proofs.«01_k».proof.Proof.DownWgrad
public import proofs.«01_k».proof.Proof.UpDgrad
public import proofs.«01_k».proof.Proof.UpWgrad
public import proofs.«01_k».proof.Proof.OutDgrad
public import proofs.«01_k».proof.Proof.OutWgrad
public import proofs.«01_k».proof.Proof.InWgrad
public import proofs.«01_k».proof.Proof.InDgrad
public import proofs.«01_k».proof.Proof.Up
public import proofs.«01_k».proof.Proof.Down
public import proofs.«01_k».proof.Proof.Out
public import proofs.«01_k».proof.Proof.InRkv
public import proofs.«01_k».proof.Proof.InLora
public import proofs.«01_k».proof.Proof.InQ
public import proofs.«01_k».proof.Proof.InKv
public import proofs.«01_k».proof.Proof.Embed
public import proofs.«01_k».proof.Proof.Post
public import proofs.«01_k».proof.Proof.AdamOut
public import proofs.«01_k».proof.Proof.AdamUp
public import proofs.«01_k».proof.Proof.AdamDown
public import proofs.«01_k».proof.Proof.AdamIn
public import proofs.«01_k».proof.Proof.AdamMod
public import proofs.«01_k».proof.Proof.Gen.Embed.Frame
public import proofs.«01_k».proof.Proof.Gen.EmbedIdeal.Value
public import proofs.«01_k».proof.Proof.Gen.EmbedRefIdeal.Run
public import proofs.«01_k».proof.Proof.Gen.Post.Frame
public import proofs.«01_k».proof.Proof.Gen.PostIdeal.Value
public import proofs.«01_k».proof.Proof.Gen.PostRefIdeal.Run
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamUp.Frame
public import proofs.«01_k».proof.Proof.Gen.AdamUpIdeal.Value
public import proofs.«01_k».proof.Proof.Gen.AdamUpRefIdeal.Run
public import proofs.«01_k».proof.Proof.Gen.AdamDown.Frame
public import proofs.«01_k».proof.Proof.Gen.AdamDownIdeal.Value
public import proofs.«01_k».proof.Proof.Gen.AdamDownRefIdeal.Run
public import proofs.«01_k».proof.Proof.Gen.AdamIn.Frame
public import proofs.«01_k».proof.Proof.Gen.AdamMod.Frame
public import proofs.«01_k».proof.Proof.Gen.AdamInIdeal.Value
public import proofs.«01_k».proof.Proof.Gen.AdamModIdeal.Value
public import proofs.«01_k».proof.Proof.Gen.AdamInRefIdeal.Run
public import proofs.«01_k».proof.Proof.Gen.AdamModRefIdeal.Run
public import Idealize.ShloMosaic.Lib.Claim
public import Idealize.ShloMosaic.Adequacy
public import Idealize.ShloMosaic.Init

@[expose] public section

noncomputable section

namespace Cert.Proof

open Idealize.ShloMosaic Idealize.SL.Sem Cert.Kernel

set_option maxRecDepth 16384

/-- The reference's frame. -/
theorem reference_frame : quiescent_ReferenceIdeal (hReferenceIdeal := Cert.ReferenceIdeal.Gen.facts) := by
  intro m g _
  refine (θ_run _ _ _).mono (fun r h => ⟨fun c => ?_, sem_eq_zero_of_no_sems (by decide) r.2⟩) (Cert.ReferenceIdeal.Value.run m g)
  exact (h c).2.2.2.2.2.2.2

/-- The mask's constant stands for minus infinity. -/
theorem preserves : preserves_Kernel_KernelIdeal :=
  IdealRules.named_const.statement Cert.KernelIdeal.κ "mask" .f32 0xF149F2CA#32 ⊥ rfl

/-- Arguments that agree are the same arguments. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (c : Dev Cert.KernelIdeal.nD) :
    Cert.KernelIdeal.Attn.Same m c (StableHlo.launchContents m' c) :=
  ⟨(h c).1, (h c).2.1, (h c).2.2.1, (h c).2.2.2.1, (h c).2.2.2.2.1, (h c).2.2.2.2.2⟩

/-- The kernel's results are the reference's. -/
theorem algebraic : algebraic_KernelIdeal_ReferenceIdeal (hKernelIdeal := Cert.KernelIdeal.Gen.facts) (hReferenceIdeal := Cert.ReferenceIdeal.Gen.facts) := by
  pair_intro
  · run_from Cert.KernelIdeal.Value.run_blocks m g
  · run_from Cert.ReferenceIdeal.Value.run m' g'
    · exact (Cert.KernelIdeal.Attn.final8 (same m m' hagree c)).symm
    · exact (Cert.KernelIdeal.Attn.final9 (same m m' hagree c)).symm
    · exact (Cert.KernelIdeal.Attn.final10 (same m m' hagree c)).symm
    · exact (Cert.KernelIdeal.Attn.final11 (same m m' hagree c)).symm
    · exact (Cert.KernelIdeal.Attn.final12 (same m m' hagree c)).symm
    · exact (Cert.KernelIdeal.Attn.final13 (same m m' hagree c)).symm
    · exact (Cert.KernelIdeal.Attn.final14 (same m m' hagree c)).symm

theorem claim : Cert.Claim := ⟨Cert.Kernel.Gen.facts, Cert.KernelIdeal.Gen.facts, Cert.ReferenceIdeal.Gen.facts,
  Cert.Attention.Gen.facts, Cert.AttentionIdeal.Gen.facts, Cert.AttentionRefIdeal.Gen.facts,
  Cert.DownDgrad.Gen.facts, Cert.DownDgradIdeal.Gen.facts, Cert.DownDgradRefIdeal.Gen.facts,
  Cert.DownWgrad.Gen.facts, Cert.DownWgradIdeal.Gen.facts, Cert.DownWgradRefIdeal.Gen.facts,
  Cert.UpDgrad.Gen.facts, Cert.UpDgradIdeal.Gen.facts, Cert.UpDgradRefIdeal.Gen.facts,
  Cert.UpWgrad.Gen.facts, Cert.UpWgradIdeal.Gen.facts, Cert.UpWgradRefIdeal.Gen.facts,
  Cert.OutDgrad.Gen.facts, Cert.OutDgradIdeal.Gen.facts, Cert.OutDgradRefIdeal.Gen.facts,
  Cert.OutWgrad.Gen.facts, Cert.OutWgradIdeal.Gen.facts, Cert.OutWgradRefIdeal.Gen.facts,
  Cert.InWgrad.Gen.facts, Cert.InWgradIdeal.Gen.facts, Cert.InWgradRefIdeal.Gen.facts,
  Cert.InDgrad.Gen.facts, Cert.InDgradIdeal.Gen.facts, Cert.InDgradRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Out.Gen.facts, Cert.OutIdeal.Gen.facts, Cert.OutRefIdeal.Gen.facts,
  Cert.InRkv.Gen.facts, Cert.InRkvIdeal.Gen.facts, Cert.InRkvRefIdeal.Gen.facts,
  Cert.InLora.Gen.facts, Cert.InLoraIdeal.Gen.facts, Cert.InLoraRefIdeal.Gen.facts,
  Cert.InQ.Gen.facts, Cert.InQIdeal.Gen.facts, Cert.InQRefIdeal.Gen.facts,
  Cert.InKv.Gen.facts, Cert.InKvIdeal.Gen.facts, Cert.InKvRefIdeal.Gen.facts,
  Cert.Embed.Gen.facts, Cert.EmbedIdeal.Gen.facts, Cert.EmbedRefIdeal.Gen.facts,
  Cert.Post.Gen.facts, Cert.PostIdeal.Gen.facts, Cert.PostRefIdeal.Gen.facts,
  Cert.AdamOut.Gen.facts, Cert.AdamOutIdeal.Gen.facts, Cert.AdamOutRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.AdamIn.Gen.facts, Cert.AdamInIdeal.Gen.facts, Cert.AdamInRefIdeal.Gen.facts,
  Cert.AdamMod.Gen.facts, Cert.AdamModIdeal.Gen.facts, Cert.AdamModRefIdeal.Gen.facts,
  fun m g _ => Cert.Kernel.Gen.frame m g, fun m g _ => Cert.KernelIdeal.Gen.frame m g, reference_frame,
  fun m g _ => Cert.Attention.Gen.frame m g, fun m g _ => Cert.AttentionIdeal.Gen.frame m g, Cert.AttentionIdeal.Proof.ref_frame,
  fun m g _ => Cert.DownDgrad.Gen.frame m g, fun m g _ => Cert.DownDgradIdeal.Gen.frame m g, Cert.DownDgradIdeal.Proof.ref_frame,
  fun m g _ => Cert.DownWgrad.Gen.frame m g, fun m g _ => Cert.DownWgradIdeal.Gen.frame m g, Cert.DownWgradIdeal.Proof.ref_frame,
  fun m g _ => Cert.UpDgrad.Gen.frame m g, fun m g _ => Cert.UpDgradIdeal.Gen.frame m g, Cert.UpDgradIdeal.Proof.ref_frame,
  fun m g _ => Cert.UpWgrad.Gen.frame m g, fun m g _ => Cert.UpWgradIdeal.Gen.frame m g, Cert.UpWgradIdeal.Proof.ref_frame,
  fun m g _ => Cert.OutDgrad.Gen.frame m g, fun m g _ => Cert.OutDgradIdeal.Gen.frame m g, Cert.OutDgradIdeal.Proof.ref_frame,
  fun m g _ => Cert.OutWgrad.Gen.frame m g, fun m g _ => Cert.OutWgradIdeal.Gen.frame m g, Cert.OutWgradIdeal.Proof.ref_frame,
  fun m g _ => Cert.InWgrad.Gen.frame m g, fun m g _ => Cert.InWgradIdeal.Gen.frame m g, Cert.InWgradIdeal.Proof.ref_frame,
  fun m g _ => Cert.InDgrad.Gen.frame m g, fun m g _ => Cert.InDgradIdeal.Gen.frame m g, Cert.InDgradIdeal.Proof.ref_frame,
  fun m g _ => Cert.Up.Gen.frame m g, fun m g _ => Cert.UpIdeal.Gen.frame m g, Cert.UpIdeal.Proof.ref_frame,
  fun m g _ => Cert.Down.Gen.frame m g, fun m g _ => Cert.DownIdeal.Gen.frame m g, Cert.DownIdeal.Proof.ref_frame,
  fun m g _ => Cert.Out.Gen.frame m g, fun m g _ => Cert.OutIdeal.Gen.frame m g, Cert.OutIdeal.Proof.ref_frame,
  fun m g _ => Cert.InRkv.Gen.frame m g, fun m g _ => Cert.InRkvIdeal.Gen.frame m g, Cert.InRkvIdeal.Proof.ref_frame,
  fun m g _ => Cert.InLora.Gen.frame m g, fun m g _ => Cert.InLoraIdeal.Gen.frame m g, Cert.InLoraIdeal.Proof.ref_frame,
  fun m g _ => Cert.InQ.Gen.frame m g, fun m g _ => Cert.InQIdeal.Gen.frame m g, Cert.InQIdeal.Proof.ref_frame,
  fun m g _ => Cert.InKv.Gen.frame m g, fun m g _ => Cert.InKvIdeal.Gen.frame m g, Cert.InKvIdeal.Proof.ref_frame,
  fun m g _ => Cert.Embed.Gen.frame m g, fun m g _ => Cert.EmbedIdeal.Gen.frame m g, Cert.EmbedIdeal.Proof.ref_frame,
  fun m g _ => Cert.Post.Gen.frame m g, fun m g _ => Cert.PostIdeal.Gen.frame m g, Cert.PostIdeal.Proof.ref_frame,
  fun m g _ => Cert.AdamOut.Gen.frame m g, fun m g _ => Cert.AdamOutIdeal.Gen.frame m g, Cert.AdamOutIdeal.Proof.ref_frame,
  fun m g _ => Cert.AdamUp.Gen.frame m g, fun m g _ => Cert.AdamUpIdeal.Gen.frame m g, Cert.AdamUpIdeal.Proof.ref_frame,
  fun m g _ => Cert.AdamDown.Gen.frame m g, fun m g _ => Cert.AdamDownIdeal.Gen.frame m g, Cert.AdamDownIdeal.Proof.ref_frame,
  fun m g _ => Cert.AdamIn.Gen.frame m g, fun m g _ => Cert.AdamInIdeal.Gen.frame m g, Cert.AdamInIdeal.Proof.ref_frame,
  fun m g _ => Cert.AdamMod.Gen.frame m g, fun m g _ => Cert.AdamModIdeal.Gen.frame m g, Cert.AdamModIdeal.Proof.ref_frame,
  preserves, algebraic,
  Cert.AttentionIdeal.Proof.preserves, Cert.AttentionIdeal.Proof.algebraic,
  trivial, Cert.DownDgradIdeal.Proof.algebraic,
  trivial, Cert.DownWgradIdeal.Proof.algebraic,
  trivial, Cert.UpDgradIdeal.Proof.algebraic,
  trivial, Cert.UpWgradIdeal.Proof.algebraic,
  trivial, Cert.OutDgradIdeal.Proof.algebraic,
  trivial, Cert.OutWgradIdeal.Proof.algebraic,
  trivial, Cert.InWgradIdeal.Proof.algebraic,
  trivial, Cert.InDgradIdeal.Proof.algebraic,
  trivial, Cert.UpIdeal.Proof.algebraic,
  trivial, Cert.DownIdeal.Proof.algebraic,
  trivial, Cert.OutIdeal.Proof.algebraic,
  trivial, Cert.InRkvIdeal.Proof.algebraic,
  trivial, Cert.InLoraIdeal.Proof.algebraic,
  trivial, Cert.InQIdeal.Proof.algebraic,
  trivial, Cert.InKvIdeal.Proof.algebraic,
  trivial, Cert.EmbedIdeal.Proof.algebraic,
  trivial, Cert.PostIdeal.Proof.algebraic,
  trivial, Cert.AdamOutIdeal.Proof.algebraic,
  trivial, Cert.AdamUpIdeal.Proof.algebraic,
  trivial, Cert.AdamDownIdeal.Proof.algebraic,
  trivial, Cert.AdamInIdeal.Proof.algebraic,
  trivial, Cert.AdamModIdeal.Proof.algebraic⟩

end Cert.Proof

end
